-- ==== Defs.lean ====
def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_args [hPre_finite_args : Cert.Pre_finite_args.Facts] (m : (ℓ : Loc Cert.AttnIdeal.nD Cert.AttnIdeal.τ Cert.AttnIdeal.sig) → Buf (Elt Ideal) ℓ) : Prop :=
  ∀ c : Dev Cert.AttnIdeal.nD,
    (Cert.Pre_finite_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_args [hPre_finite_args : Cert.Pre_finite_args.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Eb (m : (ℓ : Loc Cert.Eb.nD Cert.Eb.τ Cert.Eb.sig) → Buf (Elt Bits) ℓ) : Prop :=
  True

def Pre_EbIdeal (m : (ℓ : Loc Cert.EbIdeal.nD Cert.EbIdeal.τ Cert.EbIdeal.sig) → Buf (Elt Ideal) ℓ) : Prop :=
  True

def Pre_EbRefIdeal (m : (ℓ : Loc Cert.EbRefIdeal.nD Cert.EbRefIdeal.τ Cert.EbRefIdeal.sig) → Buf (Elt Ideal) ℓ) : Prop :=
  True

def Pre_EvDy (m : (ℓ : Loc Cert.EvDy.nD Cert.EvDy.τ Cert.EvDy.sig) → Buf (Elt Bits) ℓ) : Prop :=
  True

def Pre_EvDyIdeal (m : (ℓ : Loc Cert.EvDyIdeal.nD Cert.EvDyIdeal.τ Cert.EvDyIdeal.sig) → Buf (Elt Ideal) ℓ) : Prop :=
  True

def Pre_EvDyRefIdeal (m : (ℓ : Loc Cert.EvDyRefIdeal.nD Cert.EvDyRefIdeal.τ Cert.EvDyRefIdeal.sig) → Buf (Elt Ideal) ℓ) : Prop :=
  True

def Pre_EvGout (m : (ℓ : Loc Cert.EvGout.nD Cert.EvGout.τ Cert.EvGout.sig) → Buf (Elt Bits) ℓ) : Prop :=
  True

def Pre_EvGoutIdeal (m : (ℓ : Loc Cert.EvGoutIdeal.nD Cert.EvGoutIdeal.τ Cert.EvGoutIdeal.sig) → Buf (Elt Ideal) ℓ) : Prop :=
  True

def Pre_EvGoutRefIdeal (m : (ℓ : Loc Cert.EvGoutRefIdeal.nD Cert.EvGoutRefIdeal.τ Cert.EvGoutRefIdeal.sig) → Buf (Elt Ideal) ℓ) : Prop :=
  True

def Pre_EvGin (m : (ℓ : Loc Cert.EvGin.nD Cert.EvGin.τ Cert.EvGin.sig) → Buf (Elt Bits) ℓ) : Prop :=
  True

def Pre_EvGinIdeal (m : (ℓ : Loc Cert.EvGinIdeal.nD Cert.EvGinIdeal.τ Cert.EvGinIdeal.sig) → Buf (Elt Ideal) ℓ) : Prop :=
  True

def Pre_EvGinRefIdeal (m : (ℓ : Loc Cert.EvGinRefIdeal.nD Cert.EvGinRefIdeal.τ Cert.EvGinRefIdeal.sig) → Buf (Elt Ideal) ℓ) : Prop :=
  True

def Pre_EvNorm (m : (ℓ : Loc Cert.EvNorm.nD Cert.EvNorm.τ Cert.EvNorm.sig) → Buf (Elt Bits) ℓ) : Prop :=
  True

def Pre_EvNormIdeal (m : (ℓ : Loc Cert.EvNormIdeal.nD Cert.EvNormIdeal.τ Cert.EvNormIdeal.sig) → Buf (Elt Ideal) ℓ) : Prop :=
  True

def Pre_EvNormRefIdeal (m : (ℓ : Loc Cert.EvNormRefIdeal.nD Cert.EvNormRefIdeal.τ Cert.EvNormRefIdeal.sig) → Buf (Elt Ideal) ℓ) : Prop :=
  True

def Pre_OdGin (m : (ℓ : Loc Cert.OdGin.nD Cert.OdGin.τ Cert.OdGin.sig) → Buf (Elt Bits) ℓ) : Prop :=
  True

def Pre_OdGinIdeal (m : (ℓ : Loc Cert.OdGinIdeal.nD Cert.OdGinIdeal.τ Cert.OdGinIdeal.sig) → Buf (Elt Ideal) ℓ) : Prop :=
  True

def Pre_OdGinRefIdeal (m : (ℓ : Loc Cert.OdGinRefIdeal.nD Cert.OdGinRefIdeal.τ Cert.OdGinRefIdeal.sig) → Buf (Elt Ideal) ℓ) : Prop :=
  True

def Pre_OdAtt (m : (ℓ : Loc Cert.OdAtt.nD Cert.OdAtt.τ Cert.OdAtt.sig) → Buf (Elt Bits) ℓ) : Prop :=
  True

def Pre_OdAttIdeal (m : (ℓ : Loc Cert.OdAttIdeal.nD Cert.OdAttIdeal.τ Cert.OdAttIdeal.sig) → Buf (Elt Ideal) ℓ) : Prop :=
  True

def Pre_OdAttRefIdeal (m : (ℓ : Loc Cert.OdAttRefIdeal.nD Cert.OdAttRefIdeal.τ Cert.OdAttRefIdeal.sig) → Buf (Elt Ideal) ℓ) : Prop :=
  True

def Pre_OdNorm (m : (ℓ : Loc Cert.OdNorm.nD Cert.OdNorm.τ Cert.OdNorm.sig) → Buf (Elt Bits) ℓ) : Prop :=
  True

def Pre_OdNormIdeal (m : (ℓ : Loc Cert.OdNormIdeal.nD Cert.OdNormIdeal.τ Cert.OdNormIdeal.sig) → Buf (Elt Ideal) ℓ) : Prop :=
  True

def Pre_OdNormRefIdeal (m : (ℓ : Loc Cert.OdNormRefIdeal.nD Cert.OdNormRefIdeal.τ Cert.OdNormRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownRefIdeal (m : (ℓ : Loc Cert.FfDownRefIdeal.nD Cert.FfDownRefIdeal.τ Cert.FfDownRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_scores [hPre_finite_scores : Cert.Pre_finite_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_scores [hPre_finite_scores : Cert.Pre_finite_scores.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_RwkvIn (m : (ℓ : Loc Cert.RwkvIn.nD Cert.RwkvIn.τ Cert.RwkvIn.sig) → Buf (Elt Bits) ℓ) : Prop :=
  True

def Pre_RwkvInIdeal (m : (ℓ : Loc Cert.RwkvInIdeal.nD Cert.RwkvInIdeal.τ Cert.RwkvInIdeal.sig) → Buf (Elt Ideal) ℓ) : Prop :=
  True

def Pre_RwkvInRefIdeal (m : (ℓ : Loc Cert.RwkvInRefIdeal.nD Cert.RwkvInRefIdeal.τ Cert.RwkvInRefIdeal.sig) → Buf (Elt Ideal) ℓ) : Prop :=
  True

def Pre_FfLast (m : (ℓ : Loc Cert.FfLast.nD Cert.FfLast.τ Cert.FfLast.sig) → Buf (Elt Bits) ℓ) : Prop :=
  True

def Pre_FfLastIdeal (m : (ℓ : Loc Cert.FfLastIdeal.nD Cert.FfLastIdeal.τ Cert.FfLastIdeal.sig) → Buf (Elt Ideal) ℓ) : Prop :=
  True

def Pre_FfLastRefIdeal (m : (ℓ : Loc Cert.FfLastRefIdeal.nD Cert.FfLastRefIdeal.τ Cert.FfLastRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def Pre_FfMid (m : (ℓ : Loc Cert.FfMid.nD Cert.FfMid.τ Cert.FfMid.sig) → Buf (Elt Bits) ℓ) : Prop :=
  True

def Pre_FfMidIdeal (m : (ℓ : Loc Cert.FfMidIdeal.nD Cert.FfMidIdeal.τ Cert.FfMidIdeal.sig) → Buf (Elt Ideal) ℓ) : Prop :=
  True

def Pre_FfMidRefIdeal (m : (ℓ : Loc Cert.FfMidRefIdeal.nD Cert.FfMidRefIdeal.τ Cert.FfMidRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))) = (fun _ => 1#1)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_args [hAttnIdeal : Cert.AttnIdeal.Facts] [hPre_finite_args : Cert.Pre_finite_args.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_args m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_args [hAttnRefIdeal : Cert.AttnRefIdeal.Facts] [hPre_finite_args : Cert.Pre_finite_args.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_args m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3)
      ∧ r.2.mem ((c.tc : Thread Cert.Rms.nD Cert.Rms.τ).loc Cert.Rms.main_arg4) = m ((c.tc : Thread Cert.Rms.nD Cert.Rms.τ).loc Cert.Rms.main_arg4)
      ∧ r.2.mem ((c.tc : Thread Cert.Rms.nD Cert.Rms.τ).loc Cert.Rms.main_arg5) = m ((c.tc : Thread Cert.Rms.nD Cert.Rms.τ).loc Cert.Rms.main_arg5))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
      ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4)
      ∧ r.2.mem ((c.tc : Thread Cert.RmsIdeal.nD Cert.RmsIdeal.τ).loc Cert.RmsIdeal.main_arg5) = m ((c.tc : Thread Cert.RmsIdeal.nD Cert.RmsIdeal.τ).loc Cert.RmsIdeal.main_arg5))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3)
      ∧ r.2.mem ((c.tc : Thread Cert.RmsRefIdeal.nD Cert.RmsRefIdeal.τ).loc Cert.RmsRefIdeal.main_arg4) = m ((c.tc : Thread Cert.RmsRefIdeal.nD Cert.RmsRefIdeal.τ).loc Cert.RmsRefIdeal.main_arg4)
      ∧ r.2.mem ((c.tc : Thread Cert.RmsRefIdeal.nD Cert.RmsRefIdeal.τ).loc Cert.RmsRefIdeal.main_arg5) = m ((c.tc : Thread Cert.RmsRefIdeal.nD Cert.RmsRefIdeal.τ).loc Cert.RmsRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Eb [hEb : Cert.Eb.Facts] : Prop :=
  ∀ (m : (ℓ : Loc Cert.Eb.nD Cert.Eb.τ Cert.Eb.sig) → Buf (Elt Bits) ℓ) (g : Dev Cert.Eb.nD → PrngReg), Pre_Eb m →
    θ_run (Cert.Eb.defs (F := Bits)) (onTc (τ := Cert.Eb.τ) (Cert.Eb.main (F := Bits))) ⟨m, fun _ => 0, g⟩ (fun r => (∀ c : Dev Cert.Eb.nD,
      r.2.mem ((c.tc : Thread Cert.Eb.nD Cert.Eb.τ).loc Cert.Eb.main_arg0) = m ((c.tc : Thread Cert.Eb.nD Cert.Eb.τ).loc Cert.Eb.main_arg0)
      ∧ r.2.mem ((c.tc : Thread Cert.Eb.nD Cert.Eb.τ).loc Cert.Eb.main_arg1) = m ((c.tc : Thread Cert.Eb.nD Cert.Eb.τ).loc Cert.Eb.main_arg1)
      ∧ r.2.mem ((c.tc : Thread Cert.Eb.nD Cert.Eb.τ).loc Cert.Eb.main_arg2) = m ((c.tc : Thread Cert.Eb.nD Cert.Eb.τ).loc Cert.Eb.main_arg2))
      ∧ r.2.sem = fun _ => 0)

def quiescent_EbIdeal [hEbIdeal : Cert.EbIdeal.Facts] : Prop :=
  ∀ (m : (ℓ : Loc Cert.EbIdeal.nD Cert.EbIdeal.τ Cert.EbIdeal.sig) → Buf (Elt Ideal) ℓ) (g : Dev Cert.EbIdeal.nD → PrngReg), Pre_EbIdeal m →
    θ_run (Cert.EbIdeal.defs (F := Ideal)) (onTc (τ := Cert.EbIdeal.τ) (Cert.EbIdeal.main (F := Ideal))) ⟨m, fun _ => 0, g⟩ (fun r => (∀ c : Dev Cert.EbIdeal.nD,
      r.2.mem ((c.tc : Thread Cert.EbIdeal.nD Cert.EbIdeal.τ).loc Cert.EbIdeal.main_arg0) = m ((c.tc : Thread Cert.EbIdeal.nD Cert.EbIdeal.τ).loc Cert.EbIdeal.main_arg0)
      ∧ r.2.mem ((c.tc : Thread Cert.EbIdeal.nD Cert.EbIdeal.τ).loc Cert.EbIdeal.main_arg1) = m ((c.tc : Thread Cert.EbIdeal.nD Cert.EbIdeal.τ).loc Cert.EbIdeal.main_arg1)
      ∧ r.2.mem ((c.tc : Thread Cert.EbIdeal.nD Cert.EbIdeal.τ).loc Cert.EbIdeal.main_arg2) = m ((c.tc : Thread Cert.EbIdeal.nD Cert.EbIdeal.τ).loc Cert.EbIdeal.main_arg2))
      ∧ r.2.sem = fun _ => 0)

def quiescent_EbRefIdeal [hEbRefIdeal : Cert.EbRefIdeal.Facts] : Prop :=
  ∀ (m : (ℓ : Loc Cert.EbRefIdeal.nD Cert.EbRefIdeal.τ Cert.EbRefIdeal.sig) → Buf (Elt Ideal) ℓ) (g : Dev Cert.EbRefIdeal.nD → PrngReg), Pre_EbRefIdeal m →
    θ_run (Cert.EbRefIdeal.defs (F := Ideal)) (onTc (τ := Cert.EbRefIdeal.τ) (Cert.EbRefIdeal.main (F := Ideal))) ⟨m, fun _ => 0, g⟩ (fun r => (∀ c : Dev Cert.EbRefIdeal.nD,
      r.2.mem ((c.tc : Thread Cert.EbRefIdeal.nD Cert.EbRefIdeal.τ).loc Cert.EbRefIdeal.main_arg0) = m ((c.tc : Thread Cert.EbRefIdeal.nD Cert.EbRefIdeal.τ).loc Cert.EbRefIdeal.main_arg0)
      ∧ r.2.mem ((c.tc : Thread Cert.EbRefIdeal.nD Cert.EbRefIdeal.τ).loc Cert.EbRefIdeal.main_arg1) = m ((c.tc : Thread Cert.EbRefIdeal.nD Cert.EbRefIdeal.τ).loc Cert.EbRefIdeal.main_arg1)
      ∧ r.2.mem ((c.tc : Thread Cert.EbRefIdeal.nD Cert.EbRefIdeal.τ).loc Cert.EbRefIdeal.main_arg2) = m ((c.tc : Thread Cert.EbRefIdeal.nD Cert.EbRefIdeal.τ).loc Cert.EbRefIdeal.main_arg2))
      ∧ r.2.sem = fun _ => 0)

def quiescent_EvDy [hEvDy : Cert.EvDy.Facts] : Prop :=
  ∀ (m : (ℓ : Loc Cert.EvDy.nD Cert.EvDy.τ Cert.EvDy.sig) → Buf (Elt Bits) ℓ) (g : Dev Cert.EvDy.nD → PrngReg), Pre_EvDy m →
    θ_run (Cert.EvDy.defs (F := Bits)) (onTc (τ := Cert.EvDy.τ) (Cert.EvDy.main (F := Bits))) ⟨m, fun _ => 0, g⟩ (fun r => (∀ c : Dev Cert.EvDy.nD,
      r.2.mem ((c.tc : Thread Cert.EvDy.nD Cert.EvDy.τ).loc Cert.EvDy.main_arg0) = m ((c.tc : Thread Cert.EvDy.nD Cert.EvDy.τ).loc Cert.EvDy.main_arg0)
      ∧ r.2.mem ((c.tc : Thread Cert.EvDy.nD Cert.EvDy.τ).loc Cert.EvDy.main_arg1) = m ((c.tc : Thread Cert.EvDy.nD Cert.EvDy.τ).loc Cert.EvDy.main_arg1))
      ∧ r.2.sem = fun _ => 0)

def quiescent_EvDyIdeal [hEvDyIdeal : Cert.EvDyIdeal.Facts] : Prop :=
  ∀ (m : (ℓ : Loc Cert.EvDyIdeal.nD Cert.EvDyIdeal.τ Cert.EvDyIdeal.sig) → Buf (Elt Ideal) ℓ) (g : Dev Cert.EvDyIdeal.nD → PrngReg), Pre_EvDyIdeal m →
    θ_run (Cert.EvDyIdeal.defs (F := Ideal)) (onTc (τ := Cert.EvDyIdeal.τ) (Cert.EvDyIdeal.main (F := Ideal))) ⟨m, fun _ => 0, g⟩ (fun r => (∀ c : Dev Cert.EvDyIdeal.nD,
      r.2.mem ((c.tc : Thread Cert.EvDyIdeal.nD Cert.EvDyIdeal.τ).loc Cert.EvDyIdeal.main_arg0) = m ((c.tc : Thread Cert.EvDyIdeal.nD Cert.EvDyIdeal.τ).loc Cert.EvDyIdeal.main_arg0)
      ∧ r.2.mem ((c.tc : Thread Cert.EvDyIdeal.nD Cert.EvDyIdeal.τ).loc Cert.EvDyIdeal.main_arg1) = m ((c.tc : Thread Cert.EvDyIdeal.nD Cert.EvDyIdeal.τ).loc Cert.EvDyIdeal.main_arg1))
      ∧ r.2.sem = fun _ => 0)

def quiescent_EvDyRefIdeal [hEvDyRefIdeal : Cert.EvDyRefIdeal.Facts] : Prop :=
  ∀ (m : (ℓ : Loc Cert.EvDyRefIdeal.nD Cert.EvDyRefIdeal.τ Cert.EvDyRefIdeal.sig) → Buf (Elt Ideal) ℓ) (g : Dev Cert.EvDyRefIdeal.nD → PrngReg), Pre_EvDyRefIdeal m →
    θ_run (Cert.EvDyRefIdeal.defs (F := Ideal)) (onTc (τ := Cert.EvDyRefIdeal.τ) (Cert.EvDyRefIdeal.main (F := Ideal))) ⟨m, fun _ => 0, g⟩ (fun r => (∀ c : Dev Cert.EvDyRefIdeal.nD,
      r.2.mem ((c.tc : Thread Cert.EvDyRefIdeal.nD Cert.EvDyRefIdeal.τ).loc Cert.EvDyRefIdeal.main_arg0) = m ((c.tc : Thread Cert.EvDyRefIdeal.nD Cert.EvDyRefIdeal.τ).loc Cert.EvDyRefIdeal.main_arg0)
      ∧ r.2.mem ((c.tc : Thread Cert.EvDyRefIdeal.nD Cert.EvDyRefIdeal.τ).loc Cert.EvDyRefIdeal.main_arg1) = m ((c.tc : Thread Cert.EvDyRefIdeal.nD Cert.EvDyRefIdeal.τ).loc Cert.EvDyRefIdeal.main_arg1))
      ∧ r.2.sem = fun _ => 0)

def quiescent_EvGout [hEvGout : Cert.EvGout.Facts] : Prop :=
  ∀ (m : (ℓ : Loc Cert.EvGout.nD Cert.EvGout.τ Cert.EvGout.sig) → Buf (Elt Bits) ℓ) (g : Dev Cert.EvGout.nD → PrngReg), Pre_EvGout m →
    θ_run (Cert.EvGout.defs (F := Bits)) (onTc (τ := Cert.EvGout.τ) (Cert.EvGout.main (F := Bits))) ⟨m, fun _ => 0, g⟩ (fun r => (∀ c : Dev Cert.EvGout.nD,
      r.2.mem ((c.tc : Thread Cert.EvGout.nD Cert.EvGout.τ).loc Cert.EvGout.main_arg0) = m ((c.tc : Thread Cert.EvGout.nD Cert.EvGout.τ).loc Cert.EvGout.main_arg0)
      ∧ r.2.mem ((c.tc : Thread Cert.EvGout.nD Cert.EvGout.τ).loc Cert.EvGout.main_arg1) = m ((c.tc : Thread Cert.EvGout.nD Cert.EvGout.τ).loc Cert.EvGout.main_arg1))
      ∧ r.2.sem = fun _ => 0)

def quiescent_EvGoutIdeal [hEvGoutIdeal : Cert.EvGoutIdeal.Facts] : Prop :=
  ∀ (m : (ℓ : Loc Cert.EvGoutIdeal.nD Cert.EvGoutIdeal.τ Cert.EvGoutIdeal.sig) → Buf (Elt Ideal) ℓ) (g : Dev Cert.EvGoutIdeal.nD → PrngReg), Pre_EvGoutIdeal m →
    θ_run (Cert.EvGoutIdeal.defs (F := Ideal)) (onTc (τ := Cert.EvGoutIdeal.τ) (Cert.EvGoutIdeal.main (F := Ideal))) ⟨m, fun _ => 0, g⟩ (fun r => (∀ c : Dev Cert.EvGoutIdeal.nD,
      r.2.mem ((c.tc : Thread Cert.EvGoutIdeal.nD Cert.EvGoutIdeal.τ).loc Cert.EvGoutIdeal.main_arg0) = m ((c.tc : Thread Cert.EvGoutIdeal.nD Cert.EvGoutIdeal.τ).loc Cert.EvGoutIdeal.main_arg0)
      ∧ r.2.mem ((c.tc : Thread Cert.EvGoutIdeal.nD Cert.EvGoutIdeal.τ).loc Cert.EvGoutIdeal.main_arg1) = m ((c.tc : Thread Cert.EvGoutIdeal.nD Cert.EvGoutIdeal.τ).loc Cert.EvGoutIdeal.main_arg1))
      ∧ r.2.sem = fun _ => 0)

def quiescent_EvGoutRefIdeal [hEvGoutRefIdeal : Cert.EvGoutRefIdeal.Facts] : Prop :=
  ∀ (m : (ℓ : Loc Cert.EvGoutRefIdeal.nD Cert.EvGoutRefIdeal.τ Cert.EvGoutRefIdeal.sig) → Buf (Elt Ideal) ℓ) (g : Dev Cert.EvGoutRefIdeal.nD → PrngReg), Pre_EvGoutRefIdeal m →
    θ_run (Cert.EvGoutRefIdeal.defs (F := Ideal)) (onTc (τ := Cert.EvGoutRefIdeal.τ) (Cert.EvGoutRefIdeal.main (F := Ideal))) ⟨m, fun _ => 0, g⟩ (fun r => (∀ c : Dev Cert.EvGoutRefIdeal.nD,
      r.2.mem ((c.tc : Thread Cert.EvGoutRefIdeal.nD Cert.EvGoutRefIdeal.τ).loc Cert.EvGoutRefIdeal.main_arg0) = m ((c.tc : Thread Cert.EvGoutRefIdeal.nD Cert.EvGoutRefIdeal.τ).loc Cert.EvGoutRefIdeal.main_arg0)
      ∧ r.2.mem ((c.tc : Thread Cert.EvGoutRefIdeal.nD Cert.EvGoutRefIdeal.τ).loc Cert.EvGoutRefIdeal.main_arg1) = m ((c.tc : Thread Cert.EvGoutRefIdeal.nD Cert.EvGoutRefIdeal.τ).loc Cert.EvGoutRefIdeal.main_arg1))
      ∧ r.2.sem = fun _ => 0)

def quiescent_EvGin [hEvGin : Cert.EvGin.Facts] : Prop :=
  ∀ (m : (ℓ : Loc Cert.EvGin.nD Cert.EvGin.τ Cert.EvGin.sig) → Buf (Elt Bits) ℓ) (g : Dev Cert.EvGin.nD → PrngReg), Pre_EvGin m →
    θ_run (Cert.EvGin.defs (F := Bits)) (onTc (τ := Cert.EvGin.τ) (Cert.EvGin.main (F := Bits))) ⟨m, fun _ => 0, g⟩ (fun r => (∀ c : Dev Cert.EvGin.nD,
      r.2.mem ((c.tc : Thread Cert.EvGin.nD Cert.EvGin.τ).loc Cert.EvGin.main_arg0) = m ((c.tc : Thread Cert.EvGin.nD Cert.EvGin.τ).loc Cert.EvGin.main_arg0)
      ∧ r.2.mem ((c.tc : Thread Cert.EvGin.nD Cert.EvGin.τ).loc Cert.EvGin.main_arg1) = m ((c.tc : Thread Cert.EvGin.nD Cert.EvGin.τ).loc Cert.EvGin.main_arg1))
      ∧ r.2.sem = fun _ => 0)

def quiescent_EvGinIdeal [hEvGinIdeal : Cert.EvGinIdeal.Facts] : Prop :=
  ∀ (m : (ℓ : Loc Cert.EvGinIdeal.nD Cert.EvGinIdeal.τ Cert.EvGinIdeal.sig) → Buf (Elt Ideal) ℓ) (g : Dev Cert.EvGinIdeal.nD → PrngReg), Pre_EvGinIdeal m →
    θ_run (Cert.EvGinIdeal.defs (F := Ideal)) (onTc (τ := Cert.EvGinIdeal.τ) (Cert.EvGinIdeal.main (F := Ideal))) ⟨m, fun _ => 0, g⟩ (fun r => (∀ c : Dev Cert.EvGinIdeal.nD,
      r.2.mem ((c.tc : Thread Cert.EvGinIdeal.nD Cert.EvGinIdeal.τ).loc Cert.EvGinIdeal.main_arg0) = m ((c.tc : Thread Cert.EvGinIdeal.nD Cert.EvGinIdeal.τ).loc Cert.EvGinIdeal.main_arg0)
      ∧ r.2.mem ((c.tc : Thread Cert.EvGinIdeal.nD Cert.EvGinIdeal.τ).loc Cert.EvGinIdeal.main_arg1) = m ((c.tc : Thread Cert.EvGinIdeal.nD Cert.EvGinIdeal.τ).loc Cert.EvGinIdeal.main_arg1))
      ∧ r.2.sem = fun _ => 0)

def quiescent_EvGinRefIdeal [hEvGinRefIdeal : Cert.EvGinRefIdeal.Facts] : Prop :=
  ∀ (m : (ℓ : Loc Cert.EvGinRefIdeal.nD Cert.EvGinRefIdeal.τ Cert.EvGinRefIdeal.sig) → Buf (Elt Ideal) ℓ) (g : Dev Cert.EvGinRefIdeal.nD → PrngReg), Pre_EvGinRefIdeal m →
    θ_run (Cert.EvGinRefIdeal.defs (F := Ideal)) (onTc (τ := Cert.EvGinRefIdeal.τ) (Cert.EvGinRefIdeal.main (F := Ideal))) ⟨m, fun _ => 0, g⟩ (fun r => (∀ c : Dev Cert.EvGinRefIdeal.nD,
      r.2.mem ((c.tc : Thread Cert.EvGinRefIdeal.nD Cert.EvGinRefIdeal.τ).loc Cert.EvGinRefIdeal.main_arg0) = m ((c.tc : Thread Cert.EvGinRefIdeal.nD Cert.EvGinRefIdeal.τ).loc Cert.EvGinRefIdeal.main_arg0)
      ∧ r.2.mem ((c.tc : Thread Cert.EvGinRefIdeal.nD Cert.EvGinRefIdeal.τ).loc Cert.EvGinRefIdeal.main_arg1) = m ((c.tc : Thread Cert.EvGinRefIdeal.nD Cert.EvGinRefIdeal.τ).loc Cert.EvGinRefIdeal.main_arg1))
      ∧ r.2.sem = fun _ => 0)

def quiescent_EvNorm [hEvNorm : Cert.EvNorm.Facts] : Prop :=
  ∀ (m : (ℓ : Loc Cert.EvNorm.nD Cert.EvNorm.τ Cert.EvNorm.sig) → Buf (Elt Bits) ℓ) (g : Dev Cert.EvNorm.nD → PrngReg), Pre_EvNorm m →
    θ_run (Cert.EvNorm.defs (F := Bits)) (onTc (τ := Cert.EvNorm.τ) (Cert.EvNorm.main (F := Bits))) ⟨m, fun _ => 0, g⟩ (fun r => (∀ c : Dev Cert.EvNorm.nD,
      r.2.mem ((c.tc : Thread Cert.EvNorm.nD Cert.EvNorm.τ).loc Cert.EvNorm.main_arg0) = m ((c.tc : Thread Cert.EvNorm.nD Cert.EvNorm.τ).loc Cert.EvNorm.main_arg0)
      ∧ r.2.mem ((c.tc : Thread Cert.EvNorm.nD Cert.EvNorm.τ).loc Cert.EvNorm.main_arg1) = m ((c.tc : Thread Cert.EvNorm.nD Cert.EvNorm.τ).loc Cert.EvNorm.main_arg1)
      ∧ r.2.mem ((c.tc : Thread Cert.EvNorm.nD Cert.EvNorm.τ).loc Cert.EvNorm.main_arg2) = m ((c.tc : Thread Cert.EvNorm.nD Cert.EvNorm.τ).loc Cert.EvNorm.main_arg2)
      ∧ r.2.mem ((c.tc : Thread Cert.EvNorm.nD Cert.EvNorm.τ).loc Cert.EvNorm.main_arg3) = m ((c.tc : Thread Cert.EvNorm.nD Cert.EvNorm.τ).loc Cert.EvNorm.main_arg3)
      ∧ r.2.mem ((c.tc : Thread Cert.EvNorm.nD Cert.EvNorm.τ).loc Cert.EvNorm.main_arg4) = m ((c.tc : Thread Cert.EvNorm.nD Cert.EvNorm.τ).loc Cert.EvNorm.main_arg4))
      ∧ r.2.sem = fun _ => 0)

def quiescent_EvNormIdeal [hEvNormIdeal : Cert.EvNormIdeal.Facts] : Prop :=
  ∀ (m : (ℓ : Loc Cert.EvNormIdeal.nD Cert.EvNormIdeal.τ Cert.EvNormIdeal.sig) → Buf (Elt Ideal) ℓ) (g : Dev Cert.EvNormIdeal.nD → PrngReg), Pre_EvNormIdeal m →
    θ_run (Cert.EvNormIdeal.defs (F := Ideal)) (onTc (τ := Cert.EvNormIdeal.τ) (Cert.EvNormIdeal.main (F := Ideal))) ⟨m, fun _ => 0, g⟩ (fun r => (∀ c : Dev Cert.EvNormIdeal.nD,
      r.2.mem ((c.tc : Thread Cert.EvNormIdeal.nD Cert.EvNormIdeal.τ).loc Cert.EvNormIdeal.main_arg0) = m ((c.tc : Thread Cert.EvNormIdeal.nD Cert.EvNormIdeal.τ).loc Cert.EvNormIdeal.main_arg0)
      ∧ r.2.mem ((c.tc : Thread Cert.EvNormIdeal.nD Cert.EvNormIdeal.τ).loc Cert.EvNormIdeal.main_arg1) = m ((c.tc : Thread Cert.EvNormIdeal.nD Cert.EvNormIdeal.τ).loc Cert.EvNormIdeal.main_arg1)
      ∧ r.2.mem ((c.tc : Thread Cert.EvNormIdeal.nD Cert.EvNormIdeal.τ).loc Cert.EvNormIdeal.main_arg2) = m ((c.tc : Thread Cert.EvNormIdeal.nD Cert.EvNormIdeal.τ).loc Cert.EvNormIdeal.main_arg2)
      ∧ r.2.mem ((c.tc : Thread Cert.EvNormIdeal.nD Cert.EvNormIdeal.τ).loc Cert.EvNormIdeal.main_arg3) = m ((c.tc : Thread Cert.EvNormIdeal.nD Cert.EvNormIdeal.τ).loc Cert.EvNormIdeal.main_arg3)
      ∧ r.2.mem ((c.tc : Thread Cert.EvNormIdeal.nD Cert.EvNormIdeal.τ).loc Cert.EvNormIdeal.main_arg4) = m ((c.tc : Thread Cert.EvNormIdeal.nD Cert.EvNormIdeal.τ).loc Cert.EvNormIdeal.main_arg4))
      ∧ r.2.sem = fun _ => 0)

def quiescent_EvNormRefIdeal [hEvNormRefIdeal : Cert.EvNormRefIdeal.Facts] : Prop :=
  ∀ (m : (ℓ : Loc Cert.EvNormRefIdeal.nD Cert.EvNormRefIdeal.τ Cert.EvNormRefIdeal.sig) → Buf (Elt Ideal) ℓ) (g : Dev Cert.EvNormRefIdeal.nD → PrngReg), Pre_EvNormRefIdeal m →
    θ_run (Cert.EvNormRefIdeal.defs (F := Ideal)) (onTc (τ := Cert.EvNormRefIdeal.τ) (Cert.EvNormRefIdeal.main (F := Ideal))) ⟨m, fun _ => 0, g⟩ (fun r => (∀ c : Dev Cert.EvNormRefIdeal.nD,
      r.2.mem ((c.tc : Thread Cert.EvNormRefIdeal.nD Cert.EvNormRefIdeal.τ).loc Cert.EvNormRefIdeal.main_arg0) = m ((c.tc : Thread Cert.EvNormRefIdeal.nD Cert.EvNormRefIdeal.τ).loc Cert.EvNormRefIdeal.main_arg0)
      ∧ r.2.mem ((c.tc : Thread Cert.EvNormRefIdeal.nD Cert.EvNormRefIdeal.τ).loc Cert.EvNormRefIdeal.main_arg1) = m ((c.tc : Thread Cert.EvNormRefIdeal.nD Cert.EvNormRefIdeal.τ).loc Cert.EvNormRefIdeal.main_arg1)
      ∧ r.2.mem ((c.tc : Thread Cert.EvNormRefIdeal.nD Cert.EvNormRefIdeal.τ).loc Cert.EvNormRefIdeal.main_arg2) = m ((c.tc : Thread Cert.EvNormRefIdeal.nD Cert.EvNormRefIdeal.τ).loc Cert.EvNormRefIdeal.main_arg2)
      ∧ r.2.mem ((c.tc : Thread Cert.EvNormRefIdeal.nD Cert.EvNormRefIdeal.τ).loc Cert.EvNormRefIdeal.main_arg3) = m ((c.tc : Thread Cert.EvNormRefIdeal.nD Cert.EvNormRefIdeal.τ).loc Cert.EvNormRefIdeal.main_arg3)
      ∧ r.2.mem ((c.tc : Thread Cert.EvNormRefIdeal.nD Cert.EvNormRefIdeal.τ).loc Cert.EvNormRefIdeal.main_arg4) = m ((c.tc : Thread Cert.EvNormRefIdeal.nD Cert.EvNormRefIdeal.τ).loc Cert.EvNormRefIdeal.main_arg4))
      ∧ r.2.sem = fun _ => 0)

def quiescent_OdGin [hOdGin : Cert.OdGin.Facts] : Prop :=
  ∀ (m : (ℓ : Loc Cert.OdGin.nD Cert.OdGin.τ Cert.OdGin.sig) → Buf (Elt Bits) ℓ) (g : Dev Cert.OdGin.nD → PrngReg), Pre_OdGin m →
    θ_run (Cert.OdGin.defs (F := Bits)) (onTc (τ := Cert.OdGin.τ) (Cert.OdGin.main (F := Bits))) ⟨m, fun _ => 0, g⟩ (fun r => (∀ c : Dev Cert.OdGin.nD,
      r.2.mem ((c.tc : Thread Cert.OdGin.nD Cert.OdGin.τ).loc Cert.OdGin.main_arg0) = m ((c.tc : Thread Cert.OdGin.nD Cert.OdGin.τ).loc Cert.OdGin.main_arg0)
      ∧ r.2.mem ((c.tc : Thread Cert.OdGin.nD Cert.OdGin.τ).loc Cert.OdGin.main_arg1) = m ((c.tc : Thread Cert.OdGin.nD Cert.OdGin.τ).loc Cert.OdGin.main_arg1)
      ∧ r.2.mem ((c.tc : Thread Cert.OdGin.nD Cert.OdGin.τ).loc Cert.OdGin.main_arg2) = m ((c.tc : Thread Cert.OdGin.nD Cert.OdGin.τ).loc Cert.OdGin.main_arg2))
      ∧ r.2.sem = fun _ => 0)

def quiescent_OdGinIdeal [hOdGinIdeal : Cert.OdGinIdeal.Facts] : Prop :=
  ∀ (m : (ℓ : Loc Cert.OdGinIdeal.nD Cert.OdGinIdeal.τ Cert.OdGinIdeal.sig) → Buf (Elt Ideal) ℓ) (g : Dev Cert.OdGinIdeal.nD → PrngReg), Pre_OdGinIdeal m →
    θ_run (Cert.OdGinIdeal.defs (F := Ideal)) (onTc (τ := Cert.OdGinIdeal.τ) (Cert.OdGinIdeal.main (F := Ideal))) ⟨m, fun _ => 0, g⟩ (fun r => (∀ c : Dev Cert.OdGinIdeal.nD,
      r.2.mem ((c.tc : Thread Cert.OdGinIdeal.nD Cert.OdGinIdeal.τ).loc Cert.OdGinIdeal.main_arg0) = m ((c.tc : Thread Cert.OdGinIdeal.nD Cert.OdGinIdeal.τ).loc Cert.OdGinIdeal.main_arg0)
      ∧ r.2.mem ((c.tc : Thread Cert.OdGinIdeal.nD Cert.OdGinIdeal.τ).loc Cert.OdGinIdeal.main_arg1) = m ((c.tc : Thread Cert.OdGinIdeal.nD Cert.OdGinIdeal.τ).loc Cert.OdGinIdeal.main_arg1)
      ∧ r.2.mem ((c.tc : Thread Cert.OdGinIdeal.nD Cert.OdGinIdeal.τ).loc Cert.OdGinIdeal.main_arg2) = m ((c.tc : Thread Cert.OdGinIdeal.nD Cert.OdGinIdeal.τ).loc Cert.OdGinIdeal.main_arg2))
      ∧ r.2.sem = fun _ => 0)

def quiescent_OdGinRefIdeal [hOdGinRefIdeal : Cert.OdGinRefIdeal.Facts] : Prop :=
  ∀ (m : (ℓ : Loc Cert.OdGinRefIdeal.nD Cert.OdGinRefIdeal.τ Cert.OdGinRefIdeal.sig) → Buf (Elt Ideal) ℓ) (g : Dev Cert.OdGinRefIdeal.nD → PrngReg), Pre_OdGinRefIdeal m →
    θ_run (Cert.OdGinRefIdeal.defs (F := Ideal)) (onTc (τ := Cert.OdGinRefIdeal.τ) (Cert.OdGinRefIdeal.main (F := Ideal))) ⟨m, fun _ => 0, g⟩ (fun r => (∀ c : Dev Cert.OdGinRefIdeal.nD,
      r.2.mem ((c.tc : Thread Cert.OdGinRefIdeal.nD Cert.OdGinRefIdeal.τ).loc Cert.OdGinRefIdeal.main_arg0) = m ((c.tc : Thread Cert.OdGinRefIdeal.nD Cert.OdGinRefIdeal.τ).loc Cert.OdGinRefIdeal.main_arg0)
      ∧ r.2.mem ((c.tc : Thread Cert.OdGinRefIdeal.nD Cert.OdGinRefIdeal.τ).loc Cert.OdGinRefIdeal.main_arg1) = m ((c.tc : Thread Cert.OdGinRefIdeal.nD Cert.OdGinRefIdeal.τ).loc Cert.OdGinRefIdeal.main_arg1)
      ∧ r.2.mem ((c.tc : Thread Cert.OdGinRefIdeal.nD Cert.OdGinRefIdeal.τ).loc Cert.OdGinRefIdeal.main_arg2) = m ((c.tc : Thread Cert.OdGinRefIdeal.nD Cert.OdGinRefIdeal.τ).loc Cert.OdGinRefIdeal.main_arg2))
      ∧ r.2.sem = fun _ => 0)

def quiescent_OdAtt [hOdAtt : Cert.OdAtt.Facts] : Prop :=
  ∀ (m : (ℓ : Loc Cert.OdAtt.nD Cert.OdAtt.τ Cert.OdAtt.sig) → Buf (Elt Bits) ℓ) (g : Dev Cert.OdAtt.nD → PrngReg), Pre_OdAtt m →
    θ_run (Cert.OdAtt.defs (F := Bits)) (onTc (τ := Cert.OdAtt.τ) (Cert.OdAtt.main (F := Bits))) ⟨m, fun _ => 0, g⟩ (fun r => (∀ c : Dev Cert.OdAtt.nD,
      r.2.mem ((c.tc : Thread Cert.OdAtt.nD Cert.OdAtt.τ).loc Cert.OdAtt.main_arg0) = m ((c.tc : Thread Cert.OdAtt.nD Cert.OdAtt.τ).loc Cert.OdAtt.main_arg0)
      ∧ r.2.mem ((c.tc : Thread Cert.OdAtt.nD Cert.OdAtt.τ).loc Cert.OdAtt.main_arg1) = m ((c.tc : Thread Cert.OdAtt.nD Cert.OdAtt.τ).loc Cert.OdAtt.main_arg1))
      ∧ r.2.sem = fun _ => 0)

def quiescent_OdAttIdeal [hOdAttIdeal : Cert.OdAttIdeal.Facts] : Prop :=
  ∀ (m : (ℓ : Loc Cert.OdAttIdeal.nD Cert.OdAttIdeal.τ Cert.OdAttIdeal.sig) → Buf (Elt Ideal) ℓ) (g : Dev Cert.OdAttIdeal.nD → PrngReg), Pre_OdAttIdeal m →
    θ_run (Cert.OdAttIdeal.defs (F := Ideal)) (onTc (τ := Cert.OdAttIdeal.τ) (Cert.OdAttIdeal.main (F := Ideal))) ⟨m, fun _ => 0, g⟩ (fun r => (∀ c : Dev Cert.OdAttIdeal.nD,
      r.2.mem ((c.tc : Thread Cert.OdAttIdeal.nD Cert.OdAttIdeal.τ).loc Cert.OdAttIdeal.main_arg0) = m ((c.tc : Thread Cert.OdAttIdeal.nD Cert.OdAttIdeal.τ).loc Cert.OdAttIdeal.main_arg0)
      ∧ r.2.mem ((c.tc : Thread Cert.OdAttIdeal.nD Cert.OdAttIdeal.τ).loc Cert.OdAttIdeal.main_arg1) = m ((c.tc : Thread Cert.OdAttIdeal.nD Cert.OdAttIdeal.τ).loc Cert.OdAttIdeal.main_arg1))
      ∧ r.2.sem = fun _ => 0)

def quiescent_OdAttRefIdeal [hOdAttRefIdeal : Cert.OdAttRefIdeal.Facts] : Prop :=
  ∀ (m : (ℓ : Loc Cert.OdAttRefIdeal.nD Cert.OdAttRefIdeal.τ Cert.OdAttRefIdeal.sig) → Buf (Elt Ideal) ℓ) (g : Dev Cert.OdAttRefIdeal.nD → PrngReg), Pre_OdAttRefIdeal m →
    θ_run (Cert.OdAttRefIdeal.defs (F := Ideal)) (onTc (τ := Cert.OdAttRefIdeal.τ) (Cert.OdAttRefIdeal.main (F := Ideal))) ⟨m, fun _ => 0, g⟩ (fun r => (∀ c : Dev Cert.OdAttRefIdeal.nD,
      r.2.mem ((c.tc : Thread Cert.OdAttRefIdeal.nD Cert.OdAttRefIdeal.τ).loc Cert.OdAttRefIdeal.main_arg0) = m ((c.tc : Thread Cert.OdAttRefIdeal.nD Cert.OdAttRefIdeal.τ).loc Cert.OdAttRefIdeal.main_arg0)
      ∧ r.2.mem ((c.tc : Thread Cert.OdAttRefIdeal.nD Cert.OdAttRefIdeal.τ).loc Cert.OdAttRefIdeal.main_arg1) = m ((c.tc : Thread Cert.OdAttRefIdeal.nD Cert.OdAttRefIdeal.τ).loc Cert.OdAttRefIdeal.main_arg1))
      ∧ r.2.sem = fun _ => 0)

def quiescent_OdNorm [hOdNorm : Cert.OdNorm.Facts] : Prop :=
  ∀ (m : (ℓ : Loc Cert.OdNorm.nD Cert.OdNorm.τ Cert.OdNorm.sig) → Buf (Elt Bits) ℓ) (g : Dev Cert.OdNorm.nD → PrngReg), Pre_OdNorm m →
    θ_run (Cert.OdNorm.defs (F := Bits)) (onTc (τ := Cert.OdNorm.τ) (Cert.OdNorm.main (F := Bits))) ⟨m, fun _ => 0, g⟩ (fun r => (∀ c : Dev Cert.OdNorm.nD,
      r.2.mem ((c.tc : Thread Cert.OdNorm.nD Cert.OdNorm.τ).loc Cert.OdNorm.main_arg0) = m ((c.tc : Thread Cert.OdNorm.nD Cert.OdNorm.τ).loc Cert.OdNorm.main_arg0)
      ∧ r.2.mem ((c.tc : Thread Cert.OdNorm.nD Cert.OdNorm.τ).loc Cert.OdNorm.main_arg1) = m ((c.tc : Thread Cert.OdNorm.nD Cert.OdNorm.τ).loc Cert.OdNorm.main_arg1)
      ∧ r.2.mem ((c.tc : Thread Cert.OdNorm.nD Cert.OdNorm.τ).loc Cert.OdNorm.main_arg2) = m ((c.tc : Thread Cert.OdNorm.nD Cert.OdNorm.τ).loc Cert.OdNorm.main_arg2)
      ∧ r.2.mem ((c.tc : Thread Cert.OdNorm.nD Cert.OdNorm.τ).loc Cert.OdNorm.main_arg3) = m ((c.tc : Thread Cert.OdNorm.nD Cert.OdNorm.τ).loc Cert.OdNorm.main_arg3)
      ∧ r.2.mem ((c.tc : Thread Cert.OdNorm.nD Cert.OdNorm.τ).loc Cert.OdNorm.main_arg4) = m ((c.tc : Thread Cert.OdNorm.nD Cert.OdNorm.τ).loc Cert.OdNorm.main_arg4)
      ∧ r.2.mem ((c.tc : Thread Cert.OdNorm.nD Cert.OdNorm.τ).loc Cert.OdNorm.main_arg5) = m ((c.tc : Thread Cert.OdNorm.nD Cert.OdNorm.τ).loc Cert.OdNorm.main_arg5))
      ∧ r.2.sem = fun _ => 0)

def quiescent_OdNormIdeal [hOdNormIdeal : Cert.OdNormIdeal.Facts] : Prop :=
  ∀ (m : (ℓ : Loc Cert.OdNormIdeal.nD Cert.OdNormIdeal.τ Cert.OdNormIdeal.sig) → Buf (Elt Ideal) ℓ) (g : Dev Cert.OdNormIdeal.nD → PrngReg), Pre_OdNormIdeal m →
    θ_run (Cert.OdNormIdeal.defs (F := Ideal)) (onTc (τ := Cert.OdNormIdeal.τ) (Cert.OdNormIdeal.main (F := Ideal))) ⟨m, fun _ => 0, g⟩ (fun r => (∀ c : Dev Cert.OdNormIdeal.nD,
      r.2.mem ((c.tc : Thread Cert.OdNormIdeal.nD Cert.OdNormIdeal.τ).loc Cert.OdNormIdeal.main_arg0) = m ((c.tc : Thread Cert.OdNormIdeal.nD Cert.OdNormIdeal.τ).loc Cert.OdNormIdeal.main_arg0)
      ∧ r.2.mem ((c.tc : Thread Cert.OdNormIdeal.nD Cert.OdNormIdeal.τ).loc Cert.OdNormIdeal.main_arg1) = m ((c.tc : Thread Cert.OdNormIdeal.nD Cert.OdNormIdeal.τ).loc Cert.OdNormIdeal.main_arg1)
      ∧ r.2.mem ((c.tc : Thread Cert.OdNormIdeal.nD Cert.OdNormIdeal.τ).loc Cert.OdNormIdeal.main_arg2) = m ((c.tc : Thread Cert.OdNormIdeal.nD Cert.OdNormIdeal.τ).loc Cert.OdNormIdeal.main_arg2)
      ∧ r.2.mem ((c.tc : Thread Cert.OdNormIdeal.nD Cert.OdNormIdeal.τ).loc Cert.OdNormIdeal.main_arg3) = m ((c.tc : Thread Cert.OdNormIdeal.nD Cert.OdNormIdeal.τ).loc Cert.OdNormIdeal.main_arg3)
      ∧ r.2.mem ((c.tc : Thread Cert.OdNormIdeal.nD Cert.OdNormIdeal.τ).loc Cert.OdNormIdeal.main_arg4) = m ((c.tc : Thread Cert.OdNormIdeal.nD Cert.OdNormIdeal.τ).loc Cert.OdNormIdeal.main_arg4)
      ∧ r.2.mem ((c.tc : Thread Cert.OdNormIdeal.nD Cert.OdNormIdeal.τ).loc Cert.OdNormIdeal.main_arg5) = m ((c.tc : Thread Cert.OdNormIdeal.nD Cert.OdNormIdeal.τ).loc Cert.OdNormIdeal.main_arg5))
      ∧ r.2.sem = fun _ => 0)

def quiescent_OdNormRefIdeal [hOdNormRefIdeal : Cert.OdNormRefIdeal.Facts] : Prop :=
  ∀ (m : (ℓ : Loc Cert.OdNormRefIdeal.nD Cert.OdNormRefIdeal.τ Cert.OdNormRefIdeal.sig) → Buf (Elt Ideal) ℓ) (g : Dev Cert.OdNormRefIdeal.nD → PrngReg), Pre_OdNormRefIdeal m →
    θ_run (Cert.OdNormRefIdeal.defs (F := Ideal)) (onTc (τ := Cert.OdNormRefIdeal.τ) (Cert.OdNormRefIdeal.main (F := Ideal))) ⟨m, fun _ => 0, g⟩ (fun r => (∀ c : Dev Cert.OdNormRefIdeal.nD,
      r.2.mem ((c.tc : Thread Cert.OdNormRefIdeal.nD Cert.OdNormRefIdeal.τ).loc Cert.OdNormRefIdeal.main_arg0) = m ((c.tc : Thread Cert.OdNormRefIdeal.nD Cert.OdNormRefIdeal.τ).loc Cert.OdNormRefIdeal.main_arg0)
      ∧ r.2.mem ((c.tc : Thread Cert.OdNormRefIdeal.nD Cert.OdNormRefIdeal.τ).loc Cert.OdNormRefIdeal.main_arg1) = m ((c.tc : Thread Cert.OdNormRefIdeal.nD Cert.OdNormRefIdeal.τ).loc Cert.OdNormRefIdeal.main_arg1)
      ∧ r.2.mem ((c.tc : Thread Cert.OdNormRefIdeal.nD Cert.OdNormRefIdeal.τ).loc Cert.OdNormRefIdeal.main_arg2) = m ((c.tc : Thread Cert.OdNormRefIdeal.nD Cert.OdNormRefIdeal.τ).loc Cert.OdNormRefIdeal.main_arg2)
      ∧ r.2.mem ((c.tc : Thread Cert.OdNormRefIdeal.nD Cert.OdNormRefIdeal.τ).loc Cert.OdNormRefIdeal.main_arg3) = m ((c.tc : Thread Cert.OdNormRefIdeal.nD Cert.OdNormRefIdeal.τ).loc Cert.OdNormRefIdeal.main_arg3)
      ∧ r.2.mem ((c.tc : Thread Cert.OdNormRefIdeal.nD Cert.OdNormRefIdeal.τ).loc Cert.OdNormRefIdeal.main_arg4) = m ((c.tc : Thread Cert.OdNormRefIdeal.nD Cert.OdNormRefIdeal.τ).loc Cert.OdNormRefIdeal.main_arg4)
      ∧ r.2.mem ((c.tc : Thread Cert.OdNormRefIdeal.nD Cert.OdNormRefIdeal.τ).loc Cert.OdNormRefIdeal.main_arg5) = m ((c.tc : Thread Cert.OdNormRefIdeal.nD Cert.OdNormRefIdeal.τ).loc Cert.OdNormRefIdeal.main_arg5))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2)
      ∧ r.2.mem ((c.tc : Thread Cert.FfDown.nD Cert.FfDown.τ).loc Cert.FfDown.main_arg3) = m ((c.tc : Thread Cert.FfDown.nD Cert.FfDown.τ).loc Cert.FfDown.main_arg3))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
      ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ r.2.sem = fun _ => 0)

def quiescent_FfDownRefIdeal [hFfDownRefIdeal : Cert.FfDownRefIdeal.Facts] : Prop :=
  ∀ (m : (ℓ : Loc Cert.FfDownRefIdeal.nD Cert.FfDownRefIdeal.τ Cert.FfDownRefIdeal.sig) → Buf (Elt Ideal) ℓ) (g : Dev Cert.FfDownRefIdeal.nD → PrngReg), Pre_FfDownRefIdeal m →
    θ_run (Cert.FfDownRefIdeal.defs (F := Ideal)) (onTc (τ := Cert.FfDownRefIdeal.τ) (Cert.FfDownRefIdeal.main (F := Ideal))) ⟨m, fun _ => 0, g⟩ (fun r => (∀ c : Dev Cert.FfDownRefIdeal.nD,
      r.2.mem ((c.tc : Thread Cert.FfDownRefIdeal.nD Cert.FfDownRefIdeal.τ).loc Cert.FfDownRefIdeal.main_arg0) = m ((c.tc : Thread Cert.FfDownRefIdeal.nD Cert.FfDownRefIdeal.τ).loc Cert.FfDownRefIdeal.main_arg0)
      ∧ r.2.mem ((c.tc : Thread Cert.FfDownRefIdeal.nD Cert.FfDownRefIdeal.τ).loc Cert.FfDownRefIdeal.main_arg1) = m ((c.tc : Thread Cert.FfDownRefIdeal.nD Cert.FfDownRefIdeal.τ).loc Cert.FfDownRefIdeal.main_arg1)
      ∧ r.2.mem ((c.tc : Thread Cert.FfDownRefIdeal.nD Cert.FfDownRefIdeal.τ).loc Cert.FfDownRefIdeal.main_arg2) = m ((c.tc : Thread Cert.FfDownRefIdeal.nD Cert.FfDownRefIdeal.τ).loc Cert.FfDownRefIdeal.main_arg2)
      ∧ r.2.mem ((c.tc : Thread Cert.FfDownRefIdeal.nD Cert.FfDownRefIdeal.τ).loc Cert.FfDownRefIdeal.main_arg3) = m ((c.tc : Thread Cert.FfDownRefIdeal.nD Cert.FfDownRefIdeal.τ).loc Cert.FfDownRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_scores [hAttnFwdIdeal : Cert.AttnFwdIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_scores [hAttnFwdRefIdeal : Cert.AttnFwdRefIdeal.Facts] [hPre_finite_scores : Cert.Pre_finite_scores.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_scores m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1))
      ∧ r.2.sem = fun _ => 0)

def quiescent_RwkvIn [hRwkvIn : Cert.RwkvIn.Facts] : Prop :=
  ∀ (m : (ℓ : Loc Cert.RwkvIn.nD Cert.RwkvIn.τ Cert.RwkvIn.sig) → Buf (Elt Bits) ℓ) (g : Dev Cert.RwkvIn.nD → PrngReg), Pre_RwkvIn m →
    θ_run (Cert.RwkvIn.defs (F := Bits)) (onTc (τ := Cert.RwkvIn.τ) (Cert.RwkvIn.main (F := Bits))) ⟨m, fun _ => 0, g⟩ (fun r => (∀ c : Dev Cert.RwkvIn.nD,
      r.2.mem ((c.tc : Thread Cert.RwkvIn.nD Cert.RwkvIn.τ).loc Cert.RwkvIn.main_arg0) = m ((c.tc : Thread Cert.RwkvIn.nD Cert.RwkvIn.τ).loc Cert.RwkvIn.main_arg0)
      ∧ r.2.mem ((c.tc : Thread Cert.RwkvIn.nD Cert.RwkvIn.τ).loc Cert.RwkvIn.main_arg1) = m ((c.tc : Thread Cert.RwkvIn.nD Cert.RwkvIn.τ).loc Cert.RwkvIn.main_arg1))
      ∧ r.2.sem = fun _ => 0)

def quiescent_RwkvInIdeal [hRwkvInIdeal : Cert.RwkvInIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg), Pre_RwkvInIdeal m →
    θ_run (Cert.RwkvInIdeal.defs (F := Ideal)) (onTc (τ := Cert.RwkvInIdeal.τ) (Cert.RwkvInIdeal.main (F := Ideal))) ⟨m, fun _ => 0, g⟩ (fun r => (∀ c : Dev Cert.RwkvInIdeal.nD,
      r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
      ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1))
      ∧ r.2.sem = fun _ => 0)

def quiescent_RwkvInRefIdeal [hRwkvInRefIdeal : Cert.RwkvInRefIdeal.Facts] : Prop :=
  ∀ (m : (ℓ : Loc Cert.RwkvInRefIdeal.nD Cert.RwkvInRefIdeal.τ Cert.RwkvInRefIdeal.sig) → Buf (Elt Ideal) ℓ) (g : Dev Cert.RwkvInRefIdeal.nD → PrngReg), Pre_RwkvInRefIdeal m →
    θ_run (Cert.RwkvInRefIdeal.defs (F := Ideal)) (onTc (τ := Cert.RwkvInRefIdeal.τ) (Cert.RwkvInRefIdeal.main (F := Ideal))) ⟨m, fun _ => 0, g⟩ (fun r => (∀ c : Dev Cert.RwkvInRefIdeal.nD,
      r.2.mem ((c.tc : Thread Cert.RwkvInRefIdeal.nD Cert.RwkvInRefIdeal.τ).loc Cert.RwkvInRefIdeal.main_arg0) = m ((c.tc : Thread Cert.RwkvInRefIdeal.nD Cert.RwkvInRefIdeal.τ).loc Cert.RwkvInRefIdeal.main_arg0)
      ∧ r.2.mem ((c.tc : Thread Cert.RwkvInRefIdeal.nD Cert.RwkvInRefIdeal.τ).loc Cert.RwkvInRefIdeal.main_arg1) = m ((c.tc : Thread Cert.RwkvInRefIdeal.nD Cert.RwkvInRefIdeal.τ).loc Cert.RwkvInRefIdeal.main_arg1))
      ∧ r.2.sem = fun _ => 0)

def quiescent_FfLast [hFfLast : Cert.FfLast.Facts] : Prop :=
  ∀ (m : (ℓ : Loc Cert.FfLast.nD Cert.FfLast.τ Cert.FfLast.sig) → Buf (Elt Bits) ℓ) (g : Dev Cert.FfLast.nD → PrngReg), Pre_FfLast m →
    θ_run (Cert.FfLast.defs (F := Bits)) (onTc (τ := Cert.FfLast.τ) (Cert.FfLast.main (F := Bits))) ⟨m, fun _ => 0, g⟩ (fun r => (∀ c : Dev Cert.FfLast.nD,
      r.2.mem ((c.tc : Thread Cert.FfLast.nD Cert.FfLast.τ).loc Cert.FfLast.main_arg0) = m ((c.tc : Thread Cert.FfLast.nD Cert.FfLast.τ).loc Cert.FfLast.main_arg0)
      ∧ r.2.mem ((c.tc : Thread Cert.FfLast.nD Cert.FfLast.τ).loc Cert.FfLast.main_arg1) = m ((c.tc : Thread Cert.FfLast.nD Cert.FfLast.τ).loc Cert.FfLast.main_arg1)
      ∧ r.2.mem ((c.tc : Thread Cert.FfLast.nD Cert.FfLast.τ).loc Cert.FfLast.main_arg2) = m ((c.tc : Thread Cert.FfLast.nD Cert.FfLast.τ).loc Cert.FfLast.main_arg2))
      ∧ r.2.sem = fun _ => 0)

def quiescent_FfLastIdeal [hFfLastIdeal : Cert.FfLastIdeal.Facts] : Prop :=
  ∀ (m : (ℓ : Loc Cert.FfLastIdeal.nD Cert.FfLastIdeal.τ Cert.FfLastIdeal.sig) → Buf (Elt Ideal) ℓ) (g : Dev Cert.FfLastIdeal.nD → PrngReg), Pre_FfLastIdeal m →
    θ_run (Cert.FfLastIdeal.defs (F := Ideal)) (onTc (τ := Cert.FfLastIdeal.τ) (Cert.FfLastIdeal.main (F := Ideal))) ⟨m, fun _ => 0, g⟩ (fun r => (∀ c : Dev Cert.FfLastIdeal.nD,
      r.2.mem ((c.tc : Thread Cert.FfLastIdeal.nD Cert.FfLastIdeal.τ).loc Cert.FfLastIdeal.main_arg0) = m ((c.tc : Thread Cert.FfLastIdeal.nD Cert.FfLastIdeal.τ).loc Cert.FfLastIdeal.main_arg0)
      ∧ r.2.mem ((c.tc : Thread Cert.FfLastIdeal.nD Cert.FfLastIdeal.τ).loc Cert.FfLastIdeal.main_arg1) = m ((c.tc : Thread Cert.FfLastIdeal.nD Cert.FfLastIdeal.τ).loc Cert.FfLastIdeal.main_arg1)
      ∧ r.2.mem ((c.tc : Thread Cert.FfLastIdeal.nD Cert.FfLastIdeal.τ).loc Cert.FfLastIdeal.main_arg2) = m ((c.tc : Thread Cert.FfLastIdeal.nD Cert.FfLastIdeal.τ).loc Cert.FfLastIdeal.main_arg2))
      ∧ r.2.sem = fun _ => 0)

def quiescent_FfLastRefIdeal [hFfLastRefIdeal : Cert.FfLastRefIdeal.Facts] : Prop :=
  ∀ (m : (ℓ : Loc Cert.FfLastRefIdeal.nD Cert.FfLastRefIdeal.τ Cert.FfLastRefIdeal.sig) → Buf (Elt Ideal) ℓ) (g : Dev Cert.FfLastRefIdeal.nD → PrngReg), Pre_FfLastRefIdeal m →
    θ_run (Cert.FfLastRefIdeal.defs (F := Ideal)) (onTc (τ := Cert.FfLastRefIdeal.τ) (Cert.FfLastRefIdeal.main (F := Ideal))) ⟨m, fun _ => 0, g⟩ (fun r => (∀ c : Dev Cert.FfLastRefIdeal.nD,
      r.2.mem ((c.tc : Thread Cert.FfLastRefIdeal.nD Cert.FfLastRefIdeal.τ).loc Cert.FfLastRefIdeal.main_arg0) = m ((c.tc : Thread Cert.FfLastRefIdeal.nD Cert.FfLastRefIdeal.τ).loc Cert.FfLastRefIdeal.main_arg0)
      ∧ r.2.mem ((c.tc : Thread Cert.FfLastRefIdeal.nD Cert.FfLastRefIdeal.τ).loc Cert.FfLastRefIdeal.main_arg1) = m ((c.tc : Thread Cert.FfLastRefIdeal.nD Cert.FfLastRefIdeal.τ).loc Cert.FfLastRefIdeal.main_arg1)
      ∧ r.2.mem ((c.tc : Thread Cert.FfLastRefIdeal.nD Cert.FfLastRefIdeal.τ).loc Cert.FfLastRefIdeal.main_arg2) = m ((c.tc : Thread Cert.FfLastRefIdeal.nD Cert.FfLastRefIdeal.τ).loc Cert.FfLastRefIdeal.main_arg2))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2)
      ∧ r.2.mem ((c.tc : Thread Cert.EvOut.nD Cert.EvOut.τ).loc Cert.EvOut.main_arg3) = m ((c.tc : Thread Cert.EvOut.nD Cert.EvOut.τ).loc Cert.EvOut.main_arg3))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
      ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1)
      ∧ r.2.mem ((c.tc : Thread Cert.EvOutRefIdeal.nD Cert.EvOutRefIdeal.τ).loc Cert.EvOutRefIdeal.main_arg2) = m ((c.tc : Thread Cert.EvOutRefIdeal.nD Cert.EvOutRefIdeal.τ).loc Cert.EvOutRefIdeal.main_arg2)
      ∧ r.2.mem ((c.tc : Thread Cert.EvOutRefIdeal.nD Cert.EvOutRefIdeal.τ).loc Cert.EvOutRefIdeal.main_arg3) = m ((c.tc : Thread Cert.EvOutRefIdeal.nD Cert.EvOutRefIdeal.τ).loc Cert.EvOutRefIdeal.main_arg3))
      ∧ r.2.sem = fun _ => 0)

def quiescent_FfMid [hFfMid : Cert.FfMid.Facts] : Prop :=
  ∀ (m : (ℓ : Loc Cert.FfMid.nD Cert.FfMid.τ Cert.FfMid.sig) → Buf (Elt Bits) ℓ) (g : Dev Cert.FfMid.nD → PrngReg), Pre_FfMid m →
    θ_run (Cert.FfMid.defs (F := Bits)) (onTc (τ := Cert.FfMid.τ) (Cert.FfMid.main (F := Bits))) ⟨m, fun _ => 0, g⟩ (fun r => (∀ c : Dev Cert.FfMid.nD,
      r.2.mem ((c.tc : Thread Cert.FfMid.nD Cert.FfMid.τ).loc Cert.FfMid.main_arg0) = m ((c.tc : Thread Cert.FfMid.nD Cert.FfMid.τ).loc Cert.FfMid.main_arg0)
      ∧ r.2.mem ((c.tc : Thread Cert.FfMid.nD Cert.FfMid.τ).loc Cert.FfMid.main_arg1) = m ((c.tc : Thread Cert.FfMid.nD Cert.FfMid.τ).loc Cert.FfMid.main_arg1)
      ∧ r.2.mem ((c.tc : Thread Cert.FfMid.nD Cert.FfMid.τ).loc Cert.FfMid.main_arg2) = m ((c.tc : Thread Cert.FfMid.nD Cert.FfMid.τ).loc Cert.FfMid.main_arg2))
      ∧ r.2.sem = fun _ => 0)

def quiescent_FfMidIdeal [hFfMidIdeal : Cert.FfMidIdeal.Facts] : Prop :=
  ∀ (m : (ℓ : Loc Cert.FfMidIdeal.nD Cert.FfMidIdeal.τ Cert.FfMidIdeal.sig) → Buf (Elt Ideal) ℓ) (g : Dev Cert.FfMidIdeal.nD → PrngReg), Pre_FfMidIdeal m →
    θ_run (Cert.FfMidIdeal.defs (F := Ideal)) (onTc (τ := Cert.FfMidIdeal.τ) (Cert.FfMidIdeal.main (F := Ideal))) ⟨m, fun _ => 0, g⟩ (fun r => (∀ c : Dev Cert.FfMidIdeal.nD,
      r.2.mem ((c.tc : Thread Cert.FfMidIdeal.nD Cert.FfMidIdeal.τ).loc Cert.FfMidIdeal.main_arg0) = m ((c.tc : Thread Cert.FfMidIdeal.nD Cert.FfMidIdeal.τ).loc Cert.FfMidIdeal.main_arg0)
      ∧ r.2.mem ((c.tc : Thread Cert.FfMidIdeal.nD Cert.FfMidIdeal.τ).loc Cert.FfMidIdeal.main_arg1) = m ((c.tc : Thread Cert.FfMidIdeal.nD Cert.FfMidIdeal.τ).loc Cert.FfMidIdeal.main_arg1)
      ∧ r.2.mem ((c.tc : Thread Cert.FfMidIdeal.nD Cert.FfMidIdeal.τ).loc Cert.FfMidIdeal.main_arg2) = m ((c.tc : Thread Cert.FfMidIdeal.nD Cert.FfMidIdeal.τ).loc Cert.FfMidIdeal.main_arg2))
      ∧ r.2.sem = fun _ => 0)

def quiescent_FfMidRefIdeal [hFfMidRefIdeal : Cert.FfMidRefIdeal.Facts] : Prop :=
  ∀ (m : (ℓ : Loc Cert.FfMidRefIdeal.nD Cert.FfMidRefIdeal.τ Cert.FfMidRefIdeal.sig) → Buf (Elt Ideal) ℓ) (g : Dev Cert.FfMidRefIdeal.nD → PrngReg), Pre_FfMidRefIdeal m →
    θ_run (Cert.FfMidRefIdeal.defs (F := Ideal)) (onTc (τ := Cert.FfMidRefIdeal.τ) (Cert.FfMidRefIdeal.main (F := Ideal))) ⟨m, fun _ => 0, g⟩ (fun r => (∀ c : Dev Cert.FfMidRefIdeal.nD,
      r.2.mem ((c.tc : Thread Cert.FfMidRefIdeal.nD Cert.FfMidRefIdeal.τ).loc Cert.FfMidRefIdeal.main_arg0) = m ((c.tc : Thread Cert.FfMidRefIdeal.nD Cert.FfMidRefIdeal.τ).loc Cert.FfMidRefIdeal.main_arg0)
      ∧ r.2.mem ((c.tc : Thread Cert.FfMidRefIdeal.nD Cert.FfMidRefIdeal.τ).loc Cert.FfMidRefIdeal.main_arg1) = m ((c.tc : Thread Cert.FfMidRefIdeal.nD Cert.FfMidRefIdeal.τ).loc Cert.FfMidRefIdeal.main_arg1)
      ∧ r.2.mem ((c.tc : Thread Cert.FfMidRefIdeal.nD Cert.FfMidRefIdeal.τ).loc Cert.FfMidRefIdeal.main_arg2) = m ((c.tc : Thread Cert.FfMidRefIdeal.nD Cert.FfMidRefIdeal.τ).loc Cert.FfMidRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v2) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1))

def preserves_Attn_AttnIdeal : Prop :=
  IdealRules.named_const.Statement Cert.AttnIdeal.κ "mask" .f32 0xF149F2CA#32 ⊥

def algebraic_AttnIdeal_AttnRefIdeal_pre_finite_args [hAttnIdeal : Cert.AttnIdeal.Facts] [hAttnRefIdeal : Cert.AttnRefIdeal.Facts] [hPre_finite_args : Cert.Pre_finite_args.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_args m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)) (v3 : (c : Dev Cert.AttnIdeal.nD) → Buf (Elt Ideal) ((c.tc : Thread Cert.AttnIdeal.nD Cert.AttnIdeal.τ).loc Cert.AttnIdeal.main_v0_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_v0_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v181) = v0 c
          ∧ r.2.mem ((c.tc : Thread Cert.AttnRefIdeal.nD Cert.AttnRefIdeal.τ).loc Cert.AttnRefIdeal.main_v180) = v1 c
          ∧ r.2.mem ((c.tc : Thread Cert.AttnRefIdeal.nD Cert.AttnRefIdeal.τ).loc Cert.AttnRefIdeal.main_v179) = v2 c
          ∧ r.2.mem ((c.tc : Thread Cert.AttnRefIdeal.nD Cert.AttnRefIdeal.τ).loc Cert.AttnRefIdeal.main_v183) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)
      ∧ m' ((c.tc : Thread Cert.RmsRefIdeal.nD Cert.RmsRefIdeal.τ).loc Cert.RmsRefIdeal.main_arg4) = m ((c.tc : Thread Cert.RmsIdeal.nD Cert.RmsIdeal.τ).loc Cert.RmsIdeal.main_arg4)
      ∧ m' ((c.tc : Thread Cert.RmsRefIdeal.nD Cert.RmsRefIdeal.τ).loc Cert.RmsRefIdeal.main_arg5) = m ((c.tc : Thread Cert.RmsIdeal.nD Cert.RmsIdeal.τ).loc Cert.RmsIdeal.main_arg5)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3)
          ∧ r.2.mem ((c.tc : Thread Cert.RmsIdeal.nD Cert.RmsIdeal.τ).loc Cert.RmsIdeal.main_arg4) = m ((c.tc : Thread Cert.RmsIdeal.nD Cert.RmsIdeal.τ).loc Cert.RmsIdeal.main_arg4)
          ∧ r.2.mem ((c.tc : Thread Cert.RmsIdeal.nD Cert.RmsIdeal.τ).loc Cert.RmsIdeal.main_arg5) = m ((c.tc : Thread Cert.RmsIdeal.nD Cert.RmsIdeal.τ).loc Cert.RmsIdeal.main_arg5))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v40) = v0 c
          ∧ r.2.mem ((c.tc : Thread Cert.RmsRefIdeal.nD Cert.RmsRefIdeal.τ).loc Cert.RmsRefIdeal.main_v23) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3)
          ∧ r.2.mem ((c.tc : Thread Cert.RmsRefIdeal.nD Cert.RmsRefIdeal.τ).loc Cert.RmsRefIdeal.main_arg4) = m' ((c.tc : Thread Cert.RmsRefIdeal.nD Cert.RmsRefIdeal.τ).loc Cert.RmsRefIdeal.main_arg4)
          ∧ r.2.mem ((c.tc : Thread Cert.RmsRefIdeal.nD Cert.RmsRefIdeal.τ).loc Cert.RmsRefIdeal.main_arg5) = m' ((c.tc : Thread Cert.RmsRefIdeal.nD Cert.RmsRefIdeal.τ).loc Cert.RmsRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v10) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Eb_EbIdeal : Prop :=
  True

def algebraic_EbIdeal_EbRefIdeal [hEbIdeal : Cert.EbIdeal.Facts] [hEbRefIdeal : Cert.EbRefIdeal.Facts] : Prop :=
  ∀ (m : (ℓ : Loc Cert.EbIdeal.nD Cert.EbIdeal.τ Cert.EbIdeal.sig) → Buf (Elt Ideal) ℓ) (g : Dev Cert.EbIdeal.nD → PrngReg)
    (m' : (ℓ : Loc Cert.EbRefIdeal.nD Cert.EbRefIdeal.τ Cert.EbRefIdeal.sig) → Buf (Elt Ideal) ℓ) (g' : Dev Cert.EbRefIdeal.nD → PrngReg), Pre_EbIdeal m →
    (∀ c : Dev Cert.EbIdeal.nD,
      m' ((c.tc : Thread Cert.EbRefIdeal.nD Cert.EbRefIdeal.τ).loc Cert.EbRefIdeal.main_arg0) = m ((c.tc : Thread Cert.EbIdeal.nD Cert.EbIdeal.τ).loc Cert.EbIdeal.main_arg0)
      ∧ m' ((c.tc : Thread Cert.EbRefIdeal.nD Cert.EbRefIdeal.τ).loc Cert.EbRefIdeal.main_arg1) = m ((c.tc : Thread Cert.EbIdeal.nD Cert.EbIdeal.τ).loc Cert.EbIdeal.main_arg1)
      ∧ m' ((c.tc : Thread Cert.EbRefIdeal.nD Cert.EbRefIdeal.τ).loc Cert.EbRefIdeal.main_arg2) = m ((c.tc : Thread Cert.EbIdeal.nD Cert.EbIdeal.τ).loc Cert.EbIdeal.main_arg2)) →
    ∃ (v0 : (c : Dev Cert.EbIdeal.nD) → Buf (Elt Ideal) ((c.tc : Thread Cert.EbIdeal.nD Cert.EbIdeal.τ).loc Cert.EbIdeal.main_v0_0)) (v1 : (c : Dev Cert.EbIdeal.nD) → Buf (Elt Ideal) ((c.tc : Thread Cert.EbIdeal.nD Cert.EbIdeal.τ).loc Cert.EbIdeal.main_v0_1)) (v2 : (c : Dev Cert.EbIdeal.nD) → Buf (Elt Ideal) ((c.tc : Thread Cert.EbIdeal.nD Cert.EbIdeal.τ).loc Cert.EbIdeal.main_v0_2)) (v3 : (c : Dev Cert.EbIdeal.nD) → Buf (Elt Ideal) ((c.tc : Thread Cert.EbIdeal.nD Cert.EbIdeal.τ).loc Cert.EbIdeal.main_v0_3)),
      θ_run (Cert.EbIdeal.defs (F := Ideal)) (onTc (τ := Cert.EbIdeal.τ) (Cert.EbIdeal.main (F := Ideal))) ⟨m, fun _ => 0, g⟩ (fun r => ∀ c : Dev Cert.EbIdeal.nD,
          r.2.mem ((c.tc : Thread Cert.EbIdeal.nD Cert.EbIdeal.τ).loc Cert.EbIdeal.main_v0_0) = v0 c
          ∧ r.2.mem ((c.tc : Thread Cert.EbIdeal.nD Cert.EbIdeal.τ).loc Cert.EbIdeal.main_v0_1) = v1 c
          ∧ r.2.mem ((c.tc : Thread Cert.EbIdeal.nD Cert.EbIdeal.τ).loc Cert.EbIdeal.main_v0_2) = v2 c
          ∧ r.2.mem ((c.tc : Thread Cert.EbIdeal.nD Cert.EbIdeal.τ).loc Cert.EbIdeal.main_v0_3) = v3 c
          ∧ r.2.mem ((c.tc : Thread Cert.EbIdeal.nD Cert.EbIdeal.τ).loc Cert.EbIdeal.main_arg0) = m ((c.tc : Thread Cert.EbIdeal.nD Cert.EbIdeal.τ).loc Cert.EbIdeal.main_arg0)
          ∧ r.2.mem ((c.tc : Thread Cert.EbIdeal.nD Cert.EbIdeal.τ).loc Cert.EbIdeal.main_arg1) = m ((c.tc : Thread Cert.EbIdeal.nD Cert.EbIdeal.τ).loc Cert.EbIdeal.main_arg1)
          ∧ r.2.mem ((c.tc : Thread Cert.EbIdeal.nD Cert.EbIdeal.τ).loc Cert.EbIdeal.main_arg2) = m ((c.tc : Thread Cert.EbIdeal.nD Cert.EbIdeal.τ).loc Cert.EbIdeal.main_arg2))
      ∧ θ_run (Cert.EbRefIdeal.defs (F := Ideal)) (onTc (τ := Cert.EbRefIdeal.τ) (Cert.EbRefIdeal.main (F := Ideal))) ⟨m', fun _ => 0, g'⟩ (fun r => ∀ c : Dev Cert.EbRefIdeal.nD,
          r.2.mem ((c.tc : Thread Cert.EbRefIdeal.nD Cert.EbRefIdeal.τ).loc Cert.EbRefIdeal.main_v26) = v0 c
          ∧ r.2.mem ((c.tc : Thread Cert.EbRefIdeal.nD Cert.EbRefIdeal.τ).loc Cert.EbRefIdeal.main_v55) = v1 c
          ∧ r.2.mem ((c.tc : Thread Cert.EbRefIdeal.nD Cert.EbRefIdeal.τ).loc Cert.EbRefIdeal.main_v54) = v2 c
          ∧ r.2.mem ((c.tc : Thread Cert.EbRefIdeal.nD Cert.EbRefIdeal.τ).loc Cert.EbRefIdeal.main_v51) = v3 c
          ∧ r.2.mem ((c.tc : Thread Cert.EbRefIdeal.nD Cert.EbRefIdeal.τ).loc Cert.EbRefIdeal.main_arg0) = m' ((c.tc : Thread Cert.EbRefIdeal.nD Cert.EbRefIdeal.τ).loc Cert.EbRefIdeal.main_arg0)
          ∧ r.2.mem ((c.tc : Thread Cert.EbRefIdeal.nD Cert.EbRefIdeal.τ).loc Cert.EbRefIdeal.main_arg1) = m' ((c.tc : Thread Cert.EbRefIdeal.nD Cert.EbRefIdeal.τ).loc Cert.EbRefIdeal.main_arg1)
          ∧ r.2.mem ((c.tc : Thread Cert.EbRefIdeal.nD Cert.EbRefIdeal.τ).loc Cert.EbRefIdeal.main_arg2) = m' ((c.tc : Thread Cert.EbRefIdeal.nD Cert.EbRefIdeal.τ).loc Cert.EbRefIdeal.main_arg2))

def preserves_EvDy_EvDyIdeal : Prop :=
  True

def algebraic_EvDyIdeal_EvDyRefIdeal [hEvDyIdeal : Cert.EvDyIdeal.Facts] [hEvDyRefIdeal : Cert.EvDyRefIdeal.Facts] : Prop :=
  ∀ (m : (ℓ : Loc Cert.EvDyIdeal.nD Cert.EvDyIdeal.τ Cert.EvDyIdeal.sig) → Buf (Elt Ideal) ℓ) (g : Dev Cert.EvDyIdeal.nD → PrngReg)
    (m' : (ℓ : Loc Cert.EvDyRefIdeal.nD Cert.EvDyRefIdeal.τ Cert.EvDyRefIdeal.sig) → Buf (Elt Ideal) ℓ) (g' : Dev Cert.EvDyRefIdeal.nD → PrngReg), Pre_EvDyIdeal m →
    (∀ c : Dev Cert.EvDyIdeal.nD,
      m' ((c.tc : Thread Cert.EvDyRefIdeal.nD Cert.EvDyRefIdeal.τ).loc Cert.EvDyRefIdeal.main_arg0) = m ((c.tc : Thread Cert.EvDyIdeal.nD Cert.EvDyIdeal.τ).loc Cert.EvDyIdeal.main_arg0)
      ∧ m' ((c.tc : Thread Cert.EvDyRefIdeal.nD Cert.EvDyRefIdeal.τ).loc Cert.EvDyRefIdeal.main_arg1) = m ((c.tc : Thread Cert.EvDyIdeal.nD Cert.EvDyIdeal.τ).loc Cert.EvDyIdeal.main_arg1)) →
    ∃ (v0 : (c : Dev Cert.EvDyIdeal.nD) → Buf (Elt Ideal) ((c.tc : Thread Cert.EvDyIdeal.nD Cert.EvDyIdeal.τ).loc Cert.EvDyIdeal.main_v0)),
      θ_run (Cert.EvDyIdeal.defs (F := Ideal)) (onTc (τ := Cert.EvDyIdeal.τ) (Cert.EvDyIdeal.main (F := Ideal))) ⟨m, fun _ => 0, g⟩ (fun r => ∀ c : Dev Cert.EvDyIdeal.nD,
          r.2.mem ((c.tc : Thread Cert.EvDyIdeal.nD Cert.EvDyIdeal.τ).loc Cert.EvDyIdeal.main_v0) = v0 c
          ∧ r.2.mem ((c.tc : Thread Cert.EvDyIdeal.nD Cert.EvDyIdeal.τ).loc Cert.EvDyIdeal.main_arg0) = m ((c.tc : Thread Cert.EvDyIdeal.nD Cert.EvDyIdeal.τ).loc Cert.EvDyIdeal.main_arg0)
          ∧ r.2.mem ((c.tc : Thread Cert.EvDyIdeal.nD Cert.EvDyIdeal.τ).loc Cert.EvDyIdeal.main_arg1) = m ((c.tc : Thread Cert.EvDyIdeal.nD Cert.EvDyIdeal.τ).loc Cert.EvDyIdeal.main_arg1))
      ∧ θ_run (Cert.EvDyRefIdeal.defs (F := Ideal)) (onTc (τ := Cert.EvDyRefIdeal.τ) (Cert.EvDyRefIdeal.main (F := Ideal))) ⟨m', fun _ => 0, g'⟩ (fun r => ∀ c : Dev Cert.EvDyRefIdeal.nD,
          r.2.mem ((c.tc : Thread Cert.EvDyRefIdeal.nD Cert.EvDyRefIdeal.τ).loc Cert.EvDyRefIdeal.main_v2) = v0 c
          ∧ r.2.mem ((c.tc : Thread Cert.EvDyRefIdeal.nD Cert.EvDyRefIdeal.τ).loc Cert.EvDyRefIdeal.main_arg0) = m' ((c.tc : Thread Cert.EvDyRefIdeal.nD Cert.EvDyRefIdeal.τ).loc Cert.EvDyRefIdeal.main_arg0)
          ∧ r.2.mem ((c.tc : Thread Cert.EvDyRefIdeal.nD Cert.EvDyRefIdeal.τ).loc Cert.EvDyRefIdeal.main_arg1) = m' ((c.tc : Thread Cert.EvDyRefIdeal.nD Cert.EvDyRefIdeal.τ).loc Cert.EvDyRefIdeal.main_arg1))

def preserves_EvGout_EvGoutIdeal : Prop :=
  True

def algebraic_EvGoutIdeal_EvGoutRefIdeal [hEvGoutIdeal : Cert.EvGoutIdeal.Facts] [hEvGoutRefIdeal : Cert.EvGoutRefIdeal.Facts] : Prop :=
  ∀ (m : (ℓ : Loc Cert.EvGoutIdeal.nD Cert.EvGoutIdeal.τ Cert.EvGoutIdeal.sig) → Buf (Elt Ideal) ℓ) (g : Dev Cert.EvGoutIdeal.nD → PrngReg)
    (m' : (ℓ : Loc Cert.EvGoutRefIdeal.nD Cert.EvGoutRefIdeal.τ Cert.EvGoutRefIdeal.sig) → Buf (Elt Ideal) ℓ) (g' : Dev Cert.EvGoutRefIdeal.nD → PrngReg), Pre_EvGoutIdeal m →
    (∀ c : Dev Cert.EvGoutIdeal.nD,
      m' ((c.tc : Thread Cert.EvGoutRefIdeal.nD Cert.EvGoutRefIdeal.τ).loc Cert.EvGoutRefIdeal.main_arg0) = m ((c.tc : Thread Cert.EvGoutIdeal.nD Cert.EvGoutIdeal.τ).loc Cert.EvGoutIdeal.main_arg0)
      ∧ m' ((c.tc : Thread Cert.EvGoutRefIdeal.nD Cert.EvGoutRefIdeal.τ).loc Cert.EvGoutRefIdeal.main_arg1) = m ((c.tc : Thread Cert.EvGoutIdeal.nD Cert.EvGoutIdeal.τ).loc Cert.EvGoutIdeal.main_arg1)) →
    ∃ (v0 : (c : Dev Cert.EvGoutIdeal.nD) → Buf (Elt Ideal) ((c.tc : Thread Cert.EvGoutIdeal.nD Cert.EvGoutIdeal.τ).loc Cert.EvGoutIdeal.main_v0)),
      θ_run (Cert.EvGoutIdeal.defs (F := Ideal)) (onTc (τ := Cert.EvGoutIdeal.τ) (Cert.EvGoutIdeal.main (F := Ideal))) ⟨m, fun _ => 0, g⟩ (fun r => ∀ c : Dev Cert.EvGoutIdeal.nD,
          r.2.mem ((c.tc : Thread Cert.EvGoutIdeal.nD Cert.EvGoutIdeal.τ).loc Cert.EvGoutIdeal.main_v0) = v0 c
          ∧ r.2.mem ((c.tc : Thread Cert.EvGoutIdeal.nD Cert.EvGoutIdeal.τ).loc Cert.EvGoutIdeal.main_arg0) = m ((c.tc : Thread Cert.EvGoutIdeal.nD Cert.EvGoutIdeal.τ).loc Cert.EvGoutIdeal.main_arg0)
          ∧ r.2.mem ((c.tc : Thread Cert.EvGoutIdeal.nD Cert.EvGoutIdeal.τ).loc Cert.EvGoutIdeal.main_arg1) = m ((c.tc : Thread Cert.EvGoutIdeal.nD Cert.EvGoutIdeal.τ).loc Cert.EvGoutIdeal.main_arg1))
      ∧ θ_run (Cert.EvGoutRefIdeal.defs (F := Ideal)) (onTc (τ := Cert.EvGoutRefIdeal.τ) (Cert.EvGoutRefIdeal.main (F := Ideal))) ⟨m', fun _ => 0, g'⟩ (fun r => ∀ c : Dev Cert.EvGoutRefIdeal.nD,
          r.2.mem ((c.tc : Thread Cert.EvGoutRefIdeal.nD Cert.EvGoutRefIdeal.τ).loc Cert.EvGoutRefIdeal.main_v5) = v0 c
          ∧ r.2.mem ((c.tc : Thread Cert.EvGoutRefIdeal.nD Cert.EvGoutRefIdeal.τ).loc Cert.EvGoutRefIdeal.main_arg0) = m' ((c.tc : Thread Cert.EvGoutRefIdeal.nD Cert.EvGoutRefIdeal.τ).loc Cert.EvGoutRefIdeal.main_arg0)
          ∧ r.2.mem ((c.tc : Thread Cert.EvGoutRefIdeal.nD Cert.EvGoutRefIdeal.τ).loc Cert.EvGoutRefIdeal.main_arg1) = m' ((c.tc : Thread Cert.EvGoutRefIdeal.nD Cert.EvGoutRefIdeal.τ).loc Cert.EvGoutRefIdeal.main_arg1))

def preserves_EvGin_EvGinIdeal : Prop :=
  True

def algebraic_EvGinIdeal_EvGinRefIdeal [hEvGinIdeal : Cert.EvGinIdeal.Facts] [hEvGinRefIdeal : Cert.EvGinRefIdeal.Facts] : Prop :=
  ∀ (m : (ℓ : Loc Cert.EvGinIdeal.nD Cert.EvGinIdeal.τ Cert.EvGinIdeal.sig) → Buf (Elt Ideal) ℓ) (g : Dev Cert.EvGinIdeal.nD → PrngReg)
    (m' : (ℓ : Loc Cert.EvGinRefIdeal.nD Cert.EvGinRefIdeal.τ Cert.EvGinRefIdeal.sig) → Buf (Elt Ideal) ℓ) (g' : Dev Cert.EvGinRefIdeal.nD → PrngReg), Pre_EvGinIdeal m →
    (∀ c : Dev Cert.EvGinIdeal.nD,
      m' ((c.tc : Thread Cert.EvGinRefIdeal.nD Cert.EvGinRefIdeal.τ).loc Cert.EvGinRefIdeal.main_arg0) = m ((c.tc : Thread Cert.EvGinIdeal.nD Cert.EvGinIdeal.τ).loc Cert.EvGinIdeal.main_arg0)
      ∧ m' ((c.tc : Thread Cert.EvGinRefIdeal.nD Cert.EvGinRefIdeal.τ).loc Cert.EvGinRefIdeal.main_arg1) = m ((c.tc : Thread Cert.EvGinIdeal.nD Cert.EvGinIdeal.τ).loc Cert.EvGinIdeal.main_arg1)) →
    ∃ (v0 : (c : Dev Cert.EvGinIdeal.nD) → Buf (Elt Ideal) ((c.tc : Thread Cert.EvGinIdeal.nD Cert.EvGinIdeal.τ).loc Cert.EvGinIdeal.main_v0)),
      θ_run (Cert.EvGinIdeal.defs (F := Ideal)) (onTc (τ := Cert.EvGinIdeal.τ) (Cert.EvGinIdeal.main (F := Ideal))) ⟨m, fun _ => 0, g⟩ (fun r => ∀ c : Dev Cert.EvGinIdeal.nD,
          r.2.mem ((c.tc : Thread Cert.EvGinIdeal.nD Cert.EvGinIdeal.τ).loc Cert.EvGinIdeal.main_v0) = v0 c
          ∧ r.2.mem ((c.tc : Thread Cert.EvGinIdeal.nD Cert.EvGinIdeal.τ).loc Cert.EvGinIdeal.main_arg0) = m ((c.tc : Thread Cert.EvGinIdeal.nD Cert.EvGinIdeal.τ).loc Cert.EvGinIdeal.main_arg0)
          ∧ r.2.mem ((c.tc : Thread Cert.EvGinIdeal.nD Cert.EvGinIdeal.τ).loc Cert.EvGinIdeal.main_arg1) = m ((c.tc : Thread Cert.EvGinIdeal.nD Cert.EvGinIdeal.τ).loc Cert.EvGinIdeal.main_arg1))
      ∧ θ_run (Cert.EvGinRefIdeal.defs (F := Ideal)) (onTc (τ := Cert.EvGinRefIdeal.τ) (Cert.EvGinRefIdeal.main (F := Ideal))) ⟨m', fun _ => 0, g'⟩ (fun r => ∀ c : Dev Cert.EvGinRefIdeal.nD,
          r.2.mem ((c.tc : Thread Cert.EvGinRefIdeal.nD Cert.EvGinRefIdeal.τ).loc Cert.EvGinRefIdeal.main_v7) = v0 c
          ∧ r.2.mem ((c.tc : Thread Cert.EvGinRefIdeal.nD Cert.EvGinRefIdeal.τ).loc Cert.EvGinRefIdeal.main_arg0) = m' ((c.tc : Thread Cert.EvGinRefIdeal.nD Cert.EvGinRefIdeal.τ).loc Cert.EvGinRefIdeal.main_arg0)
          ∧ r.2.mem ((c.tc : Thread Cert.EvGinRefIdeal.nD Cert.EvGinRefIdeal.τ).loc Cert.EvGinRefIdeal.main_arg1) = m' ((c.tc : Thread Cert.EvGinRefIdeal.nD Cert.EvGinRefIdeal.τ).loc Cert.EvGinRefIdeal.main_arg1))

def preserves_EvNorm_EvNormIdeal : Prop :=
  True

def algebraic_EvNormIdeal_EvNormRefIdeal [hEvNormIdeal : Cert.EvNormIdeal.Facts] [hEvNormRefIdeal : Cert.EvNormRefIdeal.Facts] : Prop :=
  ∀ (m : (ℓ : Loc Cert.EvNormIdeal.nD Cert.EvNormIdeal.τ Cert.EvNormIdeal.sig) → Buf (Elt Ideal) ℓ) (g : Dev Cert.EvNormIdeal.nD → PrngReg)
    (m' : (ℓ : Loc Cert.EvNormRefIdeal.nD Cert.EvNormRefIdeal.τ Cert.EvNormRefIdeal.sig) → Buf (Elt Ideal) ℓ) (g' : Dev Cert.EvNormRefIdeal.nD → PrngReg), Pre_EvNormIdeal m →
    (∀ c : Dev Cert.EvNormIdeal.nD,
      m' ((c.tc : Thread Cert.EvNormRefIdeal.nD Cert.EvNormRefIdeal.τ).loc Cert.EvNormRefIdeal.main_arg0) = m ((c.tc : Thread Cert.EvNormIdeal.nD Cert.EvNormIdeal.τ).loc Cert.EvNormIdeal.main_arg0)
      ∧ m' ((c.tc : Thread Cert.EvNormRefIdeal.nD Cert.EvNormRefIdeal.τ).loc Cert.EvNormRefIdeal.main_arg1) = m ((c.tc : Thread Cert.EvNormIdeal.nD Cert.EvNormIdeal.τ).loc Cert.EvNormIdeal.main_arg1)
      ∧ m' ((c.tc : Thread Cert.EvNormRefIdeal.nD Cert.EvNormRefIdeal.τ).loc Cert.EvNormRefIdeal.main_arg2) = m ((c.tc : Thread Cert.EvNormIdeal.nD Cert.EvNormIdeal.τ).loc Cert.EvNormIdeal.main_arg2)
      ∧ m' ((c.tc : Thread Cert.EvNormRefIdeal.nD Cert.EvNormRefIdeal.τ).loc Cert.EvNormRefIdeal.main_arg3) = m ((c.tc : Thread Cert.EvNormIdeal.nD Cert.EvNormIdeal.τ).loc Cert.EvNormIdeal.main_arg3)
      ∧ m' ((c.tc : Thread Cert.EvNormRefIdeal.nD Cert.EvNormRefIdeal.τ).loc Cert.EvNormRefIdeal.main_arg4) = m ((c.tc : Thread Cert.EvNormIdeal.nD Cert.EvNormIdeal.τ).loc Cert.EvNormIdeal.main_arg4)) →
    ∃ (v0 : (c : Dev Cert.EvNormIdeal.nD) → Buf (Elt Ideal) ((c.tc : Thread Cert.EvNormIdeal.nD Cert.EvNormIdeal.τ).loc Cert.EvNormIdeal.main_v0_0)) (v1 : (c : Dev Cert.EvNormIdeal.nD) → Buf (Elt Ideal) ((c.tc : Thread Cert.EvNormIdeal.nD Cert.EvNormIdeal.τ).loc Cert.EvNormIdeal.main_v0_1)),
      θ_run (Cert.EvNormIdeal.defs (F := Ideal)) (onTc (τ := Cert.EvNormIdeal.τ) (Cert.EvNormIdeal.main (F := Ideal))) ⟨m, fun _ => 0, g⟩ (fun r => ∀ c : Dev Cert.EvNormIdeal.nD,
          r.2.mem ((c.tc : Thread Cert.EvNormIdeal.nD Cert.EvNormIdeal.τ).loc Cert.EvNormIdeal.main_v0_0) = v0 c
          ∧ r.2.mem ((c.tc : Thread Cert.EvNormIdeal.nD Cert.EvNormIdeal.τ).loc Cert.EvNormIdeal.main_v0_1) = v1 c
          ∧ r.2.mem ((c.tc : Thread Cert.EvNormIdeal.nD Cert.EvNormIdeal.τ).loc Cert.EvNormIdeal.main_arg0) = m ((c.tc : Thread Cert.EvNormIdeal.nD Cert.EvNormIdeal.τ).loc Cert.EvNormIdeal.main_arg0)
          ∧ r.2.mem ((c.tc : Thread Cert.EvNormIdeal.nD Cert.EvNormIdeal.τ).loc Cert.EvNormIdeal.main_arg1) = m ((c.tc : Thread Cert.EvNormIdeal.nD Cert.EvNormIdeal.τ).loc Cert.EvNormIdeal.main_arg1)
          ∧ r.2.mem ((c.tc : Thread Cert.EvNormIdeal.nD Cert.EvNormIdeal.τ).loc Cert.EvNormIdeal.main_arg2) = m ((c.tc : Thread Cert.EvNormIdeal.nD Cert.EvNormIdeal.τ).loc Cert.EvNormIdeal.main_arg2)
          ∧ r.2.mem ((c.tc : Thread Cert.EvNormIdeal.nD Cert.EvNormIdeal.τ).loc Cert.EvNormIdeal.main_arg3) = m ((c.tc : Thread Cert.EvNormIdeal.nD Cert.EvNormIdeal.τ).loc Cert.EvNormIdeal.main_arg3)
          ∧ r.2.mem ((c.tc : Thread Cert.EvNormIdeal.nD Cert.EvNormIdeal.τ).loc Cert.EvNormIdeal.main_arg4) = m ((c.tc : Thread Cert.EvNormIdeal.nD Cert.EvNormIdeal.τ).loc Cert.EvNormIdeal.main_arg4))
      ∧ θ_run (Cert.EvNormRefIdeal.defs (F := Ideal)) (onTc (τ := Cert.EvNormRefIdeal.τ) (Cert.EvNormRefIdeal.main (F := Ideal))) ⟨m', fun _ => 0, g'⟩ (fun r => ∀ c : Dev Cert.EvNormRefIdeal.nD,
          r.2.mem ((c.tc : Thread Cert.EvNormRefIdeal.nD Cert.EvNormRefIdeal.τ).loc Cert.EvNormRefIdeal.main_v37) = v0 c
          ∧ r.2.mem ((c.tc : Thread Cert.EvNormRefIdeal.nD Cert.EvNormRefIdeal.τ).loc Cert.EvNormRefIdeal.main_v20) = v1 c
          ∧ r.2.mem ((c.tc : Thread Cert.EvNormRefIdeal.nD Cert.EvNormRefIdeal.τ).loc Cert.EvNormRefIdeal.main_arg0) = m' ((c.tc : Thread Cert.EvNormRefIdeal.nD Cert.EvNormRefIdeal.τ).loc Cert.EvNormRefIdeal.main_arg0)
          ∧ r.2.mem ((c.tc : Thread Cert.EvNormRefIdeal.nD Cert.EvNormRefIdeal.τ).loc Cert.EvNormRefIdeal.main_arg1) = m' ((c.tc : Thread Cert.EvNormRefIdeal.nD Cert.EvNormRefIdeal.τ).loc Cert.EvNormRefIdeal.main_arg1)
          ∧ r.2.mem ((c.tc : Thread Cert.EvNormRefIdeal.nD Cert.EvNormRefIdeal.τ).loc Cert.EvNormRefIdeal.main_arg2) = m' ((c.tc : Thread Cert.EvNormRefIdeal.nD Cert.EvNormRefIdeal.τ).loc Cert.EvNormRefIdeal.main_arg2)
          ∧ r.2.mem ((c.tc : Thread Cert.EvNormRefIdeal.nD Cert.EvNormRefIdeal.τ).loc Cert.EvNormRefIdeal.main_arg3) = m' ((c.tc : Thread Cert.EvNormRefIdeal.nD Cert.EvNormRefIdeal.τ).loc Cert.EvNormRefIdeal.main_arg3)
          ∧ r.2.mem ((c.tc : Thread Cert.EvNormRefIdeal.nD Cert.EvNormRefIdeal.τ).loc Cert.EvNormRefIdeal.main_arg4) = m' ((c.tc : Thread Cert.EvNormRefIdeal.nD Cert.EvNormRefIdeal.τ).loc Cert.EvNormRefIdeal.main_arg4))

def preserves_OdGin_OdGinIdeal : Prop :=
  True

def algebraic_OdGinIdeal_OdGinRefIdeal [hOdGinIdeal : Cert.OdGinIdeal.Facts] [hOdGinRefIdeal : Cert.OdGinRefIdeal.Facts] : Prop :=
  ∀ (m : (ℓ : Loc Cert.OdGinIdeal.nD Cert.OdGinIdeal.τ Cert.OdGinIdeal.sig) → Buf (Elt Ideal) ℓ) (g : Dev Cert.OdGinIdeal.nD → PrngReg)
    (m' : (ℓ : Loc Cert.OdGinRefIdeal.nD Cert.OdGinRefIdeal.τ Cert.OdGinRefIdeal.sig) → Buf (Elt Ideal) ℓ) (g' : Dev Cert.OdGinRefIdeal.nD → PrngReg), Pre_OdGinIdeal m →
    (∀ c : Dev Cert.OdGinIdeal.nD,
      m' ((c.tc : Thread Cert.OdGinRefIdeal.nD Cert.OdGinRefIdeal.τ).loc Cert.OdGinRefIdeal.main_arg0) = m ((c.tc : Thread Cert.OdGinIdeal.nD Cert.OdGinIdeal.τ).loc Cert.OdGinIdeal.main_arg0)
      ∧ m' ((c.tc : Thread Cert.OdGinRefIdeal.nD Cert.OdGinRefIdeal.τ).loc Cert.OdGinRefIdeal.main_arg1) = m ((c.tc : Thread Cert.OdGinIdeal.nD Cert.OdGinIdeal.τ).loc Cert.OdGinIdeal.main_arg1)
      ∧ m' ((c.tc : Thread Cert.OdGinRefIdeal.nD Cert.OdGinRefIdeal.τ).loc Cert.OdGinRefIdeal.main_arg2) = m ((c.tc : Thread Cert.OdGinIdeal.nD Cert.OdGinIdeal.τ).loc Cert.OdGinIdeal.main_arg2)) →
    ∃ (v0 : (c : Dev Cert.OdGinIdeal.nD) → Buf (Elt Ideal) ((c.tc : Thread Cert.OdGinIdeal.nD Cert.OdGinIdeal.τ).loc Cert.OdGinIdeal.main_v1)),
      θ_run (Cert.OdGinIdeal.defs (F := Ideal)) (onTc (τ := Cert.OdGinIdeal.τ) (Cert.OdGinIdeal.main (F := Ideal))) ⟨m, fun _ => 0, g⟩ (fun r => ∀ c : Dev Cert.OdGinIdeal.nD,
          r.2.mem ((c.tc : Thread Cert.OdGinIdeal.nD Cert.OdGinIdeal.τ).loc Cert.OdGinIdeal.main_v1) = v0 c
          ∧ r.2.mem ((c.tc : Thread Cert.OdGinIdeal.nD Cert.OdGinIdeal.τ).loc Cert.OdGinIdeal.main_arg0) = m ((c.tc : Thread Cert.OdGinIdeal.nD Cert.OdGinIdeal.τ).loc Cert.OdGinIdeal.main_arg0)
          ∧ r.2.mem ((c.tc : Thread Cert.OdGinIdeal.nD Cert.OdGinIdeal.τ).loc Cert.OdGinIdeal.main_arg1) = m ((c.tc : Thread Cert.OdGinIdeal.nD Cert.OdGinIdeal.τ).loc Cert.OdGinIdeal.main_arg1)
          ∧ r.2.mem ((c.tc : Thread Cert.OdGinIdeal.nD Cert.OdGinIdeal.τ).loc Cert.OdGinIdeal.main_arg2) = m ((c.tc : Thread Cert.OdGinIdeal.nD Cert.OdGinIdeal.τ).loc Cert.OdGinIdeal.main_arg2))
      ∧ θ_run (Cert.OdGinRefIdeal.defs (F := Ideal)) (onTc (τ := Cert.OdGinRefIdeal.τ) (Cert.OdGinRefIdeal.main (F := Ideal))) ⟨m', fun _ => 0, g'⟩ (fun r => ∀ c : Dev Cert.OdGinRefIdeal.nD,
          r.2.mem ((c.tc : Thread Cert.OdGinRefIdeal.nD Cert.OdGinRefIdeal.τ).loc Cert.OdGinRefIdeal.main_v10) = v0 c
          ∧ r.2.mem ((c.tc : Thread Cert.OdGinRefIdeal.nD Cert.OdGinRefIdeal.τ).loc Cert.OdGinRefIdeal.main_arg0) = m' ((c.tc : Thread Cert.OdGinRefIdeal.nD Cert.OdGinRefIdeal.τ).loc Cert.OdGinRefIdeal.main_arg0)
          ∧ r.2.mem ((c.tc : Thread Cert.OdGinRefIdeal.nD Cert.OdGinRefIdeal.τ).loc Cert.OdGinRefIdeal.main_arg1) = m' ((c.tc : Thread Cert.OdGinRefIdeal.nD Cert.OdGinRefIdeal.τ).loc Cert.OdGinRefIdeal.main_arg1)
          ∧ r.2.mem ((c.tc : Thread Cert.OdGinRefIdeal.nD Cert.OdGinRefIdeal.τ).loc Cert.OdGinRefIdeal.main_arg2) = m' ((c.tc : Thread Cert.OdGinRefIdeal.nD Cert.OdGinRefIdeal.τ).loc Cert.OdGinRefIdeal.main_arg2))

def preserves_OdAtt_OdAttIdeal : Prop :=
  True

def algebraic_OdAttIdeal_OdAttRefIdeal [hOdAttIdeal : Cert.OdAttIdeal.Facts] [hOdAttRefIdeal : Cert.OdAttRefIdeal.Facts] : Prop :=
  ∀ (m : (ℓ : Loc Cert.OdAttIdeal.nD Cert.OdAttIdeal.τ Cert.OdAttIdeal.sig) → Buf (Elt Ideal) ℓ) (g : Dev Cert.OdAttIdeal.nD → PrngReg)
    (m' : (ℓ : Loc Cert.OdAttRefIdeal.nD Cert.OdAttRefIdeal.τ Cert.OdAttRefIdeal.sig) → Buf (Elt Ideal) ℓ) (g' : Dev Cert.OdAttRefIdeal.nD → PrngReg), Pre_OdAttIdeal m →
    (∀ c : Dev Cert.OdAttIdeal.nD,
      m' ((c.tc : Thread Cert.OdAttRefIdeal.nD Cert.OdAttRefIdeal.τ).loc Cert.OdAttRefIdeal.main_arg0) = m ((c.tc : Thread Cert.OdAttIdeal.nD Cert.OdAttIdeal.τ).loc Cert.OdAttIdeal.main_arg0)
      ∧ m' ((c.tc : Thread Cert.OdAttRefIdeal.nD Cert.OdAttRefIdeal.τ).loc Cert.OdAttRefIdeal.main_arg1) = m ((c.tc : Thread Cert.OdAttIdeal.nD Cert.OdAttIdeal.τ).loc Cert.OdAttIdeal.main_arg1)) →
    ∃ (v0 : (c : Dev Cert.OdAttIdeal.nD) → Buf (Elt Ideal) ((c.tc : Thread Cert.OdAttIdeal.nD Cert.OdAttIdeal.τ).loc Cert.OdAttIdeal.main_v0)),
      θ_run (Cert.OdAttIdeal.defs (F := Ideal)) (onTc (τ := Cert.OdAttIdeal.τ) (Cert.OdAttIdeal.main (F := Ideal))) ⟨m, fun _ => 0, g⟩ (fun r => ∀ c : Dev Cert.OdAttIdeal.nD,
          r.2.mem ((c.tc : Thread Cert.OdAttIdeal.nD Cert.OdAttIdeal.τ).loc Cert.OdAttIdeal.main_v0) = v0 c
          ∧ r.2.mem ((c.tc : Thread Cert.OdAttIdeal.nD Cert.OdAttIdeal.τ).loc Cert.OdAttIdeal.main_arg0) = m ((c.tc : Thread Cert.OdAttIdeal.nD Cert.OdAttIdeal.τ).loc Cert.OdAttIdeal.main_arg0)
          ∧ r.2.mem ((c.tc : Thread Cert.OdAttIdeal.nD Cert.OdAttIdeal.τ).loc Cert.OdAttIdeal.main_arg1) = m ((c.tc : Thread Cert.OdAttIdeal.nD Cert.OdAttIdeal.τ).loc Cert.OdAttIdeal.main_arg1))
      ∧ θ_run (Cert.OdAttRefIdeal.defs (F := Ideal)) (onTc (τ := Cert.OdAttRefIdeal.τ) (Cert.OdAttRefIdeal.main (F := Ideal))) ⟨m', fun _ => 0, g'⟩ (fun r => ∀ c : Dev Cert.OdAttRefIdeal.nD,
          r.2.mem ((c.tc : Thread Cert.OdAttRefIdeal.nD Cert.OdAttRefIdeal.τ).loc Cert.OdAttRefIdeal.main_v4) = v0 c
          ∧ r.2.mem ((c.tc : Thread Cert.OdAttRefIdeal.nD Cert.OdAttRefIdeal.τ).loc Cert.OdAttRefIdeal.main_arg0) = m' ((c.tc : Thread Cert.OdAttRefIdeal.nD Cert.OdAttRefIdeal.τ).loc Cert.OdAttRefIdeal.main_arg0)
          ∧ r.2.mem ((c.tc : Thread Cert.OdAttRefIdeal.nD Cert.OdAttRefIdeal.τ).loc Cert.OdAttRefIdeal.main_arg1) = m' ((c.tc : Thread Cert.OdAttRefIdeal.nD Cert.OdAttRefIdeal.τ).loc Cert.OdAttRefIdeal.main_arg1))

def preserves_OdNorm_OdNormIdeal : Prop :=
  True

def algebraic_OdNormIdeal_OdNormRefIdeal [hOdNormIdeal : Cert.OdNormIdeal.Facts] [hOdNormRefIdeal : Cert.OdNormRefIdeal.Facts] : Prop :=
  ∀ (m : (ℓ : Loc Cert.OdNormIdeal.nD Cert.OdNormIdeal.τ Cert.OdNormIdeal.sig) → Buf (Elt Ideal) ℓ) (g : Dev Cert.OdNormIdeal.nD → PrngReg)
    (m' : (ℓ : Loc Cert.OdNormRefIdeal.nD Cert.OdNormRefIdeal.τ Cert.OdNormRefIdeal.sig) → Buf (Elt Ideal) ℓ) (g' : Dev Cert.OdNormRefIdeal.nD → PrngReg), Pre_OdNormIdeal m →
    (∀ c : Dev Cert.OdNormIdeal.nD,
      m' ((c.tc : Thread Cert.OdNormRefIdeal.nD Cert.OdNormRefIdeal.τ).loc Cert.OdNormRefIdeal.main_arg0) = m ((c.tc : Thread Cert.OdNormIdeal.nD Cert.OdNormIdeal.τ).loc Cert.OdNormIdeal.main_arg0)
      ∧ m' ((c.tc : Thread Cert.OdNormRefIdeal.nD Cert.OdNormRefIdeal.τ).loc Cert.OdNormRefIdeal.main_arg1) = m ((c.tc : Thread Cert.OdNormIdeal.nD Cert.OdNormIdeal.τ).loc Cert.OdNormIdeal.main_arg1)
      ∧ m' ((c.tc : Thread Cert.OdNormRefIdeal.nD Cert.OdNormRefIdeal.τ).loc Cert.OdNormRefIdeal.main_arg2) = m ((c.tc : Thread Cert.OdNormIdeal.nD Cert.OdNormIdeal.τ).loc Cert.OdNormIdeal.main_arg2)
      ∧ m' ((c.tc : Thread Cert.OdNormRefIdeal.nD Cert.OdNormRefIdeal.τ).loc Cert.OdNormRefIdeal.main_arg3) = m ((c.tc : Thread Cert.OdNormIdeal.nD Cert.OdNormIdeal.τ).loc Cert.OdNormIdeal.main_arg3)
      ∧ m' ((c.tc : Thread Cert.OdNormRefIdeal.nD Cert.OdNormRefIdeal.τ).loc Cert.OdNormRefIdeal.main_arg4) = m ((c.tc : Thread Cert.OdNormIdeal.nD Cert.OdNormIdeal.τ).loc Cert.OdNormIdeal.main_arg4)
      ∧ m' ((c.tc : Thread Cert.OdNormRefIdeal.nD Cert.OdNormRefIdeal.τ).loc Cert.OdNormRefIdeal.main_arg5) = m ((c.tc : Thread Cert.OdNormIdeal.nD Cert.OdNormIdeal.τ).loc Cert.OdNormIdeal.main_arg5)) →
    ∃ (v0 : (c : Dev Cert.OdNormIdeal.nD) → Buf (Elt Ideal) ((c.tc : Thread Cert.OdNormIdeal.nD Cert.OdNormIdeal.τ).loc Cert.OdNormIdeal.main_v0_0)) (v1 : (c : Dev Cert.OdNormIdeal.nD) → Buf (Elt Ideal) ((c.tc : Thread Cert.OdNormIdeal.nD Cert.OdNormIdeal.τ).loc Cert.OdNormIdeal.main_v0_1)),
      θ_run (Cert.OdNormIdeal.defs (F := Ideal)) (onTc (τ := Cert.OdNormIdeal.τ) (Cert.OdNormIdeal.main (F := Ideal))) ⟨m, fun _ => 0, g⟩ (fun r => ∀ c : Dev Cert.OdNormIdeal.nD,
          r.2.mem ((c.tc : Thread Cert.OdNormIdeal.nD Cert.OdNormIdeal.τ).loc Cert.OdNormIdeal.main_v0_0) = v0 c
          ∧ r.2.mem ((c.tc : Thread Cert.OdNormIdeal.nD Cert.OdNormIdeal.τ).loc Cert.OdNormIdeal.main_v0_1) = v1 c
          ∧ r.2.mem ((c.tc : Thread Cert.OdNormIdeal.nD Cert.OdNormIdeal.τ).loc Cert.OdNormIdeal.main_arg0) = m ((c.tc : Thread Cert.OdNormIdeal.nD Cert.OdNormIdeal.τ).loc Cert.OdNormIdeal.main_arg0)
          ∧ r.2.mem ((c.tc : Thread Cert.OdNormIdeal.nD Cert.OdNormIdeal.τ).loc Cert.OdNormIdeal.main_arg1) = m ((c.tc : Thread Cert.OdNormIdeal.nD Cert.OdNormIdeal.τ).loc Cert.OdNormIdeal.main_arg1)
          ∧ r.2.mem ((c.tc : Thread Cert.OdNormIdeal.nD Cert.OdNormIdeal.τ).loc Cert.OdNormIdeal.main_arg2) = m ((c.tc : Thread Cert.OdNormIdeal.nD Cert.OdNormIdeal.τ).loc Cert.OdNormIdeal.main_arg2)
          ∧ r.2.mem ((c.tc : Thread Cert.OdNormIdeal.nD Cert.OdNormIdeal.τ).loc Cert.OdNormIdeal.main_arg3) = m ((c.tc : Thread Cert.OdNormIdeal.nD Cert.OdNormIdeal.τ).loc Cert.OdNormIdeal.main_arg3)
          ∧ r.2.mem ((c.tc : Thread Cert.OdNormIdeal.nD Cert.OdNormIdeal.τ).loc Cert.OdNormIdeal.main_arg4) = m ((c.tc : Thread Cert.OdNormIdeal.nD Cert.OdNormIdeal.τ).loc Cert.OdNormIdeal.main_arg4)
          ∧ r.2.mem ((c.tc : Thread Cert.OdNormIdeal.nD Cert.OdNormIdeal.τ).loc Cert.OdNormIdeal.main_arg5) = m ((c.tc : Thread Cert.OdNormIdeal.nD Cert.OdNormIdeal.τ).loc Cert.OdNormIdeal.main_arg5))
      ∧ θ_run (Cert.OdNormRefIdeal.defs (F := Ideal)) (onTc (τ := Cert.OdNormRefIdeal.τ) (Cert.OdNormRefIdeal.main (F := Ideal))) ⟨m', fun _ => 0, g'⟩ (fun r => ∀ c : Dev Cert.OdNormRefIdeal.nD,
          r.2.mem ((c.tc : Thread Cert.OdNormRefIdeal.nD Cert.OdNormRefIdeal.τ).loc Cert.OdNormRefIdeal.main_v39) = v0 c
          ∧ r.2.mem ((c.tc : Thread Cert.OdNormRefIdeal.nD Cert.OdNormRefIdeal.τ).loc Cert.OdNormRefIdeal.main_v22) = v1 c
          ∧ r.2.mem ((c.tc : Thread Cert.OdNormRefIdeal.nD Cert.OdNormRefIdeal.τ).loc Cert.OdNormRefIdeal.main_arg0) = m' ((c.tc : Thread Cert.OdNormRefIdeal.nD Cert.OdNormRefIdeal.τ).loc Cert.OdNormRefIdeal.main_arg0)
          ∧ r.2.mem ((c.tc : Thread Cert.OdNormRefIdeal.nD Cert.OdNormRefIdeal.τ).loc Cert.OdNormRefIdeal.main_arg1) = m' ((c.tc : Thread Cert.OdNormRefIdeal.nD Cert.OdNormRefIdeal.τ).loc Cert.OdNormRefIdeal.main_arg1)
          ∧ r.2.mem ((c.tc : Thread Cert.OdNormRefIdeal.nD Cert.OdNormRefIdeal.τ).loc Cert.OdNormRefIdeal.main_arg2) = m' ((c.tc : Thread Cert.OdNormRefIdeal.nD Cert.OdNormRefIdeal.τ).loc Cert.OdNormRefIdeal.main_arg2)
          ∧ r.2.mem ((c.tc : Thread Cert.OdNormRefIdeal.nD Cert.OdNormRefIdeal.τ).loc Cert.OdNormRefIdeal.main_arg3) = m' ((c.tc : Thread Cert.OdNormRefIdeal.nD Cert.OdNormRefIdeal.τ).loc Cert.OdNormRefIdeal.main_arg3)
          ∧ r.2.mem ((c.tc : Thread Cert.OdNormRefIdeal.nD Cert.OdNormRefIdeal.τ).loc Cert.OdNormRefIdeal.main_arg4) = m' ((c.tc : Thread Cert.OdNormRefIdeal.nD Cert.OdNormRefIdeal.τ).loc Cert.OdNormRefIdeal.main_arg4)
          ∧ r.2.mem ((c.tc : Thread Cert.OdNormRefIdeal.nD Cert.OdNormRefIdeal.τ).loc Cert.OdNormRefIdeal.main_arg5) = m' ((c.tc : Thread Cert.OdNormRefIdeal.nD Cert.OdNormRefIdeal.τ).loc Cert.OdNormRefIdeal.main_arg5))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)) →
    ∃ (v0 : (c : Dev Cert.FfUpIdeal.nD) → Buf (Elt Ideal) ((c.tc : Thread Cert.FfUpIdeal.nD Cert.FfUpIdeal.τ).loc Cert.FfUpIdeal.main_v0)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0) = v0 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v2) = v0 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1))

def preserves_FfDown_FfDownIdeal : Prop :=
  True

def algebraic_FfDownIdeal_FfDownRefIdeal [hFfDownIdeal : Cert.FfDownIdeal.Facts] [hFfDownRefIdeal : Cert.FfDownRefIdeal.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownRefIdeal.nD Cert.FfDownRefIdeal.τ Cert.FfDownRefIdeal.sig) → Buf (Elt Ideal) ℓ) (g' : Dev Cert.FfDownRefIdeal.nD → PrngReg), Pre_FfDownIdeal m →
    (∀ c : Dev Cert.FfDownIdeal.nD,
      m' ((c.tc : Thread Cert.FfDownRefIdeal.nD Cert.FfDownRefIdeal.τ).loc Cert.FfDownRefIdeal.main_arg0) = m ((c.tc : Thread Cert.FfDownIdeal.nD Cert.FfDownIdeal.τ).loc Cert.FfDownIdeal.main_arg0)
      ∧ m' ((c.tc : Thread Cert.FfDownRefIdeal.nD Cert.FfDownRefIdeal.τ).loc Cert.FfDownRefIdeal.main_arg1) = m ((c.tc : Thread Cert.FfDownIdeal.nD Cert.FfDownIdeal.τ).loc Cert.FfDownIdeal.main_arg1)
      ∧ m' ((c.tc : Thread Cert.FfDownRefIdeal.nD Cert.FfDownRefIdeal.τ).loc Cert.FfDownRefIdeal.main_arg2) = m ((c.tc : Thread Cert.FfDownIdeal.nD Cert.FfDownIdeal.τ).loc Cert.FfDownIdeal.main_arg2)
      ∧ m' ((c.tc : Thread Cert.FfDownRefIdeal.nD Cert.FfDownRefIdeal.τ).loc Cert.FfDownRefIdeal.main_arg3) = m ((c.tc : Thread Cert.FfDownIdeal.nD Cert.FfDownIdeal.τ).loc Cert.FfDownIdeal.main_arg3)) →
    ∃ (v0 : (c : Dev Cert.FfDownIdeal.nD) → Buf (Elt Ideal) ((c.tc : Thread Cert.FfDownIdeal.nD Cert.FfDownIdeal.τ).loc Cert.FfDownIdeal.main_v0_0)) (v1 : (c : Dev Cert.FfDownIdeal.nD) → Buf (Elt Ideal) ((c.tc : Thread Cert.FfDownIdeal.nD Cert.FfDownIdeal.τ).loc Cert.FfDownIdeal.main_v0_1)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v0_0) = v0 c
          ∧ r.2.mem ((c.tc : Thread Cert.FfDownIdeal.nD Cert.FfDownIdeal.τ).loc Cert.FfDownIdeal.main_v0_1) = v1 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
          ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ θ_run (Cert.FfDownRefIdeal.defs (F := Ideal)) (onTc (τ := Cert.FfDownRefIdeal.τ) (Cert.FfDownRefIdeal.main (F := Ideal))) ⟨m', fun _ => 0, g'⟩ (fun r => ∀ c : Dev Cert.FfDownRefIdeal.nD,
          r.2.mem ((c.tc : Thread Cert.FfDownRefIdeal.nD Cert.FfDownRefIdeal.τ).loc Cert.FfDownRefIdeal.main_v2) = v0 c
          ∧ r.2.mem ((c.tc : Thread Cert.FfDownRefIdeal.nD Cert.FfDownRefIdeal.τ).loc Cert.FfDownRefIdeal.main_v15) = v1 c
          ∧ r.2.mem ((c.tc : Thread Cert.FfDownRefIdeal.nD Cert.FfDownRefIdeal.τ).loc Cert.FfDownRefIdeal.main_arg0) = m' ((c.tc : Thread Cert.FfDownRefIdeal.nD Cert.FfDownRefIdeal.τ).loc Cert.FfDownRefIdeal.main_arg0)
          ∧ r.2.mem ((c.tc : Thread Cert.FfDownRefIdeal.nD Cert.FfDownRefIdeal.τ).loc Cert.FfDownRefIdeal.main_arg1) = m' ((c.tc : Thread Cert.FfDownRefIdeal.nD Cert.FfDownRefIdeal.τ).loc Cert.FfDownRefIdeal.main_arg1)
          ∧ r.2.mem ((c.tc : Thread Cert.FfDownRefIdeal.nD Cert.FfDownRefIdeal.τ).loc Cert.FfDownRefIdeal.main_arg2) = m' ((c.tc : Thread Cert.FfDownRefIdeal.nD Cert.FfDownRefIdeal.τ).loc Cert.FfDownRefIdeal.main_arg2)
          ∧ r.2.mem ((c.tc : Thread Cert.FfDownRefIdeal.nD Cert.FfDownRefIdeal.τ).loc Cert.FfDownRefIdeal.main_arg3) = m' ((c.tc : Thread Cert.FfDownRefIdeal.nD Cert.FfDownRefIdeal.τ).loc Cert.FfDownRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal_pre_finite_scores [hAttnFwdIdeal : Cert.AttnFwdIdeal.Facts] [hAttnFwdRefIdeal : Cert.AttnFwdRefIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_scores m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v93) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v2) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)) →
    ∃ (v0 : (c : Dev Cert.AttInIdeal.nD) → Buf (Elt Ideal) ((c.tc : Thread Cert.AttInIdeal.nD Cert.AttInIdeal.τ).loc Cert.AttInIdeal.main_v0)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v0) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v2) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1))

def preserves_RwkvIn_RwkvInIdeal : Prop :=
  True

def algebraic_RwkvInIdeal_RwkvInRefIdeal [hRwkvInIdeal : Cert.RwkvInIdeal.Facts] [hRwkvInRefIdeal : Cert.RwkvInRefIdeal.Facts] : Prop :=
  ∀ (m : (ℓ : Loc Cert.RwkvInIdeal.nD Cert.RwkvInIdeal.τ Cert.RwkvInIdeal.sig) → Buf (Elt Ideal) ℓ) (g : Dev Cert.RwkvInIdeal.nD → PrngReg)
    (m' : (ℓ : Loc Cert.RwkvInRefIdeal.nD Cert.RwkvInRefIdeal.τ Cert.RwkvInRefIdeal.sig) → Buf (Elt Ideal) ℓ) (g' : Dev Cert.RwkvInRefIdeal.nD → PrngReg), Pre_RwkvInIdeal m →
    (∀ c : Dev Cert.RwkvInIdeal.nD,
      m' ((c.tc : Thread Cert.RwkvInRefIdeal.nD Cert.RwkvInRefIdeal.τ).loc Cert.RwkvInRefIdeal.main_arg0) = m ((c.tc : Thread Cert.RwkvInIdeal.nD Cert.RwkvInIdeal.τ).loc Cert.RwkvInIdeal.main_arg0)
      ∧ m' ((c.tc : Thread Cert.RwkvInRefIdeal.nD Cert.RwkvInRefIdeal.τ).loc Cert.RwkvInRefIdeal.main_arg1) = m ((c.tc : Thread Cert.RwkvInIdeal.nD Cert.RwkvInIdeal.τ).loc Cert.RwkvInIdeal.main_arg1)) →
    ∃ (v0 : (c : Dev Cert.RwkvInIdeal.nD) → Buf (Elt Ideal) ((c.tc : Thread Cert.RwkvInIdeal.nD Cert.RwkvInIdeal.τ).loc Cert.RwkvInIdeal.main_v0)),
      θ_run (Cert.RwkvInIdeal.defs (F := Ideal)) (onTc (τ := Cert.RwkvInIdeal.τ) (Cert.RwkvInIdeal.main (F := Ideal))) ⟨m, fun _ => 0, g⟩ (fun r => ∀ c : Dev Cert.RwkvInIdeal.nD,
          r.2.mem ((c.tc : Thread Cert.RwkvInIdeal.nD Cert.RwkvInIdeal.τ).loc Cert.RwkvInIdeal.main_v0) = v0 c
          ∧ r.2.mem ((c.tc : Thread Cert.RwkvInIdeal.nD Cert.RwkvInIdeal.τ).loc Cert.RwkvInIdeal.main_arg0) = m ((c.tc : Thread Cert.RwkvInIdeal.nD Cert.RwkvInIdeal.τ).loc Cert.RwkvInIdeal.main_arg0)
          ∧ r.2.mem ((c.tc : Thread Cert.RwkvInIdeal.nD Cert.RwkvInIdeal.τ).loc Cert.RwkvInIdeal.main_arg1) = m ((c.tc : Thread Cert.RwkvInIdeal.nD Cert.RwkvInIdeal.τ).loc Cert.RwkvInIdeal.main_arg1))
      ∧ θ_run (Cert.RwkvInRefIdeal.defs (F := Ideal)) (onTc (τ := Cert.RwkvInRefIdeal.τ) (Cert.RwkvInRefIdeal.main (F := Ideal))) ⟨m', fun _ => 0, g'⟩ (fun r => ∀ c : Dev Cert.RwkvInRefIdeal.nD,
          r.2.mem ((c.tc : Thread Cert.RwkvInRefIdeal.nD Cert.RwkvInRefIdeal.τ).loc Cert.RwkvInRefIdeal.main_v2) = v0 c
          ∧ r.2.mem ((c.tc : Thread Cert.RwkvInRefIdeal.nD Cert.RwkvInRefIdeal.τ).loc Cert.RwkvInRefIdeal.main_arg0) = m' ((c.tc : Thread Cert.RwkvInRefIdeal.nD Cert.RwkvInRefIdeal.τ).loc Cert.RwkvInRefIdeal.main_arg0)
          ∧ r.2.mem ((c.tc : Thread Cert.RwkvInRefIdeal.nD Cert.RwkvInRefIdeal.τ).loc Cert.RwkvInRefIdeal.main_arg1) = m' ((c.tc : Thread Cert.RwkvInRefIdeal.nD Cert.RwkvInRefIdeal.τ).loc Cert.RwkvInRefIdeal.main_arg1))

def preserves_FfLast_FfLastIdeal : Prop :=
  True

def algebraic_FfLastIdeal_FfLastRefIdeal [hFfLastIdeal : Cert.FfLastIdeal.Facts] [hFfLastRefIdeal : Cert.FfLastRefIdeal.Facts] : Prop :=
  ∀ (m : (ℓ : Loc Cert.FfLastIdeal.nD Cert.FfLastIdeal.τ Cert.FfLastIdeal.sig) → Buf (Elt Ideal) ℓ) (g : Dev Cert.FfLastIdeal.nD → PrngReg)
    (m' : (ℓ : Loc Cert.FfLastRefIdeal.nD Cert.FfLastRefIdeal.τ Cert.FfLastRefIdeal.sig) → Buf (Elt Ideal) ℓ) (g' : Dev Cert.FfLastRefIdeal.nD → PrngReg), Pre_FfLastIdeal m →
    (∀ c : Dev Cert.FfLastIdeal.nD,
      m' ((c.tc : Thread Cert.FfLastRefIdeal.nD Cert.FfLastRefIdeal.τ).loc Cert.FfLastRefIdeal.main_arg0) = m ((c.tc : Thread Cert.FfLastIdeal.nD Cert.FfLastIdeal.τ).loc Cert.FfLastIdeal.main_arg0)
      ∧ m' ((c.tc : Thread Cert.FfLastRefIdeal.nD Cert.FfLastRefIdeal.τ).loc Cert.FfLastRefIdeal.main_arg1) = m ((c.tc : Thread Cert.FfLastIdeal.nD Cert.FfLastIdeal.τ).loc Cert.FfLastIdeal.main_arg1)
      ∧ m' ((c.tc : Thread Cert.FfLastRefIdeal.nD Cert.FfLastRefIdeal.τ).loc Cert.FfLastRefIdeal.main_arg2) = m ((c.tc : Thread Cert.FfLastIdeal.nD Cert.FfLastIdeal.τ).loc Cert.FfLastIdeal.main_arg2)) →
    ∃ (v0 : (c : Dev Cert.FfLastIdeal.nD) → Buf (Elt Ideal) ((c.tc : Thread Cert.FfLastIdeal.nD Cert.FfLastIdeal.τ).loc Cert.FfLastIdeal.main_v0)),
      θ_run (Cert.FfLastIdeal.defs (F := Ideal)) (onTc (τ := Cert.FfLastIdeal.τ) (Cert.FfLastIdeal.main (F := Ideal))) ⟨m, fun _ => 0, g⟩ (fun r => ∀ c : Dev Cert.FfLastIdeal.nD,
          r.2.mem ((c.tc : Thread Cert.FfLastIdeal.nD Cert.FfLastIdeal.τ).loc Cert.FfLastIdeal.main_v0) = v0 c
          ∧ r.2.mem ((c.tc : Thread Cert.FfLastIdeal.nD Cert.FfLastIdeal.τ).loc Cert.FfLastIdeal.main_arg0) = m ((c.tc : Thread Cert.FfLastIdeal.nD Cert.FfLastIdeal.τ).loc Cert.FfLastIdeal.main_arg0)
          ∧ r.2.mem ((c.tc : Thread Cert.FfLastIdeal.nD Cert.FfLastIdeal.τ).loc Cert.FfLastIdeal.main_arg1) = m ((c.tc : Thread Cert.FfLastIdeal.nD Cert.FfLastIdeal.τ).loc Cert.FfLastIdeal.main_arg1)
          ∧ r.2.mem ((c.tc : Thread Cert.FfLastIdeal.nD Cert.FfLastIdeal.τ).loc Cert.FfLastIdeal.main_arg2) = m ((c.tc : Thread Cert.FfLastIdeal.nD Cert.FfLastIdeal.τ).loc Cert.FfLastIdeal.main_arg2))
      ∧ θ_run (Cert.FfLastRefIdeal.defs (F := Ideal)) (onTc (τ := Cert.FfLastRefIdeal.τ) (Cert.FfLastRefIdeal.main (F := Ideal))) ⟨m', fun _ => 0, g'⟩ (fun r => ∀ c : Dev Cert.FfLastRefIdeal.nD,
          r.2.mem ((c.tc : Thread Cert.FfLastRefIdeal.nD Cert.FfLastRefIdeal.τ).loc Cert.FfLastRefIdeal.main_v2) = v0 c
          ∧ r.2.mem ((c.tc : Thread Cert.FfLastRefIdeal.nD Cert.FfLastRefIdeal.τ).loc Cert.FfLastRefIdeal.main_arg0) = m' ((c.tc : Thread Cert.FfLastRefIdeal.nD Cert.FfLastRefIdeal.τ).loc Cert.FfLastRefIdeal.main_arg0)
          ∧ r.2.mem ((c.tc : Thread Cert.FfLastRefIdeal.nD Cert.FfLastRefIdeal.τ).loc Cert.FfLastRefIdeal.main_arg1) = m' ((c.tc : Thread Cert.FfLastRefIdeal.nD Cert.FfLastRefIdeal.τ).loc Cert.FfLastRefIdeal.main_arg1)
          ∧ r.2.mem ((c.tc : Thread Cert.FfLastRefIdeal.nD Cert.FfLastRefIdeal.τ).loc Cert.FfLastRefIdeal.main_arg2) = m' ((c.tc : Thread Cert.FfLastRefIdeal.nD Cert.FfLastRefIdeal.τ).loc Cert.FfLastRefIdeal.main_arg2))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)
      ∧ m' ((c.tc : Thread Cert.EvOutRefIdeal.nD Cert.EvOutRefIdeal.τ).loc Cert.EvOutRefIdeal.main_arg2) = m ((c.tc : Thread Cert.EvOutIdeal.nD Cert.EvOutIdeal.τ).loc Cert.EvOutIdeal.main_arg2)
      ∧ m' ((c.tc : Thread Cert.EvOutRefIdeal.nD Cert.EvOutRefIdeal.τ).loc Cert.EvOutRefIdeal.main_arg3) = m ((c.tc : Thread Cert.EvOutIdeal.nD Cert.EvOutIdeal.τ).loc Cert.EvOutIdeal.main_arg3)) →
    ∃ (v0 : (c : Dev Cert.EvOutIdeal.nD) → Buf (Elt Ideal) ((c.tc : Thread Cert.EvOutIdeal.nD Cert.EvOutIdeal.τ).loc Cert.EvOutIdeal.main_v0_0)) (v1 : (c : Dev Cert.EvOutIdeal.nD) → Buf (Elt Ideal) ((c.tc : Thread Cert.EvOutIdeal.nD Cert.EvOutIdeal.τ).loc Cert.EvOutIdeal.main_v0_1)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v0_0) = v0 c
          ∧ r.2.mem ((c.tc : Thread Cert.EvOutIdeal.nD Cert.EvOutIdeal.τ).loc Cert.EvOutIdeal.main_v0_1) = v1 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
          ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v2) = v0 c
          ∧ r.2.mem ((c.tc : Thread Cert.EvOutRefIdeal.nD Cert.EvOutRefIdeal.τ).loc Cert.EvOutRefIdeal.main_v15) = v1 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1)
          ∧ r.2.mem ((c.tc : Thread Cert.EvOutRefIdeal.nD Cert.EvOutRefIdeal.τ).loc Cert.EvOutRefIdeal.main_arg2) = m' ((c.tc : Thread Cert.EvOutRefIdeal.nD Cert.EvOutRefIdeal.τ).loc Cert.EvOutRefIdeal.main_arg2)
          ∧ r.2.mem ((c.tc : Thread Cert.EvOutRefIdeal.nD Cert.EvOutRefIdeal.τ).loc Cert.EvOutRefIdeal.main_arg3) = m' ((c.tc : Thread Cert.EvOutRefIdeal.nD Cert.EvOutRefIdeal.τ).loc Cert.EvOutRefIdeal.main_arg3))

def preserves_FfMid_FfMidIdeal : Prop :=
  True

def algebraic_FfMidIdeal_FfMidRefIdeal [hFfMidIdeal : Cert.FfMidIdeal.Facts] [hFfMidRefIdeal : Cert.FfMidRefIdeal.Facts] : Prop :=
  ∀ (m : (ℓ : Loc Cert.FfMidIdeal.nD Cert.FfMidIdeal.τ Cert.FfMidIdeal.sig) → Buf (Elt Ideal) ℓ) (g : Dev Cert.FfMidIdeal.nD → PrngReg)
    (m' : (ℓ : Loc Cert.FfMidRefIdeal.nD Cert.FfMidRefIdeal.τ Cert.FfMidRefIdeal.sig) → Buf (Elt Ideal) ℓ) (g' : Dev Cert.FfMidRefIdeal.nD → PrngReg), Pre_FfMidIdeal m →
    (∀ c : Dev Cert.FfMidIdeal.nD,
      m' ((c.tc : Thread Cert.FfMidRefIdeal.nD Cert.FfMidRefIdeal.τ).loc Cert.FfMidRefIdeal.main_arg0) = m ((c.tc : Thread Cert.FfMidIdeal.nD Cert.FfMidIdeal.τ).loc Cert.FfMidIdeal.main_arg0)
      ∧ m' ((c.tc : Thread Cert.FfMidRefIdeal.nD Cert.FfMidRefIdeal.τ).loc Cert.FfMidRefIdeal.main_arg1) = m ((c.tc : Thread Cert.FfMidIdeal.nD Cert.FfMidIdeal.τ).loc Cert.FfMidIdeal.main_arg1)
      ∧ m' ((c.tc : Thread Cert.FfMidRefIdeal.nD Cert.FfMidRefIdeal.τ).loc Cert.FfMidRefIdeal.main_arg2) = m ((c.tc : Thread Cert.FfMidIdeal.nD Cert.FfMidIdeal.τ).loc Cert.FfMidIdeal.main_arg2)) →
    ∃ (v0 : (c : Dev Cert.FfMidIdeal.nD) → Buf (Elt Ideal) ((c.tc : Thread Cert.FfMidIdeal.nD Cert.FfMidIdeal.τ).loc Cert.FfMidIdeal.main_v1)),
      θ_run (Cert.FfMidIdeal.defs (F := Ideal)) (onTc (τ := Cert.FfMidIdeal.τ) (Cert.FfMidIdeal.main (F := Ideal))) ⟨m, fun _ => 0, g⟩ (fun r => ∀ c : Dev Cert.FfMidIdeal.nD,
          r.2.mem ((c.tc : Thread Cert.FfMidIdeal.nD Cert.FfMidIdeal.τ).loc Cert.FfMidIdeal.main_v1) = v0 c
          ∧ r.2.mem ((c.tc : Thread Cert.FfMidIdeal.nD Cert.FfMidIdeal.τ).loc Cert.FfMidIdeal.main_arg0) = m ((c.tc : Thread Cert.FfMidIdeal.nD Cert.FfMidIdeal.τ).loc Cert.FfMidIdeal.main_arg0)
          ∧ r.2.mem ((c.tc : Thread Cert.FfMidIdeal.nD Cert.FfMidIdeal.τ).loc Cert.FfMidIdeal.main_arg1) = m ((c.tc : Thread Cert.FfMidIdeal.nD Cert.FfMidIdeal.τ).loc Cert.FfMidIdeal.main_arg1)
          ∧ r.2.mem ((c.tc : Thread Cert.FfMidIdeal.nD Cert.FfMidIdeal.τ).loc Cert.FfMidIdeal.main_arg2) = m ((c.tc : Thread Cert.FfMidIdeal.nD Cert.FfMidIdeal.τ).loc Cert.FfMidIdeal.main_arg2))
      ∧ θ_run (Cert.FfMidRefIdeal.defs (F := Ideal)) (onTc (τ := Cert.FfMidRefIdeal.τ) (Cert.FfMidRefIdeal.main (F := Ideal))) ⟨m', fun _ => 0, g'⟩ (fun r => ∀ c : Dev Cert.FfMidRefIdeal.nD,
          r.2.mem ((c.tc : Thread Cert.FfMidRefIdeal.nD Cert.FfMidRefIdeal.τ).loc Cert.FfMidRefIdeal.main_v25) = v0 c
          ∧ r.2.mem ((c.tc : Thread Cert.FfMidRefIdeal.nD Cert.FfMidRefIdeal.τ).loc Cert.FfMidRefIdeal.main_arg0) = m' ((c.tc : Thread Cert.FfMidRefIdeal.nD Cert.FfMidRefIdeal.τ).loc Cert.FfMidRefIdeal.main_arg0)
          ∧ r.2.mem ((c.tc : Thread Cert.FfMidRefIdeal.nD Cert.FfMidRefIdeal.τ).loc Cert.FfMidRefIdeal.main_arg1) = m' ((c.tc : Thread Cert.FfMidRefIdeal.nD Cert.FfMidRefIdeal.τ).loc Cert.FfMidRefIdeal.main_arg1)
          ∧ r.2.mem ((c.tc : Thread Cert.FfMidRefIdeal.nD Cert.FfMidRefIdeal.τ).loc Cert.FfMidRefIdeal.main_arg2) = m' ((c.tc : Thread Cert.FfMidRefIdeal.nD Cert.FfMidRefIdeal.τ).loc Cert.FfMidRefIdeal.main_arg2))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v1_0)) (v1 : (c : Dev Cert.MidIdeal.nD) → Buf (Elt Ideal) ((c.tc : Thread Cert.MidIdeal.nD Cert.MidIdeal.τ).loc Cert.MidIdeal.main_v1_1)) (v2 : (c : Dev Cert.MidIdeal.nD) → Buf (Elt Ideal) ((c.tc : Thread Cert.MidIdeal.nD Cert.MidIdeal.τ).loc Cert.MidIdeal.main_v1_2)) (v3 : (c : Dev Cert.MidIdeal.nD) → Buf (Elt Ideal) ((c.tc : Thread Cert.MidIdeal.nD Cert.MidIdeal.τ).loc Cert.MidIdeal.main_v1_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1_0) = v0 c
          ∧ r.2.mem ((c.tc : Thread Cert.MidIdeal.nD Cert.MidIdeal.τ).loc Cert.MidIdeal.main_v1_1) = v1 c
          ∧ r.2.mem ((c.tc : Thread Cert.MidIdeal.nD Cert.MidIdeal.τ).loc Cert.MidIdeal.main_v1_2) = v2 c
          ∧ r.2.mem ((c.tc : Thread Cert.MidIdeal.nD Cert.MidIdeal.τ).loc Cert.MidIdeal.main_v1_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v59) = v0 c
          ∧ r.2.mem ((c.tc : Thread Cert.MidRefIdeal.nD Cert.MidRefIdeal.τ).loc Cert.MidRefIdeal.main_v60) = v1 c
          ∧ r.2.mem ((c.tc : Thread Cert.MidRefIdeal.nD Cert.MidRefIdeal.τ).loc Cert.MidRefIdeal.main_v56) = v2 c
          ∧ r.2.mem ((c.tc : Thread Cert.MidRefIdeal.nD Cert.MidRefIdeal.τ).loc Cert.MidRefIdeal.main_v61) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def Claim : Prop :=
  ∃ (hDz : Cert.Dz.Facts) (hDzIdeal : Cert.DzIdeal.Facts) (hDzRefIdeal : Cert.DzRefIdeal.Facts) (hAttn : Cert.Attn.Facts) (hAttnIdeal : Cert.AttnIdeal.Facts) (hAttnRefIdeal : Cert.AttnRefIdeal.Facts) (hRms : Cert.Rms.Facts) (hRmsIdeal : Cert.RmsIdeal.Facts) (hRmsRefIdeal : Cert.RmsRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hGate : Cert.Gate.Facts) (hGateIdeal : Cert.GateIdeal.Facts) (hGateRefIdeal : Cert.GateRefIdeal.Facts) (hEb : Cert.Eb.Facts) (hEbIdeal : Cert.EbIdeal.Facts) (hEbRefIdeal : Cert.EbRefIdeal.Facts) (hEvDy : Cert.EvDy.Facts) (hEvDyIdeal : Cert.EvDyIdeal.Facts) (hEvDyRefIdeal : Cert.EvDyRefIdeal.Facts) (hEvGout : Cert.EvGout.Facts) (hEvGoutIdeal : Cert.EvGoutIdeal.Facts) (hEvGoutRefIdeal : Cert.EvGoutRefIdeal.Facts) (hEvGin : Cert.EvGin.Facts) (hEvGinIdeal : Cert.EvGinIdeal.Facts) (hEvGinRefIdeal : Cert.EvGinRefIdeal.Facts) (hEvNorm : Cert.EvNorm.Facts) (hEvNormIdeal : Cert.EvNormIdeal.Facts) (hEvNormRefIdeal : Cert.EvNormRefIdeal.Facts) (hOdGin : Cert.OdGin.Facts) (hOdGinIdeal : Cert.OdGinIdeal.Facts) (hOdGinRefIdeal : Cert.OdGinRefIdeal.Facts) (hOdAtt : Cert.OdAtt.Facts) (hOdAttIdeal : Cert.OdAttIdeal.Facts) (hOdAttRefIdeal : Cert.OdAttRefIdeal.Facts) (hOdNorm : Cert.OdNorm.Facts) (hOdNormIdeal : Cert.OdNormIdeal.Facts) (hOdNormRefIdeal : Cert.OdNormRefIdeal.Facts) (hFfUp : Cert.FfUp.Facts) (hFfUpIdeal : Cert.FfUpIdeal.Facts) (hFfUpRefIdeal : Cert.FfUpRefIdeal.Facts) (hFfDown : Cert.FfDown.Facts) (hFfDownIdeal : Cert.FfDownIdeal.Facts) (hFfDownRefIdeal : Cert.FfDownRefIdeal.Facts) (hAttnFwd : Cert.AttnFwd.Facts) (hAttnFwdIdeal : Cert.AttnFwdIdeal.Facts) (hAttnFwdRefIdeal : Cert.AttnFwdRefIdeal.Facts) (hEvIn : Cert.EvIn.Facts) (hEvInIdeal : Cert.EvInIdeal.Facts) (hEvInRefIdeal : Cert.EvInRefIdeal.Facts) (hAttIn : Cert.AttIn.Facts) (hAttInIdeal : Cert.AttInIdeal.Facts) (hAttInRefIdeal : Cert.AttInRefIdeal.Facts) (hRwkvIn : Cert.RwkvIn.Facts) (hRwkvInIdeal : Cert.RwkvInIdeal.Facts) (hRwkvInRefIdeal : Cert.RwkvInRefIdeal.Facts) (hFfLast : Cert.FfLast.Facts) (hFfLastIdeal : Cert.FfLastIdeal.Facts) (hFfLastRefIdeal : Cert.FfLastRefIdeal.Facts) (hEvOut : Cert.EvOut.Facts) (hEvOutIdeal : Cert.EvOutIdeal.Facts) (hEvOutRefIdeal : Cert.EvOutRefIdeal.Facts) (hFfMid : Cert.FfMid.Facts) (hFfMidIdeal : Cert.FfMidIdeal.Facts) (hFfMidRefIdeal : Cert.FfMidRefIdeal.Facts) (hMid : Cert.Mid.Facts) (hMidIdeal : Cert.MidIdeal.Facts) (hMidRefIdeal : Cert.MidRefIdeal.Facts) (hPre_finite_args : Cert.Pre_finite_args.Facts) (hPre_finite_scores : Cert.Pre_finite_scores.Facts) (hPre_finite_mid : Cert.Pre_finite_mid.Facts),
    quiescent_Dz (hDz := hDz)
    ∧ quiescent_DzIdeal (hDzIdeal := hDzIdeal)
    ∧ quiescent_DzRefIdeal (hDzRefIdeal := hDzRefIdeal)
    ∧ quiescent_Attn (hAttn := hAttn)
    ∧ quiescent_AttnIdeal (hAttnIdeal := hAttnIdeal)
    ∧ quiescent_AttnIdeal_pre_finite_args (hAttnIdeal := hAttnIdeal) (hPre_finite_args := hPre_finite_args)
    ∧ quiescent_AttnRefIdeal (hAttnRefIdeal := hAttnRefIdeal)
    ∧ quiescent_AttnRefIdeal_pre_finite_args (hAttnRefIdeal := hAttnRefIdeal) (hPre_finite_args := hPre_finite_args)
    ∧ quiescent_Rms (hRms := hRms)
    ∧ quiescent_RmsIdeal (hRmsIdeal := hRmsIdeal)
    ∧ quiescent_RmsRefIdeal (hRmsRefIdeal := hRmsRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Gate (hGate := hGate)
    ∧ quiescent_GateIdeal (hGateIdeal := hGateIdeal)
    ∧ quiescent_GateRefIdeal (hGateRefIdeal := hGateRefIdeal)
    ∧ quiescent_Eb (hEb := hEb)
    ∧ quiescent_EbIdeal (hEbIdeal := hEbIdeal)
    ∧ quiescent_EbRefIdeal (hEbRefIdeal := hEbRefIdeal)
    ∧ quiescent_EvDy (hEvDy := hEvDy)
    ∧ quiescent_EvDyIdeal (hEvDyIdeal := hEvDyIdeal)
    ∧ quiescent_EvDyRefIdeal (hEvDyRefIdeal := hEvDyRefIdeal)
    ∧ quiescent_EvGout (hEvGout := hEvGout)
    ∧ quiescent_EvGoutIdeal (hEvGoutIdeal := hEvGoutIdeal)
    ∧ quiescent_EvGoutRefIdeal (hEvGoutRefIdeal := hEvGoutRefIdeal)
    ∧ quiescent_EvGin (hEvGin := hEvGin)
    ∧ quiescent_EvGinIdeal (hEvGinIdeal := hEvGinIdeal)
    ∧ quiescent_EvGinRefIdeal (hEvGinRefIdeal := hEvGinRefIdeal)
    ∧ quiescent_EvNorm (hEvNorm := hEvNorm)
    ∧ quiescent_EvNormIdeal (hEvNormIdeal := hEvNormIdeal)
    ∧ quiescent_EvNormRefIdeal (hEvNormRefIdeal := hEvNormRefIdeal)
    ∧ quiescent_OdGin (hOdGin := hOdGin)
    ∧ quiescent_OdGinIdeal (hOdGinIdeal := hOdGinIdeal)
    ∧ quiescent_OdGinRefIdeal (hOdGinRefIdeal := hOdGinRefIdeal)
    ∧ quiescent_OdAtt (hOdAtt := hOdAtt)
    ∧ quiescent_OdAttIdeal (hOdAttIdeal := hOdAttIdeal)
    ∧ quiescent_OdAttRefIdeal (hOdAttRefIdeal := hOdAttRefIdeal)
    ∧ quiescent_OdNorm (hOdNorm := hOdNorm)
    ∧ quiescent_OdNormIdeal (hOdNormIdeal := hOdNormIdeal)
    ∧ quiescent_OdNormRefIdeal (hOdNormRefIdeal := hOdNormRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_FfDown (hFfDown := hFfDown)
    ∧ quiescent_FfDownIdeal (hFfDownIdeal := hFfDownIdeal)
    ∧ quiescent_FfDownRefIdeal (hFfDownRefIdeal := hFfDownRefIdeal)
    ∧ quiescent_AttnFwd (hAttnFwd := hAttnFwd)
    ∧ quiescent_AttnFwdIdeal (hAttnFwdIdeal := hAttnFwdIdeal)
    ∧ quiescent_AttnFwdIdeal_pre_finite_scores (hAttnFwdIdeal := hAttnFwdIdeal) (hPre_finite_scores := hPre_finite_scores)
    ∧ quiescent_AttnFwdRefIdeal (hAttnFwdRefIdeal := hAttnFwdRefIdeal)
    ∧ quiescent_AttnFwdRefIdeal_pre_finite_scores (hAttnFwdRefIdeal := hAttnFwdRefIdeal) (hPre_finite_scores := hPre_finite_scores)
    ∧ quiescent_EvIn (hEvIn := hEvIn)
    ∧ quiescent_EvInIdeal (hEvInIdeal := hEvInIdeal)
    ∧ quiescent_EvInRefIdeal (hEvInRefIdeal := hEvInRefIdeal)
    ∧ quiescent_AttIn (hAttIn := hAttIn)
    ∧ quiescent_AttInIdeal (hAttInIdeal := hAttInIdeal)
    ∧ quiescent_AttInRefIdeal (hAttInRefIdeal := hAttInRefIdeal)
    ∧ quiescent_RwkvIn (hRwkvIn := hRwkvIn)
    ∧ quiescent_RwkvInIdeal (hRwkvInIdeal := hRwkvInIdeal)
    ∧ quiescent_RwkvInRefIdeal (hRwkvInRefIdeal := hRwkvInRefIdeal)
    ∧ quiescent_FfLast (hFfLast := hFfLast)
    ∧ quiescent_FfLastIdeal (hFfLastIdeal := hFfLastIdeal)
    ∧ quiescent_FfLastRefIdeal (hFfLastRefIdeal := hFfLastRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ quiescent_FfMid (hFfMid := hFfMid)
    ∧ quiescent_FfMidIdeal (hFfMidIdeal := hFfMidIdeal)
    ∧ quiescent_FfMidRefIdeal (hFfMidRefIdeal := hFfMidRefIdeal)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ preserves_Dz_DzIdeal
    ∧ algebraic_DzIdeal_DzRefIdeal (hDzIdeal := hDzIdeal) (hDzRefIdeal := hDzRefIdeal)
    ∧ preserves_Attn_AttnIdeal
    ∧ algebraic_AttnIdeal_AttnRefIdeal_pre_finite_args (hAttnIdeal := hAttnIdeal) (hAttnRefIdeal := hAttnRefIdeal) (hPre_finite_args := hPre_finite_args)
    ∧ preserves_Rms_RmsIdeal
    ∧ algebraic_RmsIdeal_RmsRefIdeal (hRmsIdeal := hRmsIdeal) (hRmsRefIdeal := hRmsRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Gate_GateIdeal
    ∧ algebraic_GateIdeal_GateRefIdeal (hGateIdeal := hGateIdeal) (hGateRefIdeal := hGateRefIdeal)
    ∧ preserves_Eb_EbIdeal
    ∧ algebraic_EbIdeal_EbRefIdeal (hEbIdeal := hEbIdeal) (hEbRefIdeal := hEbRefIdeal)
    ∧ preserves_EvDy_EvDyIdeal
    ∧ algebraic_EvDyIdeal_EvDyRefIdeal (hEvDyIdeal := hEvDyIdeal) (hEvDyRefIdeal := hEvDyRefIdeal)
    ∧ preserves_EvGout_EvGoutIdeal
    ∧ algebraic_EvGoutIdeal_EvGoutRefIdeal (hEvGoutIdeal := hEvGoutIdeal) (hEvGoutRefIdeal := hEvGoutRefIdeal)
    ∧ preserves_EvGin_EvGinIdeal
    ∧ algebraic_EvGinIdeal_EvGinRefIdeal (hEvGinIdeal := hEvGinIdeal) (hEvGinRefIdeal := hEvGinRefIdeal)
    ∧ preserves_EvNorm_EvNormIdeal
    ∧ algebraic_EvNormIdeal_EvNormRefIdeal (hEvNormIdeal := hEvNormIdeal) (hEvNormRefIdeal := hEvNormRefIdeal)
    ∧ preserves_OdGin_OdGinIdeal
    ∧ algebraic_OdGinIdeal_OdGinRefIdeal (hOdGinIdeal := hOdGinIdeal) (hOdGinRefIdeal := hOdGinRefIdeal)
    ∧ preserves_OdAtt_OdAttIdeal
    ∧ algebraic_OdAttIdeal_OdAttRefIdeal (hOdAttIdeal := hOdAttIdeal) (hOdAttRefIdeal := hOdAttRefIdeal)
    ∧ preserves_OdNorm_OdNormIdeal
    ∧ algebraic_OdNormIdeal_OdNormRefIdeal (hOdNormIdeal := hOdNormIdeal) (hOdNormRefIdeal := hOdNormRefIdeal)
    ∧ preserves_FfUp_FfUpIdeal
    ∧ algebraic_FfUpIdeal_FfUpRefIdeal (hFfUpIdeal := hFfUpIdeal) (hFfUpRefIdeal := hFfUpRefIdeal)
    ∧ preserves_FfDown_FfDownIdeal
    ∧ algebraic_FfDownIdeal_FfDownRefIdeal (hFfDownIdeal := hFfDownIdeal) (hFfDownRefIdeal := hFfDownRefIdeal)
    ∧ preserves_AttnFwd_AttnFwdIdeal
    ∧ algebraic_AttnFwdIdeal_AttnFwdRefIdeal_pre_finite_scores (hAttnFwdIdeal := hAttnFwdIdeal) (hAttnFwdRefIdeal := hAttnFwdRefIdeal) (hPre_finite_scores := hPre_finite_scores)
    ∧ preserves_EvIn_EvInIdeal
    ∧ algebraic_EvInIdeal_EvInRefIdeal (hEvInIdeal := hEvInIdeal) (hEvInRefIdeal := hEvInRefIdeal)
    ∧ preserves_AttIn_AttInIdeal
    ∧ algebraic_AttInIdeal_AttInRefIdeal (hAttInIdeal := hAttInIdeal) (hAttInRefIdeal := hAttInRefIdeal)
    ∧ preserves_RwkvIn_RwkvInIdeal
    ∧ algebraic_RwkvInIdeal_RwkvInRefIdeal (hRwkvInIdeal := hRwkvInIdeal) (hRwkvInRefIdeal := hRwkvInRefIdeal)
    ∧ preserves_FfLast_FfLastIdeal
    ∧ algebraic_FfLastIdeal_FfLastRefIdeal (hFfLastIdeal := hFfLastIdeal) (hFfLastRefIdeal := hFfLastRefIdeal)
    ∧ preserves_EvOut_EvOutIdeal
    ∧ algebraic_EvOutIdeal_EvOutRefIdeal (hEvOutIdeal := hEvOutIdeal) (hEvOutRefIdeal := hEvOutRefIdeal)
    ∧ preserves_FfMid_FfMidIdeal
    ∧ algebraic_FfMidIdeal_FfMidRefIdeal (hFfMidIdeal := hFfMidIdeal) (hFfMidRefIdeal := hFfMidRefIdeal)
    ∧ preserves_Mid_MidIdeal
    ∧ algebraic_MidIdeal_MidRefIdeal_pre_finite_mid (hMidIdeal := hMidIdeal) (hMidRefIdeal := hMidRefIdeal) (hPre_finite_mid := hPre_finite_mid)
-- ==== Pre_finite_args.lean ====
abbrev S2176x512 : Shape := ⟨2, ![2176, 512]⟩
abbrev S2176x128 : Shape := ⟨2, ![2176, 128]⟩
abbrev S1x8 : Shape := ⟨2, ![1, 8]⟩
abbrev S_ : Shape := ⟨0, ![]⟩

class Facts : Prop where
  bitsLt_bf16_f32 : FTy.bits .bf16 < FTy.bits .f32
  bcast_S_S2176x512 : S_.BroadcastsInDim S2176x512 (![] : Fin 0 → Fin S2176x512.rank)
  reducesTo_S2176x512_S_d0_1 : S2176x512.ReducesTo [0, 1] S_
  h_S_ : 0 < S_.numel
  bcast_S_S2176x128 : S_.BroadcastsInDim S2176x128 (![] : Fin 0 → Fin S2176x128.rank)
  reducesTo_S2176x128_S_d0_1 : S2176x128.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S2176x512 .bf16) (main_v16 : IVec S_ 1) (main_v17 : FVec F S1x8 .f32) : IVec S_ 1 :=
  let main_cst_4 : FVec F S_ .f32 := constant S_ .f32 0x7F800000#32
  let main_v18 : FVec F S1x8 .f32 := broadcastInDim S1x8 ![] bcast_S_S1x8 main_cst_4
  let main_v19 : IVec S1x8 1 := cmpf .olt main_v17 main_v18
  let main_c_5 : IVec S_ 1 := constantI S_ 1 1#1
  let main_v20 : IVec S_ 1 := (fun x v => Host.reduce IntOp.andi x v reducesTo_S1x8_S_d0_1 h_S_) main_v19 main_c_5
  let main_v21 : IVec S_ 1 := andi main_v16 main_v20
  let main_v22 : FVec F S2176x512 .f32 := (extf .f32 · bitsLt_bf16_f32) main_arg4
  let main_v23 : FVec F S2176x512 .f32 := Host.absf main_v22
  let main_cst_6 : FVec F S_ .f32 := constant S_ .f32 0x7F800000#32
  let main_v24 : FVec F S2176x512 .f32 := broadcastInDim S2176x512 ![] bcast_S_S2176x512 main_cst_6
  let main_v25 : IVec S2176x512 1 := cmpf .olt main_v23 main_v24
  let main_c_7 : IVec S_ 1 := constantI S_ 1 1#1
  let main_v26 : IVec S_ 1 := (fun x v => Host.reduce IntOp.andi x v reducesTo_S2176x512_S_d0_1 h_S_) main_v25 main_c_7
  let main_v27 : IVec S_ 1 := andi main_v21 main_v26
  main_v27

def fn {F : FTy → Type} [FloatOps F] (main_arg0 : FVec F S2176x512 .bf16) (main_arg1 : FVec F S2176x128 .bf16) (main_arg2 : FVec F S2176x128 .bf16) (main_arg3 : FVec F S1x8 .f32) (main_arg4 : FVec F S2176x512 .bf16) : IVec S_ 1 :=
  let main_v0 : FVec F S2176x512 .f32 := (extf .f32 · bitsLt_bf16_f32) main_arg0
  let main_v1 : FVec F S2176x512 .f32 := Host.absf main_v0
  let main_cst : FVec F S_ .f32 := constant S_ .f32 0x7F800000#32
  let main_v2 : FVec F S2176x512 .f32 := broadcastInDim S2176x512 ![] bcast_S_S2176x512 main_cst
  let main_v3 : IVec S2176x512 1 := cmpf .olt main_v1 main_v2
  let main_c : IVec S_ 1 := constantI S_ 1 1#1
  let main_v4 : IVec S_ 1 := (fun x v => Host.reduce IntOp.andi x v reducesTo_S2176x512_S_d0_1 h_S_) main_v3 main_c
  let main_v5 : FVec F S2176x128 .f32 := (extf .f32 · bitsLt_bf16_f32) main_arg1
  let main_v6 : FVec F S2176x128 .f32 := Host.absf main_v5
  let main_cst_0 : FVec F S_ .f32 := constant S_ .f32 0x7F800000#32
  let main_v7 : FVec F S2176x128 .f32 := broadcastInDim S2176x128 ![] bcast_S_S2176x128 main_cst_0
  let main_v8 : IVec S2176x128 1 := cmpf .olt main_v6 main_v7
  let main_c_1 : IVec S_ 1 := constantI S_ 1 1#1
  let main_v9 : IVec S_ 1 := (fun x v => Host.reduce IntOp.andi x v reducesTo_S2176x128_S_d0_1 h_S_) main_v8 main_c_1
  let main_v10 : IVec S_ 1 := andi main_v4 main_v9
  let main_v11 : FVec F S2176x128 .f32 := (extf .f32 · bitsLt_bf16_f32) main_arg2
  let main_v12 : FVec F S2176x128 .f32 := Host.absf main_v11
  let main_cst_2 : FVec F S_ .f32 := constant S_ .f32 0x7F800000#32
  let main_v13 : FVec F S2176x128 .f32 := broadcastInDim S2176x128 ![] bcast_S_S2176x128 main_cst_2
  let main_v14 : IVec S2176x128 1 := cmpf .olt main_v12 main_v13
  let main_c_3 : IVec S_ 1 := constantI S_ 1 1#1
  let main_v15 : IVec S_ 1 := (fun x v => Host.reduce IntOp.andi x v reducesTo_S2176x128_S_d0_1 h_S_) main_v14 main_c_3
  let main_v16 : IVec S_ 1 := andi main_v10 main_v15
  let main_v17 : FVec F S1x8 .f32 := Host.absf main_arg3
  fn_part1 (F := F) main_arg4 main_v16 main_v17
-- ==== Pre_finite_mid.lean ====
abbrev S2064x2816 : Shape := ⟨2, ![2064, 2816]⟩
abbrev S2064x5632 : Shape := ⟨2, ![2064, 5632]⟩
abbrev S3x2816 : Shape := ⟨2, ![3, 2816]⟩
abbrev S2816 : Shape := ⟨1, ![2816]⟩
abbrev S_ : Shape := ⟨0, ![]⟩

class Facts : Prop where
  bcast_S_S2064x2816 : S_.BroadcastsInDim S2064x2816 (![] : Fin 0 → Fin S2064x2816.rank)
  reducesTo_S2064x2816_S_d0_1 : S2064x2816.ReducesTo [0, 1] S_
  h_S_ : 0 < S_.numel
  slices_S2064x5632_S2064x2816_0_2816 : S2064x5632.Slices ![0, 2816] S2064x2816

variable [Facts]

def fn {F : FTy → Type} [FloatOps F] (main_arg0 : FVec F S2064x2816 .f32) (main_arg1 : FVec F S2064x5632 .f32) (main_arg2 : FVec F S3x2816 .f32) (main_arg3 : FVec F S2816 .f32) : IVec S_ 1 :=
  let main_v0 : FVec F S2064x2816 .f32 := Host.absf main_arg0
  let main_cst : FVec F S_ .f32 := constant S_ .f32 0x7F800000#32
  let main_v1 : FVec F S2064x2816 .f32 := broadcastInDim S2064x2816 ![] bcast_S_S2064x2816 main_cst
  let main_v2 : IVec S2064x2816 1 := cmpf .olt main_v0 main_v1
  let main_c : IVec S_ 1 := constantI S_ 1 1#1
  let main_v3 : IVec S_ 1 := (fun x v => Host.reduce IntOp.andi x v reducesTo_S2064x2816_S_d0_1 h_S_) main_v2 main_c
  let main_v4 : FVec F S2064x2816 .f32 := (extractStridedSlice S2064x2816 ![0, 2816] · slices_S2064x5632_S2064x2816_0_2816) main_arg1
  let main_v5 : FVec F S2064x2816 .f32 := Host.absf main_v4
  let main_cst_0 : FVec F S_ .f32 := constant S_ .f32 0x7F800000#32
  let main_v6 : FVec F S2064x2816 .f32 := broadcastInDim S2064x2816 ![] bcast_S_S2064x2816 main_cst_0
  let main_v7 : IVec S2064x2816 1 := cmpf .olt main_v5 main_v6
  let main_c_1 : IVec S_ 1 := constantI S_ 1 1#1
  let main_v8 : IVec S_ 1 := (fun x v => Host.reduce IntOp.andi x v reducesTo_S2064x2816_S_d0_1 h_S_) main_v7 main_c_1
  let main_v9 : IVec S_ 1 := andi main_v3 main_v8
  main_v9
-- ==== Pre_finite_scores.lean ====
abbrev S2176x512 : Shape := ⟨2, ![2176, 512]⟩
abbrev S2176x128 : Shape := ⟨2, ![2176, 128]⟩
abbrev S1x8 : Shape := ⟨2, ![1, 8]⟩
abbrev S_ : Shape := ⟨0, ![]⟩

class Facts : Prop where
  bitsLt_bf16_f32 : FTy.bits .bf16 < FTy.bits .f32
  bcast_S_S2176x512 : S_.BroadcastsInDim S2176x512 (![] : Fin 0 → Fin S2176x512.rank)
  reducesTo_S2176x512_S_d0_1 : S2176x512.ReducesTo [0, 1] S_
  h_S_ : 0 < S_.numel
  bcast_S_S2176x128 : S_.BroadcastsInDim S2176x128 (![] : Fin 0 → Fin S2176x128.rank)
  reducesTo_S2176x128_S_d0_1 : S2176x128.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S2176x512 .bf16) (main_arg1 : FVec F S2176x128 .bf16) (main_arg2 : FVec F S2176x128 .bf16) (main_arg3 : FVec F S1x8 .f32) : IVec S_ 1 :=
  let main_v0 : FVec F S2176x512 .f32 := (extf .f32 · bitsLt_bf16_f32) main_arg0
  let main_v1 : FVec F S2176x512 .f32 := Host.absf main_v0
  let main_cst : FVec F S_ .f32 := constant S_ .f32 0x7F800000#32
  let main_v2 : FVec F S2176x512 .f32 := broadcastInDim S2176x512 ![] bcast_S_S2176x512 main_cst
  let main_v3 : IVec S2176x512 1 := cmpf .olt main_v1 main_v2
  let main_c : IVec S_ 1 := constantI S_ 1 1#1
  let main_v4 : IVec S_ 1 := (fun x v => Host.reduce IntOp.andi x v reducesTo_S2176x512_S_d0_1 h_S_) main_v3 main_c
  let main_v5 : FVec F S2176x128 .f32 := (extf .f32 · bitsLt_bf16_f32) main_arg1
  let main_v6 : FVec F S2176x128 .f32 := Host.absf main_v5
  let main_cst_0 : FVec F S_ .f32 := constant S_ .f32 0x7F800000#32
  let main_v7 : FVec F S2176x128 .f32 := broadcastInDim S2176x128 ![] bcast_S_S2176x128 main_cst_0
  let main_v8 : IVec S2176x128 1 := cmpf .olt main_v6 main_v7
  let main_c_1 : IVec S_ 1 := constantI S_ 1 1#1
  let main_v9 : IVec S_ 1 := (fun x v => Host.reduce IntOp.andi x v reducesTo_S2176x128_S_d0_1 h_S_) main_v8 main_c_1
  let main_v10 : IVec S_ 1 := andi main_v4 main_v9
  let main_v11 : FVec F S1x8 .f32 := Host.absf main_arg3
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  let main_c_3 : IVec S_ 1 := constantI S_ 1 1#1
  let main_v14 : IVec S_ 1 := (fun x v => Host.reduce IntOp.andi x v reducesTo_S1x8_S_d0_1 h_S_) main_v13 main_c_3
  let main_v15 : IVec S_ 1 := andi main_v10 main_v14
  main_v15
-- ==== Dz.lean ====
abbrev S2064x1024 : Shape := ⟨2, ![2064, 1024]⟩
abbrev S2816x1024 : Shape := ⟨2, ![2816, 1024]⟩
abbrev S2064x2816 : Shape := ⟨2, ![2064, 2816]⟩
abbrev S688x1024 : Shape := ⟨2, ![688, 1024]⟩
abbrev S1408x1024 : Shape := ⟨2, ![1408, 1024]⟩
abbrev S688x1408 : Shape := ⟨2, ![688, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .f32⟩
  | .hbm, ⟨1, _⟩ => ⟨S2816x1024, .f32⟩
  | .hbm, ⟨2, _⟩ => ⟨S2064x2816, .f32⟩
  | .local _ .vmem, ⟨0, _⟩ => ⟨S688x1024, .f32⟩
  | .local _ .vmem, ⟨1, _⟩ => ⟨S688x1024, .f32⟩
  | .local _ .vmem, ⟨2, _⟩ => ⟨S1408x1024, .f32⟩
  | .local _ .vmem, ⟨3, _⟩ => ⟨S1408x1024, .f32⟩
  | .local _ .vmem, ⟨4, _⟩ => ⟨S688x1408, .f32⟩
  | .local _ .vmem, ⟨5, _⟩ => ⟨S688x1408, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DzRefIdeal.lean ====
abbrev S2064x1024 : Shape := ⟨2, ![2064, 1024]⟩
abbrev S2816x1024 : Shape := ⟨2, ![2816, 1024]⟩
abbrev S_ : Shape := ⟨0, ![]⟩
abbrev S2064x2816 : Shape := ⟨2, ![2064, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2816x1024, .f32⟩
  | .hbm, ⟨2, _⟩ => ⟨S_, .f32⟩
  | .hbm, ⟨3, _⟩ => ⟨S2064x2816, .f32⟩
  | .hbm, ⟨4, _⟩ => ⟨S2064x1024, .f32⟩
  | .hbm, ⟨5, _⟩ => ⟨S2064x2816, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Attn.lean ====
abbrev S2176x512 : Shape := ⟨2, ![2176, 512]⟩
abbrev S2176x128 : Shape := ⟨2, ![2176, 128]⟩
abbrev S1x8 : Shape := ⟨2, ![1, 8]⟩
abbrev S1x128 : Shape := ⟨2, ![1, 128]⟩
abbrev S128x512 : Shape := ⟨2, ![128, 512]⟩
abbrev S128x128 : Shape := ⟨2, ![128, 128]⟩
abbrev S512x128 : Shape := ⟨2, ![512, 128]⟩
abbrev S512x1 : Shape := ⟨2, ![512, 1]⟩
abbrev S1x1 : Shape := ⟨2, ![1, 1]⟩
abbrev S128x64 : Shape := ⟨2, ![128, 64]⟩
abbrev S512x64 : Shape := ⟨2, ![512, 64]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 19
  | .smem => 1
  | _ => 0

abbrev bufTy : (tb : Table) → Fin (tcTables nBuf tb) → BufTy
  | .hbm, ⟨0, _⟩ => ⟨S2176x512, .bf16⟩
  | .hbm, ⟨1, _⟩ => ⟨S2176x128, .bf16⟩
  | .hbm, ⟨2, _⟩ => ⟨S2176x128, .bf16⟩
  | .hbm, ⟨3, _⟩ => ⟨S1x8, .f32⟩
  | .hbm, ⟨4, _⟩ => ⟨S2176x512, .bf16⟩
  | .hbm, ⟨5, _⟩ => ⟨S2176x512, .f32⟩
  | .hbm, ⟨6, _⟩ => ⟨S2176x128, .f32⟩
  | .hbm, ⟨7, _⟩ => ⟨S2176x128, .f32⟩
  | .hbm, ⟨8, _⟩ => ⟨S1x128, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x512, .bf16⟩
  | .local _ .vmem, ⟨13, _⟩ => ⟨S128x512, .bf16⟩
  | .local _ .vmem, ⟨14, _⟩ => ⟨S128x512, .f32⟩
  | .local _ .vmem, ⟨15, _⟩ => ⟨S128x512, .f32⟩
  | .local _ .vmem, ⟨16, _⟩ => ⟨S2176x128, .f32⟩
  | .local _ .vmem, ⟨17, _⟩ => ⟨S2176x128, .f32⟩
  | .local _ .vmem, ⟨18, _⟩ => ⟨S1x128, .f32⟩
  | .local _ .smem, ⟨0, _⟩ => ⟨S1x8, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![17], ![false]⟩

def k0_mult1 (i : grid0.Coords) : BitVec 32 :=
  let arg0 : BitVec 32 := BitVec.ofNat 32 (i 0).val
  let c128_i32_12 : BitVec 32 := 128#32
  let v36 : BitVec 32 := Scalar.muli arg0 c128_i32_12
  v36
def k0_mult2 (i : grid0.Coords) : BitVec 32 :=
  let arg0 : BitVec 32 := BitVec.ofNat 32 (i 0).val
  let c1_i32_13 : BitVec 32 := 1#32
  let v38 : BitVec 32 := Scalar.subi arg0 c1_i32_13
  let c0_i32_14 : BitVec 32 := 0#32
  let v39 : BitVec 32 := Scalar.maxsi v38 c0_i32_14
  let c128_i32_15 : BitVec 32 := 128#32
  let v40 : BitVec 32 := Scalar.muli v39 c128_i32_15
  v40
def k0_off1 (i : grid0.Coords) : Fin 2 → Nat :=
  let arg0 : BitVec 32 := BitVec.ofNat 32 (i 0).val
  let c128_i32_12 : BitVec 32 := 128#32
  let v36 : BitVec 32 := Scalar.muli arg0 c128_i32_12
  let v37 : BitVec 32 := v36
  let v272 : Index := Scalar.indexCast v37
  let c0_118 : Index := 0#32
  ![v272.toNat, 0]
def k0_off2 (i : grid0.Coords) : Fin 2 → Nat :=
  let arg0 : BitVec 32 := BitVec.ofNat 32 (i 0).val
  let c1_i32_13 : BitVec 32 := 1#32
  let v38 : BitVec 32 := Scalar.subi arg0 c1_i32_13
  let c0_i32_14 : BitVec 32 := 0#32
  let v39 : BitVec 32 := Scalar.maxsi v38 c0_i32_14
  let c128_i32_15 : BitVec 32 := 128#32
  let v40 : BitVec 32 := Scalar.muli v39 c128_i32_15
  let v41 : BitVec 32 := v40
  let v287 : Index := Scalar.indexCast v41
  let c0_124 : Index := 0#32
  ![v287.toNat, 0]
def k0_off3 (i : grid0.Coords) : Fin 2 → Nat :=
  let arg0 : BitVec 32 := BitVec.ofNat 32 (i 0).val
  let c128_i32_12 : BitVec 32 := 128#32
  let v36 : BitVec 32 := Scalar.muli arg0 c128_i32_12
  let v37 : BitVec 32 := v36
  let v541 : Index := Scalar.indexCast v37
  let c64_238 : Index := 64#32
  ![v541.toNat, 64]
def k0_off4 (i : grid0.Coords) : Fin 2 → Nat :=
  let arg0 : BitVec 32 := BitVec.ofNat 32 (i 0).val
  let c1_i32_13 : BitVec 32 := 1#32
  let v38 : BitVec 32 := Scalar.subi arg0 c1_i32_13
  let c0_i32_14 : BitVec 32 := 0#32
  let v39 : BitVec 32 := Scalar.maxsi v38 c0_i32_14
  let c128_i32_15 : BitVec 32 := 128#32
  let v40 : BitVec 32 := Scalar.muli v39 c128_i32_15
  let v41 : BitVec 32 := v40
  let v556 : Index := Scalar.indexCast v41
  let c64_244 : Index := 64#32
  ![v556.toNat, 64]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2176x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2176x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S2176x512 : Shape := ⟨2, ![2176, 512]⟩
abbrev S2176x128 : Shape := ⟨2, ![2176, 128]⟩
abbrev S1x8 : Shape := ⟨2, ![1, 8]⟩
abbrev S17x128x2x4x64 : Shape := ⟨5, ![17, 128, 2, 4, 64]⟩
abbrev S17x128x2x64 : Shape := ⟨4, ![17, 128, 2, 64]⟩
abbrev S1x128x2x64 : Shape := ⟨4, ![1, 128, 2, 64]⟩
abbrev S_ : Shape := ⟨0, ![]⟩
abbrev S16x128x2x64 : Shape := ⟨4, ![16, 128, 2, 64]⟩
abbrev S17x256x2x64 : Shape := ⟨4, ![17, 256, 2, 64]⟩
abbrev S1x16x2x64 : Shape := ⟨4, ![1, 16, 2, 64]⟩
abbrev S16x2x64 : Shape := ⟨3, ![16, 2, 64]⟩
abbrev S17x2x256x128x4 : Shape := ⟨5, ![17, 2, 256, 128, 4]⟩
abbrev S17x2x4x128x256 : Shape := ⟨5, ![17, 2, 4, 128, 256]⟩
abbrev S2x16x17x128x4 : Shape := ⟨5, ![2, 16, 17, 128, 4]⟩
abbrev S17x2x4x128x16 : Shape := ⟨5, ![17, 2, 4, 128, 16]⟩
abbrev S17 : Shape := ⟨1, ![17]⟩
abbrev S17x1 : Shape := ⟨2, ![17, 1]⟩
abbrev S128 : Shape := ⟨1, ![128]⟩
abbrev S1x128 : Shape := ⟨2, ![1, 128]⟩
abbrev S17x128 : Shape := ⟨2, ![17, 128]⟩
abbrev S256 : Shape := ⟨1, ![256]⟩
abbrev S1x256 : Shape := ⟨2, ![1, 256]⟩
abbrev S17x256 : Shape := ⟨2, ![17, 256]⟩
abbrev S17x128x1 : Shape := ⟨3, ![17, 128, 1]⟩
abbrev S17x1x256 : Shape := ⟨3, ![17, 1, 256]⟩
abbrev S17x128x256 : Shape := ⟨3, ![17, 128, 256]⟩
abbrev S16 : Shape := ⟨1, ![16]⟩
abbrev S1x1x16 : Shape := ⟨3, ![1, 1, 16]⟩
abbrev S17x128x16 : Shape := ⟨3, ![17, 128, 16]⟩
abbrev S17x1x1x128x256 : Shape := ⟨5, ![17, 1, 1, 128, 256]⟩
abbrev S17x1x1x128x16 : Shape := ⟨5, ![17, 1, 1, 128, 16]⟩
abbrev S1x2x4x1x1 : Shape := ⟨5, ![1, 2, 4, 1, 1]⟩
abbrev S17x2x4x128x1 : Shape := ⟨5, ![17, 2, 4, 128, 1]⟩
abbrev S17x2x4x128x273 : Shape := ⟨5, ![17, 2, 4, 128, 273]⟩
abbrev S17x2x4x128 : Shape := ⟨4, ![17, 2, 4, 128]⟩
abbrev S17x2x64x4x128 : Shape := ⟨5, ![17, 2, 64, 4, 128]⟩
abbrev S2x64x17x4x128 : Shape := ⟨5, ![2, 64, 17, 4, 128]⟩
abbrev S2x17x4x128x16 : Shape := ⟨5, ![2, 17, 4, 128, 16]⟩
abbrev S2x64x16 : Shape := ⟨3, ![2, 64, 16]⟩
abbrev S17x2x64x256 : Shape := ⟨4, ![17, 2, 64, 256]⟩
abbrev S2x4 : Shape := ⟨2, ![2, 4]⟩
abbrev S2x17x128x4x64 : Shape := ⟨5, ![2, 17, 128, 4, 64]⟩
abbrev S2x16x64 : Shape := ⟨3, ![2, 16, 64]⟩
abbrev S17x2x128x4x64 : Shape := ⟨5, ![17, 2, 128, 4, 64]⟩
abbrev S17x2x256x64 : Shape := ⟨4, ![17, 2, 256, 64]⟩
abbrev S1x120 : Shape := ⟨2, ![1, 120]⟩

abbrev nBuf : Space → Nat
  | .hbm => 239
  | .vmem => 0
  | .smem => 0
  | _ => 0

abbrev hbmTy0_0 (i : Nat) : BufTy := match i % 128 with
  | 0 => ⟨S2176x512, .bf16⟩
  | 1 => ⟨S2176x128, .bf16⟩
  | 2 => ⟨S2176x128, .bf16⟩
  | 3 => ⟨S1x8, .f32⟩
  | 4 => ⟨S2176x512, .bf16⟩
  | 5 => ⟨S2176x512, .f32⟩
  | 6 => ⟨S2176x128, .f32⟩
  | 7 => ⟨S2176x128, .f32⟩
  | 8 => ⟨S17x128x2x4x64, .f32⟩
  | 9 => ⟨S17x128x2x64, .f32⟩
  | 10 => ⟨S17x128x2x64, .f32⟩
  | 11 => ⟨S1x128x2x64, .f32⟩
  | 12 => ⟨S_, .f32⟩
  | 13 => ⟨S1x128x2x64, .f32⟩
  | 14 => ⟨S16x128x2x64, .f32⟩
  | 15 => ⟨S17x128x2x64, .f32⟩
  | 16 => ⟨S_, .f32⟩
  | 17 => ⟨S1x128x2x64, .f32⟩
  | 18 => ⟨S17x256x2x64, .f32⟩
  | 19 => ⟨S1x128x2x64, .f32⟩
  | 20 => ⟨S_, .f32⟩
  | 21 => ⟨S1x128x2x64, .f32⟩
  | 22 => ⟨S16x128x2x64, .f32⟩
  | 23 => ⟨S17x128x2x64, .f32⟩
  | 24 => ⟨S_, .f32⟩
  | 25 => ⟨S1x128x2x64, .f32⟩
  | 26 => ⟨S17x256x2x64, .f32⟩
  | 27 => ⟨S1x16x2x64, .f32⟩
  | 28 => ⟨S16x2x64, .f32⟩
  | 29 => ⟨S1x16x2x64, .f32⟩
  | 30 => ⟨S16x2x64, .f32⟩
  | 31 => ⟨S17x2x256x128x4, .f32⟩
  | 32 => ⟨S17x2x4x128x256, .f32⟩
  | 33 => ⟨S_, .f32⟩
  | 34 => ⟨S17x2x4x128x256, .f32⟩
  | 35 => ⟨S17x2x4x128x256, .f32⟩
  | 36 => ⟨S2x16x17x128x4, .f32⟩
  | 37 => ⟨S17x2x4x128x16, .f32⟩
  | 38 => ⟨S_, .f32⟩
  | 39 => ⟨S17x2x4x128x16, .f32⟩
  | 40 => ⟨S17x2x4x128x16, .f32⟩
  | 41 => ⟨S17, .i32⟩
  | 42 => ⟨S17x1, .i32⟩
  | 43 => ⟨S_, .i32⟩
  | 44 => ⟨S17x1, .i32⟩
  | 45 => ⟨S17x1, .i32⟩
  | 46 => ⟨S128, .i32⟩
  | 47 => ⟨S1x128, .i32⟩
  | 48 => ⟨S17x128, .i32⟩
  | 49 => ⟨S17x128, .i32⟩
  | 50 => ⟨S17x128, .i32⟩
  | 51 => ⟨S_, .i32⟩
  | 52 => ⟨S17x1, .i32⟩
  | 53 => ⟨S17x1, .i32⟩
  | 54 => ⟨S256, .i32⟩
  | 55 => ⟨S1x256, .i32⟩
  | 56 => ⟨S17x256, .i32⟩
  | 57 => ⟨S17x256, .i32⟩
  | 58 => ⟨S17x256, .i32⟩
  | 59 => ⟨S17x128x1, .i32⟩
  | 60 => ⟨S17x1x256, .i32⟩
  | 61 => ⟨S17x128x256, .i32⟩
  | 62 => ⟨S17x128x256, .i32⟩
  | 63 => ⟨S17x128x256, .i32⟩
  | 64 => ⟨S17x1x256, .i32⟩
  | 65 => ⟨S_, .i32⟩
  | 66 => ⟨S17x1x256, .i32⟩
  | 67 => ⟨S17x1x256, .i1⟩
  | 68 => ⟨S_, .i32⟩
  | 69 => ⟨S17x128x256, .i32⟩
  | 70 => ⟨S17x128x256, .i1⟩
  | 71 => ⟨S17x128x256, .i1⟩
  | 72 => ⟨S17x128x256, .i1⟩
  | 73 => ⟨S_, .i32⟩
  | 74 => ⟨S17x128x256, .i32⟩
  | 75 => ⟨S17x128x256, .i1⟩
  | 76 => ⟨S17x128x256, .i1⟩
  | 77 => ⟨S16, .i32⟩
  | 78 => ⟨S_, .i32⟩
  | 79 => ⟨S16, .i32⟩
  | 80 => ⟨S16, .i32⟩
  | 81 => ⟨S1x1x16, .i32⟩
  | 82 => ⟨S17x128x1, .i32⟩
  | 83 => ⟨S17x128x16, .i32⟩
  | 84 => ⟨S17x128x16, .i32⟩
  | 85 => ⟨S17x128x16, .i1⟩
  | 86 => ⟨S17x1x1x128x256, .i1⟩
  | 87 => ⟨S_, .f32⟩
  | 88 => ⟨S_, .f32⟩
  | 89 => ⟨S17x2x4x128x256, .i1⟩
  | 90 => ⟨S17x2x4x128x256, .f32⟩
  | 91 => ⟨S17x2x4x128x256, .f32⟩
  | 92 => ⟨S_, .f32⟩
  | 93 => ⟨S17x2x4x128x256, .f32⟩
  | 94 => ⟨S17x1x1x128x16, .i1⟩
  | 95 => ⟨S_, .f32⟩
  | 96 => ⟨S_, .f32⟩
  | 97 => ⟨S17x2x4x128x16, .i1⟩
  | 98 => ⟨S17x2x4x128x16, .f32⟩
  | 99 => ⟨S17x2x4x128x16, .f32⟩
  | 100 => ⟨S_, .f32⟩
  | 101 => ⟨S17x2x4x128x16, .f32⟩
  | 102 => ⟨S1x2x4x1x1, .f32⟩
  | 103 => ⟨S17x2x4x128x1, .f32⟩
  | 104 => ⟨S17x2x4x128x273, .f32⟩
  | 105 => ⟨S_, .f32⟩
  | 106 => ⟨S17x2x4x128, .f32⟩
  | 107 => ⟨S17x2x4x128x1, .f32⟩
  | 108 => ⟨S17x2x4x128x273, .f32⟩
  | 109 => ⟨S17x2x4x128x273, .i1⟩
  | 110 => ⟨S17x2x4x128x273, .f32⟩
  | 111 => ⟨S_, .f32⟩
  | 112 => ⟨S17x2x4x128, .f32⟩
  | 113 => ⟨S_, .f32⟩
  | 114 => ⟨S17x2x4x128, .f32⟩
  | 115 => ⟨S17x2x4x128, .f32⟩
  | 116 => ⟨S_, .f32⟩
  | 117 => ⟨S17x2x4x128, .f32⟩
  | 118 => ⟨S17x2x4x128, .i1⟩
  | 119 => ⟨S_, .f32⟩
  | 120 => ⟨S17x2x4x128, .f32⟩
  | 121 => ⟨S17x2x4x128, .i1⟩
  | 122 => ⟨S_, .f32⟩
  | 123 => ⟨S17x2x4x128, .f32⟩
  | 124 => ⟨S_, .f32⟩
  | 125 => ⟨S17x2x4x128, .f32⟩
  | 126 => ⟨S_, .f32⟩
  | 127 => ⟨S17x2x4x128, .f32⟩
  | _ => ⟨S2176x512, .bf16⟩

abbrev hbmTy0_1 (i : Nat) : BufTy := match i % 128 with
  | 0 => ⟨S17x2x4x128, .f32⟩
  | 1 => ⟨S17x2x4x128, .f32⟩
  | 2 => ⟨S17x2x4x128x1, .f32⟩
  | 3 => ⟨S17x2x4x128x273, .f32⟩
  | 4 => ⟨S17x2x4x128x273, .f32⟩
  | 5 => ⟨S17x2x4x128x273, .f32⟩
  | 6 => ⟨S_, .f32⟩
  | 7 => ⟨S17x2x4x128, .f32⟩
  | 8 => ⟨S17x2x4x128x1, .f32⟩
  | 9 => ⟨S17x2x4x128x273, .f32⟩
  | 10 => ⟨S17x2x4x128x273, .f32⟩
  | 11 => ⟨S17x2x4x128x1, .f32⟩
  | 12 => ⟨S_, .f32⟩
  | 13 => ⟨S17x2x4x128x1, .f32⟩
  | 14 => ⟨S17x2x4x128x1, .f32⟩
  | 15 => ⟨S17x2x4x128x256, .f32⟩
  | 16 => ⟨S17x2x4x128x16, .f32⟩
  | 17 => ⟨S17x2x64x4x128, .f32⟩
  | 18 => ⟨S17x128x2x4x64, .f32⟩
  | 19 => ⟨S2x64x17x4x128, .f32⟩
  | 20 => ⟨S17x128x2x4x64, .f32⟩
  | 21 => ⟨S17x128x2x4x64, .f32⟩
  | 22 => ⟨S2176x512, .f32⟩
  | 23 => ⟨S2176x512, .f32⟩
  | 24 => ⟨S17x128x2x4x64, .f32⟩
  | 25 => ⟨S2x64x17x4x128, .f32⟩
  | 26 => ⟨S2x17x4x128x16, .f32⟩
  | 27 => ⟨S17x2x4x128x16, .f32⟩
  | 28 => ⟨S2x64x16, .f32⟩
  | 29 => ⟨S16x2x64, .f32⟩
  | 30 => ⟨S17x2x64x4x128, .f32⟩
  | 31 => ⟨S17x2x4x128x256, .f32⟩
  | 32 => ⟨S17x2x64x256, .f32⟩
  | 33 => ⟨S17x256x2x64, .f32⟩
  | 34 => ⟨S_, .f32⟩
  | 35 => ⟨S17x2x4x128x273, .f32⟩
  | 36 => ⟨S_, .f32⟩
  | 37 => ⟨S17x2x4x128x273, .f32⟩
  | 38 => ⟨S17x2x4x128x273, .f32⟩
  | 39 => ⟨S17x2x4x128x273, .f32⟩
  | 40 => ⟨S17x2x4x128x273, .f32⟩
  | 41 => ⟨S17x2x4x128x273, .f32⟩
  | 42 => ⟨S_, .f32⟩
  | 43 => ⟨S17x2x4x128, .f32⟩
  | 44 => ⟨S17x2x4x128x1, .f32⟩
  | 45 => ⟨S17x2x4x128x1, .f32⟩
  | 46 => ⟨S17x2x4x128x273, .f32⟩
  | 47 => ⟨S17x2x4x128x273, .f32⟩
  | 48 => ⟨S_, .f32⟩
  | 49 => ⟨S17x2x4x128, .f32⟩
  | 50 => ⟨S17x2x4x128x273, .f32⟩
  | 51 => ⟨S17x2x4x128x273, .f32⟩
  | 52 => ⟨S17x2x4x128x273, .f32⟩
  | 53 => ⟨S17x2x4x128x256, .f32⟩
  | 54 => ⟨S17x2x4x128x16, .f32⟩
  | 55 => ⟨S17x2x4x128x1, .f32⟩
  | 56 => ⟨S_, .f32⟩
  | 57 => ⟨S2x4, .f32⟩
  | 58 => ⟨S1x2x4x1x1, .f32⟩
  | 59 => ⟨S1x8, .f32⟩
  | 60 => ⟨S_, .f32⟩
  | 61 => ⟨S17x2x4x128x16, .f32⟩
  | 62 => ⟨S17x2x4x128x16, .f32⟩
  | 63 => ⟨S_, .f32⟩
  | 64 => ⟨S17x2x4x128x256, .f32⟩
  | 65 => ⟨S17x2x4x128x256, .f32⟩
  | 66 => ⟨S_, .f32⟩
  | 67 => ⟨S17x2x4x128x16, .f32⟩
  | 68 => ⟨S17x2x4x128x16, .f32⟩
  | 69 => ⟨S2x16x17x128x4, .f32⟩
  | 70 => ⟨S2x17x128x4x64, .f32⟩
  | 71 => ⟨S17x128x2x4x64, .f32⟩
  | 72 => ⟨S2x16x64, .f32⟩
  | 73 => ⟨S16x2x64, .f32⟩
  | 74 => ⟨S_, .f32⟩
  | 75 => ⟨S17x2x4x128x256, .f32⟩
  | 76 => ⟨S17x2x4x128x256, .f32⟩
  | 77 => ⟨S17x2x256x128x4, .f32⟩
  | 78 => ⟨S17x2x128x4x64, .f32⟩
  | 79 => ⟨S17x128x2x4x64, .f32⟩
  | 80 => ⟨S17x128x2x4x64, .f32⟩
  | 81 => ⟨S17x2x256x64, .f32⟩
  | 82 => ⟨S17x256x2x64, .f32⟩
  | 83 => ⟨S1x16x2x64, .f32⟩
  | 84 => ⟨S_, .f32⟩
  | 85 => ⟨S17x128x2x64, .f32⟩
  | 86 => ⟨S1x16x2x64, .f32⟩
  | 87 => ⟨S_, .f32⟩
  | 88 => ⟨S17x128x2x64, .f32⟩
  | 89 => ⟨S17x128x2x64, .f32⟩
  | 90 => ⟨S17x128x2x64, .f32⟩
  | 91 => ⟨S17x128x2x64, .f32⟩
  | 92 => ⟨S1x128x2x64, .f32⟩
  | 93 => ⟨S16x128x2x64, .f32⟩
  | 94 => ⟨S_, .f32⟩
  | 95 => ⟨S17x128x2x64, .f32⟩
  | 96 => ⟨S17x128x2x64, .f32⟩
  | 97 => ⟨S17x128x2x64, .f32⟩
  | 98 => ⟨S17x128x2x64, .f32⟩
  | 99 => ⟨S17x128x2x64, .f32⟩
  | 100 => ⟨S1x128x2x64, .f32⟩
  | 101 => ⟨S16x128x2x64, .f32⟩
  | 102 => ⟨S_, .f32⟩
  | 103 => ⟨S17x128x2x64, .f32⟩
  | 104 => ⟨S17x128x2x64, .f32⟩
  | 105 => ⟨S2176x128, .f32⟩
  | 106 => ⟨S2176x128, .f32⟩
  | 107 => ⟨S2176x512, .f32⟩
  | 108 => ⟨S_, .f32⟩
  | 109 => ⟨S1x120, .f32⟩
  | 110 => ⟨S1x128, .f32⟩
  | _ => ⟨S2176x512, .bf16⟩

abbrev hbmTy (i : Nat) : BufTy := match i / 128 with
  | 0 => hbmTy0_0 i
  | 1 => hbmTy0_1 i
  | _ => ⟨S2176x512, .bf16⟩

abbrev bufTy : (tb : Table) → Fin (tcTables nBuf tb) → BufTy
  | .hbm, ⟨i, _⟩ => hbmTy i
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_6 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_call0_v0 : Ref sig .tc := ⟨.hbm, 88, rfl⟩
abbrev main_v70_1 : Ref sig .tc := ⟨.hbm, 89, rfl⟩
abbrev main_call0_v2 : Ref sig .tc := ⟨.hbm, 90, rfl⟩
abbrev main_v70_0 : Ref sig .tc := ⟨.hbm, 91, rfl⟩
abbrev main_call0_cst : Ref sig .tc := ⟨.hbm, 92, rfl⟩
abbrev main_v70_2 : Ref sig .tc := ⟨.hbm, 93, rfl⟩
abbrev main_v71 : Ref sig .tc := ⟨.hbm, 94, rfl⟩
abbrev main_cst_11 : Ref sig .tc := ⟨.hbm, 95, rfl⟩
abbrev main_call1_v0 : Ref sig .tc := ⟨.hbm, 96, rfl⟩
abbrev main_v72_1 : Ref sig .tc := ⟨.hbm, 97, rfl⟩
abbrev main_call1_v2 : Ref sig .tc := ⟨.hbm, 98, rfl⟩
abbrev main_v72_0 : Ref sig .tc := ⟨.hbm, 99, rfl⟩
abbrev main_call1_cst : Ref sig .tc := ⟨.hbm, 100, rfl⟩
abbrev main_v72_2 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_21 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_22 : Ref sig .tc := ⟨.hbm, 162, rfl⟩
abbrev main_v123 : Ref sig .tc := ⟨.hbm, 163, rfl⟩
abbrev main_cst_23 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_24 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_25 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_26 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_call2_cst : Ref sig .tc := ⟨.hbm, 188, rfl⟩
abbrev main_call2_v0 : Ref sig .tc := ⟨.hbm, 189, rfl⟩
abbrev main_v144 : Ref sig .tc := ⟨.hbm, 190, rfl⟩
abbrev main_call3_cst : Ref sig .tc := ⟨.hbm, 191, rfl⟩
abbrev main_call3_v0 : Ref sig .tc := ⟨.hbm, 192, rfl⟩
abbrev main_v145 : Ref sig .tc := ⟨.hbm, 193, rfl⟩
abbrev main_cst_27 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_28 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_29 : Ref sig .tc := ⟨.hbm, 212, rfl⟩
abbrev main_v162 : Ref sig .tc := ⟨.hbm, 213, rfl⟩
abbrev main_v163 : Ref sig .tc := ⟨.hbm, 214, rfl⟩
abbrev main_cst_30 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_31 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_cst_32 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_33 : Ref sig .tc := ⟨.hbm, 236, rfl⟩
abbrev main_v182 : Ref sig .tc := ⟨.hbm, 237, rfl⟩
abbrev main_v183 : Ref sig .tc := ⟨.hbm, 238, rfl⟩

abbrev nD : Nat := 1
abbrev τ : Topo := Topo.v7x

variable {F : FTy → Type} [FloatOps F]
-- ==== Rms.lean ====
abbrev S2064x2816 : Shape := ⟨2, ![2064, 2816]⟩
abbrev S5632x1024 : Shape := ⟨2, ![5632, 1024]⟩
abbrev S2064x1024 : Shape := ⟨2, ![2064, 1024]⟩
abbrev S1x1024 : Shape := ⟨2, ![1, 1024]⟩
abbrev S688x2816 : Shape := ⟨2, ![688, 2816]⟩
abbrev S2816x1024 : Shape := ⟨2, ![2816, 1024]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2064x2816, .bf16⟩
  | .hbm, ⟨1, _⟩ => ⟨S5632x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S1x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .f32⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S1x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsRefIdeal.lean ====
abbrev S2064x2816 : Shape := ⟨2, ![2064, 2816]⟩
abbrev S5632x1024 : Shape := ⟨2, ![5632, 1024]⟩
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S2816x1024 : Shape := ⟨2, ![2816, 1024]⟩
abbrev S1024x2816 : Shape := ⟨2, ![1024, 2816]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S5632x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2816x1024, .f32⟩
  | .hbm, ⟨26, _⟩ => ⟨S1024x2816, .f32⟩
  | .hbm, ⟨27, _⟩ => ⟨S2064x2816, .f32⟩
  | .hbm, ⟨28, _⟩ => ⟨S2064x2816, .f32⟩
  | .hbm, ⟨29, _⟩ => ⟨S2064x1024, .f32⟩
  | .hbm, ⟨30, _⟩ => ⟨S2064x1024, .f32⟩
  | .hbm, ⟨31, _⟩ => ⟨S2064x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S_, .f32⟩
  | .hbm, ⟨39, _⟩ => ⟨S2064, .f32⟩
  | .hbm, ⟨40, _⟩ => ⟨S2064x1, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S2064x1, .f32⟩
  | .hbm, ⟨45, _⟩ => ⟨S_, .f32⟩
  | .hbm, ⟨46, _⟩ => ⟨S2064x1, .f32⟩
  | .hbm, ⟨47, _⟩ => ⟨S2064x1, .f32⟩
  | .hbm, ⟨48, _⟩ => ⟨S_, .f32⟩
  | .hbm, ⟨49, _⟩ => ⟨S2064, .f32⟩
  | .hbm, ⟨50, _⟩ => ⟨S2064x1024, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S2064x1024, .f32⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Down.lean ====
abbrev S2064x2816 : Shape := ⟨2, ![2064, 2816]⟩
abbrev S2064x1024 : Shape := ⟨2, ![2064, 1024]⟩
abbrev S2816x1024 : Shape := ⟨2, ![2816, 1024]⟩
abbrev S2064x256 : Shape := ⟨2, ![2064, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x2816, .bf16⟩
  | .hbm, ⟨1, _⟩ => ⟨S2064x1024, .f32⟩
  | .hbm, ⟨2, _⟩ => ⟨S2816x1024, .bf16⟩
  | .local _ .vmem, ⟨0, _⟩ => ⟨S2064x256, .bf16⟩
  | .local _ .vmem, ⟨1, _⟩ => ⟨S2064x256, .bf16⟩
  | .local _ .vmem, ⟨2, _⟩ => ⟨S2064x1024, .f32⟩
  | .local _ .vmem, ⟨3, _⟩ => ⟨S256x1024, .bf16⟩
  | .local _ .vmem, ⟨4, _⟩ => ⟨S256x1024, .bf16⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2064x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2064x2816 : Shape := ⟨2, ![2064, 2816]⟩
abbrev S2064x1024 : Shape := ⟨2, ![2064, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2064x1024, .f32⟩
  | .hbm, ⟨2, _⟩ => ⟨S_, .f32⟩
  | .hbm, ⟨3, _⟩ => ⟨S2816x1024, .f32⟩
  | .hbm, ⟨4, _⟩ => ⟨S2064x2816, .f32⟩
  | .hbm, ⟨5, _⟩ => ⟨S2064x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S2064x2816 : Shape := ⟨2, ![2064, 2816]⟩
abbrev S2064x1024 : Shape := ⟨2, ![2064, 1024]⟩
abbrev S5632x1024 : Shape := ⟨2, ![5632, 1024]⟩
abbrev S2064x256 : Shape := ⟨2, ![2064, 256]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2064x2816, .bf16⟩
  | .hbm, ⟨1, _⟩ => ⟨S2064x2816, .bf16⟩
  | .hbm, ⟨2, _⟩ => ⟨S2064x1024, .bf16⟩
  | .hbm, ⟨3, _⟩ => ⟨S5632x1024, .bf16⟩
  | .hbm, ⟨4, _⟩ => ⟨S5632x1024, .bf16⟩
  | .local _ .vmem, ⟨0, _⟩ => ⟨S2064x256, .bf16⟩
  | .local _ .vmem, ⟨1, _⟩ => ⟨S2064x256, .bf16⟩
  | .local _ .vmem, ⟨2, _⟩ => ⟨S2064x1024, .bf16⟩
  | .local _ .vmem, ⟨3, _⟩ => ⟨S256x1024, .bf16⟩
  | .local _ .vmem, ⟨4, _⟩ => ⟨S256x1024, .bf16⟩
  | .local _ .vmem, ⟨5, _⟩ => ⟨S2064x256, .bf16⟩
  | .local _ .vmem, ⟨6, _⟩ => ⟨S2064x256, .bf16⟩
  | .local _ .vmem, ⟨7, _⟩ => ⟨S2064x1024, .bf16⟩
  | .local _ .vmem, ⟨8, _⟩ => ⟨S256x1024, .bf16⟩
  | .local _ .vmem, ⟨9, _⟩ => ⟨S256x1024, .bf16⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2064x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![11, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg0 c11_i32
  let c0_i32 : BitVec 32 := 0#32
  ![v0.toNat, arg1.toNat]

abbrev stage1_0 : Fin 2 → Memref sig .tc .vmem S2064x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S2064x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== UpRefIdeal.lean ====
abbrev S2064x2816 : Shape := ⟨2, ![2064, 2816]⟩
abbrev S2064x1024 : Shape := ⟨2, ![2064, 1024]⟩
abbrev S2064x5632 : Shape := ⟨2, ![2064, 5632]⟩
abbrev S_ : Shape := ⟨0, ![]⟩
abbrev S5632x1024 : Shape := ⟨2, ![5632, 1024]⟩
abbrev S1024x5632 : Shape := ⟨2, ![1024, 5632]⟩

abbrev nBuf : Space → Nat
  | .hbm => 15
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2064x2816, .bf16⟩
  | .hbm, ⟨2, _⟩ => ⟨S2064x1024, .bf16⟩
  | .hbm, ⟨3, _⟩ => ⟨S2064x2816, .f32⟩
  | .hbm, ⟨4, _⟩ => ⟨S2064x2816, .f32⟩
  | .hbm, ⟨5, _⟩ => ⟨S2064x5632, .f32⟩
  | .hbm, ⟨6, _⟩ => ⟨S_, .f32⟩
  | .hbm, ⟨7, _⟩ => ⟨S5632x1024, .f32⟩
  | .hbm, ⟨8, _⟩ => ⟨S2064x1024, .f32⟩
  | .hbm, ⟨9, _⟩ => ⟨S1024x5632, .f32⟩
  | .hbm, ⟨10, _⟩ => ⟨S2064x5632, .f32⟩
  | .hbm, ⟨11, _⟩ => ⟨S5632x1024, .f32⟩
  | .hbm, ⟨12, _⟩ => ⟨S1024x5632, .f32⟩
  | .hbm, ⟨13, _⟩ => ⟨S5632x1024, .f32⟩
  | .hbm, ⟨14, _⟩ => ⟨S5632x1024, .bf16⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Gate.lean ====
abbrev S2064x2816 : Shape := ⟨2, ![2064, 2816]⟩
abbrev S5632x1024 : Shape := ⟨2, ![5632, 1024]⟩
abbrev S2064x1024 : Shape := ⟨2, ![2064, 1024]⟩
abbrev S688x2816 : Shape := ⟨2, ![688, 2816]⟩
abbrev S2816x1024 : Shape := ⟨2, ![2816, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x2816, .bf16⟩
  | .hbm, ⟨1, _⟩ => ⟨S5632x1024, .f32⟩
  | .hbm, ⟨2, _⟩ => ⟨S2064x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .f32⟩
  | .local _ .vmem, ⟨3, _⟩ => ⟨S688x1024, .f32⟩
  | .local _ .vmem, ⟨4, _⟩ => ⟨S688x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S2064x2816 : Shape := ⟨2, ![2064, 2816]⟩
abbrev S5632x1024 : Shape := ⟨2, ![5632, 1024]⟩
abbrev S_ : Shape := ⟨0, ![]⟩
abbrev S2064x1024 : Shape := ⟨2, ![2064, 1024]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S5632x1024, .f32⟩
  | .hbm, ⟨2, _⟩ => ⟨S_, .f32⟩
  | .hbm, ⟨3, _⟩ => ⟨S2064x1024, .f32⟩
  | .hbm, ⟨4, _⟩ => ⟨S2816x1024, .f32⟩
  | .hbm, ⟨5, _⟩ => ⟨S1024x2816, .f32⟩
  | .hbm, ⟨6, _⟩ => ⟨S2064x2816, .f32⟩
  | .hbm, ⟨7, _⟩ => ⟨S2064x2816, .f32⟩
  | .hbm, ⟨8, _⟩ => ⟨S2064x1024, .f32⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Eb.lean ====
abbrev S2064x1024 : Shape := ⟨2, ![2064, 1024]⟩
abbrev S2064x2560 : Shape := ⟨2, ![2064, 2560]⟩
abbrev S3x512 : Shape := ⟨2, ![3, 512]⟩
abbrev S2064x512 : Shape := ⟨2, ![2064, 512]⟩
abbrev S2064x128 : Shape := ⟨2, ![2064, 128]⟩
abbrev S3x128 : Shape := ⟨2, ![3, 128]⟩
abbrev S2096x128 : Shape := ⟨2, ![2096, 128]⟩
abbrev S32x128 : Shape := ⟨2, ![32, 128]⟩
abbrev S344x128 : Shape := ⟨2, ![344, 128]⟩
abbrev S1x128 : Shape := ⟨2, ![1, 128]⟩
abbrev S128 : Shape := ⟨1, ![128]⟩

abbrev nBuf : Space → Nat
  | .hbm => 7
  | .vmem => 20
  | .smem => 0
  | _ => 0

abbrev bufTy : (tb : Table) → Fin (tcTables nBuf tb) → BufTy
  | .hbm, ⟨0, _⟩ => ⟨S2064x1024, .f32⟩
  | .hbm, ⟨1, _⟩ => ⟨S2064x2560, .f32⟩
  | .hbm, ⟨2, _⟩ => ⟨S3x512, .f32⟩
  | .hbm, ⟨3, _⟩ => ⟨S2064x512, .f32⟩
  | .hbm, ⟨4, _⟩ => ⟨S2064x512, .f32⟩
  | .hbm, ⟨5, _⟩ => ⟨S2064x512, .f32⟩
  | .hbm, ⟨6, _⟩ => ⟨S3x512, .f32⟩
  | .local _ .vmem, ⟨0, _⟩ => ⟨S2064x128, .f32⟩
  | .local _ .vmem, ⟨1, _⟩ => ⟨S2064x128, .f32⟩
  | .local _ .vmem, ⟨2, _⟩ => ⟨S2064x128, .f32⟩
  | .local _ .vmem, ⟨3, _⟩ => ⟨S2064x128, .f32⟩
  | .local _ .vmem, ⟨4, _⟩ => ⟨S2064x128, .f32⟩
  | .local _ .vmem, ⟨5, _⟩ => ⟨S2064x128, .f32⟩
  | .local _ .vmem, ⟨6, _⟩ => ⟨S2064x128, .f32⟩
  | .local _ .vmem, ⟨7, _⟩ => ⟨S2064x128, .f32⟩
  | .local _ .vmem, ⟨8, _⟩ => ⟨S3x128, .f32⟩
  | .local _ .vmem, ⟨9, _⟩ => ⟨S3x128, .f32⟩
  | .local _ .vmem, ⟨10, _⟩ => ⟨S2064x128, .f32⟩
  | .local _ .vmem, ⟨11, _⟩ => ⟨S2064x128, .f32⟩
  | .local _ .vmem, ⟨12, _⟩ => ⟨S2064x128, .f32⟩
  | .local _ .vmem, ⟨13, _⟩ => ⟨S2064x128, .f32⟩
  | .local _ .vmem, ⟨14, _⟩ => ⟨S2064x128, .f32⟩
  | .local _ .vmem, ⟨15, _⟩ => ⟨S2064x128, .f32⟩
  | .local _ .vmem, ⟨16, _⟩ => ⟨S3x128, .f32⟩
  | .local _ .vmem, ⟨17, _⟩ => ⟨S3x128, .f32⟩
  | .local _ .vmem, ⟨18, _⟩ => ⟨S2096x128, .f32⟩
  | .local _ .vmem, ⟨19, _⟩ => ⟨S2096x128, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2064x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2064x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2064x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2064x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EbRefIdeal.lean ====
abbrev S2064x1024 : Shape := ⟨2, ![2064, 1024]⟩
abbrev S2064x2560 : Shape := ⟨2, ![2064, 2560]⟩
abbrev S3x512 : Shape := ⟨2, ![3, 512]⟩
abbrev S2064x512 : Shape := ⟨2, ![2064, 512]⟩
abbrev S_ : Shape := ⟨0, ![]⟩
abbrev S2x512 : Shape := ⟨2, ![2, 512]⟩
abbrev S2066x512 : Shape := ⟨2, ![2066, 512]⟩
abbrev S1x512 : Shape := ⟨2, ![1, 512]⟩
abbrev S512 : Shape := ⟨1, ![512]⟩

abbrev nBuf : Space → Nat
  | .hbm => 71
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x2560, .f32⟩
  | .hbm, ⟨2, _⟩ => ⟨S3x512, .f32⟩
  | .hbm, ⟨3, _⟩ => ⟨S2064x512, .f32⟩
  | .hbm, ⟨4, _⟩ => ⟨S2064x512, .f32⟩
  | .hbm, ⟨5, _⟩ => ⟨S2064x512, .f32⟩
  | .hbm, ⟨6, _⟩ => ⟨S_, .f32⟩
  | .hbm, ⟨7, _⟩ => ⟨S2x512, .f32⟩
  | .hbm, ⟨8, _⟩ => ⟨S2064x512, .f32⟩
  | .hbm, ⟨9, _⟩ => ⟨S2066x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S2064x512, .f32⟩
  | .hbm, ⟨14, _⟩ => ⟨S2064x512, .f32⟩
  | .hbm, ⟨15, _⟩ => ⟨S2064x512, .f32⟩
  | .hbm, ⟨16, _⟩ => ⟨S_, .f32⟩
  | .hbm, ⟨17, _⟩ => ⟨S2064x512, .f32⟩
  | .hbm, ⟨18, _⟩ => ⟨S2064x512, .f32⟩
  | .hbm, ⟨19, _⟩ => ⟨S1x512, .f32⟩
  | .hbm, ⟨20, _⟩ => ⟨S2064x512, .f32⟩
  | .hbm, ⟨21, _⟩ => ⟨S2064x512, .f32⟩
  | .hbm, ⟨22, _⟩ => ⟨S2064x512, .f32⟩
  | .hbm, ⟨23, _⟩ => ⟨S2064x512, .f32⟩
  | .hbm, ⟨24, _⟩ => ⟨S1x512, .f32⟩
  | .hbm, ⟨25, _⟩ => ⟨S2064x512, .f32⟩
  | .hbm, ⟨26, _⟩ => ⟨S2064x512, .f32⟩
  | .hbm, ⟨27, _⟩ => ⟨S2064x512, .f32⟩
  | .hbm, ⟨28, _⟩ => ⟨S2064x512, .f32⟩
  | .hbm, ⟨29, _⟩ => ⟨S2064x512, .f32⟩
  | .hbm, ⟨30, _⟩ => ⟨S2064x512, .f32⟩
  | .hbm, ⟨31, _⟩ => ⟨S2064x512, .f32⟩
  | .hbm, ⟨32, _⟩ => ⟨S2064x512, .f32⟩
  | .hbm, ⟨33, _⟩ => ⟨S2064x512, .f32⟩
  | .hbm, ⟨34, _⟩ => ⟨S2064x512, .f32⟩
  | .hbm, ⟨35, _⟩ => ⟨S2064x512, .f32⟩
  | .hbm, ⟨36, _⟩ => ⟨S_, .f32⟩
  | .hbm, ⟨37, _⟩ => ⟨S512, .f32⟩
  | .hbm, ⟨38, _⟩ => ⟨S1x512, .f32⟩
  | .hbm, ⟨39, _⟩ => ⟨S_, .f32⟩
  | .hbm, ⟨40, _⟩ => ⟨S2066x512, .f32⟩
  | .hbm, ⟨41, _⟩ => ⟨S_, .f32⟩
  | .hbm, ⟨42, _⟩ => ⟨S3x512, .f32⟩
  | .hbm, ⟨43, _⟩ => ⟨S2064x512, .f32⟩
  | .hbm, ⟨44, _⟩ => ⟨S2064x512, .f32⟩
  | .hbm, ⟨45, _⟩ => ⟨S2064x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S2066x512, .f32⟩
  | .hbm, ⟨51, _⟩ => ⟨S2066x512, .f32⟩
  | .hbm, ⟨52, _⟩ => ⟨S_, .f32⟩
  | .hbm, ⟨53, _⟩ => ⟨S3x512, .f32⟩
  | .hbm, ⟨54, _⟩ => ⟨S3x512, .f32⟩
  | .hbm, ⟨55, _⟩ => ⟨S2064x512, .f32⟩
  | .hbm, ⟨56, _⟩ => ⟨S2064x512, .f32⟩
  | .hbm, ⟨57, _⟩ => ⟨S2064x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S2066x512, .f32⟩
  | .hbm, ⟨63, _⟩ => ⟨S2066x512, .f32⟩
  | .hbm, ⟨64, _⟩ => ⟨S_, .f32⟩
  | .hbm, ⟨65, _⟩ => ⟨S3x512, .f32⟩
  | .hbm, ⟨66, _⟩ => ⟨S3x512, .f32⟩
  | .hbm, ⟨67, _⟩ => ⟨S2x512, .f32⟩
  | .hbm, ⟨68, _⟩ => ⟨S2064x512, .f32⟩
  | .hbm, ⟨69, _⟩ => ⟨S2064x512, .f32⟩
  | .hbm, ⟨70, _⟩ => ⟨S2064x512, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== EvDy.lean ====
abbrev S2064x1024 : Shape := ⟨2, ![2064, 1024]⟩
abbrev S1024x1024 : Shape := ⟨2, ![1024, 1024]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S2064x1024, .f32⟩
  | .local _ .vmem, ⟨0, _⟩ => ⟨S688x1024, .f32⟩
  | .local _ .vmem, ⟨1, _⟩ => ⟨S688x1024, .f32⟩
  | .local _ .vmem, ⟨2, _⟩ => ⟨S1024x1024, .f32⟩
  | .local _ .vmem, ⟨3, _⟩ => ⟨S688x1024, .f32⟩
  | .local _ .vmem, ⟨4, _⟩ => ⟨S688x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDyRefIdeal.lean ====
abbrev S2064x1024 : Shape := ⟨2, ![2064, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .f32⟩
  | .hbm, ⟨3, _⟩ => ⟨S2064x1024, .f32⟩
  | .hbm, ⟨4, _⟩ => ⟨S2064x1024, .f32⟩
  | .hbm, ⟨5, _⟩ => ⟨S2064x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvGout.lean ====
abbrev S2064x1024 : Shape := ⟨2, ![2064, 1024]⟩
abbrev S1024x1024 : Shape := ⟨2, ![1024, 1024]⟩
abbrev S2064x512 : Shape := ⟨2, ![2064, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .f32⟩
  | .hbm, ⟨2, _⟩ => ⟨S1024x1024, .bf16⟩
  | .local _ .vmem, ⟨0, _⟩ => ⟨S2064x512, .bf16⟩
  | .local _ .vmem, ⟨1, _⟩ => ⟨S2064x512, .bf16⟩
  | .local _ .vmem, ⟨2, _⟩ => ⟨S2064x1024, .f32⟩
  | .local _ .vmem, ⟨3, _⟩ => ⟨S512x1024, .bf16⟩
  | .local _ .vmem, ⟨4, _⟩ => ⟨S512x1024, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvGoutRefIdeal.lean ====
abbrev S2064x1024 : Shape := ⟨2, ![2064, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2064x1024, .f32⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S2064x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvGin.lean ====
abbrev S2064x2560 : Shape := ⟨2, ![2064, 2560]⟩
abbrev S2064x1024 : Shape := ⟨2, ![2064, 1024]⟩
abbrev S2560x1024 : Shape := ⟨2, ![2560, 1024]⟩
abbrev S2064x640 : Shape := ⟨2, ![2064, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x2560, .f32⟩
  | .hbm, ⟨1, _⟩ => ⟨S2064x1024, .bf16⟩
  | .hbm, ⟨2, _⟩ => ⟨S2560x1024, .bf16⟩
  | .local _ .vmem, ⟨0, _⟩ => ⟨S2064x640, .f32⟩
  | .local _ .vmem, ⟨1, _⟩ => ⟨S2064x640, .f32⟩
  | .local _ .vmem, ⟨2, _⟩ => ⟨S2064x1024, .bf16⟩
  | .local _ .vmem, ⟨3, _⟩ => ⟨S640x1024, .bf16⟩
  | .local _ .vmem, ⟨4, _⟩ => ⟨S640x1024, .bf16⟩
  | _, _ => ⟨S2064x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2064x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvGinRefIdeal.lean ====
abbrev S2064x2560 : Shape := ⟨2, ![2064, 2560]⟩
abbrev S2064x1024 : Shape := ⟨2, ![2064, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 11
  | .vmem => 0
  | .smem => 0
  | _ => 0

abbrev bufTy : (tb : Table) → Fin (tcTables nBuf tb) → BufTy
  | .hbm, ⟨0, _⟩ => ⟨S2064x2560, .f32⟩
  | .hbm, ⟨1, _⟩ => ⟨S2064x1024, .bf16⟩
  | .hbm, ⟨2, _⟩ => ⟨S_, .f32⟩
  | .hbm, ⟨3, _⟩ => ⟨S2560x1024, .f32⟩
  | .hbm, ⟨4, _⟩ => ⟨S2064x1024, .f32⟩
  | .hbm, ⟨5, _⟩ => ⟨S1024x2560, .f32⟩
  | .hbm, ⟨6, _⟩ => ⟨S2064x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S2064x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvNorm.lean ====
abbrev S2064x2560 : Shape := ⟨2, ![2064, 2560]⟩
abbrev S2560x1024 : Shape := ⟨2, ![2560, 1024]⟩
abbrev S2064x1024 : Shape := ⟨2, ![2064, 1024]⟩
abbrev S1x1024 : Shape := ⟨2, ![1, 1024]⟩
abbrev S688x2560 : Shape := ⟨2, ![688, 2560]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2064x2560, .f32⟩
  | .hbm, ⟨1, _⟩ => ⟨S2560x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S1x1024, .f32⟩
  | .local _ .vmem, ⟨0, _⟩ => ⟨S688x2560, .f32⟩
  | .local _ .vmem, ⟨1, _⟩ => ⟨S688x2560, .f32⟩
  | .local _ .vmem, ⟨2, _⟩ => ⟨S2560x1024, .f32⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S1x1024, .f32⟩
  | _, _ => ⟨S2064x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== EvNormRefIdeal.lean ====
abbrev S2064x2560 : Shape := ⟨2, ![2064, 2560]⟩
abbrev S2560x1024 : Shape := ⟨2, ![2560, 1024]⟩
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S1024x2560 : Shape := ⟨2, ![1024, 2560]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2064x2560, .f32⟩
  | .hbm, ⟨1, _⟩ => ⟨S2560x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S1024x2560, .f32⟩
  | .hbm, ⟨25, _⟩ => ⟨S2064x2560, .f32⟩
  | .hbm, ⟨26, _⟩ => ⟨S2064x1024, .f32⟩
  | .hbm, ⟨27, _⟩ => ⟨S2064x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2064x1024, .f32⟩
  | .hbm, ⟨32, _⟩ => ⟨S2064x1024, .f32⟩
  | .hbm, ⟨33, _⟩ => ⟨S2064x1024, .f32⟩
  | .hbm, ⟨34, _⟩ => ⟨S_, .f32⟩
  | .hbm, ⟨35, _⟩ => ⟨S2064, .f32⟩
  | .hbm, ⟨36, _⟩ => ⟨S2064x1, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1, .f32⟩
  | .hbm, ⟨41, _⟩ => ⟨S_, .f32⟩
  | .hbm, ⟨42, _⟩ => ⟨S2064x1, .f32⟩
  | .hbm, ⟨43, _⟩ => ⟨S2064x1, .f32⟩
  | .hbm, ⟨44, _⟩ => ⟨S_, .f32⟩
  | .hbm, ⟨45, _⟩ => ⟨S2064, .f32⟩
  | .hbm, ⟨46, _⟩ => ⟨S2064x1024, .f32⟩
  | .hbm, ⟨47, _⟩ => ⟨S2064x1024, .f32⟩
  | .hbm, ⟨48, _⟩ => ⟨S2064x1024, .f32⟩
  | .hbm, ⟨49, _⟩ => ⟨S2064x1024, .f32⟩
  | .hbm, ⟨50, _⟩ => ⟨S2064x1024, .f32⟩
  | _, _ => ⟨S2064x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== OdGin.lean ====
abbrev S2064x768 : Shape := ⟨2, ![2064, 768]⟩
abbrev S2064x1792 : Shape := ⟨2, ![2064, 1792]⟩
abbrev S2064x1024 : Shape := ⟨2, ![2064, 1024]⟩
abbrev S2560x1024 : Shape := ⟨2, ![2560, 1024]⟩
abbrev S2064x384 : Shape := ⟨2, ![2064, 384]⟩
abbrev S384x1024 : Shape := ⟨2, ![384, 1024]⟩
abbrev S2064x256 : Shape := ⟨2, ![2064, 256]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2064x768, .bf16⟩
  | .hbm, ⟨1, _⟩ => ⟨S2064x1792, .bf16⟩
  | .hbm, ⟨2, _⟩ => ⟨S2064x1024, .bf16⟩
  | .hbm, ⟨3, _⟩ => ⟨S2560x1024, .bf16⟩
  | .hbm, ⟨4, _⟩ => ⟨S2560x1024, .bf16⟩
  | .local _ .vmem, ⟨0, _⟩ => ⟨S2064x384, .bf16⟩
  | .local _ .vmem, ⟨1, _⟩ => ⟨S2064x384, .bf16⟩
  | .local _ .vmem, ⟨2, _⟩ => ⟨S2064x1024, .bf16⟩
  | .local _ .vmem, ⟨3, _⟩ => ⟨S384x1024, .bf16⟩
  | .local _ .vmem, ⟨4, _⟩ => ⟨S384x1024, .bf16⟩
  | .local _ .vmem, ⟨5, _⟩ => ⟨S2064x256, .bf16⟩
  | .local _ .vmem, ⟨6, _⟩ => ⟨S2064x256, .bf16⟩
  | .local _ .vmem, ⟨7, _⟩ => ⟨S2064x1024, .bf16⟩
  | .local _ .vmem, ⟨8, _⟩ => ⟨S256x1024, .bf16⟩
  | .local _ .vmem, ⟨9, _⟩ => ⟨S256x1024, .bf16⟩
  | _, _ => ⟨S2064x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2064x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![7, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![v0.toNat, arg1.toNat]

abbrev stage1_0 : Fin 2 → Memref sig .tc .vmem S2064x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S2064x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== OdGinRefIdeal.lean ====
abbrev S2064x768 : Shape := ⟨2, ![2064, 768]⟩
abbrev S2064x1792 : Shape := ⟨2, ![2064, 1792]⟩
abbrev S2064x1024 : Shape := ⟨2, ![2064, 1024]⟩
abbrev S2064x2560 : Shape := ⟨2, ![2064, 2560]⟩
abbrev S_ : Shape := ⟨0, ![]⟩
abbrev S2560x1024 : Shape := ⟨2, ![2560, 1024]⟩
abbrev S1024x2560 : Shape := ⟨2, ![1024, 2560]⟩

abbrev nBuf : Space → Nat
  | .hbm => 15
  | .vmem => 0
  | .smem => 0
  | _ => 0

abbrev bufTy : (tb : Table) → Fin (tcTables nBuf tb) → BufTy
  | .hbm, ⟨0, _⟩ => ⟨S2064x768, .bf16⟩
  | .hbm, ⟨1, _⟩ => ⟨S2064x1792, .bf16⟩
  | .hbm, ⟨2, _⟩ => ⟨S2064x1024, .bf16⟩
  | .hbm, ⟨3, _⟩ => ⟨S2064x768, .f32⟩
  | .hbm, ⟨4, _⟩ => ⟨S2064x1792, .f32⟩
  | .hbm, ⟨5, _⟩ => ⟨S2064x2560, .f32⟩
  | .hbm, ⟨6, _⟩ => ⟨S_, .f32⟩
  | .hbm, ⟨7, _⟩ => ⟨S2560x1024, .f32⟩
  | .hbm, ⟨8, _⟩ => ⟨S2064x1024, .f32⟩
  | .hbm, ⟨9, _⟩ => ⟨S1024x2560, .f32⟩
  | .hbm, ⟨10, _⟩ => ⟨S2064x2560, .f32⟩
  | .hbm, ⟨11, _⟩ => ⟨S2560x1024, .f32⟩
  | .hbm, ⟨12, _⟩ => ⟨S1024x2560, .f32⟩
  | .hbm, ⟨13, _⟩ => ⟨S2560x1024, .f32⟩
  | .hbm, ⟨14, _⟩ => ⟨S2560x1024, .bf16⟩
  | _, _ => ⟨S2064x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== OdAtt.lean ====
abbrev S2064x768 : Shape := ⟨2, ![2064, 768]⟩
abbrev S768x1024 : Shape := ⟨2, ![768, 1024]⟩
abbrev S2064x1024 : Shape := ⟨2, ![2064, 1024]⟩
abbrev S688x768 : Shape := ⟨2, ![688, 768]⟩
abbrev S688x1024 : Shape := ⟨2, ![688, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2064x768, .bf16⟩
  | .hbm, ⟨1, _⟩ => ⟨S768x1024, .f32⟩
  | .hbm, ⟨2, _⟩ => ⟨S2064x1024, .f32⟩
  | .local _ .vmem, ⟨0, _⟩ => ⟨S688x768, .bf16⟩
  | .local _ .vmem, ⟨1, _⟩ => ⟨S688x768, .bf16⟩
  | .local _ .vmem, ⟨2, _⟩ => ⟨S768x1024, .f32⟩
  | .local _ .vmem, ⟨3, _⟩ => ⟨S688x1024, .f32⟩
  | .local _ .vmem, ⟨4, _⟩ => ⟨S688x1024, .f32⟩
  | _, _ => ⟨S2064x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdAttRefIdeal.lean ====
abbrev S2064x768 : Shape := ⟨2, ![2064, 768]⟩
abbrev S768x1024 : Shape := ⟨2, ![768, 1024]⟩
abbrev S_ : Shape := ⟨0, ![]⟩
abbrev S2064x1024 : Shape := ⟨2, ![2064, 1024]⟩
abbrev S1024x768 : Shape := ⟨2, ![1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S2064x768, .bf16⟩
  | .hbm, ⟨1, _⟩ => ⟨S768x1024, .f32⟩
  | .hbm, ⟨2, _⟩ => ⟨S_, .f32⟩
  | .hbm, ⟨3, _⟩ => ⟨S2064x1024, .f32⟩
  | .hbm, ⟨4, _⟩ => ⟨S1024x768, .f32⟩
  | .hbm, ⟨5, _⟩ => ⟨S2064x768, .f32⟩
  | .hbm, ⟨6, _⟩ => ⟨S2064x768, .f32⟩
  | .hbm, ⟨7, _⟩ => ⟨S2064x1024, .f32⟩
  | _, _ => ⟨S2064x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdNorm.lean ====
abbrev S2064x1792 : Shape := ⟨2, ![2064, 1792]⟩
abbrev S1792x1024 : Shape := ⟨2, ![1792, 1024]⟩
abbrev S2064x1024 : Shape := ⟨2, ![2064, 1024]⟩
abbrev S1x1024 : Shape := ⟨2, ![1, 1024]⟩
abbrev S688x1792 : Shape := ⟨2, ![688, 1792]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2064x1792, .bf16⟩
  | .hbm, ⟨1, _⟩ => ⟨S1792x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S1x1024, .f32⟩
  | .local _ .vmem, ⟨0, _⟩ => ⟨S688x1792, .bf16⟩
  | .local _ .vmem, ⟨1, _⟩ => ⟨S688x1792, .bf16⟩
  | .local _ .vmem, ⟨2, _⟩ => ⟨S1792x1024, .f32⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S1x1024, .f32⟩
  | _, _ => ⟨S2064x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OdNormRefIdeal.lean ====
abbrev S2064x1792 : Shape := ⟨2, ![2064, 1792]⟩
abbrev S1792x1024 : Shape := ⟨2, ![1792, 1024]⟩
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S1024x1792 : Shape := ⟨2, ![1024, 1792]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2064x1792, .bf16⟩
  | .hbm, ⟨1, _⟩ => ⟨S1792x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S1024x1792, .f32⟩
  | .hbm, ⟨26, _⟩ => ⟨S2064x1792, .f32⟩
  | .hbm, ⟨27, _⟩ => ⟨S2064x1792, .f32⟩
  | .hbm, ⟨28, _⟩ => ⟨S2064x1024, .f32⟩
  | .hbm, ⟨29, _⟩ => ⟨S2064x1024, .f32⟩
  | .hbm, ⟨30, _⟩ => ⟨S2064x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2064x1024, .f32⟩
  | .hbm, ⟨35, _⟩ => ⟨S2064x1024, .f32⟩
  | .hbm, ⟨36, _⟩ => ⟨S2064x1024, .f32⟩
  | .hbm, ⟨37, _⟩ => ⟨S_, .f32⟩
  | .hbm, ⟨38, _⟩ => ⟨S2064, .f32⟩
  | .hbm, ⟨39, _⟩ => ⟨S2064x1, .f32⟩
  | .hbm, ⟨40, _⟩ => ⟨S2064x1024, .f32⟩
  | .hbm, ⟨41, _⟩ => ⟨S2064x1024, .f32⟩
  | .hbm, ⟨42, _⟩ => ⟨S2064x1024, .f32⟩
  | .hbm, ⟨43, _⟩ => ⟨S2064x1, .f32⟩
  | .hbm, ⟨44, _⟩ => ⟨S_, .f32⟩
  | .hbm, ⟨45, _⟩ => ⟨S2064x1, .f32⟩
  | .hbm, ⟨46, _⟩ => ⟨S2064x1, .f32⟩
  | .hbm, ⟨47, _⟩ => ⟨S_, .f32⟩
  | .hbm, ⟨48, _⟩ => ⟨S2064, .f32⟩
  | .hbm, ⟨49, _⟩ => ⟨S2064x1024, .f32⟩
  | .hbm, ⟨50, _⟩ => ⟨S2064x1024, .f32⟩
  | .hbm, ⟨51, _⟩ => ⟨S2064x1024, .f32⟩
  | .hbm, ⟨52, _⟩ => ⟨S2064x1024, .f32⟩
  | .hbm, ⟨53, _⟩ => ⟨S2064x1024, .f32⟩
  | _, _ => ⟨S2064x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfUp.lean ====
abbrev S2064x1024 : Shape := ⟨2, ![2064, 1024]⟩
abbrev S5632x1024 : Shape := ⟨2, ![5632, 1024]⟩
abbrev S2064x5632 : Shape := ⟨2, ![2064, 5632]⟩
abbrev S688x1024 : Shape := ⟨2, ![688, 1024]⟩
abbrev S1408x1024 : Shape := ⟨2, ![1408, 1024]⟩
abbrev S688x1408 : Shape := ⟨2, ![688, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S5632x1024, .f32⟩
  | .hbm, ⟨2, _⟩ => ⟨S2064x5632, .f32⟩
  | .local _ .vmem, ⟨0, _⟩ => ⟨S688x1024, .bf16⟩
  | .local _ .vmem, ⟨1, _⟩ => ⟨S688x1024, .bf16⟩
  | .local _ .vmem, ⟨2, _⟩ => ⟨S1408x1024, .f32⟩
  | .local _ .vmem, ⟨3, _⟩ => ⟨S1408x1024, .f32⟩
  | .local _ .vmem, ⟨4, _⟩ => ⟨S688x1408, .f32⟩
  | .local _ .vmem, ⟨5, _⟩ => ⟨S688x1408, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfUpRefIdeal.lean ====
abbrev S2064x1024 : Shape := ⟨2, ![2064, 1024]⟩
abbrev S5632x1024 : Shape := ⟨2, ![5632, 1024]⟩
abbrev S1024x5632 : Shape := ⟨2, ![1024, 5632]⟩
abbrev S2064x5632 : Shape := ⟨2, ![2064, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S5632x1024, .f32⟩
  | .hbm, ⟨2, _⟩ => ⟨S2064x1024, .f32⟩
  | .hbm, ⟨3, _⟩ => ⟨S1024x5632, .f32⟩
  | .hbm, ⟨4, _⟩ => ⟨S2064x5632, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfDown.lean ====
abbrev S2064x2816 : Shape := ⟨2, ![2064, 2816]⟩
abbrev S2816x1024 : Shape := ⟨2, ![2816, 1024]⟩
abbrev S2064x1024 : Shape := ⟨2, ![2064, 1024]⟩
abbrev S1x1024 : Shape := ⟨2, ![1, 1024]⟩
abbrev S688x2816 : Shape := ⟨2, ![688, 2816]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S2064x2816, .bf16⟩
  | .hbm, ⟨1, _⟩ => ⟨S2816x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .bf16⟩
  | .local _ .vmem, ⟨0, _⟩ => ⟨S688x2816, .bf16⟩
  | .local _ .vmem, ⟨1, _⟩ => ⟨S688x2816, .bf16⟩
  | .local _ .vmem, ⟨2, _⟩ => ⟨S2816x1024, .f32⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfDownRefIdeal.lean ====
abbrev S2064x2816 : Shape := ⟨2, ![2064, 2816]⟩
abbrev S2816x1024 : Shape := ⟨2, ![2816, 1024]⟩
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩

abbrev nBuf : Space → Nat
  | .hbm => 23
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2816x1024, .f32⟩
  | .hbm, ⟨2, _⟩ => ⟨S2064x1024, .f32⟩
  | .hbm, ⟨3, _⟩ => ⟨S1x1024, .f32⟩
  | .hbm, ⟨4, _⟩ => ⟨S2064x2816, .f32⟩
  | .hbm, ⟨5, _⟩ => ⟨S2064x1024, .f32⟩
  | .hbm, ⟨6, _⟩ => ⟨S2064x1024, .f32⟩
  | .hbm, ⟨7, _⟩ => ⟨S2064x1024, .f32⟩
  | .hbm, ⟨8, _⟩ => ⟨S_, .f32⟩
  | .hbm, ⟨9, _⟩ => ⟨S2064, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S2064x1024, .f32⟩
  | .hbm, ⟨22, _⟩ => ⟨S2064x1024, .bf16⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AttnFwd.lean ====
abbrev S2176x512 : Shape := ⟨2, ![2176, 512]⟩
abbrev S2176x128 : Shape := ⟨2, ![2176, 128]⟩
abbrev S1x8 : Shape := ⟨2, ![1, 8]⟩
abbrev S128x512 : Shape := ⟨2, ![128, 512]⟩
abbrev S128x128 : Shape := ⟨2, ![128, 128]⟩
abbrev S512x128 : Shape := ⟨2, ![512, 128]⟩
abbrev S512x1 : Shape := ⟨2, ![512, 1]⟩
abbrev S1x1 : Shape := ⟨2, ![1, 1]⟩
abbrev S128x64 : Shape := ⟨2, ![128, 64]⟩
abbrev S512x64 : Shape := ⟨2, ![512, 64]⟩
abbrev S512 : Shape := ⟨1, ![512]⟩

abbrev nBuf : Space → Nat
  | .hbm => 5
  | .vmem => 14
  | .smem => 1
  | _ => 0

abbrev bufTy : (tb : Table) → Fin (tcTables nBuf tb) → BufTy
  | .hbm, ⟨0, _⟩ => ⟨S2176x512, .bf16⟩
  | .hbm, ⟨1, _⟩ => ⟨S2176x128, .bf16⟩
  | .hbm, ⟨2, _⟩ => ⟨S2176x128, .bf16⟩
  | .hbm, ⟨3, _⟩ => ⟨S1x8, .f32⟩
  | .hbm, ⟨4, _⟩ => ⟨S2176x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x512, .bf16⟩
  | .local _ .vmem, ⟨13, _⟩ => ⟨S128x512, .bf16⟩
  | .local _ .smem, ⟨0, _⟩ => ⟨S1x8, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2176x512 : Shape := ⟨2, ![2176, 512]⟩
abbrev S2176x128 : Shape := ⟨2, ![2176, 128]⟩
abbrev S1x8 : Shape := ⟨2, ![1, 8]⟩
abbrev S17x128x2x4x64 : Shape := ⟨5, ![17, 128, 2, 4, 64]⟩
abbrev S17x128x2x64 : Shape := ⟨4, ![17, 128, 2, 64]⟩
abbrev S1x128x2x64 : Shape := ⟨4, ![1, 128, 2, 64]⟩
abbrev S_ : Shape := ⟨0, ![]⟩
abbrev S16x128x2x64 : Shape := ⟨4, ![16, 128, 2, 64]⟩
abbrev S17x256x2x64 : Shape := ⟨4, ![17, 256, 2, 64]⟩
abbrev S1x16x2x64 : Shape := ⟨4, ![1, 16, 2, 64]⟩
abbrev S16x2x64 : Shape := ⟨3, ![16, 2, 64]⟩
abbrev S17x2x256x128x4 : Shape := ⟨5, ![17, 2, 256, 128, 4]⟩
abbrev S17x2x4x128x256 : Shape := ⟨5, ![17, 2, 4, 128, 256]⟩
abbrev S2x16x17x128x4 : Shape := ⟨5, ![2, 16, 17, 128, 4]⟩
abbrev S17x2x4x128x16 : Shape := ⟨5, ![17, 2, 4, 128, 16]⟩
abbrev S17 : Shape := ⟨1, ![17]⟩
abbrev S17x1 : Shape := ⟨2, ![17, 1]⟩
abbrev S128 : Shape := ⟨1, ![128]⟩
abbrev S1x128 : Shape := ⟨2, ![1, 128]⟩
abbrev S17x128 : Shape := ⟨2, ![17, 128]⟩
abbrev S256 : Shape := ⟨1, ![256]⟩
abbrev S1x256 : Shape := ⟨2, ![1, 256]⟩
abbrev S17x256 : Shape := ⟨2, ![17, 256]⟩
abbrev S17x128x1 : Shape := ⟨3, ![17, 128, 1]⟩
abbrev S17x1x256 : Shape := ⟨3, ![17, 1, 256]⟩
abbrev S17x128x256 : Shape := ⟨3, ![17, 128, 256]⟩
abbrev S16 : Shape := ⟨1, ![16]⟩
abbrev S1x1x16 : Shape := ⟨3, ![1, 1, 16]⟩
abbrev S17x128x16 : Shape := ⟨3, ![17, 128, 16]⟩
abbrev S17x1x1x128x256 : Shape := ⟨5, ![17, 1, 1, 128, 256]⟩
abbrev S17x1x1x128x16 : Shape := ⟨5, ![17, 1, 1, 128, 16]⟩
abbrev S1x2x4x1x1 : Shape := ⟨5, ![1, 2, 4, 1, 1]⟩
abbrev S17x2x4x128x1 : Shape := ⟨5, ![17, 2, 4, 128, 1]⟩
abbrev S17x2x4x128x273 : Shape := ⟨5, ![17, 2, 4, 128, 273]⟩
abbrev S17x2x4x128 : Shape := ⟨4, ![17, 2, 4, 128]⟩
abbrev S17x2x64x4x128 : Shape := ⟨5, ![17, 2, 64, 4, 128]⟩
abbrev S2x64x17x4x128 : Shape := ⟨5, ![2, 64, 17, 4, 128]⟩

abbrev nBuf : Space → Nat
  | .hbm => 119
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x128, .bf16⟩
  | .hbm, ⟨2, _⟩ => ⟨S2176x128, .bf16⟩
  | .hbm, ⟨3, _⟩ => ⟨S1x8, .f32⟩
  | .hbm, ⟨4, _⟩ => ⟨S2176x512, .f32⟩
  | .hbm, ⟨5, _⟩ => ⟨S2176x128, .f32⟩
  | .hbm, ⟨6, _⟩ => ⟨S2176x128, .f32⟩
  | .hbm, ⟨7, _⟩ => ⟨S17x128x2x4x64, .f32⟩
  | .hbm, ⟨8, _⟩ => ⟨S17x128x2x64, .f32⟩
  | .hbm, ⟨9, _⟩ => ⟨S17x128x2x64, .f32⟩
  | .hbm, ⟨10, _⟩ => ⟨S1x128x2x64, .f32⟩
  | .hbm, ⟨11, _⟩ => ⟨S_, .f32⟩
  | .hbm, ⟨12, _⟩ => ⟨S1x128x2x64, .f32⟩
  | .hbm, ⟨13, _⟩ => ⟨S16x128x2x64, .f32⟩
  | .hbm, ⟨14, _⟩ => ⟨S17x128x2x64, .f32⟩
  | .hbm, ⟨15, _⟩ => ⟨S17x256x2x64, .f32⟩
  | .hbm, ⟨16, _⟩ => ⟨S1x128x2x64, .f32⟩
  | .hbm, ⟨17, _⟩ => ⟨S_, .f32⟩
  | .hbm, ⟨18, _⟩ => ⟨S1x128x2x64, .f32⟩
  | .hbm, ⟨19, _⟩ => ⟨S16x128x2x64, .f32⟩
  | .hbm, ⟨20, _⟩ => ⟨S17x128x2x64, .f32⟩
  | .hbm, ⟨21, _⟩ => ⟨S17x256x2x64, .f32⟩
  | .hbm, ⟨22, _⟩ => ⟨S1x16x2x64, .f32⟩
  | .hbm, ⟨23, _⟩ => ⟨S16x2x64, .f32⟩
  | .hbm, ⟨24, _⟩ => ⟨S1x16x2x64, .f32⟩
  | .hbm, ⟨25, _⟩ => ⟨S16x2x64, .f32⟩
  | .hbm, ⟨26, _⟩ => ⟨S17x2x256x128x4, .f32⟩
  | .hbm, ⟨27, _⟩ => ⟨S17x2x4x128x256, .f32⟩
  | .hbm, ⟨28, _⟩ => ⟨S_, .f32⟩
  | .hbm, ⟨29, _⟩ => ⟨S17x2x4x128x256, .f32⟩
  | .hbm, ⟨30, _⟩ => ⟨S17x2x4x128x256, .f32⟩
  | .hbm, ⟨31, _⟩ => ⟨S2x16x17x128x4, .f32⟩
  | .hbm, ⟨32, _⟩ => ⟨S17x2x4x128x16, .f32⟩
  | .hbm, ⟨33, _⟩ => ⟨S_, .f32⟩
  | .hbm, ⟨34, _⟩ => ⟨S17x2x4x128x16, .f32⟩
  | .hbm, ⟨35, _⟩ => ⟨S17x2x4x128x16, .f32⟩
  | .hbm, ⟨36, _⟩ => ⟨S17, .i32⟩
  | .hbm, ⟨37, _⟩ => ⟨S17x1, .i32⟩
  | .hbm, ⟨38, _⟩ => ⟨S_, .i32⟩
  | .hbm, ⟨39, _⟩ => ⟨S17x1, .i32⟩
  | .hbm, ⟨40, _⟩ => ⟨S17x1, .i32⟩
  | .hbm, ⟨41, _⟩ => ⟨S128, .i32⟩
  | .hbm, ⟨42, _⟩ => ⟨S1x128, .i32⟩
  | .hbm, ⟨43, _⟩ => ⟨S17x128, .i32⟩
  | .hbm, ⟨44, _⟩ => ⟨S17x128, .i32⟩
  | .hbm, ⟨45, _⟩ => ⟨S17x128, .i32⟩
  | .hbm, ⟨46, _⟩ => ⟨S_, .i32⟩
  | .hbm, ⟨47, _⟩ => ⟨S17x1, .i32⟩
  | .hbm, ⟨48, _⟩ => ⟨S17x1, .i32⟩
  | .hbm, ⟨49, _⟩ => ⟨S256, .i32⟩
  | .hbm, ⟨50, _⟩ => ⟨S1x256, .i32⟩
  | .hbm, ⟨51, _⟩ => ⟨S17x256, .i32⟩
  | .hbm, ⟨52, _⟩ => ⟨S17x256, .i32⟩
  | .hbm, ⟨53, _⟩ => ⟨S17x256, .i32⟩
  | .hbm, ⟨54, _⟩ => ⟨S17x128x1, .i32⟩
  | .hbm, ⟨55, _⟩ => ⟨S17x1x256, .i32⟩
  | .hbm, ⟨56, _⟩ => ⟨S17x128x256, .i32⟩
  | .hbm, ⟨57, _⟩ => ⟨S17x128x256, .i32⟩
  | .hbm, ⟨58, _⟩ => ⟨S17x128x256, .i32⟩
  | .hbm, ⟨59, _⟩ => ⟨S17x1x256, .i32⟩
  | .hbm, ⟨60, _⟩ => ⟨S_, .i32⟩
  | .hbm, ⟨61, _⟩ => ⟨S17x1x256, .i32⟩
  | .hbm, ⟨62, _⟩ => ⟨S17x1x256, .i1⟩
  | .hbm, ⟨63, _⟩ => ⟨S_, .i32⟩
  | .hbm, ⟨64, _⟩ => ⟨S17x128x256, .i32⟩
  | .hbm, ⟨65, _⟩ => ⟨S17x128x256, .i1⟩
  | .hbm, ⟨66, _⟩ => ⟨S17x128x256, .i1⟩
  | .hbm, ⟨67, _⟩ => ⟨S17x128x256, .i1⟩
  | .hbm, ⟨68, _⟩ => ⟨S_, .i32⟩
  | .hbm, ⟨69, _⟩ => ⟨S17x128x256, .i32⟩
  | .hbm, ⟨70, _⟩ => ⟨S17x128x256, .i1⟩
  | .hbm, ⟨71, _⟩ => ⟨S17x128x256, .i1⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S1x1x16, .i32⟩
  | .hbm, ⟨77, _⟩ => ⟨S17x128x1, .i32⟩
  | .hbm, ⟨78, _⟩ => ⟨S17x128x16, .i32⟩
  | .hbm, ⟨79, _⟩ => ⟨S17x128x16, .i32⟩
  | .hbm, ⟨80, _⟩ => ⟨S17x128x16, .i1⟩
  | .hbm, ⟨81, _⟩ => ⟨S17x1x1x128x256, .i1⟩
  | .hbm, ⟨82, _⟩ => ⟨S_, .f32⟩
  | .hbm, ⟨83, _⟩ => ⟨S_, .f32⟩
  | .hbm, ⟨84, _⟩ => ⟨S17x2x4x128x256, .i1⟩
  | .hbm, ⟨85, _⟩ => ⟨S17x2x4x128x256, .f32⟩
  | .hbm, ⟨86, _⟩ => ⟨S17x2x4x128x256, .f32⟩
  | .hbm, ⟨87, _⟩ => ⟨S17x1x1x128x16, .i1⟩
  | .hbm, ⟨88, _⟩ => ⟨S_, .f32⟩
  | .hbm, ⟨89, _⟩ => ⟨S_, .f32⟩
  | .hbm, ⟨90, _⟩ => ⟨S17x2x4x128x16, .i1⟩
  | .hbm, ⟨91, _⟩ => ⟨S17x2x4x128x16, .f32⟩
  | .hbm, ⟨92, _⟩ => ⟨S17x2x4x128x16, .f32⟩
  | .hbm, ⟨93, _⟩ => ⟨S1x2x4x1x1, .f32⟩
  | .hbm, ⟨94, _⟩ => ⟨S17x2x4x128x1, .f32⟩
  | .hbm, ⟨95, _⟩ => ⟨S17x2x4x128x273, .f32⟩
  | .hbm, ⟨96, _⟩ => ⟨S_, .f32⟩
  | .hbm, ⟨97, _⟩ => ⟨S17x2x4x128, .f32⟩
  | .hbm, ⟨98, _⟩ => ⟨S_, .f32⟩
  | .hbm, ⟨99, _⟩ => ⟨S17x2x4x128, .f32⟩
  | .hbm, ⟨100, _⟩ => ⟨S17x2x4x128, .f32⟩
  | .hbm, ⟨101, _⟩ => ⟨S17x2x4x128x1, .f32⟩
  | .hbm, ⟨102, _⟩ => ⟨S17x2x4x128x273, .f32⟩
  | .hbm, ⟨103, _⟩ => ⟨S17x2x4x128x273, .f32⟩
  | .hbm, ⟨104, _⟩ => ⟨S17x2x4x128x273, .f32⟩
  | .hbm, ⟨105, _⟩ => ⟨S_, .f32⟩
  | .hbm, ⟨106, _⟩ => ⟨S17x2x4x128, .f32⟩
  | .hbm, ⟨107, _⟩ => ⟨S17x2x4x128x1, .f32⟩
  | .hbm, ⟨108, _⟩ => ⟨S17x2x4x128x273, .f32⟩
  | .hbm, ⟨109, _⟩ => ⟨S17x2x4x128x273, .f32⟩
  | .hbm, ⟨110, _⟩ => ⟨S17x2x4x128x256, .f32⟩
  | .hbm, ⟨111, _⟩ => ⟨S17x2x4x128x16, .f32⟩
  | .hbm, ⟨112, _⟩ => ⟨S17x2x64x4x128, .f32⟩
  | .hbm, ⟨113, _⟩ => ⟨S17x128x2x4x64, .f32⟩
  | .hbm, ⟨114, _⟩ => ⟨S2x64x17x4x128, .f32⟩
  | .hbm, ⟨115, _⟩ => ⟨S17x128x2x4x64, .f32⟩
  | .hbm, ⟨116, _⟩ => ⟨S17x128x2x4x64, .f32⟩
  | .hbm, ⟨117, _⟩ => ⟨S2176x512, .f32⟩
  | .hbm, ⟨118, _⟩ => ⟨S2176x512, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_c_4 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== EvIn.lean ====
abbrev S2064x1024 : Shape := ⟨2, ![2064, 1024]⟩
abbrev S2560x1024 : Shape := ⟨2, ![2560, 1024]⟩
abbrev S2064x2560 : Shape := ⟨2, ![2064, 2560]⟩
abbrev S688x1024 : Shape := ⟨2, ![688, 1024]⟩
abbrev S1280x1024 : Shape := ⟨2, ![1280, 1024]⟩
abbrev S688x1280 : Shape := ⟨2, ![688, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S2560x1024, .f32⟩
  | .hbm, ⟨2, _⟩ => ⟨S2064x2560, .f32⟩
  | .local _ .vmem, ⟨0, _⟩ => ⟨S688x1024, .bf16⟩
  | .local _ .vmem, ⟨1, _⟩ => ⟨S688x1024, .bf16⟩
  | .local _ .vmem, ⟨2, _⟩ => ⟨S1280x1024, .f32⟩
  | .local _ .vmem, ⟨3, _⟩ => ⟨S1280x1024, .f32⟩
  | .local _ .vmem, ⟨4, _⟩ => ⟨S688x1280, .f32⟩
  | .local _ .vmem, ⟨5, _⟩ => ⟨S688x1280, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInRefIdeal.lean ====
abbrev S2064x1024 : Shape := ⟨2, ![2064, 1024]⟩
abbrev S2560x1024 : Shape := ⟨2, ![2560, 1024]⟩
abbrev S1024x2560 : Shape := ⟨2, ![1024, 2560]⟩
abbrev S2064x2560 : Shape := ⟨2, ![2064, 2560]⟩

abbrev nBuf : Space → Nat
  | .hbm => 5
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S2560x1024, .f32⟩
  | .hbm, ⟨2, _⟩ => ⟨S2064x1024, .f32⟩
  | .hbm, ⟨3, _⟩ => ⟨S1024x2560, .f32⟩
  | .hbm, ⟨4, _⟩ => ⟨S2064x2560, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttIn.lean ====
abbrev S2064x1024 : Shape := ⟨2, ![2064, 1024]⟩
abbrev S768x1024 : Shape := ⟨2, ![768, 1024]⟩
abbrev S2064x768 : Shape := ⟨2, ![2064, 768]⟩
abbrev S688x1024 : Shape := ⟨2, ![688, 1024]⟩
abbrev S688x768 : Shape := ⟨2, ![688, 768]⟩

abbrev nBuf : Space → Nat
  | .hbm => 3
  | .vmem => 5
  | .smem => 0
  | _ => 0

abbrev bufTy : (tb : Table) → Fin (tcTables nBuf tb) → BufTy
  | .hbm, ⟨0, _⟩ => ⟨S2064x1024, .bf16⟩
  | .hbm, ⟨1, _⟩ => ⟨S768x1024, .f32⟩
  | .hbm, ⟨2, _⟩ => ⟨S2064x768, .f32⟩
  | .local _ .vmem, ⟨0, _⟩ => ⟨S688x1024, .bf16⟩
  | .local _ .vmem, ⟨1, _⟩ => ⟨S688x1024, .bf16⟩
  | .local _ .vmem, ⟨2, _⟩ => ⟨S768x1024, .f32⟩
  | .local _ .vmem, ⟨3, _⟩ => ⟨S688x768, .f32⟩
  | .local _ .vmem, ⟨4, _⟩ => ⟨S688x768, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttInRefIdeal.lean ====
abbrev S2064x1024 : Shape := ⟨2, ![2064, 1024]⟩
abbrev S768x1024 : Shape := ⟨2, ![768, 1024]⟩
abbrev S1024x768 : Shape := ⟨2, ![1024, 768]⟩
abbrev S2064x768 : Shape := ⟨2, ![2064, 768]⟩

abbrev nBuf : Space → Nat
  | .hbm => 5
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S768x1024, .f32⟩
  | .hbm, ⟨2, _⟩ => ⟨S2064x1024, .f32⟩
  | .hbm, ⟨3, _⟩ => ⟨S1024x768, .f32⟩
  | .hbm, ⟨4, _⟩ => ⟨S2064x768, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RwkvIn.lean ====
abbrev S2064x1024 : Shape := ⟨2, ![2064, 1024]⟩
abbrev S1792x1024 : Shape := ⟨2, ![1792, 1024]⟩
abbrev S2064x1792 : Shape := ⟨2, ![2064, 1792]⟩
abbrev S688x1024 : Shape := ⟨2, ![688, 1024]⟩
abbrev S896x1024 : Shape := ⟨2, ![896, 1024]⟩
abbrev S688x896 : Shape := ⟨2, ![688, 896]⟩

abbrev nBuf : Space → Nat
  | .hbm => 3
  | .vmem => 6
  | .smem => 0
  | _ => 0

abbrev bufTy : (tb : Table) → Fin (tcTables nBuf tb) → BufTy
  | .hbm, ⟨0, _⟩ => ⟨S2064x1024, .bf16⟩
  | .hbm, ⟨1, _⟩ => ⟨S1792x1024, .f32⟩
  | .hbm, ⟨2, _⟩ => ⟨S2064x1792, .f32⟩
  | .local _ .vmem, ⟨0, _⟩ => ⟨S688x1024, .bf16⟩
  | .local _ .vmem, ⟨1, _⟩ => ⟨S688x1024, .bf16⟩
  | .local _ .vmem, ⟨2, _⟩ => ⟨S896x1024, .f32⟩
  | .local _ .vmem, ⟨3, _⟩ => ⟨S896x1024, .f32⟩
  | .local _ .vmem, ⟨4, _⟩ => ⟨S688x896, .f32⟩
  | .local _ .vmem, ⟨5, _⟩ => ⟨S688x896, .f32⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwkvInRefIdeal.lean ====
abbrev S2064x1024 : Shape := ⟨2, ![2064, 1024]⟩
abbrev S1792x1024 : Shape := ⟨2, ![1792, 1024]⟩
abbrev S1024x1792 : Shape := ⟨2, ![1024, 1792]⟩
abbrev S2064x1792 : Shape := ⟨2, ![2064, 1792]⟩

abbrev nBuf : Space → Nat
  | .hbm => 5
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S1792x1024, .f32⟩
  | .hbm, ⟨2, _⟩ => ⟨S2064x1024, .f32⟩
  | .hbm, ⟨3, _⟩ => ⟨S1024x1792, .f32⟩
  | .hbm, ⟨4, _⟩ => ⟨S2064x1792, .f32⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfLast.lean ====
abbrev S2064x2816 : Shape := ⟨2, ![2064, 2816]⟩
abbrev S2816x1024 : Shape := ⟨2, ![2816, 1024]⟩
abbrev S2064x1024 : Shape := ⟨2, ![2064, 1024]⟩
abbrev S688x2816 : Shape := ⟨2, ![688, 2816]⟩
abbrev S688x1024 : Shape := ⟨2, ![688, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2064x2816, .bf16⟩
  | .hbm, ⟨1, _⟩ => ⟨S2816x1024, .f32⟩
  | .hbm, ⟨2, _⟩ => ⟨S2064x1024, .f32⟩
  | .hbm, ⟨3, _⟩ => ⟨S2064x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .f32⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | _, _ => ⟨S2064x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfLastRefIdeal.lean ====
abbrev S2064x2816 : Shape := ⟨2, ![2064, 2816]⟩
abbrev S2816x1024 : Shape := ⟨2, ![2816, 1024]⟩
abbrev S2064x1024 : Shape := ⟨2, ![2064, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2064x2816, .bf16⟩
  | .hbm, ⟨1, _⟩ => ⟨S2816x1024, .f32⟩
  | .hbm, ⟨2, _⟩ => ⟨S2064x1024, .f32⟩
  | .hbm, ⟨3, _⟩ => ⟨S2064x2816, .f32⟩
  | .hbm, ⟨4, _⟩ => ⟨S2064x1024, .f32⟩
  | .hbm, ⟨5, _⟩ => ⟨S2064x1024, .f32⟩
  | _, _ => ⟨S2064x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvOut.lean ====
abbrev S2064x1024 : Shape := ⟨2, ![2064, 1024]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .bf16⟩
  | .local _ .vmem, ⟨0, _⟩ => ⟨S688x1024, .bf16⟩
  | .local _ .vmem, ⟨1, _⟩ => ⟨S688x1024, .bf16⟩
  | .local _ .vmem, ⟨2, _⟩ => ⟨S1024x1024, .f32⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S2064x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvOutRefIdeal.lean ====
abbrev S2064x1024 : Shape := ⟨2, ![2064, 1024]⟩
abbrev S1024x1024 : Shape := ⟨2, ![1024, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩

abbrev nBuf : Space → Nat
  | .hbm => 23
  | .vmem => 0
  | .smem => 0
  | _ => 0

abbrev bufTy : (tb : Table) → Fin (tcTables nBuf tb) → BufTy
  | .hbm, ⟨0, _⟩ => ⟨S2064x1024, .bf16⟩
  | .hbm, ⟨1, _⟩ => ⟨S1024x1024, .f32⟩
  | .hbm, ⟨2, _⟩ => ⟨S2064x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S2064x1024, .f32⟩
  | .hbm, ⟨8, _⟩ => ⟨S_, .f32⟩
  | .hbm, ⟨9, _⟩ => ⟨S2064, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S2064x1024, .f32⟩
  | .hbm, ⟨22, _⟩ => ⟨S2064x1024, .bf16⟩
  | _, _ => ⟨S2064x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FfMid.lean ====
abbrev S2064x5632 : Shape := ⟨2, ![2064, 5632]⟩
abbrev S3x2816 : Shape := ⟨2, ![3, 2816]⟩
abbrev S2816 : Shape := ⟨1, ![2816]⟩
abbrev S1x2816 : Shape := ⟨2, ![1, 2816]⟩
abbrev S2064x2816 : Shape := ⟨2, ![2064, 2816]⟩
abbrev S2064x256 : Shape := ⟨2, ![2064, 256]⟩
abbrev S3x256 : Shape := ⟨2, ![3, 256]⟩
abbrev S1x256 : Shape := ⟨2, ![1, 256]⟩
abbrev S2096x128 : Shape := ⟨2, ![2096, 128]⟩
abbrev S2064x128 : Shape := ⟨2, ![2064, 128]⟩
abbrev S32x128 : Shape := ⟨2, ![32, 128]⟩
abbrev S3x128 : Shape := ⟨2, ![3, 128]⟩
abbrev S1x128 : Shape := ⟨2, ![1, 128]⟩
abbrev S344x128 : Shape := ⟨2, ![344, 128]⟩

abbrev nBuf : Space → Nat
  | .hbm => 5
  | .vmem => 12
  | .smem => 0
  | _ => 0

abbrev bufTy : (tb : Table) → Fin (tcTables nBuf tb) → BufTy
  | .hbm, ⟨0, _⟩ => ⟨S2064x5632, .f32⟩
  | .hbm, ⟨1, _⟩ => ⟨S3x2816, .f32⟩
  | .hbm, ⟨2, _⟩ => ⟨S2816, .f32⟩
  | .hbm, ⟨3, _⟩ => ⟨S1x2816, .f32⟩
  | .hbm, ⟨4, _⟩ => ⟨S2064x2816, .bf16⟩
  | .local _ .vmem, ⟨0, _⟩ => ⟨S2064x256, .f32⟩
  | .local _ .vmem, ⟨1, _⟩ => ⟨S2064x256, .f32⟩
  | .local _ .vmem, ⟨2, _⟩ => ⟨S2064x256, .f32⟩
  | .local _ .vmem, ⟨3, _⟩ => ⟨S2064x256, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2064x256, .bf16⟩
  | .local _ .vmem, ⟨9, _⟩ => ⟨S2064x256, .bf16⟩
  | .local _ .vmem, ⟨10, _⟩ => ⟨S2096x128, .f32⟩
  | .local _ .vmem, ⟨11, _⟩ => ⟨S2064x128, .f32⟩
  | _, _ => ⟨S2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2064x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2064x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfMidRefIdeal.lean ====
abbrev S2064x5632 : Shape := ⟨2, ![2064, 5632]⟩
abbrev S3x2816 : Shape := ⟨2, ![3, 2816]⟩
abbrev S2816 : Shape := ⟨1, ![2816]⟩
abbrev S2064x2816 : Shape := ⟨2, ![2064, 2816]⟩
abbrev S_ : Shape := ⟨0, ![]⟩
abbrev S2x2816 : Shape := ⟨2, ![2, 2816]⟩
abbrev S2066x2816 : Shape := ⟨2, ![2066, 2816]⟩
abbrev S1x2816 : Shape := ⟨2, ![1, 2816]⟩

abbrev nBuf : Space → Nat
  | .hbm => 39
  | .vmem => 0
  | .smem => 0
  | _ => 0

abbrev bufTy : (tb : Table) → Fin (tcTables nBuf tb) → BufTy
  | .hbm, ⟨0, _⟩ => ⟨S2064x5632, .f32⟩
  | .hbm, ⟨1, _⟩ => ⟨S3x2816, .f32⟩
  | .hbm, ⟨2, _⟩ => ⟨S2816, .f32⟩
  | .hbm, ⟨3, _⟩ => ⟨S2064x2816, .f32⟩
  | .hbm, ⟨4, _⟩ => ⟨S2064x2816, .f32⟩
  | .hbm, ⟨5, _⟩ => ⟨S_, .f32⟩
  | .hbm, ⟨6, _⟩ => ⟨S2x2816, .f32⟩
  | .hbm, ⟨7, _⟩ => ⟨S2066x2816, .f32⟩
  | .hbm, ⟨8, _⟩ => ⟨S1x2816, .f32⟩
  | .hbm, ⟨9, _⟩ => ⟨S2064x2816, .f32⟩
  | .hbm, ⟨10, _⟩ => ⟨S2064x2816, .f32⟩
  | .hbm, ⟨11, _⟩ => ⟨S2064x2816, .f32⟩
  | .hbm, ⟨12, _⟩ => ⟨S_, .f32⟩
  | .hbm, ⟨13, _⟩ => ⟨S2064x2816, .f32⟩
  | .hbm, ⟨14, _⟩ => ⟨S2064x2816, .f32⟩
  | .hbm, ⟨15, _⟩ => ⟨S1x2816, .f32⟩
  | .hbm, ⟨16, _⟩ => ⟨S2064x2816, .f32⟩
  | .hbm, ⟨17, _⟩ => ⟨S2064x2816, .f32⟩
  | .hbm, ⟨18, _⟩ => ⟨S2064x2816, .f32⟩
  | .hbm, ⟨19, _⟩ => ⟨S2064x2816, .f32⟩
  | .hbm, ⟨20, _⟩ => ⟨S1x2816, .f32⟩
  | .hbm, ⟨21, _⟩ => ⟨S2064x2816, .f32⟩
  | .hbm, ⟨22, _⟩ => ⟨S2064x2816, .f32⟩
  | .hbm, ⟨23, _⟩ => ⟨S2064x2816, .f32⟩
  | .hbm, ⟨24, _⟩ => ⟨S2064x2816, .f32⟩
  | .hbm, ⟨25, _⟩ => ⟨S1x2816, .f32⟩
  | .hbm, ⟨26, _⟩ => ⟨S2064x2816, .f32⟩
  | .hbm, ⟨27, _⟩ => ⟨S2064x2816, .f32⟩
  | .hbm, ⟨28, _⟩ => ⟨S2064x2816, .f32⟩
  | .hbm, ⟨29, _⟩ => ⟨S2064x2816, .f32⟩
  | .hbm, ⟨30, _⟩ => ⟨S_, .f32⟩
  | .hbm, ⟨31, _⟩ => ⟨S2064x2816, .f32⟩
  | .hbm, ⟨32, _⟩ => ⟨S2064x2816, .f32⟩
  | .hbm, ⟨33, _⟩ => ⟨S_, .f32⟩
  | .hbm, ⟨34, _⟩ => ⟨S2064x2816, .f32⟩
  | .hbm, ⟨35, _⟩ => ⟨S2064x2816, .f32⟩
  | .hbm, ⟨36, _⟩ => ⟨S2064x2816, .f32⟩
  | .hbm, ⟨37, _⟩ => ⟨S2064x2816, .f32⟩
  | .hbm, ⟨38, _⟩ => ⟨S2064x2816, .bf16⟩
  | _, _ => ⟨S2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Mid.lean ====
abbrev S2064x2816 : Shape := ⟨2, ![2064, 2816]⟩
abbrev S2064x5632 : Shape := ⟨2, ![2064, 5632]⟩
abbrev S3x2816 : Shape := ⟨2, ![3, 2816]⟩
abbrev S2816 : Shape := ⟨1, ![2816]⟩
abbrev S1x2816 : Shape := ⟨2, ![1, 2816]⟩
abbrev S2064x256 : Shape := ⟨2, ![2064, 256]⟩
abbrev S3x256 : Shape := ⟨2, ![3, 256]⟩
abbrev S1x256 : Shape := ⟨2, ![1, 256]⟩
abbrev S2096x128 : Shape := ⟨2, ![2096, 128]⟩
abbrev S2064x128 : Shape := ⟨2, ![2064, 128]⟩
abbrev S32x128 : Shape := ⟨2, ![32, 128]⟩
abbrev S344x128 : Shape := ⟨2, ![344, 128]⟩
abbrev S3x128 : Shape := ⟨2, ![3, 128]⟩
abbrev S1x128 : Shape := ⟨2, ![1, 128]⟩
abbrev S128 : Shape := ⟨1, ![128]⟩

abbrev nBuf : Space → Nat
  | .hbm => 9
  | .vmem => 21
  | .smem => 0
  | _ => 0

abbrev bufTy : (tb : Table) → Fin (tcTables nBuf tb) → BufTy
  | .hbm, ⟨0, _⟩ => ⟨S2064x2816, .f32⟩
  | .hbm, ⟨1, _⟩ => ⟨S2064x5632, .f32⟩
  | .hbm, ⟨2, _⟩ => ⟨S3x2816, .f32⟩
  | .hbm, ⟨3, _⟩ => ⟨S2816, .f32⟩
  | .hbm, ⟨4, _⟩ => ⟨S1x2816, .f32⟩
  | .hbm, ⟨5, _⟩ => ⟨S2064x2816, .bf16⟩
  | .hbm, ⟨6, _⟩ => ⟨S2064x2816, .bf16⟩
  | .hbm, ⟨7, _⟩ => ⟨S3x2816, .f32⟩
  | .hbm, ⟨8, _⟩ => ⟨S1x2816, .f32⟩
  | .local _ .vmem, ⟨0, _⟩ => ⟨S2064x256, .f32⟩
  | .local _ .vmem, ⟨1, _⟩ => ⟨S2064x256, .f32⟩
  | .local _ .vmem, ⟨2, _⟩ => ⟨S2064x256, .f32⟩
  | .local _ .vmem, ⟨3, _⟩ => ⟨S2064x256, .f32⟩
  | .local _ .vmem, ⟨4, _⟩ => ⟨S2064x256, .f32⟩
  | .local _ .vmem, ⟨5, _⟩ => ⟨S2064x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2064x256, .bf16⟩
  | .local _ .vmem, ⟨11, _⟩ => ⟨S2064x256, .bf16⟩
  | .local _ .vmem, ⟨12, _⟩ => ⟨S2064x256, .bf16⟩
  | .local _ .vmem, ⟨13, _⟩ => ⟨S2064x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S2096x128, .f32⟩
  | .local _ .vmem, ⟨19, _⟩ => ⟨S2096x128, .f32⟩
  | .local _ .vmem, ⟨20, _⟩ => ⟨S2064x128, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2064x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2064x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2064x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2064x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2064x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidRefIdeal.lean ====
abbrev S2064x2816 : Shape := ⟨2, ![2064, 2816]⟩
abbrev S2064x5632 : Shape := ⟨2, ![2064, 5632]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S2066x2816 : Shape := ⟨2, ![2066, 2816]⟩
abbrev S1x2816 : Shape := ⟨2, ![1, 2816]⟩

abbrev nBuf : Space → Nat
  | .hbm => 95
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2064x5632, .f32⟩
  | .hbm, ⟨2, _⟩ => ⟨S3x2816, .f32⟩
  | .hbm, ⟨3, _⟩ => ⟨S2816, .f32⟩
  | .hbm, ⟨4, _⟩ => ⟨S2064x2816, .f32⟩
  | .hbm, ⟨5, _⟩ => ⟨S2064x2816, .f32⟩
  | .hbm, ⟨6, _⟩ => ⟨S_, .f32⟩
  | .hbm, ⟨7, _⟩ => ⟨S2x2816, .f32⟩
  | .hbm, ⟨8, _⟩ => ⟨S2066x2816, .f32⟩
  | .hbm, ⟨9, _⟩ => ⟨S_, .f32⟩
  | .hbm, ⟨10, _⟩ => ⟨S2x2816, .f32⟩
  | .hbm, ⟨11, _⟩ => ⟨S1x2816, .f32⟩
  | .hbm, ⟨12, _⟩ => ⟨S2064x2816, .f32⟩
  | .hbm, ⟨13, _⟩ => ⟨S2064x2816, .f32⟩
  | .hbm, ⟨14, _⟩ => ⟨S2064x2816, .f32⟩
  | .hbm, ⟨15, _⟩ => ⟨S_, .f32⟩
  | .hbm, ⟨16, _⟩ => ⟨S2064x2816, .f32⟩
  | .hbm, ⟨17, _⟩ => ⟨S2064x2816, .f32⟩
  | .hbm, ⟨18, _⟩ => ⟨S1x2816, .f32⟩
  | .hbm, ⟨19, _⟩ => ⟨S2064x2816, .f32⟩
  | .hbm, ⟨20, _⟩ => ⟨S2064x2816, .f32⟩
  | .hbm, ⟨21, _⟩ => ⟨S2064x2816, .f32⟩
  | .hbm, ⟨22, _⟩ => ⟨S2064x2816, .f32⟩
  | .hbm, ⟨23, _⟩ => ⟨S1x2816, .f32⟩
  | .hbm, ⟨24, _⟩ => ⟨S2064x2816, .f32⟩
  | .hbm, ⟨25, _⟩ => ⟨S2064x2816, .f32⟩
  | .hbm, ⟨26, _⟩ => ⟨S2064x2816, .f32⟩
  | .hbm, ⟨27, _⟩ => ⟨S2064x2816, .f32⟩
  | .hbm, ⟨28, _⟩ => ⟨S1x2816, .f32⟩
  | .hbm, ⟨29, _⟩ => ⟨S2064x2816, .f32⟩
  | .hbm, ⟨30, _⟩ => ⟨S2064x2816, .f32⟩
  | .hbm, ⟨31, _⟩ => ⟨S2064x2816, .f32⟩
  | .hbm, ⟨32, _⟩ => ⟨S2064x2816, .f32⟩
  | .hbm, ⟨33, _⟩ => ⟨S_, .f32⟩
  | .hbm, ⟨34, _⟩ => ⟨S2064x2816, .f32⟩
  | .hbm, ⟨35, _⟩ => ⟨S2064x2816, .f32⟩
  | .hbm, ⟨36, _⟩ => ⟨S_, .f32⟩
  | .hbm, ⟨37, _⟩ => ⟨S2064x2816, .f32⟩
  | .hbm, ⟨38, _⟩ => ⟨S2064x2816, .f32⟩
  | .hbm, ⟨39, _⟩ => ⟨S_, .f32⟩
  | .hbm, ⟨40, _⟩ => ⟨S2064x2816, .f32⟩
  | .hbm, ⟨41, _⟩ => ⟨S2064x2816, .f32⟩
  | .hbm, ⟨42, _⟩ => ⟨S2064x2816, .f32⟩
  | .hbm, ⟨43, _⟩ => ⟨S2064x2816, .f32⟩
  | .hbm, ⟨44, _⟩ => ⟨S2064x2816, .f32⟩
  | .hbm, ⟨45, _⟩ => ⟨S2064x2816, .f32⟩
  | .hbm, ⟨46, _⟩ => ⟨S2064x2816, .f32⟩
  | .hbm, ⟨47, _⟩ => ⟨S2064x2816, .f32⟩
  | .hbm, ⟨48, _⟩ => ⟨S2064x2816, .f32⟩
  | .hbm, ⟨49, _⟩ => ⟨S2064x2816, .f32⟩
  | .hbm, ⟨50, _⟩ => ⟨S2064x2816, .f32⟩
  | .hbm, ⟨51, _⟩ => ⟨S_, .f32⟩
  | .hbm, ⟨52, _⟩ => ⟨S2816, .f32⟩
  | .hbm, ⟨53, _⟩ => ⟨S1x2816, .f32⟩
  | .hbm, ⟨54, _⟩ => ⟨S_, .f32⟩
  | .hbm, ⟨55, _⟩ => ⟨S2816, .f32⟩
  | .hbm, ⟨56, _⟩ => ⟨S2064x2816, .f32⟩
  | .hbm, ⟨57, _⟩ => ⟨S2064x2816, .f32⟩
  | .hbm, ⟨58, _⟩ => ⟨S2064x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S_, .f32⟩
  | .hbm, ⟨63, _⟩ => ⟨S2066x2816, .f32⟩
  | .hbm, ⟨64, _⟩ => ⟨S_, .f32⟩
  | .hbm, ⟨65, _⟩ => ⟨S3x2816, .f32⟩
  | .hbm, ⟨66, _⟩ => ⟨S2064x2816, .f32⟩
  | .hbm, ⟨67, _⟩ => ⟨S2064x2816, .f32⟩
  | .hbm, ⟨68, _⟩ => ⟨S2064x2816, .f32⟩
  | .hbm, ⟨69, _⟩ => ⟨S_, .f32⟩
  | .hbm, ⟨70, _⟩ => ⟨S2816, .f32⟩
  | .hbm, ⟨71, _⟩ => ⟨S1x2816, .f32⟩
  | .hbm, ⟨72, _⟩ => ⟨S_, .f32⟩
  | .hbm, ⟨73, _⟩ => ⟨S2066x2816, .f32⟩
  | .hbm, ⟨74, _⟩ => ⟨S2066x2816, .f32⟩
  | .hbm, ⟨75, _⟩ => ⟨S_, .f32⟩
  | .hbm, ⟨76, _⟩ => ⟨S3x2816, .f32⟩
  | .hbm, ⟨77, _⟩ => ⟨S3x2816, .f32⟩
  | .hbm, ⟨78, _⟩ => ⟨S2064x2816, .f32⟩
  | .hbm, ⟨79, _⟩ => ⟨S2064x2816, .f32⟩
  | .hbm, ⟨80, _⟩ => ⟨S2064x2816, .f32⟩
  | .hbm, ⟨81, _⟩ => ⟨S_, .f32⟩
  | .hbm, ⟨82, _⟩ => ⟨S2816, .f32⟩
  | .hbm, ⟨83, _⟩ => ⟨S1x2816, .f32⟩
  | .hbm, ⟨84, _⟩ => ⟨S_, .f32⟩
  | .hbm, ⟨85, _⟩ => ⟨S2066x2816, .f32⟩
  | .hbm, ⟨86, _⟩ => ⟨S2066x2816, .f32⟩
  | .hbm, ⟨87, _⟩ => ⟨S_, .f32⟩
  | .hbm, ⟨88, _⟩ => ⟨S3x2816, .f32⟩
  | .hbm, ⟨89, _⟩ => ⟨S3x2816, .f32⟩
  | .hbm, ⟨90, _⟩ => ⟨S2x2816, .f32⟩
  | .hbm, ⟨91, _⟩ => ⟨S2064x2816, .f32⟩
  | .hbm, ⟨92, _⟩ => ⟨S2064x2816, .bf16⟩
  | .hbm, ⟨93, _⟩ => ⟨S2064x2816, .bf16⟩
  | .hbm, ⟨94, _⟩ => ⟨S1x2816, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v24_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v24_1 : Ref sig .tc := ⟨.hbm, 42, rfl⟩
abbrev main_v24_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== Proof.DzValue.lean ====
/- The down product's gradient with respect to the gated activations: what the blocked kernel leaves in its result
   array. Every grid point computes one (688, 1408) block of `dh · w_downᵀ` over the whole contraction. -/
module

public import proofs.«01_k».proof.Proof.Gen.DzIdeal.Value
public import proofs.«01_k».proof.Proof.Gen.DzRefIdeal.Read
public import Idealize.ShloMosaic.Lib.Pointwise
public import proofs.«01_k».proof.Defs

@[expose] public section

set_option maxRecDepth 16384

noncomputable section

namespace Cert.DzIdeal.Prod

open Cert.DzIdeal Cert.DzIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a (2064, 1024) array with the transpose of a (2816, 1024) array. -/
def prod (x : S2064x1024.Idx → EReal) (w : S2816x1024.Idx → EReal) (i : S2064x2816.Idx) : EReal :=
  ∑ k : Fin 1024, x (ix2 (i 0) k) * w (ix2 (i 1) k)

/-- What one grid point stores: the block product over the whole contraction. -/
theorem pay_apply (x : Vec Ideal S688x1024 .f32) (w : Vec Ideal S1408x1024 .f32) (j : S688x1408.Idx) :
    k0_pay1 x w j = ∑ k : Fin 1024, x (ix2 (j 0) k) * w (ix2 (j 1) k) := by
  pointwise [k0_pay1]

theorem hz : (![0, 0] : Fin 2 → Nat) = fun _ => 0 := funext fun a => by fin_cases a <;> rfl

/-- How the three windows move: the left block with the result's rows, the right block with its columns. -/
theorem idx_facts : ∀ t : Fin cfg0.N,
    win0_0.index t 0 = win0_2.index t 0 ∧ win0_0.index t 1 = 0
      ∧ win0_1.index t 0 = win0_2.index t 1 ∧ win0_1.index t 1 = 0 :=
  (by decide +kernel : ∀ t : Fin grid0.N, win0_0.index t 0 = win0_2.index t 0 ∧ win0_0.index t 1 = 0
      ∧ win0_1.index t 0 = win0_2.index t 1 ∧ win0_1.index t 1 = 0)

/-- The block of the left array at a point, read off the argument. -/
theorem iblk0_apply (c : Dev nD) (t : Fin cfg0.N) (r : Fin 688) (k : Fin 1024) (i : S2064x1024.Idx)
    (h0 : (i 0).val = win0_2.index t 0 * 688 + r.val) (h1 : (i 1).val = k.val) :
    (iblk m c 0 t : Vec Ideal S688x1024 .f32) (ix2 r k) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 688 + 1 * r.val = (i 0).val; rw [(idx_facts t).1]; omega
  | ⟨1, _⟩ => show win0_0.index t 1 * 1024 + 1 * k.val = (i 1).val; rw [(idx_facts t).2.1]; omega

/-- The block of the right array at a point, read off the argument. -/
theorem iblk1_apply (c : Dev nD) (t : Fin cfg0.N) (r : Fin 1408) (k : Fin 1024) (i : S2816x1024.Idx)
    (h0 : (i 0).val = win0_2.index t 1 * 1408 + r.val) (h1 : (i 1).val = k.val) :
    (iblk m c 1 t : Vec Ideal S1408x1024 .f32) (ix2 r k) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1408 + 1 * r.val = (i 0).val; rw [(idx_facts t).2.2.1]; omega
  | ⟨1, _⟩ => show win0_1.index t 1 * 1024 + 1 * k.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t (j 0) k (ix2 ((win0_2.blk t).view.emb j 0) k) ?_ rfl,
    iblk1_apply m c t (j 1) k (ix2 ((win0_2.blk t).view.emb j 1) k) ?_ rfl]
  · show win0_2.index t 1 * 1408 + 1 * (j 1).val = _; omega
  · show win0_2.index t 0 * 688 + 1 * (j 0).val = _; omega

theorem points : ∀ a : Fin 3, ∀ b : Fin 2, ∃ t : Fin cfg0.N, win0_2.index t 0 = a.val ∧ win0_2.index t 1 = b.val :=
  (by decide +kernel : ∀ a : Fin 3, ∀ b : Fin 2, ∃ t : Fin grid0.N, win0_2.index t 0 = a.val ∧ win0_2.index t 1 = b.val)

/-- The blocks cover the result. -/
theorem cover (i : S2064x2816.Idx) :
    ∃ t : Fin cfg0.N, (cfg0.win 2).flush t = true ∧ i ∈ ((cfg0.win 2).blk t).view.set := by
  have h0 : (i 0).val < 2064 := (i 0).isLt
  have h1 : (i 1).val < 2816 := (i 1).isLt
  obtain ⟨t, e0, e1⟩ := points ⟨(i 0).val / 688, by omega⟩ ⟨(i 1).val / 1408, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 688 ≤ (i 0).val ∧ (i 0).val < win0_2.index t 0 * 688 + 688
              rw [e0]; dsimp only; omega
  | ⟨1, _⟩ => show win0_2.index t 1 * 1408 ≤ (i 1).val ∧ (i 1).val < win0_2.index t 1 * 1408 + 1408
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x1024.Idx → EReal) (w : S2816x1024.Idx → EReal) :
    Host.dotGeneral (F := Ideal) (φ₁ := .f32) (φ₂ := .f32) Cert.DzRefIdeal.dot_S2064x1024_S2816x1024_S2064x2816_1_1_0_0_n_n none x w = prod x w := by
  funext i
  pointwise [prod]

theorem algebraic : Cert.algebraic_DzIdeal_DzRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.DzRefIdeal.Value.run (F := Ideal) m' ρ')⟩

end Cert.DzIdeal.Prod

end
-- ==== Proof.DownValue.lean ====
/- The gradient of the down product's weight: what the blocked kernel leaves in its result array. Every grid point
   computes 256 rows of `zᵀ · dh` over the whole token axis. -/
module

public import proofs.«01_k».proof.Proof.Gen.DownIdeal.Value
public import proofs.«01_k».proof.Proof.Gen.DownRefIdeal.Read
public import Idealize.ShloMosaic.Lib.Pointwise
public import proofs.«01_k».proof.Defs

@[expose] public section

set_option maxRecDepth 16384

noncomputable section

namespace Cert.DownIdeal.Prod

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the transpose of a (2064, 2816) array with a (2064, 1024) array. -/
def prod (x : S2064x2816.Idx → EReal) (w : S2064x1024.Idx → EReal) (i : S2816x1024.Idx) : EReal :=
  ∑ k : Fin 2064, x (ix2 k (i 0)) * w (ix2 k (i 1))

/-- What one grid point stores: the block product over the whole contraction. -/
theorem pay_apply (x : Vec Ideal S2064x256 .bf16) (w : Vec Ideal S2064x1024 .f32) (j : S256x1024.Idx) :
    k0_pay1 x w j = ∑ k : Fin 2064, x (ix2 k (j 0)) * w (ix2 k (j 1)) := by
  pointwise [k0_pay1]

theorem hz : (![0, 0] : Fin 2 → Nat) = fun _ => 0 := funext fun a => by fin_cases a <;> rfl

/-- How the three windows move: the left block's columns with the result's rows, the right block not at all. -/
theorem idx_facts : ∀ t : Fin cfg0.N,
    win0_0.index t 0 = 0 ∧ win0_0.index t 1 = win0_2.index t 0
      ∧ win0_1.index t 0 = 0 ∧ win0_1.index t 1 = win0_2.index t 1 :=
  (by decide +kernel : ∀ t : Fin grid0.N, win0_0.index t 0 = 0 ∧ win0_0.index t 1 = win0_2.index t 0
      ∧ win0_1.index t 0 = 0 ∧ win0_1.index t 1 = win0_2.index t 1)

/-- The block of the left array at a point, read off the argument. -/
theorem iblk0_apply (c : Dev nD) (t : Fin cfg0.N) (k : Fin 2064) (r : Fin 256) (i : S2064x2816.Idx)
    (h0 : (i 0).val = k.val) (h1 : (i 1).val = win0_2.index t 0 * 256 + r.val) :
    (iblk m c 0 t : Vec Ideal S2064x256 .bf16) (ix2 k r) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2064 + 1 * k.val = (i 0).val; rw [(idx_facts t).1]; omega
  | ⟨1, _⟩ => show win0_0.index t 1 * 256 + 1 * r.val = (i 1).val; rw [(idx_facts t).2.1]; omega

/-- The block of the right array at a point, read off the argument. -/
theorem iblk1_apply (c : Dev nD) (t : Fin cfg0.N) (k : Fin 2064) (r : Fin 1024) (i : S2064x1024.Idx)
    (h0 : (i 0).val = k.val) (h1 : (i 1).val = win0_2.index t 1 * 1024 + r.val) :
    (iblk m c 1 t : Vec Ideal S2064x1024 .f32) (ix2 k r) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2064 + 1 * k.val = (i 0).val; rw [(idx_facts t).2.2.1]; omega
  | ⟨1, _⟩ => show win0_1.index t 1 * 1024 + 1 * r.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t k (j 0) (ix2 k ((win0_2.blk t).view.emb j 0)) rfl ?_,
    iblk1_apply m c t k (j 1) (ix2 k ((win0_2.blk t).view.emb j 1)) rfl ?_]
  · show win0_2.index t 1 * 1024 + 1 * (j 1).val = _; omega
  · show win0_2.index t 0 * 256 + 1 * (j 0).val = _; omega

theorem points : ∀ a : Fin 11, ∀ b : Fin 1, ∃ t : Fin cfg0.N, win0_2.index t 0 = a.val ∧ win0_2.index t 1 = b.val :=
  (by decide +kernel : ∀ a : Fin 11, ∀ b : Fin 1, ∃ t : Fin grid0.N, win0_2.index t 0 = a.val ∧ win0_2.index t 1 = b.val)

/-- The blocks cover the result. -/
theorem cover (i : S2816x1024.Idx) :
    ∃ t : Fin cfg0.N, (cfg0.win 2).flush t = true ∧ i ∈ ((cfg0.win 2).blk t).view.set := by
  have h0 : (i 0).val < 2816 := (i 0).isLt
  have h1 : (i 1).val < 1024 := (i 1).isLt
  obtain ⟨t, e0, e1⟩ := points ⟨(i 0).val / 256, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e0]; dsimp only; omega
  | ⟨1, _⟩ => show win0_2.index t 1 * 1024 ≤ (i 1).val ∧ (i 1).val < win0_2.index t 1 * 1024 + 1024
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x2816.Idx → EReal) (w : S2064x1024.Idx → EReal) :
    Cert.DownRefIdeal.Read.val_main_v5 (F := Ideal) x w = prod x w := by
  funext i
  rw [Cert.DownRefIdeal.Read.val_main_v5_apply]
  show Cert.DownRefIdeal.Read.val_main_v4 (F := Ideal) x w i = _
  rw [Cert.DownRefIdeal.Read.val_main_v4_apply, Cert.DownRefIdeal.Read.val_main_v3_apply]
  refine Finset.sum_congr rfl fun k _ => (mul_comm _ _).trans (congrArg₂ (· * ·) ?_ ?_)
  · rw [Cert.DownRefIdeal.Read.val_main_v1_apply]
    exact congrArg x (funext fun a => match a with | ⟨0, _⟩ => rfl | ⟨1, _⟩ => rfl)
  · exact congrArg w (funext fun a => match a with | ⟨0, _⟩ => rfl | ⟨1, _⟩ => rfl)

theorem algebraic : Cert.algebraic_DownIdeal_DownRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.DownRefIdeal.Value.run (F := Ideal) m' ρ')⟩

end Cert.DownIdeal.Prod

end
-- ==== Proof.UpValue.lean ====
/- The gradient of the up product's weight: two blocked products fill the two halves of one result array. The first
   leaves `dgateᵀ · y` in rows 0..2815, the second, given that array to write into, `dvalᵀ · y` in rows 2816..5631. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.VecWindow
public import Idealize.ShloMosaic.Lib.WholeRead
public import Idealize.ShloMosaic.Lib.Pointwise
public import proofs.«01_k».proof.Defs

@[expose] public section

set_option maxRecDepth 16384

noncomputable section

namespace Cert.UpIdeal.Prod

open Cert.UpIdeal Cert.UpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The run, with every buffer -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two calls: every buffer ends with what the second call's boundary says. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

/-! ## The values -/

variable (m : (ℓ : Loc nD τ sig) → Buf (Elt Ideal) ℓ) (ρ : Dev nD → PrngReg)
variable (V : (c : Dev nD) → (b : Ref sig .tc) → Buf (Elt Ideal) ((c : Thread nD τ).loc b))

/-- One half of the gradient, as a function on the whole result array: row `r` of either half is column `r % 2816` of
    the half's cotangent against the columns of the layer's input. -/
def half (x : S2064x2816.Idx → EReal) (y : S2064x1024.Idx → EReal) (i : S5632x1024.Idx) : EReal :=
  ∑ k : Fin 2064, x (ix2 k ⟨(i 0).val % 2816, Nat.mod_lt _ (by decide)⟩) * y (ix2 k (i 1))

/-- The whole gradient. -/
def grad (g v : S2064x2816.Idx → EReal) (y : S2064x1024.Idx → EReal) (i : S5632x1024.Idx) : EReal :=
  if (i 0).val < 2816 then half g y i else half v y i

theorem pay0_apply (x : Vec Ideal S2064x256 .bf16) (w : Vec Ideal S2064x1024 .bf16) (j : S256x1024.Idx) :
    k0_pay1 x w j = ∑ k : Fin 2064, x (ix2 k (j 0)) * w (ix2 k (j 1)) := by
  pointwise [k0_pay1]

theorem pay1_apply (x : Vec Ideal S2064x256 .bf16) (w : Vec Ideal S2064x1024 .bf16) (j : S256x1024.Idx) :
    k1_pay1 x w j = ∑ k : Fin 2064, x (ix2 k (j 0)) * w (ix2 k (j 1)) := by
  pointwise [k1_pay1]

theorem hz : (![0, 0] : Fin 2 → Nat) = fun _ => 0 := funext fun a => by fin_cases a <;> rfl

/-- The first call's windows: the left block's columns move with the result's rows. -/
theorem idx0 : ∀ t : Fin cfg0.N, win0_0.index t 0 = 0 ∧ win0_0.index t 1 = win0_2.index t 0 ∧ win0_1.index t 0 = 0
      ∧ win0_1.index t 1 = win0_2.index t 1 ∧ win0_2.index t 0 < 11 :=
  (by decide +kernel : ∀ t : Fin grid0.N, win0_0.index t 0 = 0 ∧ win0_0.index t 1 = win0_2.index t 0 ∧ win0_1.index t 0 = 0
      ∧ win0_1.index t 1 = win0_2.index t 1 ∧ win0_2.index t 0 < 11)

/-- The second call's windows: the same, eleven blocks of rows further down. -/
theorem idx1 : ∀ t : Fin cfg1.N, win1_0.index t 0 = 0 ∧ win1_0.index t 1 + 11 = win1_2.index t 0 ∧ win1_1.index t 0 = 0
      ∧ win1_1.index t 1 = win1_2.index t 1 ∧ win1_2.index t 0 < 22 :=
  (by decide +kernel : ∀ t : Fin grid1.N, win1_0.index t 0 = 0 ∧ win1_0.index t 1 + 11 = win1_2.index t 0 ∧ win1_1.index t 0 = 0
      ∧ win1_1.index t 1 = win1_2.index t 1 ∧ win1_2.index t 0 < 22)

/-- A two-axis array read at indices with the same coordinates. -/
theorem read2 {S : Shape} (f : S.Idx → EReal) (i j : S.Idx) (h : ∀ a, (i a).val = (j a).val) : f i = f j :=
  congrArg f (funext fun a => Fin.ext (h a))

theorem flushed0 (c : Dev nD) (t : Fin cfg0.N) :
    (dat0 V c).flushed 2 t = (win0_2.blk t).view.read (Elt Ideal) (half (V c main_arg0) (V c main_arg2)) := by
  obtain ⟨a0, a1, a2, a3, a4⟩ := idx0 t
  show (cfg0.win 2).cut (grid0.coords t) ((dat0 V c).after 2 t) = _
  rw [after0_2]
  unfold out0_2
  rw [View.canon_unit_zero hz, View.ld_unit_zero hz, View.ld_unit_zero hz]
  funext j
  rw [View.read_apply]
  show k0_pay1 (iblk0 V c 0 t) (iblk0 V c 1 t) j = half _ _ _
  rw [pay0_apply]
  unfold half
  have hj : (j 0).val < 256 := (j 0).isLt
  refine Finset.sum_congr rfl fun k _ => congrArg₂ (· * ·) ?_ ?_
  · unfold iblk0
    rw [View.read_apply]
    refine read2 (S := S2064x2816) (V c main_arg0) _ _ fun a => ?_
    match a with
    | ⟨0, _⟩ => show win0_0.index t 0 * 2064 + 1 * k.val = k.val; omega
    | ⟨1, _⟩ => show win0_0.index t 1 * 256 + 1 * (j 0).val = (win0_2.index t 0 * 256 + 1 * (j 0).val) % 2816; omega
  · unfold iblk0
    rw [View.read_apply]
    refine read2 (S := S2064x1024) (V c main_arg2) _ _ fun a => ?_
    match a with
    | ⟨0, _⟩ => show win0_1.index t 0 * 2064 + 1 * k.val = k.val; omega
    | ⟨1, _⟩ => show win0_1.index t 1 * 1024 + 1 * (j 1).val = win0_2.index t 1 * 1024 + 1 * (j 1).val; omega

/-- A whole buffer loaded whole. -/
theorem load_whole {S : Shape} {e : EltTy} (M : Memref sig .tc .vmem S e) (hM : M.IsWhole) (x : S.Idx → Elt Ideal e)
    {off : Fin S.rank → Nat} (h0 : off = fun _ => 0) (inb : ∀ a, off a + S.size a ≤ S.size a) :
    View.readAt (Elt Ideal) M.view (Rect.unit off S.size inb).toLoadRect (hM.unread x) = x := by
  subst h0
  funext y
  rw [hM.readAt_unread]
  exact congrArg x (funext fun a => Fin.ext (by show 0 + 1 * (y a).val = (y a).val; omega))

theorem flushed1 (c : Dev nD) (t : Fin cfg1.N) :
    (dat1 V c).flushed 2 t = (win1_2.blk t).view.read (Elt Ideal) (half (V c main_arg1) (V c main_arg2)) := by
  obtain ⟨a0, a1, a2, a3, a4⟩ := idx1 t
  show (cfg1.win 2).cut (grid1.coords t) ((dat1 V c).after 2 t) = _
  rw [after1_2]
  unfold outsAt1 out1_A_2
  rw [show (kernelRun1_A c (grid1.coords t) (ms1_0 t) (hs1_0 t) (ms1_1 t) (hs1_1 t) (ms1_2 t) (hs1_2 t) (iblk1 V c 0 t) (iblk1 V c 1 t)).1
      = [⟨Rect.unit (s := S256x1024) ![0, 0] S256x1024.size inb_S256x1024_S256x1024_0_0, k1_pay1
          (View.readAt (Elt Ideal) (ms1_0 t).view (Rect.unit (s := S2064x256) ![0, 0] S2064x256.size inb_S2064x256_S2064x256_0_0).toLoadRect ((hs1_0 t).unread (iblk1 V c 0 t)))
          (View.readAt (Elt Ideal) (ms1_1 t).view (Rect.unit (s := S2064x1024) ![0, 0] S2064x1024.size inb_S2064x1024_S2064x1024_0_0).toLoadRect ((hs1_1 t).unread (iblk1 V c 1 t)))⟩]
    from by sl_kernel_rfl]
  rw [View.read_writes_full, load_whole _ _ _ hz, load_whole _ _ _ hz]
  funext j
  rw [View.read_apply]
  show k1_pay1 (F := Ideal) (iblk1 V c 0 t) (iblk1 V c 1 t) j = half _ _ _
  rw [pay1_apply]
  unfold half
  have hj : (j 0).val < 256 := (j 0).isLt
  refine Finset.sum_congr rfl fun k _ => congrArg₂ (· * ·) ?_ ?_
  · unfold iblk1
    rw [View.read_apply]
    refine read2 (S := S2064x2816) (V c main_arg1) _ _ fun a => ?_
    match a with
    | ⟨0, _⟩ => show win1_0.index t 0 * 2064 + 1 * k.val = k.val; omega
    | ⟨1, _⟩ => show win1_0.index t 1 * 256 + 1 * (j 0).val = (win1_2.index t 0 * 256 + 1 * (j 0).val) % 2816; omega
  · unfold iblk1
    rw [View.read_apply]
    refine read2 (S := S2064x1024) (V c main_arg2) _ _ fun a => ?_
    match a with
    | ⟨0, _⟩ => show win1_1.index t 0 * 2064 + 1 * k.val = k.val; omega
    | ⟨1, _⟩ => show win1_1.index t 1 * 1024 + 1 * (j 1).val = win1_2.index t 1 * 1024 + 1 * (j 1).val; omega

theorem points0 : ∀ a : Fin 11, ∃ t : Fin cfg0.N, win0_2.index t 0 = a.val ∧ win0_2.index t 1 = 0 :=
  (by decide +kernel : ∀ a : Fin 11, ∃ t : Fin grid0.N, win0_2.index t 0 = a.val ∧ win0_2.index t 1 = 0)

theorem points1 : ∀ a : Fin 11, ∃ t : Fin cfg1.N, win1_2.index t 0 = a.val + 11 ∧ win1_2.index t 1 = 0 :=
  (by decide +kernel : ∀ a : Fin 11, ∃ t : Fin grid1.N, win1_2.index t 0 = a.val + 11 ∧ win1_2.index t 1 = 0)

/-- The first call leaves its half in the rows below 2816. -/
theorem first (c : Dev nD) (i : S5632x1024.Idx) (hi : (i 0).val < 2816) :
    (dat0 V c).arrAt 2 cfg0.N i = half (V c main_arg0) (V c main_arg2) i := by
  have h1 : (i 1).val < 1024 := (i 1).isLt
  obtain ⟨t, e0, e1⟩ := points0 ⟨(i 0).val / 256, by omega⟩
  refine (dat0 V c).arrAt_apply_of_mem 2 (half (V c main_arg0) (V c main_arg2)) (fun t _ => flushed0 V c t) cfg0.N t i t.isLt
    (flush0_2 t) ?_
  show i ∈ ((View.whole main_v0).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e0]; dsimp only; omega
  | ⟨1, _⟩ => show win0_2.index t 1 * 1024 ≤ (i 1).val ∧ (i 1).val < win0_2.index t 1 * 1024 + 1024
              rw [e1]; omega

/-- The second call leaves its half in the rows from 2816 on, and the array as it found it elsewhere. -/
theorem second (c : Dev nD) (i : S5632x1024.Idx) :
    (dat1 V c).arrAt 2 cfg1.N i = if (i 0).val < 2816 then V c main_v1 i else half (V c main_arg1) (V c main_arg2) i := by
  have h0 : (i 0).val < 5632 := (i 0).isLt
  have h1 : (i 1).val < 1024 := (i 1).isLt
  split_ifs with hi
  · refine ((dat1 V c).arrAt_apply_of_forall_not_mem 2 cfg1.N i fun t _ _ hm => ?_).trans (congrFun (A_eq1 V c 2) i)
    replace hm : i ∈ ((View.whole main_v1).slice (win1_2.rect t)).set := hm
    rw [View.set_slice_whole, Rect.mem_set_unit] at hm
    have h := (hm 0).1
    replace h : win1_2.index t 0 * 256 ≤ (i 0).val := h
    have := (idx1 t).2.1
    omega
  · obtain ⟨t, e0, e1⟩ := points1 ⟨(i 0).val / 256 - 11, by omega⟩
    refine (dat1 V c).arrAt_apply_of_mem 2 (half (V c main_arg1) (V c main_arg2)) (fun t _ => flushed1 V c t) cfg1.N t i t.isLt
      (flush1_2 t) ?_
    show i ∈ ((View.whole main_v1).slice (win1_2.rect t)).set
    rw [View.set_slice_whole, Rect.mem_set_unit]
    intro a
    match a with
    | ⟨0, _⟩ => show win1_2.index t 0 * 256 ≤ (i 0).val ∧ (i 0).val < win1_2.index t 0 * 256 + 256
                rw [e0]; dsimp only; omega
    | ⟨1, _⟩ => show win1_2.index t 1 * 1024 ≤ (i 1).val ∧ (i 1).val < win1_2.index t 1 * 1024 + 1024
                rw [e1]; omega

/-- The gradient, of the launch contents of the three arguments. -/
abbrev result (c : Dev nD) : Buf (Elt Ideal) ((c : Thread nD τ).loc main_v1) :=
  grad (m ((c : Thread nD τ).loc main_arg0)) (m ((c : Thread nD τ).loc main_arg1)) (m ((c : Thread nD τ).loc main_arg2))

theorem final (c : Dev nD) : W3 m ρ c (Proc.devRef .tc main_v1) = result m c := by
  refine (W3_arr m ρ c 2).trans (funext fun i => ?_)
  refine (second (V2 m ρ) c i).trans ?_
  have e0 : V2 m ρ c main_arg1 = m ((c : Thread nD τ).loc main_arg1) := W2_args m ρ c main_arg1 (by decide)
  have e1 : V2 m ρ c main_arg2 = m ((c : Thread nD τ).loc main_arg2) := W2_args m ρ c main_arg2 (by decide)
  have e2 : V2 m ρ c main_v1 = (dat0 (V0 m ρ) c).arrAt 2 cfg0.N := by
    refine Eq.trans ?_ (W1_arr m ρ c 2)
    show StableHlo.after hostOps1 (W1 m ρ c) (Proc.devRef .tc main_v1) = _
    after_results
    rfl
  rw [e0, e1, e2]
  unfold result grad
  split_ifs with hi
  · exact first (V0 m ρ) c i hi
  · rfl

/-- The run: the result holds the gradient, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c _ (mem_uc main_v1 (by decide))).trans (final m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c)⟩) (run_held m ρ)

/-- The reference computes the same gradient. -/
theorem ref_eq (g v : S2064x2816.Idx → EReal) (y : S2064x1024.Idx → EReal) :
    Cert.UpRefIdeal.Read.val_main_v10 (F := Ideal) g v y = grad g v y := by
  funext i
  rw [Cert.UpRefIdeal.Read.val_main_v10_apply]
  show Cert.UpRefIdeal.Read.val_main_v9 (F := Ideal) g v y i = _
  rw [Cert.UpRefIdeal.Read.val_main_v9_apply, Cert.UpRefIdeal.Read.val_main_v8_apply, Cert.UpRefIdeal.Read.val_main_v7_apply]
  have cat : ∀ (k : Fin 2064) (r : Fin 5632), Cert.UpRefIdeal.Read.val_main_v2 (F := Ideal) g v (ix2 k r)
      = if r.val < 2816 then g (ix2 k ⟨r.val % 2816, Nat.mod_lt _ (by decide)⟩) else v (ix2 k ⟨r.val % 2816, Nat.mod_lt _ (by decide)⟩) := by
    intro k r
    have hr := r.isLt
    pointwise [Cert.UpRefIdeal.Read.val_main_v2, Cert.UpRefIdeal.Read.val_main_v0, Cert.UpRefIdeal.Read.val_main_v1]
    split_ifs with h
    · exact congrArg g (congrArg (ix2 k) (Fin.ext (by show r.val = r.val % 2816; omega)))
    · exact congrArg v (congrArg (ix2 k) (Fin.ext (by show r.val - 2816 = r.val % 2816; omega)))
    · rename_i h1; exact absurd rfl h1
  have e : ∀ k : Fin 2064, Cert.UpRefIdeal.Read.lidx_main_v7 (Cert.UpRefIdeal.Read.idx_main_v8 (Cert.UpRefIdeal.Read.idx_main_v9 i)) k
      = ix2 k (i 0) := fun k => funext fun a => match a with | ⟨0, _⟩ => rfl | ⟨1, _⟩ => rfl
  unfold grad half
  split_ifs with hi <;> refine Finset.sum_congr rfl fun k _ => congrArg₂ (· * ·) ?_ ?_
  · exact (congrArg (Cert.UpRefIdeal.Read.val_main_v2 (F := Ideal) g v) (e k)).trans ((cat k (i 0)).trans (if_pos hi))
  · rw [Cert.UpRefIdeal.Read.val_main_v4_apply]
    exact congrArg y (funext fun a => match a with | ⟨0, _⟩ => rfl | ⟨1, _⟩ => rfl)
  · exact (congrArg (Cert.UpRefIdeal.Read.val_main_v2 (F := Ideal) g v) (e k)).trans ((cat k (i 0)).trans (if_neg hi))
  · rw [Cert.UpRefIdeal.Read.val_main_v4_apply]
    exact congrArg y (funext fun a => match a with | ⟨0, _⟩ => rfl | ⟨1, _⟩ => rfl)

theorem algebraic : Cert.algebraic_UpIdeal_UpRefIdeal := fun m ρ m' ρ' _ hag =>
  ⟨fun c => result m c, run m ρ, (θ_run _ _ _).mono (fun _ h c => ⟨(h c).1.trans (by
    rw [(hag c).1, (hag c).2.1, (hag c).2.2]; exact ref_eq _ _ _), (h c).2⟩) (Cert.UpRefIdeal.Value.run (F := Ideal) m' ρ')⟩

end Cert.UpIdeal.Prod

end
-- ==== Proof.GateValue.lean ====
/- The gate half's gradient carried back through the up product: what the blocked kernel leaves in its result array.
   Every grid point computes 688 rows of `dgate · w_gate` over the whole inner axis. -/
module

public import proofs.«01_k».proof.Proof.Gen.GateIdeal.Value
public import proofs.«01_k».proof.Proof.Gen.GateRefIdeal.Read
public import Idealize.ShloMosaic.Lib.Pointwise
public import proofs.«01_k».proof.Defs

@[expose] public section

set_option maxRecDepth 16384

noncomputable section

namespace Cert.GateIdeal.Prod

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a (2064, 2816) array with the first 2816 rows of a (5632, 1024) array. -/
def prod (x : S2064x2816.Idx → EReal) (w : S5632x1024.Idx → EReal) (i : S2064x1024.Idx) : EReal :=
  ∑ k : Fin 2816, x (ix2 (i 0) k) * w (ix2 ⟨k.val, by omega⟩ (i 1))

/-- What one grid point stores: the block product over the whole contraction. -/
theorem pay_apply (x : Vec Ideal S688x2816 .bf16) (w : Vec Ideal S2816x1024 .f32) (j : S688x1024.Idx) :
    k0_pay1 x w j = ∑ k : Fin 2816, x (ix2 (j 0) k) * w (ix2 k (j 1)) := by
  pointwise [k0_pay1]

theorem hz : (![0, 0] : Fin 2 → Nat) = fun _ => 0 := funext fun a => by fin_cases a <;> rfl

/-- How the three windows move: the left block's rows with the result's rows, the right block not at all. -/
theorem idx_facts : ∀ t : Fin cfg0.N,
    win0_0.index t 0 = win0_2.index t 0 ∧ win0_0.index t 1 = 0
      ∧ win0_1.index t 0 = 0 ∧ win0_1.index t 1 = win0_2.index t 1 :=
  (by decide +kernel : ∀ t : Fin grid0.N, win0_0.index t 0 = win0_2.index t 0 ∧ win0_0.index t 1 = 0
      ∧ win0_1.index t 0 = 0 ∧ win0_1.index t 1 = win0_2.index t 1)

/-- The block of the left array at a point, read off the argument. -/
theorem iblk0_apply (c : Dev nD) (t : Fin cfg0.N) (r : Fin 688) (k : Fin 2816) (i : S2064x2816.Idx)
    (h0 : (i 0).val = win0_2.index t 0 * 688 + r.val) (h1 : (i 1).val = k.val) :
    (iblk m c 0 t : Vec Ideal S688x2816 .bf16) (ix2 r k) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 688 + 1 * r.val = (i 0).val; rw [(idx_facts t).1]; omega
  | ⟨1, _⟩ => show win0_0.index t 1 * 2816 + 1 * k.val = (i 1).val; rw [(idx_facts t).2.1]; omega

/-- The block of the right array at a point, read off the argument. -/
theorem iblk1_apply (c : Dev nD) (t : Fin cfg0.N) (k : Fin 2816) (r : Fin 1024) (i : S5632x1024.Idx)
    (h0 : (i 0).val = k.val) (h1 : (i 1).val = win0_2.index t 1 * 1024 + r.val) :
    (iblk m c 1 t : Vec Ideal S2816x1024 .f32) (ix2 k r) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2816 + 1 * k.val = (i 0).val; rw [(idx_facts t).2.2.1]; omega
  | ⟨1, _⟩ => show win0_1.index t 1 * 1024 + 1 * r.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t (j 0) k (ix2 ((win0_2.blk t).view.emb j 0) k) ?_ rfl,
    iblk1_apply m c t k (j 1) (ix2 ⟨k.val, by omega⟩ ((win0_2.blk t).view.emb j 1)) rfl ?_]
  · show win0_2.index t 1 * 1024 + 1 * (j 1).val = _; omega
  · show win0_2.index t 0 * 688 + 1 * (j 0).val = _; omega

theorem points : ∀ a : Fin 3, ∀ b : Fin 1, ∃ t : Fin cfg0.N, win0_2.index t 0 = a.val ∧ win0_2.index t 1 = b.val :=
  (by decide +kernel : ∀ a : Fin 3, ∀ b : Fin 1, ∃ t : Fin grid0.N, win0_2.index t 0 = a.val ∧ win0_2.index t 1 = b.val)

/-- The blocks cover the result. -/
theorem cover (i : S2064x1024.Idx) :
    ∃ t : Fin cfg0.N, (cfg0.win 2).flush t = true ∧ i ∈ ((cfg0.win 2).blk t).view.set := by
  have h0 : (i 0).val < 2064 := (i 0).isLt
  have h1 : (i 1).val < 1024 := (i 1).isLt
  obtain ⟨t, e0, e1⟩ := points ⟨(i 0).val / 688, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 688 ≤ (i 0).val ∧ (i 0).val < win0_2.index t 0 * 688 + 688
              rw [e0]; dsimp only; omega
  | ⟨1, _⟩ => show win0_2.index t 1 * 1024 ≤ (i 1).val ∧ (i 1).val < win0_2.index t 1 * 1024 + 1024
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x2816.Idx → EReal) (w : S5632x1024.Idx → EReal) :
    Cert.GateRefIdeal.Read.val_main_v5 (F := Ideal) x w = prod x w := by
  funext i
  rw [Cert.GateRefIdeal.Read.val_main_v5_apply]
  refine Finset.sum_congr rfl fun k _ => congrArg₂ (· * ·) ?_ ?_
  · rw [Cert.GateRefIdeal.Read.val_main_v4_apply]
    exact congrArg x (funext fun a => match a with | ⟨0, _⟩ => rfl | ⟨1, _⟩ => rfl)
  · rw [Cert.GateRefIdeal.Read.val_main_v2_apply, Cert.GateRefIdeal.Read.val_main_v1_apply]
    exact congrArg w (funext fun a => match a with | ⟨0, _⟩ => rfl | ⟨1, _⟩ => rfl)

theorem algebraic : Cert.algebraic_GateIdeal_GateRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.GateRefIdeal.Value.run (F := Ideal) m' ρ')⟩

end Cert.GateIdeal.Prod

end
-- ==== Proof.AttnBody.lean ====
/- What one grid point of the attention gradient's kernel leaves in its output buffers. -/
module

public import proofs.«01_k».proof.Proof.Gen.AttnIdeal.Frame
public import proofs.«01_k».proof.Proof.Gen.AttnIdeal.Skeleton
public import Idealize.ShloMosaic.Lib.Pipeline.Value

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

/-- The condition under which a point zeroes the three accumulators, as the body computes it. -/
abbrev first (i : grid0.Coords) : Prop :=
  (Scalar.cmpi .ne (Scalar.extui (Scalar.cmpi .eq (BitVec.ofNat 32 (i 0).val) 0#32)) 0#32) = 1#1

/-- It holds at the first point only. -/
theorem first_iff (t : Fin cfg0.N) : first (grid0.coords t) ↔ t.val = 0 := by
  have ht : t.val < 17 := Nat.lt_of_lt_of_eq t.isLt N_0
  have e0 : (grid0.coords t 0).val = t.val / 1 % 17 := Pipeline.Grid.coords_val t 0 (by decide) rfl
  have e1 : t.val / 1 % 17 = t.val := by omega
  simp only [first, e0, e1]
  word_cmp

/-- The previous block's rows, in closed form (the first point's are its own). -/
theorem off2_eq : ∀ i : grid0.Coords, k0_off2 i = ![128 * ((i 0).val - 1), 0] := by decide +kernel
instance closedOff2 (i : grid0.Coords) : ClosedOff (k0_off2 i) := ⟨![128 * ((i 0).val - 1), 0], off2_eq i⟩
/-- The previous block's rows at the second key head's columns. -/
theorem off4_eq : ∀ i : grid0.Coords, k0_off4 i = ![128 * ((i 0).val - 1), 64] := by decide +kernel
instance closedOff4 (i : grid0.Coords) : ClosedOff (k0_off4 i) := ⟨![128 * ((i 0).val - 1), 64], off4_eq i⟩

/-- What the key gradient's accumulator holds when a point begins to add to it. -/
def start11 (i : grid0.Coords) (x : Vec F S2176x128 .f32) : Vec F S2176x128 .f32 := if first i then k0_pay2 else x
/-- What the value gradient's accumulator holds when a point begins to add to it. -/
def start12 (i : grid0.Coords) (x : Vec F S2176x128 .f32) : Vec F S2176x128 .f32 := if first i then k0_pay3 else x
/-- What the sinks' gradient's accumulator holds when a point begins to add to it. -/
def start13 (i : grid0.Coords) (x : Vec F S1x128 .f32) : Vec F S1x128 .f32 := if first i then k0_pay4 else x

/-- A store over a whole buffer leaves it holding the stored value, whatever it held. -/
theorem writes_whole {S : Shape} {e : EltTy} (M : Memref sig .tc .vmem S e) (hM : M.IsWhole) (f : M.view.ty.Contents (Elt F))
    {off : Fin S.rank → Nat} (hz : off = fun _ => 0) (inb : ∀ a, off a + S.size a ≤ S.size a) (v : S.Idx → Elt F e) :
    M.view.writes (Elt F) f [⟨Rect.unit off S.size inb, v⟩] = hM.unread v := by
  refine hM.eq_unread ?_
  rw [View.read_writes_eq_canon M.view f _ fun y => ⟨_, List.mem_singleton_self _, View.mem_set_unit_zero hz inb y⟩]
  exact View.canon_unit_zero hz inb v

theorem hz0 : (![0, 0] : Fin 2 → Nat) = fun _ => 0 := by decide

set_option maxHeartbeats 4000000 in
/-- One point: from the inputs at their blocks and the accumulators at any contents the body runs to the inputs as they
    were, the query gradient's buffer with its pieces written, and each accumulator with its pieces written over what
    the point starts from. -/
def bodyRun (c : Dev nD) (i : grid0.Coords) (arg1 : Memref sig .tc .smem S1x8 .f32) (harg1 : arg1.IsWhole) (arg2 : Memref sig .tc .vmem S128x512 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x512 .bf16) (harg9 : arg9.IsWhole) (arg10 : Memref sig .tc .vmem S128x512 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S1x128 .f32) (harg13 : arg13.IsWhole)
    (x1 : Vec F S1x8 .f32) (x2 : Vec F S128x512 .bf16) (x3 : Vec F S128x128 .bf16) (x4 : Vec F S128x128 .bf16) (x5 : Vec F S128x128 .bf16) (x6 : Vec F S128x128 .bf16) (x7 : Vec F S128x128 .bf16) (x8 : Vec F S128x128 .bf16) (x9 : Vec F S128x512 .bf16) (s11 : Vec F S2176x128 .f32) (s12 : Vec F S2176x128 .f32) (s13 : Vec F S1x128 .f32) :
    Σ' (L10 : List (View.Piece (Elt F) S128x512 .f32)) (L11 : List (View.Piece (Elt F) S2176x128 .f32)) (L12 : List (View.Piece (Elt F) S2176x128 .f32)), { L13 : List (View.Piece (Elt F) S1x128 .f32) //
      ∀ (E : Set ℕ) (K : PUnit → sProp 𝕄) (x11 : Vec F S2176x128 .f32) (x12 : Vec F S2176x128 .f32) (x13 : Vec F S1x128 .f32)
        (h11 : s11 = start11 i x11) (h12 : s12 = start12 i x12) (h13 : s13 = start13 i x13),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread s11) L11) ∗ (arg12.view.loc (c : Thread nD τ) ↦[arg12.view.set]{fullShare} arg12.view.writes (Elt F) (harg12.unread s12) L12) ∗ (arg13.view.loc (c : Thread nD τ) ↦[arg13.view.set]{fullShare} arg13.view.writes (Elt F) (harg13.unread s13) L13)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K x11 x12 x13 h11 h12 h13 => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
    by_cases hc0 : first i
    · set_option sl_exec.maxSteps 10 in sl_exec (disch := first | sl_exact hc0)
      rw [writes_whole arg11 harg11 _ hz0, writes_whole arg12 harg12 _ hz0, writes_whole arg13 harg13 _ hz0,
        show harg11.unread bodyRun.sl.v586 = harg11.unread s11 from congrArg _ (h11.trans (if_pos hc0)).symm,
        show harg12.unread bodyRun.sl.v586 = harg12.unread s12 from congrArg _ (h12.trans (if_pos hc0)).symm,
        show harg13.unread bodyRun.sl.v590 = harg13.unread s13 from congrArg _ (h13.trans (if_pos hc0)).symm]
      sl_exec (disch := first | sl_exact hc0)
      sl_step
      iapply Hk
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]; · iexists f10; iexact H10
      isplitl [H11]; · iexact H11
      isplitl [H12]; · iexact H12
      iexact H13
    · obtain rfl : s11 = x11 := h11.trans (if_neg hc0)
      obtain rfl : s12 = x12 := h12.trans (if_neg hc0)
      obtain rfl : s13 = x13 := h13.trans (if_neg hc0)
      sl_exec (disch := first | sl_exact hc0)
      sl_step
      iapply Hk
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]; · iexists f10; iexact H10
      isplitl [H11]; · iexact H11
      isplitl [H12]; · iexact H12
      iexact H13

end Cert.AttnIdeal.Hand

end
-- ==== Proof.AttnFrame.lean ====
/- The run of the attention gradient's kernel over its seventeen points, and its frame. -/
module

public import proofs.«01_k».proof.Proof.AttnBody
public import Idealize.ShloMosaic.Lib.Claim

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The staging buffers at a point. -/
abbrev ms0 (t : Fin cfg0.N) : Memref sig .tc .smem S1x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2176x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S2176x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)

/-- The three accumulators. -/
abbrev Acc (F : FTy → Type) [FloatOps F] : Type := Vec F S2176x128 .f32 × Vec F S2176x128 .f32 × Vec F S1x128 .f32

/-- The body's run at point `t`, the accumulators starting at `a`. -/
def runAt (c : Dev nD) (t : Fin cfg0.N) (a : Acc F) :=
  bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (iblk m c 0 t) (iblk m c 1 t) (iblk m c 2 t) (iblk m c 3 t) (iblk m c 4 t) (iblk m c 5 t) (iblk m c 6 t) (iblk m c 7 t) (iblk m c 8 t) a.1 a.2.1 a.2.2

/-- What point `t` leaves in the accumulators, found at `a`. -/
def stepAt (c : Dev nD) (t : Fin cfg0.N) (a : Acc F) : Acc F :=
  ((ms10 t).view.read (Elt F) ((ms10 t).view.writes (Elt F) ((hs10 t).unread a.1) (runAt m c t a).2.1),
   (ms11 t).view.read (Elt F) ((ms11 t).view.writes (Elt F) ((hs11 t).unread a.2.1) (runAt m c t a).2.2.1),
   (ms12 t).view.read (Elt F) ((ms12 t).view.writes (Elt F) ((hs12 t).unread a.2.2) (runAt m c t a).2.2.2.1))

/-- The accumulators before point `n`: zeros, then what the points before have added. -/
def acc (c : Dev nD) : (n : ℕ) → n ≤ cfg0.N → Acc F
  | 0, _ => (k0_pay2, k0_pay3, k0_pay4)
  | n + 1, h => stepAt m c ⟨n, h⟩ (acc c n (Nat.le_of_succ_le h))

/-- What point `t` leaves in the query gradient's buffer. -/
def dqAt (c : Dev nD) (t : Fin cfg0.N) : Vec F S128x512 .f32 :=
  View.canon (runAt m c t (acc m c t.val t.isLt.le)).1

/-- The eight heads' columns are the whole block. -/
theorem cover_dq (c : Dev nD) (t : Fin cfg0.N) (a : Acc F) (y : S128x512.Idx) : ∃ pc ∈ (runAt m c t a).1, y ∈ pc.1.set :=
  View.cover_of_tiledL (runAt m c t a).1 S128x64.size (by sl_kernel_rfl) y

/-- The pipeline's proof data: inputs at their blocks, the outputs as above, each array's share dealt among its windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt m c t
    | ⟨10, _⟩ => (acc m c (t.val + 1) t.isLt).1
    | ⟨11, _⟩ => (acc m c (t.val + 1) t.isLt).2.1
    | ⟨12, _⟩ => (acc m c (t.val + 1) t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dqAt m c t := by dsimp only [dats]
theorem after_10 (c : Dev nD) (t : Fin cfg0.N) : (dats m 0 c).after 10 t = (acc m c (t.val + 1) t.isLt).1 := by dsimp only [dats]
theorem after_11 (c : Dev nD) (t : Fin cfg0.N) : (dats m 0 c).after 11 t = (acc m c (t.val + 1) t.isLt).2.1 := by dsimp only [dats]
theorem after_12 (c : Dev nD) (t : Fin cfg0.N) : (dats m 0 c).after 12 t = (acc m c (t.val + 1) t.isLt).2.2 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
/-- The accumulator of window 10 is found as the point before left it; the first point starts it. -/
theorem start_10 (c : Dev nD) (t : Fin cfg0.N) (d) :
    (acc m c t.val t.isLt.le).1 = start11 (grid0.coords t) ((dats m 0 c).before 10 t d) := by
  have hN : t.val < 17 := lt_of_lt_of_eq t.isLt N_0
  unfold start11
  by_cases h0 : t.val = 0
  · rw [if_pos ((first_iff t).mpr h0)]
    obtain ⟨n, hn⟩ := t
    obtain rfl : n = 0 := h0
    rfl
  · rw [if_neg fun h => h0 ((first_iff t).mp h)]
    rw [Dat.before_out_kept _ 10 rfl t (by omega) (Bool.eq_false_iff.mpr fun h => by have := (flush0_10 _).mp h; dsimp only at this; omega)
      (fun _ => rfl) (fun _ _ => rfl)]
    dsimp only [dats]
    obtain ⟨n, hn⟩ := t
    cases n with
    | zero => exact absurd rfl h0
    | succ n => rfl
/-- The accumulator of window 11 is found as the point before left it; the first point starts it. -/
theorem start_11 (c : Dev nD) (t : Fin cfg0.N) (d) :
    (acc m c t.val t.isLt.le).2.1 = start12 (grid0.coords t) ((dats m 0 c).before 11 t d) := by
  have hN : t.val < 17 := lt_of_lt_of_eq t.isLt N_0
  unfold start12
  by_cases h0 : t.val = 0
  · rw [if_pos ((first_iff t).mpr h0)]
    obtain ⟨n, hn⟩ := t
    obtain rfl : n = 0 := h0
    rfl
  · rw [if_neg fun h => h0 ((first_iff t).mp h)]
    rw [Dat.before_out_kept _ 11 rfl t (by omega) (Bool.eq_false_iff.mpr fun h => by have := (flush0_11 _).mp h; dsimp only at this; omega)
      (fun _ => rfl) (fun _ _ => rfl)]
    dsimp only [dats]
    obtain ⟨n, hn⟩ := t
    cases n with
    | zero => exact absurd rfl h0
    | succ n => rfl
/-- The accumulator of window 12 is found as the point before left it; the first point starts it. -/
theorem start_12 (c : Dev nD) (t : Fin cfg0.N) (d) :
    (acc m c t.val t.isLt.le).2.2 = start13 (grid0.coords t) ((dats m 0 c).before 12 t d) := by
  have hN : t.val < 17 := lt_of_lt_of_eq t.isLt N_0
  unfold start13
  by_cases h0 : t.val = 0
  · rw [if_pos ((first_iff t).mpr h0)]
    obtain ⟨n, hn⟩ := t
    obtain rfl : n = 0 := h0
    rfl
  · rw [if_neg fun h => h0 ((first_iff t).mp h)]
    rw [Dat.before_out_kept _ 12 rfl t (by omega) (Bool.eq_false_iff.mpr fun h => by have := (flush0_12 _).mp h; dsimp only at this; omega)
      (fun _ => rfl) (fun _ _ => rfl)]
    dsimp only [dats]
    obtain ⟨n, hn⟩ := t
    cases n with
    | zero => exact absurd rfl h0
    | succ n => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runAt m c t (acc m c t.val t.isLt.le)).2.2.2.2 Set.univ _ _ _ _ (start_10 m c t d10) (start_11 m c t d11) (start_12 m c t d12))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  iintro ⟨H0, H1, H2, H3, H4, H5, H6, H7, H8, ⟨%e9, H9⟩, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover_dq m c t _)
  isplitl [H10]
  · unfold owns; iexists _; isplitr
    swap; · iexact H10
    ipureintro; rfl
  isplitl [H11]
  · unfold owns; iexists _; isplitr
    swap; · iexact H11
    ipureintro; rfl
  unfold owns; iexists _; isplitr
  swap; · iexact H12
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it terminates with every array at what the points leave, the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: it terminates, the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.AttnIdeal.Hand

end
-- ==== Proof.AttnBits.lean ====
/- The attention gradient's frame at the machine's values, from the run over any values. -/
module

public import proofs.«01_k».proof.Defs
public import proofs.«01_k».proof.Proof.AttnFrame
public import proofs.«01_k».proof.Proof.Gen.Attn

@[expose] public section

noncomputable section

namespace Cert.AttnIdeal.Hand

open Idealize.ShloMosaic Idealize.SL.Sem

/-- At the machine's values a named constant is the word it is written as. -/
local instance : Named Bits := ⟨fun _ _ {φ} b => FloatOps.ofBits (F := Bits) φ b⟩

set_option maxHeartbeats 4000000 in
/-- The two programs' body tables are one: they have one label, and its body is the same text. -/
theorem defs_bits : Cert.Attn.defs₀ (F := Bits) = Cert.AttnIdeal.defs₀ (F := Bits) := by
  unfold Cert.Attn.defs₀ Cert.AttnIdeal.defs₀
  refine congrArg Defs.onTc ?_
  funext l a
  match l with
  | ⟨0, _⟩ => rfl
  | ⟨_ + 1, h⟩ => exact absurd h (Nat.not_lt.2 (Nat.le_add_left _ _))

set_option maxHeartbeats 4000000 in
theorem frame_bits : Cert.quiescent_Attn := fun m ρ _ => by
  unfold Cert.Attn.defs
  rw [defs_bits]
  exact frame (F := Bits) m ρ

theorem frame_ideal : Cert.quiescent_AttnIdeal := fun m ρ _ => frame (F := Ideal) m ρ

end Cert.AttnIdeal.Hand

end
-- ==== Proof.AttnSpec.lean ====
/- Sliding-window attention with sinks and meta tokens, and its gradient, as plain sums over all the tokens: 2176 tokens
   in 17 blocks of 128, of which the tokens 112..127 are seen by every later one. -/
module

public import Idealize.ShloMosaic.PureOps.Ideal
public import Mathlib.Algebra.BigOperators.Fin
public import Mathlib.Data.EReal.Operations

@[expose] public section

noncomputable section

namespace Attn

open Idealize.ShloMosaic

/-- Queries, keys, values, sinks and the output's gradient, by token, head and component. -/
structure Args where
  q : Fin 2176 → Fin 8 → Fin 64 → EReal
  k : Fin 2176 → Fin 2 → Fin 64 → EReal
  v : Fin 2176 → Fin 2 → Fin 64 → EReal
  sk : Fin 8 → EReal
  o : Fin 2176 → Fin 8 → Fin 64 → EReal

/-- The key head of a query head. -/
def grp (h : Fin 8) : Fin 2 := ⟨h.val / 4, by omega⟩

/-- Query `t` sees key `s`: one of the sixteen meta tokens no later than `t`, or a token of the window ending at `t`. -/
def Ok (t s : Fin 2176) : Prop := (112 ≤ s.val ∧ s.val < 128 ∧ s.val ≤ t.val) ∨ (128 ≤ s.val ∧ s.val ≤ t.val ∧ t.val < s.val + 128)

instance (t s : Fin 2176) : Decidable (Ok t s) := by unfold Ok; infer_instance

/-- The scores' scale, one eighth. -/
def c8 : EReal := Ideal.ofBits .f32 0x3E000000#32

/-- The arrays' columns: eight heads of 64 components, two for keys and values. -/
def Args.of (q : Fin 2176 → Fin 512 → EReal) (k v : Fin 2176 → Fin 128 → EReal) (sk : Fin 8 → EReal) (o : Fin 2176 → Fin 512 → EReal) :
    Args where
  q t h d := q t ⟨64 * h.val + d.val, by omega⟩
  k t g d := k t ⟨64 * g.val + d.val, by omega⟩
  v t g d := v t ⟨64 * g.val + d.val, by omega⟩
  sk := sk
  o t h d := o t ⟨64 * h.val + d.val, by omega⟩

namespace Args
variable (A : Args) (t s : Fin 2176) (h : Fin 8) (g : Fin 2) (d : Fin 64)

def dot : EReal := ∑ d : Fin 64, A.q t h d * A.k s (grp h) d
def score : EReal := if Ok t s then A.dot t s h * c8 else ⊥
def mx : EReal := max (Finset.univ.sup fun s => A.score t s h) (A.sk h)
def e : EReal := Ideal.exp (A.score t s h - A.mx t h)
def es : EReal := Ideal.exp (A.sk h - A.mx t h)
def den : EReal := ∑ s, A.e t s h + A.es t h
def inv : EReal := Ideal.div 1 (A.den t h)
def p : EReal := A.e t s h * A.inv t h
def ps : EReal := A.es t h * A.inv t h
def dp : EReal := ∑ d : Fin 64, A.o t h d * A.v s (grp h) d
def delta : EReal := ∑ s, A.p t s h * A.dp t s h
def ds : EReal := A.p t s h * (A.dp t s h - A.delta t h) * c8
def dq : EReal := ∑ s, A.ds t s h * A.k s (grp h) d
/-- Query head `j` of the four of key head `g`. -/
def hd (g : Fin 2) (j : Fin 4) : Fin 8 := ⟨4 * g.val + j.val, by omega⟩
def dk : EReal := ∑ t, ∑ j : Fin 4, A.ds t s (hd g j) * A.q t (hd g j) d
def dv : EReal := ∑ t, ∑ j : Fin 4, A.p t s (hd g j) * A.o t (hd g j) d
def dsk : EReal := ∑ n : Fin 17, (0 - ∑ r : Fin 128, A.ps ⟨128 * n.val + r.val, by omega⟩ h * A.delta ⟨128 * n.val + r.val, by omega⟩ h)

variable {A t s h}

theorem exp_bot : Ideal.exp ⊥ = 0 := rfl

theorem e_of_not (hn : ¬ Ok t s) : A.e t s h = 0 := by
  unfold e score
  rw [if_neg hn, EReal.bot_sub, exp_bot]

theorem p_of_not (hn : ¬ Ok t s) : A.p t s h = 0 := by
  unfold p; rw [e_of_not hn, zero_mul]

theorem ds_of_not (hn : ¬ Ok t s) : A.ds t s h = 0 := by
  unfold ds; rw [p_of_not hn, zero_mul, zero_mul]

end Args

/-- Token `r` of block `b`. -/
def row (b : Fin 17) (r : Fin 128) : Fin 2176 := ⟨128 * b.val + r.val, by omega⟩
/-- The block before. -/
def prev (b : Fin 17) : Fin 17 := ⟨b.val - 1, by omega⟩

/-- The tokens, block by block. -/
def rowEquiv : Fin 17 × Fin 128 ≃ Fin 2176 where
  toFun x := row x.1 x.2
  invFun s := (⟨s.val / 128, by omega⟩, ⟨s.val % 128, by omega⟩)
  left_inv x := Prod.ext (Fin.ext (by show (128 * x.1.val + x.2.val) / 128 = x.1.val; omega))
    (Fin.ext (by show (128 * x.1.val + x.2.val) % 128 = x.2.val; omega))
  right_inv s := Fin.ext (by show 128 * (s.val / 128) + s.val % 128 = s.val; omega)

theorem sum_rows (f : Fin 2176 → EReal) : ∑ s, f s = ∑ b : Fin 17, ∑ r : Fin 128, f (row b r) := by
  rw [← Equiv.sum_comp rowEquiv, Fintype.sum_prod_type]; rfl

/-- What is zero outside the query's block, the one before it (from the third on) and the first (from the second on) sums
    over these alone. -/
theorem sum_blocks (n : Fin 17) (f : Fin 2176 → EReal)
    (hf : ∀ b r, b ≠ n → ¬ (2 ≤ n.val ∧ b = prev n) → ¬ (1 ≤ n.val ∧ b = 0) → f (row b r) = 0) :
    ∑ s, f s = (∑ r : Fin 128, f (row n r) + ∑ r : Fin 128, if 2 ≤ n.val then f (row (prev n) r) else 0)
      + ∑ r : Fin 128, if 1 ≤ n.val then f (row 0 r) else 0 := by
  rw [sum_rows]
  have key : ∀ b : Fin 17, ∑ r : Fin 128, f (row b r)
      = ((if b = n then ∑ r : Fin 128, f (row n r) else 0)
        + (if b = prev n then ∑ r : Fin 128, (if 2 ≤ n.val then f (row (prev n) r) else 0) else 0))
        + (if b = 0 then ∑ r : Fin 128, (if 1 ≤ n.val then f (row 0 r) else 0) else 0) := by
    intro b
    have z : b ≠ n → ¬ (2 ≤ n.val ∧ b = prev n) → ¬ (1 ≤ n.val ∧ b = 0) → ∑ r : Fin 128, f (row b r) = 0 :=
      fun h1 h2 h3 => Finset.sum_eq_zero fun r _ => hf b r h1 h2 h3
    have hp : (prev n).val = n.val - 1 := rfl
    have h0 : (0 : Fin 17).val = 0 := rfl
    by_cases h1 : b = n
    · subst h1
      have e2 : (if b = prev b then ∑ r : Fin 128, (if 2 ≤ b.val then f (row (prev b) r) else 0) else 0) = 0 := by
        split_ifs with h h'
        · have := congrArg Fin.val h; omega
        · exact Finset.sum_const_zero
        · rfl
      have e3 : (if b = 0 then ∑ r : Fin 128, (if 1 ≤ b.val then f (row 0 r) else 0) else 0) = 0 := by
        split_ifs with h h'
        · have := congrArg Fin.val h; omega
        · exact Finset.sum_const_zero
        · rfl
      rw [if_pos rfl, e2, e3, add_zero, add_zero]
    · rw [if_neg h1, zero_add]
      by_cases h2 : 2 ≤ n.val ∧ b = prev n
      · have e3 : (if b = 0 then ∑ r : Fin 128, (if 1 ≤ n.val then f (row 0 r) else 0) else 0) = 0 := by
          rw [if_neg]
          intro h
          have := congrArg Fin.val h; have := congrArg Fin.val h2.2; omega
        rw [e3, add_zero, if_pos h2.2, h2.2]
        simp only [if_pos h2.1]
      · have e2 : (if b = prev n then ∑ r : Fin 128, (if 2 ≤ n.val then f (row (prev n) r) else 0) else 0) = 0 := by
          split_ifs with h h'
          · exact absurd ⟨h', h⟩ h2
          · exact Finset.sum_const_zero
          · rfl
        rw [e2, zero_add]
        by_cases h3 : 1 ≤ n.val ∧ b = 0
        · rw [if_pos h3.2, h3.2]
          simp only [if_pos h3.1]
        · rw [z h1 h2 h3]
          split_ifs with h h'
          · exact absurd ⟨h', h⟩ h3
          · exact Finset.sum_const_zero.symm
          · rfl
  rw [Finset.sum_congr rfl fun b _ => key b, Finset.sum_add_distrib, Finset.sum_add_distrib]
  simp only [Finset.sum_ite_eq', Finset.sum_ite_eq, Finset.mem_univ, if_true]

/-- Which keys a query of block `n` sees in the three blocks. -/
theorem ok_cur (n : Fin 17) (r c : Fin 128) : Ok (row n r) (row n c) ↔ c.val ≤ r.val ∧ (1 ≤ n.val ∨ 112 ≤ c.val) := by
  unfold Ok row; dsimp only; omega

theorem ok_prev (n : Fin 17) (r c : Fin 128) (hn : 2 ≤ n.val) : Ok (row n r) (row (prev n) c) ↔ r.val < c.val := by
  unfold Ok row prev; dsimp only; omega

theorem ok_first (n : Fin 17) (r c : Fin 128) (hn : 1 ≤ n.val) : Ok (row n r) (row 0 c) ↔ 112 ≤ c.val := by
  unfold Ok row; show (112 ≤ 128 * 0 + c.val ∧ _ ∧ 128 * 0 + c.val ≤ _) ∨ (128 ≤ 128 * 0 + c.val ∧ _) ↔ _; dsimp only; omega

/-- It sees none in any other. -/
theorem not_ok (n b : Fin 17) (r c : Fin 128) (h1 : b ≠ n) (h2 : ¬ (2 ≤ n.val ∧ b = prev n)) (h3 : ¬ (1 ≤ n.val ∧ b = 0)) :
    ¬ Ok (row n r) (row b c) := by
  have e1 : b.val ≠ n.val := fun h => h1 (Fin.ext h)
  have e2 : ¬ (2 ≤ n.val ∧ b.val = n.val - 1) := fun h => h2 ⟨h.1, Fin.ext h.2⟩
  have e3 : ¬ (1 ≤ n.val ∧ b.val = 0) := fun h => h3 ⟨h.1, Fin.ext h.2⟩
  unfold Ok row; dsimp only; omega

end Attn

end
-- ==== Proof.AttnCols.lean ====
/- The reference's score columns: for a query of block `n` the 256 keys of its block and the one before, masked, then the
   sixteen meta tokens, then the sink. Sums and maxima over these columns are sums and maxima over all the tokens. -/
module

public import proofs.«01_k».proof.Proof.AttnSpec
public import Mathlib.Data.Finset.Fold
public import Mathlib.Data.Finset.Lattice.Fold

@[expose] public section

noncomputable section

namespace Attn

open Idealize.ShloMosaic

/-- The token of column `c` of block `n`'s window. -/
def bandTok (n : Fin 17) (c : Fin 256) : Fin 2176 := ⟨128 * n.val + c.val - 128, by omega⟩
/-- The meta token of column `u`. -/
def metaTok (u : Fin 16) : Fin 2176 := ⟨112 + u.val, by omega⟩
/-- The window's mask. -/
def Mb (n : Fin 17) (r : Fin 128) (c : Fin 256) : Prop := 256 ≤ 128 * n.val + c.val ∧ r.val < c.val ∧ c.val ≤ r.val + 128
/-- The meta tokens' mask. -/
def Mm (n : Fin 17) (r : Fin 128) (u : Fin 16) : Prop := 112 + u.val ≤ 128 * n.val + r.val

instance (n r c) : Decidable (Mb n r c) := by unfold Mb; infer_instance
instance (n r u) : Decidable (Mm n r u) := by unfold Mm; infer_instance

theorem ok_band {n : Fin 17} {r : Fin 128} {c : Fin 256} (h : Mb n r c) : Ok (row n r) (bandTok n c) := by
  unfold Mb at h; unfold Ok row bandTok; dsimp only; omega

theorem ok_meta {n : Fin 17} {r : Fin 128} {u : Fin 16} : Ok (row n r) (metaTok u) ↔ Mm n r u := by
  unfold Mm; unfold Ok row metaTok; dsimp only; omega

/-- The window's columns and the meta columns together are the tokens that the query sees. -/
theorem sum_cols (n : Fin 17) (r : Fin 128) (f : Fin 2176 → EReal) (hf : ∀ s, ¬ Ok (row n r) s → f s = 0) :
    (∑ c : Fin 256, if Mb n r c then f (bandTok n c) else 0) + ∑ u : Fin 16, f (metaTok u) = ∑ s, f s := by
  have hw : (∑ c : Fin 256, if Mb n r c then f (bandTok n c) else 0) = ∑ s with 128 ≤ s.val, f s := by
    rw [← Finset.sum_filter]
    have h2 : ∑ s with 128 ≤ s.val, f s = ∑ s with 128 ≤ s.val ∧ Ok (row n r) s, f s := by
      symm
      refine Finset.sum_subset (fun s hs => ?_) fun s hs hn => hf s fun ho => hn ?_
      · simp only [Finset.mem_filter, Finset.mem_univ, true_and] at hs ⊢; exact hs.1
      · simp only [Finset.mem_filter, Finset.mem_univ, true_and] at hs ⊢; exact ⟨hs, ho⟩
    rw [h2]
    refine Finset.sum_nbij' (bandTok n) (fun s => ⟨(s.val + 128 - 128 * n.val) % 256, by omega⟩) ?_ ?_ ?_ ?_ fun _ _ => rfl
    · intro c hc
      simp only [Finset.mem_filter, Finset.mem_univ, true_and] at hc ⊢
      refine ⟨?_, ok_band hc⟩
      unfold Mb at hc; unfold bandTok; dsimp only; omega
    · intro s hs
      simp only [Finset.mem_filter, Finset.mem_univ, true_and] at hs ⊢
      unfold Ok row at hs; unfold Mb; dsimp only at hs ⊢; omega
    · intro c hc
      simp only [Finset.mem_filter, Finset.mem_univ, true_and] at hc
      unfold Mb at hc; unfold bandTok; apply Fin.ext; dsimp only; omega
    · intro s hs
      simp only [Finset.mem_filter, Finset.mem_univ, true_and] at hs
      unfold Ok row at hs; unfold bandTok; apply Fin.ext; dsimp only at hs ⊢; omega
  have hm : (∑ u : Fin 16, f (metaTok u)) = ∑ s with ¬ 128 ≤ s.val, f s := by
    have h2 : ∑ s with ¬ 128 ≤ s.val, f s = ∑ s with ¬ 128 ≤ s.val ∧ 112 ≤ s.val, f s := by
      symm
      refine Finset.sum_subset (fun s hs => ?_) fun s hs hn => hf s fun ho => hn ?_
      · simp only [Finset.mem_filter, Finset.mem_univ, true_and] at hs ⊢; exact hs.1
      · simp only [Finset.mem_filter, Finset.mem_univ, true_and] at hs ⊢
        refine ⟨hs, ?_⟩
        unfold Ok at ho; omega
    rw [h2]
    refine Finset.sum_nbij' metaTok (fun s => ⟨(s.val - 112) % 16, by omega⟩) ?_ ?_ ?_ ?_ fun _ _ => rfl
    · intro u _
      simp only [Finset.mem_filter, Finset.mem_univ, true_and]
      unfold metaTok; dsimp only; omega
    · intro s _; exact Finset.mem_univ _
    · intro u _; unfold metaTok; apply Fin.ext; dsimp only; omega
    · intro s hs
      simp only [Finset.mem_filter, Finset.mem_univ, true_and] at hs
      unfold metaTok; apply Fin.ext; dsimp only; omega
  rw [hw, hm, Finset.sum_filter_add_sum_filter_not]

/-- A sum over the 273 columns: window, meta tokens, sink. -/
theorem sum273 (F : Fin 273 → EReal) :
    ∑ w, F w = ((∑ c : Fin 256, F ⟨c.val, by omega⟩) + ∑ u : Fin 16, F ⟨256 + u.val, by omega⟩) + F ⟨272, by omega⟩ := by
  rw [Fin.sum_univ_castSucc (n := 272) F]
  refine congrArg₂ (· + ·) ?_ rfl
  exact Fin.sum_univ_add (a := 256) (b := 16) fun i => F (Fin.castSucc i)

/-- The reference's score of column `w`. -/
def Args.col (A : Args) (n : Fin 17) (r : Fin 128) (h : Fin 8) (w : Fin 273) : EReal :=
  if hc : w.val < 256 then (if Mb n r ⟨w.val, hc⟩ then A.score (row n r) (bandTok n ⟨w.val, hc⟩) h else ⊥)
  else if hu : w.val - 256 < 16 then A.score (row n r) (metaTok ⟨w.val - 256, hu⟩) h else A.sk h

theorem col_band (A : Args) (n : Fin 17) (r : Fin 128) (h : Fin 8) (c : Fin 256) :
    A.col n r h ⟨c.val, by omega⟩ = if Mb n r c then A.score (row n r) (bandTok n c) h else ⊥ := by
  unfold Args.col; rw [dif_pos c.isLt]

theorem col_meta (A : Args) (n : Fin 17) (r : Fin 128) (h : Fin 8) (u : Fin 16) :
    A.col n r h ⟨256 + u.val, by omega⟩ = A.score (row n r) (metaTok u) h := by
  have e : (256 + u.val) - 256 = u.val := by omega
  unfold Args.col
  rw [dif_neg (by dsimp only; omega), dif_pos (by dsimp only; omega)]
  exact congrArg (fun x => A.score (row n r) (metaTok x) h) (Fin.ext e)

theorem col_sink (A : Args) (n : Fin 17) (r : Fin 128) (h : Fin 8) : A.col n r h ⟨272, by omega⟩ = A.sk h := by
  unfold Args.col
  rw [dif_neg (by dsimp only; omega), dif_neg (by dsimp only; omega)]

/-- The columns' maximum is the maximum over the tokens and the sink. -/
theorem max_cols (A : Args) (n : Fin 17) (r : Fin 128) (h : Fin 8) :
    max ⊥ (Finset.fold max ⊥ (A.col n r h) Finset.univ) = A.mx (row n r) h := by
  rw [max_eq_right bot_le]
  refine le_antisymm ?_ ?_
  · rw [Finset.fold_max_le]
    refine ⟨bot_le, fun w _ => ?_⟩
    have hs : ∀ s, A.score (row n r) s h ≤ A.mx (row n r) h := fun s =>
      le_trans (Finset.le_sup (f := fun s => A.score (row n r) s h) (Finset.mem_univ s)) (le_max_left _ _)
    unfold Args.col
    split_ifs
    · exact hs _
    · exact bot_le
    · exact hs _
    · exact le_max_right _ _
  · refine max_le (Finset.sup_le fun s _ => ?_) ?_
    · by_cases ho : Ok (row n r) s
      · rw [Finset.le_fold_max]
        right
        by_cases hb : 128 ≤ s.val
        · have hl : s.val + 128 - 128 * n.val < 256 := by unfold Ok row at ho; dsimp only at ho; omega
          have hm : Mb n r ⟨s.val + 128 - 128 * n.val, hl⟩ := by
            unfold Ok row at ho; unfold Mb; dsimp only at ho ⊢; omega
          refine ⟨⟨s.val + 128 - 128 * n.val, by omega⟩, Finset.mem_univ _, le_of_eq ?_⟩
          rw [col_band A n r h ⟨s.val + 128 - 128 * n.val, hl⟩, if_pos hm]
          refine congrArg (fun x => A.score (row n r) x h) (Fin.ext ?_)
          unfold Ok row at ho; unfold bandTok; dsimp only at ho ⊢; omega
        · have hm : 112 ≤ s.val := by unfold Ok at ho; omega
          refine ⟨⟨256 + (s.val - 112), by omega⟩, Finset.mem_univ _, le_of_eq ?_⟩
          rw [col_meta A n r h ⟨s.val - 112, by omega⟩]
          refine congrArg (fun x => A.score (row n r) x h) (Fin.ext ?_)
          unfold metaTok; dsimp only; omega
      · have : A.score (row n r) s h = ⊥ := by unfold Args.score; rw [if_neg ho]
        rw [this]; exact bot_le
    · rw [Finset.le_fold_max]
      exact Or.inr ⟨_, Finset.mem_univ _, le_of_eq (col_sink A n r h).symm⟩

/-- The column's exponential. -/
theorem exp_band (A : Args) (n : Fin 17) (r : Fin 128) (h : Fin 8) (c : Fin 256) :
    Ideal.exp (A.col n r h ⟨c.val, by omega⟩ - A.mx (row n r) h) = if Mb n r c then A.e (row n r) (bandTok n c) h else 0 := by
  rw [col_band]
  split_ifs
  · rfl
  · rw [EReal.bot_sub, Args.exp_bot]

/-- The columns' exponentials sum to the denominator. -/
theorem den_cols (A : Args) (n : Fin 17) (r : Fin 128) (h : Fin 8) :
    ∑ w, Ideal.exp (A.col n r h w - A.mx (row n r) h) = A.den (row n r) h := by
  rw [sum273]
  simp only [exp_band, col_meta, col_sink]
  unfold Args.den
  rw [← sum_cols n r (fun s => A.e (row n r) s h) fun s hs => Args.e_of_not hs]
  rfl

/-- What a key of block `k` gets from the queries: as a meta token from all, else from its own block and the next. -/
theorem sum_queries (k : Fin 17) (c : Fin 128) (F : Fin 2176 → EReal) (hF : ∀ t, ¬ Ok t (row k c) → F t = 0) :
    (((if k.val < 1 ∧ 112 ≤ c.val then ∑ n, ∑ r, F (row n r) else 0)
      + ∑ r, if Mb k r ⟨128 + c.val, by omega⟩ then F (row k r) else 0)
      + if h : k.val < 16 then ∑ r, (if Mb ⟨1 + k.val, by omega⟩ r ⟨c.val, by omega⟩ then F (row ⟨1 + k.val, by omega⟩ r) else 0) else 0)
    = ∑ t, F t := by
  rw [sum_rows]
  by_cases hk : k.val < 1
  · have e2 : (∑ r, if Mb k r ⟨128 + c.val, by omega⟩ then F (row k r) else 0) = 0 :=
      Finset.sum_eq_zero fun r _ => if_neg (by unfold Mb; dsimp only; omega)
    have e3 : (if h : k.val < 16 then ∑ r, (if Mb ⟨1 + k.val, by omega⟩ r ⟨c.val, by omega⟩ then F (row ⟨1 + k.val, by omega⟩ r) else 0)
        else 0) = 0 := by
      split_ifs
      · exact Finset.sum_eq_zero fun r _ => if_neg (by unfold Mb; dsimp only; omega)
      · rfl
    rw [e2, e3, add_zero, add_zero]
    by_cases hc : 112 ≤ c.val
    · rw [if_pos ⟨hk, hc⟩]
    · rw [if_neg (fun h => hc h.2)]
      symm
      exact Finset.sum_eq_zero fun n _ => Finset.sum_eq_zero fun r _ => hF _ (by unfold Ok row; dsimp only; omega)
  · rw [if_neg (fun h => hk h.1), zero_add]
    have key : ∀ n : Fin 17, ∑ r, F (row n r)
        = (if n = k then (∑ r, if Mb k r ⟨128 + c.val, by omega⟩ then F (row k r) else 0) else 0)
          + if n.val = 1 + k.val then (if h : k.val < 16 then ∑ r, (if Mb ⟨1 + k.val, by omega⟩ r ⟨c.val, by omega⟩
              then F (row ⟨1 + k.val, by omega⟩ r) else 0) else 0) else 0 := by
      intro n
      by_cases h1 : n = k
      · subst h1
        rw [if_pos rfl, if_neg (by omega), add_zero]
        refine Finset.sum_congr rfl fun r _ => ?_
        split_ifs with h
        · rfl
        · exact hF _ fun ho => h (by unfold Ok row at ho; unfold Mb; dsimp only at ho ⊢; omega)
      · have h1' : n.val ≠ k.val := fun h => h1 (Fin.ext h)
        rw [if_neg h1, zero_add]
        by_cases h2 : n.val = 1 + k.val
        · rw [if_pos h2, dif_pos (by omega)]
          have e : (⟨1 + k.val, by omega⟩ : Fin 17) = n := Fin.ext h2.symm
          simp only [e]
          refine Finset.sum_congr rfl fun r _ => ?_
          split_ifs with h
          · rfl
          · exact hF _ fun ho => h (by unfold Ok row at ho; unfold Mb; dsimp only at ho ⊢; omega)
        · rw [if_neg h2]
          exact Finset.sum_eq_zero fun r _ => hF _ (by unfold Ok row; dsimp only; omega)
    rw [Finset.sum_congr rfl fun n _ => key n, Finset.sum_add_distrib]
    refine congrArg₂ (· + ·) ?_ ?_
    · rw [Finset.sum_ite_eq' Finset.univ k]; simp only [Finset.mem_univ, if_true]
    · by_cases h : k.val < 16
      · have e : ∀ n : Fin 17, (n.val = 1 + k.val) = (n = (⟨1 + k.val, by omega⟩ : Fin 17)) := fun n =>
          propext ⟨fun h => Fin.ext h, fun h => congrArg Fin.val h⟩
        simp only [e, dif_pos h]
        rw [Finset.sum_ite_eq' Finset.univ]; simp only [Finset.mem_univ, if_true]
      · rw [dif_neg h]
        symm
        exact Finset.sum_eq_zero fun n _ => if_neg (by omega)

/-- The same with the key named as the column names it. -/
theorem place_eq (k : Fin 17) (c : Fin 128) (F : Fin 2176 → Fin 2176 → EReal) (hF : ∀ s t, ¬ Ok t s → F s t = 0) :
    (((if h : k.val < 1 ∧ 112 ≤ c.val ∧ c.val - 112 < 16 then ∑ n, ∑ r, F (metaTok ⟨c.val - 112, h.2.2⟩) (row n r) else 0)
      + ∑ r, if Mb k r ⟨128 + c.val, by omega⟩ then F (bandTok k ⟨128 + c.val, by omega⟩) (row k r) else 0)
      + if h : k.val < 16 then ∑ r, (if Mb ⟨1 + k.val, by omega⟩ r ⟨c.val, by omega⟩
          then F (bandTok ⟨1 + k.val, by omega⟩ ⟨c.val, by omega⟩) (row ⟨1 + k.val, by omega⟩ r) else 0) else 0)
    = ∑ t, F (row k c) t := by
  rw [← sum_queries k c (F (row k c)) fun t => hF _ t]
  have e1 : bandTok k ⟨128 + c.val, by omega⟩ = row k c := Fin.ext (by unfold bandTok row; dsimp only; omega)
  rw [e1]
  refine congrArg₂ (· + ·) (congrArg₂ (· + ·) ?_ rfl) ?_
  · by_cases h : k.val < 1 ∧ 112 ≤ c.val
    · rw [if_pos h, dif_pos ⟨h.1, h.2, by omega⟩]
      have e2 : metaTok ⟨c.val - 112, by omega⟩ = row k c := Fin.ext (by unfold metaTok row; dsimp only; omega)
      rw [e2]
    · rw [if_neg h, dif_neg (fun h' => h ⟨h'.1, h'.2.1⟩)]
  · by_cases h : k.val < 16
    · rw [dif_pos h, dif_pos h]
      have e3 : bandTok ⟨1 + k.val, by omega⟩ ⟨c.val, by omega⟩ = row k c := Fin.ext (by unfold bandTok row; dsimp only; omega)
      rw [e3]
    · rw [dif_neg h, dif_neg h]

end Attn

end
-- ==== Proof.AttnReal.lean ====
/- Over finite arguments every quantity of the attention's gradient is a real number, and the softmax's derivative in the
   quotient's form is the one with the rows' sums taken out. -/
module

public import proofs.«01_k».proof.Proof.AttnSpec

@[expose] public section

noncomputable section

namespace Attn

open Idealize.ShloMosaic

/-- A real number. -/
def R (x : EReal) : Prop := ∃ y : ℝ, x = (y : EReal)

theorem R.of {x : EReal} (h1 : x ≠ ⊥) (h2 : x ≠ ⊤) : R x := ⟨x.toReal, (EReal.coe_toReal h2 h1).symm⟩
theorem R.add {x y : EReal} : R x → R y → R (x + y) := fun ⟨a, ha⟩ ⟨b, hb⟩ => ⟨a + b, by rw [ha, hb, EReal.coe_add]⟩
theorem R.mul {x y : EReal} : R x → R y → R (x * y) := fun ⟨a, ha⟩ ⟨b, hb⟩ => ⟨a * b, by rw [ha, hb, EReal.coe_mul]⟩
theorem R.sum {ι : Type} [Fintype ι] {f : ι → EReal} (h : ∀ i, R (f i)) : R (∑ i, f i) :=
  Finset.sum_induction f R (fun _ _ => R.add) ⟨0, rfl⟩ fun i _ => h i

theorem coe_sum {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

theorem neg_sum {ι : Type} [Fintype ι] {f : ι → EReal} (h : ∀ i, R (f i)) : ∑ i, -f i = -∑ i, f i := by
  choose g hg using h
  simp only [hg, ← coe_sum, ← EReal.coe_neg, Finset.sum_neg_distrib]

theorem R_c8 : R c8 := by
  unfold c8
  simp only [Ideal.ofBits, Ideal.ieee]
  rw [if_neg (by decide), if_neg (by decide)]
  exact ⟨_, rfl⟩

theorem div_real (x : EReal) {D : ℝ} (hD : D ≠ 0) : Ideal.div x (D : EReal) = x * ((D⁻¹ : ℝ) : EReal) := by
  unfold Ideal.div
  rw [if_neg (by exact_mod_cast hD), EReal.coe_inv]

/-- Every argument is finite. -/
structure Args.Real (A : Args) : Prop where
  q : ∀ t h d, R (A.q t h d)
  k : ∀ t g d, R (A.k t g d)
  v : ∀ t g d, R (A.v t g d)
  sk : ∀ h, R (A.sk h)
  o : ∀ t h d, R (A.o t h d)

namespace Args
variable {A : Args} (hA : A.Real) (t s : Fin 2176) (h : Fin 8)
include hA

theorem R_dot : R (A.dot t s h) := R.sum fun d => (hA.q _ _ _).mul (hA.k _ _ _)
theorem R_dp : R (A.dp t s h) := R.sum fun d => (hA.o _ _ _).mul (hA.v _ _ _)

theorem score_cases : A.score t s h = ⊥ ∨ R (A.score t s h) := by
  unfold score
  split_ifs
  · exact Or.inr ((R_dot hA t s h).mul R_c8)
  · exact Or.inl rfl

theorem R_mx : R (A.mx t h) := by
  refine R.of ?_ (ne_of_lt ?_)
  · obtain ⟨y, hy⟩ := hA.sk h
    refine ne_of_gt (lt_of_lt_of_le ?_ (le_max_right _ _))
    rw [hy]; exact EReal.bot_lt_coe y
  · refine max_lt ?_ ?_
    · rw [Finset.sup_lt_iff bot_lt_top]
      intro s _
      rcases score_cases hA t s h with e | ⟨y, e⟩
      · rw [e]; exact bot_lt_top
      · rw [e]; exact EReal.coe_lt_top y
    · obtain ⟨y, hy⟩ := hA.sk h
      rw [hy]; exact EReal.coe_lt_top y

theorem R_e : ∃ y : ℝ, 0 ≤ y ∧ A.e t s h = (y : EReal) := by
  obtain ⟨m, hm⟩ := R_mx hA t h
  unfold e
  rcases score_cases hA t s h with e | ⟨y, e⟩
  · exact ⟨0, le_refl _, by rw [e, EReal.bot_sub, exp_bot]; rfl⟩
  · exact ⟨Real.exp (y - m), (Real.exp_pos _).le, by rw [e, hm, ← EReal.coe_sub]; rfl⟩

theorem R_es : ∃ y : ℝ, 0 < y ∧ A.es t h = (y : EReal) := by
  obtain ⟨m, hm⟩ := R_mx hA t h
  obtain ⟨y, hy⟩ := hA.sk h
  exact ⟨Real.exp (y - m), Real.exp_pos _, by unfold es; rw [hy, hm, ← EReal.coe_sub]; rfl⟩

/-- The row's real numbers. -/
theorem reals : ∃ (a b : Fin 2176 → ℝ) (z D : ℝ), (∀ s, A.e t s h = (a s : EReal)) ∧ (∀ s, A.dp t s h = (b s : EReal))
    ∧ A.es t h = (z : EReal) ∧ A.den t h = (D : EReal) ∧ D ≠ 0 := by
  choose a ha using fun s => R_e hA t s h
  choose b hb using fun s => R_dp hA t s h
  obtain ⟨z, hz, ez⟩ := R_es hA t h
  refine ⟨a, b, z, ∑ s, a s + z, fun s => (ha s).2, hb, ez, ?_, ne_of_gt ?_⟩
  · unfold den; rw [ez, EReal.coe_add, coe_sum]; simp only [(ha _).2]
  · exact add_pos_of_nonneg_of_pos (Finset.sum_nonneg fun s _ => (ha s).1) hz

omit hA in
/-- The row's sum in the quotient's derivative. -/
def w (A : Args) (t : Fin 2176) (h : Fin 8) : EReal :=
  ∑ s, A.dp t s h * Ideal.div 1 (A.den t h * A.den t h) * A.e t s h

theorem p_eq : Ideal.div (A.e t s h) (A.den t h) = A.p t s h := by
  obtain ⟨a, b, z, D, ha, hb, hz, hD, h0⟩ := reals hA t h
  unfold p inv
  rw [hD, div_real _ h0, div_real _ h0, one_mul]

theorem div_e0 : Ideal.div 0 (A.den t h) = 0 := by
  obtain ⟨a, b, z, D, ha, hb, hz, hD, h0⟩ := reals hA t h
  rw [hD, div_real _ h0, zero_mul]

theorem w_real {a b : Fin 2176 → ℝ} {D : ℝ} (ha : ∀ s, A.e t s h = (a s : EReal)) (hb : ∀ s, A.dp t s h = (b s : EReal))
    (hD : A.den t h = (D : EReal)) (h0 : D ≠ 0) : A.w t h = ((D⁻¹ * (D⁻¹ * ∑ s, a s * b s) : ℝ) : EReal) := by
  unfold w
  rw [hD, ← EReal.coe_mul, div_real _ (mul_ne_zero h0 h0), one_mul]
  simp only [ha, hb, ← EReal.coe_mul, ← coe_sum]
  refine congrArg _ ?_
  rw [Finset.mul_sum, Finset.mul_sum]
  exact Finset.sum_congr rfl fun s _ => by rw [mul_inv]; ring

theorem delta_real {a b : Fin 2176 → ℝ} {D : ℝ} (ha : ∀ s, A.e t s h = (a s : EReal)) (hb : ∀ s, A.dp t s h = (b s : EReal))
    (hD : A.den t h = (D : EReal)) (h0 : D ≠ 0) : A.delta t h = ((D⁻¹ * ∑ s, a s * b s : ℝ) : EReal) := by
  unfold delta p inv
  rw [hD, div_real _ h0, one_mul]
  simp only [ha, hb, ← EReal.coe_mul, ← coe_sum]
  refine congrArg _ ?_
  rw [Finset.mul_sum]
  exact Finset.sum_congr rfl fun s _ => by ring

theorem ds_eq : (Ideal.div (A.dp t s h) (A.den t h) + -A.w t h) * A.e t s h = A.p t s h * (A.dp t s h - A.delta t h) := by
  obtain ⟨a, b, z, D, ha, hb, hz, hD, h0⟩ := reals hA t h
  rw [w_real hA t h ha hb hD h0, delta_real hA t h ha hb hD h0]
  unfold p inv
  rw [hD, div_real _ h0, div_real _ h0, one_mul, ha, hb]
  simp only [← EReal.coe_mul, ← EReal.coe_neg, ← EReal.coe_add, ← EReal.coe_sub]
  refine congrArg _ ?_
  ring

theorem ps_eq : (Ideal.div 0 (A.den t h) + -A.w t h) * A.es t h = -(A.ps t h * A.delta t h) := by
  obtain ⟨a, b, z, D, ha, hb, hz, hD, h0⟩ := reals hA t h
  rw [div_e0 hA, zero_add, w_real hA t h ha hb hD h0, delta_real hA t h ha hb hD h0]
  unfold ps inv
  rw [hD, div_real _ h0, one_mul, hz]
  simp only [← EReal.coe_mul, ← EReal.coe_neg]
  refine congrArg _ ?_
  ring

theorem R_psd : R (A.ps t h * A.delta t h) := by
  obtain ⟨a, b, z, D, ha, hb, hz, hD, h0⟩ := reals hA t h
  rw [delta_real hA t h ha hb hD h0]
  unfold ps inv
  rw [hD, div_real _ h0, one_mul, hz, ← EReal.coe_mul, ← EReal.coe_mul]
  exact ⟨_, rfl⟩

/-- The sink's gradient, summed over the queries. -/
theorem dsk_eq : ∑ n, ∑ r, -(A.ps (row n r) h * A.delta (row n r) h) = A.dsk h := by
  unfold dsk
  refine Finset.sum_congr rfl fun n _ => ?_
  rw [neg_sum fun r => R_psd hA _ h, zero_sub]
  rfl

end Args

end Attn

end
-- ==== Proof.AttnRef.lean ====
/- The reference's arrays at an index, down to the scores: queries, keys, values and the output's gradient by block, the
   window's 256 keys, the masks, and the 273 score columns. -/
module

public import proofs.«01_k».proof.Proof.AttnCols
public import proofs.«01_k».proof.Proof.AttnReal
public import proofs.«01_k».proof.Proof.Gen.AttnRefIdeal.Read
public import Idealize.ShloMosaic.Lib.Pointwise
public import Idealize.ShloMosaic.Lib.WordCmp

@[expose] public section

set_option maxRecDepth 16384

noncomputable section

namespace Cert.AttnRefIdeal.Hand

open Idealize.ShloMosaic Idealize.ShloMosaic.TcCoe Idealize.ShloMosaic.Tactic Idealize.SL.Sem Idealize.ShloMosaic.StableHlo
open Cert.AttnRefIdeal Cert.AttnRefIdeal.Gen Cert.AttnRefIdeal.Read Attn

variable (x0 : Vec Ideal S2176x512 .bf16) (x1 x2 : Vec Ideal S2176x128 .bf16) (x3 : Vec Ideal S1x8 .f32) (x4 : Vec Ideal S2176x512 .bf16)
variable (n : Fin 17) (r : Fin 128) (g : Fin 2) (j : Fin 4) (d : Fin 64) (c : Fin 256) (u : Fin 16) (w : Fin 273)

/-- The arrays by token, head and component. -/
def args : Attn.Args := Attn.Args.of (fun t x => x0 (ix2 t x)) (fun t x => x1 (ix2 t x)) (fun t x => x2 (ix2 t x)) (fun x => x3 (ix2 0 x))
  (fun t x => x4 (ix2 t x))

local notation "A" => args x0 x1 x2 x3 x4
local notation "hdn" => Attn.Args.hd

theorem grp_hd : grp (hdn g j) = g := Fin.ext (by unfold grp Attn.Args.hd; dsimp only; omega)

theorem v3_eq : val_main_v3 (F := Ideal) x0 (ix5 n r g j d) = (A).q (row n r) (hdn g j) d := by
  pointwise [val_main_v3, val_main_v0]
  exact congrArg x0 (congrArg₂ ix2 (Fin.ext (by unfold row; dsimp only; omega)) (Fin.ext (by unfold Attn.Args.hd; dsimp only; omega)))

theorem v113_eq : val_main_v113 (F := Ideal) x4 (ix5 n r g j d) = (A).o (row n r) (hdn g j) d := by
  pointwise [val_main_v113, val_main_v112]
  exact congrArg x4 (congrArg₂ ix2 (Fin.ext (by unfold row; dsimp only; omega)) (Fin.ext (by unfold Attn.Args.hd; dsimp only; omega)))

theorem v4_eq : val_main_v4 (F := Ideal) x1 (ix4 n r g d) = (A).k (row n r) g d := by
  pointwise [val_main_v4, val_main_v1]
  exact congrArg x1 (congrArg₂ ix2 (Fin.ext (by unfold row; dsimp only; omega)) (Fin.ext (by dsimp only; omega)))

theorem v5_eq : val_main_v5 (F := Ideal) x2 (ix4 n r g d) = (A).v (row n r) g d := by
  pointwise [val_main_v5, val_main_v2]
  exact congrArg x2 (congrArg₂ ix2 (Fin.ext (by unfold row; dsimp only; omega)) (Fin.ext (by dsimp only; omega)))

/-- The window's keys, where they are tokens. -/
theorem v11_eq (h : 128 ≤ 128 * n.val + c.val) : val_main_v11 (F := Ideal) x1 (ix4 n c g d) = (A).k (bandTok n c) g d := by
  pointwise [val_main_v11, val_main_v9, val_main_v8, val_main_v7, val_main_cst]
  by_cases h1 : c.val < 128
  · rw [dif_pos h1, dif_neg (by omega), v4_eq x0 x1 x2 x3 x4]
    exact congrArg (fun t => (A).k t g d) (Fin.ext (by unfold row bandTok; dsimp only; omega))
  · rw [dif_neg h1, v4_eq x0 x1 x2 x3 x4]
    exact congrArg (fun t => (A).k t g d) (Fin.ext (by unfold row bandTok; dsimp only; omega))

theorem v17_eq (h : 128 ≤ 128 * n.val + c.val) : val_main_v17 (F := Ideal) x2 (ix4 n c g d) = (A).v (bandTok n c) g d := by
  pointwise [val_main_v17, val_main_v15, val_main_v14, val_main_v13, val_main_cst_1]
  by_cases h1 : c.val < 128
  · rw [dif_pos h1, dif_neg (by omega), v5_eq x0 x1 x2 x3 x4]
    exact congrArg (fun t => (A).v t g d) (Fin.ext (by unfold row bandTok; dsimp only; omega))
  · rw [dif_neg h1, v5_eq x0 x1 x2 x3 x4]
    exact congrArg (fun t => (A).v t g d) (Fin.ext (by unfold row bandTok; dsimp only; omega))

theorem v19_eq : val_main_v19 (F := Ideal) x1 (ix3 u g d) = (A).k (metaTok u) g d := by
  pointwise [val_main_v19, val_main_v18]
  rw [v4_eq x0 x1 x2 x3 x4]
  exact congrArg (fun t => (A).k t g d) (Fin.ext (by unfold row metaTok; show 128 * 0 + (112 + u.val) = 112 + u.val; omega))

theorem v21_eq : val_main_v21 (F := Ideal) x2 (ix3 u g d) = (A).v (metaTok u) g d := by
  pointwise [val_main_v21, val_main_v20]
  rw [v5_eq x0 x1 x2 x3 x4]
  exact congrArg (fun t => (A).v t g d) (Fin.ext (by unfold row metaTok; show 128 * 0 + (112 + u.val) = 112 + u.val; omega))

/-- The scores of the window's keys and of the meta tokens, before the masks. -/
theorem v25_eq (h : 128 ≤ 128 * n.val + c.val) :
    val_main_v25 (F := Ideal) x0 x1 (ix5 n g j r c) = (A).dot (row n r) (bandTok n c) (hdn g j) * c8 := by
  pointwise [val_main_v25, val_main_v23, val_main_v22, val_main_v24, val_main_cst_3]
  refine congrArg (· * c8) ?_
  unfold Attn.Args.dot
  refine Finset.sum_congr rfl fun x _ => ?_
  rw [v11_eq x0 x1 x2 x3 x4 n g x c h, v3_eq x0 x1 x2 x3 x4, grp_hd, mul_comm]

theorem v29_eq : val_main_v29 (F := Ideal) x0 x1 (ix5 n g j r u) = (A).dot (row n r) (metaTok u) (hdn g j) * c8 := by
  pointwise [val_main_v29, val_main_v27, val_main_v26, val_main_v28, val_main_cst_4]
  refine congrArg (· * c8) ?_
  unfold Attn.Args.dot
  refine Finset.sum_congr rfl fun x _ => ?_
  rw [v19_eq x0 x1 x2 x3 x4, v3_eq x0 x1 x2 x3 x4, grp_hd, mul_comm]

/-- A small integer's 32-bit word reads back as the integer. -/
theorem toInt_small {z : ℤ} (h1 : -2147483648 ≤ z) (h2 : z < 2147483648) : (BitVec.ofInt 32 z).toInt = z := by
  rw [BitVec.toInt_ofInt]
  exact Int.bmod_eq_of_le (by omega) (by omega)

theorem v38_eq : val_main_v38 (F := Ideal) (ix2 n r) = BitVec.ofInt 32 (128 * n.val + r.val) := by
  pointwise [val_main_v38, val_main_v36, val_main_v33, val_main_v31, val_main_v30, val_main_v32, val_main_c, val_main_v37, val_main_v35, val_main_v34]
  show BitVec.ofNat 32 n.val * 128#32 + BitVec.ofNat 32 r.val = _
  rw [BitVec.ofInt_add, BitVec.ofInt_mul, BitVec.mul_comm, BitVec.ofInt_natCast, BitVec.ofInt_natCast]
  rfl

theorem v45_eq : val_main_v45 (F := Ideal) (ix2 n c) = BitVec.ofInt 32 (128 * n.val + c.val - 128) := by
  pointwise [val_main_v45, val_main_v43, val_main_v40, val_main_v33, val_main_v31, val_main_v30, val_main_v32, val_main_c, val_main_v39,
    val_main_c_5, val_main_v44, val_main_v42, val_main_v41]
  show BitVec.ofNat 32 n.val * 128#32 - 128#32 + BitVec.ofNat 32 c.val = _
  have e : (128 * n.val + c.val - 128 : ℤ) = 128 * n.val + -128 + c.val := by ring
  rw [e, BitVec.ofInt_add, BitVec.ofInt_add, BitVec.ofInt_mul, BitVec.mul_comm, BitVec.ofInt_natCast, BitVec.ofInt_natCast, BitVec.sub_eq_add_neg]
  rfl

theorem dist_eq : IntOp.subi (val_main_v38 (F := Ideal) (ix2 n r)) (val_main_v45 (F := Ideal) (ix2 n c)) = BitVec.ofInt 32 (r.val - c.val + 128) := by
  rw [v38_eq, v45_eq]
  have e : (128 * n.val + r.val : ℤ) = (r.val - c.val + 128) + (128 * n.val + c.val - 128) := by ring
  rw [e, BitVec.ofInt_add]
  exact BitVec.add_sub_cancel _ _

theorem ge_eq {z k : ℤ} (h1 : -2147483648 ≤ z) (h2 : z < 2147483648) (h3 : -2147483648 ≤ k) (h4 : k < 2147483648) :
    IntOp.cmpi .sge (BitVec.ofInt 32 z) (BitVec.ofInt 32 k) = BitVec.ofBool (decide (k ≤ z)) := by
  show BitVec.ofBool (BitVec.sle _ _) = _
  rw [BitVec.sle, toInt_small h1 h2, toInt_small h3 h4]

theorem lt_eq {z k : ℤ} (h1 : -2147483648 ≤ z) (h2 : z < 2147483648) (h3 : -2147483648 ≤ k) (h4 : k < 2147483648) :
    IntOp.cmpi .slt (BitVec.ofInt 32 z) (BitVec.ofInt 32 k) = BitVec.ofBool (decide (z < k)) := by
  show BitVec.ofBool (BitVec.slt _ _) = _
  rw [BitVec.slt, toInt_small h1 h2, toInt_small h3 h4]

theorem le_eq {z k : ℤ} (h1 : -2147483648 ≤ z) (h2 : z < 2147483648) (h3 : -2147483648 ≤ k) (h4 : k < 2147483648) :
    IntOp.cmpi .sle (BitVec.ofInt 32 z) (BitVec.ofInt 32 k) = BitVec.ofBool (decide (z ≤ k)) := by
  show BitVec.ofBool (BitVec.sle _ _) = _
  rw [BitVec.sle, toInt_small h1 h2, toInt_small h3 h4]

theorem v60_eq : val_main_v60 (F := Ideal) (ix3 n r c) = if Mb n r c then 1#1 else 0#1 := by
  pointwise [val_main_v60, val_main_v57, val_main_v56, val_main_v53, val_main_v51, val_main_v55, val_main_v50, val_main_v48, val_main_v49, val_main_v46, val_main_v47, val_main_v54, val_main_v58, val_main_v59, val_main_v52, val_main_c_6, val_main_c_7, val_main_c_8]
  have e1 : (128#32 : BitVec 32) = BitVec.ofInt 32 128 := rfl
  have e0 : (0#32 : BitVec 32) = BitVec.ofInt 32 0 := rfl
  rw [dist_eq, v45_eq, e1, e0, ge_eq (by omega) (by omega) (by omega) (by omega), ge_eq (by omega) (by omega) (by omega) (by omega),
    lt_eq (by omega) (by omega) (by omega) (by omega), WordCmp.andi_ofBool, WordCmp.andi_ofBool]
  by_cases h : Mb n r c
  · rw [if_pos h]
    unfold Mb at h
    rw [decide_eq_true (by omega), decide_eq_true (by omega), decide_eq_true (by omega)]; rfl
  · rw [if_neg h]
    by_cases h1 : (128 : ℤ) ≤ 128 * n.val + c.val - 128
    · by_cases h2 : (0 : ℤ) ≤ r.val - c.val + 128
      · rw [decide_eq_false (p := (r.val - c.val + 128 : ℤ) < 128) (fun h3 => h (by unfold Mb; omega)), Bool.and_false]; rfl
      · rw [decide_eq_false h2, Bool.and_false, Bool.false_and]; rfl
    · rw [decide_eq_false h1, Bool.false_and, Bool.false_and]; rfl

theorem v68_eq : val_main_v68 (F := Ideal) (ix3 n r u) = if Mm n r u then 1#1 else 0#1 := by
  pointwise [val_main_v68, val_main_v66, val_main_v67, val_main_v64, val_main_v65, val_main_v63, val_main_v62, val_main_v61, val_main_c_9]
  have e : IntOp.addi (112#32) (BitVec.ofNat 32 u.val) = BitVec.ofInt 32 (112 + u.val) := by
    rw [BitVec.ofInt_add, BitVec.ofInt_natCast]; rfl
  rw [e, v38_eq, le_eq (by omega) (by omega) (by omega) (by omega)]
  by_cases h : Mm n r u
  · rw [if_pos h]
    unfold Mm at h
    rw [decide_eq_true (by omega)]; rfl
  · rw [if_neg h, decide_eq_false (fun h3 => h (by unfold Mm; omega))]; rfl

theorem ofBits_neg_inf : Ideal.ofBits .f32 0xFF800000#32 = ⊥ := by simp [Ideal.ofBits, Ideal.ieee]

/-- The masked scores. -/
theorem v70_eq : val_main_v70_0 (F := Ideal) x0 x1 (ix5 n g j r c)
    = if Mb n r c then (A).score (row n r) (bandTok n c) (hdn g j) else ⊥ := by
  pointwise [val_main_v70_0, val_main_v70_1, val_main_call0_v2, val_main_call0_v0, val_main_cst_10, val_main_v69]
  rw [v60_eq]
  by_cases h : Mb n r c
  · rw [if_pos h, if_pos h, WordCmp.select_one, v25_eq x0 x1 x2 x3 x4 n r g j c (by unfold Mb at h; omega)]
    unfold Attn.Args.score
    rw [if_pos (ok_band h)]
  · rw [if_neg h, if_neg h, WordCmp.select_zero]
    exact ofBits_neg_inf

theorem v72_eq : val_main_v72_0 (F := Ideal) x0 x1 (ix5 n g j r u) = (A).score (row n r) (metaTok u) (hdn g j) := by
  pointwise [val_main_v72_0, val_main_v72_1, val_main_call1_v2, val_main_call1_v0, val_main_cst_11, val_main_v71]
  rw [v68_eq]
  unfold Attn.Args.score
  by_cases h : Mm n r u
  · rw [if_pos h, if_pos (ok_meta.2 h), WordCmp.select_one, v29_eq x0 x1 x2 x3 x4]
  · rw [if_neg h, if_neg (fun ho => h (ok_meta.1 ho)), WordCmp.select_zero]
    exact ofBits_neg_inf

theorem v75_eq : val_main_v75 (F := Ideal) x0 x1 x3 (ix5 n g j r w) = (A).col n r (hdn g j) w := by
  pointwise [val_main_v75, val_main_v74, val_main_v73]
  unfold Attn.Args.col
  by_cases h : w.val < 256
  · rw [dif_pos h, dif_pos h, v70_eq x0 x1 x2 x3 x4]
  · rw [dif_neg h, dif_neg h]
    by_cases hu : w.val - 256 < 16
    · rw [dif_pos hu, dif_pos hu, v72_eq x0 x1 x2 x3 x4]
    · rw [dif_neg hu, dif_neg hu]
      exact congrArg x3 (congrArg (ix2 0) (Fin.ext (by unfold Attn.Args.hd; dsimp only; omega)))

end Cert.AttnRefIdeal.Hand

end
-- ==== Proof.AttnRefGrad.lean ====
/- The reference's softmax, its derivative in the quotient's form, and the four results, as the plain sums over the tokens. -/
module

public import proofs.«01_k».proof.Proof.AttnRef

@[expose] public section

set_option maxRecDepth 16384

noncomputable section

namespace Cert.AttnRefIdeal.Hand

open Idealize.ShloMosaic Idealize.ShloMosaic.TcCoe Idealize.ShloMosaic.Tactic Idealize.SL.Sem Idealize.ShloMosaic.StableHlo
open Cert.AttnRefIdeal Cert.AttnRefIdeal.Gen Cert.AttnRefIdeal.Read Attn

variable (x0 : Vec Ideal S2176x512 .bf16) (x1 x2 : Vec Ideal S2176x128 .bf16) (x3 : Vec Ideal S1x8 .f32) (x4 : Vec Ideal S2176x512 .bf16)
variable (n : Fin 17) (r : Fin 128) (g : Fin 2) (j : Fin 4) (d : Fin 64) (c : Fin 256) (u : Fin 16) (w : Fin 273)

local notation "A" => args x0 x1 x2 x3 x4
local notation "hdn" => Attn.Args.hd

theorem v76_eq : val_main_v76 (F := Ideal) x0 x1 x3 (ix4 n g j r)
    = Finset.fold max (val_main_cst_12 (F := Ideal) (Shape.Idx.first h_S_)) ((A).col n r (hdn g j)) Finset.univ := by
  pointwise [val_main_v76]
  exact congrArg (fun f => Finset.fold max _ f Finset.univ) (funext fun w => v75_eq x0 x1 x2 x3 x4 n r g j w)

theorem v82_eq : val_main_v82 (F := Ideal) (ix4 n g j r) = ⊥ := by
  rw [val_main_v82_apply, val_main_cst_14_apply]
  exact ofBits_neg_inf

theorem v83_eq : val_main_v83 (F := Ideal) x0 x1 x3 (ix4 n g j r) = (A).mx (row n r) (hdn g j) := by
  rw [val_main_v83_apply, v82_eq, v76_eq x0 x1 x2 x3 x4, val_main_cst_12_apply, ← max_cols]
  show max ⊥ (Finset.fold max (Ideal.ofBits .f32 0xFF800000#32) _ _) = _
  rw [ofBits_neg_inf]

theorem v96_eq : val_main_v96 (F := Ideal) x0 x1 x3 (ix5 n g j r w)
    = Ideal.exp ((A).col n r (hdn g j) w - (A).mx (row n r) (hdn g j)) := by
  pointwise [val_main_v96, val_main_v95, val_main_v94, val_main_v93]
  rw [v75_eq x0 x1 x2 x3 x4, v83_eq x0 x1 x2 x3 x4]

theorem v97_eq : val_main_v97 (F := Ideal) x0 x1 x3 (ix4 n g j r) = (A).den (row n r) (hdn g j) := by
  pointwise [val_main_v97, val_main_cst_20]
  simp only [v96_eq x0 x1 x2 x3 x4]
  exact den_cols _ n r _

variable (hA : (args x0 x1 x2 x3 x4).Real)
include hA

/-- The probabilities. -/
theorem v104_eq : val_main_v104 (F := Ideal) x0 x1 x3 (ix5 n g j r c)
    = if Mb n r c then (A).p (row n r) (bandTok n c) (hdn g j) else 0 := by
  pointwise [val_main_v104, val_main_v100, val_main_v99, val_main_v98]
  rw [v96_eq x0 x1 x2 x3 x4, v97_eq x0 x1 x2 x3 x4, exp_band]
  by_cases h : Mb n r c
  · rw [if_pos h, if_pos h, Attn.Args.p_eq hA (row n r) (bandTok n c) (hdn g j)]
  · rw [if_neg h, if_neg h, Attn.Args.div_e0 hA (row n r) (hdn g j)]

theorem v105_eq : val_main_v105 (F := Ideal) x0 x1 x3 (ix5 n g j r u) = (A).p (row n r) (metaTok u) (hdn g j) := by
  pointwise [val_main_v105, val_main_v100, val_main_v99, val_main_v98]
  rw [v96_eq x0 x1 x2 x3 x4, v97_eq x0 x1 x2 x3 x4, col_meta]
  exact Attn.Args.p_eq hA (row n r) (metaTok u) (hdn g j)

omit hA in
theorem v120_eq (h : 128 ≤ 128 * n.val + c.val) :
    val_main_v120 (F := Ideal) x2 x4 (ix5 n g j r c) = (A).dp (row n r) (bandTok n c) (hdn g j) := by
  pointwise [val_main_v120, val_main_v119]
  unfold Attn.Args.dp
  refine Finset.sum_congr rfl fun x _ => ?_
  rw [v17_eq x0 x1 x2 x3 x4 n g x c h, v113_eq x0 x1 x2 x3 x4, grp_hd]

omit hA in
theorem v116_eq : val_main_v116 (F := Ideal) x2 x4 (ix5 n g j r u) = (A).dp (row n r) (metaTok u) (hdn g j) := by
  pointwise [val_main_v116, val_main_v115, val_main_v114]
  unfold Attn.Args.dp
  refine Finset.sum_congr rfl fun x _ => ?_
  rw [v21_eq x0 x1 x2 x3 x4, v113_eq x0 x1 x2 x3 x4, grp_hd]

omit hA in
/-- The gradient of the probabilities' row: window, meta tokens, and zero for the sink. -/
theorem v125_eq : val_main_v125 (F := Ideal) x2 x4 (ix5 n g j r w)
    = if h : w.val < 256 then val_main_v120 (F := Ideal) x2 x4 (ix5 n g j r ⟨w.val, h⟩)
      else if hu : w.val - 256 < 16 then (A).dp (row n r) (metaTok ⟨w.val - 256, hu⟩) (hdn g j) else 0 := by
  pointwise [val_main_v125, val_main_v123, val_main_v124, val_main_cst_22, val_main_cst_23]
  by_cases h : w.val < 256
  · rw [dif_pos h, dif_pos h, dif_neg (by omega), zero_add]
  · rw [dif_neg h, dif_neg h, add_zero]
    by_cases hu : w.val - 256 < 16
    · rw [dif_pos ⟨by omega, hu⟩, dif_pos hu, v116_eq x0 x1 x2 x3 x4]
    · rw [dif_neg (fun h => hu h.2), dif_neg hu]

omit hA in
/-- The row's sum. -/
theorem w_eq : ∑ w, val_main_v125 (F := Ideal) x2 x4 (ix5 n g j r w)
      * Ideal.div 1 ((A).den (row n r) (hdn g j) * (A).den (row n r) (hdn g j))
      * Ideal.exp ((A).col n r (hdn g j) w - (A).mx (row n r) (hdn g j))
    = (A).w (row n r) (hdn g j) := by
  rw [sum273]
  unfold Attn.Args.w
  rw [← sum_cols n r (fun s => (A).dp (row n r) s (hdn g j) * Ideal.div 1 ((A).den (row n r) (hdn g j) * (A).den (row n r) (hdn g j))
    * (A).e (row n r) s (hdn g j)) fun s hs => by rw [Attn.Args.e_of_not hs, mul_zero]]
  rw [v125_eq x0 x1 x2 x3 x4 n r g j ⟨272, by omega⟩, dif_neg (by dsimp only; omega), dif_neg (by dsimp only; omega), zero_mul, zero_mul,
    add_zero]
  refine congrArg₂ (· + ·) (Finset.sum_congr rfl fun c _ => ?_) (Finset.sum_congr rfl fun u _ => ?_)
  · rw [exp_band]
    split_ifs with h
    · rw [v125_eq x0 x1 x2 x3 x4 n r g j ⟨c.val, by omega⟩, dif_pos c.isLt]
      rw [v120_eq x0 x1 x2 x3 x4 n r g j c (by unfold Mb at h; omega)]
    · rw [mul_zero]
  · rw [v125_eq x0 x1 x2 x3 x4 n r g j ⟨256 + u.val, by omega⟩, dif_neg (by dsimp only; omega), dif_pos (by dsimp only; omega), col_meta]
    have e : (⟨256 + u.val - 256, by omega⟩ : Fin 16) = u := Fin.ext (by dsimp only; omega)
    rw [e]; rfl

omit hA in
/-- The scores' gradient, before the masks and the scale. -/
theorem v137_eq : val_main_v137 (F := Ideal) x0 x1 x2 x3 x4 (ix5 n g j r w)
    = (Ideal.div (val_main_v125 (F := Ideal) x2 x4 (ix5 n g j r w)) ((A).den (row n r) (hdn g j)) + -(A).w (row n r) (hdn g j))
      * Ideal.exp ((A).col n r (hdn g j) w - (A).mx (row n r) (hdn g j)) := by
  pointwise [val_main_v137, val_main_v136, val_main_v133, val_main_v132, val_main_v135, val_main_v134, val_main_v131,
    val_main_v130, val_main_v129, val_main_v128, val_main_v127, val_main_v126, val_main_v103, val_main_v102, val_main_v101,
    val_main_cst_21, val_main_cst_24, val_main_cst_25, val_main_v98]
  simp only [v96_eq x0 x1 x2 x3 x4, v97_eq x0 x1 x2 x3 x4, w_eq x0 x1 x2 x3 x4, Finset.univ_unique, Finset.sum_singleton]

theorem v154_eq : val_main_v154 (F := Ideal) x0 x1 x2 x3 x4 (ix5 n g j r c)
    = if Mb n r c then (A).ds (row n r) (bandTok n c) (hdn g j) else 0 := by
  pointwise [val_main_v154, val_main_v145, val_main_v153, val_main_v138, val_main_cst_28, val_main_call3_v0, val_main_call3_cst, val_main_v70_1, val_main_v69]
  rw [v60_eq]
  split_ifs with h
  · rw [WordCmp.select_one, v137_eq x0 x1 x2 x3 x4, v125_eq x0 x1 x2 x3 x4, dif_pos c.isLt, exp_band, if_pos h,
      v120_eq x0 x1 x2 x3 x4 n r g j _ (by unfold Mb at h; dsimp only; omega)]
    unfold Attn.Args.ds
    rw [← Attn.Args.ds_eq hA]
    rfl
  · rw [WordCmp.select_zero]

theorem v147_eq : val_main_v147 (F := Ideal) x0 x1 x2 x3 x4 (ix5 n g j r u) = (A).ds (row n r) (metaTok u) (hdn g j) := by
  pointwise [val_main_v147, val_main_v144, val_main_v146, val_main_v139, val_main_cst_27, val_main_call2_v0, val_main_call2_cst, val_main_v72_1, val_main_v71]
  rw [v68_eq]
  split_ifs with h
  · rw [WordCmp.select_one, v137_eq x0 x1 x2 x3 x4, v125_eq x0 x1 x2 x3 x4, dif_neg (by dsimp only; omega), dif_pos (by dsimp only; omega), col_meta]
    have e : (⟨256 + u.val - 256, by omega⟩ : Fin 16) = u := Fin.ext (by dsimp only; omega)
    rw [e]
    unfold Attn.Args.ds
    rw [← Attn.Args.ds_eq hA]
    rfl
  · rw [WordCmp.select_zero, Attn.Args.ds_of_not (fun ho => h (ok_meta.1 ho))]

end Cert.AttnRefIdeal.Hand

end
-- ==== Proof.AttnGroup.lean ====
/- The attention gradient's body, one key head at a time: the four query heads of a key head are stacked into 512 rows,
   and both key heads run the same operations on their own columns. -/
module

public import proofs.«01_k».proof.Proof.AttnFrame

@[expose] public section

set_option maxRecDepth 16384

noncomputable section

namespace Cert.AttnIdeal.Hand

open Idealize.ShloMosaic Idealize.ShloMosaic.TcCoe Idealize.ShloMosaic.Tactic Idealize.SL.Sem
open Cert.AttnIdeal Cert.AttnIdeal.Gen

variable {F : FTy → Type} [FloatOps F] [Named F]

/-- What one key head reads at a point: the four query heads' columns of the queries and of the output's gradient, the
    current, previous and first block of keys and of values, and four sinks. -/
structure Grp (F : FTy → Type) [FloatOps F] where
  q0 : Vec F S128x64 .bf16
  q1 : Vec F S128x64 .bf16
  q2 : Vec F S128x64 .bf16
  q3 : Vec F S128x64 .bf16
  o0 : Vec F S128x64 .bf16
  o1 : Vec F S128x64 .bf16
  o2 : Vec F S128x64 .bf16
  o3 : Vec F S128x64 .bf16
  kc : Vec F S128x64 .bf16
  kp : Vec F S128x64 .bf16
  km : Vec F S128x64 .bf16
  vc : Vec F S128x64 .bf16
  vp : Vec F S128x64 .bf16
  vm : Vec F S128x64 .bf16
  s0 : Elt F .f32
  s1 : Elt F .f32
  s2 : Elt F .f32
  s3 : Elt F .f32

namespace Grp
variable (i : grid0.Coords) (b : Grp F)

/-- The stacked queries, -/
def qg : FVec F S512x64 .bf16 := k0_pay14 b.q0 b.q1 b.q2 b.q3
/-- the stacked gradient of the output, -/
def og : FVec F S512x64 .bf16 := k0_pay15 b.o0 b.o1 b.o2 b.o3
/-- and the sink of each row. -/
def sink : FVec F S512x1 .f32 := k0_pay13 k0_pay10 (k0_pay11 b.s0 b.s1) k0_pay12 b.s2 b.s3
/-- The masked scores against the current block, -/
def sc : FVec F S512x128 .f32 := k0_pay17 (k0_pay6 i) (k0_pay16 b.q0 b.q1 b.q2 b.q3 b.kc)
/-- the previous one -/
def sp : FVec F S512x128 .f32 := k0_pay18 (k0_pay7 i) b.qg b.kp
/-- and the first. -/
def sm : FVec F S512x128 .f32 := k0_pay19 (k0_pay8 i) b.qg b.km
/-- The row's largest score. -/
def mx : FVec F S512x1 .f32 := k0_pay20 (k0_pay6 i) (k0_pay7 i) (k0_pay8 i) b.sink b.qg b.kp b.km (k0_pay16 b.q0 b.q1 b.q2 b.q3 b.kc)
/-- The exponentials of the scores less the largest. -/
def ec : FVec F S512x128 .f32 := k0_pay21 (k0_pay6 i) (k0_pay7 i) (k0_pay8 i) b.sink b.qg b.kp b.km (k0_pay16 b.q0 b.q1 b.q2 b.q3 b.kc)
def ep : FVec F S512x128 .f32 := k0_pay22 (k0_pay6 i) (k0_pay7 i) (k0_pay8 i) b.sink b.qg b.kp b.km (k0_pay16 b.q0 b.q1 b.q2 b.q3 b.kc)
def em : FVec F S512x128 .f32 := k0_pay23 (k0_pay6 i) (k0_pay7 i) (k0_pay8 i) b.sink b.qg b.kp b.km (k0_pay16 b.q0 b.q1 b.q2 b.q3 b.kc)
def es : FVec F S512x1 .f32 := k0_pay24 (k0_pay6 i) (k0_pay7 i) (k0_pay8 i) b.sink b.qg b.kp b.km (k0_pay16 b.q0 b.q1 b.q2 b.q3 b.kc)
/-- One over their sum. -/
def inv : FVec F S512x1 .f32 := k0_pay25 (k0_pay6 i) (k0_pay7 i) (k0_pay8 i) b.sink b.qg b.kp b.km (k0_pay16 b.q0 b.q1 b.q2 b.q3 b.kc)
/-- The probabilities, -/
def pc : FVec F S512x128 .f32 := k0_pay26 (b.ec i) (b.inv i)
def pp : FVec F S512x128 .f32 := k0_pay27 (b.ep i) (b.inv i)
def pm : FVec F S512x128 .f32 := k0_pay28 (b.em i) (b.inv i)
def ps : FVec F S512x1 .f32 := k0_pay29 (b.es i) (b.inv i)
/-- the row's sum of probability times its gradient, -/
def delta : FVec F S512x1 .f32 := k0_pay33 b.og b.vc b.vp b.vm (b.ec i) (b.ep i) (b.em i) (b.inv i)
/-- and the scores' gradient. -/
def dsc : FVec F S512x128 .bf16 := k0_pay34 b.og b.vc b.vp b.vm (b.ec i) (b.ep i) (b.em i) (b.inv i)
def dsp : FVec F S512x128 .bf16 := k0_pay35 b.og b.vc b.vp b.vm (b.ec i) (b.ep i) (b.em i) (b.inv i)
def dsm : FVec F S512x128 .bf16 := k0_pay36 b.og b.vc b.vp b.vm (b.ec i) (b.ep i) (b.em i) (b.inv i)
/-- The stacked gradient of the queries. -/
def dq : FVec F S512x64 .f32 :=
  k0_pay38 b.km (b.dsm i) (k0_pay37 b.og b.kc b.kp b.vc b.vp b.vm (b.ec i) (b.ep i) (b.em i) (b.inv i)) (constant S512x64 .f32 0x00000000#32)

end Grp

/-- Adds to lane `h` of a row the negated sum, over the stacked head `hh`, of the sink's probability times `delta`. -/
def sinkStep (h hh : BitVec 32) (ps delta : FVec F S512x1 .f32) (a : FVec F S1x128 .f32) : FVec F S1x128 .f32 :=
  addf a (select (cmpi .eq (iota .tc S1x128 32 [1] iota_S1x128_d1_w32) (broadcast S1x128 h))
    (broadcast S1x128 (Scalar.subf (Scalar.ofBits .f32 0x00000000#32) (extractAt ![0, 0, 0] (shapeCast S1x1x1
      (multiReduction .add [1, 2] S1 (shapeCast S1x512x1 (select (cmpi .eq k0_pay10 (broadcast S512x1 hh)) (mulf ps delta)
        (broadcast S512x1 (Scalar.ofBits .f32 0x00000000#32))) shapeCasts_S512x1_S1x512x1) 0x00000000#32 reduces_S1x512x1_S1 (.inl rfl) rfl)
      shapeCasts_S1_S1x1x1) inpos_S1x1x1_p0_0_0))) (broadcast S1x128 (Scalar.ofBits .f32 0x00000000#32)))

/-- The piece a read-modify-write of a 128×64 window leaves over the pieces `L` before it, of which it read those of `L₀`. -/
def rmw (M : Memref sig .tc .vmem S2176x128 .f32) (f : M.view.ty.Contents (Elt F)) (off : Fin 2 → ℕ)
    (inb : ∀ a, off a + S128x64.size a ≤ S2176x128.size a) (X : Vec F S128x64 .f32 → FVec F S128x64 .f32)
    (L₀ L : List (View.Piece (Elt F) S2176x128 .f32)) : List (View.Piece (Elt F) S2176x128 .f32) :=
  ⟨Rect.unit (s := S2176x128) off S128x64.size inb,
    X (View.readAt (Elt F) M.view (Rect.unit (s := S2176x128) off S128x64.size inb).toLoadRect (M.view.writes (Elt F) f L₀))⟩ :: L

variable (m : (ℓ : Loc nD τ sig) → Buf (Elt F) ℓ)

/-- The first key head's blocks at a point. -/
def grp0 (c : Dev nD) (t : Fin cfg0.N) : Grp F where
  q0 := View.readAt (Elt F) (ms1 t).view (Rect.unit (s := S128x512) ![0, 0] S128x64.size inb_S128x512_S128x64_0_0).toLoadRect ((hs1 t).unread (iblk m c 1 t))
  q1 := View.readAt (Elt F) (ms1 t).view (Rect.unit (s := S128x512) ![0, 64] S128x64.size inb_S128x512_S128x64_0_64).toLoadRect ((hs1 t).unread (iblk m c 1 t))
  q2 := View.readAt (Elt F) (ms1 t).view (Rect.unit (s := S128x512) ![0, 128] S128x64.size inb_S128x512_S128x64_0_128).toLoadRect ((hs1 t).unread (iblk m c 1 t))
  q3 := View.readAt (Elt F) (ms1 t).view (Rect.unit (s := S128x512) ![0, 192] S128x64.size inb_S128x512_S128x64_0_192).toLoadRect ((hs1 t).unread (iblk m c 1 t))
  o0 := View.readAt (Elt F) (ms8 t).view (Rect.unit (s := S128x512) ![0, 0] S128x64.size inb_S128x512_S128x64_0_0).toLoadRect ((hs8 t).unread (iblk m c 8 t))
  o1 := View.readAt (Elt F) (ms8 t).view (Rect.unit (s := S128x512) ![0, 64] S128x64.size inb_S128x512_S128x64_0_64).toLoadRect ((hs8 t).unread (iblk m c 8 t))
  o2 := View.readAt (Elt F) (ms8 t).view (Rect.unit (s := S128x512) ![0, 128] S128x64.size inb_S128x512_S128x64_0_128).toLoadRect ((hs8 t).unread (iblk m c 8 t))
  o3 := View.readAt (Elt F) (ms8 t).view (Rect.unit (s := S128x512) ![0, 192] S128x64.size inb_S128x512_S128x64_0_192).toLoadRect ((hs8 t).unread (iblk m c 8 t))
  kc := View.readAt (Elt F) (ms2 t).view (Rect.unit (s := S128x128) ![0, 0] S128x64.size inb_S128x128_S128x64_0_0).toLoadRect ((hs2 t).unread (iblk m c 2 t))
  kp := View.readAt (Elt F) (ms3 t).view (Rect.unit (s := S128x128) ![0, 0] S128x64.size inb_S128x128_S128x64_0_0).toLoadRect ((hs3 t).unread (iblk m c 3 t))
  km := View.readAt (Elt F) (ms4 t).view (Rect.unit (s := S128x128) ![0, 0] S128x64.size inb_S128x128_S128x64_0_0).toLoadRect ((hs4 t).unread (iblk m c 4 t))
  vc := View.readAt (Elt F) (ms5 t).view (Rect.unit (s := S128x128) ![0, 0] S128x64.size inb_S128x128_S128x64_0_0).toLoadRect ((hs5 t).unread (iblk m c 5 t))
  vp := View.readAt (Elt F) (ms6 t).view (Rect.unit (s := S128x128) ![0, 0] S128x64.size inb_S128x128_S128x64_0_0).toLoadRect ((hs6 t).unread (iblk m c 6 t))
  vm := View.readAt (Elt F) (ms7 t).view (Rect.unit (s := S128x128) ![0, 0] S128x64.size inb_S128x128_S128x64_0_0).toLoadRect ((hs7 t).unread (iblk m c 7 t))
  s0 := View.readAt (Elt F) (ms0 t).view (Rect.unit (s := S1x8) ![0, 0] S1x1.size inb_S1x8_S1x1_0_0).toLoadRect ((hs0 t).unread (iblk m c 0 t)) (Shape.Idx.first (by decide))
  s1 := View.readAt (Elt F) (ms0 t).view (Rect.unit (s := S1x8) ![0, 1] S1x1.size inb_S1x8_S1x1_0_1).toLoadRect ((hs0 t).unread (iblk m c 0 t)) (Shape.Idx.first (by decide))
  s2 := View.readAt (Elt F) (ms0 t).view (Rect.unit (s := S1x8) ![0, 2] S1x1.size inb_S1x8_S1x1_0_2).toLoadRect ((hs0 t).unread (iblk m c 0 t)) (Shape.Idx.first (by decide))
  s3 := View.readAt (Elt F) (ms0 t).view (Rect.unit (s := S1x8) ![0, 3] S1x1.size inb_S1x8_S1x1_0_3).toLoadRect ((hs0 t).unread (iblk m c 0 t)) (Shape.Idx.first (by decide))

/-- The second key head's blocks at a point. -/
def grp1 (c : Dev nD) (t : Fin cfg0.N) : Grp F where
  q0 := View.readAt (Elt F) (ms1 t).view (Rect.unit (s := S128x512) ![0, 256] S128x64.size inb_S128x512_S128x64_0_256).toLoadRect ((hs1 t).unread (iblk m c 1 t))
  q1 := View.readAt (Elt F) (ms1 t).view (Rect.unit (s := S128x512) ![0, 320] S128x64.size inb_S128x512_S128x64_0_320).toLoadRect ((hs1 t).unread (iblk m c 1 t))
  q2 := View.readAt (Elt F) (ms1 t).view (Rect.unit (s := S128x512) ![0, 384] S128x64.size inb_S128x512_S128x64_0_384).toLoadRect ((hs1 t).unread (iblk m c 1 t))
  q3 := View.readAt (Elt F) (ms1 t).view (Rect.unit (s := S128x512) ![0, 448] S128x64.size inb_S128x512_S128x64_0_448).toLoadRect ((hs1 t).unread (iblk m c 1 t))
  o0 := View.readAt (Elt F) (ms8 t).view (Rect.unit (s := S128x512) ![0, 256] S128x64.size inb_S128x512_S128x64_0_256).toLoadRect ((hs8 t).unread (iblk m c 8 t))
  o1 := View.readAt (Elt F) (ms8 t).view (Rect.unit (s := S128x512) ![0, 320] S128x64.size inb_S128x512_S128x64_0_320).toLoadRect ((hs8 t).unread (iblk m c 8 t))
  o2 := View.readAt (Elt F) (ms8 t).view (Rect.unit (s := S128x512) ![0, 384] S128x64.size inb_S128x512_S128x64_0_384).toLoadRect ((hs8 t).unread (iblk m c 8 t))
  o3 := View.readAt (Elt F) (ms8 t).view (Rect.unit (s := S128x512) ![0, 448] S128x64.size inb_S128x512_S128x64_0_448).toLoadRect ((hs8 t).unread (iblk m c 8 t))
  kc := View.readAt (Elt F) (ms2 t).view (Rect.unit (s := S128x128) ![0, 64] S128x64.size inb_S128x128_S128x64_0_64).toLoadRect ((hs2 t).unread (iblk m c 2 t))
  kp := View.readAt (Elt F) (ms3 t).view (Rect.unit (s := S128x128) ![0, 64] S128x64.size inb_S128x128_S128x64_0_64).toLoadRect ((hs3 t).unread (iblk m c 3 t))
  km := View.readAt (Elt F) (ms4 t).view (Rect.unit (s := S128x128) ![0, 64] S128x64.size inb_S128x128_S128x64_0_64).toLoadRect ((hs4 t).unread (iblk m c 4 t))
  vc := View.readAt (Elt F) (ms5 t).view (Rect.unit (s := S128x128) ![0, 64] S128x64.size inb_S128x128_S128x64_0_64).toLoadRect ((hs5 t).unread (iblk m c 5 t))
  vp := View.readAt (Elt F) (ms6 t).view (Rect.unit (s := S128x128) ![0, 64] S128x64.size inb_S128x128_S128x64_0_64).toLoadRect ((hs6 t).unread (iblk m c 6 t))
  vm := View.readAt (Elt F) (ms7 t).view (Rect.unit (s := S128x128) ![0, 64] S128x64.size inb_S128x128_S128x64_0_64).toLoadRect ((hs7 t).unread (iblk m c 7 t))
  s0 := View.readAt (Elt F) (ms0 t).view (Rect.unit (s := S1x8) ![0, 4] S1x1.size inb_S1x8_S1x1_0_4).toLoadRect ((hs0 t).unread (iblk m c 0 t)) (Shape.Idx.first (by decide))
  s1 := View.readAt (Elt F) (ms0 t).view (Rect.unit (s := S1x8) ![0, 5] S1x1.size inb_S1x8_S1x1_0_5).toLoadRect ((hs0 t).unread (iblk m c 0 t)) (Shape.Idx.first (by decide))
  s2 := View.readAt (Elt F) (ms0 t).view (Rect.unit (s := S1x8) ![0, 6] S1x1.size inb_S1x8_S1x1_0_6).toLoadRect ((hs0 t).unread (iblk m c 0 t)) (Shape.Idx.first (by decide))
  s3 := View.readAt (Elt F) (ms0 t).view (Rect.unit (s := S1x8) ![0, 7] S1x1.size inb_S1x8_S1x1_0_7).toLoadRect ((hs0 t).unread (iblk m c 0 t)) (Shape.Idx.first (by decide))

/-- The query gradient's pieces: eight heads' columns. -/
theorem run_dq (c : Dev nD) (t : Fin cfg0.N) (a : Acc F) : (runAt m c t a).1 =
    [⟨Rect.unit (s := S128x512) ![0, 448] S128x64.size inb_S128x512_S128x64_0_448, extractStridedSlice S128x64 ![384, 0] ((grp1 m c t).dq (grid0.coords t)) slices_S512x64_o384_0_S128x64⟩,
     ⟨Rect.unit (s := S128x512) ![0, 384] S128x64.size inb_S128x512_S128x64_0_384, extractStridedSlice S128x64 ![256, 0] ((grp1 m c t).dq (grid0.coords t)) slices_S512x64_o256_0_S128x64⟩,
     ⟨Rect.unit (s := S128x512) ![0, 320] S128x64.size inb_S128x512_S128x64_0_320, extractStridedSlice S128x64 ![128, 0] ((grp1 m c t).dq (grid0.coords t)) slices_S512x64_o128_0_S128x64⟩,
     ⟨Rect.unit (s := S128x512) ![0, 256] S128x64.size inb_S128x512_S128x64_0_256, extractStridedSlice S128x64 ![0, 0] ((grp1 m c t).dq (grid0.coords t)) slices_S512x64_o0_0_S128x64⟩,
     ⟨Rect.unit (s := S128x512) ![0, 192] S128x64.size inb_S128x512_S128x64_0_192, extractStridedSlice S128x64 ![384, 0] ((grp0 m c t).dq (grid0.coords t)) slices_S512x64_o384_0_S128x64⟩,
     ⟨Rect.unit (s := S128x512) ![0, 128] S128x64.size inb_S128x512_S128x64_0_128, extractStridedSlice S128x64 ![256, 0] ((grp0 m c t).dq (grid0.coords t)) slices_S512x64_o256_0_S128x64⟩,
     ⟨Rect.unit (s := S128x512) ![0, 64] S128x64.size inb_S128x512_S128x64_0_64, extractStridedSlice S128x64 ![128, 0] ((grp0 m c t).dq (grid0.coords t)) slices_S512x64_o128_0_S128x64⟩,
     ⟨Rect.unit (s := S128x512) ![0, 0] S128x64.size inb_S128x512_S128x64_0_0, extractStridedSlice S128x64 ![0, 0] ((grp0 m c t).dq (grid0.coords t)) slices_S512x64_o0_0_S128x64⟩] := by
  sl_kernel_rfl

/-- Six windows added to, one after the other: the first key head's columns, then the second's. -/
def six (M : Memref sig .tc .vmem S2176x128 .f32) (f : M.view.ty.Contents (Elt F)) (i : grid0.Coords)
    (X1 X2 X3 X4 X5 X6 : Vec F S128x64 .f32 → FVec F S128x64 .f32) : List (View.Piece (Elt F) S2176x128 .f32) :=
  let L1 := rmw M f (k0_off1 i) (k0_off1_inb i) X1 [] []
  let L2 := rmw M f (k0_off2 i) (k0_off2_inb i) X2 L1 L1
  let L3 := rmw M f ![0, 0] inb_S2176x128_S128x64_0_0 X3 L2 L2
  let L4 := rmw M f (k0_off3 i) (k0_off3_inb i) X4 [] L3
  let L5 := rmw M f (k0_off4 i) (k0_off4_inb i) X5 L4 L4
  rmw M f ![0, 64] inb_S2176x128_S128x64_0_64 X6 L5 L5

/-- The key gradient's pieces. -/
theorem run_dk (c : Dev nD) (t : Fin cfg0.N) (a : Acc F) : (runAt m c t a).2.1 =
    six (ms10 t) ((hs10 t).unread a.1) (grid0.coords t)
      (k0_pay46 (grp0 m c t).qg ((grp0 m c t).dsc (grid0.coords t))) (k0_pay48 (grp0 m c t).qg ((grp0 m c t).dsp (grid0.coords t)))
      (k0_pay50 (grp0 m c t).qg ((grp0 m c t).dsm (grid0.coords t)))
      (k0_pay46 (grp1 m c t).qg ((grp1 m c t).dsc (grid0.coords t))) (k0_pay48 (grp1 m c t).qg ((grp1 m c t).dsp (grid0.coords t)))
      (k0_pay50 (grp1 m c t).qg ((grp1 m c t).dsm (grid0.coords t))) := by
  sl_kernel_rfl

/-- The value gradient's pieces. -/
theorem run_dv (c : Dev nD) (t : Fin cfg0.N) (a : Acc F) : (runAt m c t a).2.2.1 =
    six (ms11 t) ((hs11 t).unread a.2.1) (grid0.coords t)
      (k0_pay45 (grp0 m c t).og ((grp0 m c t).pc (grid0.coords t))) (k0_pay47 (grp0 m c t).og ((grp0 m c t).pp (grid0.coords t)))
      (k0_pay49 (grp0 m c t).og ((grp0 m c t).pm (grid0.coords t)))
      (k0_pay45 (grp1 m c t).og ((grp1 m c t).pc (grid0.coords t))) (k0_pay47 (grp1 m c t).og ((grp1 m c t).pp (grid0.coords t)))
      (k0_pay49 (grp1 m c t).og ((grp1 m c t).pm (grid0.coords t))) := by
  sl_kernel_rfl

/-- The sinks' gradient's piece: eight lanes, one after the other. -/
theorem run_dsk (c : Dev nD) (t : Fin cfg0.N) (a : Acc F) : (runAt m c t a).2.2.2.1 =
    [⟨Rect.unit (s := S1x128) ![0, 0] S1x128.size inb_S1x128_S1x128_0_0, k0_pay1
      (sinkStep 7#32 3#32 ((grp1 m c t).ps (grid0.coords t)) ((grp1 m c t).delta (grid0.coords t))
      (sinkStep 6#32 2#32 ((grp1 m c t).ps (grid0.coords t)) ((grp1 m c t).delta (grid0.coords t))
      (sinkStep 5#32 1#32 ((grp1 m c t).ps (grid0.coords t)) ((grp1 m c t).delta (grid0.coords t))
      (sinkStep 4#32 0#32 ((grp1 m c t).ps (grid0.coords t)) ((grp1 m c t).delta (grid0.coords t))
      (sinkStep 3#32 3#32 ((grp0 m c t).ps (grid0.coords t)) ((grp0 m c t).delta (grid0.coords t))
      (sinkStep 2#32 2#32 ((grp0 m c t).ps (grid0.coords t)) ((grp0 m c t).delta (grid0.coords t))
      (sinkStep 1#32 1#32 ((grp0 m c t).ps (grid0.coords t)) ((grp0 m c t).delta (grid0.coords t))
      (sinkStep 0#32 0#32 ((grp0 m c t).ps (grid0.coords t)) ((grp0 m c t).delta (grid0.coords t)) k0_pay9))))))))
      (View.readAt (Elt F) (ms12 t).view (Rect.unit (s := S1x128) ![0, 0] S1x128.size inb_S1x128_S1x128_0_0).toLoadRect ((hs12 t).unread a.2.2))⟩] := by
  sl_kernel_rfl

end Cert.AttnIdeal.Hand

end
-- ==== Proof.AttnMask.lean ====
/- The attention gradient's integer arithmetic, read at an index: which of the 512 stacked rows is which query of which
   head, and which keys a query sees in each of the three blocks. -/
module

public import proofs.«01_k».proof.Proof.AttnGroup
public import Idealize.ShloMosaic.Lib.Pointwise
public import Idealize.ShloMosaic.Lib.WordCmp

@[expose] public section

set_option maxRecDepth 16384

noncomputable section

namespace Cert.AttnIdeal.Hand

open Idealize.ShloMosaic Idealize.ShloMosaic.TcCoe Idealize.ShloMosaic.Tactic Idealize.SL.Sem
open Idealize.ShloMosaic.WordCmp
open Cert.AttnIdeal Cert.AttnIdeal.Gen

/-- A row's place in its block, -/
theorem pay5_apply (R : Fin 512) (c : Fin 128) : k0_pay5 (ix2 R c) = BitVec.ofNat 32 (R.val % 128) := by
  pointwise [k0_pay5]
  revert R; decide +kernel

/-- and its head among the four. -/
theorem pay10_apply (R : Fin 512) : k0_pay10 (ix2 R 0) = BitVec.ofNat 32 (R.val / 128) := by
  pointwise [k0_pay10]
  revert R; decide +kernel

section Small
variable {a b : ℕ} (ha : a < 2 ^ 20) (hb : b < 2 ^ 20)
include ha hb

theorem sle_small : IntOp.cmpi .sle (BitVec.ofNat 32 a) (BitVec.ofNat 32 b) = if a ≤ b then 1#1 else 0#1 := by
  split_ifs with h
  · exact (cmpi_sle_ofNat_eq_one_iff (by omega) (by omega)).mpr h
  · exact (cmpi_sle_ofNat_eq_zero_iff (by omega) (by omega)).mpr (by omega)

theorem sge_small : IntOp.cmpi .sge (BitVec.ofNat 32 a) (BitVec.ofNat 32 b) = if b ≤ a then 1#1 else 0#1 := by
  split_ifs with h
  · exact (cmpi_sge_ofNat_eq_one_iff (by omega) (by omega)).mpr h
  · exact (cmpi_sge_ofNat_eq_zero_iff (by omega) (by omega)).mpr (by omega)

theorem sgt_small : IntOp.cmpi .sgt (BitVec.ofNat 32 a) (BitVec.ofNat 32 b) = if b < a then 1#1 else 0#1 := by
  split_ifs with h
  · exact (cmpi_sgt_ofNat_eq_one_iff (by omega) (by omega)).mpr h
  · exact (cmpi_sgt_ofNat_eq_zero_iff (by omega) (by omega)).mpr (by omega)

theorem eq_small : IntOp.cmpi .eq (BitVec.ofNat 32 a) (BitVec.ofNat 32 b) = if a = b then 1#1 else 0#1 := by
  split_ifs with h
  · exact (cmpi_eq_ofNat_eq_one_iff (by omega) (by omega)).mpr h
  · exact (cmpi_eq_ofNat_eq_zero_iff (by omega) (by omega)).mpr h

end Small

/-- A bit that is one exactly when `p` holds selects by `p`. -/
theorem select_bit {α : Type} (p : Prop) [Decidable p] (x y : α) :
    Scalar.select (if p then (1#1 : BitVec 1) else 0#1) x y = if p then x else y := by
  split_ifs <;> rfl

/-- The current block: keys no later than the query, and in the first block only the sixteen last. -/
theorem pay6_apply (i : grid0.Coords) (R : Fin 512) (c : Fin 128) :
    k0_pay6 i (ix2 R c) = if c.val ≤ R.val % 128 ∧ (1 ≤ (i 0).val ∨ 112 ≤ c.val) then 1#1 else 0#1 := by
  have hi : (i 0).val < 17 := (i 0).isLt
  pointwise [k0_pay6]
  rw [pay5_apply, sle_small (by omega) (by omega)]
  show IntOp.andi _ (IntOp.cmpi .sge _ (Scalar.select (IntOp.cmpi .sge (BitVec.ofNat 32 (i 0).val) (BitVec.ofNat 32 1)) (BitVec.ofNat 32 0) (BitVec.ofNat 32 112))) = _
  rw [sge_small (by omega) (by omega), select_bit, ← apply_ite (BitVec.ofNat 32), sge_small (by omega) (by split_ifs <;> omega)]
  split_ifs <;> first | rfl | omega

/-- The previous block: keys later than the query's place, from the third block of queries on. -/
theorem pay7_apply (i : grid0.Coords) (R : Fin 512) (c : Fin 128) :
    k0_pay7 i (ix2 R c) = if R.val % 128 < c.val ∧ 2 ≤ (i 0).val then 1#1 else 0#1 := by
  have hi : (i 0).val < 17 := (i 0).isLt
  pointwise [k0_pay7]
  rw [pay5_apply]
  show IntOp.cmpi .sgt _ (IntOp.addi _ (Scalar.select (IntOp.cmpi .sge (BitVec.ofNat 32 (i 0).val) (BitVec.ofNat 32 2)) (BitVec.ofNat 32 0) (BitVec.ofNat 32 128))) = _
  rw [sge_small (by omega) (by omega), select_bit, ← apply_ite (BitVec.ofNat 32), addi_ofNat, sgt_small (by omega) (by split_ifs <;> omega)]
  split_ifs <;> first | rfl | omega

/-- The first block: its sixteen last keys, from the second block of queries on. -/
theorem pay8_apply (i : grid0.Coords) (R : Fin 512) (c : Fin 128) :
    k0_pay8 i (ix2 R c) = if 112 ≤ c.val ∧ 1 ≤ (i 0).val then 1#1 else 0#1 := by
  have hi : (i 0).val < 17 := (i 0).isLt
  pointwise [k0_pay8]
  show IntOp.cmpi .sge _ (Scalar.select (IntOp.cmpi .sge (BitVec.ofNat 32 (i 0).val) (BitVec.ofNat 32 1)) (BitVec.ofNat 32 112) (BitVec.ofNat 32 128)) = _
  rw [sge_small (by omega) (by omega), select_bit, ← apply_ite (BitVec.ofNat 32), sge_small (by omega) (by split_ifs <;> omega)]
  split_ifs <;> first | rfl | omega

end Cert.AttnIdeal.Hand

end
-- ==== Proof.AttnVals.lean ====
/- The attention gradient's body over the reals, entry by entry: what each stacked array holds in terms of the plain sums
   over all the tokens. -/
module

public import proofs.«01_k».proof.Proof.AttnMask
public import proofs.«01_k».proof.Proof.AttnSpec

@[expose] public section

set_option maxRecDepth 16384

noncomputable section

namespace Cert.AttnIdeal.Hand

open Idealize.ShloMosaic Idealize.ShloMosaic.TcCoe Idealize.ShloMosaic.Tactic Idealize.SL.Sem
open Cert.AttnIdeal Cert.AttnIdeal.Gen
open Attn

/-- The blocks read at point `n` for key head `g` are those of the arrays `A`. -/
structure Grp.Is (b : Grp Ideal) (A : Args) (n : Fin 17) (g : Fin 2) : Prop where
  q0 : ∀ r d, b.q0 (ix2 r d) = A.q (row n r) (Args.hd g 0) d
  q1 : ∀ r d, b.q1 (ix2 r d) = A.q (row n r) (Args.hd g 1) d
  q2 : ∀ r d, b.q2 (ix2 r d) = A.q (row n r) (Args.hd g 2) d
  q3 : ∀ r d, b.q3 (ix2 r d) = A.q (row n r) (Args.hd g 3) d
  o0 : ∀ r d, b.o0 (ix2 r d) = A.o (row n r) (Args.hd g 0) d
  o1 : ∀ r d, b.o1 (ix2 r d) = A.o (row n r) (Args.hd g 1) d
  o2 : ∀ r d, b.o2 (ix2 r d) = A.o (row n r) (Args.hd g 2) d
  o3 : ∀ r d, b.o3 (ix2 r d) = A.o (row n r) (Args.hd g 3) d
  kc : ∀ r d, b.kc (ix2 r d) = A.k (row n r) g d
  kp : ∀ r d, b.kp (ix2 r d) = A.k (row (prev n) r) g d
  km : ∀ r d, b.km (ix2 r d) = A.k (row 0 r) g d
  vc : ∀ r d, b.vc (ix2 r d) = A.v (row n r) g d
  vp : ∀ r d, b.vp (ix2 r d) = A.v (row (prev n) r) g d
  vm : ∀ r d, b.vm (ix2 r d) = A.v (row 0 r) g d
  s0 : b.s0 = A.sk (Args.hd g 0)
  s1 : b.s1 = A.sk (Args.hd g 1)
  s2 : b.s2 = A.sk (Args.hd g 2)
  s3 : b.s3 = A.sk (Args.hd g 3)

/-- The token of a stacked row, -/
def tok (n : Fin 17) (R : Fin 512) : Fin 2176 := row n ⟨R.val % 128, by omega⟩
/-- and its query head. -/
def head (g : Fin 2) (R : Fin 512) : Fin 8 := Args.hd g ⟨R.val / 128, by omega⟩

theorem grp_head (g : Fin 2) (R : Fin 512) : grp (head g R) = g := by
  unfold grp head Args.hd; exact Fin.ext (by dsimp only; omega)

variable {b : Grp Ideal} {A : Args} {n : Fin 17} {g : Fin 2} (i : grid0.Coords)

/-- Four blocks of 128 rows, one on another. -/
theorem stack_apply {x0 x1 x2 x3 : Fin 128 → EReal} {f : Fin 2176 → Fin 8 → EReal} (R : Fin 512)
    (h0 : ∀ r, x0 r = f (row n r) (Args.hd g 0)) (h1 : ∀ r, x1 r = f (row n r) (Args.hd g 1))
    (h2 : ∀ r, x2 r = f (row n r) (Args.hd g 2)) (h3 : ∀ r, x3 r = f (row n r) (Args.hd g 3)) :
    (if h : R.val < 128 then x0 ⟨R.val, h⟩ else if h : R.val - 128 < 128 then x1 ⟨R.val - 128, h⟩ else
      if h : R.val - 128 - 128 < 128 then x2 ⟨R.val - 128 - 128, h⟩ else x3 ⟨R.val - 128 - 128 - 128, by omega⟩)
      = f (tok n R) (head g R) := by
  unfold tok head
  split_ifs with a1 a2 a3
  · rw [h0, show (⟨R.val, a1⟩ : Fin 128) = ⟨R.val % 128, by omega⟩ from Fin.ext (by dsimp only; omega),
      show (0 : Fin 4) = ⟨R.val / 128, by omega⟩ from Fin.ext (by show 0 = R.val / 128; omega)]
  · rw [h1, show (⟨R.val - 128, a2⟩ : Fin 128) = ⟨R.val % 128, by omega⟩ from Fin.ext (by dsimp only; omega),
      show (1 : Fin 4) = ⟨R.val / 128, by omega⟩ from Fin.ext (by show 1 = R.val / 128; omega)]
  · rw [h2, show (⟨R.val - 128 - 128, a3⟩ : Fin 128) = ⟨R.val % 128, by omega⟩ from Fin.ext (by dsimp only; omega),
      show (2 : Fin 4) = ⟨R.val / 128, by omega⟩ from Fin.ext (by show 2 = R.val / 128; omega)]
  · rw [h3, show (⟨R.val - 128 - 128 - 128, by omega⟩ : Fin 128) = ⟨R.val % 128, by omega⟩ from Fin.ext (by dsimp only; omega),
      show (3 : Fin 4) = ⟨R.val / 128, by omega⟩ from Fin.ext (by show 3 = R.val / 128; omega)]

theorem qg_apply (h : b.Is A n g) (R : Fin 512) (d : Fin 64) : b.qg (ix2 R d) = A.q (tok n R) (head g R) d := by
  unfold Grp.qg
  pointwise [k0_pay14]
  exact stack_apply (f := fun t h => A.q t h d) R (h.q0 · d) (h.q1 · d) (h.q2 · d) (h.q3 · d)

theorem og_apply (h : b.Is A n g) (R : Fin 512) (d : Fin 64) : b.og (ix2 R d) = A.o (tok n R) (head g R) d := by
  unfold Grp.og
  pointwise [k0_pay15]
  exact stack_apply (f := fun t h => A.o t h d) R (h.o0 · d) (h.o1 · d) (h.o2 · d) (h.o3 · d)

theorem sink_apply (h : b.Is A n g) (R : Fin 512) : b.sink (ix2 R 0) = A.sk (head g R) := by
  unfold Grp.sink
  pointwise [k0_pay13, k0_pay11, k0_pay12]
  have hR := R.isLt
  rw [pay10_apply, eq_small (by omega) (by norm_num), eq_small (by omega) (by norm_num), eq_small (by omega) (by norm_num),
    eq_small (by omega) (by norm_num)]
  simp only [select_bit]
  unfold head
  split_ifs with a3 a2 a1 a0
  · rw [h.s3, show (3 : Fin 4) = ⟨R.val / 128, by omega⟩ from Fin.ext a3.symm]
  · rw [h.s2, show (2 : Fin 4) = ⟨R.val / 128, by omega⟩ from Fin.ext a2.symm]
  · rw [h.s1, show (1 : Fin 4) = ⟨R.val / 128, by omega⟩ from Fin.ext a1.symm]
  · rw [h.s0, show (0 : Fin 4) = ⟨R.val / 128, by omega⟩ from Fin.ext a0.symm]
  · omega

/-- The mask is `-∞`. -/
theorem mask_bot : (Named.named (F := Ideal) (φ := .f32) κ "mask" 0xF149F2CA#32 : EReal) = ⊥ := by
  exact IdealRules.named_const.ideal_named_scalar κ "mask" _ _ rfl

theorem sc_apply (h : b.Is A n g) (hi : (i 0).val = n.val) (R : Fin 512) (c : Fin 128) :
    b.sc i (ix2 R c) = A.score (tok n R) (row n c) (head g R) := by
  unfold Grp.sc
  pointwise [k0_pay17, k0_pay16]
  rw [pay6_apply, select_bit, mask_bot, hi]
  unfold Args.score Args.dot
  rw [grp_head]
  refine if_congr ?_ (congrArg (· * c8) (Finset.sum_congr rfl fun x _ => ?_)) rfl
  · unfold tok; rw [ok_cur]
  · exact congrArg₂ (· * ·) (qg_apply h R x) (h.kc c x)

theorem sp_apply (h : b.Is A n g) (hi : (i 0).val = n.val) (R : Fin 512) (c : Fin 128) :
    b.sp i (ix2 R c) = if 2 ≤ n.val then A.score (tok n R) (row (prev n) c) (head g R) else ⊥ := by
  unfold Grp.sp
  pointwise [k0_pay18]
  rw [pay7_apply, select_bit, mask_bot, hi]
  unfold Args.score Args.dot
  rw [grp_head]
  by_cases hn : 2 ≤ n.val
  · rw [if_pos hn]
    refine if_congr ?_ (congrArg (· * c8) (Finset.sum_congr rfl fun x _ => ?_)) rfl
    · unfold tok; rw [ok_prev n _ _ hn]; exact and_iff_left hn
    · exact congrArg₂ (· * ·) (qg_apply h R x) (h.kp c x)
  · rw [if_neg hn, if_neg (fun k => hn k.2)]

theorem sm_apply (h : b.Is A n g) (hi : (i 0).val = n.val) (R : Fin 512) (c : Fin 128) :
    b.sm i (ix2 R c) = if 1 ≤ n.val then A.score (tok n R) (row 0 c) (head g R) else ⊥ := by
  unfold Grp.sm
  pointwise [k0_pay19]
  rw [pay8_apply, select_bit, mask_bot, hi]
  unfold Args.score Args.dot
  rw [grp_head]
  by_cases hn : 1 ≤ n.val
  · rw [if_pos hn]
    refine if_congr ?_ (congrArg (· * c8) (Finset.sum_congr rfl fun x _ => ?_)) rfl
    · unfold tok; rw [ok_first n _ _ hn]; exact and_iff_left hn
    · exact congrArg₂ (· * ·) (qg_apply h R x) (h.km c x)
  · rw [if_neg hn, if_neg (fun k => hn k.2)]

theorem ofBits_neg_inf : Ideal.ofBits .f32 4286578688#32 = ⊥ := by
  simp [Ideal.ofBits, Ideal.ieee]

theorem mx_apply (h : b.Is A n g) (hi : (i 0).val = n.val) (R : Fin 512) :
    b.mx i (ix2 R 0) = A.mx (tok n R) (head g R) := by
  unfold Grp.mx
  pointwise [k0_pay20]
  rw [ofBits_neg_inf, sink_apply h]
  refine eq_of_forall_ge_iff fun z => ?_
  unfold Args.mx
  simp only [max_le_iff, Finset.fold_max_le, Finset.sup_le_iff, bot_le, true_and, Finset.mem_univ, true_implies]
  have e1 : ∀ c, k0_pay17 (k0_pay6 i) (k0_pay16 b.q0 b.q1 b.q2 b.q3 b.kc) (ix2 R c) = _ := sc_apply i h hi R
  have e2 : ∀ c, k0_pay18 (k0_pay7 i) b.qg b.kp (ix2 R c) = _ := sp_apply i h hi R
  have e3 : ∀ c, k0_pay19 (k0_pay8 i) b.qg b.km (ix2 R c) = _ := sm_apply i h hi R
  simp only [e1, e2, e3]
  constructor
  · rintro ⟨⟨hc, hp⟩, hm, hs⟩
    refine ⟨fun s => ?_, hs⟩
    obtain ⟨⟨k, c⟩, rfl⟩ := rowEquiv.surjective s
    show A.score (tok n R) (row k c) _ ≤ z
    by_cases h1 : k = n
    · subst h1; exact hc c
    · by_cases h2 : 2 ≤ n.val ∧ k = prev n
      · have := hp c; rwa [if_pos h2.1, ← h2.2] at this
      · by_cases h3 : 1 ≤ n.val ∧ k = 0
        · have := hm c; rwa [if_pos h3.1, ← h3.2] at this
        · unfold Args.score tok; rw [if_neg (not_ok n k _ c h1 h2 h3)]; exact bot_le
  · rintro ⟨hs, hk⟩
    refine ⟨⟨fun c => hs _, fun c => ?_⟩, fun c => ?_, hk⟩
    · split_ifs
      · exact hs _
      · exact bot_le
    · split_ifs
      · exact hs _
      · exact bot_le

theorem ec_apply (h : b.Is A n g) (hi : (i 0).val = n.val) (R : Fin 512) (c : Fin 128) :
    b.ec i (ix2 R c) = A.e (tok n R) (row n c) (head g R) := by
  unfold Grp.ec
  pointwise [k0_pay21]
  exact congrArg Ideal.exp (congrArg₂ (· - ·) (sc_apply i h hi R c) (mx_apply i h hi R))

theorem ep_apply (h : b.Is A n g) (hi : (i 0).val = n.val) (R : Fin 512) (c : Fin 128) :
    b.ep i (ix2 R c) = if 2 ≤ n.val then A.e (tok n R) (row (prev n) c) (head g R) else 0 := by
  unfold Grp.ep
  pointwise [k0_pay22]
  refine (congrArg Ideal.exp (congrArg₂ (· - ·) (sp_apply i h hi R c) (mx_apply i h hi R))).trans ?_
  split_ifs
  · rfl
  · rw [EReal.bot_sub, Args.exp_bot]

theorem em_apply (h : b.Is A n g) (hi : (i 0).val = n.val) (R : Fin 512) (c : Fin 128) :
    b.em i (ix2 R c) = if 1 ≤ n.val then A.e (tok n R) (row 0 c) (head g R) else 0 := by
  unfold Grp.em
  pointwise [k0_pay23]
  refine (congrArg Ideal.exp (congrArg₂ (· - ·) (sm_apply i h hi R c) (mx_apply i h hi R))).trans ?_
  split_ifs
  · rfl
  · rw [EReal.bot_sub, Args.exp_bot]

theorem es_apply (h : b.Is A n g) (hi : (i 0).val = n.val) (R : Fin 512) :
    b.es i (ix2 R 0) = A.es (tok n R) (head g R) := by
  unfold Grp.es
  pointwise [k0_pay24]
  exact congrArg Ideal.exp (congrArg₂ (· - ·) (sink_apply h R) (mx_apply i h hi R))

theorem inv_apply (h : b.Is A n g) (hi : (i 0).val = n.val) (R : Fin 512) :
    b.inv i (ix2 R 0) = A.inv (tok n R) (head g R) := by
  unfold Grp.inv
  pointwise [k0_pay25]
  unfold Args.inv Args.den
  refine congrArg (Ideal.div 1) (congrArg₂ (· + ·) ?_ (es_apply i h hi R))
  rw [sum_blocks n _ fun k r h1 h2 h3 => Args.e_of_not (not_ok n k _ r h1 h2 h3)]
  exact congrArg₂ (· + ·) (congrArg₂ (· + ·) (Finset.sum_congr rfl fun c _ => ec_apply i h hi R c)
    (Finset.sum_congr rfl fun c _ => ep_apply i h hi R c)) (Finset.sum_congr rfl fun c _ => em_apply i h hi R c)

theorem pc_apply (h : b.Is A n g) (hi : (i 0).val = n.val) (R : Fin 512) (c : Fin 128) :
    b.pc i (ix2 R c) = A.p (tok n R) (row n c) (head g R) := by
  unfold Grp.pc
  pointwise [k0_pay26]
  rw [ec_apply i h hi, inv_apply i h hi]; rfl

theorem pp_apply (h : b.Is A n g) (hi : (i 0).val = n.val) (R : Fin 512) (c : Fin 128) :
    b.pp i (ix2 R c) = if 2 ≤ n.val then A.p (tok n R) (row (prev n) c) (head g R) else 0 := by
  unfold Grp.pp
  pointwise [k0_pay27]
  rw [ep_apply i h hi, inv_apply i h hi]
  split_ifs
  · rfl
  · rw [zero_mul]

theorem pm_apply (h : b.Is A n g) (hi : (i 0).val = n.val) (R : Fin 512) (c : Fin 128) :
    b.pm i (ix2 R c) = if 1 ≤ n.val then A.p (tok n R) (row 0 c) (head g R) else 0 := by
  unfold Grp.pm
  pointwise [k0_pay28]
  rw [em_apply i h hi, inv_apply i h hi]
  split_ifs
  · rfl
  · rw [zero_mul]

theorem ps_apply (h : b.Is A n g) (hi : (i 0).val = n.val) (R : Fin 512) :
    b.ps i (ix2 R 0) = A.ps (tok n R) (head g R) := by
  unfold Grp.ps
  pointwise [k0_pay29]
  rw [es_apply i h hi, inv_apply i h hi]; rfl

/-- A row of the output's gradient against a value. -/
theorem dp_apply (h : b.Is A n g) (R : Fin 512) (v : Fin 64 → EReal) (s : Fin 2176) (hv : ∀ d, v d = A.v s g d) :
    ∑ d, b.og (ix2 R d) * v d = A.dp (tok n R) s (head g R) := by
  unfold Args.dp
  rw [grp_head]
  exact Finset.sum_congr rfl fun d _ => congrArg₂ (· * ·) (og_apply h R d) (hv d)

theorem pay30_apply' (h : b.Is A n g) (R : Fin 512) (c : Fin 128) :
    k0_pay30 b.og b.vc (ix2 R c) = A.dp (tok n R) (row n c) (head g R) := by
  pointwise [k0_pay30]
  exact dp_apply h R _ _ (h.vc c)

theorem pay31_apply' (h : b.Is A n g) (R : Fin 512) (c : Fin 128) :
    k0_pay31 b.og b.vp (ix2 R c) = A.dp (tok n R) (row (prev n) c) (head g R) := by
  pointwise [k0_pay31]
  exact dp_apply h R _ _ (h.vp c)

theorem pay32_apply' (h : b.Is A n g) (R : Fin 512) (c : Fin 128) :
    k0_pay32 b.og b.vm (ix2 R c) = A.dp (tok n R) (row 0 c) (head g R) := by
  pointwise [k0_pay32]
  exact dp_apply h R _ _ (h.vm c)

theorem delta_apply (h : b.Is A n g) (hi : (i 0).val = n.val) (R : Fin 512) :
    b.delta i (ix2 R 0) = A.delta (tok n R) (head g R) := by
  unfold Grp.delta
  pointwise [k0_pay33]
  unfold Args.delta
  rw [sum_blocks n _ fun k r h1 h2 h3 => by
    unfold tok; rw [Args.p_of_not (not_ok n k _ r h1 h2 h3), zero_mul]]
  refine congrArg₂ (· + ·) (congrArg₂ (· + ·) (Finset.sum_congr rfl fun c _ => ?_)
    (Finset.sum_congr rfl fun c _ => ?_)) (Finset.sum_congr rfl fun c _ => ?_)
  · exact congrArg₂ (· * ·) (pc_apply i h hi R c) (pay30_apply' h R c)
  · refine (congrArg₂ (· * ·) (pp_apply i h hi R c) (pay31_apply' h R c)).trans ?_
    split_ifs
    · rfl
    · exact zero_mul _
  · refine (congrArg₂ (· * ·) (pm_apply i h hi R c) (pay32_apply' h R c)).trans ?_
    split_ifs
    · rfl
    · exact zero_mul _

theorem dsc_apply (h : b.Is A n g) (hi : (i 0).val = n.val) (R : Fin 512) (c : Fin 128) :
    b.dsc i (ix2 R c) = A.ds (tok n R) (row n c) (head g R) := by
  unfold Grp.dsc
  pointwise [k0_pay34, k0_pay30]
  exact congrArg (· * c8) (congrArg₂ (· * ·) (pc_apply i h hi R c)
    (congrArg₂ (· - ·) (dp_apply h R _ _ (h.vc c)) (delta_apply i h hi R)))

theorem dsp_apply (h : b.Is A n g) (hi : (i 0).val = n.val) (R : Fin 512) (c : Fin 128) :
    b.dsp i (ix2 R c) = if 2 ≤ n.val then A.ds (tok n R) (row (prev n) c) (head g R) else 0 := by
  unfold Grp.dsp
  pointwise [k0_pay35, k0_pay31]
  refine (congrArg (· * c8) (congrArg₂ (· * ·) (pp_apply i h hi R c)
    (congrArg₂ (· - ·) (dp_apply h R _ _ (h.vp c)) (delta_apply i h hi R)))).trans ?_
  split_ifs
  · rfl
  · rw [zero_mul, zero_mul]

theorem dsm_apply (h : b.Is A n g) (hi : (i 0).val = n.val) (R : Fin 512) (c : Fin 128) :
    b.dsm i (ix2 R c) = if 1 ≤ n.val then A.ds (tok n R) (row 0 c) (head g R) else 0 := by
  unfold Grp.dsm
  pointwise [k0_pay36, k0_pay32]
  refine (congrArg (· * c8) (congrArg₂ (· * ·) (pm_apply i h hi R c)
    (congrArg₂ (· - ·) (dp_apply h R _ _ (h.vm c)) (delta_apply i h hi R)))).trans ?_
  split_ifs
  · rfl
  · rw [zero_mul, zero_mul]

theorem dq_apply (h : b.Is A n g) (hi : (i 0).val = n.val) (R : Fin 512) (d : Fin 64) :
    b.dq i (ix2 R d) = A.dq (tok n R) (head g R) d := by
  unfold Grp.dq
  pointwise [k0_pay38, k0_pay37]
  unfold Args.dq
  rw [grp_head, sum_blocks n _ fun k r h1 h2 h3 => by
    unfold tok; rw [Args.ds_of_not (not_ok n k _ r h1 h2 h3), zero_mul]]
  refine congrArg₂ (· + ·) (congrArg₂ (· + ·) (Finset.sum_congr rfl fun c _ => ?_)
    (Finset.sum_congr rfl fun c _ => ?_)) (Finset.sum_congr rfl fun c _ => ?_)
  · exact congrArg₂ (· * ·) (dsc_apply i h hi R c) (h.kc c d)
  · refine (congrArg₂ (· * ·) (dsp_apply i h hi R c) (h.kp c d)).trans ?_
    split_ifs
    · rfl
    · exact zero_mul _
  · refine (congrArg₂ (· * ·) (dsm_apply i h hi R c) (h.km c d)).trans ?_
    split_ifs
    · rfl
    · exact zero_mul _

end Cert.AttnIdeal.Hand

end
-- ==== Proof.AttnSix.lean ====
/- What six read-modify-writes of 128×64 windows leave in an accumulator: each entry has gained, for every window that
   holds it, that window's addend. -/
module

public import proofs.«01_k».proof.Proof.AttnGroup
public import Idealize.ShloMosaic.Lib.WritesUnit
public import Idealize.ShloMosaic.Lib.WholeRead
public import Idealize.ShloMosaic.Lib.Pointwise

@[expose] public section

set_option maxRecDepth 16384

noncomputable section

namespace Cert.AttnIdeal.Hand

open Idealize.ShloMosaic Idealize.ShloMosaic.TcCoe Idealize.SL.Sem
open Cert.AttnIdeal Cert.AttnIdeal.Gen

/-- `A` at row `r` of a window that starts at row `o`; zero off the window. -/
def placed (A : Fin 128 → EReal) (o r : ℕ) : EReal := if h : o ≤ r ∧ r < o + 128 then A ⟨r - o, by omega⟩ else 0

/-- One read-modify-write, read at an entry. -/
theorem rmw_read (M : Memref sig .tc .vmem S2176x128 .f32) (f : M.view.ty.Contents (Elt Ideal)) {off : Fin 2 → ℕ} (o p : ℕ) (heq : off = ![o, p])
    (inb : ∀ a, off a + S128x64.size a ≤ S2176x128.size a) (X : Vec Ideal S128x64 .f32 → FVec Ideal S128x64 .f32)
    (A : Fin 128 → Fin 64 → EReal) (hX : ∀ l r d, X l (ix2 r d) = l (ix2 r d) + A r d) (L₀ L : List (View.Piece (Elt Ideal) S2176x128 .f32))
    (h0 : ∀ (r : Fin 2176) (c : Fin 128), p ≤ c.val → c.val < p + 64 → M.view.read (Elt Ideal) (M.view.writes (Elt Ideal) f L₀) (ix2 r c) = M.view.read (Elt Ideal) (M.view.writes (Elt Ideal) f L) (ix2 r c))
    (r : Fin 2176) (c : Fin 128) :
    M.view.read (Elt Ideal) (M.view.writes (Elt Ideal) f (rmw M f off inb X L₀ L)) (ix2 r c)
      = M.view.read (Elt Ideal) (M.view.writes (Elt Ideal) f L) (ix2 r c)
        + (if h : p ≤ c.val ∧ c.val < p + 64 then placed (fun x => A x ⟨c.val - p, by omega⟩) o r.val else 0) := by
  unfold rmw
  by_cases hc : p ≤ c.val ∧ c.val < p + 64
  · rw [dif_pos hc]
    unfold placed
    by_cases hr : o ≤ r.val ∧ r.val < o + 128
    · rw [dif_pos hr]
      refine (View.read_writes_cons_unit_of_mem M.view f inb _ L (ix2 r c) (ix2 ⟨r.val - o, by omega⟩ ⟨c.val - p, by omega⟩) heq ?_).trans ?_
      · intro a
        match a with
        | ⟨0, _⟩ => show r.val = o + (r.val - o); omega
        | ⟨1, _⟩ => show c.val = p + (c.val - p); omega
      · rw [hX, ← h0 r c hc.1 hc.2, View.readAt_apply]
        congr 2
        subst heq
        funext a
        apply Fin.ext
        match a with
        | ⟨0, _⟩ => show o + 1 * (r.val - o) = r.val; omega
        | ⟨1, _⟩ => show p + 1 * (c.val - p) = c.val; omega
    · rw [dif_neg hr, add_zero]
      exact View.read_writes_cons_unit_of_not_mem M.view f inb _ L (ix2 r c) heq 0 (by
        show r.val < o ∨ o + 128 ≤ r.val
        omega)
  · rw [dif_neg hc, add_zero]
    exact View.read_writes_cons_unit_of_not_mem M.view f inb _ L (ix2 r c) heq 1 (by
      show c.val < p ∨ p + 64 ≤ c.val
      omega)

/-- The six windows, read at an entry of the first key head's columns, -/
theorem six_read (M : Memref sig .tc .vmem S2176x128 .f32) (hM : M.IsWhole) (x : Vec Ideal S2176x128 .f32) (i : grid0.Coords)
    (X1 X2 X3 X4 X5 X6 : Vec Ideal S128x64 .f32 → FVec Ideal S128x64 .f32) (A1 A2 A3 A4 A5 A6 : Fin 128 → Fin 64 → EReal)
    (h1 : ∀ l r d, X1 l (ix2 r d) = l (ix2 r d) + A1 r d) (h2 : ∀ l r d, X2 l (ix2 r d) = l (ix2 r d) + A2 r d)
    (h3 : ∀ l r d, X3 l (ix2 r d) = l (ix2 r d) + A3 r d) (h4 : ∀ l r d, X4 l (ix2 r d) = l (ix2 r d) + A4 r d)
    (h5 : ∀ l r d, X5 l (ix2 r d) = l (ix2 r d) + A5 r d) (h6 : ∀ l r d, X6 l (ix2 r d) = l (ix2 r d) + A6 r d)
    (r : Fin 2176) (d : Fin 64) :
    M.view.read (Elt Ideal) (M.view.writes (Elt Ideal) (hM.unread x) (six M (hM.unread x) i X1 X2 X3 X4 X5 X6)) (ix2 r ⟨d.val, by omega⟩)
        = x (ix2 r ⟨d.val, by omega⟩) + placed (A1 · d) (128 * (i 0).val) r.val + placed (A2 · d) (128 * ((i 0).val - 1)) r.val + placed (A3 · d) 0 r.val
    ∧ M.view.read (Elt Ideal) (M.view.writes (Elt Ideal) (hM.unread x) (six M (hM.unread x) i X1 X2 X3 X4 X5 X6)) (ix2 r ⟨64 + d.val, by omega⟩)
        = x (ix2 r ⟨64 + d.val, by omega⟩) + placed (A4 · d) (128 * (i 0).val) r.val + placed (A5 · d) (128 * ((i 0).val - 1)) r.val + placed (A6 · d) 0 r.val := by
  have hd := d.isLt
  unfold six
  dsimp only
  have R1 := rmw_read M (hM.unread x) _ _ (k0_off1_eq i) (k0_off1_inb i) X1 A1 h1 [] [] (fun _ _ _ _ => rfl)
  set L1 := rmw M (hM.unread x) (k0_off1 i) (k0_off1_inb i) X1 [] [] with hL1
  have R2 := rmw_read M (hM.unread x) _ _ (off2_eq i) (k0_off2_inb i) X2 A2 h2 L1 L1 (fun _ _ _ _ => rfl)
  set L2 := rmw M (hM.unread x) (k0_off2 i) (k0_off2_inb i) X2 L1 L1 with hL2
  have R3 := rmw_read M (hM.unread x) _ _ rfl inb_S2176x128_S128x64_0_0 X3 A3 h3 L2 L2 (fun _ _ _ _ => rfl)
  set L3 := rmw M (hM.unread x) ![0, 0] inb_S2176x128_S128x64_0_0 X3 L2 L2 with hL3
  have R4 := rmw_read M (hM.unread x) _ _ (k0_off3_eq i) (k0_off3_inb i) X4 A4 h4 [] L3 (fun r c hc hc' => by
    rw [R3, R2, R1]
    rw [dif_neg (by omega), dif_neg (by omega), dif_neg (by omega)]
    simp only [add_zero])
  set L4 := rmw M (hM.unread x) (k0_off3 i) (k0_off3_inb i) X4 [] L3 with hL4
  have R5 := rmw_read M (hM.unread x) _ _ (off4_eq i) (k0_off4_inb i) X5 A5 h5 L4 L4 (fun _ _ _ _ => rfl)
  set L5 := rmw M (hM.unread x) (k0_off4 i) (k0_off4_inb i) X5 L4 L4 with hL5
  have R6 := rmw_read M (hM.unread x) _ _ rfl inb_S2176x128_S128x64_0_64 X6 A6 h6 L5 L5 (fun _ _ _ _ => rfl)
  have R0 : ∀ y, M.view.read (Elt Ideal) (M.view.writes (Elt Ideal) (hM.unread x) []) y = x y := fun y => congrFun (hM.read_unread x) y
  constructor
  · rw [R6, R5, R4, R3, R2, R1, R0]
    simp only [Nat.zero_le, Nat.zero_add, hd, and_self, ↓reduceDIte, Nat.sub_zero, Fin.eta]
    rw [dif_neg (by omega), dif_neg (by omega), dif_neg (by omega)]
    simp only [add_zero]
  · rw [R6, R5, R4, R3, R2, R1, R0]
    rw [dif_neg (by simp only; omega), dif_neg (by simp only; omega), dif_neg (by simp only; omega), dif_pos (by simp only; omega), dif_pos (by simp only; omega), dif_pos (by simp only; omega)]
    simp only [add_zero, Nat.add_sub_cancel_left, Fin.eta]

end Cert.AttnIdeal.Hand

end
-- ==== Proof.AttnArr.lean ====
/- The attention gradient's four results: what the seventeen points leave in the query gradient's blocks and in the three
   accumulators, in terms of the argument arrays. -/
module

public import proofs.«01_k».proof.Proof.AttnVals
public import proofs.«01_k».proof.Proof.AttnSix

@[expose] public section

set_option maxRecDepth 16384

noncomputable section

namespace Cert.AttnIdeal.Hand

open Idealize.ShloMosaic Idealize.ShloMosaic.TcCoe Idealize.ShloMosaic.Tactic Idealize.SL.Sem
open Cert.AttnIdeal Cert.AttnIdeal.Gen
open Attn

variable (m : (ℓ : Loc nD τ sig) → Buf (Elt Ideal) ℓ)

/-- The argument arrays. -/
def args (c : Dev nD) : Args := Args.of
  (fun t x => (V m c main_arg0 : S2176x512.Idx → EReal) (ix2 t x))
  (fun t x => (V m c main_arg1 : S2176x128.Idx → EReal) (ix2 t x))
  (fun t x => (V m c main_arg2 : S2176x128.Idx → EReal) (ix2 t x))
  (fun x => (V m c main_arg3 : S1x8.Idx → EReal) (ix2 0 x))
  (fun t x => (V m c main_arg4 : S2176x512.Idx → EReal) (ix2 t x))

/-- The block of tokens of a point. -/
def blkOf (t : Fin cfg0.N) : Fin 17 := ⟨t.val, lt_of_lt_of_eq t.isLt N_0⟩

theorem coords_val : ∀ t : Fin cfg0.N, (grid0.coords t 0).val = t.val :=
  (by decide +kernel : ∀ t : Fin grid0.N, (grid0.coords t 0).val = t.val)

/-- Where the windows' blocks lie. -/
theorem idx : ∀ t : Fin cfg0.N, (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = t.val - 1 ∧ win0_3.index t 1 = 0)
    ∧ (win0_4.index t 0 = 0 ∧ win0_4.index t 1 = 0) ∧ (win0_5.index t 0 = t.val ∧ win0_5.index t 1 = 0)
    ∧ (win0_6.index t 0 = t.val - 1 ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0) :=
  (by decide +kernel : ∀ t : Fin grid0.N, (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = t.val - 1 ∧ win0_3.index t 1 = 0)
    ∧ (win0_4.index t 0 = 0 ∧ win0_4.index t 1 = 0) ∧ (win0_5.index t 0 = t.val ∧ win0_5.index t 1 = 0)
    ∧ (win0_6.index t 0 = t.val - 1 ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0))

/-- A two-axis array read at indices with the same coordinates. -/
theorem read2 {S : Shape} (f : S.Idx → EReal) (i j : S.Idx) (h : ∀ a, (i a).val = (j a).val) : f i = f j :=
  congrArg f (funext fun a => Fin.ext (h a))

/-- A head of the queries, read from its buffer. -/
theorem q_read (c : Dev nD) (t : Fin cfg0.N) (p : ℕ) (inb) (r : Fin 128) (d : Fin 64) (h : p + d.val < 512) :
    View.readAt (Elt Ideal) (ms1 t).view (Rect.unit (s := S128x512) ![0, p] S128x64.size inb).toLoadRect ((hs1 t).unread (iblk m c 1 t)) (ix2 r d)
      = (V m c main_arg0 : S2176x512.Idx → EReal) (ix2 (row (blkOf t) r) ⟨p + d.val, h⟩) := by
  have := idx t
  rw [View.readAt_apply]
  refine (congrFun ((hs1 t).read_unread _) _).trans ?_
  unfold iblk
  rw [View.read_apply]
  refine read2 (S := S2176x512) (V m c main_arg0) _ _ fun a => ?_
  match a with
  | ⟨0, _⟩ => show win0_1.index t 0 * 128 + 1 * (0 + 1 * r.val) = 128 * ((blkOf t) : Fin 17).val + r.val; simp only [blkOf, prev, Fin.val_zero]; omega
  | ⟨1, _⟩ => show win0_1.index t 1 * 512 + 1 * (p + 1 * d.val) = p + d.val; omega

/-- A head of the output's gradient. -/
theorem o_read (c : Dev nD) (t : Fin cfg0.N) (p : ℕ) (inb) (r : Fin 128) (d : Fin 64) (h : p + d.val < 512) :
    View.readAt (Elt Ideal) (ms8 t).view (Rect.unit (s := S128x512) ![0, p] S128x64.size inb).toLoadRect ((hs8 t).unread (iblk m c 8 t)) (ix2 r d)
      = (V m c main_arg4 : S2176x512.Idx → EReal) (ix2 (row (blkOf t) r) ⟨p + d.val, h⟩) := by
  have := idx t
  rw [View.readAt_apply]
  refine (congrFun ((hs8 t).read_unread _) _).trans ?_
  unfold iblk
  rw [View.read_apply]
  refine read2 (S := S2176x512) (V m c main_arg4) _ _ fun a => ?_
  match a with
  | ⟨0, _⟩ => show win0_8.index t 0 * 128 + 1 * (0 + 1 * r.val) = 128 * ((blkOf t) : Fin 17).val + r.val; simp only [blkOf, prev, Fin.val_zero]; omega
  | ⟨1, _⟩ => show win0_8.index t 1 * 512 + 1 * (p + 1 * d.val) = p + d.val; omega

/-- A head of the current block of keys, -/
theorem kc_read (c : Dev nD) (t : Fin cfg0.N) (p : ℕ) (inb) (r : Fin 128) (d : Fin 64) (h : p + d.val < 128) :
    View.readAt (Elt Ideal) (ms2 t).view (Rect.unit (s := S128x128) ![0, p] S128x64.size inb).toLoadRect ((hs2 t).unread (iblk m c 2 t)) (ix2 r d)
      = (V m c main_arg1 : S2176x128.Idx → EReal) (ix2 (row (blkOf t) r) ⟨p + d.val, h⟩) := by
  have := idx t
  rw [View.readAt_apply]
  refine (congrFun ((hs2 t).read_unread _) _).trans ?_
  unfold iblk
  rw [View.read_apply]
  refine read2 (S := S2176x128) (V m c main_arg1) _ _ fun a => ?_
  match a with
  | ⟨0, _⟩ => show win0_2.index t 0 * 128 + 1 * (0 + 1 * r.val) = 128 * ((blkOf t) : Fin 17).val + r.val; simp only [blkOf, prev, Fin.val_zero]; omega
  | ⟨1, _⟩ => show win0_2.index t 1 * 128 + 1 * (p + 1 * d.val) = p + d.val; omega

/-- of the previous one, -/
theorem kp_read (c : Dev nD) (t : Fin cfg0.N) (p : ℕ) (inb) (r : Fin 128) (d : Fin 64) (h : p + d.val < 128) :
    View.readAt (Elt Ideal) (ms3 t).view (Rect.unit (s := S128x128) ![0, p] S128x64.size inb).toLoadRect ((hs3 t).unread (iblk m c 3 t)) (ix2 r d)
      = (V m c main_arg1 : S2176x128.Idx → EReal) (ix2 (row (prev (blkOf t)) r) ⟨p + d.val, h⟩) := by
  have := idx t
  rw [View.readAt_apply]
  refine (congrFun ((hs3 t).read_unread _) _).trans ?_
  unfold iblk
  rw [View.read_apply]
  refine read2 (S := S2176x128) (V m c main_arg1) _ _ fun a => ?_
  match a with
  | ⟨0, _⟩ => show win0_3.index t 0 * 128 + 1 * (0 + 1 * r.val) = 128 * ((prev (blkOf t)) : Fin 17).val + r.val; simp only [blkOf, prev, Fin.val_zero]; omega
  | ⟨1, _⟩ => show win0_3.index t 1 * 128 + 1 * (p + 1 * d.val) = p + d.val; omega

/-- and of the first. -/
theorem km_read (c : Dev nD) (t : Fin cfg0.N) (p : ℕ) (inb) (r : Fin 128) (d : Fin 64) (h : p + d.val < 128) :
    View.readAt (Elt Ideal) (ms4 t).view (Rect.unit (s := S128x128) ![0, p] S128x64.size inb).toLoadRect ((hs4 t).unread (iblk m c 4 t)) (ix2 r d)
      = (V m c main_arg1 : S2176x128.Idx → EReal) (ix2 (row 0 r) ⟨p + d.val, h⟩) := by
  have := idx t
  rw [View.readAt_apply]
  refine (congrFun ((hs4 t).read_unread _) _).trans ?_
  unfold iblk
  rw [View.read_apply]
  refine read2 (S := S2176x128) (V m c main_arg1) _ _ fun a => ?_
  match a with
  | ⟨0, _⟩ => show win0_4.index t 0 * 128 + 1 * (0 + 1 * r.val) = 128 * (0 : Fin 17).val + r.val; simp only [blkOf, prev, Fin.val_zero]; omega
  | ⟨1, _⟩ => show win0_4.index t 1 * 128 + 1 * (p + 1 * d.val) = p + d.val; omega

/-- A head of the current block of values, -/
theorem vc_read (c : Dev nD) (t : Fin cfg0.N) (p : ℕ) (inb) (r : Fin 128) (d : Fin 64) (h : p + d.val < 128) :
    View.readAt (Elt Ideal) (ms5 t).view (Rect.unit (s := S128x128) ![0, p] S128x64.size inb).toLoadRect ((hs5 t).unread (iblk m c 5 t)) (ix2 r d)
      = (V m c main_arg2 : S2176x128.Idx → EReal) (ix2 (row (blkOf t) r) ⟨p + d.val, h⟩) := by
  have := idx t
  rw [View.readAt_apply]
  refine (congrFun ((hs5 t).read_unread _) _).trans ?_
  unfold iblk
  rw [View.read_apply]
  refine read2 (S := S2176x128) (V m c main_arg2) _ _ fun a => ?_
  match a with
  | ⟨0, _⟩ => show win0_5.index t 0 * 128 + 1 * (0 + 1 * r.val) = 128 * ((blkOf t) : Fin 17).val + r.val; simp only [blkOf, prev, Fin.val_zero]; omega
  | ⟨1, _⟩ => show win0_5.index t 1 * 128 + 1 * (p + 1 * d.val) = p + d.val; omega

/-- of the previous one, -/
theorem vp_read (c : Dev nD) (t : Fin cfg0.N) (p : ℕ) (inb) (r : Fin 128) (d : Fin 64) (h : p + d.val < 128) :
    View.readAt (Elt Ideal) (ms6 t).view (Rect.unit (s := S128x128) ![0, p] S128x64.size inb).toLoadRect ((hs6 t).unread (iblk m c 6 t)) (ix2 r d)
      = (V m c main_arg2 : S2176x128.Idx → EReal) (ix2 (row (prev (blkOf t)) r) ⟨p + d.val, h⟩) := by
  have := idx t
  rw [View.readAt_apply]
  refine (congrFun ((hs6 t).read_unread _) _).trans ?_
  unfold iblk
  rw [View.read_apply]
  refine read2 (S := S2176x128) (V m c main_arg2) _ _ fun a => ?_
  match a with
  | ⟨0, _⟩ => show win0_6.index t 0 * 128 + 1 * (0 + 1 * r.val) = 128 * ((prev (blkOf t)) : Fin 17).val + r.val; simp only [blkOf, prev, Fin.val_zero]; omega
  | ⟨1, _⟩ => show win0_6.index t 1 * 128 + 1 * (p + 1 * d.val) = p + d.val; omega

/-- and of the first. -/
theorem vm_read (c : Dev nD) (t : Fin cfg0.N) (p : ℕ) (inb) (r : Fin 128) (d : Fin 64) (h : p + d.val < 128) :
    View.readAt (Elt Ideal) (ms7 t).view (Rect.unit (s := S128x128) ![0, p] S128x64.size inb).toLoadRect ((hs7 t).unread (iblk m c 7 t)) (ix2 r d)
      = (V m c main_arg2 : S2176x128.Idx → EReal) (ix2 (row 0 r) ⟨p + d.val, h⟩) := by
  have := idx t
  rw [View.readAt_apply]
  refine (congrFun ((hs7 t).read_unread _) _).trans ?_
  unfold iblk
  rw [View.read_apply]
  refine read2 (S := S2176x128) (V m c main_arg2) _ _ fun a => ?_
  match a with
  | ⟨0, _⟩ => show win0_7.index t 0 * 128 + 1 * (0 + 1 * r.val) = 128 * (0 : Fin 17).val + r.val; simp only [blkOf, prev, Fin.val_zero]; omega
  | ⟨1, _⟩ => show win0_7.index t 1 * 128 + 1 * (p + 1 * d.val) = p + d.val; omega

/-- A sink. -/
theorem s_read (c : Dev nD) (t : Fin cfg0.N) (p : ℕ) (inb) (h : p < 8) (hp) :
    View.readAt (Elt Ideal) (ms0 t).view (Rect.unit (s := S1x8) ![0, p] S1x1.size inb).toLoadRect ((hs0 t).unread (iblk m c 0 t)) (Shape.Idx.first hp)
      = (V m c main_arg3 : S1x8.Idx → EReal) (ix2 0 ⟨p, h⟩) := by
  have := idx t
  rw [View.readAt_apply]
  refine (congrFun ((hs0 t).read_unread _) _).trans ?_
  unfold iblk
  rw [View.read_apply]
  refine read2 (S := S1x8) (V m c main_arg3) _ _ fun a => ?_
  match a with
  | ⟨0, _⟩ => show win0_0.index t 0 * 1 + 1 * (0 + 1 * 0) = 0; omega
  | ⟨1, _⟩ => show win0_0.index t 1 * 8 + 1 * (p + 1 * 0) = p; omega

theorem is0 (c : Dev nD) (t : Fin cfg0.N) : (grp0 m c t).Is (args m c) (blkOf t) 0 where
  q0 r d := q_read m c t 0 _ r d (by omega)
  q1 r d := q_read m c t 64 _ r d (by omega)
  q2 r d := q_read m c t 128 _ r d (by omega)
  q3 r d := q_read m c t 192 _ r d (by omega)
  o0 r d := o_read m c t 0 _ r d (by omega)
  o1 r d := o_read m c t 64 _ r d (by omega)
  o2 r d := o_read m c t 128 _ r d (by omega)
  o3 r d := o_read m c t 192 _ r d (by omega)
  kc r d := kc_read m c t 0 _ r d (by omega)
  kp r d := kp_read m c t 0 _ r d (by omega)
  km r d := km_read m c t 0 _ r d (by omega)
  vc r d := vc_read m c t 0 _ r d (by omega)
  vp r d := vp_read m c t 0 _ r d (by omega)
  vm r d := vm_read m c t 0 _ r d (by omega)
  s0 := s_read m c t 0 _ (by omega) _
  s1 := s_read m c t 1 _ (by omega) _
  s2 := s_read m c t 2 _ (by omega) _
  s3 := s_read m c t 3 _ (by omega) _

theorem is1 (c : Dev nD) (t : Fin cfg0.N) : (grp1 m c t).Is (args m c) (blkOf t) 1 where
  q0 r d := q_read m c t 256 _ r d (by omega)
  q1 r d := q_read m c t 320 _ r d (by omega)
  q2 r d := q_read m c t 384 _ r d (by omega)
  q3 r d := q_read m c t 448 _ r d (by omega)
  o0 r d := o_read m c t 256 _ r d (by omega)
  o1 r d := o_read m c t 320 _ r d (by omega)
  o2 r d := o_read m c t 384 _ r d (by omega)
  o3 r d := o_read m c t 448 _ r d (by omega)
  kc r d := kc_read m c t 64 _ r d (by omega)
  kp r d := kp_read m c t 64 _ r d (by omega)
  km r d := km_read m c t 64 _ r d (by omega)
  vc r d := vc_read m c t 64 _ r d (by omega)
  vp r d := vp_read m c t 64 _ r d (by omega)
  vm r d := vm_read m c t 64 _ r d (by omega)
  s0 := s_read m c t 4 _ (by omega) _
  s1 := s_read m c t 5 _ (by omega) _
  s2 := s_read m c t 6 _ (by omega) _
  s3 := s_read m c t 7 _ (by omega) _

end Cert.AttnIdeal.Hand

end
-- ==== Proof.AttnAcc.lean ====
/- One point's share of the attention's four gradients, and the three accumulators after all seventeen. -/
module

public import proofs.«01_k».proof.Proof.AttnArr

@[expose] public section

set_option maxRecDepth 16384

noncomputable section

namespace Cert.AttnIdeal.Hand

open Idealize.ShloMosaic Idealize.ShloMosaic.TcCoe Idealize.ShloMosaic.Tactic Idealize.SL.Sem
open Cert.AttnIdeal Cert.AttnIdeal.Gen
open Attn

/-! ### Stacked rows -/

/-- Row `r` of stacked head `j`. -/
def stk (j : Fin 4) (r : Fin 128) : Fin 512 := ⟨128 * j.val + r.val, by omega⟩

theorem tok_stk (n : Fin 17) (j : Fin 4) (r : Fin 128) : tok n (stk j r) = row n r := by
  unfold tok stk; exact congrArg (row n) (Fin.ext (by show (128 * j.val + r.val) % 128 = r.val; omega))

theorem head_stk (g : Fin 2) (j : Fin 4) (r : Fin 128) : head g (stk j r) = Args.hd g j := by
  unfold head stk; exact congrArg (Args.hd g) (Fin.ext (by show (128 * j.val + r.val) / 128 = j.val; omega))

def stkEquiv : Fin 4 × Fin 128 ≃ Fin 512 where
  toFun x := stk x.1 x.2
  invFun s := (⟨s.val / 128, by omega⟩, ⟨s.val % 128, by omega⟩)
  left_inv x := Prod.ext (Fin.ext (by show (128 * x.1.val + x.2.val) / 128 = x.1.val; omega))
    (Fin.ext (by show (128 * x.1.val + x.2.val) % 128 = x.2.val; omega))
  right_inv s := Fin.ext (by show 128 * (s.val / 128) + s.val % 128 = s.val; omega)

theorem sum_stk (f : Fin 512 → EReal) : ∑ R, f R = ∑ j : Fin 4, ∑ r : Fin 128, f (stk j r) := by
  rw [← Equiv.sum_comp stkEquiv, Fintype.sum_prod_type]; rfl

/-! ### Windows -/

theorem placed_row (A : Fin 128 → EReal) (b k : Fin 17) (c : Fin 128) : placed A (128 * b.val) (row k c).val = if k = b then A c else 0 := by
  unfold placed row
  have hc := c.isLt
  by_cases h : k = b
  · subst h
    rw [if_pos rfl, dif_pos (by dsimp only; omega)]
    exact congrArg A (Fin.ext (by dsimp only; omega))
  · have : k.val ≠ b.val := fun e => h (Fin.ext e)
    rw [if_neg h, dif_neg (by dsimp only; omega)]

/-- The three windows' addends are, together, what every row gains. -/
theorem placed_blocks (n : Fin 17) (W : Fin 2176 → EReal) (A1 A2 A3 : Fin 128 → EReal) (h1 : ∀ r, A1 r = W (row n r))
    (h2 : ∀ r, A2 r = if 2 ≤ n.val then W (row (prev n) r) else 0) (h3 : ∀ r, A3 r = if 1 ≤ n.val then W (row 0 r) else 0)
    (hW : ∀ b r, b ≠ n → ¬ (2 ≤ n.val ∧ b = prev n) → ¬ (1 ≤ n.val ∧ b = 0) → W (row b r) = 0) (x : EReal) (s : Fin 2176) :
    x + placed A1 (128 * n.val) s.val + placed A2 (128 * (n.val - 1)) s.val + placed A3 0 s.val = x + W s := by
  obtain ⟨⟨k, c⟩, rfl⟩ := rowEquiv.surjective s
  show x + placed A1 (128 * n.val) (row k c).val + placed A2 (128 * (prev n).val) (row k c).val + placed A3 (128 * (0 : Fin 17).val) (row k c).val = x + W (row k c)
  rw [placed_row, placed_row, placed_row, h1, h2, h3]
  have hp : (prev n).val = n.val - 1 := rfl
  have h0 : (0 : Fin 17).val = 0 := rfl
  by_cases e1 : k = n
  · have e2 : (if k = prev n then (if 2 ≤ n.val then W (row (prev n) c) else 0) else 0) = 0 := by
      split_ifs with h h'
      · have := congrArg Fin.val h; have := congrArg Fin.val e1; omega
      · rfl
      · rfl
    have e3 : (if k = 0 then (if 1 ≤ n.val then W (row 0 c) else 0) else 0) = 0 := by
      split_ifs with h h'
      · have := congrArg Fin.val h; have := congrArg Fin.val e1; omega
      · rfl
      · rfl
    rw [e2, e3, if_pos e1, add_zero, add_zero, e1]
  · rw [if_neg e1, add_zero]
    by_cases e2 : 2 ≤ n.val ∧ k = prev n
    · rw [if_pos e2.2, if_pos e2.1, if_neg (fun h => by have := congrArg Fin.val h; have := congrArg Fin.val e2.2; omega), add_zero, e2.2]
    · have e2' : (if k = prev n then (if 2 ≤ n.val then W (row (prev n) c) else 0) else 0) = 0 := by
        split_ifs with h h'
        · exact absurd ⟨h', h⟩ e2
        · rfl
        · rfl
      rw [e2', add_zero]
      by_cases e3 : 1 ≤ n.val ∧ k = 0
      · rw [if_pos e3.2, if_pos e3.1, e3.2]
      · rw [hW k c e1 e2 e3]
        split_ifs with h h'
        · exact absurd ⟨h', h⟩ e3
        · rfl
        · rfl

/-! ### A point's share -/

section Share
variable {b : Grp Ideal} {A : Args} {n : Fin 17} {g : Fin 2} (i : grid0.Coords)

/-- Of the keys' gradient, -/
def dkW (A : Args) (n : Fin 17) (g : Fin 2) (d : Fin 64) (s : Fin 2176) : EReal :=
  ∑ R : Fin 512, A.ds (tok n R) s (head g R) * A.q (tok n R) (head g R) d
/-- of the values', -/
def dvW (A : Args) (n : Fin 17) (g : Fin 2) (d : Fin 64) (s : Fin 2176) : EReal :=
  ∑ R : Fin 512, A.p (tok n R) s (head g R) * A.o (tok n R) (head g R) d
/-- and of a sink's. -/
def dskW (A : Args) (n : Fin 17) (h : Fin 8) : EReal := 0 - ∑ r : Fin 128, A.ps (row n r) h * A.delta (row n r) h

theorem pay46 (qg : Vec Ideal S512x64 .bf16) (ds : Vec Ideal S512x128 .bf16) (l : Vec Ideal S128x64 .f32) (r : Fin 128) (d : Fin 64) :
    k0_pay46 qg ds l (ix2 r d) = l (ix2 r d) + ∑ R : Fin 512, ds (ix2 R r) * qg (ix2 R d) := by
  pointwise [k0_pay46]
theorem pay48 (qg : Vec Ideal S512x64 .bf16) (ds : Vec Ideal S512x128 .bf16) (l : Vec Ideal S128x64 .f32) (r : Fin 128) (d : Fin 64) :
    k0_pay48 qg ds l (ix2 r d) = l (ix2 r d) + ∑ R : Fin 512, ds (ix2 R r) * qg (ix2 R d) := by
  pointwise [k0_pay48]
theorem pay50 (qg : Vec Ideal S512x64 .bf16) (ds : Vec Ideal S512x128 .bf16) (l : Vec Ideal S128x64 .f32) (r : Fin 128) (d : Fin 64) :
    k0_pay50 qg ds l (ix2 r d) = l (ix2 r d) + ∑ R : Fin 512, ds (ix2 R r) * qg (ix2 R d) := by
  pointwise [k0_pay50]
theorem pay45 (qg : Vec Ideal S512x64 .bf16) (ds : Vec Ideal S512x128 .f32) (l : Vec Ideal S128x64 .f32) (r : Fin 128) (d : Fin 64) :
    k0_pay45 qg ds l (ix2 r d) = l (ix2 r d) + ∑ R : Fin 512, ds (ix2 R r) * qg (ix2 R d) := by
  pointwise [k0_pay45]
theorem pay47 (qg : Vec Ideal S512x64 .bf16) (ds : Vec Ideal S512x128 .f32) (l : Vec Ideal S128x64 .f32) (r : Fin 128) (d : Fin 64) :
    k0_pay47 qg ds l (ix2 r d) = l (ix2 r d) + ∑ R : Fin 512, ds (ix2 R r) * qg (ix2 R d) := by
  pointwise [k0_pay47]
theorem pay49 (qg : Vec Ideal S512x64 .bf16) (ds : Vec Ideal S512x128 .f32) (l : Vec Ideal S128x64 .f32) (r : Fin 128) (d : Fin 64) :
    k0_pay49 qg ds l (ix2 r d) = l (ix2 r d) + ∑ R : Fin 512, ds (ix2 R r) * qg (ix2 R d) := by
  pointwise [k0_pay49]

/-- What a window's addend is, from the entries of the array it is formed of. -/
theorem addend (x : Fin 512 → Fin 128 → EReal) (y f : Fin 512 → EReal) (w : Fin 512 → EReal) (r : Fin 128) (p : Prop) [Decidable p]
    (hx : ∀ R, x R r = if p then w R else 0) (hy : ∀ R, y R = f R) :
    ∑ R, x R r * y R = if p then ∑ R, w R * f R else 0 := by
  split_ifs with h
  · exact Finset.sum_congr rfl fun R _ => by rw [hx, hy, if_pos h]
  · exact Finset.sum_eq_zero fun R _ => by rw [hx, if_neg h, zero_mul]

/-- The keys' gradient gains a point's share in every row, -/
theorem dk_share (h : b.Is A n g) (hi : (i 0).val = n.val) (x : EReal) (d : Fin 64) (s : Fin 2176) :
    x + placed (fun r => ∑ R : Fin 512, b.dsc i (ix2 R r) * b.qg (ix2 R d)) (128 * (i 0).val) s.val
      + placed (fun r => ∑ R : Fin 512, b.dsp i (ix2 R r) * b.qg (ix2 R d)) (128 * ((i 0).val - 1)) s.val
      + placed (fun r => ∑ R : Fin 512, b.dsm i (ix2 R r) * b.qg (ix2 R d)) 0 s.val = x + dkW A n g d s := by
  rw [hi]
  refine placed_blocks n (dkW A n g d) _ _ _ (fun r => ?_) (fun r => ?_) (fun r => ?_) (fun k r h1 h2 h3 => ?_) x s
  · exact Finset.sum_congr rfl fun R _ => by rw [dsc_apply i h hi, qg_apply h]
  · exact addend (fun R r => b.dsp i (ix2 R r)) _ _ _ r _ (fun R => dsp_apply i h hi R r) (fun R => qg_apply h R d)
  · exact addend (fun R r => b.dsm i (ix2 R r)) _ _ _ r _ (fun R => dsm_apply i h hi R r) (fun R => qg_apply h R d)
  · exact Finset.sum_eq_zero fun R _ => by unfold tok; rw [Args.ds_of_not (not_ok n k _ r h1 h2 h3), zero_mul]

/-- and so does the values'. -/
theorem dv_share (h : b.Is A n g) (hi : (i 0).val = n.val) (x : EReal) (d : Fin 64) (s : Fin 2176) :
    x + placed (fun r => ∑ R : Fin 512, b.pc i (ix2 R r) * b.og (ix2 R d)) (128 * (i 0).val) s.val
      + placed (fun r => ∑ R : Fin 512, b.pp i (ix2 R r) * b.og (ix2 R d)) (128 * ((i 0).val - 1)) s.val
      + placed (fun r => ∑ R : Fin 512, b.pm i (ix2 R r) * b.og (ix2 R d)) 0 s.val = x + dvW A n g d s := by
  rw [hi]
  refine placed_blocks n (dvW A n g d) _ _ _ (fun r => ?_) (fun r => ?_) (fun r => ?_) (fun k r h1 h2 h3 => ?_) x s
  · exact Finset.sum_congr rfl fun R _ => by rw [pc_apply i h hi, og_apply h]
  · exact addend (fun R r => b.pp i (ix2 R r)) _ _ _ r _ (fun R => pp_apply i h hi R r) (fun R => og_apply h R d)
  · exact addend (fun R r => b.pm i (ix2 R r)) _ _ _ r _ (fun R => pm_apply i h hi R r) (fun R => og_apply h R d)
  · exact Finset.sum_eq_zero fun R _ => by unfold tok; rw [Args.p_of_not (not_ok n k _ r h1 h2 h3), zero_mul]

/-- A sink's lane gains its point's share. -/
theorem sinkStep_apply (h : b.Is A n g) (hi : (i 0).val = n.val) (l hh : ℕ) (hl : l < 128) (j : Fin 4) (hj : j.val = hh) (a : FVec Ideal S1x128 .f32) (x : Fin 128) :
    sinkStep (BitVec.ofNat 32 l) (BitVec.ofNat 32 hh) (b.ps i) (b.delta i) a (ix2 0 x) = a (ix2 0 x) + if x.val = l then dskW A n (Args.hd g j) else 0 := by
  pointwise [sinkStep]
  have hx := x.isLt
  have hj' := j.isLt
  rw [eq_small (by omega) (by omega), select_bit]
  refine congrArg (a (ix2 0 x) + ·) (if_congr Iff.rfl ?_ rfl)
  unfold dskW
  refine congrArg (0 - ·) ?_
  simp only [Finset.univ_unique, Finset.sum_const, Finset.card_singleton, one_smul]
  rw [sum_stk, Finset.sum_eq_single j]
  · refine Finset.sum_congr rfl fun r _ => ?_
    have hr := r.isLt
    rw [pay10_apply, eq_small (by have := (stk j r).isLt; omega) (by omega), select_bit, ps_apply i h hi, delta_apply i h hi, tok_stk, head_stk,
      if_pos (by show (128 * j.val + r.val) / 128 = hh; omega)]
  · intro k _ hk
    refine Finset.sum_eq_zero fun r _ => ?_
    have hr := r.isLt
    have : k.val ≠ j.val := fun e => hk (Fin.ext e)
    rw [pay10_apply, eq_small (by have := (stk k r).isLt; omega) (by omega), select_bit,
      if_neg (by show ¬ (128 * k.val + r.val) / 128 = hh; omega)]
  · exact fun h => absurd (Finset.mem_univ _) h

theorem pay1_apply' (a l : FVec Ideal S1x128 .f32) (x : Fin 128) : k0_pay1 a l (ix2 0 x) = l (ix2 0 x) + a (ix2 0 x) := by
  pointwise [k0_pay1]

theorem pay9_apply' (x : Fin 128) : k0_pay9 (F := Ideal) (ix2 0 x) = 0 := by
  pointwise [k0_pay9]

end Share

/-! ### The accumulators -/

variable (m : (ℓ : Loc nD τ sig) → Buf (Elt Ideal) ℓ)

/-- A head's column. -/
def col (g : Fin 2) (d : Fin 64) : Fin 128 := ⟨64 * g.val + d.val, by omega⟩

theorem hi (t : Fin cfg0.N) : (grid0.coords t 0).val = (blkOf t).val := coords_val t

theorem step_dk (c : Dev nD) (t : Fin cfg0.N) (a : Acc Ideal) (s : Fin 2176) (g : Fin 2) (d : Fin 64) :
    (stepAt m c t a).1 (ix2 s (col g d)) = a.1 (ix2 s (col g d)) + dkW (args m c) (blkOf t) g d s := by
  unfold stepAt
  dsimp only
  rw [run_dk]
  have H := six_read (ms10 t) (hs10 t) a.1 (grid0.coords t) _ _ _ _ _ _ _ _ _ _ _ _
    (fun l r d => pay46 (grp0 m c t).qg ((grp0 m c t).dsc (grid0.coords t)) l r d) (fun l r d => pay48 (grp0 m c t).qg ((grp0 m c t).dsp (grid0.coords t)) l r d)
    (fun l r d => pay50 (grp0 m c t).qg ((grp0 m c t).dsm (grid0.coords t)) l r d)
    (fun l r d => pay46 (grp1 m c t).qg ((grp1 m c t).dsc (grid0.coords t)) l r d) (fun l r d => pay48 (grp1 m c t).qg ((grp1 m c t).dsp (grid0.coords t)) l r d)
    (fun l r d => pay50 (grp1 m c t).qg ((grp1 m c t).dsm (grid0.coords t)) l r d) s d
  match g with
  | 0 =>
    rw [show col 0 d = ⟨d.val, by omega⟩ from Fin.ext (by show 64 * 0 + d.val = d.val; omega)]
    exact H.1.trans (dk_share (grid0.coords t) (is0 m c t) (hi t) _ d s)
  | 1 => exact H.2.trans (dk_share (grid0.coords t) (is1 m c t) (hi t) _ d s)

theorem step_dv (c : Dev nD) (t : Fin cfg0.N) (a : Acc Ideal) (s : Fin 2176) (g : Fin 2) (d : Fin 64) :
    (stepAt m c t a).2.1 (ix2 s (col g d)) = a.2.1 (ix2 s (col g d)) + dvW (args m c) (blkOf t) g d s := by
  unfold stepAt
  dsimp only
  rw [run_dv]
  have H := six_read (ms11 t) (hs11 t) a.2.1 (grid0.coords t) _ _ _ _ _ _ _ _ _ _ _ _
    (fun l r d => pay45 (grp0 m c t).og ((grp0 m c t).pc (grid0.coords t)) l r d) (fun l r d => pay47 (grp0 m c t).og ((grp0 m c t).pp (grid0.coords t)) l r d)
    (fun l r d => pay49 (grp0 m c t).og ((grp0 m c t).pm (grid0.coords t)) l r d)
    (fun l r d => pay45 (grp1 m c t).og ((grp1 m c t).pc (grid0.coords t)) l r d) (fun l r d => pay47 (grp1 m c t).og ((grp1 m c t).pp (grid0.coords t)) l r d)
    (fun l r d => pay49 (grp1 m c t).og ((grp1 m c t).pm (grid0.coords t)) l r d) s d
  match g with
  | 0 =>
    rw [show col 0 d = ⟨d.val, by omega⟩ from Fin.ext (by show 64 * 0 + d.val = d.val; omega)]
    exact H.1.trans (dv_share (grid0.coords t) (is0 m c t) (hi t) _ d s)
  | 1 => exact H.2.trans (dv_share (grid0.coords t) (is1 m c t) (hi t) _ d s)

/-- A lane's share: the sink's of its head, none beyond the eighth. -/
def laneW (A : Args) (n : Fin 17) (x : Fin 128) : EReal := if h : x.val < 8 then dskW A n ⟨x.val, h⟩ else 0

theorem step_dsk (c : Dev nD) (t : Fin cfg0.N) (a : Acc Ideal) (x : Fin 128) :
    (stepAt m c t a).2.2 (ix2 0 x) = a.2.2 (ix2 0 x) + laneW (args m c) (blkOf t) x := by
  unfold stepAt
  dsimp only
  rw [run_dsk]
  refine (View.read_writes_cons_unit_of_mem (ms12 t).view ((hs12 t).unread a.2.2) inb_S1x128_S1x128_0_0 _ [] (ix2 0 x) (ix2 0 x) rfl ?_).trans ?_
  · intro y
    match y with
    | ⟨0, _⟩ => rfl
    | ⟨1, _⟩ => show x.val = 0 + x.val; omega
  rw [pay1_apply', View.readAt_apply]
  have z0 := fun l hh hl j hj a => sinkStep_apply (grid0.coords t) (is0 m c t) (hi t) l hh hl j hj a x
  have z1 := fun l hh hl j hj a => sinkStep_apply (grid0.coords t) (is1 m c t) (hi t) l hh hl j hj a x
  refine congrArg₂ (· + ·) ?_ ?_
  · refine (congrFun ((hs12 t).read_unread _) _).trans (read2 (S := S1x128) _ _ _ fun y => ?_)
    match y with
    | ⟨0, _⟩ => rfl
    | ⟨1, _⟩ => show 0 + 1 * x.val = x.val; omega
  rw [z1 7 3 (by norm_num) 3 rfl, z1 6 2 (by norm_num) 2 rfl, z1 5 1 (by norm_num) 1 rfl, z1 4 0 (by norm_num) 0 rfl,
    z0 3 3 (by norm_num) 3 rfl, z0 2 2 (by norm_num) 2 rfl, z0 1 1 (by norm_num) 1 rfl, z0 0 0 (by norm_num) 0 rfl, pay9_apply']
  obtain ⟨x, hx⟩ := x
  unfold laneW
  by_cases h : x < 8
  · rw [dif_pos h]
    interval_cases x <;> simp <;> rfl
  · rw [dif_neg h]
    dsimp only
    iterate 8 rw [if_neg (by omega), add_zero]

/-- Before point `n` the accumulators hold the shares of the points before. -/
theorem acc_eq (c : Dev nD) : ∀ (n : ℕ) (h : n ≤ cfg0.N),
    (∀ s g d, (acc m c n h).1 (ix2 s (col g d)) = ∑ k : Fin n, dkW (args m c) (blkOf ⟨k.val, lt_of_lt_of_le k.isLt h⟩) g d s)
    ∧ (∀ s g d, (acc m c n h).2.1 (ix2 s (col g d)) = ∑ k : Fin n, dvW (args m c) (blkOf ⟨k.val, lt_of_lt_of_le k.isLt h⟩) g d s)
    ∧ (∀ x, (acc m c n h).2.2 (ix2 0 x) = ∑ k : Fin n, laneW (args m c) (blkOf ⟨k.val, lt_of_lt_of_le k.isLt h⟩) x)
  | 0, h => by
    refine ⟨fun s g d => ?_, fun s g d => ?_, fun x => ?_⟩ <;> unfold acc <;> simp only [Finset.univ_eq_empty, Finset.sum_empty]
    · pointwise [k0_pay2]
    · pointwise [k0_pay3]
    · pointwise [k0_pay4]
  | n + 1, h => by
    obtain ⟨e1, e2, e3⟩ := acc_eq c n (Nat.le_of_succ_le h)
    refine ⟨fun s g d => ?_, fun s g d => ?_, fun x => ?_⟩ <;> unfold acc
    · rw [step_dk, e1, Fin.sum_univ_castSucc]; rfl
    · rw [step_dv, e2, Fin.sum_univ_castSucc]; rfl
    · rw [step_dsk, e3, Fin.sum_univ_castSucc]; rfl

/-! ### The query gradient's block -/

/-- One piece over others, read at an entry. -/
theorem piece_read (M : Memref sig .tc .vmem S128x512 .f32) (f : M.view.ty.Contents (Elt Ideal)) (o : ℕ) (inb : ∀ a, (![0, o] : Fin 2 → ℕ) a + S128x64.size a ≤ S128x512.size a)
    (X : Vec Ideal S128x64 .f32) (L : List (View.Piece (Elt Ideal) S128x512 .f32)) (r : Fin 128) (c : Fin 512) :
    M.view.read (Elt Ideal) (M.view.writes (Elt Ideal) f (⟨Rect.unit (s := S128x512) ![0, o] S128x64.size inb, X⟩ :: L)) (ix2 r c)
      = if h : o ≤ c.val ∧ c.val < o + 64 then X (ix2 r ⟨c.val - o, by omega⟩) else M.view.read (Elt Ideal) (M.view.writes (Elt Ideal) f L) (ix2 r c) := by
  split_ifs with h
  · refine View.read_writes_cons_unit_of_mem M.view f inb X L (ix2 r c) (ix2 r ⟨c.val - o, by omega⟩) rfl ?_
    intro a
    match a with
    | ⟨0, _⟩ => show r.val = 0 + r.val; omega
    | ⟨1, _⟩ => show c.val = o + (c.val - o); omega
  · exact View.read_writes_cons_unit_of_not_mem M.view f inb X L (ix2 r c) rfl 1 (by
      show c.val < o ∨ o + 64 ≤ c.val
      omega)

/-- A head's rows of a stacked block. -/
theorem slice_dq {b : Grp Ideal} {A : Args} {n : Fin 17} {g : Fin 2} (i : grid0.Coords) (h : b.Is A n g) (hi : (i 0).val = n.val) (o : ℕ) (j : Fin 4)
    (hj : o = 128 * j.val) (sl) (r : Fin 128) (d : Fin 64) : extractStridedSlice S128x64 ![o, 0] (b.dq i) sl (ix2 r d) = A.dq (row n r) (Args.hd g j) d := by
  rw [← tok_stk n j r, ← head_stk g j r, ← dq_apply i h hi]
  subst hj
  pointwise
  rfl

theorem dqAt_apply (c : Dev nD) (t : Fin cfg0.N) (r : Fin 128) (x : Fin 512) :
    dqAt m c t (ix2 r x) = (args m c).dq (row (blkOf t) r) ⟨x.val / 64, by omega⟩ ⟨x.val % 64, by omega⟩ := by
  unfold dqAt
  rw [← View.read_writes_eq_canon (ms9 t).view ((hs9 t).unread fun _ => (0 : EReal)) _ (cover_dq m c t _), run_dq]
  rw [piece_read, piece_read, piece_read, piece_read, piece_read, piece_read, piece_read, piece_read]
  have hx := x.isLt
  have z0 := fun o j hj sl r d => slice_dq (grid0.coords t) (is0 m c t) (hi t) o j hj sl r d
  have z1 := fun o j hj sl r d => slice_dq (grid0.coords t) (is1 m c t) (hi t) o j hj sl r d
  have key : ∀ (g : Fin 2) (j : Fin 4) (o : ℕ), o = 256 * g.val + 64 * j.val → ∀ h : o ≤ x.val ∧ x.val < o + 64,
      (args m c).dq (row (blkOf t) r) (Args.hd g j) ⟨x.val - o, by omega⟩ = (args m c).dq (row (blkOf t) r) ⟨x.val / 64, by omega⟩ ⟨x.val % 64, by omega⟩ := by
    intro g j o ho h
    have := j.isLt
    exact congrArg₂ ((args m c).dq (row (blkOf t) r)) (Fin.ext (by show 4 * g.val + j.val = x.val / 64; omega)) (Fin.ext (by dsimp only; omega))
  split_ifs with h1 h2 h3 h4 h5 h6 h7 h8
  · exact (z1 384 3 rfl _ _ _).trans (key 1 3 448 rfl h1)
  · exact (z1 256 2 rfl _ _ _).trans (key 1 2 384 rfl h2)
  · exact (z1 128 1 rfl _ _ _).trans (key 1 1 320 rfl h3)
  · exact (z1 0 0 rfl _ _ _).trans (key 1 0 256 rfl h4)
  · exact (z0 384 3 rfl _ _ _).trans (key 0 3 192 rfl h5)
  · exact (z0 256 2 rfl _ _ _).trans (key 0 2 128 rfl h6)
  · exact (z0 128 1 rfl _ _ _).trans (key 0 1 64 rfl h7)
  · exact (z0 0 0 rfl _ _ _).trans (key 0 0 0 rfl h8)
  · omega

end Cert.AttnIdeal.Hand

end
-- ==== Proof.AttnOut.lean ====
/- The run of the attention gradient with its four results: the gradients of queries, keys, values and sinks. -/
module

public import proofs.«01_k».proof.Proof.AttnAcc
public import Idealize.ShloMosaic.Lib.VecWindow
public import Idealize.ShloMosaic.Lib.Pipeline.ValueKit.Geometry

@[expose] public section

set_option maxRecDepth 16384

noncomputable section

namespace Attn

/-! The results, by row and column. -/

def Args.dqAt (A : Args) (t : Fin 2176) (x : Fin 512) : EReal := A.dq t ⟨x.val / 64, by omega⟩ ⟨x.val % 64, by omega⟩
def Args.dkAt (A : Args) (s : Fin 2176) (x : Fin 128) : EReal := A.dk s ⟨x.val / 64, by omega⟩ ⟨x.val % 64, by omega⟩
def Args.dvAt (A : Args) (s : Fin 2176) (x : Fin 128) : EReal := A.dv s ⟨x.val / 64, by omega⟩ ⟨x.val % 64, by omega⟩
def Args.dskAt (A : Args) (x : Fin 128) : EReal := if h : x.val < 8 then A.dsk ⟨x.val, h⟩ else 0

end Attn

namespace Cert.AttnIdeal.Hand

open Idealize.ShloMosaic Idealize.ShloMosaic.TcCoe Idealize.ShloMosaic.Tactic Idealize.SL.Sem
open Idealize.ShloMosaic.Pipeline (Dat)
open Cert.AttnIdeal Cert.AttnIdeal.Gen
open Attn

variable (m : (ℓ : Loc nD τ sig) → Buf (Elt Ideal) ℓ) (ρ : Dev nD → PrngReg)

theorem sum_dk (A : Args) (g : Fin 2) (d : Fin 64) (s : Fin 2176) : ∑ n : Fin 17, dkW A n g d s = A.dk s g d := by
  unfold Args.dk
  rw [sum_rows]
  refine Finset.sum_congr rfl fun n _ => ?_
  unfold dkW
  rw [sum_stk, Finset.sum_comm]
  simp only [tok_stk, head_stk]

theorem sum_dv (A : Args) (g : Fin 2) (d : Fin 64) (s : Fin 2176) : ∑ n : Fin 17, dvW A n g d s = A.dv s g d := by
  unfold Args.dv
  rw [sum_rows]
  refine Finset.sum_congr rfl fun n _ => ?_
  unfold dvW
  rw [sum_stk, Finset.sum_comm]
  simp only [tok_stk, head_stk]

theorem sum_dsk (A : Args) (x : Fin 128) : ∑ n : Fin 17, laneW A n x = A.dskAt x := by
  unfold laneW Args.dskAt
  split_ifs
  · rfl
  · exact Finset.sum_const_zero

/-- The last point. -/
def tN : Fin cfg0.N := ⟨16, lt_of_lt_of_eq (by norm_num) (N_0 : cfg0.N = 17).symm⟩

theorem col_eq (x : Fin 128) : x = col ⟨x.val / 64, by omega⟩ ⟨x.val % 64, by omega⟩ := by
  unfold col; exact Fin.ext (by dsimp only; omega)

def resQ (A : Args) (i : S2176x512.Idx) : EReal := A.dqAt (i 0) (i 1)
def resK (A : Args) (i : S2176x128.Idx) : EReal := A.dkAt (i 0) (i 1)
def resV (A : Args) (i : S2176x128.Idx) : EReal := A.dvAt (i 0) (i 1)
def resS (A : Args) (i : S1x128.Idx) : EReal := A.dskAt (i 1)

theorem arr9 (c : Dev nD) : (dats m 0 c).arrAt 9 cfg0.N = resQ (args m c) := by
  refine (dats m 0 c).arrAt_eq_of_cover 9 (resQ (args m c)) (fun t _ => ?_) fun i => ?_
  · have := idx t
    show (cfg0.win 9).cut (grid0.coords t) ((dats m 0 c).after 9 t) = (win0_9.blk t).view.read (Elt Ideal) (resQ (args m c))
    rw [after_9]
    funext j
    rw [View.read_apply]
    show dqAt m c t j = resQ _ _
    obtain ⟨r, x, rfl⟩ : ∃ (r : Fin 128) (x : Fin 512), j = ix2 r x := ⟨j 0, j 1, funext fun a => match a with | ⟨0, _⟩ => rfl | ⟨1, _⟩ => rfl⟩
    rw [dqAt_apply]
    have h0 : row (blkOf t) r = (win0_9.blk t).view.emb (ix2 r x) 0 := Fin.ext (by
      show 128 * t.val + r.val = win0_9.index t 0 * 128 + 1 * r.val; omega)
    have h1 : x = (win0_9.blk t).view.emb (ix2 r x) 1 := Fin.ext (by
      show x.val = win0_9.index t 1 * 512 + 1 * x.val; omega)
    unfold resQ
    exact congrArg₂ (args m c).dqAt h0 h1
  · have h0 : (i 0).val < 2176 := (i 0).isLt
    have h1 : (i 1).val < 512 := (i 1).isLt
    have hN : cfg0.N = 17 := N_0
    let t : Fin cfg0.N := ⟨(i 0).val / 128, by omega⟩
    have ht := idx t
    refine ⟨t, flush0_9 t, ?_⟩
    show i ∈ ((View.whole main_v0_0).slice (win0_9.rect t)).set
    rw [View.set_slice_whole, Rect.mem_set_unit]
    have e : t.val = (i 0).val / 128 := rfl
    intro a
    match a with
    | ⟨0, _⟩ => show win0_9.index t 0 * 128 ≤ (i 0).val ∧ (i 0).val < win0_9.index t 0 * 128 + 128; omega
    | ⟨1, _⟩ => show win0_9.index t 1 * 512 ≤ (i 1).val ∧ (i 1).val < win0_9.index t 1 * 512 + 512; omega

theorem acc_dk (c : Dev nD) (h) (s : Fin 2176) (x : Fin 128) : (acc m c (16 + 1) h).1 (ix2 s x) = (args m c).dkAt s x := by
  conv_lhs => rw [col_eq x]
  rw [(acc_eq m c (16 + 1) h).1]
  exact sum_dk (args m c) _ _ s

theorem acc_dv (c : Dev nD) (h) (s : Fin 2176) (x : Fin 128) : (acc m c (16 + 1) h).2.1 (ix2 s x) = (args m c).dvAt s x := by
  conv_lhs => rw [col_eq x]
  rw [(acc_eq m c (16 + 1) h).2.1]
  exact sum_dv (args m c) _ _ s

theorem acc_dsk (c : Dev nD) (h) (x : Fin 128) : (acc m c (16 + 1) h).2.2 (ix2 0 x) = (args m c).dskAt x := by
  rw [(acc_eq m c (16 + 1) h).2.2]
  exact sum_dsk (args m c) x

theorem arr10 (c : Dev nD) : (dats m 0 c).arrAt 10 cfg0.N = resK (args m c) := by
  refine (dats m 0 c).arrAt_eq_of_after_last 10 tN (by decide +kernel) (resK (args m c)) fun j => ?_
  rw [after_10]
  have hj : j = ix2 (j 0) (j 1) := funext fun a => match a with | ⟨0, _⟩ => rfl | ⟨1, _⟩ => rfl
  refine (show _ = (acc m c (16 + 1) tN.isLt).1 (ix2 (j 0) (j 1)) from congrArg (acc m c (16 + 1) tN.isLt).1 hj).trans ?_
  exact acc_dk m c _ (j 0) (j 1)

theorem arr11 (c : Dev nD) : (dats m 0 c).arrAt 11 cfg0.N = resV (args m c) := by
  refine (dats m 0 c).arrAt_eq_of_after_last 11 tN (by decide +kernel) (resV (args m c)) fun j => ?_
  rw [after_11]
  have hj : j = ix2 (j 0) (j 1) := funext fun a => match a with | ⟨0, _⟩ => rfl | ⟨1, _⟩ => rfl
  refine (show _ = (acc m c (16 + 1) tN.isLt).2.1 (ix2 (j 0) (j 1)) from congrArg (acc m c (16 + 1) tN.isLt).2.1 hj).trans ?_
  exact acc_dv m c _ (j 0) (j 1)

theorem arr12 (c : Dev nD) : (dats m 0 c).arrAt 12 cfg0.N = resS (args m c) := by
  refine (dats m 0 c).arrAt_eq_of_after_last 12 tN (by decide +kernel) (resS (args m c)) fun j => ?_
  rw [after_12]
  have hj : j = ix2 0 (j 1) := funext fun a => match a with | ⟨0, _⟩ => Subsingleton.elim (α := Fin 1) _ _ | ⟨1, _⟩ => rfl
  refine (show _ = (acc m c (16 + 1) tN.isLt).2.2 (ix2 0 (j 1)) from congrArg (acc m c (16 + 1) tN.isLt).2.2 hj).trans ?_
  exact acc_dsk m c _ (j 1)

/-- The run: the four gradients, the arguments unchanged. -/
theorem run : θ_run defs (onTc (τ := τ) (main (F := Ideal))) ⟨m, fun _ => 0, ρ⟩ (fun r => ∀ c : Dev nD,
      (r.2.mem ((c.tc : Thread nD τ).loc main_v0_0) = resQ (args m c)
      ∧ r.2.mem ((c.tc : Thread nD τ).loc main_v0_1) = resK (args m c)
      ∧ r.2.mem ((c.tc : Thread nD τ).loc main_v0_2) = resV (args m c)
      ∧ r.2.mem ((c.tc : Thread nD τ).loc main_v0_3) = resS (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨⟨((h.2 c).1 9).trans (arr9 m c), ((h.2 c).1 10).trans (arr10 m c), ((h.2 c).1 11).trans (arr11 m c),
    ((h.2 c).1 12).trans (arr12 m c)⟩, h.1 c⟩) (θ_run_and (frame_of m ρ (dats m) (A_eq m) (run_main m ρ)) (run_main m ρ))

end Cert.AttnIdeal.Hand

end
-- ==== Proof.AttnRefOut.lean ====
/- The reference's four results as the plain sums over the tokens. -/
module

public import proofs.«01_k».proof.Proof.AttnRefGrad
public import proofs.«01_k».proof.Proof.AttnOut

@[expose] public section

set_option maxRecDepth 16384

noncomputable section

namespace Cert.AttnRefIdeal.Hand

open Idealize.ShloMosaic Idealize.ShloMosaic.TcCoe Idealize.ShloMosaic.Tactic Idealize.SL.Sem Idealize.ShloMosaic.StableHlo
open Cert.AttnRefIdeal Cert.AttnRefIdeal.Gen Cert.AttnRefIdeal.Read Attn

/-- The meta tokens' values' gradient sums over blocks, heads and rows. -/
theorem dotV_apply (x : S2x64x17x4x128.Idx → EReal) (y : S17x2x4x128x16.Idx → EReal) (g : Fin 2) (d : Fin 64) (u : Fin 16) :
    Ideal.matmul dot_S2x64x17x4x128_S17x2x4x128x16_S2x64x16_234_023_1_4_0_1 x y (fun _ => 0) (ix3 g d u)
      = ∑ n : Fin 17, ∑ j : Fin 4, ∑ r : Fin 128, x (ix5 g d n j r) * y (ix5 n g j r u) := by
  let e : Fin 17 × Fin 4 × Fin 128 ≃ dot_S2x64x17x4x128_S17x2x4x128x16_S2x64x16_234_023_1_4_0_1.contr.Idx :=
    { toFun := fun k => fun p => match p with
        | ⟨0, _⟩ => k.1
        | ⟨1, _⟩ => k.2.1
        | ⟨2, _⟩ => k.2.2
      invFun := fun f => (f ⟨0, by decide⟩, f ⟨1, by decide⟩, f ⟨2, by decide⟩)
      left_inv := fun _ => rfl
      right_inv := fun f => funext fun p => match p with
        | ⟨0, _⟩ => rfl
        | ⟨1, _⟩ => rfl
        | ⟨2, _⟩ => rfl }
  unfold Ideal.matmul
  rw [← Equiv.sum_comp e, zero_add, Fintype.sum_prod_type]
  refine Finset.sum_congr rfl fun n _ => ?_
  rw [Fintype.sum_prod_type]
  refine Finset.sum_congr rfl fun j _ => Finset.sum_congr rfl fun r _ => ?_
  refine congrArg₂ (· * ·) (congrArg x ?_) (congrArg y ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The meta tokens' keys' gradient likewise. -/
theorem dotK_apply (x : S2x16x17x128x4.Idx → EReal) (y : S17x128x2x4x64.Idx → EReal) (g : Fin 2) (u : Fin 16) (d : Fin 64) :
    Ideal.matmul dot_S2x16x17x128x4_S17x128x2x4x64_S2x16x64_234_013_1_4_0_2 x y (fun _ => 0) (ix3 g u d)
      = ∑ n : Fin 17, ∑ r : Fin 128, ∑ j : Fin 4, x (ix5 g u n r j) * y (ix5 n r g j d) := by
  let e : Fin 17 × Fin 128 × Fin 4 ≃ dot_S2x16x17x128x4_S17x128x2x4x64_S2x16x64_234_013_1_4_0_2.contr.Idx :=
    { toFun := fun k => fun p => match p with
        | ⟨0, _⟩ => k.1
        | ⟨1, _⟩ => k.2.1
        | ⟨2, _⟩ => k.2.2
      invFun := fun f => (f ⟨0, by decide⟩, f ⟨1, by decide⟩, f ⟨2, by decide⟩)
      left_inv := fun _ => rfl
      right_inv := fun f => funext fun p => match p with
        | ⟨0, _⟩ => rfl
        | ⟨1, _⟩ => rfl
        | ⟨2, _⟩ => rfl }
  unfold Ideal.matmul
  rw [← Equiv.sum_comp e, zero_add, Fintype.sum_prod_type]
  refine Finset.sum_congr rfl fun n _ => ?_
  rw [Fintype.sum_prod_type]
  refine Finset.sum_congr rfl fun r _ => Finset.sum_congr rfl fun j _ => ?_
  refine congrArg₂ (· * ·) (congrArg x ?_) (congrArg y ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The sinks' gradient sums over blocks and rows. -/
theorem sumS_apply (x : S17x2x4x128x1.Idx → EReal) (g : Fin 2) (j : Fin 4) :
    Ideal.hostReduceAdd reducesTo_S17x2x4x128x1_S2x4_d0_3_4 x 0 (ix2 g j) = ∑ n : Fin 17, ∑ r : Fin 128, x (ix5 n g j r 0) := by
  unfold Ideal.hostReduceAdd
  rw [zero_add, Finset.sum_filter_eq_sum_of_fiber _ (fun k : Fin 17 × Fin 128 => (ix5 k.1 g j k.2 0 : S17x2x4x128x1.Idx))
    (fun _ _ e => Prod.ext (congrFun e 0) (congrFun e 3)) ?_ x, Fintype.sum_prod_type]
  intro i
  constructor
  · intro e
    refine ⟨(i 0, i 3), ?_⟩
    funext a; apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => rfl
    | ⟨4, _⟩ =>
      have : (i 4).val < 1 := (i 4).isLt
      show 0 = (i 4).val
      omega
  · rintro ⟨k, rfl⟩
    funext b
    apply Fin.ext
    match b with
    | ⟨0, _⟩ => rfl
    | ⟨1, _⟩ => rfl

variable (x0 : Vec Ideal S2176x512 .bf16) (x1 x2 : Vec Ideal S2176x128 .bf16) (x3 : Vec Ideal S1x8 .f32) (x4 : Vec Ideal S2176x512 .bf16)
variable (n : Fin 17) (r : Fin 128) (g : Fin 2) (j : Fin 4) (d : Fin 64) (c : Fin 256) (u : Fin 16) (w : Fin 273)

local notation "A" => args x0 x1 x2 x3 x4
local notation "hdn" => Attn.Args.hd

variable (hA : (args x0 x1 x2 x3 x4).Real)
include hA

/-- The values' gradient by key and query. -/
def fv (B : Attn.Args) (g : Fin 2) (d : Fin 64) (s t : Fin 2176) : EReal := ∑ j : Fin 4, B.p t s (hdn g j) * B.o t (hdn g j) d
/-- The keys' gradient by key and query. -/
def fk (B : Attn.Args) (g : Fin 2) (d : Fin 64) (s t : Fin 2176) : EReal := ∑ j : Fin 4, B.ds t s (hdn g j) * B.q t (hdn g j) d

omit hA in
theorem fv_of_not (B : Attn.Args) (s t : Fin 2176) (h : ¬ Ok t s) : fv B g d s t = 0 :=
  Finset.sum_eq_zero fun j _ => by rw [Attn.Args.p_of_not h, zero_mul]

omit hA in
theorem fk_of_not (B : Attn.Args) (s t : Fin 2176) (h : ¬ Ok t s) : fk B g d s t = 0 :=
  Finset.sum_eq_zero fun j _ => by rw [Attn.Args.ds_of_not h, zero_mul]

theorem v122_eq : val_main_v122 (F := Ideal) x0 x1 x3 x4 (ix4 n c g d)
    = ∑ r, if Mb n r c then fv (A) g d (bandTok n c) (row n r) else 0 := by
  pointwise [val_main_v122, val_main_v121, val_main_v119]
  rw [Finset.sum_comm]
  refine Finset.sum_congr rfl fun r _ => ?_
  by_cases h : Mb n r c
  · rw [if_pos h]
    refine Finset.sum_congr rfl fun j _ => ?_
    rw [v113_eq x0 x1 x2 x3 x4, v104_eq x0 x1 x2 x3 x4 n r g j c hA, if_pos h, mul_comm]
  · rw [if_neg h]
    exact Finset.sum_eq_zero fun j _ => by rw [v104_eq x0 x1 x2 x3 x4 n r g j c hA, if_neg h, mul_zero]

theorem v118_eq : val_main_v118 (F := Ideal) x0 x1 x3 x4 (ix3 u g d) = ∑ n, ∑ r, fv (A) g d (metaTok u) (row n r) := by
  pointwise [val_main_v118, val_main_v117]
  rw [dotV_apply]
  refine Finset.sum_congr rfl fun n _ => ?_
  rw [Finset.sum_comm]
  refine Finset.sum_congr rfl fun r _ => Finset.sum_congr rfl fun j _ => ?_
  pointwise [val_main_v114]
  rw [v113_eq x0 x1 x2 x3 x4, v105_eq x0 x1 x2 x3 x4 n r g j u hA, mul_comm]

theorem v171_eq : val_main_v171 (F := Ideal) x0 x1 x3 x4 (ix4 n r g d) = (A).dv (row n r) g d := by
  pointwise [val_main_v171, val_main_v167, val_main_v162, val_main_v161, val_main_v166, val_main_v170, val_main_v169, val_main_v165, val_main_cst_29, val_main_cst_31]
  simp only [v118_eq x0 x1 x2 x3 x4 _ _ _ hA, v122_eq x0 x1 x2 x3 x4 _ _ _ _ hA]
  exact place_eq n r (fv (A) g d) (fun s t h => fv_of_not g d _ s t h)

theorem v160_eq : val_main_v160 (F := Ideal) x0 x1 x2 x3 x4 (ix4 n c g d)
    = ∑ r, if Mb n r c then fk (A) g d (bandTok n c) (row n r) else 0 := by
  pointwise [val_main_v160, val_main_v159, val_main_v155]
  refine Finset.sum_congr rfl fun r _ => ?_
  by_cases h : Mb n r c
  · rw [if_pos h]
    refine Finset.sum_congr rfl fun j _ => ?_
    rw [v3_eq x0 x1 x2 x3 x4, v154_eq x0 x1 x2 x3 x4 n r g j c hA, if_pos h]
  · rw [if_neg h]
    exact Finset.sum_eq_zero fun j _ => by rw [v154_eq x0 x1 x2 x3 x4 n r g j c hA, if_neg h, zero_mul]

theorem v152_eq : val_main_v152 (F := Ideal) x0 x1 x2 x3 x4 (ix3 u g d) = ∑ n, ∑ r, fk (A) g d (metaTok u) (row n r) := by
  pointwise [val_main_v152, val_main_v151]
  rw [dotK_apply]
  refine Finset.sum_congr rfl fun n _ => Finset.sum_congr rfl fun r _ => Finset.sum_congr rfl fun j _ => ?_
  pointwise [val_main_v148]
  rw [v3_eq x0 x1 x2 x3 x4, v147_eq x0 x1 x2 x3 x4 n r g j u hA]

theorem v178_eq : val_main_v178 (F := Ideal) x0 x1 x2 x3 x4 (ix4 n r g d) = (A).dk (row n r) g d := by
  pointwise [val_main_v178, val_main_v174, val_main_v164, val_main_v163, val_main_v173, val_main_v177, val_main_v176, val_main_v172, val_main_cst_30, val_main_cst_32]
  simp only [v152_eq x0 x1 x2 x3 x4 _ _ _ hA, v160_eq x0 x1 x2 x3 x4 _ _ _ _ hA]
  exact place_eq n r (fk (A) g d) (fun s t h => fk_of_not g d _ s t h)

omit hA in
theorem row_div (t : Fin 2176) (h0 : t.val / 128 < 17) (h1 : t.val % 128 < 128) : row ⟨t.val / 128, h0⟩ ⟨t.val % 128, h1⟩ = t :=
  Fin.ext (by show 128 * (t.val / 128) + t.val % 128 = t.val; omega)

theorem dv_eq : val_main_v179 (F := Ideal) x0 x1 x3 x4 = Cert.AttnIdeal.Hand.resV (A) := by
  funext i
  obtain ⟨t, x, rfl⟩ : ∃ (t : Fin 2176) (x : Fin 128), i = ix2 t x := ⟨i 0, i 1, funext fun a => match a with | ⟨0, _⟩ => rfl | ⟨1, _⟩ => rfl⟩
  pointwise [val_main_v179]
  rw [v171_eq x0 x1 x2 x3 x4 _ _ _ _ hA]
  rw [row_div]
  rfl

theorem dk_eq : val_main_v180 (F := Ideal) x0 x1 x2 x3 x4 = Cert.AttnIdeal.Hand.resK (A) := by
  funext i
  obtain ⟨t, x, rfl⟩ : ∃ (t : Fin 2176) (x : Fin 128), i = ix2 t x := ⟨i 0, i 1, funext fun a => match a with | ⟨0, _⟩ => rfl | ⟨1, _⟩ => rfl⟩
  pointwise [val_main_v180]
  rw [v178_eq x0 x1 x2 x3 x4 _ _ _ _ hA]
  rw [row_div]
  rfl

theorem v158_eq : val_main_v158 (F := Ideal) x0 x1 x2 x3 x4 (ix5 n r g j d) = (A).dq (row n r) (hdn g j) d := by
  pointwise [val_main_v158, val_main_v157, val_main_v156, val_main_v155, val_main_v150, val_main_v149, val_main_v148]
  rw [add_comm]
  unfold Attn.Args.dq
  rw [← sum_cols n r (fun s => (A).ds (row n r) s (hdn g j) * (A).k s (grp (hdn g j)) d) fun s hs => by rw [Attn.Args.ds_of_not hs, zero_mul]]
  rw [grp_hd]
  refine congrArg₂ (· + ·) (Finset.sum_congr rfl fun c _ => ?_) (Finset.sum_congr rfl fun u _ => ?_)
  · rw [v154_eq x0 x1 x2 x3 x4 n r g j c hA]
    by_cases h : Mb n r c
    · rw [if_pos h, if_pos h, v11_eq x0 x1 x2 x3 x4 n g d c (by unfold Mb at h; omega)]
    · rw [if_neg h, if_neg h, zero_mul]
  · rw [v147_eq x0 x1 x2 x3 x4 n r g j u hA, v19_eq x0 x1 x2 x3 x4]

theorem dq_eq : val_main_v181 (F := Ideal) x0 x1 x2 x3 x4 = Cert.AttnIdeal.Hand.resQ (A) := by
  funext i
  obtain ⟨t, x, rfl⟩ : ∃ (t : Fin 2176) (x : Fin 512), i = ix2 t x := ⟨i 0, i 1, funext fun a => match a with | ⟨0, _⟩ => rfl | ⟨1, _⟩ => rfl⟩
  pointwise [val_main_v181]
  rw [v158_eq x0 x1 x2 x3 x4 _ _ _ _ _ hA]
  rw [row_div]
  unfold Cert.AttnIdeal.Hand.resQ Attn.Args.dqAt
  refine congrArg₂ ((A).dq t) (Fin.ext ?_) rfl
  show 4 * (x.val / 256) + x.val / 64 % 4 = x.val / 64
  omega

theorem v141_eq : val_main_v141 (F := Ideal) x0 x1 x2 x3 x4 (ix2 g j) = (A).dsk (hdn g j) := by
  pointwise [val_main_v141, val_main_cst_26]
  rw [sumS_apply, ← Attn.Args.dsk_eq hA]
  refine Finset.sum_congr rfl fun n _ => Finset.sum_congr rfl fun r _ => ?_
  pointwise [val_main_v140]
  rw [show (272 : Fin 273) = ⟨272, by omega⟩ from rfl, v137_eq x0 x1 x2 x3 x4 n r g j ⟨272, by omega⟩, v125_eq x0 x1 x2 x3 x4 n r g j ⟨272, by omega⟩, dif_neg (by dsimp only; omega), dif_neg (by dsimp only; omega), col_sink]
  exact Attn.Args.ps_eq hA _ _

theorem ds_eq : val_main_v183 (F := Ideal) x0 x1 x2 x3 x4 = Cert.AttnIdeal.Hand.resS (A) := by
  funext i
  obtain ⟨x, rfl⟩ : ∃ (x : Fin 128), i = ix2 0 x := ⟨i 1, funext fun a => match a with | ⟨0, _⟩ => Fin.ext (by have : (i 0).val < 1 := (i 0).isLt; show (i 0).val = 0; omega) | ⟨1, _⟩ => rfl⟩
  pointwise [val_main_v183, val_main_v182, val_main_cst_33, val_main_v143, val_main_v142]
  unfold Cert.AttnIdeal.Hand.resS Attn.Args.dskAt
  show _ = if h : x.val < 8 then _ else _
  split_ifs with h
  · rw [v141_eq x0 x1 x2 x3 x4 _ _ hA]
    refine congrArg (A).dsk (Fin.ext ?_)
    show 4 * (x.val / 4) + x.val % 4 = x.val
    omega
  · rfl

end Cert.AttnRefIdeal.Hand

end
-- ==== Proof.AttnPre.lean ====
/- What the precondition says: each of the five argument arrays holds real numbers alone. -/
module

public import proofs.«01_k».proof.Proof.AttnReal
public import proofs.«01_k».proof.Proof.Gen.Pre_finite_args
public import Idealize.ShloMosaic.Lib.Pointwise
public import Idealize.ShloMosaic.Lib.ReduceAll

@[expose] public section

set_option maxRecDepth 16384

noncomputable section

namespace Attn

open Idealize.ShloMosaic Idealize.ShloMosaic.StableHlo Cert.Pre_finite_args

/-- A number whose absolute value is below plus infinity is real. -/
theorem R_of_olt {x : EReal} (h : FloatOps.cmpf (F := Ideal) (φ := .f32) .olt (max x (-x)) (Ideal.ofBits .f32 0x7F800000#32) = 1#1) : R x := by
  have e : Ideal.ofBits .f32 0x7F800000#32 = ⊤ := by simp [Ideal.ofBits, Ideal.ieee]
  rw [e] at h
  have hl : max x (-x) < ⊤ := by
    by_contra hn
    have : FloatOps.cmpf (F := Ideal) (φ := .f32) .olt (max x (-x)) ⊤ = 0#1 := by
      show BitVec.ofBool (decide (max x (-x) < ⊤)) = 0#1
      rw [decide_eq_false hn]; rfl
    rw [this] at h
    exact absurd h (by decide)
  refine R.of (fun hb => ?_) (fun ht => ?_)
  · rw [hb, EReal.neg_bot, max_eq_right bot_le] at hl; exact lt_irrefl _ hl
  · rw [ht, max_eq_left le_top] at hl; exact lt_irrefl _ hl

variable {x0 : FVec Ideal S2176x512 .bf16} {x1 x2 : FVec Ideal S2176x128 .bf16} {x3 : FVec Ideal S1x8 .f32}
  {x4 : FVec Ideal S2176x512 .bf16}

theorem reals_of_pre [Cert.Pre_finite_args.Facts] (h : fn (F := Ideal) x0 x1 x2 x3 x4 = fun _ => 1#1) :
    (∀ i, R (x0 i)) ∧ (∀ i, R (x1 i)) ∧ (∀ i, R (x2 i)) ∧ (∀ i, R (x3 i)) ∧ ∀ i, R (x4 i) := by
  have h1 := congrFun h (fun a => a.elim0)
  simp only [fn, fn_part1, andi_apply, IntOp.andi_eq_one] at h1
  exact ⟨fun i => R_of_olt (Host.reduce_andi_all _ _ _ _ _ h1.1.1.1.1 i), fun i => R_of_olt (Host.reduce_andi_all _ _ _ _ _ h1.1.1.1.2 i),
    fun i => R_of_olt (Host.reduce_andi_all _ _ _ _ _ h1.1.1.2 i), fun i => R_of_olt (Host.reduce_andi_all _ _ _ _ _ h1.1.2 i),
    fun i => R_of_olt (Host.reduce_andi_all _ _ _ _ _ h1.2 i)⟩

end Attn

end
-- ==== Proof.AttnAlg.lean ====
/- The attention's kernel and reference compute the same gradients. -/
module

public import proofs.«01_k».proof.Proof.AttnRefOut
public import proofs.«01_k».proof.Proof.AttnPre
public import proofs.«01_k».proof.Defs

@[expose] public section

set_option maxRecDepth 16384

noncomputable section

namespace Cert.AttnRefIdeal.Hand

open Idealize.ShloMosaic Idealize.ShloMosaic.TcCoe Idealize.SL.Sem Idealize.ShloMosaic.StableHlo
open Cert.AttnRefIdeal Cert.AttnRefIdeal.Gen Cert.AttnRefIdeal.Read Attn

/-- Arguments whose entries are finite. -/
theorem args_real (x0 : Vec Ideal S2176x512 .bf16) (x1 x2 : Vec Ideal S2176x128 .bf16) (x3 : Vec Ideal S1x8 .f32) (x4 : Vec Ideal S2176x512 .bf16)
    (h : (∀ i, Attn.R (x0 i)) ∧ (∀ i, Attn.R (x1 i)) ∧ (∀ i, Attn.R (x2 i)) ∧ (∀ i, Attn.R (x3 i)) ∧ ∀ i, Attn.R (x4 i)) : (args x0 x1 x2 x3 x4).Real :=
  ⟨fun _ _ _ => h.1 _, fun _ _ _ => h.2.1 _, fun _ _ _ => h.2.2.1 _, fun _ => h.2.2.2.1 _, fun _ _ _ => h.2.2.2.2 _⟩

/-- The reference's run: each result holds the plain sums over the tokens. -/
theorem run (m : (ℓ : Loc nD τ sig) → Buf (Elt Ideal) ℓ) (ρ : Dev nD → PrngReg) (B : Dev nD → Attn.Args)
    (hB : ∀ c : Dev nD, args (m ((c.tc : Thread nD τ).loc main_arg0) :) (m ((c.tc : Thread nD τ).loc main_arg1) :) (m ((c.tc : Thread nD τ).loc main_arg2) :)
      (m ((c.tc : Thread nD τ).loc main_arg3) :) (m ((c.tc : Thread nD τ).loc main_arg4) :) = B c)
    (hR : ∀ c : Dev nD, (B c).Real) :
    θ_run defs (onTc (τ := τ) (main (F := Ideal))) ⟨m, fun _ => 0, ρ⟩ fun r => ∀ c : Dev nD,
      r.2.mem ((c.tc : Thread nD τ).loc main_v181) = Cert.AttnIdeal.Hand.resQ (B c)
      ∧ r.2.mem ((c.tc : Thread nD τ).loc main_v180) = Cert.AttnIdeal.Hand.resK (B c)
      ∧ r.2.mem ((c.tc : Thread nD τ).loc main_v179) = Cert.AttnIdeal.Hand.resV (B c)
      ∧ r.2.mem ((c.tc : Thread nD τ).loc main_v183) = Cert.AttnIdeal.Hand.resS (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AttnRefIdeal.Value.run (F := Ideal) m ρ)
  have hr := hR c
  have hb := hB c
  rw [← hb] at hr ⊢
  obtain ⟨h1, h2, h3, h4, h5⟩ := h c
  refine ⟨h1.trans ((val_main_v181_eq (launchContents m c)).trans ?_), h2.trans ((val_main_v180_eq (launchContents m c)).trans ?_),
    h3.trans ((val_main_v179_eq (launchContents m c)).trans ?_), h4.trans ((val_main_v183_eq (launchContents m c)).trans ?_), h5⟩
  · exact dq_eq _ _ _ _ _ hr
  · exact dk_eq _ _ _ _ _ hr
  · exact dv_eq _ _ _ _ _ hr
  · exact ds_eq _ _ _ _ _ hr

theorem algebraic [Cert.Pre_finite_args.Facts] : Cert.algebraic_AttnIdeal_AttnRefIdeal_pre_finite_args := by
  intro m g m' g' hpre hag
  have e : ∀ c : Dev nD, args (m' ((c.tc : Thread nD τ).loc main_arg0) :) (m' ((c.tc : Thread nD τ).loc main_arg1) :) (m' ((c.tc : Thread nD τ).loc main_arg2) :)
      (m' ((c.tc : Thread nD τ).loc main_arg3) :) (m' ((c.tc : Thread nD τ).loc main_arg4) :) = Cert.AttnIdeal.Hand.args m c := fun c => by
    rw [(hag c).1, (hag c).2.1, (hag c).2.2.1, (hag c).2.2.2.1, (hag c).2.2.2.2]
    rfl
  have hr : ∀ c : Dev nD, (Cert.AttnIdeal.Hand.args m c).Real := fun c => by
    rw [← e c, (hag c).1, (hag c).2.1, (hag c).2.2.1, (hag c).2.2.2.1, (hag c).2.2.2.2]
    exact args_real _ _ _ _ _ (Attn.reals_of_pre (hpre c))
  exact ⟨fun c => Cert.AttnIdeal.Hand.resQ (Cert.AttnIdeal.Hand.args m c), fun c => Cert.AttnIdeal.Hand.resK (Cert.AttnIdeal.Hand.args m c),
    fun c => Cert.AttnIdeal.Hand.resV (Cert.AttnIdeal.Hand.args m c), fun c => Cert.AttnIdeal.Hand.resS (Cert.AttnIdeal.Hand.args m c),
    (θ_run _ _ _).mono (fun _ h c => ⟨(h c).1.1, (h c).1.2.1, (h c).1.2.2.1, (h c).1.2.2.2, (h c).2⟩) (Cert.AttnIdeal.Hand.run m g),
    run m' g' _ e hr⟩

end Cert.AttnRefIdeal.Hand

end
-- ==== Proof.RmsOut.lean ====
/- What one grid point of the norm's backward call stores, row by row. -/
module

public import proofs.«01_k».proof.Proof.Gen.RmsIdeal.Value
public import Idealize.ShloMosaic.Lib.Pointwise

@[expose] public section

set_option maxRecDepth 16384

noncomputable section

namespace Rms

open Idealize.ShloMosaic

/-- The literals. -/
def eps : EReal := Ideal.ofBits .f32 0x358637BD#32
def cols : EReal := Ideal.ofBits .f32 0x44800000#32

/-- One row of the norm's output's gradient: the product's row and what the other half gave. -/
def dy (a : Fin 2816 → EReal) (w : Fin 2816 → Fin 1024 → EReal) (dp : Fin 1024 → EReal) (c : Fin 1024) : EReal := ∑ k, a k * w k c + dp c
/-- The row's mean square and the inverse of its root. -/
def ms (h : Fin 1024 → EReal) : EReal := Ideal.div (∑ c, h c * h c) cols + eps
def rs (h : Fin 1024 → EReal) : EReal := Ideal.rsqrt (ms h)
/-- The row of the input's gradient, as the kernel takes it. -/
def dx (h g dh y : Fin 1024 → EReal) (c : Fin 1024) : EReal :=
  dh c + rs h * (y c * g c - h c * rs h * Ideal.div (∑ c', y c' * g c' * (h c' * rs h)) cols)

end Rms

namespace Cert.RmsIdeal.Prod

open Cert.RmsIdeal Cert.RmsIdeal.Gen Idealize.ShloMosaic Idealize.ShloMosaic.TcCoe Idealize.ShloMosaic.Tactic Idealize.SL.Sem

theorem hz : (![0, 0] : Fin 2 → Nat) = fun _ => 0 := funext fun a => by fin_cases a <;> rfl

section
variable (c : Dev nD) (i : grid0.Coords) (arg1 : Memref sig .tc .vmem S688x2816 .bf16) (harg1 : arg1.IsWhole) (arg2 : Memref sig .tc .vmem S2816x1024 .f32) (harg2 : arg2.IsWhole)
  (arg3 : Memref sig .tc .vmem S688x1024 .f32) (harg3 : arg3.IsWhole) (arg4 : Memref sig .tc .vmem S1x1024 .f32) (harg4 : arg4.IsWhole) (arg5 : Memref sig .tc .vmem S688x1024 .f32) (harg5 : arg5.IsWhole)
  (arg6 : Memref sig .tc .vmem S688x1024 .f32) (harg6 : arg6.IsWhole) (arg7 : Memref sig .tc .vmem S688x1024 .f32) (harg7 : arg7.IsWhole) (arg8 : Memref sig .tc .vmem S1x1024 .f32) (harg8 : arg8.IsWhole)
  (x0 : Vec Ideal S688x2816 .bf16) (x1 : Vec Ideal S2816x1024 .f32) (x2 : Vec Ideal S688x1024 .f32) (x3 : Vec Ideal S1x1024 .f32) (x4 x5 : Vec Ideal S688x1024 .f32) (xo : Vec Ideal S1x1024 .f32)

/-- The rows of the input's gradient that a point stores. -/
def pt : FVec Ideal S688x1024 .f32 := k0_pay1 (k0_pay4 x2) (k0_pay5 x2) (k0_pay7 x0 x1 x5 x3) x4 (k0_pay8 x0 x1 x5 x2 x3)

theorem out_A_6 (hc) : out0_A_6 (F := Ideal) c i arg1 harg1 arg2 harg2 arg3 harg3 arg4 harg4 arg5 harg5 arg6 harg6 arg7 harg7 arg8 harg8 hc x0 x1 x2 x3 x4 x5 = pt x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 hc x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S688x2816) hz, View.ld_unit_zero (S := S2816x1024) hz, View.ld_unit_zero (S := S688x1024) hz,
    View.ld_unit_zero (S := S1x1024) hz]
  rfl

theorem out_B_6 (hc) : out0_B_6 (F := Ideal) c i arg1 harg1 arg2 harg2 arg3 harg3 arg4 harg4 arg5 harg5 arg6 harg6 arg7 harg7 arg8 harg8 hc x0 x1 x2 x3 x4 x5 xo = pt x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 hc x0 x1 x2 x3 x4 x5 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S688x2816) hz, View.ld_unit_zero (S := S2816x1024) hz, View.ld_unit_zero (S := S688x1024) hz,
    View.ld_unit_zero (S := S1x1024) hz]
  rfl

theorem out_B_7 (hc) : out0_B_7 (F := Ideal) c i arg1 harg1 arg2 harg2 arg3 harg3 arg4 harg4 arg5 harg5 arg6 harg6 arg7 harg7 arg8 harg8 hc x0 x1 x2 x3 x4 x5 xo = k0_pay6 x0 x1 x5 x2 xo := by
  unfold out0_B_7
  rw [View.read_writes_eq_canon _ _ _ (cover0_B_7 c i arg1 harg1 arg2 harg2 arg3 harg3 arg4 harg4 arg5 harg5 arg6 harg6 arg7 harg7 arg8 harg8 hc x0 x1 x2 x3 x4 x5 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg8.read_unread, View.ld_unit_zero (S := S688x2816) hz, View.ld_unit_zero (S := S2816x1024) hz, View.ld_unit_zero (S := S688x1024) hz,
    View.ld_unit_zero (S := S1x1024) hz]

theorem out_A_7 (hc) : out0_A_7 (F := Ideal) c i arg1 harg1 arg2 harg2 arg3 harg3 arg4 harg4 arg5 harg5 arg6 harg6 arg7 harg7 arg8 harg8 hc x0 x1 x2 x3 x4 x5 = k0_pay6 x0 x1 x5 x2 (k0_pay2 (F := Ideal)) := by
  unfold out0_A_7
  rw [View.read_writes_eq_canon _ _ _ (cover0_A_7 c i arg1 harg1 arg2 harg2 arg3 harg3 arg4 harg4 arg5 harg5 arg6 harg6 arg7 harg7 arg8 harg8 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread,
    View.ld_unit_zero (S := S688x2816) hz, View.ld_unit_zero (S := S2816x1024) hz, View.ld_unit_zero (S := S688x1024) hz,
    View.ld_unit_zero (S := S1x1024) hz]

variable (r : Fin 688) (y : Fin 1024)

/-- A block's row of the norm's output's gradient. -/
def dyB : Fin 1024 → EReal := Rms.dy (fun k => x0 (ix2 r k)) (fun k y => x1 (ix2 k y)) (fun y => x5 (ix2 r y))
/-- A block's row. -/
def rowB (r : Fin 688) : Fin 1024 → EReal := fun y => x2 (ix2 r y)

theorem pay3_apply : k0_pay3 (F := Ideal) x0 x1 x5 (ix2 r y) = dyB x0 x1 x5 r y := by
  pointwise [k0_pay3]
  rfl

theorem pay4_apply : k0_pay4 (F := Ideal) x2 (ix2 r 0) = Rms.rs (rowB x2 r) := by
  pointwise [k0_pay4]
  rfl

theorem pay5_apply : k0_pay5 (F := Ideal) x2 (ix2 r y) = rowB x2 r y * Rms.rs (rowB x2 r) := by
  pointwise [k0_pay5]
  rw [pay4_apply]; rfl

theorem pay7_apply : k0_pay7 (F := Ideal) x0 x1 x5 x3 (ix2 r y) = dyB x0 x1 x5 r y * x3 (ix2 0 y) := by
  pointwise [k0_pay7]
  rw [pay3_apply]

theorem pay8_apply : k0_pay8 (F := Ideal) x0 x1 x5 x2 x3 (ix1 r) = ∑ y, dyB x0 x1 x5 r y * x3 (ix2 0 y) * (rowB x2 r y * Rms.rs (rowB x2 r)) := by
  pointwise [k0_pay8]
  simp only [pay7_apply, pay5_apply]

theorem pt_apply : pt x0 x1 x2 x3 x4 x5 (ix2 r y) = Rms.dx (rowB x2 r) (fun y => x3 (ix2 0 y)) (fun y => x4 (ix2 r y)) (dyB x0 x1 x5 r) y := by
  unfold pt
  pointwise [k0_pay1]
  simp only [pay8_apply, pay7_apply, pay5_apply, pay4_apply]
  rfl

theorem pay6_apply : k0_pay6 (F := Ideal) x0 x1 x5 x2 xo (ix2 0 y) = xo (ix2 0 y) + ∑ r, dyB x0 x1 x5 r y * (rowB x2 r y * Rms.rs (rowB x2 r)) := by
  pointwise [k0_pay6]
  simp only [pay5_apply, pay3_apply]

theorem pay2_apply : k0_pay2 (F := Ideal) (ix2 0 y) = 0 := by
  pointwise [k0_pay2]

end

end Cert.RmsIdeal.Prod

end
-- ==== Proof.RmsValue.lean ====
/- What the norm's backward call leaves in its two result arrays: every grid point stores 688 rows of the input's gradient
   and adds its rows' part of the gain's gradient. -/
module

public import proofs.«01_k».proof.Proof.RmsOut
public import proofs.«01_k».proof.Proof.Gen.RmsIdeal.Value
public import Idealize.ShloMosaic.Lib.Pointwise
public import Idealize.ShloMosaic.Lib.Pipeline.ValueKit.Geometry

@[expose] public section

set_option maxRecDepth 16384

noncomputable section

namespace Rms

open Idealize.ShloMosaic

/-- The call's arguments, by row. -/
structure Args where
  a : Fin 2064 → Fin 2816 → EReal
  w : Fin 2816 → Fin 1024 → EReal
  h : Fin 2064 → Fin 1024 → EReal
  g : Fin 1024 → EReal
  dh : Fin 2064 → Fin 1024 → EReal
  dp : Fin 2064 → Fin 1024 → EReal

namespace Args
variable (A : Args)

def y (t : Fin 2064) : Fin 1024 → EReal := dy (A.a t) A.w (A.dp t)
def dxAt (t : Fin 2064) : Fin 1024 → EReal := dx (A.h t) A.g (A.dh t) (A.y t)
def part (t : Fin 2064) (c : Fin 1024) : EReal := A.y t c * (A.h t c * rs (A.h t))
def dgAt (c : Fin 1024) : EReal := ∑ t, A.part t c

/-- The arguments, read from their arrays. -/
def of (x0 : (⟨2, ![2064, 2816]⟩ : Shape).Idx → EReal) (x1 : (⟨2, ![5632, 1024]⟩ : Shape).Idx → EReal) (x2 : (⟨2, ![2064, 1024]⟩ : Shape).Idx → EReal)
    (x3 : (⟨2, ![1, 1024]⟩ : Shape).Idx → EReal) (x4 x5 : (⟨2, ![2064, 1024]⟩ : Shape).Idx → EReal) : Args where
  a t k := x0 (ix2 t k)
  w k c := x1 (ix2 ⟨2816 + k.val, by omega⟩ c)
  h t c := x2 (ix2 t c)
  g c := x3 (ix2 0 c)
  dh t c := x4 (ix2 t c)
  dp t c := x5 (ix2 t c)

end Args

/-- A row of a block. -/
def row (n : Fin 3) (r : Fin 688) : Fin 2064 := ⟨688 * n.val + r.val, by omega⟩

def rowEquiv : Fin 3 × Fin 688 ≃ Fin 2064 where
  toFun x := row x.1 x.2
  invFun s := (⟨s.val / 688, by omega⟩, ⟨s.val % 688, by omega⟩)
  left_inv x := Prod.ext (Fin.ext (by show (688 * x.1.val + x.2.val) / 688 = x.1.val; omega))
    (Fin.ext (by show (688 * x.1.val + x.2.val) % 688 = x.2.val; omega))
  right_inv s := Fin.ext (by show 688 * (s.val / 688) + s.val % 688 = s.val; omega)

theorem sum_rows (f : Fin 2064 → EReal) : ∑ n, ∑ r, f (row n r) = ∑ t, f t := by
  rw [← Fintype.sum_prod_type' (fun n r => f (row n r))]
  exact Equiv.sum_comp rowEquiv f

end Rms

namespace Cert.RmsIdeal.Prod

open Cert.RmsIdeal Cert.RmsIdeal.Gen Idealize.ShloMosaic Idealize.ShloMosaic.TcCoe Idealize.SL.Sem
open Idealize.ShloMosaic.Pipeline (Dat)
open Rms (row)

variable (m : (ℓ : Loc nD τ sig) → Buf (Elt Ideal) ℓ) (ρ : Dev nD → PrngReg)

/-- The arguments of a device. -/
def args (c : Dev nD) : Rms.Args := Rms.Args.of (m ((c : Thread nD τ).loc main_arg0) :) (m ((c : Thread nD τ).loc main_arg1) :)
  (m ((c : Thread nD τ).loc main_arg2) :) (m ((c : Thread nD τ).loc main_arg3) :) (m ((c : Thread nD τ).loc main_arg4) :) (m ((c : Thread nD τ).loc main_arg5) :)

theorem hN : cfg0.N = 3 := N_0
def blkOf (t : Fin cfg0.N) : Fin 3 := ⟨t.val, lt_of_lt_of_eq t.isLt N_0⟩

/-- How the windows move. -/
theorem idx : ∀ t : Fin cfg0.N, (win0_0.index t 0 = t.val ∧ win0_0.index t 1 = 0) ∧ (win0_1.index t 0 = 1 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = t.val ∧ win0_6.index t 1 = 0) :=
  (by decide +kernel : ∀ t : Fin grid0.N, (win0_0.index t 0 = t.val ∧ win0_0.index t 1 = 0) ∧ (win0_1.index t 0 = 1 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = t.val ∧ win0_6.index t 1 = 0))

variable (c : Dev nD) (t : Fin cfg0.N) (r : Fin 688) (k : Fin 2816) (y : Fin 1024)

theorem iblk0 : (iblk m c 0 t : Vec Ideal S688x2816 .bf16) (ix2 r k) = (args m c).a (row (blkOf t) r) k := by
  unfold iblk
  rw [View.read_apply]
  show V m c main_arg0 _ = m (c.tc.loc main_arg0) _
  unfold V
  congr 1
  funext a
  have := idx t
  apply Fin.ext
  match a with
  | ⟨0, _⟩ => show win0_0.index t 0 * 688 + 1 * r.val = 688 * t.val + r.val; omega
  | ⟨1, _⟩ => show win0_0.index t 1 * 2816 + 1 * k.val = k.val; omega

theorem iblk1 : (iblk m c 1 t : Vec Ideal S2816x1024 .f32) (ix2 k y) = (args m c).w k y := by
  unfold iblk
  rw [View.read_apply]
  show V m c main_arg1 _ = m (c.tc.loc main_arg1) _
  unfold V
  congr 1
  funext a
  have := idx t
  apply Fin.ext
  match a with
  | ⟨0, _⟩ => show win0_1.index t 0 * 2816 + 1 * k.val = 2816 + k.val; omega
  | ⟨1, _⟩ => show win0_1.index t 1 * 1024 + 1 * y.val = y.val; omega

theorem iblk2 : (iblk m c 2 t : Vec Ideal S688x1024 .f32) (ix2 r y) = (args m c).h (row (blkOf t) r) y := by
  unfold iblk
  rw [View.read_apply]
  show V m c main_arg2 _ = m (c.tc.loc main_arg2) _
  unfold V
  congr 1
  funext a
  have := idx t
  apply Fin.ext
  match a with
  | ⟨0, _⟩ => show win0_2.index t 0 * 688 + 1 * r.val = 688 * t.val + r.val; omega
  | ⟨1, _⟩ => show win0_2.index t 1 * 1024 + 1 * y.val = y.val; omega

theorem iblk3 : (iblk m c 3 t : Vec Ideal S1x1024 .f32) (ix2 0 y) = (args m c).g y := by
  unfold iblk
  rw [View.read_apply]
  show V m c main_arg3 _ = m (c.tc.loc main_arg3) _
  unfold V
  congr 1
  funext a
  have := idx t
  apply Fin.ext
  match a with
  | ⟨0, _⟩ => show win0_3.index t 0 * 1 + 1 * 0 = 0; omega
  | ⟨1, _⟩ => show win0_3.index t 1 * 1024 + 1 * y.val = y.val; omega

theorem iblk4 : (iblk m c 4 t : Vec Ideal S688x1024 .f32) (ix2 r y) = (args m c).dh (row (blkOf t) r) y := by
  unfold iblk
  rw [View.read_apply]
  show V m c main_arg4 _ = m (c.tc.loc main_arg4) _
  unfold V
  congr 1
  funext a
  have := idx t
  apply Fin.ext
  match a with
  | ⟨0, _⟩ => show win0_4.index t 0 * 688 + 1 * r.val = 688 * t.val + r.val; omega
  | ⟨1, _⟩ => show win0_4.index t 1 * 1024 + 1 * y.val = y.val; omega

theorem iblk5 : (iblk m c 5 t : Vec Ideal S688x1024 .f32) (ix2 r y) = (args m c).dp (row (blkOf t) r) y := by
  unfold iblk
  rw [View.read_apply]
  show V m c main_arg5 _ = m (c.tc.loc main_arg5) _
  unfold V
  congr 1
  funext a
  have := idx t
  apply Fin.ext
  match a with
  | ⟨0, _⟩ => show win0_5.index t 0 * 688 + 1 * r.val = 688 * t.val + r.val; omega
  | ⟨1, _⟩ => show win0_5.index t 1 * 1024 + 1 * y.val = y.val; omega

theorem dyB_eq : dyB (iblk m c 0 t) (iblk m c 1 t) (iblk m c 5 t) r = (args m c).y (row (blkOf t) r) := by
  unfold dyB Rms.Args.y
  refine congr (congr (congrArg Rms.dy ?_) ?_) ?_
  · funext k; exact iblk0 m c t r k
  · funext k y; exact iblk1 m c t k y
  · funext y; exact iblk5 m c t r y

theorem rowB_eq : rowB (iblk m c 2 t) r = (args m c).h (row (blkOf t) r) := funext fun y => iblk2 m c t r y

/-- The rows that a point stores. -/
theorem pt_eq : pt (iblk m c 0 t) (iblk m c 1 t) (iblk m c 2 t) (iblk m c 3 t) (iblk m c 4 t) (iblk m c 5 t) (ix2 r y)
    = (args m c).dxAt (row (blkOf t) r) y := by
  rw [pt_apply, dyB_eq, rowB_eq]
  unfold Rms.Args.dxAt
  refine congrFun (congrFun (congr (congrArg (Rms.dx _) ?_) ?_) _) y
  · funext y; exact iblk3 m c t y
  · funext y; exact iblk4 m c t r y

/-- What a point adds. -/
theorem pay6_eq (xo : Vec Ideal S1x1024 .f32) : k0_pay6 (iblk m c 0 t) (iblk m c 1 t) (iblk m c 5 t) (iblk m c 2 t) xo (ix2 0 y)
    = xo (ix2 0 y) + ∑ r, (args m c).part (row (blkOf t) r) y := by
  rw [pay6_apply]
  simp only [dyB_eq, rowB_eq]
  rfl

/-- The two results. -/
def resX (A : Rms.Args) (i : S2064x1024.Idx) : EReal := A.dxAt (i 0) (i 1)
def resG (A : Rms.Args) (i : S1x1024.Idx) : EReal := A.dgAt (i 1)

theorem after6 : (outsAt0 m c t.val t.isLt).1 = pt (iblk m c 0 t) (iblk m c 1 t) (iblk m c 2 t) (iblk m c 3 t) (iblk m c 4 t) (iblk m c 5 t) := by
  by_cases h0 : t.val % 3 = 0
  · simp only [outsAt0_A m c t h0, out_A_6]
  · simp only [outsAt0_B m c t h0, out_B_6]

theorem after7_A (h0 : t.val % 3 = 0) :
    (outsAt0 m c t.val t.isLt).2 = k0_pay6 (iblk m c 0 t) (iblk m c 1 t) (iblk m c 5 t) (iblk m c 2 t) (k0_pay2 (F := Ideal)) := by
  simp only [outsAt0_A m c t h0, out_A_7]

theorem after7_B (h0 : ¬t.val % 3 = 0) : (outsAt0 m c t.val t.isLt).2
    = k0_pay6 (iblk m c 0 t) (iblk m c 1 t) (iblk m c 5 t) (iblk m c 2 t) (outsAt0 m c (t.val - 1) (Nat.lt_of_le_of_lt (Nat.sub_le _ _) t.isLt)).2 := by
  simp only [outsAt0_B m c t h0, out_B_7]

def tk (n : Fin 3) : Fin cfg0.N := ⟨n.val, lt_of_lt_of_eq n.isLt N_0.symm⟩

theorem outs_congr (n n' : ℕ) (e : n = n') (h : n < cfg0.N) (h' : n' < cfg0.N) : outsAt0 m c n h = outsAt0 m c n' h' := by
  subst e; rfl

/-- The gain's gradient after the last point. -/
theorem last7 : (outsAt0 m c (tk 2).val (tk 2).isLt).2 (ix2 0 y) = (args m c).dgAt y := by
  have e0 : (outsAt0 m c (tk 0).val (tk 0).isLt).2 (ix2 0 y) = ∑ r, (args m c).part (row 0 r) y := by
    rw [after7_A m c (tk 0) rfl, pay6_eq, pay2_apply, zero_add]; rfl
  have e1 : (outsAt0 m c (tk 1).val (tk 1).isLt).2 (ix2 0 y) = ∑ r, (args m c).part (row 0 r) y + ∑ r, (args m c).part (row 1 r) y := by
    rw [after7_B m c (tk 1) (by decide), pay6_eq, outs_congr m c ((tk 1).val - 1) (tk 0).val rfl _ (tk 0).isLt, e0]
    rfl
  rw [after7_B m c (tk 2) (by decide), pay6_eq, outs_congr m c ((tk 2).val - 1) (tk 1).val rfl _ (tk 1).isLt, e1]
  unfold Rms.Args.dgAt
  rw [← Rms.sum_rows, Fin.sum_univ_three]
  rfl

theorem arr6 : (dats m 0 c).arrAt 6 cfg0.N = resX (args m c) := by
  refine (dats m 0 c).arrAt_eq_of_cover 6 (resX (args m c)) (fun t _ => ?_) fun i => ?_
  · have := idx t
    rw [Value.flushed6, after6]
    funext j
    rw [View.read_apply]
    show pt (iblk m c 0 t) (iblk m c 1 t) (iblk m c 2 t) (iblk m c 3 t) (iblk m c 4 t) (iblk m c 5 t) j = resX _ _
    obtain ⟨r, x, rfl⟩ : ∃ (r : Fin 688) (x : Fin 1024), j = ix2 r x := ⟨j 0, j 1, funext fun a => match a with | ⟨0, _⟩ => rfl | ⟨1, _⟩ => rfl⟩
    rw [pt_eq]
    have h0 : row (blkOf t) r = (win0_6.blk t).view.emb (ix2 r x) 0 := Fin.ext (by
      show 688 * t.val + r.val = win0_6.index t 0 * 688 + 1 * r.val; omega)
    have h1 : x = (win0_6.blk t).view.emb (ix2 r x) 1 := Fin.ext (by
      show x.val = win0_6.index t 1 * 1024 + 1 * x.val; omega)
    unfold resX
    exact congrArg₂ (args m c).dxAt h0 h1
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_6 t, ?_⟩
    show i ∈ ((View.whole main_v0_0).slice (win0_6.rect t)).set
    rw [View.set_slice_whole, Rect.mem_set_unit]
    have e : t.val = (i 0).val / 688 := rfl
    intro a
    match a with
    | ⟨0, _⟩ => show win0_6.index t 0 * 688 ≤ (i 0).val ∧ (i 0).val < win0_6.index t 0 * 688 + 688; omega
    | ⟨1, _⟩ => show win0_6.index t 1 * 1024 ≤ (i 1).val ∧ (i 1).val < win0_6.index t 1 * 1024 + 1024; omega

theorem arr7 : (dats m 0 c).arrAt 7 cfg0.N = resG (args m c) := by
  refine (dats m 0 c).arrAt_eq_of_after_last 7 (tk 2) (by decide +kernel) (resG (args m c)) fun j => ?_
  rw [after0_7]
  have hj : j = ix2 0 (j 1) := funext fun a => match a with | ⟨0, _⟩ => Subsingleton.elim (α := Fin 1) _ _ | ⟨1, _⟩ => rfl
  refine (show _ = (outsAt0 m c (tk 2).val (tk 2).isLt).2 (ix2 0 (j 1)) from congrArg (outsAt0 m c (tk 2).val (tk 2).isLt).2 hj).trans ?_
  exact last7 m c (j 1)

/-- The run: the two gradients, the arguments unchanged. -/
theorem run : θ_run defs (onTc (τ := τ) (main (F := Ideal))) ⟨m, fun _ => 0, ρ⟩ (fun r => ∀ c : Dev nD,
      r.2.mem ((c : Thread nD τ).loc main_v0_0) = resX (args m c)
      ∧ r.2.mem ((c : Thread nD τ).loc main_v0_1) = resG (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c).1.trans (arr6 m c), (h c).2.1.trans (arr7 m c), (h c).2.2⟩) (Value.run_blocks m ρ)

end Cert.RmsIdeal.Prod

end
-- ==== Proof.RmsReal.lean ====
/- The derivative of the norm's inverse root, over the extended reals. -/
module

public import proofs.«01_k».proof.Proof.RmsOut
public import Idealize.ShloMosaic.PureOps.Ideal

@[expose] public section

noncomputable section

namespace Rms

open Idealize.ShloMosaic

theorem cols_eq : cols = ((1024 : ℝ) : EReal) := by
  unfold cols
  simp [Ideal.ofBits, Ideal.ieee]
  rw [← EReal.coe_mul]; norm_num

theorem half_eq : Ideal.ofBits .f32 0xBF000000#32 = ((-(1 / 2) : ℝ) : EReal)   := by
  simp [Ideal.ofBits, Ideal.ieee]
  rw [← EReal.coe_mul]; norm_num

theorem eps_pos : ∃ e : ℝ, 0 < e ∧ eps = (e : EReal) := by
  unfold eps
  simp [Ideal.ofBits, Ideal.ieee]
  exact ⟨8796093 * (2 ^ 43)⁻¹, by positivity, rfl⟩

theorem div_cols (x : EReal) : Ideal.div x cols = x * ((1024⁻¹ : ℝ) : EReal) := by
  rw [cols_eq, Ideal.div_coe (by norm_num)]
  rw [one_div]

theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- The mean square is positive. -/
theorem ms_cases (h : Fin 1024 → EReal) : ms h = ⊤ ∨ ∃ r : ℝ, 0 < r ∧ ms h = (r : EReal) := by
  obtain ⟨e, he, e1⟩ := eps_pos
  have h0 : 0 ≤ Ideal.div (∑ c, h c * h c) cols := by
    rw [div_cols]
    exact mul_nonneg (Finset.sum_nonneg fun c _ => sq_nonneg' _) (EReal.coe_nonneg.2 (by norm_num))
  unfold ms
  rw [e1]
  generalize Ideal.div (∑ c, h c * h c) cols = u at h0
  induction u with
  | bot => exact absurd h0 (by simp)
  | top => exact .inl (EReal.top_add_coe e)
  | coe r => exact .inr ⟨r + e, add_pos_of_nonneg_of_pos (EReal.coe_nonneg.1 h0) he, (EReal.coe_add r e).symm⟩

/-- The inverse root is a real, and its derivative's factor is its cube. -/
theorem rs_real (h : Fin 1024 → EReal) : ∃ a : ℝ, 0 ≤ a ∧ rs h = (a : EReal)
    ∧ Ideal.ofBits .f32 0xBF000000#32 * Ideal.div (rs h) (ms h) = ((-(a * a * a / 2) : ℝ) : EReal) := by
  rw [half_eq]
  unfold rs
  rcases ms_cases h with e | ⟨r, hr, e⟩
  · rw [e]
    refine ⟨0, le_rfl, rfl, ?_⟩
    show _ * Ideal.div 0 ⊤ = _
    unfold Ideal.div
    rw [if_neg (by simp), zero_mul, mul_zero]; simp
  · rw [e, Ideal.rsqrt_coe, if_neg (not_lt.2 hr.le), if_neg hr.ne', Ideal.div_coe hr.ne']
    refine ⟨(Real.sqrt r)⁻¹, inv_nonneg.2 (Real.sqrt_nonneg r), rfl, ?_⟩
    rw [← EReal.coe_mul, ← EReal.coe_mul]
    congr 1
    have := Real.mul_self_sqrt hr.le
    have h1 : (Real.sqrt r)⁻¹ * (Real.sqrt r)⁻¹ = 1 / r := by rw [← mul_inv, this, one_div]
    rw [h1]; ring

theorem sum_mul_real {n : ℕ} (f : Fin n → EReal) (a : ℝ) (ha : 0 ≤ a) : ∑ c, f c * (a : EReal) = (∑ c, f c) * (a : EReal) := by
  refine Finset.induction_on (Finset.univ : Finset (Fin n)) (by simp) fun c s hc ih => ?_
  rw [Finset.sum_insert hc, Finset.sum_insert hc, ih,
    EReal.right_distrib_of_nonneg_of_ne_top (EReal.coe_nonneg.2 ha) (EReal.coe_ne_top a)]

/-- The kernel's row is the derivative's. -/
theorem dx_eq (h g dh y : Fin 1024 → EReal) (c : Fin 1024) :
    dh c + y c * g c * rs h
        + h c * Ideal.div ((∑ x, h x * (y x * g x)) * (Ideal.ofBits .f32 0xBF000000#32 * Ideal.div (rs h) (ms h))) cols
        + Ideal.div ((∑ x, h x * (y x * g x)) * (Ideal.ofBits .f32 0xBF000000#32 * Ideal.div (rs h) (ms h))) cols * h c
      = dx h g dh y c := by
  obtain ⟨a, ha, e, e3⟩ := rs_real h
  unfold dx
  rw [e3, e, div_cols, div_cols]
  have hs : ∑ c', y c' * g c' * (h c' * (a : EReal)) = (∑ x, h x * (y x * g x)) * (a : EReal) := by
    rw [← sum_mul_real _ a ha]
    exact Finset.sum_congr rfl fun x _ => by rw [← mul_assoc, mul_comm (y x * g x) (h x)]
  rw [hs]
  generalize (∑ x, h x * (y x * g x)) = S
  generalize y c * g c = p
  generalize h c = u
  rw [sub_eq_add_neg, EReal.left_distrib_of_nonneg_of_ne_top (EReal.coe_nonneg.2 ha) (EReal.coe_ne_top a), add_assoc, add_assoc]
  refine congrArg (dh c + ·) ?_
  rw [mul_comm p]
  refine congrArg₂ (· + ·) rfl ?_
  have hb : (0 : ℝ) ≤ a * a * a * 1024⁻¹ / 2 := by positivity
  have e1 : u * (S * ((-(a * a * a / 2) : ℝ) : EReal) * ((1024⁻¹ : ℝ) : EReal)) = -(u * S) * ((a * a * a * 1024⁻¹ / 2 : ℝ) : EReal) := by
    rw [mul_assoc S, ← EReal.coe_mul, show -(a * a * a / 2) * 1024⁻¹ = -(a * a * a * 1024⁻¹ / 2) by ring, EReal.coe_neg, mul_neg, mul_neg,
      neg_mul, mul_assoc u S]
  rw [mul_comm _ u, e1, ← EReal.left_distrib_of_nonneg (EReal.coe_nonneg.2 hb) (EReal.coe_nonneg.2 hb), ← EReal.coe_add, neg_mul, mul_neg]
  refine congrArg (-·) ?_
  rw [show a * a * a * 1024⁻¹ / 2 + a * a * a * 1024⁻¹ / 2 = a * (a * (a * 1024⁻¹)) by ring, EReal.coe_mul, EReal.coe_mul, EReal.coe_mul]
  ac_rfl

end Rms

end
-- ==== Proof.RmsRef.lean ====
/- The norm's reference, row by row. -/
module

public import proofs.«01_k».proof.Proof.RmsValue
public import proofs.«01_k».proof.Proof.Gen.RmsRefIdeal.Read
public import Idealize.ShloMosaic.Lib.Pointwise
public import proofs.«01_k».proof.Proof.RmsReal
public import proofs.«01_k».proof.Proof.Gen.RmsRefIdeal.Run
public import proofs.«01_k».proof.Defs

@[expose] public section

set_option maxRecDepth 16384

noncomputable section

namespace Cert.RmsRefIdeal.Hand

open Idealize.ShloMosaic Idealize.ShloMosaic.TcCoe Idealize.ShloMosaic.Tactic Idealize.SL.Sem Idealize.ShloMosaic.StableHlo
open Cert.RmsRefIdeal Cert.RmsRefIdeal.Gen Cert.RmsRefIdeal.Read

variable (x0 : Vec Ideal S2064x2816 .bf16) (x1 : Vec Ideal S5632x1024 .f32) (x2 : Vec Ideal S2064x1024 .f32) (x3 : Vec Ideal S1x1024 .f32) (x4 x5 : Vec Ideal S2064x1024 .f32)
variable (t : Fin 2064) (c : Fin 1024)

def args : Rms.Args := Rms.Args.of x0 x1 x2 x3 x4 x5

local notation "A" => args x0 x1 x2 x3 x4 x5

theorem v6_eq : val_main_v6 (F := Ideal) x2 (ix2 t 0) = Rms.ms ((A).h t) := by
  pointwise [val_main_v6, val_main_v4, val_main_v2, val_main_v1, val_main_v0, val_main_v3, val_main_v5, val_main_cst, val_main_cst_0, val_main_cst_1]
  rfl

theorem v7_eq : val_main_v7 (F := Ideal) x2 (ix2 t 0) = Rms.rs ((A).h t) := by
  pointwise [val_main_v7]
  rw [v6_eq x0 x1 x2 x3 x4 x5]; rfl

theorem v10_eq : val_main_v10 (F := Ideal) x2 (ix2 t 0) = Ideal.ofBits .f32 0xBF000000#32 * Ideal.div (Rms.rs ((A).h t)) (Rms.ms ((A).h t)) := by
  pointwise [val_main_v10, val_main_v9, val_main_v8, val_main_cst_2]
  rw [v6_eq x0 x1 x2 x3 x4 x5, v7_eq x0 x1 x2 x3 x4 x5]

theorem v20_eq : val_main_v20 (F := Ideal) x0 x1 x5 (ix2 t c) = (A).y t c := by
  pointwise [val_main_v20, val_main_v19, val_main_v18, val_main_v16, val_main_v15]
  exact add_comm _ _

theorem v23_eq : val_main_v23 (F := Ideal) x0 x1 x2 x5 (ix2 0 c) = (A).dgAt c := by
  pointwise [val_main_v23, val_main_v22, val_main_v21, val_main_v12, val_main_v11, val_main_cst_3]
  simp only [v20_eq x0 x1 x2 x3 x4 x5, v7_eq x0 x1 x2 x3 x4 x5]
  exact Finset.sum_congr rfl fun x _ => mul_comm _ _

theorem v36_eq : val_main_v36 (F := Ideal) x0 x1 x2 x3 x5 (ix2 t c)
    = Ideal.div ((∑ x, (A).h t x * ((A).y t x * (A).g x)) * (Ideal.ofBits .f32 0xBF000000#32 * Ideal.div (Rms.rs ((A).h t)) (Rms.ms ((A).h t)))) Rms.cols := by
  pointwise [val_main_v36, val_main_v35, val_main_v34, val_main_v32, val_main_v33, val_main_cst_6, val_main_cst_5, val_main_v28, val_main_v27, val_main_v26, val_main_v25, val_main_v24, val_main_cst_4]
  rw [Fin.sum_univ_one]
  simp only [v20_eq x0 x1 x2 x3 x4 x5, v10_eq x0 x1 x2 x3 x4 x5]
  rfl

theorem v40_eq : val_main_v40 (F := Ideal) x0 x1 x2 x3 x4 x5 (ix2 t c) = (A).dxAt t c := by
  pointwise [val_main_v40, val_main_v39, val_main_v38, val_main_v37, val_main_v31, val_main_v30, val_main_v29, val_main_v25, val_main_v24]
  simp only [v20_eq x0 x1 x2 x3 x4 x5, v7_eq x0 x1 x2 x3 x4 x5, v36_eq x0 x1 x2 x3 x4 x5]
  exact Rms.dx_eq ((A).h t) (A).g ((A).dh t) ((A).y t) c

theorem dx_eq : val_main_v40 (F := Ideal) x0 x1 x2 x3 x4 x5 = Cert.RmsIdeal.Prod.resX (A) := by
  funext i
  obtain ⟨t, x, rfl⟩ : ∃ (t : Fin 2064) (x : Fin 1024), i = ix2 t x := ⟨i 0, i 1, funext fun a => match a with | ⟨0, _⟩ => rfl | ⟨1, _⟩ => rfl⟩
  exact v40_eq x0 x1 x2 x3 x4 x5 t x

theorem dg_eq : val_main_v23 (F := Ideal) x0 x1 x2 x5 = Cert.RmsIdeal.Prod.resG (A) := by
  funext i
  obtain ⟨x, rfl⟩ : ∃ (x : Fin 1024), i = ix2 0 x :=
    ⟨i 1, funext fun a => match a with | ⟨0, _⟩ => Fin.ext (by have : (i 0).val < 1 := (i 0).isLt; show (i 0).val = 0; omega) | ⟨1, _⟩ => rfl⟩
  exact v23_eq x0 x1 x2 x3 x4 x5 x

theorem algebraic : Cert.algebraic_RmsIdeal_RmsRefIdeal := by
  intro m g m' g' _ hag
  refine ⟨fun c => Cert.RmsIdeal.Prod.resX (Cert.RmsIdeal.Prod.args m c), fun c => Cert.RmsIdeal.Prod.resG (Cert.RmsIdeal.Prod.args m c),
    Cert.RmsIdeal.Prod.run m g, (θ_run _ _ _).mono (fun r h c => ?_) (Cert.RmsRefIdeal.Value.run (F := Ideal) m' g')⟩
  have e : args (m' ((c.tc : Thread nD τ).loc main_arg0) :) (m' ((c.tc : Thread nD τ).loc main_arg1) :) (m' ((c.tc : Thread nD τ).loc main_arg2) :)
      (m' ((c.tc : Thread nD τ).loc main_arg3) :) (m' ((c.tc : Thread nD τ).loc main_arg4) :) (m' ((c.tc : Thread nD τ).loc main_arg5) :)
      = Cert.RmsIdeal.Prod.args m c := by
    rw [(hag c).1, (hag c).2.1, (hag c).2.2.1, (hag c).2.2.2.1, (hag c).2.2.2.2.1, (hag c).2.2.2.2.2]
    rfl
  simp only [← e]
  obtain ⟨h1, h2, h3⟩ := h c
  refine ⟨h1.trans ((val_main_v40_eq m' c).trans ?_), h2.trans ((val_main_v23_eq _ _ _ _).trans ?_), h3⟩
  · exact dx_eq _ _ _ _ _ _
  · exact dg_eq _ _ _ _ _ _

end Cert.RmsRefIdeal.Hand

end
-- ==== Proof.EbOut.lean ====
/- What one grid point of the short gated convolution's backward call stores: rows of the padded products, read back. -/
module

public import proofs.«01_k».proof.Proof.Gen.EbIdeal.Value
public import Idealize.ShloMosaic.Lib.Pointwise

@[expose] public section

set_option maxRecDepth 16384

noncomputable section

namespace Cert.EbIdeal.Prod

open Cert.EbIdeal Cert.EbIdeal.Gen Idealize.ShloMosaic Idealize.ShloMosaic.TcCoe Idealize.ShloMosaic.Tactic Idealize.SL.Sem

theorem hz : (![0, 0] : Fin 2 → Nat) = fun _ => 0 := funext fun a => by fin_cases a <;> rfl

/-- An array's row by its number, zero past the end. -/
def row (X : S2064x128.Idx → EReal) (t : ℕ) (y : Fin 128) : EReal := if h : t < 2064 then X (ix2 ⟨t, h⟩ y) else 0
/-- The rows with 32 rows of zeros before them, and after them. -/
def front (X : S2064x128.Idx → EReal) (i : S2096x128.Idx) : EReal := if (i 0).val < 32 then 0 else row X ((i 0).val - 32) (i 1)
def back (X : S2064x128.Idx → EReal) (i : S2096x128.Idx) : EReal := row X (i 0).val (i 1)

theorem row_of (X : S2064x128.Idx → EReal) (i : S2064x128.Idx) (t : ℕ) (y : Fin 128) (h0 : (i 0).val = t) (h1 : i 1 = y) : row X t y = X i := by
  subst h0 h1
  unfold row
  rw [dif_pos (show (i 0).val < 2064 from (i 0).isLt)]
  exact congrArg X (funext fun a => match a with | ⟨0, _⟩ => rfl | ⟨1, _⟩ => rfl)

theorem row_congr (X : S2064x128.Idx → EReal) {t t' : ℕ} (h : t = t') (y : Fin 128) : row X t y = row X t' y := by rw [h]

theorem canon_front (X : FVec Ideal S2064x128 .f32) : View.canon (Val := Elt Ideal) (s := S2096x128) (e := .f32)
    [⟨Rect.unit ![32, 0] ![2064, 128] inb_S2096x128_S2064x128_32_0, X⟩,
      ⟨Rect.unit ![0, 0] ![32, 128] inb_S2096x128_S32x128_0_0, k0_pay1 (F := Ideal)⟩] = front X := by
  funext i
  refine View.canon_apply_of_pieces (Val := Elt Ideal) (e := .f32) (S := S2096x128) (front X) _ (fun p hp x => ?_) i ?_
  · simp only [List.mem_cons, List.not_mem_nil, or_false] at hp
    rcases hp with rfl | rfl
    · refine Eq.symm ((if_neg (show ¬ 32 + 1 * (x 0).val < 32 by omega)).trans ?_)
      exact row_of X x _ _ (show (x 0).val = 32 + 1 * (x 0).val - 32 by omega) (Fin.ext (show (x 1).val = 0 + 1 * (x 1).val by omega))
    · refine Eq.trans ?_ (if_pos (show 0 + 1 * (x 0).val < 32 by have : (x 0).val < 32 := (x 0).isLt; omega)).symm
      obtain ⟨r, y, rfl⟩ : ∃ (r : Fin 32) (y : Fin 128), x = ix2 r y := ⟨x 0, x 1, funext fun a => match a with | ⟨0, _⟩ => rfl | ⟨1, _⟩ => rfl⟩
      dsimp only
      pointwise [k0_pay1]
      try rfl
  · have hx : (i 0).val < 2096 := (i 0).isLt
    have hy : (i 1).val < 128 := (i 1).isLt
    by_cases h : (i 0).val < 32
    · refine ⟨_, List.mem_cons_of_mem _ (List.mem_singleton.mpr rfl), (Rect.mem_set_unit (s := S2096x128) (inb := inb_S2096x128_S32x128_0_0)).mpr fun a => ?_⟩
      match a with
      | ⟨0, _⟩ => show 0 ≤ (i 0).val ∧ (i 0).val < 0 + 32; omega
      | ⟨1, _⟩ => show 0 ≤ (i 1).val ∧ (i 1).val < 0 + 128; omega
    · refine ⟨_, List.mem_cons_self, (Rect.mem_set_unit (s := S2096x128) (inb := inb_S2096x128_S2064x128_32_0)).mpr fun a => ?_⟩
      match a with
      | ⟨0, _⟩ => show 32 ≤ (i 0).val ∧ (i 0).val < 32 + 2064; omega
      | ⟨1, _⟩ => show 0 ≤ (i 1).val ∧ (i 1).val < 0 + 128; omega

theorem canon_back (X : FVec Ideal S2064x128 .f32) : View.canon (Val := Elt Ideal) (s := S2096x128) (e := .f32)
    [⟨Rect.unit ![2064, 0] ![32, 128] inb_S2096x128_S32x128_2064_0, k0_pay4 (F := Ideal)⟩,
      ⟨Rect.unit ![0, 0] ![2064, 128] inb_S2096x128_S2064x128_0_0, X⟩] = back X := by
  funext i
  refine View.canon_apply_of_pieces (Val := Elt Ideal) (e := .f32) (S := S2096x128) (back X) _ (fun p hp x => ?_) i ?_
  · simp only [List.mem_cons, List.not_mem_nil, or_false] at hp
    rcases hp with rfl | rfl
    · refine Eq.trans ?_ (dif_neg (show ¬ 2064 + 1 * (x 0).val < 2064 by omega)).symm
      obtain ⟨r, y, rfl⟩ : ∃ (r : Fin 32) (y : Fin 128), x = ix2 r y := ⟨x 0, x 1, funext fun a => match a with | ⟨0, _⟩ => rfl | ⟨1, _⟩ => rfl⟩
      dsimp only
      pointwise [k0_pay4]
      try rfl
    · exact (row_of X x _ _ (show (x 0).val = 0 + 1 * (x 0).val by omega) (Fin.ext (show (x 1).val = 0 + 1 * (x 1).val by omega))).symm
  · have hx : (i 0).val < 2096 := (i 0).isLt
    have hy : (i 1).val < 128 := (i 1).isLt
    by_cases h : (i 0).val < 2064
    · refine ⟨_, List.mem_cons_of_mem _ (List.mem_singleton.mpr rfl), (Rect.mem_set_unit (s := S2096x128) (inb := inb_S2096x128_S2064x128_0_0)).mpr fun a => ?_⟩
      match a with
      | ⟨0, _⟩ => show 0 ≤ (i 0).val ∧ (i 0).val < 0 + 2064; omega
      | ⟨1, _⟩ => show 0 ≤ (i 1).val ∧ (i 1).val < 0 + 128; omega
    · refine ⟨_, List.mem_cons_self, (Rect.mem_set_unit (s := S2096x128) (inb := inb_S2096x128_S32x128_2064_0)).mpr fun a => ?_⟩
      match a with
      | ⟨0, _⟩ => show 2064 ≤ (i 0).val ∧ (i 0).val < 2064 + 32; omega
      | ⟨1, _⟩ => show 0 ≤ (i 1).val ∧ (i 1).val < 0 + 128; omega

theorem pay2_eq (a b : Vec Ideal S2064x128 .f32) : k0_pay2 (F := Ideal) a b = fun i => a i * b i := by
  funext i
  obtain ⟨r, y, rfl⟩ : ∃ (r : Fin 2064) (y : Fin 128), i = ix2 r y := ⟨i 0, i 1, funext fun a => match a with | ⟨0, _⟩ => rfl | ⟨1, _⟩ => rfl⟩
  pointwise [k0_pay2]
theorem pay3_eq (a b : Vec Ideal S2064x128 .f32) : k0_pay3 (F := Ideal) a b = fun i => a i * b i := by
  funext i
  obtain ⟨r, y, rfl⟩ : ∃ (r : Fin 2064) (y : Fin 128), i = ix2 r y := ⟨i 0, i 1, funext fun a => match a with | ⟨0, _⟩ => rfl | ⟨1, _⟩ => rfl⟩
  pointwise [k0_pay3]

/-- A row some rows earlier, and some rows later; zero outside the array. -/
def past (X : S2064x128.Idx → EReal) (t : Fin 2064) (y : Fin 128) (k : Fin 3) : EReal := front X (ix2 ⟨t.val + (30 + k.val), by omega⟩ y)
def next (X : S2064x128.Idx → EReal) (t : Fin 2064) (y : Fin 128) (k : Fin 3) : EReal := back X (ix2 ⟨t.val + k.val, by omega⟩ y)

theorem front_past (X : S2064x128.Idx → EReal) (n : ℕ) (h) (t : Fin 2064) (y : Fin 128) (k : Fin 3) (e : n = t.val + (30 + k.val)) :
    front X (ix2 ⟨n, h⟩ y) = past X t y k := by subst e; rfl
theorem back_next (X : S2064x128.Idx → EReal) (n : ℕ) (h) (t : Fin 2064) (y : Fin 128) (k : Fin 3) (e : n = t.val + k.val) :
    back X (ix2 ⟨n, h⟩ y) = next X t y k := by subst e; rfl

theorem emb_ix2 (o : ℕ) (inb) (r : Fin 344) (y : Fin 128) (h : o + r.val < 2064) :
    (Rect.unit (s := S2064x128) ![o, 0] ![344, 128] inb).emb (ix2 r y) = ix2 ⟨o + r.val, h⟩ y :=
  funext fun a => match a with
  | ⟨0, _⟩ => Fin.ext (show o + 1 * r.val = o + r.val by omega)
  | ⟨1, _⟩ => Fin.ext (show 0 + 1 * y.val = y.val by omega)

theorem emb_tap (o : ℕ) (inb) (r : Fin 1) (y : Fin 128) (h : o < 3) :
    (Rect.unit (s := S3x128) ![o, 0] ![1, 128] inb).emb (ix2 r y) = ix2 ⟨o, h⟩ y :=
  funext fun a => match a with
  | ⟨0, _⟩ => Fin.ext (show o + 1 * r.val = o by omega)
  | ⟨1, _⟩ => Fin.ext (show 0 + 1 * y.val = y.val by omega)

section
variable (c : Dev nD) (i : grid0.Coords)
  (arg1 : Memref sig .tc .vmem S2064x128 .f32) (harg1 : arg1.IsWhole) (arg2 : Memref sig .tc .vmem S2064x128 .f32) (harg2 : arg2.IsWhole) (arg3 : Memref sig .tc .vmem S2064x128 .f32) (harg3 : arg3.IsWhole)
  (arg4 : Memref sig .tc .vmem S2064x128 .f32) (harg4 : arg4.IsWhole) (arg5 : Memref sig .tc .vmem S3x128 .f32) (harg5 : arg5.IsWhole) (arg6 : Memref sig .tc .vmem S2064x128 .f32) (harg6 : arg6.IsWhole)
  (arg7 : Memref sig .tc .vmem S2064x128 .f32) (harg7 : arg7.IsWhole) (arg8 : Memref sig .tc .vmem S2064x128 .f32) (harg8 : arg8.IsWhole) (arg9 : Memref sig .tc .vmem S3x128 .f32) (harg9 : arg9.IsWhole)
  (arg10 : Memref sig .tc .vmem S2096x128 .f32) (harg10 : arg10.IsWhole) (arg11 : Memref sig .tc .vmem S2096x128 .f32) (harg11 : arg11.IsWhole)
  (x0 x1 x2 x3 : Vec Ideal S2064x128 .f32) (x4 : Vec Ideal S3x128 .f32)

/-- The gradient of the outer gate: the output's gradient times the convolution. -/
def dgb (i : S2064x128.Idx) : EReal :=
  x0 i * (x4 (ix2 0 (i 1)) * past (fun i => x2 i * x3 i) (i 0) (i 1) 0 + x4 (ix2 1 (i 1)) * past (fun i => x2 i * x3 i) (i 0) (i 1) 1
    + x4 (ix2 2 (i 1)) * past (fun i => x2 i * x3 i) (i 0) (i 1) 2)

theorem out_5 : out0_A_5 (F := Ideal) c i arg1 harg1 arg2 harg2 arg3 harg3 arg4 harg4 arg5 harg5 arg6 harg6 arg7 harg7 arg8 harg8 arg9 harg9 arg10 harg10 arg11 harg11 x0 x1 x2 x3 x4 = dgb x0 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 x0 x1 x2 x3 x4)]
  funext j
  refine View.canon_apply_of_pieces (Val := Elt Ideal) (e := .f32) (S := S2064x128) (dgb x0 x2 x3 x4) _ ?_ j (cover0_A_5 c i arg1 harg1 arg2 harg2 arg3 harg3 arg4 harg4 arg5 harg5 arg6 harg6 arg7 harg7 arg8 harg8 arg9 harg9 arg10 harg10 arg11 harg11 x0 x1 x2 x3 x4 j)
  unfold kernelRun0_A
  dsimp only
  sl_unfold_words
  simp only [View.readAt_eq_ld, harg1.read_unread, harg2.read_unread, harg3.read_unread, harg4.read_unread, harg5.read_unread,
    View.ld_unit_zero (S := S2064x128) hz, View.readCov_eq_canon', canon_front, canon_back, pay2_eq, pay3_eq]
  intro p hp x
  simp only [List.mem_cons, List.not_mem_nil, or_false] at hp
  rcases hp with rfl | rfl | rfl | rfl | rfl | rfl
  all_goals
    obtain ⟨r, y, rfl⟩ : ∃ (r : Fin 344) (y : Fin 128), x = ix2 r y := ⟨x 0, x 1, funext fun a => match a with | ⟨0, _⟩ => rfl | ⟨1, _⟩ => rfl⟩
    dsimp only
    rw [emb_ix2 _ _ _ _ (by omega)]
    pointwise [k0_pay5, k0_pay6, k0_pay13, k0_pay23, k0_pay31, k0_pay32, k0_pay39, k0_pay40, k0_pay41, k0_pay49, dgb]
    refine congrArg₂ (· * ·) (by first | rfl | simp) (congrArg₂ (· + ·) (congrArg₂ (· + ·) (congrArg₂ (· * ·) rfl ?_) (congrArg₂ (· * ·) rfl ?_)) (congrArg₂ (· * ·) rfl ?_))
    all_goals exact front_past _ _ _ _ _ _ (by first | omega | (dsimp <;> omega))

/-- The gradient of the gated input: the transposed convolution. -/
def dcx (i : S2064x128.Idx) : EReal :=
  x4 (ix2 0 (i 1)) * next (fun i => x0 i * x1 i) (i 0) (i 1) 2 + x4 (ix2 1 (i 1)) * next (fun i => x0 i * x1 i) (i 0) (i 1) 1
    + x4 (ix2 2 (i 1)) * next (fun i => x0 i * x1 i) (i 0) (i 1) 0
/-- The gradients of the inner gate and of the input. -/
def dgc (i : S2064x128.Idx) : EReal := dcx x0 x1 x4 i * x3 i
def dxi (i : S2064x128.Idx) : EReal := dcx x0 x1 x4 i * x2 i
/-- The rows are six blocks of 344. -/
def rowEquiv : Fin 6 × Fin 344 ≃ Fin 2064 where
  toFun x := ⟨344 * x.1.val + x.2.val, by omega⟩
  invFun s := (⟨s.val / 344, by omega⟩, ⟨s.val % 344, by omega⟩)
  left_inv x := Prod.ext (Fin.ext (by show (344 * x.1.val + x.2.val) / 344 = x.1.val; omega))
    (Fin.ext (by show (344 * x.1.val + x.2.val) % 344 = x.2.val; omega))
  right_inv s := Fin.ext (by show 344 * (s.val / 344) + s.val % 344 = s.val; omega)

theorem six_sums (f : Fin 2064 → EReal) (s0 s1 s2 s3 s4 s5 : EReal) (h0 : s0 = ∑ r, f (rowEquiv (0, r))) (h1 : s1 = ∑ r, f (rowEquiv (1, r)))
    (h2 : s2 = ∑ r, f (rowEquiv (2, r))) (h3 : s3 = ∑ r, f (rowEquiv (3, r))) (h4 : s4 = ∑ r, f (rowEquiv (4, r)))
    (h5 : s5 = ∑ r, f (rowEquiv (5, r))) : s0 + s1 + s2 + s3 + s4 + s5 = ∑ t, f t := by
  rw [h0, h1, h2, h3, h4, h5, ← Fin.sum_univ_six (fun n => ∑ r, f (rowEquiv (n, r))), ← Fintype.sum_prod_type' (fun n r => f (rowEquiv (n, r)))]
  exact Equiv.sum_comp rowEquiv f

/-- One product of the taps' gradient, read from the padded arrays. -/
theorem back_front (D X : S2064x128.Idx → EReal) (n p : ℕ) (hn hp) (t : Fin 2064) (y : Fin 128) (k : Fin 3) (e : n = t.val)
    (e' : p = t.val + (30 + k.val)) : back D (ix2 ⟨n, hn⟩ y) * front X (ix2 ⟨p, hp⟩ y) = D (ix2 t y) * past X t y k := by
  subst e
  exact congrArg₂ (· * ·) ((dif_pos t.isLt).trans rfl) (front_past X p hp t y k e')

/-- The gradient of the convolution's taps. -/
def dw (i : S3x128.Idx) : EReal := ∑ t : Fin 2064, x0 (ix2 t (i 1)) * x1 (ix2 t (i 1)) * past (fun i => x2 i * x3 i) t (i 1) (i 0)

theorem out_6 : out0_A_6 (F := Ideal) c i arg1 harg1 arg2 harg2 arg3 harg3 arg4 harg4 arg5 harg5 arg6 harg6 arg7 harg7 arg8 harg8 arg9 harg9 arg10 harg10 arg11 harg11 x0 x1 x2 x3 x4 = dgc x0 x1 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4)]
  funext j
  refine View.canon_apply_of_pieces (Val := Elt Ideal) (e := .f32) (S := S2064x128) (dgc x0 x1 x3 x4) _ ?_ j (cover0_A_6 c i arg1 harg1 arg2 harg2 arg3 harg3 arg4 harg4 arg5 harg5 arg6 harg6 arg7 harg7 arg8 harg8 arg9 harg9 arg10 harg10 arg11 harg11 x0 x1 x2 x3 x4 j)
  unfold kernelRun0_A
  dsimp only
  sl_unfold_words
  simp only [View.readAt_eq_ld, harg1.read_unread, harg2.read_unread, harg3.read_unread, harg4.read_unread, harg5.read_unread,
    View.ld_unit_zero (S := S2064x128) hz, View.readCov_eq_canon', canon_front, canon_back, pay2_eq, pay3_eq]
  intro p hp x
  simp only [List.mem_cons, List.not_mem_nil, or_false] at hp
  rcases hp with rfl | rfl | rfl | rfl | rfl | rfl
  all_goals
    obtain ⟨r, y, rfl⟩ : ∃ (r : Fin 344) (y : Fin 128), x = ix2 r y := ⟨x 0, x 1, funext fun a => match a with | ⟨0, _⟩ => rfl | ⟨1, _⟩ => rfl⟩
    dsimp only
    rw [emb_ix2 _ _ _ _ (by omega)]
    pointwise [k0_pay7, k0_pay14, k0_pay24, k0_pay25, k0_pay33, k0_pay42, k0_pay50, k0_pay51, k0_pay8, k0_pay15, k0_pay26, k0_pay34, k0_pay35, k0_pay43, k0_pay52, k0_pay9, k0_pay16, k0_pay27, k0_pay44, k0_pay53, dgc, dxi, dcx]
    refine congrArg₂ (· * ·) (congrArg₂ (· + ·) (congrArg₂ (· + ·) (congrArg₂ (· * ·) rfl ?_) (congrArg₂ (· * ·) rfl ?_)) (congrArg₂ (· * ·) rfl ?_)) rfl
    all_goals exact back_next _ _ _ _ _ _ (by first | omega | (dsimp <;> omega))

theorem out_7 : out0_A_7 (F := Ideal) c i arg1 harg1 arg2 harg2 arg3 harg3 arg4 harg4 arg5 harg5 arg6 harg6 arg7 harg7 arg8 harg8 arg9 harg9 arg10 harg10 arg11 harg11 x0 x1 x2 x3 x4 = dxi x0 x1 x2 x4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4)]
  funext j
  refine View.canon_apply_of_pieces (Val := Elt Ideal) (e := .f32) (S := S2064x128) (dxi x0 x1 x2 x4) _ ?_ j (cover0_A_7 c i arg1 harg1 arg2 harg2 arg3 harg3 arg4 harg4 arg5 harg5 arg6 harg6 arg7 harg7 arg8 harg8 arg9 harg9 arg10 harg10 arg11 harg11 x0 x1 x2 x3 x4 j)
  unfold kernelRun0_A
  dsimp only
  sl_unfold_words
  simp only [View.readAt_eq_ld, harg1.read_unread, harg2.read_unread, harg3.read_unread, harg4.read_unread, harg5.read_unread,
    View.ld_unit_zero (S := S2064x128) hz, View.readCov_eq_canon', canon_front, canon_back, pay2_eq, pay3_eq]
  intro p hp x
  simp only [List.mem_cons, List.not_mem_nil, or_false] at hp
  rcases hp with rfl | rfl | rfl | rfl | rfl | rfl
  all_goals
    obtain ⟨r, y, rfl⟩ : ∃ (r : Fin 344) (y : Fin 128), x = ix2 r y := ⟨x 0, x 1, funext fun a => match a with | ⟨0, _⟩ => rfl | ⟨1, _⟩ => rfl⟩
    dsimp only
    rw [emb_ix2 _ _ _ _ (by omega)]
    pointwise [k0_pay7, k0_pay14, k0_pay24, k0_pay25, k0_pay33, k0_pay42, k0_pay50, k0_pay51, k0_pay8, k0_pay15, k0_pay26, k0_pay34, k0_pay35, k0_pay43, k0_pay52, k0_pay9, k0_pay16, k0_pay27, k0_pay44, k0_pay53, dgc, dxi, dcx]
    refine congrArg₂ (· * ·) (congrArg₂ (· + ·) (congrArg₂ (· + ·) (congrArg₂ (· * ·) rfl ?_) (congrArg₂ (· * ·) rfl ?_)) (congrArg₂ (· * ·) rfl ?_)) rfl
    all_goals exact back_next _ _ _ _ _ _ (by first | omega | (dsimp <;> omega))

theorem out_8 : out0_A_8 (F := Ideal) c i arg1 harg1 arg2 harg2 arg3 harg3 arg4 harg4 arg5 harg5 arg6 harg6 arg7 harg7 arg8 harg8 arg9 harg9 arg10 harg10 arg11 harg11 x0 x1 x2 x3 x4 = dw x0 x1 x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4)]
  funext j
  refine View.canon_apply_of_pieces (Val := Elt Ideal) (e := .f32) (S := S3x128) (dw x0 x1 x2 x3) _ ?_ j (cover0_A_8 c i arg1 harg1 arg2 harg2 arg3 harg3 arg4 harg4 arg5 harg5 arg6 harg6 arg7 harg7 arg8 harg8 arg9 harg9 arg10 harg10 arg11 harg11 x0 x1 x2 x3 x4 j)
  unfold kernelRun0_A
  dsimp only
  sl_unfold_words
  simp only [View.readAt_eq_ld, harg1.read_unread, harg2.read_unread, harg3.read_unread, harg4.read_unread, harg5.read_unread,
    View.ld_unit_zero (S := S2064x128) hz, View.readCov_eq_canon', canon_front, canon_back, pay2_eq, pay3_eq]
  intro p hp x
  simp only [List.mem_cons, List.not_mem_nil, or_false] at hp
  rcases hp with rfl | rfl | rfl
  all_goals
    obtain ⟨r, y, rfl⟩ : ∃ (r : Fin 1) (y : Fin 128), x = ix2 r y := ⟨x 0, x 1, funext fun a => match a with | ⟨0, _⟩ => rfl | ⟨1, _⟩ => rfl⟩
    dsimp only
    pointwise [k0_pay10, k0_pay11, k0_pay12, k0_pay17, k0_pay18, k0_pay19, k0_pay20, k0_pay21, k0_pay22, k0_pay28, k0_pay29, k0_pay30, k0_pay36, k0_pay37, k0_pay38, k0_pay45, k0_pay46, k0_pay47, k0_pay48, k0_pay54, k0_pay55, k0_pay56]
    rw [emb_tap _ _ _ _ (by decide)]
    refine six_sums (fun t => x0 (ix2 t y) * x1 (ix2 t y) * past (fun i => x2 i * x3 i) t y _) _ _ _ _ _ _ ?_ ?_ ?_ ?_ ?_ ?_
    all_goals
      refine Finset.sum_congr rfl fun t _ => back_front (fun i => x0 i * x1 i) (fun i => x2 i * x3 i) _ _ _ _ (rowEquiv (_, t)) y _ ?_ ?_
      all_goals simp only [rowEquiv, Equiv.coe_fn_mk]
      all_goals first | omega | (dsimp <;> omega) | (simp <;> omega)

end

end Cert.EbIdeal.Prod

end
-- ==== Proof.EbValue.lean ====
/- The gradient of the short gated convolution over the whole arrays: every grid point computes 128 channels, all tokens. -/
module

public import proofs.«01_k».proof.Proof.EbOut

@[expose] public section

set_option maxRecDepth 16384

noncomputable section

open Idealize.ShloMosaic

namespace Eb

/-- A channel's value by its token's number, zero past the end. -/
def row (f : Fin 2064 → EReal) (t : ℕ) : EReal := if h : t < 2064 then f ⟨t, h⟩ else 0
/-- What the tap `k` of the convolution sees at a token: the channel's value `2 - k` tokens earlier; and the value `k` tokens later. -/
def past (f : Fin 2064 → EReal) (t : Fin 2064) (k : Fin 3) : EReal := if t.val + (30 + k.val) < 32 then 0 else row f (t.val + (30 + k.val) - 32)
def next (f : Fin 2064 → EReal) (t : Fin 2064) (k : Fin 3) : EReal := row f (t.val + k.val)

/-- The output's gradient, the outer gate, the inner gate, the input, the taps; by token and channel. -/
structure Args where
  d : Fin 2064 → Fin 512 → EReal
  b : Fin 2064 → Fin 512 → EReal
  g : Fin 2064 → Fin 512 → EReal
  x : Fin 2064 → Fin 512 → EReal
  w : Fin 3 → Fin 512 → EReal

/-- They are column ranges of the arrays. -/
def Args.of (a0 : (⟨2, ![2064, 1024]⟩ : Shape).Idx → EReal) (a1 : (⟨2, ![2064, 2560]⟩ : Shape).Idx → EReal)
    (a2 : (⟨2, ![3, 512]⟩ : Shape).Idx → EReal) : Args where
  d t y := a0 (ix2 t ⟨512 + y.val, by omega⟩)
  b t y := a1 (ix2 t ⟨1024 + y.val, by omega⟩)
  g t y := a1 (ix2 t ⟨1536 + y.val, by omega⟩)
  x t y := a1 (ix2 t ⟨2048 + y.val, by omega⟩)
  w k y := a2 (ix2 k y)

namespace Args
variable (A : Args) (t : Fin 2064) (y : Fin 512)

/-- The gated input, and the gradient of the convolution's output. -/
def gx (y : Fin 512) (t : Fin 2064) : EReal := A.g t y * A.x t y
def db (y : Fin 512) (t : Fin 2064) : EReal := A.d t y * A.b t y
/-- The four gradients. -/
def dgb : EReal := A.d t y * (A.w 0 y * past (A.gx y) t 0 + A.w 1 y * past (A.gx y) t 1 + A.w 2 y * past (A.gx y) t 2)
def dcx : EReal := A.w 0 y * next (A.db y) t 2 + A.w 1 y * next (A.db y) t 1 + A.w 2 y * next (A.db y) t 0
def dgc : EReal := A.dcx t y * A.x t y
def dxi : EReal := A.dcx t y * A.g t y
def dw (k : Fin 3) (y : Fin 512) : EReal := ∑ t : Fin 2064, A.db y t * past (A.gx y) t k
end Args

end Eb

namespace Cert.EbIdeal.Prod

open Cert.EbIdeal Cert.EbIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments of a device. -/
def args (c : Dev nD) : Eb.Args := Eb.Args.of (m ((c : Thread nD τ).loc main_arg0) :) (m ((c : Thread nD τ).loc main_arg1) :)
  (m ((c : Thread nD τ).loc main_arg2) :)

/-- How the windows move. -/
theorem idx : ∀ t : Fin cfg0.N, (win0_0.index t 0 = 0 ∧ win0_0.index t 1 = 4 + t.val) ∧ (win0_1.index t 0 = 0 ∧ win0_1.index t 1 = 8 + t.val)
      ∧ (win0_2.index t 0 = 0 ∧ win0_2.index t 1 = 12 + t.val) ∧ (win0_3.index t 0 = 0 ∧ win0_3.index t 1 = 16 + t.val)
      ∧ (win0_4.index t 0 = 0 ∧ win0_4.index t 1 = t.val) ∧ (win0_5.index t 0 = 0 ∧ win0_5.index t 1 = t.val)
      ∧ (win0_6.index t 0 = 0 ∧ win0_6.index t 1 = t.val) ∧ (win0_7.index t 0 = 0 ∧ win0_7.index t 1 = t.val)
      ∧ (win0_8.index t 0 = 0 ∧ win0_8.index t 1 = t.val) :=
  (by decide +kernel : ∀ t : Fin grid0.N, (win0_0.index t 0 = 0 ∧ win0_0.index t 1 = 4 + t.val) ∧ (win0_1.index t 0 = 0 ∧ win0_1.index t 1 = 8 + t.val)
      ∧ (win0_2.index t 0 = 0 ∧ win0_2.index t 1 = 12 + t.val) ∧ (win0_3.index t 0 = 0 ∧ win0_3.index t 1 = 16 + t.val)
      ∧ (win0_4.index t 0 = 0 ∧ win0_4.index t 1 = t.val) ∧ (win0_5.index t 0 = 0 ∧ win0_5.index t 1 = t.val)
      ∧ (win0_6.index t 0 = 0 ∧ win0_6.index t 1 = t.val) ∧ (win0_7.index t 0 = 0 ∧ win0_7.index t 1 = t.val)
      ∧ (win0_8.index t 0 = 0 ∧ win0_8.index t 1 = t.val))

variable (c : Dev nD) (t : Fin cfg0.N) (r : Fin 2064) (k : Fin 3) (y : Fin 128)

/-- The channel that a point's column is. -/
def ch : Fin 512 := ⟨128 * t.val + y.val, by have : t.val < 4 := lt_of_lt_of_eq t.isLt N_0; omega⟩

theorem iblk0 : (iblk m c 0 t : Vec Ideal S2064x128 .f32) (ix2 r y) = (args m c).d r (ch t y) := by
  unfold iblk
  rw [View.read_apply]
  show V m c main_arg0 _ = m (c.tc.loc main_arg0) _
  unfold V
  congr 1
  funext a
  have := idx t
  apply Fin.ext
  match a with
  | ⟨0, _⟩ => show win0_0.index t 0 * 2064 + 1 * r.val = r.val; omega
  | ⟨1, _⟩ => show win0_0.index t 1 * 128 + 1 * y.val = 512 + (128 * t.val + y.val); omega

theorem iblk1 : (iblk m c 1 t : Vec Ideal S2064x128 .f32) (ix2 r y) = (args m c).b r (ch t y) := by
  unfold iblk
  rw [View.read_apply]
  show V m c main_arg1 _ = m (c.tc.loc main_arg1) _
  unfold V
  congr 1
  funext a
  have := idx t
  apply Fin.ext
  match a with
  | ⟨0, _⟩ => show win0_1.index t 0 * 2064 + 1 * r.val = r.val; omega
  | ⟨1, _⟩ => show win0_1.index t 1 * 128 + 1 * y.val = 1024 + (128 * t.val + y.val); omega

theorem iblk2 : (iblk m c 2 t : Vec Ideal S2064x128 .f32) (ix2 r y) = (args m c).g r (ch t y) := by
  unfold iblk
  rw [View.read_apply]
  show V m c main_arg1 _ = m (c.tc.loc main_arg1) _
  unfold V
  congr 1
  funext a
  have := idx t
  apply Fin.ext
  match a with
  | ⟨0, _⟩ => show win0_2.index t 0 * 2064 + 1 * r.val = r.val; omega
  | ⟨1, _⟩ => show win0_2.index t 1 * 128 + 1 * y.val = 1536 + (128 * t.val + y.val); omega

theorem iblk3 : (iblk m c 3 t : Vec Ideal S2064x128 .f32) (ix2 r y) = (args m c).x r (ch t y) := by
  unfold iblk
  rw [View.read_apply]
  show V m c main_arg1 _ = m (c.tc.loc main_arg1) _
  unfold V
  congr 1
  funext a
  have := idx t
  apply Fin.ext
  match a with
  | ⟨0, _⟩ => show win0_3.index t 0 * 2064 + 1 * r.val = r.val; omega
  | ⟨1, _⟩ => show win0_3.index t 1 * 128 + 1 * y.val = 2048 + (128 * t.val + y.val); omega

theorem iblk4 : (iblk m c 4 t : Vec Ideal S3x128 .f32) (ix2 k y) = (args m c).w k (ch t y) := by
  unfold iblk
  rw [View.read_apply]
  show V m c main_arg2 _ = m (c.tc.loc main_arg2) _
  unfold V
  congr 1
  funext a
  have := idx t
  apply Fin.ext
  match a with
  | ⟨0, _⟩ => show win0_4.index t 0 * 3 + 1 * k.val = k.val; omega
  | ⟨1, _⟩ => show win0_4.index t 1 * 128 + 1 * y.val = 128 * t.val + y.val; omega

/-- A block's shifted rows are its channels'. -/
theorem past_eq (X : S2064x128.Idx → EReal) (f : Fin 2064 → EReal) (h : ∀ s, X (ix2 s y) = f s) : past X r y k = Eb.past f r k := by
  obtain rfl : f = fun s => X (ix2 s y) := funext fun s => (h s).symm
  rfl
theorem next_eq (X : S2064x128.Idx → EReal) (f : Fin 2064 → EReal) (h : ∀ s, X (ix2 s y) = f s) : next X r y k = Eb.next f r k := by
  obtain rfl : f = fun s => X (ix2 s y) := funext fun s => (h s).symm
  rfl

/-- Two blocks multiplied entry by entry. -/
abbrev mulB (a b : Vec Ideal S2064x128 .f32) : S2064x128.Idx → EReal := fun i => a i * b i

theorem gx_eq (s : Fin 2064) : mulB (iblk m c 2 t) (iblk m c 3 t) (ix2 s y) = (args m c).gx (ch t y) s :=
  congrArg₂ (· * ·) (iblk2 m c t s y) (iblk3 m c t s y)
theorem db_eq (s : Fin 2064) : mulB (iblk m c 0 t) (iblk m c 1 t) (ix2 s y) = (args m c).db (ch t y) s :=
  congrArg₂ (· * ·) (iblk0 m c t s y) (iblk1 m c t s y)

theorem dgb_eq : dgb (iblk m c 0 t) (iblk m c 2 t) (iblk m c 3 t) (iblk m c 4 t) (ix2 r y) = (args m c).dgb r (ch t y) :=
  congrArg₂ (· * ·) (iblk0 m c t r y) (congrArg₂ (· + ·) (congrArg₂ (· + ·)
    (congrArg₂ (· * ·) (iblk4 m c t 0 y) (past_eq r 0 y _ _ (gx_eq m c t y))) (congrArg₂ (· * ·) (iblk4 m c t 1 y) (past_eq r 1 y _ _ (gx_eq m c t y))))
    (congrArg₂ (· * ·) (iblk4 m c t 2 y) (past_eq r 2 y _ _ (gx_eq m c t y))))

theorem dcx_eq : dcx (iblk m c 0 t) (iblk m c 1 t) (iblk m c 4 t) (ix2 r y) = (args m c).dcx r (ch t y) :=
  congrArg₂ (· + ·) (congrArg₂ (· + ·)
    (congrArg₂ (· * ·) (iblk4 m c t 0 y) (next_eq r 2 y _ _ (db_eq m c t y))) (congrArg₂ (· * ·) (iblk4 m c t 1 y) (next_eq r 1 y _ _ (db_eq m c t y))))
    (congrArg₂ (· * ·) (iblk4 m c t 2 y) (next_eq r 0 y _ _ (db_eq m c t y)))

theorem dgc_eq : dgc (iblk m c 0 t) (iblk m c 1 t) (iblk m c 3 t) (iblk m c 4 t) (ix2 r y) = (args m c).dgc r (ch t y) :=
  congrArg₂ (· * ·) (dcx_eq m c t r y) (iblk3 m c t r y)
theorem dxi_eq : dxi (iblk m c 0 t) (iblk m c 1 t) (iblk m c 2 t) (iblk m c 4 t) (ix2 r y) = (args m c).dxi r (ch t y) :=
  congrArg₂ (· * ·) (dcx_eq m c t r y) (iblk2 m c t r y)
theorem dw_eq : dw (iblk m c 0 t) (iblk m c 1 t) (iblk m c 2 t) (iblk m c 3 t) (ix2 k y) = (args m c).dw k (ch t y) :=
  Finset.sum_congr rfl fun s _ => congrArg₂ (· * ·) (db_eq m c t y s) (past_eq s k y _ _ (gx_eq m c t y))

/-- The four results. -/
def resB (A : Eb.Args) (i : S2064x512.Idx) : EReal := A.dgb (i 0) (i 1)
def resC (A : Eb.Args) (i : S2064x512.Idx) : EReal := A.dgc (i 0) (i 1)
def resX (A : Eb.Args) (i : S2064x512.Idx) : EReal := A.dxi (i 0) (i 1)
def resW (A : Eb.Args) (i : S3x512.Idx) : EReal := A.dw (i 0) (i 1)

/-- The point of a column of a result. -/
def at_ (n : ℕ) (h : n < 512) : Fin cfg0.N := ⟨n / 128, by have : cfg0.N = 4 := N_0; omega⟩

theorem arr5 : (dats m 0 c).arrAt 5 cfg0.N = resB (args m c) := by
  refine (dats m 0 c).arrAt_eq_of_cover 5 (resB (args m c)) (fun t _ => ?_) fun i => ?_
  · have := idx t
    rw [Value.flushed5_A, out_5]
    funext j
    rw [View.read_apply]
    show dgb (iblk m c 0 t) (iblk m c 2 t) (iblk m c 3 t) (iblk m c 4 t) j = resB _ _
    obtain ⟨r, x, rfl⟩ : ∃ (r : Fin 2064) (x : Fin 128), j = ix2 r x := ⟨j 0, j 1, funext fun a => match a with | ⟨0, _⟩ => rfl | ⟨1, _⟩ => rfl⟩
    rw [dgb_eq]
    exact congrArg₂ (args m c).dgb (Fin.ext (by show r.val = win0_5.index t 0 * 2064 + 1 * r.val; omega))
      (Fin.ext (by show 128 * t.val + x.val = win0_5.index t 1 * 128 + 1 * x.val; omega))
  · have h0 : (i 0).val < 2064 := (i 0).isLt
    have h1 : (i 1).val < 512 := (i 1).isLt
    have ht := idx (at_ (i 1).val h1)
    have e : (at_ (i 1).val h1).val = (i 1).val / 128 := rfl
    refine ⟨at_ (i 1).val h1, flush0_5 _, ?_⟩
    show i ∈ ((View.whole main_v0_0).slice (win0_5.rect (at_ (i 1).val h1))).set
    rw [View.set_slice_whole, Rect.mem_set_unit]
    intro a
    match a with
    | ⟨0, _⟩ => show win0_5.index (at_ (i 1).val h1) 0 * 2064 ≤ (i 0).val ∧ (i 0).val < win0_5.index (at_ (i 1).val h1) 0 * 2064 + 2064; omega
    | ⟨1, _⟩ => show win0_5.index (at_ (i 1).val h1) 1 * 128 ≤ (i 1).val ∧ (i 1).val < win0_5.index (at_ (i 1).val h1) 1 * 128 + 128; omega

theorem arr6 : (dats m 0 c).arrAt 6 cfg0.N = resC (args m c) := by
  refine (dats m 0 c).arrAt_eq_of_cover 6 (resC (args m c)) (fun t _ => ?_) fun i => ?_
  · have := idx t
    rw [Value.flushed6_A, out_6]
    funext j
    rw [View.read_apply]
    show dgc (iblk m c 0 t) (iblk m c 1 t) (iblk m c 3 t) (iblk m c 4 t) j = resC _ _
    obtain ⟨r, x, rfl⟩ : ∃ (r : Fin 2064) (x : Fin 128), j = ix2 r x := ⟨j 0, j 1, funext fun a => match a with | ⟨0, _⟩ => rfl | ⟨1, _⟩ => rfl⟩
    rw [dgc_eq]
    exact congrArg₂ (args m c).dgc (Fin.ext (by show r.val = win0_6.index t 0 * 2064 + 1 * r.val; omega))
      (Fin.ext (by show 128 * t.val + x.val = win0_6.index t 1 * 128 + 1 * x.val; omega))
  · have h0 : (i 0).val < 2064 := (i 0).isLt
    have h1 : (i 1).val < 512 := (i 1).isLt
    have ht := idx (at_ (i 1).val h1)
    have e : (at_ (i 1).val h1).val = (i 1).val / 128 := rfl
    refine ⟨at_ (i 1).val h1, flush0_6 _, ?_⟩
    show i ∈ ((View.whole main_v0_1).slice (win0_6.rect (at_ (i 1).val h1))).set
    rw [View.set_slice_whole, Rect.mem_set_unit]
    intro a
    match a with
    | ⟨0, _⟩ => show win0_6.index (at_ (i 1).val h1) 0 * 2064 ≤ (i 0).val ∧ (i 0).val < win0_6.index (at_ (i 1).val h1) 0 * 2064 + 2064; omega
    | ⟨1, _⟩ => show win0_6.index (at_ (i 1).val h1) 1 * 128 ≤ (i 1).val ∧ (i 1).val < win0_6.index (at_ (i 1).val h1) 1 * 128 + 128; omega

theorem arr7 : (dats m 0 c).arrAt 7 cfg0.N = resX (args m c) := by
  refine (dats m 0 c).arrAt_eq_of_cover 7 (resX (args m c)) (fun t _ => ?_) fun i => ?_
  · have := idx t
    rw [Value.flushed7_A, out_7]
    funext j
    rw [View.read_apply]
    show dxi (iblk m c 0 t) (iblk m c 1 t) (iblk m c 2 t) (iblk m c 4 t) j = resX _ _
    obtain ⟨r, x, rfl⟩ : ∃ (r : Fin 2064) (x : Fin 128), j = ix2 r x := ⟨j 0, j 1, funext fun a => match a with | ⟨0, _⟩ => rfl | ⟨1, _⟩ => rfl⟩
    rw [dxi_eq]
    exact congrArg₂ (args m c).dxi (Fin.ext (by show r.val = win0_7.index t 0 * 2064 + 1 * r.val; omega))
      (Fin.ext (by show 128 * t.val + x.val = win0_7.index t 1 * 128 + 1 * x.val; omega))
  · have h0 : (i 0).val < 2064 := (i 0).isLt
    have h1 : (i 1).val < 512 := (i 1).isLt
    have ht := idx (at_ (i 1).val h1)
    have e : (at_ (i 1).val h1).val = (i 1).val / 128 := rfl
    refine ⟨at_ (i 1).val h1, flush0_7 _, ?_⟩
    show i ∈ ((View.whole main_v0_2).slice (win0_7.rect (at_ (i 1).val h1))).set
    rw [View.set_slice_whole, Rect.mem_set_unit]
    intro a
    match a with
    | ⟨0, _⟩ => show win0_7.index (at_ (i 1).val h1) 0 * 2064 ≤ (i 0).val ∧ (i 0).val < win0_7.index (at_ (i 1).val h1) 0 * 2064 + 2064; omega
    | ⟨1, _⟩ => show win0_7.index (at_ (i 1).val h1) 1 * 128 ≤ (i 1).val ∧ (i 1).val < win0_7.index (at_ (i 1).val h1) 1 * 128 + 128; omega

theorem arr8 : (dats m 0 c).arrAt 8 cfg0.N = resW (args m c) := by
  refine (dats m 0 c).arrAt_eq_of_cover 8 (resW (args m c)) (fun t _ => ?_) fun i => ?_
  · have := idx t
    rw [Value.flushed8_A, out_8]
    funext j
    rw [View.read_apply]
    show dw (iblk m c 0 t) (iblk m c 1 t) (iblk m c 2 t) (iblk m c 3 t) j = resW _ _
    obtain ⟨r, x, rfl⟩ : ∃ (r : Fin 3) (x : Fin 128), j = ix2 r x := ⟨j 0, j 1, funext fun a => match a with | ⟨0, _⟩ => rfl | ⟨1, _⟩ => rfl⟩
    rw [dw_eq]
    exact congrArg₂ (args m c).dw (Fin.ext (by show r.val = win0_8.index t 0 * 3 + 1 * r.val; omega))
      (Fin.ext (by show 128 * t.val + x.val = win0_8.index t 1 * 128 + 1 * x.val; omega))
  · have h0 : (i 0).val < 3 := (i 0).isLt
    have h1 : (i 1).val < 512 := (i 1).isLt
    have ht := idx (at_ (i 1).val h1)
    have e : (at_ (i 1).val h1).val = (i 1).val / 128 := rfl
    refine ⟨at_ (i 1).val h1, flush0_8 _, ?_⟩
    show i ∈ ((View.whole main_v0_3).slice (win0_8.rect (at_ (i 1).val h1))).set
    rw [View.set_slice_whole, Rect.mem_set_unit]
    intro a
    match a with
    | ⟨0, _⟩ => show win0_8.index (at_ (i 1).val h1) 0 * 3 ≤ (i 0).val ∧ (i 0).val < win0_8.index (at_ (i 1).val h1) 0 * 3 + 3; omega
    | ⟨1, _⟩ => show win0_8.index (at_ (i 1).val h1) 1 * 128 ≤ (i 1).val ∧ (i 1).val < win0_8.index (at_ (i 1).val h1) 1 * 128 + 128; omega

/-- The run: the four gradients, the arguments unchanged. -/
theorem run : θ_run defs (onTc (τ := τ) (main (F := Ideal))) ⟨m, fun _ => 0, ρ⟩ (fun r => ∀ c : Dev nD,
      r.2.mem ((c : Thread nD τ).loc main_v0_0) = resB (args m c)
      ∧ r.2.mem ((c : Thread nD τ).loc main_v0_1) = resC (args m c)
      ∧ r.2.mem ((c : Thread nD τ).loc main_v0_2) = resX (args m c)
      ∧ r.2.mem ((c : Thread nD τ).loc main_v0_3) = resW (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (arr5 m c), (h c).2.1.trans (arr6 m c), (h c).2.2.1.trans (arr7 m c),
    (h c).2.2.2.1.trans (arr8 m c), (h c).2.2.2.2⟩) (Value.run_blocks m ρ)

end Cert.EbIdeal.Prod

end
-- ==== Proof.EbRef.lean ====
/- The short gated convolution's reference, token by token. -/
module

public import proofs.«01_k».proof.Proof.EbValue
public import proofs.«01_k».proof.Proof.Gen.EbRefIdeal.Read
public import Idealize.ShloMosaic.Lib.Pointwise
public import proofs.«01_k».proof.Proof.Gen.EbRefIdeal.Run
public import proofs.«01_k».proof.Defs

@[expose] public section

set_option maxRecDepth 16384

noncomputable section

namespace Cert.EbRefIdeal.Hand

open Idealize.ShloMosaic Idealize.ShloMosaic.TcCoe Idealize.ShloMosaic.Tactic Idealize.SL.Sem Idealize.ShloMosaic.StableHlo
open Cert.EbRefIdeal Cert.EbRefIdeal.Gen Cert.EbRefIdeal.Read

variable (x0 : Vec Ideal S2064x1024 .f32) (x1 : Vec Ideal S2064x2560 .f32) (x2 : Vec Ideal S3x512 .f32)
variable (t : Fin 2064) (c : Fin 512)

local notation "A" => Eb.Args.of x0 x1 x2

/-- The shifted values, inside and outside. -/
theorem past_out (f : Fin 2064 → EReal) (k : Fin 3) (h : t.val + (30 + k.val) < 32) : Eb.past f t k = 0 := if_pos h
theorem past_in (f : Fin 2064 → EReal) (k : Fin 3) (s : Fin 2064) (h : s.val + 32 = t.val + (30 + k.val)) : Eb.past f t k = f s := by
  have e : t.val + (30 + k.val) - 32 = s.val := by omega
  unfold Eb.past
  rw [if_neg (by omega), e]
  exact dif_pos s.isLt
theorem next_out (f : Fin 2064 → EReal) (k : Fin 3) (h : ¬ t.val + k.val < 2064) : Eb.next f t k = 0 := dif_neg h
theorem next_in (f : Fin 2064 → EReal) (k : Fin 3) (s : Fin 2064) (h : s.val = t.val + k.val) : Eb.next f t k = f s := by
  unfold Eb.next
  rw [← h]
  exact dif_pos s.isLt

theorem v8_eq : val_main_v8 (F := Ideal) x1 (ix2 t c) = Eb.past ((A).gx c) t 0 := by
  pointwise [val_main_v8, val_main_v5, val_main_v3, val_main_cst, val_main_v4, val_main_v1, val_main_v2]
  by_cases h : t.val < 2
  · rw [dif_pos h, past_out t _ 0 (by show t.val + (30 + 0) < 32; omega)]
  · rw [dif_neg h, past_in t _ 0 ⟨t.val - 2, by omega⟩ (by show t.val - 2 + 32 = t.val + (30 + 0); omega)]
    rfl

theorem v14_eq : val_main_v14 (F := Ideal) x1 (ix2 t c) = Eb.past ((A).gx c) t 1 := by
  pointwise [val_main_v14, val_main_v5, val_main_v3, val_main_cst, val_main_v4, val_main_v1, val_main_v2]
  by_cases h : t.val < 1
  · rw [dif_pos (by omega), past_out t _ 1 (by show t.val + (30 + 1) < 32; omega)]
  · rw [dif_neg (by omega), past_in t _ 1 ⟨t.val - 1, by omega⟩ (by show t.val - 1 + 32 = t.val + (30 + 1); omega)]
    exact congrArg₂ (· * ·) (congrArg x1 (congrArg₂ ix2 (Fin.ext (by dsimp; omega)) rfl)) (congrArg x1 (congrArg₂ ix2 (Fin.ext (by dsimp; omega)) rfl))

theorem v19_eq : val_main_v19 (F := Ideal) x1 (ix2 t c) = Eb.past ((A).gx c) t 2 := by
  pointwise [val_main_v19, val_main_v5, val_main_v3, val_main_cst, val_main_v4, val_main_v1, val_main_v2]
  rw [past_in t _ 2 t (by show t.val + 32 = t.val + (30 + 2); omega)]
  rfl

theorem add_rev (a b c : EReal) : c + b + a = a + b + c := by
  rw [add_comm (c + b), add_comm c b, ← add_assoc]

/-- The gradient of the gated input: the reference adds the taps' parts the other way round. -/
theorem v53_eq : val_main_v53 (F := Ideal) x0 x1 x2 (ix2 t c) = (A).dcx t c := by
  pointwise [val_main_v53, val_main_v49, val_main_v48, val_main_v40, val_main_v39, val_main_v32, val_main_v28, val_main_v25, val_main_v35, val_main_v44, val_main_v27, val_main_v34, val_main_v43,
    val_main_v7, val_main_v13, val_main_v18, val_main_v0, val_main_v24, val_main_cst_3, val_main_cst_6, val_main_cst_9]
  refine Eq.trans ?_ (add_rev _ _ _)
  refine congrArg₂ (· + ·) (congrArg₂ (· + ·) (congrArg _ ?_) ?_) ?_
  · rw [next_in t _ 0 t rfl]
    exact mul_comm _ _
  · by_cases h : t.val + 1 < 2064
    · rw [dif_pos (by omega), next_in t _ 1 ⟨2 + t.val - 1, by omega⟩ (by show 2 + t.val - 1 = t.val + 1; omega)]
      exact congrArg _ (mul_comm _ _)
    · rw [dif_neg (by omega), next_out t _ 1 h, mul_zero]
  · by_cases h : t.val + 2 < 2064
    · rw [dif_pos (by omega), next_in t _ 2 ⟨2 + t.val, by omega⟩ (by show 2 + t.val = t.val + 2; omega)]
      exact congrArg _ (mul_comm _ _)
    · rw [dif_neg (by omega), next_out t _ 2 h, mul_zero]

/-- The taps' gradients: each pads its own row into the three. -/
theorem v51_eq (k : Fin 3) : val_main_v51 (F := Ideal) x0 x1 (ix2 k c) = (A).dw k c := by
  pointwise [val_main_v51, val_main_v50, val_main_v47, val_main_v46, val_main_v42, val_main_v41, val_main_v38, val_main_v37, val_main_v33, val_main_v31, val_main_v30, val_main_v29, val_main_v36, val_main_v45,
    val_main_v25, val_main_v0, val_main_v24, val_main_cst_2, val_main_cst_4, val_main_cst_5, val_main_cst_7, val_main_cst_8, val_main_cst_10]
  simp only [v8_eq x0 x1 x2, v14_eq x0 x1 x2, v19_eq x0 x1 x2]
  fin_cases k
  · rw [dif_neg (by decide), dif_neg (by decide), dif_pos (by decide), zero_add, zero_add]
    exact Finset.sum_congr rfl fun t _ => congrArg₂ (· * ·) (mul_comm _ _) rfl
  · rw [dif_neg (by decide), dif_pos (by decide), dif_neg (by decide), zero_add, add_zero]
    exact Finset.sum_congr rfl fun t _ => congrArg₂ (· * ·) (mul_comm _ _) rfl
  · rw [dif_pos (by decide), dif_neg (by decide), dif_neg (by decide), add_zero, add_zero]
    exact Finset.sum_congr rfl fun t _ => congrArg₂ (· * ·) (mul_comm _ _) rfl

theorem dgb_eq : val_main_v26 (F := Ideal) x0 x1 x2 = Cert.EbIdeal.Prod.resB (A) := by
  funext i
  obtain ⟨t, c, rfl⟩ : ∃ (t : Fin 2064) (c : Fin 512), i = ix2 t c := ⟨i 0, i 1, funext fun a => match a with | ⟨0, _⟩ => rfl | ⟨1, _⟩ => rfl⟩
  pointwise [val_main_v26, val_main_v24, val_main_v22, val_main_v21, val_main_v20, val_main_v18, val_main_v17, val_main_v16, val_main_v15, val_main_v13,
    val_main_v12, val_main_v11, val_main_v10, val_main_v9, val_main_v7, val_main_cst_1]
  rw [v8_eq x0 x1 x2, v14_eq x0 x1 x2, v19_eq x0 x1 x2]
  rfl

theorem dgc_eq : val_main_v55 (F := Ideal) x0 x1 x2 = Cert.EbIdeal.Prod.resC (A) := by
  funext i
  obtain ⟨t, c, rfl⟩ : ∃ (t : Fin 2064) (c : Fin 512), i = ix2 t c := ⟨i 0, i 1, funext fun a => match a with | ⟨0, _⟩ => rfl | ⟨1, _⟩ => rfl⟩
  pointwise [val_main_v55, val_main_v2]
  rw [v53_eq]
  rfl

theorem dxi_eq : val_main_v54 (F := Ideal) x0 x1 x2 = Cert.EbIdeal.Prod.resX (A) := by
  funext i
  obtain ⟨t, c, rfl⟩ : ∃ (t : Fin 2064) (c : Fin 512), i = ix2 t c := ⟨i 0, i 1, funext fun a => match a with | ⟨0, _⟩ => rfl | ⟨1, _⟩ => rfl⟩
  pointwise [val_main_v54, val_main_v1]
  rw [v53_eq]
  exact mul_comm _ _

theorem dw_eq : val_main_v51 (F := Ideal) x0 x1 = Cert.EbIdeal.Prod.resW (A) := by
  funext i
  obtain ⟨k, c, rfl⟩ : ∃ (k : Fin 3) (c : Fin 512), i = ix2 k c := ⟨i 0, i 1, funext fun a => match a with | ⟨0, _⟩ => rfl | ⟨1, _⟩ => rfl⟩
  exact v51_eq x0 x1 x2 c k

theorem algebraic : Cert.algebraic_EbIdeal_EbRefIdeal := by
  intro m g m' g' _ hag
  refine ⟨fun c => Cert.EbIdeal.Prod.resB (Cert.EbIdeal.Prod.args m c), fun c => Cert.EbIdeal.Prod.resC (Cert.EbIdeal.Prod.args m c),
    fun c => Cert.EbIdeal.Prod.resX (Cert.EbIdeal.Prod.args m c), fun c => Cert.EbIdeal.Prod.resW (Cert.EbIdeal.Prod.args m c),
    Cert.EbIdeal.Prod.run m g, (θ_run _ _ _).mono (fun r h c => ?_) (Cert.EbRefIdeal.Value.run (F := Ideal) m' g')⟩
  have e : Eb.Args.of (m' ((c.tc : Thread nD τ).loc main_arg0) :) (m' ((c.tc : Thread nD τ).loc main_arg1) :) (m' ((c.tc : Thread nD τ).loc main_arg2) :)
      = Cert.EbIdeal.Prod.args m c := by
    rw [(hag c).1, (hag c).2.1, (hag c).2.2]
    rfl
  simp only [← e]
  obtain ⟨h1, h2, h3, h4, h5⟩ := h c
  refine ⟨h1.trans ((val_main_v26_eq _ _ _).trans ?_), h2.trans ((val_main_v55_eq _ _ _).trans ?_), h3.trans ((val_main_v54_eq _ _ _).trans ?_),
    h4.trans ((val_main_v51_eq _ _).trans ?_), h5⟩
  · exact dgb_eq _ _ _
  · exact dgc_eq _ _ _
  · exact dxi_eq _ _ _
  · exact dw_eq _ _ _

end Cert.EbRefIdeal.Hand

end
-- ==== Proof.FfMidOut.lean ====
/- What one grid point of the gated feed-forward layer's middle stores: the gate's convolution, its swish, times the value. -/
module

public import proofs.«01_k».proof.Proof.Gen.FfMidIdeal.Value
public import proofs.«01_k».proof.Proof.Gen.FfMid.Frame
public import proofs.«01_k».proof.Proof.Gen.FfMidRefIdeal.Run
public import proofs.«01_k».proof.Proof.Gen.FfMidRefIdeal.Read
public import proofs.«01_k».proof.Proof.Gen.FfMidRefIdeal
public import proofs.«01_k».proof.Proof.EbValue
public import Idealize.ShloMosaic.Lib.Pointwise

@[expose] public section

set_option maxRecDepth 16384

noncomputable section

namespace Cert.FfMidIdeal.Prod

open Cert.FfMidIdeal Cert.FfMidIdeal.Gen Idealize.ShloMosaic Idealize.ShloMosaic.TcCoe Idealize.ShloMosaic.Tactic Idealize.SL.Sem

theorem hz : (![0, 0] : Fin 2 → Nat) = fun _ => 0 := funext fun a => by fin_cases a <;> rfl

/-- Writes that cover an entry hide the writes before them. -/
theorem canon_hide {S : Shape} {e : EltTy} (i : S.Idx) (L' L : List (View.Piece (Elt Ideal) S e)) (h : ∃ p ∈ L, i ∈ p.1.set) :
    View.canon (L ++ L') i = View.canon L i := by
  induction L with
  | nil => obtain ⟨p, hp, _⟩ := h; exact absurd hp List.not_mem_nil
  | cons p L ih =>
    by_cases hi : i ∈ p.1.set
    · obtain ⟨x, hx⟩ := p.1.exists_idx_of_mem hi
      obtain rfl : p.1.emb x = i := hx
      exact (View.canon_cons_emb p.1 p.2 (L ++ L') x).trans (View.canon_cons_emb p.1 p.2 L x).symm
    · refine (View.canon_cons_of_not_mem p (L ++ L') hi).trans ((ih ?_).trans (View.canon_cons_of_not_mem p L hi).symm)
      obtain ⟨q, hq, hqi⟩ := h
      rcases List.mem_cons.mp hq with rfl | hq
      · exact absurd hqi hi
      · exact ⟨q, hq, hqi⟩

/-- So pieces that cover an entry and agree with an array there leave the array's entry, whatever was written before them. -/
theorem canon_prefix {S : Shape} {e : EltTy} (G : S.Idx → Elt Ideal e) (i : S.Idx) (L' L : List (View.Piece (Elt Ideal) S e))
    (hG : ∀ p ∈ L, ∀ x, p.2 x = G (p.1.emb x)) (h : ∃ p ∈ L, i ∈ p.1.set) : View.canon (L ++ L') i = G i :=
  (canon_hide i L' L h).trans (View.canon_apply_of_pieces G L hG i h)

/-- A column of the half `h` of a block. -/
def col (h : Fin 2) (y : Fin 128) : Fin 256 := ⟨128 * h.val + y.val, by omega⟩

/-- The rows of one half with 32 rows of zeros before them. -/
def front (h : Fin 2) (X : S2064x256.Idx → EReal) (i : S2096x128.Idx) : EReal :=
  if (i 0).val < 32 then 0 else Eb.row (fun s => X (ix2 s (col h (i 1)))) ((i 0).val - 32)

theorem front_past (h : Fin 2) (X : S2064x256.Idx → EReal) (n : ℕ) (hn) (t : Fin 2064) (y : Fin 128) (k : Fin 3) (e : n = t.val + (30 + k.val)) :
    front h X (ix2 ⟨n, hn⟩ y) = Eb.past (fun s => X (ix2 s (col h y))) t k := by subst e; rfl

/-- The padded rows, read back over whatever the buffer held. -/
theorem canon_front (h : Fin 2) (X : S2064x256.Idx → EReal) (P : S2064x128.Idx → EReal) (Z : S32x128.Idx → EReal)
    (hP : ∀ r y, P (ix2 r y) = X (ix2 r (col h y))) (hZ : ∀ r y, Z (ix2 r y) = 0) (L : List (View.Piece (Elt Ideal) S2096x128 .f32)) :
    View.canon (Val := Elt Ideal) (s := S2096x128) (e := .f32) (⟨Rect.unit ![32, 0] ![2064, 128] inb_S2096x128_S2064x128_32_0, P⟩ ::
      ⟨Rect.unit ![0, 0] ![32, 128] inb_S2096x128_S32x128_0_0, Z⟩ :: L) = front h X := by
  funext i
  refine canon_prefix (e := .f32) (front h X) i L [⟨Rect.unit ![32, 0] ![2064, 128] inb_S2096x128_S2064x128_32_0, P⟩,
      ⟨Rect.unit ![0, 0] ![32, 128] inb_S2096x128_S32x128_0_0, Z⟩] (fun p hp x => ?_) ?_
  · simp only [List.mem_cons, List.not_mem_nil, or_false] at hp
    rcases hp with rfl | rfl
    · obtain ⟨r, y, rfl⟩ : ∃ (r : Fin 2064) (y : Fin 128), x = ix2 r y := ⟨x 0, x 1, funext fun a => match a with | ⟨0, _⟩ => rfl | ⟨1, _⟩ => rfl⟩
      refine (hP r y).trans (Eq.symm ((if_neg (show ¬ 32 + 1 * r.val < 32 by omega)).trans ?_))
      have e : 32 + 1 * r.val - 32 = r.val := by omega
      show Eb.row _ (32 + 1 * r.val - 32) = _
      rw [e]
      refine (dif_pos r.isLt).trans (congrArg X (congrArg₂ ix2 rfl (Fin.ext ?_)))
      show 128 * h.val + (0 + 1 * y.val) = 128 * h.val + y.val
      omega
    · obtain ⟨r, y, rfl⟩ : ∃ (r : Fin 32) (y : Fin 128), x = ix2 r y := ⟨x 0, x 1, funext fun a => match a with | ⟨0, _⟩ => rfl | ⟨1, _⟩ => rfl⟩
      exact (hZ r y).trans (if_pos (show 0 + 1 * r.val < 32 by omega)).symm
  · have hx : (i 0).val < 2096 := (i 0).isLt
    have hy : (i 1).val < 128 := (i 1).isLt
    by_cases h : (i 0).val < 32
    · refine ⟨_, List.mem_cons_of_mem _ (List.mem_singleton.mpr rfl), (Rect.mem_set_unit (s := S2096x128) (inb := inb_S2096x128_S32x128_0_0)).mpr fun a => ?_⟩
      match a with
      | ⟨0, _⟩ => show 0 ≤ (i 0).val ∧ (i 0).val < 0 + 32; omega
      | ⟨1, _⟩ => show 0 ≤ (i 1).val ∧ (i 1).val < 0 + 128; omega
    · refine ⟨_, List.mem_cons_self, (Rect.mem_set_unit (s := S2096x128) (inb := inb_S2096x128_S2064x128_32_0)).mpr fun a => ?_⟩
      match a with
      | ⟨0, _⟩ => show 32 ≤ (i 0).val ∧ (i 0).val < 32 + 2064; omega
      | ⟨1, _⟩ => show 0 ≤ (i 1).val ∧ (i 1).val < 0 + 128; omega

theorem pay2_eq (X : S2064x256.Idx → EReal) (r : Fin 2064) (y : Fin 128) :
    k0_pay2 (F := Ideal) (View.ld (Val := Elt Ideal) (S := S2064x256) (e' := .f32) X (Rect.unit ![0, 0] ![2064, 128] inb_S2064x256_S2064x128_0_0)) (ix2 r y) = X (ix2 r (col 0 y)) := by
  pointwise [k0_pay2]
  exact congrArg X (congrArg₂ ix2 rfl (Fin.ext (by show y.val = 128 * 0 + y.val; omega)))
theorem pay16_eq (X : S2064x256.Idx → EReal) (r : Fin 2064) (y : Fin 128) :
    k0_pay16 (F := Ideal) (View.ld (Val := Elt Ideal) (S := S2064x256) (e' := .f32) X (Rect.unit ![0, 128] ![2064, 128] inb_S2064x256_S2064x128_0_128)) (ix2 r y) = X (ix2 r (col 1 y)) := by
  pointwise [k0_pay16]
  rfl
theorem pay1_eq (r : Fin 32) (y : Fin 128) : k0_pay1 (F := Ideal) (ix2 r y) = 0 := by pointwise [k0_pay1]
theorem pay15_eq (r : Fin 32) (y : Fin 128) : k0_pay15 (F := Ideal) (ix2 r y) = 0 := by pointwise [k0_pay15]

theorem emb_ix2 (o : ℕ) (inb) (r : Fin 344) (y : Fin 128) (h : o + r.val < 2064) :
    ix2 ⟨o + r.val, h⟩ y = (Rect.unit (s := S2064x128) ![o, 0] ![344, 128] inb).emb (ix2 r y) :=
  funext fun a => match a with
  | ⟨0, _⟩ => Fin.ext (show o + r.val = o + 1 * r.val by omega)
  | ⟨1, _⟩ => Fin.ext (show y.val = 0 + 1 * y.val by omega)

/-- Six blocks of 344 rows make an array, whatever the buffer held. -/
theorem canon_six (G : S2064x128.Idx → EReal) (P0 P1 P2 P3 P4 P5 : S344x128.Idx → EReal) (L : List (View.Piece (Elt Ideal) S2064x128 .f32))
    (h0 : ∀ r y, P0 (ix2 r y) = G (ix2 ⟨0 + r.val, by omega⟩ y)) (h1 : ∀ r y, P1 (ix2 r y) = G (ix2 ⟨344 + r.val, by omega⟩ y))
    (h2 : ∀ r y, P2 (ix2 r y) = G (ix2 ⟨688 + r.val, by omega⟩ y)) (h3 : ∀ r y, P3 (ix2 r y) = G (ix2 ⟨1032 + r.val, by omega⟩ y))
    (h4 : ∀ r y, P4 (ix2 r y) = G (ix2 ⟨1376 + r.val, by omega⟩ y)) (h5 : ∀ r y, P5 (ix2 r y) = G (ix2 ⟨1720 + r.val, by omega⟩ y)) :
    View.canon (Val := Elt Ideal) (s := S2064x128) (e := .f32) (⟨Rect.unit ![1720, 0] ![344, 128] inb_S2064x128_S344x128_1720_0, P5⟩ ::
      ⟨Rect.unit ![1376, 0] ![344, 128] inb_S2064x128_S344x128_1376_0, P4⟩ :: ⟨Rect.unit ![1032, 0] ![344, 128] inb_S2064x128_S344x128_1032_0, P3⟩ ::
      ⟨Rect.unit ![688, 0] ![344, 128] inb_S2064x128_S344x128_688_0, P2⟩ :: ⟨Rect.unit ![344, 0] ![344, 128] inb_S2064x128_S344x128_344_0, P1⟩ ::
      ⟨Rect.unit ![0, 0] ![344, 128] inb_S2064x128_S344x128_0_0, P0⟩ :: L) = G := by
  funext i
  refine canon_prefix (e := .f32) G i L [⟨Rect.unit ![1720, 0] ![344, 128] inb_S2064x128_S344x128_1720_0, P5⟩,
      ⟨Rect.unit ![1376, 0] ![344, 128] inb_S2064x128_S344x128_1376_0, P4⟩, ⟨Rect.unit ![1032, 0] ![344, 128] inb_S2064x128_S344x128_1032_0, P3⟩,
      ⟨Rect.unit ![688, 0] ![344, 128] inb_S2064x128_S344x128_688_0, P2⟩, ⟨Rect.unit ![344, 0] ![344, 128] inb_S2064x128_S344x128_344_0, P1⟩,
      ⟨Rect.unit ![0, 0] ![344, 128] inb_S2064x128_S344x128_0_0, P0⟩] (fun p hp x => ?_) ?_
  · simp only [List.mem_cons, List.not_mem_nil, or_false] at hp
    obtain ⟨r, y, e⟩ : ∃ (r : Fin 344) (y : Fin 128), HEq x (ix2 r y) := by
      rcases hp with rfl | rfl | rfl | rfl | rfl | rfl
      all_goals exact ⟨x 0, x 1, heq_of_eq (funext fun a => match a with | ⟨0, _⟩ => rfl | ⟨1, _⟩ => rfl)⟩
    rcases hp with rfl | rfl | rfl | rfl | rfl | rfl
    all_goals obtain rfl := eq_of_heq e
    · exact (h5 r y).trans (congrArg G (emb_ix2 1720 inb_S2064x128_S344x128_1720_0 r y _))
    · exact (h4 r y).trans (congrArg G (emb_ix2 1376 inb_S2064x128_S344x128_1376_0 r y _))
    · exact (h3 r y).trans (congrArg G (emb_ix2 1032 inb_S2064x128_S344x128_1032_0 r y _))
    · exact (h2 r y).trans (congrArg G (emb_ix2 688 inb_S2064x128_S344x128_688_0 r y _))
    · exact (h1 r y).trans (congrArg G (emb_ix2 344 inb_S2064x128_S344x128_344_0 r y _))
    · exact (h0 r y).trans (congrArg G (emb_ix2 0 inb_S2064x128_S344x128_0_0 r y _))
  · have hx : (i 0).val < 2064 := (i 0).isLt
    have hy : (i 1).val < 128 := (i 1).isLt
    have mem (o : ℕ) (inb) (h : o ≤ (i 0).val ∧ (i 0).val < o + 344) : i ∈ (Rect.unit (s := S2064x128) ![o, 0] ![344, 128] inb).set :=
      Rect.mem_set_unit.mpr fun a => match a with
        | ⟨0, _⟩ => h
        | ⟨1, _⟩ => ⟨Nat.zero_le _, by show (i 1).val < 0 + 128; omega⟩
    rcases (by omega : (i 0).val < 344 ∨ (344 ≤ (i 0).val ∧ (i 0).val < 688) ∨ (688 ≤ (i 0).val ∧ (i 0).val < 1032)
      ∨ (1032 ≤ (i 0).val ∧ (i 0).val < 1376) ∨ (1376 ≤ (i 0).val ∧ (i 0).val < 1720) ∨ 1720 ≤ (i 0).val) with h | h | h | h | h | h
    · exact ⟨_, .tail _ (.tail _ (.tail _ (.tail _ (.tail _ (.head _))))), mem 0 inb_S2064x128_S344x128_0_0 (by omega)⟩
    · exact ⟨_, .tail _ (.tail _ (.tail _ (.tail _ (.head _)))), mem 344 inb_S2064x128_S344x128_344_0 h⟩
    · exact ⟨_, .tail _ (.tail _ (.tail _ (.head _))), mem 688 inb_S2064x128_S344x128_688_0 h⟩
    · exact ⟨_, .tail _ (.tail _ (.head _)), mem 1032 inb_S2064x128_S344x128_1032_0 h⟩
    · exact ⟨_, .tail _ (.head _), mem 1376 inb_S2064x128_S344x128_1376_0 h⟩
    · exact ⟨_, .head _, mem 1720 inb_S2064x128_S344x128_1720_0 (by omega)⟩

section
variable (c : Dev nD) (i : grid0.Coords)
  (arg1 : Memref sig .tc .vmem S2064x256 .f32) (harg1 : arg1.IsWhole) (arg2 : Memref sig .tc .vmem S2064x256 .f32) (harg2 : arg2.IsWhole)
  (arg3 : Memref sig .tc .vmem S3x256 .f32) (harg3 : arg3.IsWhole) (arg4 : Memref sig .tc .vmem S1x256 .f32) (harg4 : arg4.IsWhole)
  (arg5 : Memref sig .tc .vmem S2064x256 .bf16) (harg5 : arg5.IsWhole) (arg6 : Memref sig .tc .vmem S2096x128 .f32) (harg6 : arg6.IsWhole)
  (arg7 : Memref sig .tc .vmem S2064x128 .f32) (harg7 : arg7.IsWhole)
  (x0 x1 : Vec Ideal S2064x256 .f32) (x2 : Vec Ideal S3x256 .f32) (x3 : Vec Ideal S1x256 .f32)

/-- The gate after its convolution, and the middle's result. -/
def gc (i : S2064x256.Idx) : EReal :=
  x2 (ix2 0 (i 1)) * Eb.past (fun s => x0 (ix2 s (i 1))) (i 0) 0 + x2 (ix2 1 (i 1)) * Eb.past (fun s => x0 (ix2 s (i 1))) (i 0) 1
    + x2 (ix2 2 (i 1)) * Eb.past (fun s => x0 (ix2 s (i 1))) (i 0) 2 + x3 (ix2 0 (i 1))
def mid (i : S2064x256.Idx) : EReal := gc x0 x2 x3 i * Ideal.logistic (gc x0 x2 x3 i) * x1 i

/-- Equal gates and values have equal results. -/
theorem swish {a b v w : EReal} (h : a = b) (hv : v = w) : a * Ideal.logistic a * v = b * Ideal.logistic b * w := by rw [h, hv]

/-- A load's read of an argument's buffer. -/
theorem readL {sp : Space} {S : Shape} {e : EltTy} (a : Memref sig .tc sp S e) (h : a.IsWhole) (x : Vec Ideal S e) (B : LoadRect S) :
    View.readAt (Elt Ideal) a.view B (h.unread x) = fun j => x (B.idx j) := by
  funext j
  show a.view.read _ (h.unread x) (B.idx j) = _
  rw [h.read_unread]

theorem out_4 : out0_A_4 (F := Ideal) c i arg1 harg1 arg2 harg2 arg3 harg3 arg4 harg4 arg5 harg5 arg6 harg6 arg7 harg7 x0 x1 x2 x3 = mid x0 x1 x2 x3 := by
  unfold out0_A_4
  rw [View.read_writes_eq_canon _ _ _ (cover0_A_4 c i arg1 harg1 arg2 harg2 arg3 harg3 arg4 harg4 arg5 harg5 arg6 harg6 arg7 harg7 x0 x1 x2 x3)]
  funext j
  refine View.canon_apply_of_pieces (Val := Elt Ideal) (e := .bf16) (S := S2064x256) (mid x0 x1 x2 x3) _ ?_ j (cover0_A_4 c i arg1 harg1 arg2 harg2 arg3 harg3 arg4 harg4 arg5 harg5 arg6 harg6 arg7 harg7 x0 x1 x2 x3 j)
  unfold kernelRun0_A
  dsimp only
  sl_unfold_words
  simp only [View.readAt_eq_ld, readL, harg1.read_unread, harg2.read_unread, harg3.read_unread, harg4.read_unread, View.readCov_eq_canon', canon_front 0 x0 _ _ (pay2_eq x0) pay1_eq, canon_front 1 x0 _ _ (pay16_eq x0) pay15_eq]
  intro p hp x
  simp only [List.mem_cons, List.not_mem_nil, or_false] at hp
  rcases hp with rfl | rfl
  · obtain ⟨r, y, rfl⟩ : ∃ (r : Fin 2064) (y : Fin 128), x = ix2 r y := ⟨x 0, x 1, funext fun a => match a with | ⟨0, _⟩ => rfl | ⟨1, _⟩ => rfl⟩
    dsimp only
    pointwise [k0_pay27]
    refine (congrFun (canon_six (fun i => mid x0 x1 x2 x3 (ix2 (i 0) (col 1 (i 1)))) _ _ _ _ _ _ _ ?_ ?_ ?_ ?_ ?_ ?_) _).trans ?_
    rotate_right
    · exact congrArg (mid x0 x1 x2 x3) (funext fun a => match a with
        | ⟨0, _⟩ => Fin.ext (show _ = 0 + 1 * r.val by dsimp; omega)
        | ⟨1, _⟩ => Fin.ext (show _ = 128 + 1 * y.val by dsimp [col]; omega))
    all_goals
      intro r y
      pointwise [k0_pay3, k0_pay4, k0_pay5, k0_pay6, k0_pay7, k0_pay8, k0_pay9, k0_pay10, k0_pay11, k0_pay12, k0_pay13, k0_pay17, k0_pay18, k0_pay19, k0_pay20, k0_pay21, k0_pay22, k0_pay23, k0_pay24, k0_pay25, k0_pay26, mid, gc]
      refine swish (congrArg₂ (· + ·) (congrArg₂ (· + ·) (congrArg₂ (· + ·)
        (congrArg₂ (· * ·) (congrArg x2 (congrArg₂ ix2 rfl (Fin.ext ?_))) (front_past 1 x0 _ _ _ y 0 ?_))
        (congrArg₂ (· * ·) (congrArg x2 (congrArg₂ ix2 rfl (Fin.ext ?_))) (front_past 1 x0 _ _ _ y 1 ?_)))
        (congrArg₂ (· * ·) (congrArg x2 (congrArg₂ ix2 rfl (Fin.ext ?_))) (front_past 1 x0 _ _ _ y 2 ?_)))
        (congrArg x3 (congrArg₂ ix2 rfl (Fin.ext ?_)))) (congrArg x1 (congrArg₂ ix2 (Fin.ext ?_) (Fin.ext ?_)))
      all_goals (dsimp [Rect.withinL, col]; try omega)
  · obtain ⟨r, y, rfl⟩ : ∃ (r : Fin 2064) (y : Fin 128), x = ix2 r y := ⟨x 0, x 1, funext fun a => match a with | ⟨0, _⟩ => rfl | ⟨1, _⟩ => rfl⟩
    dsimp only
    pointwise [k0_pay14]
    refine (congrFun (canon_six (fun i => mid x0 x1 x2 x3 (ix2 (i 0) (col 0 (i 1)))) _ _ _ _ _ _ _ ?_ ?_ ?_ ?_ ?_ ?_) _).trans ?_
    rotate_right
    · exact congrArg (mid x0 x1 x2 x3) (funext fun a => match a with
        | ⟨0, _⟩ => Fin.ext (show _ = 0 + 1 * r.val by dsimp; omega)
        | ⟨1, _⟩ => Fin.ext (show _ = 0 + 1 * y.val by dsimp [col]; omega))
    all_goals
      intro r y
      pointwise [k0_pay3, k0_pay4, k0_pay5, k0_pay6, k0_pay7, k0_pay8, k0_pay9, k0_pay10, k0_pay11, k0_pay12, k0_pay13, k0_pay17, k0_pay18, k0_pay19, k0_pay20, k0_pay21, k0_pay22, k0_pay23, k0_pay24, k0_pay25, k0_pay26, mid, gc]
      refine swish (congrArg₂ (· + ·) (congrArg₂ (· + ·) (congrArg₂ (· + ·)
        (congrArg₂ (· * ·) (congrArg x2 (congrArg₂ ix2 rfl (Fin.ext ?_))) (front_past 0 x0 _ _ _ y 0 ?_))
        (congrArg₂ (· * ·) (congrArg x2 (congrArg₂ ix2 rfl (Fin.ext ?_))) (front_past 0 x0 _ _ _ y 1 ?_)))
        (congrArg₂ (· * ·) (congrArg x2 (congrArg₂ ix2 rfl (Fin.ext ?_))) (front_past 0 x0 _ _ _ y 2 ?_)))
        (congrArg x3 (congrArg₂ ix2 rfl (Fin.ext ?_)))) (congrArg x1 (congrArg₂ ix2 (Fin.ext ?_) (Fin.ext ?_)))
      all_goals (dsimp [Rect.withinL, col]; try omega)

end

end Cert.FfMidIdeal.Prod

end
-- ==== Proof.FfMidValue.lean ====
/- The gated feed-forward layer's middle over the whole arrays, and its reference: every grid point computes 256 channels, all tokens. -/
module

public import proofs.«01_k».proof.Proof.FfMidOut
public import proofs.«01_k».proof.Proof.EbRef
public import proofs.«01_k».proof.Defs

@[expose] public section

set_option maxRecDepth 16384

noncomputable section

open Idealize.ShloMosaic

namespace FfMid

variable (u : (⟨2, ![2064, 5632]⟩ : Shape).Idx → EReal) (w : (⟨2, ![3, 2816]⟩ : Shape).Idx → EReal) (b : (⟨1, ![2816]⟩ : Shape).Idx → EReal)

/-- A channel's gate by token, and its value. -/
def raw (y : Fin 2816) (s : Fin 2064) : EReal := u (ix2 s ⟨y.val, by omega⟩)
def val (t : Fin 2064) (y : Fin 2816) : EReal := u (ix2 t ⟨2816 + y.val, by omega⟩)
/-- The gate after its convolution and bias. -/
def gate (t : Fin 2064) (y : Fin 2816) : EReal :=
  w (ix2 0 y) * Eb.past (raw u y) t 0 + w (ix2 1 y) * Eb.past (raw u y) t 1 + w (ix2 2 y) * Eb.past (raw u y) t 2 + b (ix1 y)
/-- The result: the gate's swish times the value. -/
def out (t : Fin 2064) (y : Fin 2816) : EReal := gate u w b t y * Ideal.logistic (gate u w b t y) * val u t y

end FfMid

namespace Cert.FfMidIdeal.Prod

open Cert.FfMidIdeal Cert.FfMidIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The arguments of a device. -/
abbrev argU (c : Dev nD) : S2064x5632.Idx → EReal := m ((c : Thread nD τ).loc main_arg0)
abbrev argW (c : Dev nD) : S3x2816.Idx → EReal := m ((c : Thread nD τ).loc main_arg1)
abbrev argB (c : Dev nD) : S2816.Idx → EReal := m ((c : Thread nD τ).loc main_arg2)

/-- How the windows move. -/
theorem idx : ∀ t : Fin cfg0.N, (win0_0.index t 0 = 0 ∧ win0_0.index t 1 = t.val) ∧ (win0_1.index t 0 = 0 ∧ win0_1.index t 1 = 11 + t.val)
      ∧ (win0_2.index t 0 = 0 ∧ win0_2.index t 1 = t.val) ∧ (win0_3.index t 0 = 0 ∧ win0_3.index t 1 = t.val)
      ∧ (win0_4.index t 0 = 0 ∧ win0_4.index t 1 = t.val) :=
  (by decide +kernel : ∀ t : Fin grid0.N, (win0_0.index t 0 = 0 ∧ win0_0.index t 1 = t.val) ∧ (win0_1.index t 0 = 0 ∧ win0_1.index t 1 = 11 + t.val)
      ∧ (win0_2.index t 0 = 0 ∧ win0_2.index t 1 = t.val) ∧ (win0_3.index t 0 = 0 ∧ win0_3.index t 1 = t.val)
      ∧ (win0_4.index t 0 = 0 ∧ win0_4.index t 1 = t.val))

variable (c : Dev nD) (t : Fin cfg0.N) (r : Fin 2064) (k : Fin 3) (y : Fin 256)

/-- The channel that a point's column is. -/
def ch : Fin 2816 := ⟨256 * t.val + y.val, by have : t.val < 11 := lt_of_lt_of_eq t.isLt N_0; omega⟩

theorem iblk0 : (iblk m c 0 t : Vec Ideal S2064x256 .f32) (ix2 r y) = FfMid.raw (argU m c) (ch t y) r := by
  unfold iblk
  rw [View.read_apply]
  show V m c main_arg0 _ = m (c.tc.loc main_arg0) _
  rw [V_main_arg0]
  congr 1
  funext a
  have := idx t
  apply Fin.ext
  match a with
  | ⟨0, _⟩ => show win0_0.index t 0 * 2064 + 1 * r.val = r.val; omega
  | ⟨1, _⟩ => show win0_0.index t 1 * 256 + 1 * y.val = 256 * t.val + y.val; omega

theorem iblk1 : (iblk m c 1 t : Vec Ideal S2064x256 .f32) (ix2 r y) = FfMid.val (argU m c) r (ch t y) := by
  unfold iblk
  rw [View.read_apply]
  show V m c main_arg0 _ = m (c.tc.loc main_arg0) _
  rw [V_main_arg0]
  congr 1
  funext a
  have := idx t
  apply Fin.ext
  match a with
  | ⟨0, _⟩ => show win0_1.index t 0 * 2064 + 1 * r.val = r.val; omega
  | ⟨1, _⟩ => show win0_1.index t 1 * 256 + 1 * y.val = 2816 + (256 * t.val + y.val); omega

theorem iblk2 : (iblk m c 2 t : Vec Ideal S3x256 .f32) (ix2 k y) = argW m c (ix2 k (ch t y)) := by
  unfold iblk
  rw [View.read_apply]
  show V m c main_arg1 _ = m (c.tc.loc main_arg1) _
  rw [V_main_arg1]
  congr 1
  funext a
  have := idx t
  apply Fin.ext
  match a with
  | ⟨0, _⟩ => show win0_2.index t 0 * 3 + 1 * k.val = k.val; omega
  | ⟨1, _⟩ => show win0_2.index t 1 * 256 + 1 * y.val = 256 * t.val + y.val; omega

/-- The bias as a row. -/
theorem bias (z : Fin 2816) : (V m c main_v0 : S1x2816.Idx → EReal) (ix2 0 z) = argB m c (ix1 z) := by
  show StableHlo.after hostOps0 (fun b => m (c, b)) main_v0 (ix2 0 z) = _
  simp only [hostOps0]
  after_results_simp
  pointwise []

theorem iblk3 : (iblk m c 3 t : Vec Ideal S1x256 .f32) (ix2 0 y) = argB m c (ix1 (ch t y)) := by
  rw [← bias]
  unfold iblk
  rw [View.read_apply]
  show V m c main_v0 _ = V m c main_v0 _
  congr 1
  funext a
  have := idx t
  apply Fin.ext
  match a with
  | ⟨0, _⟩ => show win0_3.index t 0 * 1 + 1 * 0 = 0; omega
  | ⟨1, _⟩ => show win0_3.index t 1 * 256 + 1 * y.val = 256 * t.val + y.val; omega

theorem past_eq (X : S2064x256.Idx → EReal) (f : Fin 2064 → EReal) (h : ∀ s, X (ix2 s y) = f s) :
    Eb.past (fun s => X (ix2 s y)) r k = Eb.past f r k := by
  obtain rfl : f = fun s => X (ix2 s y) := funext fun s => (h s).symm
  rfl

theorem mid_eq : mid (iblk m c 0 t) (iblk m c 1 t) (iblk m c 2 t) (iblk m c 3 t) (ix2 r y) = FfMid.out (argU m c) (argW m c) (argB m c) r (ch t y) :=
  swish (congrArg₂ (· + ·) (congrArg₂ (· + ·) (congrArg₂ (· + ·)
      (congrArg₂ (· * ·) (iblk2 m c t 0 y) (past_eq r 0 y _ _ fun s => iblk0 m c t s y))
      (congrArg₂ (· * ·) (iblk2 m c t 1 y) (past_eq r 1 y _ _ fun s => iblk0 m c t s y)))
      (congrArg₂ (· * ·) (iblk2 m c t 2 y) (past_eq r 2 y _ _ fun s => iblk0 m c t s y))) (iblk3 m c t y)) (iblk1 m c t r y)

/-- The result. -/
def res (u : S2064x5632.Idx → EReal) (w : S3x2816.Idx → EReal) (b : S2816.Idx → EReal) (i : S2064x2816.Idx) : EReal := FfMid.out u w b (i 0) (i 1)

/-- The point of a column of the result. -/
def at_ (n : ℕ) (h : n < 2816) : Fin cfg0.N := ⟨n / 256, by have : cfg0.N = 11 := N_0; omega⟩

theorem arr4 : (dats m 0 c).arrAt 4 cfg0.N = res (argU m c) (argW m c) (argB m c) := by
  refine (dats m 0 c).arrAt_eq_of_cover 4 (res (argU m c) (argW m c) (argB m c)) (fun t _ => ?_) fun i => ?_
  · have := idx t
    rw [Value.flushed4_A, out_4]
    funext j
    rw [View.read_apply]
    show mid (iblk m c 0 t) (iblk m c 1 t) (iblk m c 2 t) (iblk m c 3 t) j = res _ _ _ _
    obtain ⟨r, x, rfl⟩ : ∃ (r : Fin 2064) (x : Fin 256), j = ix2 r x := ⟨j 0, j 1, funext fun a => match a with | ⟨0, _⟩ => rfl | ⟨1, _⟩ => rfl⟩
    rw [mid_eq]
    exact congrArg₂ (FfMid.out (argU m c) (argW m c) (argB m c)) (Fin.ext (by show r.val = win0_4.index t 0 * 2064 + 1 * r.val; omega))
      (Fin.ext (by show 256 * t.val + x.val = win0_4.index t 1 * 256 + 1 * x.val; omega))
  · have h0 : (i 0).val < 2064 := (i 0).isLt
    have h1 : (i 1).val < 2816 := (i 1).isLt
    have ht := idx (at_ (i 1).val h1)
    have e : (at_ (i 1).val h1).val = (i 1).val / 256 := rfl
    refine ⟨at_ (i 1).val h1, flush0_4 _, ?_⟩
    show i ∈ ((View.whole main_v1).slice (win0_4.rect (at_ (i 1).val h1))).set
    rw [View.set_slice_whole, Rect.mem_set_unit]
    intro a
    match a with
    | ⟨0, _⟩ => show win0_4.index (at_ (i 1).val h1) 0 * 2064 ≤ (i 0).val ∧ (i 0).val < win0_4.index (at_ (i 1).val h1) 0 * 2064 + 2064; omega
    | ⟨1, _⟩ => show win0_4.index (at_ (i 1).val h1) 1 * 256 ≤ (i 1).val ∧ (i 1).val < win0_4.index (at_ (i 1).val h1) 1 * 256 + 256; omega

/-- The run: the result, the arguments unchanged. -/
theorem run : θ_run defs (onTc (τ := τ) (main (F := Ideal))) ⟨m, fun _ => 0, ρ⟩ (fun r => ∀ c : Dev nD,
      r.2.mem ((c : Thread nD τ).loc main_v1) = res (argU m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (arr4 m c), (h c).2⟩) (Value.run_blocks m ρ)

end Cert.FfMidIdeal.Prod

namespace Cert.FfMidRefIdeal.Hand

open Idealize.ShloMosaic Idealize.ShloMosaic.TcCoe Idealize.ShloMosaic.Tactic Idealize.SL.Sem Idealize.ShloMosaic.StableHlo
open Cert.FfMidRefIdeal Cert.FfMidRefIdeal.Gen Cert.FfMidRefIdeal.Read Cert.EbRefIdeal.Hand

variable (x0 : Vec Ideal S2064x5632 .f32) (x1 : Vec Ideal S3x2816 .f32) (x2 : Vec Ideal S2816 .f32)
variable (t : Fin 2064) (c : Fin 2816)

theorem v5_eq : val_main_v5 (F := Ideal) x0 (ix2 t c) = Eb.past (FfMid.raw x0 c) t 0 := by
  pointwise [val_main_v5, val_main_v3, val_main_v2, val_main_cst, val_main_v0]
  by_cases h : t.val < 2
  · rw [dif_pos (by omega), past_out t _ 0 (by show t.val + (30 + 0) < 32; omega)]
  · rw [dif_neg (by omega), past_in t _ 0 ⟨t.val - 2, by omega⟩ (by show t.val - 2 + 32 = t.val + (30 + 0); omega)]
    exact congrArg x0 (congrArg₂ ix2 (Fin.ext (by dsimp; try omega)) (Fin.ext (by dsimp; try omega)))

theorem v11_eq : val_main_v11 (F := Ideal) x0 (ix2 t c) = Eb.past (FfMid.raw x0 c) t 1 := by
  pointwise [val_main_v11, val_main_v3, val_main_v2, val_main_cst, val_main_v0]
  by_cases h : t.val < 1
  · rw [dif_pos (by omega), past_out t _ 1 (by show t.val + (30 + 1) < 32; omega)]
  · rw [dif_neg (by omega), past_in t _ 1 ⟨t.val - 1, by omega⟩ (by show t.val - 1 + 32 = t.val + (30 + 1); omega)]
    exact congrArg x0 (congrArg₂ ix2 (Fin.ext (by dsimp; omega)) (Fin.ext (by dsimp; try omega)))

theorem v16_eq : val_main_v16 (F := Ideal) x0 (ix2 t c) = Eb.past (FfMid.raw x0 c) t 2 := by
  pointwise [val_main_v16, val_main_v3, val_main_v2, val_main_cst, val_main_v0]
  rw [past_in t _ 2 t (by show t.val + 32 = t.val + (30 + 2); omega)]
  rfl

theorem gate_eq : val_main_v22 (F := Ideal) x0 x1 x2 (ix2 t c) = FfMid.gate x0 x1 x2 t c := by
  pointwise [val_main_v22, val_main_v21, val_main_v20, val_main_v19, val_main_v18, val_main_v17, val_main_v15, val_main_v14, val_main_v13,
    val_main_v12, val_main_v10, val_main_v9, val_main_v8, val_main_cst_0, val_main_v7, val_main_v6, val_main_v4]
  rw [v5_eq, v11_eq, v16_eq]
  rfl

theorem res_eq : val_main_v25 (F := Ideal) x0 x1 x2 = Cert.FfMidIdeal.Prod.res x0 x1 x2 := by
  funext i
  obtain ⟨t, c, rfl⟩ : ∃ (t : Fin 2064) (c : Fin 2816), i = ix2 t c := ⟨i 0, i 1, funext fun a => match a with | ⟨0, _⟩ => rfl | ⟨1, _⟩ => rfl⟩
  pointwise [val_main_v25, val_main_v24, val_main_v1, val_main_v23, val_main_call0_v5, val_main_call0_v4, val_main_call0_cst_0, val_main_call0_v3,
    val_main_call0_v2, val_main_call0_cst, val_main_call0_v1, val_main_call0_v0]
  rw [gate_eq]
  rfl

theorem algebraic : Cert.algebraic_FfMidIdeal_FfMidRefIdeal := by
  intro m g m' g' _ hag
  refine ⟨fun c => Cert.FfMidIdeal.Prod.res (Cert.FfMidIdeal.Prod.argU m c) (Cert.FfMidIdeal.Prod.argW m c) (Cert.FfMidIdeal.Prod.argB m c),
    Cert.FfMidIdeal.Prod.run m g, (θ_run _ _ _).mono (fun r h c => ?_) (Cert.FfMidRefIdeal.Value.run (F := Ideal) m' g')⟩
  obtain ⟨h1, h2⟩ := h c
  refine ⟨h1.trans ((val_main_v25_eq m' c).trans ((res_eq _ _ _).trans ?_)), h2⟩
  rw [(hag c).1, (hag c).2.1, (hag c).2.2]

end Cert.FfMidRefIdeal.Hand

end
-- ==== Proof.MidOut.lean ====
/- What one grid point of the gated feed-forward layer's middle, backward, stores: the gradients of the gate, the value, the taps and the bias. -/
module

public import proofs.«01_k».proof.Proof.Gen.MidIdeal.Value
public import proofs.«01_k».proof.Proof.Gen.Mid.Frame
public import proofs.«01_k».proof.Proof.Gen.MidRefIdeal.Run
public import proofs.«01_k».proof.Proof.Gen.MidRefIdeal.Read
public import proofs.«01_k».proof.Proof.Gen.MidRefIdeal
public import proofs.«01_k».proof.Proof.Gen.Pre_finite_mid
public import proofs.«01_k».proof.Proof.FfMidOut
public import Idealize.ShloMosaic.Lib.Pointwise

@[expose] public section

set_option maxRecDepth 16384
set_option maxHeartbeats 4000000

noncomputable section

namespace Cert.MidIdeal.Prod

open Cert.MidIdeal Cert.MidIdeal.Gen Idealize.ShloMosaic Idealize.ShloMosaic.TcCoe Idealize.ShloMosaic.Tactic Idealize.SL.Sem
open Cert.EbIdeal.Prod (six_sums rowEquiv)
open Cert.FfMidIdeal.Prod (canon_prefix canon_front canon_six front front_past col emb_ix2 gc)

/-- The derivative of the swish times the value: of the output's gradient, the value and the gate. -/
def dsw (d v g : EReal) : EReal := d * v * Ideal.logistic g * (1 + g * (1 - Ideal.logistic g))

/-- The rows of one half with 32 rows of zeros after them. -/
def back (h : Fin 2) (X : S2064x256.Idx → EReal) (i : S2096x128.Idx) : EReal := Eb.row (fun s => X (ix2 s (col h (i 1)))) (i 0).val

theorem back_next (h : Fin 2) (X : S2064x256.Idx → EReal) (n : ℕ) (hn) (t : Fin 2064) (y : Fin 128) (k : Fin 3) (e : n = t.val + k.val) :
    back h X (ix2 ⟨n, hn⟩ y) = Eb.next (fun s => X (ix2 s (col h y))) t k := by subst e; rfl

/-- A row of a block of 344 rows. -/
theorem block_row (h : Fin 2) (X : S2064x256.Idx → EReal) (o : ℕ) (ho : o + 344 ≤ 2064) (inb) (r : Fin 344) (y : Fin 128) :
    X (ix2 ⟨o + r.val, by omega⟩ (col h y)) = back h X ((Rect.unit (s := S2096x128) ![o, 0] ![344, 128] inb).emb (ix2 r y)) := by
  refine Eq.symm ((dif_pos (show o + 1 * r.val < 2064 by omega)).trans (congrArg X (congrArg₂ ix2 (Fin.ext ?_) (Fin.ext ?_))))
  · show o + 1 * r.val = o + r.val
    omega
  · show 128 * h.val + (0 + 1 * y.val) = 128 * h.val + y.val
    omega

theorem mem_rows (i : S2096x128.Idx) (o n : ℕ) (inb) (h : o ≤ (i 0).val ∧ (i 0).val < o + n) : i ∈ (Rect.unit (s := S2096x128) ![o, 0] ![n, 128] inb).set :=
  have hy : (i 1).val < 128 := (i 1).isLt
  Rect.mem_set_unit.mpr fun a => match a with
    | ⟨0, _⟩ => h
    | ⟨1, _⟩ => ⟨Nat.zero_le _, by show (i 1).val < 0 + 128; omega⟩

/-- A row of six blocks of 344 rows, read back over whatever the buffer held. -/
theorem canon_rows (h : Fin 2) (X : S2064x256.Idx → EReal) (P0 P1 P2 P3 P4 P5 : S344x128.Idx → EReal)
    (L : List (View.Piece (Elt Ideal) S2096x128 .f32))
    (h0 : ∀ r y, P0 (ix2 r y) = X (ix2 ⟨0 + r.val, by omega⟩ (col h y))) (h1 : ∀ r y, P1 (ix2 r y) = X (ix2 ⟨344 + r.val, by omega⟩ (col h y)))
    (h2 : ∀ r y, P2 (ix2 r y) = X (ix2 ⟨688 + r.val, by omega⟩ (col h y))) (h3 : ∀ r y, P3 (ix2 r y) = X (ix2 ⟨1032 + r.val, by omega⟩ (col h y)))
    (h4 : ∀ r y, P4 (ix2 r y) = X (ix2 ⟨1376 + r.val, by omega⟩ (col h y))) (h5 : ∀ r y, P5 (ix2 r y) = X (ix2 ⟨1720 + r.val, by omega⟩ (col h y)))
    (i : S2096x128.Idx) (hi : (i 0).val < 2064) :
    View.canon (Val := Elt Ideal) (s := S2096x128) (e := .f32) (⟨Rect.unit ![1720, 0] ![344, 128] inb_S2096x128_S344x128_1720_0, P5⟩ ::
      ⟨Rect.unit ![1376, 0] ![344, 128] inb_S2096x128_S344x128_1376_0, P4⟩ ::
      ⟨Rect.unit ![1032, 0] ![344, 128] inb_S2096x128_S344x128_1032_0, P3⟩ ::
      ⟨Rect.unit ![688, 0] ![344, 128] inb_S2096x128_S344x128_688_0, P2⟩ ::
      ⟨Rect.unit ![344, 0] ![344, 128] inb_S2096x128_S344x128_344_0, P1⟩ ::
      ⟨Rect.unit ![0, 0] ![344, 128] inb_S2096x128_S344x128_0_0, P0⟩ :: L) i = X (ix2 ⟨(i 0).val, hi⟩ (col h (i 1))) := by
  refine (canon_prefix (e := .f32) (back h X) i L [⟨Rect.unit ![1720, 0] ![344, 128] inb_S2096x128_S344x128_1720_0, P5⟩,
      ⟨Rect.unit ![1376, 0] ![344, 128] inb_S2096x128_S344x128_1376_0, P4⟩,
      ⟨Rect.unit ![1032, 0] ![344, 128] inb_S2096x128_S344x128_1032_0, P3⟩,
      ⟨Rect.unit ![688, 0] ![344, 128] inb_S2096x128_S344x128_688_0, P2⟩,
      ⟨Rect.unit ![344, 0] ![344, 128] inb_S2096x128_S344x128_344_0, P1⟩,
      ⟨Rect.unit ![0, 0] ![344, 128] inb_S2096x128_S344x128_0_0, P0⟩] (fun p hp x => ?_) ?_).trans (dif_pos hi)
  · simp only [List.mem_cons, List.not_mem_nil, or_false] at hp
    obtain ⟨r, y, e⟩ : ∃ (r : Fin 344) (y : Fin 128), HEq x (ix2 r y) := by
      rcases hp with rfl | rfl | rfl | rfl | rfl | rfl
      all_goals exact ⟨x 0, x 1, heq_of_eq (funext fun a => match a with | ⟨0, _⟩ => rfl | ⟨1, _⟩ => rfl)⟩
    rcases hp with rfl | rfl | rfl | rfl | rfl | rfl
    all_goals obtain rfl := eq_of_heq e
    · exact (h5 r y).trans (block_row h X 1720 (by decide) inb_S2096x128_S344x128_1720_0 r y)
    · exact (h4 r y).trans (block_row h X 1376 (by decide) inb_S2096x128_S344x128_1376_0 r y)
    · exact (h3 r y).trans (block_row h X 1032 (by decide) inb_S2096x128_S344x128_1032_0 r y)
    · exact (h2 r y).trans (block_row h X 688 (by decide) inb_S2096x128_S344x128_688_0 r y)
    · exact (h1 r y).trans (block_row h X 344 (by decide) inb_S2096x128_S344x128_344_0 r y)
    · exact (h0 r y).trans (block_row h X 0 (by decide) inb_S2096x128_S344x128_0_0 r y)
  · rcases (by omega : (i 0).val < 344 ∨ (344 ≤ (i 0).val ∧ (i 0).val < 688) ∨ (688 ≤ (i 0).val ∧ (i 0).val < 1032)
      ∨ (1032 ≤ (i 0).val ∧ (i 0).val < 1376) ∨ (1376 ≤ (i 0).val ∧ (i 0).val < 1720) ∨ 1720 ≤ (i 0).val)
      with h | h | h | h | h | h
    · exact ⟨_, .tail _ (.tail _ (.tail _ (.tail _ (.tail _ (.head _))))), mem_rows i 0 344 inb_S2096x128_S344x128_0_0 (by omega)⟩
    · exact ⟨_, .tail _ (.tail _ (.tail _ (.tail _ (.head _)))), mem_rows i 344 344 inb_S2096x128_S344x128_344_0 (by omega)⟩
    · exact ⟨_, .tail _ (.tail _ (.tail _ (.head _))), mem_rows i 688 344 inb_S2096x128_S344x128_688_0 (by omega)⟩
    · exact ⟨_, .tail _ (.tail _ (.head _)), mem_rows i 1032 344 inb_S2096x128_S344x128_1032_0 (by omega)⟩
    · exact ⟨_, .tail _ (.head _), mem_rows i 1376 344 inb_S2096x128_S344x128_1376_0 (by omega)⟩
    · exact ⟨_, .head _, mem_rows i 1720 344 inb_S2096x128_S344x128_1720_0 (by omega)⟩

/-- The six blocks and the zeros after them, read back over whatever the buffer held. -/
theorem canon_back (h : Fin 2) (X : S2064x256.Idx → EReal) (P0 P1 P2 P3 P4 P5 : S344x128.Idx → EReal) (Z : S32x128.Idx → EReal)
    (L : List (View.Piece (Elt Ideal) S2096x128 .f32))
    (h0 : ∀ r y, P0 (ix2 r y) = X (ix2 ⟨0 + r.val, by omega⟩ (col h y))) (h1 : ∀ r y, P1 (ix2 r y) = X (ix2 ⟨344 + r.val, by omega⟩ (col h y)))
    (h2 : ∀ r y, P2 (ix2 r y) = X (ix2 ⟨688 + r.val, by omega⟩ (col h y))) (h3 : ∀ r y, P3 (ix2 r y) = X (ix2 ⟨1032 + r.val, by omega⟩ (col h y)))
    (h4 : ∀ r y, P4 (ix2 r y) = X (ix2 ⟨1376 + r.val, by omega⟩ (col h y))) (h5 : ∀ r y, P5 (ix2 r y) = X (ix2 ⟨1720 + r.val, by omega⟩ (col h y)))
    (hZ : ∀ r y, Z (ix2 r y) = 0) :
    View.canon (Val := Elt Ideal) (s := S2096x128) (e := .f32) (⟨Rect.unit ![2064, 0] ![32, 128] inb_S2096x128_S32x128_2064_0, Z⟩ ::
      ⟨Rect.unit ![1720, 0] ![344, 128] inb_S2096x128_S344x128_1720_0, P5⟩ ::
      ⟨Rect.unit ![1376, 0] ![344, 128] inb_S2096x128_S344x128_1376_0, P4⟩ ::
      ⟨Rect.unit ![1032, 0] ![344, 128] inb_S2096x128_S344x128_1032_0, P3⟩ ::
      ⟨Rect.unit ![688, 0] ![344, 128] inb_S2096x128_S344x128_688_0, P2⟩ ::
      ⟨Rect.unit ![344, 0] ![344, 128] inb_S2096x128_S344x128_344_0, P1⟩ ::
      ⟨Rect.unit ![0, 0] ![344, 128] inb_S2096x128_S344x128_0_0, P0⟩ :: L) = back h X := by
  funext i
  have hx : (i 0).val < 2096 := (i 0).isLt
  by_cases hi : (i 0).val < 2064
  · refine (View.canon_cons_of_not_mem _ _ ?_).trans ((canon_rows h X P0 P1 P2 P3 P4 P5 L h0 h1 h2 h3 h4 h5 i hi).trans (show back h X i = _ from dif_pos hi).symm)
    intro hm
    have hm' : i ∈ (Rect.unit (s := S2096x128) ![2064, 0] ![32, 128] inb_S2096x128_S32x128_2064_0).set := hm
    have : 2064 ≤ (i 0).val := (Rect.mem_set_unit.mp hm' 0).1
    omega
  · refine canon_prefix (e := .f32) (back h X) i _ [⟨Rect.unit ![2064, 0] ![32, 128] inb_S2096x128_S32x128_2064_0, Z⟩] (fun p hp x => ?_)
      ⟨_, .head _, mem_rows i 2064 32 inb_S2096x128_S32x128_2064_0 (by omega)⟩
    obtain rfl := List.mem_singleton.mp hp
    obtain ⟨r, y, rfl⟩ : ∃ (r : Fin 32) (y : Fin 128), x = ix2 r y := ⟨x 0, x 1, funext fun a => match a with | ⟨0, _⟩ => rfl | ⟨1, _⟩ => rfl⟩
    exact (hZ r y).trans (Eq.symm (show back h X _ = 0 from dif_neg (show ¬ 2064 + 1 * r.val < 2064 by omega)))

/-- A load's read of an argument's buffer. -/
theorem readL {sp : Space} {S : Shape} {e : EltTy} (a : Memref sig .tc sp S e) (h : a.IsWhole) (x : Vec Ideal S e) (B : LoadRect S) :
    View.readAt (Elt Ideal) a.view B (h.unread x) = fun j => x (B.idx j) := by
  funext j
  show a.view.read _ (h.unread x) (B.idx j) = _
  rw [h.read_unread]

theorem gate_eq {a a' b b' d d' e e' f f' g g' k k' : EReal} (ha : a = a') (hb : b = b') (hd : d = d') (he : e = e') (hf : f = f') (hg : g = g') (hk : k = k') :
    a * b + d * e + f * g + k = a' * b' + d' * e' + f' * g' + k' := by rw [ha, hb, hd, he, hf, hg, hk]
theorem dval_eq {d d' g g' : EReal} (hd : d = d') (hg : g = g') : d * g * Ideal.logistic g = d' * g' * Ideal.logistic g' := by rw [hd, hg]
theorem dsw_eq {d d' v v' g g' : EReal} (hd : d = d') (hv : v = v') (hg : g = g') :
    d * v * Ideal.logistic g * (1 + g * (1 - Ideal.logistic g)) = dsw d' v' g' := by rw [hd, hv, hg, dsw]

theorem pay2_eq (X : S2064x256.Idx → EReal) (r : Fin 2064) (y : Fin 128) :
    k0_pay2 (F := Ideal) (View.ld (Val := Elt Ideal) (S := S2064x256) (e' := .f32) X (Rect.unit ![0, 0] ![2064, 128] inb_S2064x256_S2064x128_0_0)) (ix2 r y) = X (ix2 r (col 0 y)) := by
  pointwise [k0_pay2]
  exact congrArg X (congrArg₂ ix2 rfl (Fin.ext (by show y.val = 128 * 0 + y.val; omega)))
theorem pay81_eq (X : S2064x256.Idx → EReal) (r : Fin 2064) (y : Fin 128) :
    k0_pay81 (F := Ideal) (View.ld (Val := Elt Ideal) (S := S2064x256) (e' := .f32) X (Rect.unit ![0, 128] ![2064, 128] inb_S2064x256_S2064x128_0_128)) (ix2 r y) = X (ix2 r (col 1 y)) := by
  pointwise [k0_pay81]
  rfl
theorem pay1_eq (r : Fin 32) (y : Fin 128) : k0_pay1 (F := Ideal) (ix2 r y) = 0 := by pointwise [k0_pay1]
theorem pay80_eq (r : Fin 32) (y : Fin 128) : k0_pay80 (F := Ideal) (ix2 r y) = 0 := by pointwise [k0_pay80]
theorem pay141_eq (r : Fin 32) (y : Fin 128) : k0_pay141 (F := Ideal) (ix2 r y) = 0 := by pointwise [k0_pay141]
theorem pay67_eq (r : Fin 32) (y : Fin 128) : k0_pay67 (F := Ideal) (ix2 r y) = 0 := by pointwise [k0_pay67]

section
variable (c : Dev nD) (i : grid0.Coords)
  (arg1 : Memref sig .tc .vmem S2064x256 .f32) (harg1 : arg1.IsWhole) (arg2 : Memref sig .tc .vmem S2064x256 .f32) (harg2 : arg2.IsWhole)
  (arg3 : Memref sig .tc .vmem S2064x256 .f32) (harg3 : arg3.IsWhole) (arg4 : Memref sig .tc .vmem S3x256 .f32) (harg4 : arg4.IsWhole)
  (arg5 : Memref sig .tc .vmem S1x256 .f32) (harg5 : arg5.IsWhole) (arg6 : Memref sig .tc .vmem S2064x256 .bf16) (harg6 : arg6.IsWhole)
  (arg7 : Memref sig .tc .vmem S2064x256 .bf16) (harg7 : arg7.IsWhole) (arg8 : Memref sig .tc .vmem S3x256 .f32) (harg8 : arg8.IsWhole)
  (arg9 : Memref sig .tc .vmem S1x256 .f32) (harg9 : arg9.IsWhole) (arg10 : Memref sig .tc .vmem S2096x128 .f32) (harg10 : arg10.IsWhole)
  (arg11 : Memref sig .tc .vmem S2096x128 .f32) (harg11 : arg11.IsWhole) (arg12 : Memref sig .tc .vmem S2064x128 .f32) (harg12 : arg12.IsWhole)
  (x0 x1 x2 : Vec Ideal S2064x256 .f32) (x3 : Vec Ideal S3x256 .f32) (x4 : Vec Ideal S1x256 .f32)

/-- The gradient of the convolved gate, and the four results. -/
def dgc (i : S2064x256.Idx) : EReal := dsw (x0 i) (x2 i) (gc x1 x3 x4 i)
def dval (i : S2064x256.Idx) : EReal := x0 i * gc x1 x3 x4 i * Ideal.logistic (gc x1 x3 x4 i)
def dgate (i : S2064x256.Idx) : EReal :=
  x3 (ix2 0 (i 1)) * Eb.next (fun s => dgc x0 x1 x2 x3 x4 (ix2 s (i 1))) (i 0) 2 + x3 (ix2 1 (i 1)) * Eb.next (fun s => dgc x0 x1 x2 x3 x4 (ix2 s (i 1))) (i 0) 1
    + x3 (ix2 2 (i 1)) * Eb.next (fun s => dgc x0 x1 x2 x3 x4 (ix2 s (i 1))) (i 0) 0
def dtap (i : S3x256.Idx) : EReal := ∑ t : Fin 2064, dgc x0 x1 x2 x3 x4 (ix2 t (i 1)) * Eb.past (fun s => x1 (ix2 s (i 1))) t (i 0)
def dbias (i : S1x256.Idx) : EReal := ∑ t : Fin 2064, dgc x0 x1 x2 x3 x4 (ix2 t (i 1))

theorem out_6 : out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 = dval x0 x1 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 x0 x1 x2 x3 x4)]
  funext j
  refine View.canon_apply_of_pieces (Val := Elt Ideal) (e := .bf16) (S := S2064x256) (dval x0 x1 x3 x4) _ ?_ j (cover0_A_6 c i arg1 harg1 arg2 harg2 arg3 harg3 arg4 harg4 arg5 harg5 arg6 harg6 arg7 harg7 arg8 harg8 arg9 harg9 arg10 harg10 arg11 harg11 arg12 harg12 x0 x1 x2 x3 x4 j)
  unfold kernelRun0_A
  dsimp only
  sl_unfold_words
  simp only [↓View.readCov_eq_canon', ↓canon_front 0 x1 _ _ (pay2_eq x1) pay1_eq, ↓canon_front 1 x1 _ _ (pay81_eq x1) pay80_eq,
    View.readAt_eq_ld, readL, harg1.read_unread, harg2.read_unread, harg3.read_unread, harg4.read_unread, harg5.read_unread]
  intro p hp x
  simp only [List.mem_cons, List.not_mem_nil, or_false] at hp
  rcases hp with rfl | rfl
  · obtain ⟨r, y, rfl⟩ : ∃ (r : Fin 2064) (y : Fin 128), x = ix2 r y := ⟨x 0, x 1, funext fun a => match a with | ⟨0, _⟩ => rfl | ⟨1, _⟩ => rfl⟩
    dsimp only
    pointwise [k0_pay151]
    refine (congrFun (canon_six (fun i => dval x0 x1 x3 x4 (ix2 (i 0) (col 1 (i 1)))) _ _ _ _ _ _ _ ?_ ?_ ?_ ?_ ?_ ?_) _).trans ?_
    rotate_right
    · exact congrArg (dval x0 x1 x3 x4) (funext fun a => match a with
        | ⟨0, _⟩ => Fin.ext (show _ = 0 + 1 * r.val by dsimp; omega)
        | ⟨1, _⟩ => Fin.ext (show _ = 128 + 1 * y.val by dsimp [col]; omega))
    all_goals
      intro r y
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, dval, gc]
      refine dval_eq (congrArg x0 (congrArg₂ ix2 (Fin.ext ?_) (Fin.ext ?_))) (gate_eq (congrArg x3 (congrArg₂ ix2 rfl (Fin.ext ?_))) (front_past 1 x1 _ _ _ y 0 ?_) (congrArg x3 (congrArg₂ ix2 rfl (Fin.ext ?_))) (front_past 1 x1 _ _ _ y 1 ?_) (congrArg x3 (congrArg₂ ix2 rfl (Fin.ext ?_))) (front_past 1 x1 _ _ _ y 2 ?_) (congrArg x4 (congrArg₂ ix2 rfl (Fin.ext ?_))))
      all_goals (dsimp [Rect.withinL, col]; try omega)
  · obtain ⟨r, y, rfl⟩ : ∃ (r : Fin 2064) (y : Fin 128), x = ix2 r y := ⟨x 0, x 1, funext fun a => match a with | ⟨0, _⟩ => rfl | ⟨1, _⟩ => rfl⟩
    dsimp only
    pointwise [k0_pay79]
    refine (congrFun (canon_six (fun i => dval x0 x1 x3 x4 (ix2 (i 0) (col 0 (i 1)))) _ _ _ _ _ _ _ ?_ ?_ ?_ ?_ ?_ ?_) _).trans ?_
    rotate_right
    · exact congrArg (dval x0 x1 x3 x4) (funext fun a => match a with
        | ⟨0, _⟩ => Fin.ext (show _ = 0 + 1 * r.val by dsimp; omega)
        | ⟨1, _⟩ => Fin.ext (show _ = 0 + 1 * y.val by dsimp [col]; omega))
    all_goals
      intro r y
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, dval, gc]
      refine dval_eq (congrArg x0 (congrArg₂ ix2 (Fin.ext ?_) (Fin.ext ?_))) (gate_eq (congrArg x3 (congrArg₂ ix2 rfl (Fin.ext ?_))) (front_past 0 x1 _ _ _ y 0 ?_) (congrArg x3 (congrArg₂ ix2 rfl (Fin.ext ?_))) (front_past 0 x1 _ _ _ y 1 ?_) (congrArg x3 (congrArg₂ ix2 rfl (Fin.ext ?_))) (front_past 0 x1 _ _ _ y 2 ?_) (congrArg x4 (congrArg₂ ix2 rfl (Fin.ext ?_))))
      all_goals (dsimp [Rect.withinL, col]; try omega)
theorem out_5 : out0_A_5 (F := Ideal) c i arg1 harg1 arg2 harg2 arg3 harg3 arg4 harg4 arg5 harg5 arg6 harg6 arg7 harg7 arg8 harg8 arg9 harg9 arg10 harg10 arg11 harg11 arg12 harg12 x0 x1 x2 x3 x4 = dgate x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 x0 x1 x2 x3 x4)]
  funext j
  refine View.canon_apply_of_pieces (Val := Elt Ideal) (e := .bf16) (S := S2064x256) (dgate x0 x1 x2 x3 x4) _ ?_ j (cover0_A_5 c i arg1 harg1 arg2 harg2 arg3 harg3 arg4 harg4 arg5 harg5 arg6 harg6 arg7 harg7 arg8 harg8 arg9 harg9 arg10 harg10 arg11 harg11 arg12 harg12 x0 x1 x2 x3 x4 j)
  unfold kernelRun0_A
  dsimp only
  sl_unfold_words
  simp only [↓View.readCov_eq_canon', ↓canon_front 0 x1 _ _ (pay2_eq x1) pay1_eq, ↓canon_front 1 x1 _ _ (pay81_eq x1) pay80_eq,
    View.readAt_eq_ld, readL, harg1.read_unread, harg2.read_unread, harg3.read_unread, harg4.read_unread, harg5.read_unread]
  intro p hp x
  simp only [List.mem_cons, List.not_mem_nil, or_false] at hp
  rcases hp with rfl | rfl
  · obtain ⟨r, y, rfl⟩ : ∃ (r : Fin 2064) (y : Fin 128), x = ix2 r y := ⟨x 0, x 1, funext fun a => match a with | ⟨0, _⟩ => rfl | ⟨1, _⟩ => rfl⟩
    dsimp only
    rw [canon_back 1 (dgc x0 x1 x2 x3 x4) _ _ _ _ _ _ _ _ ?_ ?_ ?_ ?_ ?_ ?_ pay141_eq]
    rotate_left
    iterate 6
      · intro r y
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, dgc, gc]
        refine dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 1 x1 _ _ _ y 0 ?_) (congrArg x3 (congrArg₂ ix2 rfl (Fin.ext ?_))) (front_past 1 x1 _ _ _ y 1 ?_) (congrArg x3 (congrArg₂ ix2 rfl (Fin.ext ?_))) (front_past 1 x1 _ _ _ y 2 ?_) (congrArg x4 (congrArg₂ ix2 rfl (Fin.ext ?_))))
        all_goals (dsimp [Rect.withinL, col]; try omega)
    pointwise [k0_pay150]
    refine (canon_rows 1 (dgate x0 x1 x2 x3 x4) _ _ _ _ _ _ _ ?_ ?_ ?_ ?_ ?_ ?_ _ ?_).trans ?_
    rotate_right 2
    · dsimp
      omega
    · exact congrArg (dgate x0 x1 x2 x3 x4) (funext fun a => match a with
        | ⟨0, _⟩ => Fin.ext (show _ = 0 + 1 * r.val by dsimp; omega)
        | ⟨1, _⟩ => Fin.ext (show _ = 128 + 1 * y.val by dsimp [col]; omega))
    all_goals
      intro r y
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, dgate]

      refine congrArg₂ (· + ·) (congrArg₂ (· + ·)
        (congrArg₂ (· * ·) (congrArg x3 (congrArg₂ ix2 rfl (Fin.ext ?_))) (back_next 1 (dgc x0 x1 x2 x3 x4) _ _ _ y 2 ?_))
        (congrArg₂ (· * ·) (congrArg x3 (congrArg₂ ix2 rfl (Fin.ext ?_))) (back_next 1 (dgc x0 x1 x2 x3 x4) _ _ _ y 1 ?_)))
        (congrArg₂ (· * ·) (congrArg x3 (congrArg₂ ix2 rfl (Fin.ext ?_))) (back_next 1 (dgc x0 x1 x2 x3 x4) _ _ _ y 0 ?_))
      all_goals (dsimp [Rect.withinL, col]; try omega)
  · obtain ⟨r, y, rfl⟩ : ∃ (r : Fin 2064) (y : Fin 128), x = ix2 r y := ⟨x 0, x 1, funext fun a => match a with | ⟨0, _⟩ => rfl | ⟨1, _⟩ => rfl⟩
    dsimp only
    rw [canon_back 0 (dgc x0 x1 x2 x3 x4) _ _ _ _ _ _ _ _ ?_ ?_ ?_ ?_ ?_ ?_ pay67_eq]
    rotate_left
    iterate 6
      · intro r y
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, dgc, gc]
        refine dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 0 x1 _ _ _ y 0 ?_) (congrArg x3 (congrArg₂ ix2 rfl (Fin.ext ?_))) (front_past 0 x1 _ _ _ y 1 ?_) (congrArg x3 (congrArg₂ ix2 rfl (Fin.ext ?_))) (front_past 0 x1 _ _ _ y 2 ?_) (congrArg x4 (congrArg₂ ix2 rfl (Fin.ext ?_))))
        all_goals (dsimp [Rect.withinL, col]; try omega)
    pointwise [k0_pay78]
    refine (canon_rows 0 (dgate x0 x1 x2 x3 x4) _ _ _ _ _ _ _ ?_ ?_ ?_ ?_ ?_ ?_ _ ?_).trans ?_
    rotate_right 2
    · dsimp
      omega
    · exact congrArg (dgate x0 x1 x2 x3 x4) (funext fun a => match a with
        | ⟨0, _⟩ => Fin.ext (show _ = 0 + 1 * r.val by dsimp; omega)
        | ⟨1, _⟩ => Fin.ext (show _ = 0 + 1 * y.val by dsimp [col]; omega))
    all_goals
      intro r y
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, dgate]

      refine congrArg₂ (· + ·) (congrArg₂ (· + ·)
        (congrArg₂ (· * ·) (congrArg x3 (congrArg₂ ix2 rfl (Fin.ext ?_))) (back_next 0 (dgc x0 x1 x2 x3 x4) _ _ _ y 2 ?_))
        (congrArg₂ (· * ·) (congrArg x3 (congrArg₂ ix2 rfl (Fin.ext ?_))) (back_next 0 (dgc x0 x1 x2 x3 x4) _ _ _ y 1 ?_)))
        (congrArg₂ (· * ·) (congrArg x3 (congrArg₂ ix2 rfl (Fin.ext ?_))) (back_next 0 (dgc x0 x1 x2 x3 x4) _ _ _ y 0 ?_))
      all_goals (dsimp [Rect.withinL, col]; try omega)
theorem out_8 : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 = dbias x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4)]
  funext j
  refine View.canon_apply_of_pieces (Val := Elt Ideal) (e := .f32) (S := S1x256) (dbias x0 x1 x2 x3 x4) _ ?_ j (cover0_A_8 c i arg1 harg1 arg2 harg2 arg3 harg3 arg4 harg4 arg5 harg5 arg6 harg6 arg7 harg7 arg8 harg8 arg9 harg9 arg10 harg10 arg11 harg11 arg12 harg12 x0 x1 x2 x3 x4 j)
  unfold kernelRun0_A
  dsimp only
  sl_unfold_words
  simp only [↓View.readCov_eq_canon', ↓canon_front 0 x1 _ _ (pay2_eq x1) pay1_eq, ↓canon_front 1 x1 _ _ (pay81_eq x1) pay80_eq,
    View.readAt_eq_ld, readL, harg1.read_unread, harg2.read_unread, harg3.read_unread, harg4.read_unread, harg5.read_unread]
  intro p hp x
  simp only [List.mem_cons, List.not_mem_nil, or_false] at hp
  rcases hp with rfl | rfl
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 1 y))) _ _ _ _ _ _ ?_ ?_ ?_ ?_ ?_ ?_).trans (congrArg (fun z => ∑ t, dgc x0 x1 x2 x3 x4 (ix2 t z)) (Fin.ext ?_))
    rotate_right
    · show 128 * 1 + y.val = 128 + 1 * y.val
      omega
    all_goals
      refine Finset.sum_congr rfl fun t _ => dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 1 x1 _ _ _ y 0 ?_) (congrArg x3 (congrArg₂ ix2 rfl (Fin.ext ?_))) (front_past 1 x1 _ _ _ y 1 ?_) (congrArg x3 (congrArg₂ ix2 rfl (Fin.ext ?_))) (front_past 1 x1 _ _ _ y 2 ?_) (congrArg x4 (congrArg₂ ix2 rfl (Fin.ext ?_))))
      all_goals simp only [rowEquiv, Equiv.coe_fn_mk]
      all_goals first | omega | (dsimp [Rect.withinL, col]; try omega)
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 0 y))) _ _ _ _ _ _ ?_ ?_ ?_ ?_ ?_ ?_).trans (congrArg (fun z => ∑ t, dgc x0 x1 x2 x3 x4 (ix2 t z)) (Fin.ext ?_))
    rotate_right
    · show 128 * 0 + y.val = 0 + 1 * y.val
      omega
    all_goals
      refine Finset.sum_congr rfl fun t _ => dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 0 x1 _ _ _ y 0 ?_) (congrArg x3 (congrArg₂ ix2 rfl (Fin.ext ?_))) (front_past 0 x1 _ _ _ y 1 ?_) (congrArg x3 (congrArg₂ ix2 rfl (Fin.ext ?_))) (front_past 0 x1 _ _ _ y 2 ?_) (congrArg x4 (congrArg₂ ix2 rfl (Fin.ext ?_))))
      all_goals simp only [rowEquiv, Equiv.coe_fn_mk]
      all_goals first | omega | (dsimp [Rect.withinL, col]; try omega)
theorem out_7 : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 = dtap x0 x1 x2 x3 x4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4)]
  funext j
  refine View.canon_apply_of_pieces (Val := Elt Ideal) (e := .f32) (S := S3x256) (dtap x0 x1 x2 x3 x4) _ ?_ j (cover0_A_7 c i arg1 harg1 arg2 harg2 arg3 harg3 arg4 harg4 arg5 harg5 arg6 harg6 arg7 harg7 arg8 harg8 arg9 harg9 arg10 harg10 arg11 harg11 arg12 harg12 x0 x1 x2 x3 x4 j)
  unfold kernelRun0_A
  dsimp only
  sl_unfold_words
  simp only [↓View.readCov_eq_canon', ↓canon_front 0 x1 _ _ (pay2_eq x1) pay1_eq, ↓canon_front 1 x1 _ _ (pay81_eq x1) pay80_eq,
    View.readAt_eq_ld, readL, harg1.read_unread, harg2.read_unread, harg3.read_unread, harg4.read_unread, harg5.read_unread]
  intro p hp x
  simp only [List.mem_cons, List.not_mem_nil, or_false] at hp
  rcases hp with rfl | rfl | rfl | rfl | rfl | rfl
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 1 y)) * Eb.past (fun s => x1 (ix2 s (col 1 y))) t 2) _ _ _ _ _ _ ?_ ?_ ?_ ?_ ?_ ?_).trans (congrArg (fun z => ∑ t, dgc x0 x1 x2 x3 x4 (ix2 t z) * Eb.past (fun s => x1 (ix2 s z)) t 2) (Fin.ext ?_))
    rotate_right
    · show 128 * 1 + y.val = 128 + 1 * y.val
      omega
    all_goals
      refine Finset.sum_congr rfl fun t _ => congrArg₂ (· * ·) (dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 1 x1 _ _ _ y 0 ?_) (congrArg x3 (congrArg₂ ix2 rfl (Fin.ext ?_))) (front_past 1 x1 _ _ _ y 1 ?_) (congrArg x3 (congrArg₂ ix2 rfl (Fin.ext ?_))) (front_past 1 x1 _ _ _ y 2 ?_) (congrArg x4 (congrArg₂ ix2 rfl (Fin.ext ?_))))) (front_past 1 x1 _ _ _ y 2 ?_)
      all_goals simp only [rowEquiv, Equiv.coe_fn_mk]
      all_goals first | omega | (dsimp [Rect.withinL, col]; try omega)
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 1 y)) * Eb.past (fun s => x1 (ix2 s (col 1 y))) t 1) _ _ _ _ _ _ ?_ ?_ ?_ ?_ ?_ ?_).trans (congrArg (fun z => ∑ t, dgc x0 x1 x2 x3 x4 (ix2 t z) * Eb.past (fun s => x1 (ix2 s z)) t 1) (Fin.ext ?_))
    rotate_right
    · show 128 * 1 + y.val = 128 + 1 * y.val
      omega
    all_goals
      refine Finset.sum_congr rfl fun t _ => congrArg₂ (· * ·) (dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 1 x1 _ _ _ y 0 ?_) (congrArg x3 (congrArg₂ ix2 rfl (Fin.ext ?_))) (front_past 1 x1 _ _ _ y 1 ?_) (congrArg x3 (congrArg₂ ix2 rfl (Fin.ext ?_))) (front_past 1 x1 _ _ _ y 2 ?_) (congrArg x4 (congrArg₂ ix2 rfl (Fin.ext ?_))))) (front_past 1 x1 _ _ _ y 1 ?_)
      all_goals simp only [rowEquiv, Equiv.coe_fn_mk]
      all_goals first | omega | (dsimp [Rect.withinL, col]; try omega)
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 1 y)) * Eb.past (fun s => x1 (ix2 s (col 1 y))) t 0) _ _ _ _ _ _ ?_ ?_ ?_ ?_ ?_ ?_).trans (congrArg (fun z => ∑ t, dgc x0 x1 x2 x3 x4 (ix2 t z) * Eb.past (fun s => x1 (ix2 s z)) t 0) (Fin.ext ?_))
    rotate_right
    · show 128 * 1 + y.val = 128 + 1 * y.val
      omega
    all_goals
      refine Finset.sum_congr rfl fun t _ => congrArg₂ (· * ·) (dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 1 x1 _ _ _ y 0 ?_) (congrArg x3 (congrArg₂ ix2 rfl (Fin.ext ?_))) (front_past 1 x1 _ _ _ y 1 ?_) (congrArg x3 (congrArg₂ ix2 rfl (Fin.ext ?_))) (front_past 1 x1 _ _ _ y 2 ?_) (congrArg x4 (congrArg₂ ix2 rfl (Fin.ext ?_))))) (front_past 1 x1 _ _ _ y 0 ?_)
      all_goals simp only [rowEquiv, Equiv.coe_fn_mk]
      all_goals first | omega | (dsimp [Rect.withinL, col]; try omega)
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 0 y)) * Eb.past (fun s => x1 (ix2 s (col 0 y))) t 2) _ _ _ _ _ _ ?_ ?_ ?_ ?_ ?_ ?_).trans (congrArg (fun z => ∑ t, dgc x0 x1 x2 x3 x4 (ix2 t z) * Eb.past (fun s => x1 (ix2 s z)) t 2) (Fin.ext ?_))
    rotate_right
    · show 128 * 0 + y.val = 0 + 1 * y.val
      omega
    all_goals
      refine Finset.sum_congr rfl fun t _ => congrArg₂ (· * ·) (dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 0 x1 _ _ _ y 0 ?_) (congrArg x3 (congrArg₂ ix2 rfl (Fin.ext ?_))) (front_past 0 x1 _ _ _ y 1 ?_) (congrArg x3 (congrArg₂ ix2 rfl (Fin.ext ?_))) (front_past 0 x1 _ _ _ y 2 ?_) (congrArg x4 (congrArg₂ ix2 rfl (Fin.ext ?_))))) (front_past 0 x1 _ _ _ y 2 ?_)
      all_goals simp only [rowEquiv, Equiv.coe_fn_mk]
      all_goals first | omega | (dsimp [Rect.withinL, col]; try omega)
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 0 y)) * Eb.past (fun s => x1 (ix2 s (col 0 y))) t 1) _ _ _ _ _ _ ?_ ?_ ?_ ?_ ?_ ?_).trans (congrArg (fun z => ∑ t, dgc x0 x1 x2 x3 x4 (ix2 t z) * Eb.past (fun s => x1 (ix2 s z)) t 1) (Fin.ext ?_))
    rotate_right
    · show 128 * 0 + y.val = 0 + 1 * y.val
      omega
    all_goals
      refine Finset.sum_congr rfl fun t _ => congrArg₂ (· * ·) (dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 0 x1 _ _ _ y 0 ?_) (congrArg x3 (congrArg₂ ix2 rfl (Fin.ext ?_))) (front_past 0 x1 _ _ _ y 1 ?_) (congrArg x3 (congrArg₂ ix2 rfl (Fin.ext ?_))) (front_past 0 x1 _ _ _ y 2 ?_) (congrArg x4 (congrArg₂ ix2 rfl (Fin.ext ?_))))) (front_past 0 x1 _ _ _ y 1 ?_)
      all_goals simp only [rowEquiv, Equiv.coe_fn_mk]
      all_goals first | omega | (dsimp [Rect.withinL, col]; try omega)
  · obtain ⟨r, y, rfl⟩ : ∃ (r : Fin 1) (y : Fin 128), x = ix2 r y := ⟨x 0, x 1, funext fun a => match a with | ⟨0, _⟩ => rfl | ⟨1, _⟩ => rfl⟩
    dsimp only
    obtain rfl : r = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
    refine (six_sums (fun t => dgc x0 x1 x2 x3 x4 (ix2 t (col 0 y)) * Eb.past (fun s => x1 (ix2 s (col 0 y))) t 0) _ _ _ _ _ _ ?_ ?_ ?_ ?_ ?_ ?_).trans (congrArg (fun z => ∑ t, dgc x0 x1 x2 x3 x4 (ix2 t z) * Eb.past (fun s => x1 (ix2 s z)) t 0) (Fin.ext ?_))
    rotate_right
    · show 128 * 0 + y.val = 0 + 1 * y.val
      omega
    all_goals
      refine Finset.sum_congr rfl fun t _ => congrArg₂ (· * ·) (dsw_eq (congrArg x0 (congrArg₂ ix2 (Fin.ext ?_) (Fin.ext ?_))) (congrArg x2 (congrArg₂ ix2 (Fin.ext ?_) (Fin.ext ?_))) (gate_eq (congrArg x3 (congrArg₂ ix2 rfl (Fin.ext ?_))) (front_past 0 x1 _ _ _ y 0 ?_) (congrArg x3 (congrArg₂ ix2 rfl (Fin.ext ?_))) (front_past 0 x1 _ _ _ y 1 ?_) (congrArg x3 (congrArg₂ ix2 rfl (Fin.ext ?_))) (front_past 0 x1 _ _ _ y 2 ?_) (congrArg x4 (congrArg₂ ix2 rfl (Fin.ext ?_))))) (front_past 0 x1 _ _ _ y 0 ?_)
      all_goals simp only [rowEquiv, Equiv.coe_fn_mk]
      all_goals first | omega | (dsimp [Rect.withinL, col]; try omega)
end
end Cert.MidIdeal.Prod
end
-- ==== Proof.MidValue.lean ====
/- The gradients of the gated feed-forward layer's middle over the whole arrays: every grid point computes 256 channels, all tokens. -/
module

public import proofs.«01_k».proof.Proof.MidOut
public import proofs.«01_k».proof.Proof.FfMidValue

@[expose] public section

set_option maxRecDepth 16384

noncomputable section

open Idealize.ShloMosaic

namespace Mid

variable (z : (⟨2, ![2064, 2816]⟩ : Shape).Idx → EReal) (u : (⟨2, ![2064, 5632]⟩ : Shape).Idx → EReal) (w : (⟨2, ![3, 2816]⟩ : Shape).Idx → EReal) (b : (⟨1, ![2816]⟩ : Shape).Idx → EReal)

/-- The gradient of the convolved gate: the output's gradient times the value times the swish's derivative. -/
def conv (y : Fin 2816) (t : Fin 2064) : EReal := Cert.MidIdeal.Prod.dsw (z (ix2 t y)) (FfMid.val u t y) (FfMid.gate u w b t y)
/-- The gradients of the value, of the gate before its convolution, of the taps and of the bias. -/
def dval (t : Fin 2064) (y : Fin 2816) : EReal := z (ix2 t y) * FfMid.gate u w b t y * Ideal.logistic (FfMid.gate u w b t y)
def dgate (t : Fin 2064) (y : Fin 2816) : EReal :=
  w (ix2 0 y) * Eb.next (conv z u w b y) t 2 + w (ix2 1 y) * Eb.next (conv z u w b y) t 1 + w (ix2 2 y) * Eb.next (conv z u w b y) t 0
def dtap (k : Fin 3) (y : Fin 2816) : EReal := ∑ t : Fin 2064, conv z u w b y t * Eb.past (FfMid.raw u y) t k
def dbias (y : Fin 2816) : EReal := ∑ t : Fin 2064, conv z u w b y t

end Mid

namespace Cert.MidIdeal.Prod

open Cert.MidIdeal Cert.MidIdeal.Gen Idealize.ShloMosaic Idealize.ShloMosaic.TcCoe Idealize.ShloMosaic.Tactic Idealize.SL.Sem
open Idealize.ShloMosaic.Pipeline (Dat)
open Cert.FfMidIdeal.Prod (past_eq gc)

variable (m : (ℓ : Loc nD τ sig) → Buf (Elt Ideal) ℓ) (ρ : Dev nD → PrngReg)

/-- The arguments of a device. -/
abbrev argZ (c : Dev nD) : S2064x2816.Idx → EReal := m ((c : Thread nD τ).loc main_arg0)
abbrev argU (c : Dev nD) : S2064x5632.Idx → EReal := m ((c : Thread nD τ).loc main_arg1)
abbrev argW (c : Dev nD) : S3x2816.Idx → EReal := m ((c : Thread nD τ).loc main_arg2)
abbrev argB (c : Dev nD) : S2816.Idx → EReal := m ((c : Thread nD τ).loc main_arg3)

/-- How the windows move. -/
theorem idx : ∀ t : Fin cfg0.N, (win0_0.index t 0 = 0 ∧ win0_0.index t 1 = t.val)
      ∧ (win0_1.index t 0 = 0 ∧ win0_1.index t 1 = t.val)
      ∧ (win0_2.index t 0 = 0 ∧ win0_2.index t 1 = 11 + t.val)
      ∧ (win0_3.index t 0 = 0 ∧ win0_3.index t 1 = t.val)
      ∧ (win0_4.index t 0 = 0 ∧ win0_4.index t 1 = t.val)
      ∧ (win0_5.index t 0 = 0 ∧ win0_5.index t 1 = t.val)
      ∧ (win0_6.index t 0 = 0 ∧ win0_6.index t 1 = t.val)
      ∧ (win0_7.index t 0 = 0 ∧ win0_7.index t 1 = t.val)
      ∧ (win0_8.index t 0 = 0 ∧ win0_8.index t 1 = t.val) :=
  (by decide +kernel : ∀ t : Fin grid0.N, (win0_0.index t 0 = 0 ∧ win0_0.index t 1 = t.val)
      ∧ (win0_1.index t 0 = 0 ∧ win0_1.index t 1 = t.val)
      ∧ (win0_2.index t 0 = 0 ∧ win0_2.index t 1 = 11 + t.val)
      ∧ (win0_3.index t 0 = 0 ∧ win0_3.index t 1 = t.val)
      ∧ (win0_4.index t 0 = 0 ∧ win0_4.index t 1 = t.val)
      ∧ (win0_5.index t 0 = 0 ∧ win0_5.index t 1 = t.val)
      ∧ (win0_6.index t 0 = 0 ∧ win0_6.index t 1 = t.val)
      ∧ (win0_7.index t 0 = 0 ∧ win0_7.index t 1 = t.val)
      ∧ (win0_8.index t 0 = 0 ∧ win0_8.index t 1 = t.val))

variable (c : Dev nD) (t : Fin cfg0.N) (r : Fin 2064) (k : Fin 3) (y : Fin 256)

/-- The channel that a point's column is. -/
def ch : Fin 2816 := ⟨256 * t.val + y.val, by have : t.val < 11 := lt_of_lt_of_eq t.isLt N_0; omega⟩

theorem iblk0 : (iblk m c 0 t : Vec Ideal S2064x256 .f32) (ix2 r y) = argZ m c (ix2 r (ch t y)) := by
  unfold iblk
  rw [View.read_apply]
  show V m c main_arg0 _ = m (c.tc.loc main_arg0) _
  rw [V_main_arg0]
  congr 1
  funext a
  have := idx t
  apply Fin.ext
  match a with
  | ⟨0, _⟩ => show win0_0.index t 0 * 2064 + 1 * r.val = r.val; omega
  | ⟨1, _⟩ => show win0_0.index t 1 * 256 + 1 * y.val = 256 * t.val + y.val; omega

theorem iblk1 : (iblk m c 1 t : Vec Ideal S2064x256 .f32) (ix2 r y) = FfMid.raw (argU m c) (ch t y) r := by
  unfold iblk
  rw [View.read_apply]
  show V m c main_arg1 _ = m (c.tc.loc main_arg1) _
  rw [V_main_arg1]
  congr 1
  funext a
  have := idx t
  apply Fin.ext
  match a with
  | ⟨0, _⟩ => show win0_1.index t 0 * 2064 + 1 * r.val = r.val; omega
  | ⟨1, _⟩ => show win0_1.index t 1 * 256 + 1 * y.val = 256 * t.val + y.val; omega

theorem iblk2 : (iblk m c 2 t : Vec Ideal S2064x256 .f32) (ix2 r y) = FfMid.val (argU m c) r (ch t y) := by
  unfold iblk
  rw [View.read_apply]
  show V m c main_arg1 _ = m (c.tc.loc main_arg1) _
  rw [V_main_arg1]
  congr 1
  funext a
  have := idx t
  apply Fin.ext
  match a with
  | ⟨0, _⟩ => show win0_2.index t 0 * 2064 + 1 * r.val = r.val; omega
  | ⟨1, _⟩ => show win0_2.index t 1 * 256 + 1 * y.val = 2816 + (256 * t.val + y.val); omega

theorem iblk3 : (iblk m c 3 t : Vec Ideal S3x256 .f32) (ix2 k y) = argW m c (ix2 k (ch t y)) := by
  unfold iblk
  rw [View.read_apply]
  show V m c main_arg2 _ = m (c.tc.loc main_arg2) _
  rw [V_main_arg2]
  congr 1
  funext a
  have := idx t
  apply Fin.ext
  match a with
  | ⟨0, _⟩ => show win0_3.index t 0 * 3 + 1 * k.val = k.val; omega
  | ⟨1, _⟩ => show win0_3.index t 1 * 256 + 1 * y.val = 256 * t.val + y.val; omega

/-- The bias as a row. -/
theorem bias (z : Fin 2816) : (V m c main_v0 : S1x2816.Idx → EReal) (ix2 0 z) = argB m c (ix1 z) := by
  show StableHlo.after hostOps0 (fun b => m (c, b)) main_v0 (ix2 0 z) = _
  simp only [hostOps0]
  after_results_simp
  pointwise []

theorem iblk4 : (iblk m c 4 t : Vec Ideal S1x256 .f32) (ix2 0 y) = argB m c (ix1 (ch t y)) := by
  rw [← bias]
  unfold iblk
  rw [View.read_apply]
  show V m c main_v0 _ = V m c main_v0 _
  congr 1
  funext a
  have := idx t
  apply Fin.ext
  match a with
  | ⟨0, _⟩ => show win0_4.index t 0 * 1 + 1 * 0 = 0; omega
  | ⟨1, _⟩ => show win0_4.index t 1 * 256 + 1 * y.val = 256 * t.val + y.val; omega

theorem gc_eq : gc (iblk m c 1 t) (iblk m c 3 t) (iblk m c 4 t) (ix2 r y) = FfMid.gate (argU m c) (argW m c) (argB m c) r (ch t y) :=
  gate_eq (iblk3 m c t 0 y) (past_eq r 0 y _ _ fun s => iblk1 m c t s y) (iblk3 m c t 1 y) (past_eq r 1 y _ _ fun s => iblk1 m c t s y)
    (iblk3 m c t 2 y) (past_eq r 2 y _ _ fun s => iblk1 m c t s y) (iblk4 m c t y)

theorem dgc_eq : dgc (iblk m c 0 t) (iblk m c 1 t) (iblk m c 2 t) (iblk m c 3 t) (iblk m c 4 t) (ix2 r y) = Mid.conv (argZ m c) (argU m c) (argW m c) (argB m c) (ch t y) r :=
  congr (congrArg₂ dsw (iblk0 m c t r y) (iblk2 m c t r y)) (gc_eq m c t r y)

theorem blk_dval : dval (iblk m c 0 t) (iblk m c 1 t) (iblk m c 3 t) (iblk m c 4 t) (ix2 r y) = Mid.dval (argZ m c) (argU m c) (argW m c) (argB m c) r (ch t y) :=
  dval_eq (iblk0 m c t r y) (gc_eq m c t r y)

theorem next_eq (X : S2064x256.Idx → EReal) (f : Fin 2064 → EReal) (h : ∀ s, X (ix2 s y) = f s) :
    Eb.next (fun s => X (ix2 s y)) r k = Eb.next f r k := by
  obtain rfl : f = fun s => X (ix2 s y) := funext fun s => (h s).symm
  rfl

theorem blk_dgate : dgate (iblk m c 0 t) (iblk m c 1 t) (iblk m c 2 t) (iblk m c 3 t) (iblk m c 4 t) (ix2 r y) = Mid.dgate (argZ m c) (argU m c) (argW m c) (argB m c) r (ch t y) :=
  congrArg₂ (· + ·) (congrArg₂ (· + ·)
    (congrArg₂ (· * ·) (iblk3 m c t 0 y) (next_eq r 2 y _ _ fun s => dgc_eq m c t s y))
    (congrArg₂ (· * ·) (iblk3 m c t 1 y) (next_eq r 1 y _ _ fun s => dgc_eq m c t s y)))
    (congrArg₂ (· * ·) (iblk3 m c t 2 y) (next_eq r 0 y _ _ fun s => dgc_eq m c t s y))

theorem blk_dtap : dtap (iblk m c 0 t) (iblk m c 1 t) (iblk m c 2 t) (iblk m c 3 t) (iblk m c 4 t) (ix2 k y) = Mid.dtap (argZ m c) (argU m c) (argW m c) (argB m c) k (ch t y) :=
  Finset.sum_congr rfl fun s _ => congrArg₂ (· * ·) (dgc_eq m c t s y) (past_eq s k y _ _ fun s => iblk1 m c t s y)

theorem blk_dbias (x : Fin 1) : dbias (iblk m c 0 t) (iblk m c 1 t) (iblk m c 2 t) (iblk m c 3 t) (iblk m c 4 t) (ix2 x y) = Mid.dbias (argZ m c) (argU m c) (argW m c) (argB m c) (ch t y) :=
  Finset.sum_congr rfl fun s _ => dgc_eq m c t s y

/-- The results. -/
def resG (z : S2064x2816.Idx → EReal) (u : S2064x5632.Idx → EReal) (w : S3x2816.Idx → EReal) (b : S2816.Idx → EReal) (i : S2064x2816.Idx) : EReal := Mid.dgate z u w b (i 0) (i 1)
def resV (z : S2064x2816.Idx → EReal) (u : S2064x5632.Idx → EReal) (w : S3x2816.Idx → EReal) (b : S2816.Idx → EReal) (i : S2064x2816.Idx) : EReal := Mid.dval z u w b (i 0) (i 1)
def resW (z : S2064x2816.Idx → EReal) (u : S2064x5632.Idx → EReal) (w : S3x2816.Idx → EReal) (b : S2816.Idx → EReal) (i : S3x2816.Idx) : EReal := Mid.dtap z u w b (i 0) (i 1)
def resB (z : S2064x2816.Idx → EReal) (u : S2064x5632.Idx → EReal) (w : S3x2816.Idx → EReal) (b : S2816.Idx → EReal) (i : S1x2816.Idx) : EReal := Mid.dbias z u w b (i 1)

/-- The point of a column of the results. -/
def at_ (n : ℕ) (h : n < 2816) : Fin cfg0.N := ⟨n / 256, by have : cfg0.N = 11 := N_0; omega⟩

theorem arr5 : (dats m 0 c).arrAt 5 cfg0.N = resG (argZ m c) (argU m c) (argW m c) (argB m c) := by
  refine (dats m 0 c).arrAt_eq_of_cover 5 (resG (argZ m c) (argU m c) (argW m c) (argB m c)) (fun t _ => ?_) fun i => ?_
  · have := idx t
    rw [Value.flushed5_A, out_5]
    funext j
    rw [View.read_apply]
    show dgate (iblk m c 0 t) (iblk m c 1 t) (iblk m c 2 t) (iblk m c 3 t) (iblk m c 4 t) j = resG _ _ _ _ _
    obtain ⟨r, x, rfl⟩ : ∃ (r : Fin 2064) (x : Fin 256), j = ix2 r x := ⟨j 0, j 1, funext fun a => match a with | ⟨0, _⟩ => rfl | ⟨1, _⟩ => rfl⟩
    rw [blk_dgate]
    exact congrArg₂ (Mid.dgate (argZ m c) (argU m c) (argW m c) (argB m c)) (Fin.ext (by show r.val = win0_5.index t 0 * 2064 + 1 * r.val; omega))
      (Fin.ext (by show 256 * t.val + x.val = win0_5.index t 1 * 256 + 1 * x.val; omega))
  · have h0 : (i 0).val < 2064 := (i 0).isLt
    have h1 : (i 1).val < 2816 := (i 1).isLt
    have ht := idx (at_ (i 1).val h1)
    have e : (at_ (i 1).val h1).val = (i 1).val / 256 := rfl
    refine ⟨at_ (i 1).val h1, flush0_5 _, ?_⟩
    show i ∈ ((View.whole main_v1_0).slice (win0_5.rect (at_ (i 1).val h1))).set
    rw [View.set_slice_whole, Rect.mem_set_unit]
    intro a
    match a with
    | ⟨0, _⟩ => show win0_5.index (at_ (i 1).val h1) 0 * 2064 ≤ (i 0).val ∧ (i 0).val < win0_5.index (at_ (i 1).val h1) 0 * 2064 + 2064; omega
    | ⟨1, _⟩ => show win0_5.index (at_ (i 1).val h1) 1 * 256 ≤ (i 1).val ∧ (i 1).val < win0_5.index (at_ (i 1).val h1) 1 * 256 + 256; omega

theorem arr6 : (dats m 0 c).arrAt 6 cfg0.N = resV (argZ m c) (argU m c) (argW m c) (argB m c) := by
  refine (dats m 0 c).arrAt_eq_of_cover 6 (resV (argZ m c) (argU m c) (argW m c) (argB m c)) (fun t _ => ?_) fun i => ?_
  · have := idx t
    rw [Value.flushed6_A, out_6]
    funext j
    rw [View.read_apply]
    show dval (iblk m c 0 t) (iblk m c 1 t) (iblk m c 3 t) (iblk m c 4 t) j = resV _ _ _ _ _
    obtain ⟨r, x, rfl⟩ : ∃ (r : Fin 2064) (x : Fin 256), j = ix2 r x := ⟨j 0, j 1, funext fun a => match a with | ⟨0, _⟩ => rfl | ⟨1, _⟩ => rfl⟩
    rw [blk_dval]
    exact congrArg₂ (Mid.dval (argZ m c) (argU m c) (argW m c) (argB m c)) (Fin.ext (by show r.val = win0_6.index t 0 * 2064 + 1 * r.val; omega))
      (Fin.ext (by show 256 * t.val + x.val = win0_6.index t 1 * 256 + 1 * x.val; omega))
  · have h0 : (i 0).val < 2064 := (i 0).isLt
    have h1 : (i 1).val < 2816 := (i 1).isLt
    have ht := idx (at_ (i 1).val h1)
    have e : (at_ (i 1).val h1).val = (i 1).val / 256 := rfl
    refine ⟨at_ (i 1).val h1, flush0_6 _, ?_⟩
    show i ∈ ((View.whole main_v1_1).slice (win0_6.rect (at_ (i 1).val h1))).set
    rw [View.set_slice_whole, Rect.mem_set_unit]
    intro a
    match a with
    | ⟨0, _⟩ => show win0_6.index (at_ (i 1).val h1) 0 * 2064 ≤ (i 0).val ∧ (i 0).val < win0_6.index (at_ (i 1).val h1) 0 * 2064 + 2064; omega
    | ⟨1, _⟩ => show win0_6.index (at_ (i 1).val h1) 1 * 256 ≤ (i 1).val ∧ (i 1).val < win0_6.index (at_ (i 1).val h1) 1 * 256 + 256; omega

theorem arr7 : (dats m 0 c).arrAt 7 cfg0.N = resW (argZ m c) (argU m c) (argW m c) (argB m c) := by
  refine (dats m 0 c).arrAt_eq_of_cover 7 (resW (argZ m c) (argU m c) (argW m c) (argB m c)) (fun t _ => ?_) fun i => ?_
  · have := idx t
    rw [Value.flushed7_A, out_7]
    funext j
    rw [View.read_apply]
    show dtap (iblk m c 0 t) (iblk m c 1 t) (iblk m c 2 t) (iblk m c 3 t) (iblk m c 4 t) j = resW _ _ _ _ _
    obtain ⟨r, x, rfl⟩ : ∃ (r : Fin 3) (x : Fin 256), j = ix2 r x := ⟨j 0, j 1, funext fun a => match a with | ⟨0, _⟩ => rfl | ⟨1, _⟩ => rfl⟩
    rw [blk_dtap]
    exact congrArg₂ (Mid.dtap (argZ m c) (argU m c) (argW m c) (argB m c)) (Fin.ext (by show r.val = win0_7.index t 0 * 3 + 1 * r.val; omega))
      (Fin.ext (by show 256 * t.val + x.val = win0_7.index t 1 * 256 + 1 * x.val; omega))
  · have h0 : (i 0).val < 3 := (i 0).isLt
    have h1 : (i 1).val < 2816 := (i 1).isLt
    have ht := idx (at_ (i 1).val h1)
    have e : (at_ (i 1).val h1).val = (i 1).val / 256 := rfl
    refine ⟨at_ (i 1).val h1, flush0_7 _, ?_⟩
    show i ∈ ((View.whole main_v1_2).slice (win0_7.rect (at_ (i 1).val h1))).set
    rw [View.set_slice_whole, Rect.mem_set_unit]
    intro a
    match a with
    | ⟨0, _⟩ => show win0_7.index (at_ (i 1).val h1) 0 * 3 ≤ (i 0).val ∧ (i 0).val < win0_7.index (at_ (i 1).val h1) 0 * 3 + 3; omega
    | ⟨1, _⟩ => show win0_7.index (at_ (i 1).val h1) 1 * 256 ≤ (i 1).val ∧ (i 1).val < win0_7.index (at_ (i 1).val h1) 1 * 256 + 256; omega

theorem arr8 : (dats m 0 c).arrAt 8 cfg0.N = resB (argZ m c) (argU m c) (argW m c) (argB m c) := by
  refine (dats m 0 c).arrAt_eq_of_cover 8 (resB (argZ m c) (argU m c) (argW m c) (argB m c)) (fun t _ => ?_) fun i => ?_
  · have := idx t
    rw [Value.flushed8_A, out_8]
    funext j
    rw [View.read_apply]
    show dbias (iblk m c 0 t) (iblk m c 1 t) (iblk m c 2 t) (iblk m c 3 t) (iblk m c 4 t) j = resB _ _ _ _ _
    obtain ⟨r, x, rfl⟩ : ∃ (r : Fin 1) (x : Fin 256), j = ix2 r x := ⟨j 0, j 1, funext fun a => match a with | ⟨0, _⟩ => rfl | ⟨1, _⟩ => rfl⟩
    rw [blk_dbias]
    exact congrArg (Mid.dbias (argZ m c) (argU m c) (argW m c) (argB m c)) (Fin.ext (by show 256 * t.val + x.val = win0_8.index t 1 * 256 + 1 * x.val; omega))
  · have h0 : (i 0).val < 1 := (i 0).isLt
    have h1 : (i 1).val < 2816 := (i 1).isLt
    have ht := idx (at_ (i 1).val h1)
    have e : (at_ (i 1).val h1).val = (i 1).val / 256 := rfl
    refine ⟨at_ (i 1).val h1, flush0_8 _, ?_⟩
    show i ∈ ((View.whole main_v1_3).slice (win0_8.rect (at_ (i 1).val h1))).set
    rw [View.set_slice_whole, Rect.mem_set_unit]
    intro a
    match a with
    | ⟨0, _⟩ => show win0_8.index (at_ (i 1).val h1) 0 * 1 ≤ (i 0).val ∧ (i 0).val < win0_8.index (at_ (i 1).val h1) 0 * 1 + 1; omega
    | ⟨1, _⟩ => show win0_8.index (at_ (i 1).val h1) 1 * 256 ≤ (i 1).val ∧ (i 1).val < win0_8.index (at_ (i 1).val h1) 1 * 256 + 256; omega

/-- The run: the results, the arguments unchanged. -/
theorem run : θ_run defs (onTc (τ := τ) (main (F := Ideal))) ⟨m, fun _ => 0, ρ⟩ (fun r => ∀ c : Dev nD,
      r.2.mem ((c : Thread nD τ).loc main_v1_0) = resG (argZ m c) (argU m c) (argW m c) (argB m c)
      ∧ r.2.mem ((c : Thread nD τ).loc main_v1_1) = resV (argZ m c) (argU m c) (argW m c) (argB m c)
      ∧ r.2.mem ((c : Thread nD τ).loc main_v1_2) = resW (argZ m c) (argU m c) (argW m c) (argB m c)
      ∧ r.2.mem ((c : Thread nD τ).loc main_v1_3) = resB (argZ m c) (argU m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (arr5 m c), (h c).2.1.trans (arr6 m c), (h c).2.2.1.trans (arr7 m c), (h c).2.2.2.1.trans (arr8 m c),
    (h c).2.2.2.2⟩) (Value.run_blocks m ρ)

end Cert.MidIdeal.Prod

end
-- ==== Proof.AttnFwdValue.lean ====
/- The attention's forward call over the reals: every point leaves its block of the result, each entry the sum over all the
   tokens of probability times value. The scores, their exponentials and the probabilities are those that the gradient's
   call computes again, so they are read through its lemmas. -/
module

public import proofs.«01_k».proof.Proof.AttnAcc
public import proofs.«01_k».proof.Proof.Gen.AttnFwdIdeal.Value
public import Idealize.ShloMosaic.Lib.Pointwise

@[expose] public section

set_option maxRecDepth 16384

noncomputable section

namespace Attn

/-- The output of token `t`, head `h`, component `d`. -/
def Args.out (A : Args) (t : Fin 2176) (h : Fin 8) (d : Fin 64) : EReal := ∑ s, A.p t s h * A.v s (grp h) d
def Args.outAt (A : Args) (t : Fin 2176) (x : Fin 512) : EReal := A.out t ⟨x.val / 64, by omega⟩ ⟨x.val % 64, by omega⟩

end Attn

namespace Cert.AttnIdeal.Hand

open Idealize.ShloMosaic Idealize.ShloMosaic.TcCoe Idealize.ShloMosaic.Tactic
open Cert.AttnIdeal Cert.AttnIdeal.Gen
open Attn

/-- The stacked output of a key head's four query heads. -/
def Grp.out {F : FTy → Type} [FloatOps F] [Named F] (i : grid0.Coords) (b : Grp F) : FVec F S512x64 .f32 :=
  let mm := fun (p : FVec F S512x128 .f32) (v : Vec F S128x64 .bf16) =>
    matmul dot_S512x128_S128x64_S512x64_1_0_0_1_n_n none (truncf .bf16 p bitsLt_bf16_f32) v (constant S512x64 .f32 0x00000000#32)
  addf (addf (mm (b.pc i) b.vc) (mm (b.pp i) b.vp)) (mm (b.pm i) b.vm)

variable {b : Grp Ideal} {A : Args} {n : Fin 17} {g : Fin 2} (i : grid0.Coords)

theorem out_apply (h : b.Is A n g) (hi : (i 0).val = n.val) (R : Fin 512) (d : Fin 64) :
    b.out i (ix2 R d) = A.out (tok n R) (head g R) d := by
  unfold Grp.out
  pointwise
  unfold Args.out
  rw [grp_head, sum_blocks n _ fun k r h1 h2 h3 => by
    unfold tok; rw [Args.p_of_not (not_ok n k _ r h1 h2 h3), zero_mul]]
  refine congrArg₂ (· + ·) (congrArg₂ (· + ·) (Finset.sum_congr rfl fun c _ => ?_)
    (Finset.sum_congr rfl fun c _ => ?_)) (Finset.sum_congr rfl fun c _ => ?_)
  · exact congrArg₂ (· * ·) (pc_apply i h hi R c) (h.vc c d)
  · refine (congrArg₂ (· * ·) (pp_apply i h hi R c) (h.vp c d)).trans ?_
    split_ifs
    · rfl
    · exact zero_mul _
  · refine (congrArg₂ (· * ·) (pm_apply i h hi R c) (h.vm c d)).trans ?_
    split_ifs
    · rfl
    · exact zero_mul _

/-- A head's rows of the stacked output. -/
theorem slice_out (h : b.Is A n g) (hi : (i 0).val = n.val) (o : ℕ) (j : Fin 4)
    (hj : o = 128 * j.val) (sl) (r : Fin 128) (d : Fin 64) :
    (truncf .bf16 (extractStridedSlice S128x64 ![o, 0] (b.out i) sl) bitsLt_bf16_f32 : FVec Ideal S128x64 .bf16) (ix2 r d)
      = A.out (row n r) (Args.hd g j) d := by
  rw [← tok_stk n j r, ← head_stk g j r, ← out_apply i h hi]
  subst hj
  pointwise
  rfl

end Cert.AttnIdeal.Hand

namespace Cert.AttnFwdIdeal.Hand

open Idealize.ShloMosaic Idealize.ShloMosaic.TcCoe Idealize.ShloMosaic.Tactic Idealize.SL.Sem
open Idealize.ShloMosaic.Pipeline (Dat)
open Cert.AttnFwdIdeal Cert.AttnFwdIdeal.Gen
open Attn
open Cert.AttnIdeal.Hand (Grp)

section
variable {F : FTy → Type} [FloatOps F] [Named F]
variable (m : (ℓ : Loc nD τ sig) → Buf (Elt F) ℓ) (c : Dev nD) (t : Fin cfg0.N)

theorem inbq {p : ℕ} (h : p + 64 ≤ 512) (a : Fin 2) : (![0, p] : Fin 2 → ℕ) a + S128x64.size a ≤ S128x512.size a :=
  match a with | ⟨0, _⟩ => Nat.le_refl 128 | ⟨1, _⟩ => h
theorem inbk {p : ℕ} (h : p + 64 ≤ 128) (a : Fin 2) : (![0, p] : Fin 2 → ℕ) a + S128x64.size a ≤ S128x128.size a :=
  match a with | ⟨0, _⟩ => Nat.le_refl 128 | ⟨1, _⟩ => h
theorem inbs {p : ℕ} (h : p + 1 ≤ 8) (a : Fin 2) : (![0, p] : Fin 2 → ℕ) a + S1x1.size a ≤ S1x8.size a :=
  match a with | ⟨0, _⟩ => Nat.le_refl 1 | ⟨1, _⟩ => h

/-- Sixty-four columns of a staged block from column `p` on: of the queries, -/
def rq (p : ℕ) (h : p + 64 ≤ 512) : Vec F S128x64 .bf16 :=
  View.readAt (Elt F) (ms0_1 t).view (Rect.unit (s := S128x512) ![0, p] S128x64.size (inbq h)).toLoadRect ((hs0_1 t).unread (iblk m c 1 t))
/-- of a block of keys or values, -/
def rk (M : Memref sig .tc .vmem S128x128 .bf16) (hM : M.IsWhole) (x : Vec F S128x128 .bf16) (p : ℕ) (h : p + 64 ≤ 128) : Vec F S128x64 .bf16 :=
  View.readAt (Elt F) M.view (Rect.unit (s := S128x128) ![0, p] S128x64.size (inbk h)).toLoadRect (hM.unread x)
/-- and one sink. -/
def rs (p : ℕ) (h : p + 1 ≤ 8) : Elt F .f32 :=
  View.readAt (Elt F) (ms0_0 t).view (Rect.unit (s := S1x8) ![0, p] S1x1.size (inbs h)).toLoadRect ((hs0_0 t).unread (iblk m c 0 t)) (Shape.Idx.first (show 0 < S1x1.numel by decide))

/-- What key head `g` reads at a point. The output's gradient is not read here: its place is taken by the queries. -/
def grpAt (g : ℕ) (hg : g < 2) : Grp F where
  q0 := rq m c t (256 * g) (by omega)
  q1 := rq m c t (256 * g + 64) (by omega)
  q2 := rq m c t (256 * g + 128) (by omega)
  q3 := rq m c t (256 * g + 192) (by omega)
  o0 := rq m c t (256 * g) (by omega)
  o1 := rq m c t (256 * g + 64) (by omega)
  o2 := rq m c t (256 * g + 128) (by omega)
  o3 := rq m c t (256 * g + 192) (by omega)
  kc := rk (ms0_2 t) (hs0_2 t) (iblk m c 2 t) (64 * g) (by omega)
  kp := rk (ms0_3 t) (hs0_3 t) (iblk m c 3 t) (64 * g) (by omega)
  km := rk (ms0_4 t) (hs0_4 t) (iblk m c 4 t) (64 * g) (by omega)
  vc := rk (ms0_5 t) (hs0_5 t) (iblk m c 5 t) (64 * g) (by omega)
  vp := rk (ms0_6 t) (hs0_6 t) (iblk m c 6 t) (64 * g) (by omega)
  vm := rk (ms0_7 t) (hs0_7 t) (iblk m c 7 t) (64 * g) (by omega)
  s0 := rs m c t (4 * g) (by omega)
  s1 := rs m c t (4 * g + 1) (by omega)
  s2 := rs m c t (4 * g + 2) (by omega)
  s3 := rs m c t (4 * g + 3) (by omega)

/-- The stacked output of a key head at a point. -/
abbrev outG (g : ℕ) (hg : g < 2) : FVec F S512x64 .f32 := Grp.out (grid0.coords t) (grpAt m c t g hg)

/-- The body's pieces: eight heads' columns. -/
theorem run_out : (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (iblk m c 0 t) (iblk m c 1 t) (iblk m c 2 t) (iblk m c 3 t) (iblk m c 4 t) (iblk m c 5 t)
      (iblk m c 6 t) (iblk m c 7 t)).1 =
    [⟨Rect.unit (s := S128x512) ![0, 448] S128x64.size inb_S128x512_S128x64_0_448, truncf .bf16 (extractStridedSlice S128x64 ![384, 0] (outG m c t 1 (by omega)) slices_S512x64_o384_0_S128x64) bitsLt_bf16_f32⟩,
     ⟨Rect.unit (s := S128x512) ![0, 384] S128x64.size inb_S128x512_S128x64_0_384, truncf .bf16 (extractStridedSlice S128x64 ![256, 0] (outG m c t 1 (by omega)) slices_S512x64_o256_0_S128x64) bitsLt_bf16_f32⟩,
     ⟨Rect.unit (s := S128x512) ![0, 320] S128x64.size inb_S128x512_S128x64_0_320, truncf .bf16 (extractStridedSlice S128x64 ![128, 0] (outG m c t 1 (by omega)) slices_S512x64_o128_0_S128x64) bitsLt_bf16_f32⟩,
     ⟨Rect.unit (s := S128x512) ![0, 256] S128x64.size inb_S128x512_S128x64_0_256, truncf .bf16 (extractStridedSlice S128x64 ![0, 0] (outG m c t 1 (by omega)) slices_S512x64_o0_0_S128x64) bitsLt_bf16_f32⟩,
     ⟨Rect.unit (s := S128x512) ![0, 192] S128x64.size inb_S128x512_S128x64_0_192, truncf .bf16 (extractStridedSlice S128x64 ![384, 0] (outG m c t 0 (by omega)) slices_S512x64_o384_0_S128x64) bitsLt_bf16_f32⟩,
     ⟨Rect.unit (s := S128x512) ![0, 128] S128x64.size inb_S128x512_S128x64_0_128, truncf .bf16 (extractStridedSlice S128x64 ![256, 0] (outG m c t 0 (by omega)) slices_S512x64_o256_0_S128x64) bitsLt_bf16_f32⟩,
     ⟨Rect.unit (s := S128x512) ![0, 64] S128x64.size inb_S128x512_S128x64_0_64, truncf .bf16 (extractStridedSlice S128x64 ![128, 0] (outG m c t 0 (by omega)) slices_S512x64_o128_0_S128x64) bitsLt_bf16_f32⟩,
     ⟨Rect.unit (s := S128x512) ![0, 0] S128x64.size inb_S128x512_S128x64_0_0, truncf .bf16 (extractStridedSlice S128x64 ![0, 0] (outG m c t 0 (by omega)) slices_S512x64_o0_0_S128x64) bitsLt_bf16_f32⟩] := by
  sl_kernel_rfl

end

variable (m : (ℓ : Loc nD τ sig) → Buf (Elt Ideal) ℓ) (ρ : Dev nD → PrngReg) (c : Dev nD) (t : Fin cfg0.N)

/-- The argument arrays of a device; the gradient's place is taken by the queries. -/
abbrev X0 : S2176x512.Idx → EReal := (m ((c : Thread nD τ).loc main_arg0) :)
abbrev X1 : S2176x128.Idx → EReal := (m ((c : Thread nD τ).loc main_arg1) :)
abbrev X2 : S2176x128.Idx → EReal := (m ((c : Thread nD τ).loc main_arg2) :)
abbrev X3 : S1x8.Idx → EReal := (m ((c : Thread nD τ).loc main_arg3) :)

def argsOf (x0 : S2176x512.Idx → EReal) (x1 x2 : S2176x128.Idx → EReal) (x3 : S1x8.Idx → EReal) : Args :=
  Args.of (fun t x => x0 (ix2 t x)) (fun t x => x1 (ix2 t x)) (fun t x => x2 (ix2 t x)) (fun x => x3 (ix2 0 x)) (fun t x => x0 (ix2 t x))

def blkOf (t : Fin cfg0.N) : Fin 17 := ⟨t.val, lt_of_lt_of_eq t.isLt N_0⟩

theorem coords_val : ∀ t : Fin cfg0.N, (grid0.coords t 0).val = t.val :=
  (by decide +kernel : ∀ t : Fin grid0.N, (grid0.coords t 0).val = t.val)

theorem idx : ∀ t : Fin cfg0.N, (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = t.val - 1 ∧ win0_3.index t 1 = 0)
    ∧ (win0_4.index t 0 = 0 ∧ win0_4.index t 1 = 0) ∧ (win0_5.index t 0 = t.val ∧ win0_5.index t 1 = 0)
    ∧ (win0_6.index t 0 = t.val - 1 ∧ win0_6.index t 1 = 0) ∧ (win0_7.index t 0 = 0 ∧ win0_7.index t 1 = 0)
    ∧ (win0_8.index t 0 = t.val ∧ win0_8.index t 1 = 0) :=
  (by decide +kernel : ∀ t : Fin grid0.N, (win0_0.index t 0 = 0 ∧ win0_0.index t 1 = 0) ∧ (win0_1.index t 0 = t.val ∧ win0_1.index t 1 = 0)
    ∧ (win0_2.index t 0 = t.val ∧ win0_2.index t 1 = 0) ∧ (win0_3.index t 0 = t.val - 1 ∧ win0_3.index t 1 = 0)
    ∧ (win0_4.index t 0 = 0 ∧ win0_4.index t 1 = 0) ∧ (win0_5.index t 0 = t.val ∧ win0_5.index t 1 = 0)
    ∧ (win0_6.index t 0 = t.val - 1 ∧ win0_6.index t 1 = 0) ∧ (win0_7.index t 0 = 0 ∧ win0_7.index t 1 = 0)
    ∧ (win0_8.index t 0 = t.val ∧ win0_8.index t 1 = 0))

/-! ### The staged blocks -/

theorem rk_apply (M : Memref sig .tc .vmem S128x128 .bf16) (hM : M.IsWhole) (x : Vec Ideal S128x128 .bf16) (p : ℕ) (h : p + 64 ≤ 128) (r : Fin 128) (d : Fin 64) :
    rk M hM x p h (ix2 r d) = x (ix2 r ⟨p + d.val, by omega⟩) := by
  unfold rk
  rw [View.readAt_apply]
  refine (congrFun (hM.read_unread _) _).trans (congrArg x (funext fun a => Fin.ext ?_))
  match a with
  | ⟨0, _⟩ => show 0 + 1 * r.val = r.val; omega
  | ⟨1, _⟩ => show p + 1 * d.val = p + d.val; omega

theorem rq_apply (p : ℕ) (h : p + 64 ≤ 512) (r : Fin 128) (d : Fin 64) :
    rq m c t p h (ix2 r d) = X0 m c (ix2 (row (blkOf t) r) ⟨p + d.val, by omega⟩) := by
  have := idx t
  unfold rq
  rw [View.readAt_apply]
  refine (congrFun ((hs0_1 t).read_unread _) _).trans ?_
  unfold iblk
  rw [View.read_apply]
  refine congrArg (X0 m c) (funext fun a => Fin.ext ?_)
  match a with
  | ⟨0, _⟩ => show win0_1.index t 0 * 128 + 1 * (0 + 1 * r.val) = 128 * t.val + r.val; omega
  | ⟨1, _⟩ => show win0_1.index t 1 * 512 + 1 * (p + 1 * d.val) = p + d.val; omega

theorem rs_apply (p : ℕ) (h : p + 1 ≤ 8) : rs m c t p h = X3 m c (ix2 0 ⟨p, by omega⟩) := by
  have := idx t
  unfold rs
  rw [View.readAt_apply]
  refine (congrFun ((hs0_0 t).read_unread _) _).trans ?_
  unfold iblk
  rw [View.read_apply]
  refine congrArg (X3 m c) (funext fun a => Fin.ext ?_)
  match a with
  | ⟨0, _⟩ => show win0_0.index t 0 * 1 + 1 * (0 + 1 * 0) = 0; omega
  | ⟨1, _⟩ => show win0_0.index t 1 * 8 + 1 * (p + 1 * 0) = p; omega

/-- A block of keys: the current, the previous, the first; and of values likewise. -/
theorem iblk2 (r x : Fin 128) : (iblk m c 2 t : Vec Ideal S128x128 .bf16) (ix2 r x) = X1 m c (ix2 (row (blkOf t) r) x) := by
  have := idx t
  unfold iblk
  rw [View.read_apply]
  refine congrArg (X1 m c) (funext fun a => Fin.ext ?_)
  match a with
  | ⟨0, _⟩ => show win0_2.index t 0 * 128 + 1 * r.val = 128 * t.val + r.val; omega
  | ⟨1, _⟩ => show win0_2.index t 1 * 128 + 1 * x.val = x.val; omega

theorem iblk3 (r x : Fin 128) : (iblk m c 3 t : Vec Ideal S128x128 .bf16) (ix2 r x) = X1 m c (ix2 (row (prev (blkOf t)) r) x) := by
  have := idx t
  unfold iblk
  rw [View.read_apply]
  refine congrArg (X1 m c) (funext fun a => Fin.ext ?_)
  match a with
  | ⟨0, _⟩ => show win0_3.index t 0 * 128 + 1 * r.val = 128 * (t.val - 1) + r.val; omega
  | ⟨1, _⟩ => show win0_3.index t 1 * 128 + 1 * x.val = x.val; omega

theorem iblk4 (r x : Fin 128) : (iblk m c 4 t : Vec Ideal S128x128 .bf16) (ix2 r x) = X1 m c (ix2 (row 0 r) x) := by
  have := idx t
  unfold iblk
  rw [View.read_apply]
  refine congrArg (X1 m c) (funext fun a => Fin.ext ?_)
  match a with
  | ⟨0, _⟩ => show win0_4.index t 0 * 128 + 1 * r.val = 128 * 0 + r.val; omega
  | ⟨1, _⟩ => show win0_4.index t 1 * 128 + 1 * x.val = x.val; omega

theorem iblk5 (r x : Fin 128) : (iblk m c 5 t : Vec Ideal S128x128 .bf16) (ix2 r x) = X2 m c (ix2 (row (blkOf t) r) x) := by
  have := idx t
  unfold iblk
  rw [View.read_apply]
  refine congrArg (X2 m c) (funext fun a => Fin.ext ?_)
  match a with
  | ⟨0, _⟩ => show win0_5.index t 0 * 128 + 1 * r.val = 128 * t.val + r.val; omega
  | ⟨1, _⟩ => show win0_5.index t 1 * 128 + 1 * x.val = x.val; omega

theorem iblk6 (r x : Fin 128) : (iblk m c 6 t : Vec Ideal S128x128 .bf16) (ix2 r x) = X2 m c (ix2 (row (prev (blkOf t)) r) x) := by
  have := idx t
  unfold iblk
  rw [View.read_apply]
  refine congrArg (X2 m c) (funext fun a => Fin.ext ?_)
  match a with
  | ⟨0, _⟩ => show win0_6.index t 0 * 128 + 1 * r.val = 128 * (t.val - 1) + r.val; omega
  | ⟨1, _⟩ => show win0_6.index t 1 * 128 + 1 * x.val = x.val; omega

theorem iblk7 (r x : Fin 128) : (iblk m c 7 t : Vec Ideal S128x128 .bf16) (ix2 r x) = X2 m c (ix2 (row 0 r) x) := by
  have := idx t
  unfold iblk
  rw [View.read_apply]
  refine congrArg (X2 m c) (funext fun a => Fin.ext ?_)
  match a with
  | ⟨0, _⟩ => show win0_7.index t 0 * 128 + 1 * r.val = 128 * 0 + r.val; omega
  | ⟨1, _⟩ => show win0_7.index t 1 * 128 + 1 * x.val = x.val; omega

abbrev A := argsOf (X0 m c) (X1 m c) (X2 m c) (X3 m c)

theorem q_eq (g : Fin 2) (j : Fin 4) (p : ℕ) (hp : p = 256 * g.val + 64 * j.val) (h : p + 64 ≤ 512) (r : Fin 128) (d : Fin 64) :
    rq m c t p h (ix2 r d) = (A m c).q (row (blkOf t) r) (Args.hd g j) d := by
  rw [rq_apply]
  exact congrArg (X0 m c) (congrArg (ix2 _) (Fin.ext (by show p + d.val = 64 * (4 * g.val + j.val) + d.val; omega)))

theorem s_eq (g : Fin 2) (j : Fin 4) (p : ℕ) (hp : p = 4 * g.val + j.val) (h : p + 1 ≤ 8) : rs m c t p h = (A m c).sk (Args.hd g j) := by
  rw [rs_apply]
  exact congrArg (X3 m c) (congrArg (ix2 _) (Fin.ext hp))

theorem kv_eq (M : Memref sig .tc .vmem S128x128 .bf16) (hM : M.IsWhole) (x : Vec Ideal S128x128 .bf16) (X : S2176x128.Idx → EReal) (s : Fin 128 → Fin 2176)
    (hx : ∀ r y, x (ix2 r y) = X (ix2 (s r) y)) (g : Fin 2) (h : 64 * g.val + 64 ≤ 128) (r : Fin 128) (d : Fin 64) :
    rk M hM x (64 * g.val) h (ix2 r d) = X (ix2 (s r) ⟨64 * g.val + d.val, by omega⟩) := (rk_apply M hM x _ h r d).trans (hx r _)

/-- What a key head reads is its part of the arrays. -/
theorem isAt (g : Fin 2) : (grpAt m c t g.val g.isLt).Is (A m c) (blkOf t) g :=
  have hg := g.isLt
  ⟨fun r d => q_eq m c t g 0 (256 * g.val) rfl (by omega) r d,
  fun r d => q_eq m c t g 1 (256 * g.val + 64) rfl (by omega) r d,
  fun r d => q_eq m c t g 2 (256 * g.val + 128) rfl (by omega) r d,
  fun r d => q_eq m c t g 3 (256 * g.val + 192) rfl (by omega) r d,
  fun r d => q_eq m c t g 0 (256 * g.val) rfl (by omega) r d,
  fun r d => q_eq m c t g 1 (256 * g.val + 64) rfl (by omega) r d,
  fun r d => q_eq m c t g 2 (256 * g.val + 128) rfl (by omega) r d,
  fun r d => q_eq m c t g 3 (256 * g.val + 192) rfl (by omega) r d,
  fun r d => kv_eq (ms0_2 t) (hs0_2 t) (iblk m c 2 t) (X1 m c) (row (blkOf t)) (iblk2 m c t) g (by omega) r d,
  fun r d => kv_eq (ms0_3 t) (hs0_3 t) (iblk m c 3 t) (X1 m c) (row (prev (blkOf t))) (iblk3 m c t) g (by omega) r d,
  fun r d => kv_eq (ms0_4 t) (hs0_4 t) (iblk m c 4 t) (X1 m c) (row 0) (iblk4 m c t) g (by omega) r d,
  fun r d => kv_eq (ms0_5 t) (hs0_5 t) (iblk m c 5 t) (X2 m c) (row (blkOf t)) (iblk5 m c t) g (by omega) r d,
  fun r d => kv_eq (ms0_6 t) (hs0_6 t) (iblk m c 6 t) (X2 m c) (row (prev (blkOf t))) (iblk6 m c t) g (by omega) r d,
  fun r d => kv_eq (ms0_7 t) (hs0_7 t) (iblk m c 7 t) (X2 m c) (row 0) (iblk7 m c t) g (by omega) r d,
  s_eq m c t g 0 (4 * g.val) rfl (by omega),
  s_eq m c t g 1 (4 * g.val + 1) rfl (by omega),
  s_eq m c t g 2 (4 * g.val + 2) rfl (by omega),
  s_eq m c t g 3 (4 * g.val + 3) rfl (by omega)⟩

/-! ### The result -/

/-- One piece over others, read at an entry. -/
theorem piece_read (M : Memref sig .tc .vmem S128x512 .bf16) (f : M.view.ty.Contents (Elt Ideal)) (o : ℕ) (inb : ∀ a, (![0, o] : Fin 2 → ℕ) a + S128x64.size a ≤ S128x512.size a)
    (X : Vec Ideal S128x64 .bf16) (L : List (View.Piece (Elt Ideal) S128x512 .bf16)) (r : Fin 128) (c : Fin 512) :
    M.view.read (Elt Ideal) (M.view.writes (Elt Ideal) f (⟨Rect.unit (s := S128x512) ![0, o] S128x64.size inb, X⟩ :: L)) (ix2 r c)
      = if h : o ≤ c.val ∧ c.val < o + 64 then X (ix2 r ⟨c.val - o, by omega⟩) else M.view.read (Elt Ideal) (M.view.writes (Elt Ideal) f L) (ix2 r c) := by
  split_ifs with h
  · refine View.read_writes_cons_unit_of_mem M.view f inb X L (ix2 r c) (ix2 r ⟨c.val - o, by omega⟩) rfl ?_
    intro a
    match a with
    | ⟨0, _⟩ => show r.val = 0 + r.val; omega
    | ⟨1, _⟩ => show c.val = o + (c.val - o); omega
  · exact View.read_writes_cons_unit_of_not_mem M.view f inb X L (ix2 r c) rfl 1 (by
      show c.val < o ∨ o + 64 ≤ c.val
      omega)

theorem outsAt_apply (r : Fin 128) (x : Fin 512) : outsAt0 m c t (ix2 r x) = (A m c).outAt (row (blkOf t) r) x := by
  unfold outsAt0 out0_A_8
  rw [run_out]
  rw [piece_read (Memref.whole cc0_stg8_0), piece_read (Memref.whole cc0_stg8_0), piece_read (Memref.whole cc0_stg8_0), piece_read (Memref.whole cc0_stg8_0),
    piece_read (Memref.whole cc0_stg8_0), piece_read (Memref.whole cc0_stg8_0), piece_read (Memref.whole cc0_stg8_0), piece_read (Memref.whole cc0_stg8_0)]
  have hx := x.isLt
  have hi : (grid0.coords t 0).val = (blkOf t).val := coords_val t
  have z := fun (g : Fin 2) o j hj sl r d => Cert.AttnIdeal.Hand.slice_out (grid0.coords t) (isAt m c t g) hi o j hj sl r d
  have key : ∀ (g : Fin 2) (j : Fin 4) (o : ℕ), o = 256 * g.val + 64 * j.val → ∀ h : o ≤ x.val ∧ x.val < o + 64,
      (A m c).out (row (blkOf t) r) (Args.hd g j) ⟨x.val - o, by omega⟩ = (A m c).outAt (row (blkOf t) r) x := by
    intro g j o ho h
    have := j.isLt
    exact congrArg₂ ((A m c).out (row (blkOf t) r)) (Fin.ext (by show 4 * g.val + j.val = x.val / 64; omega)) (Fin.ext (by dsimp only; omega))
  split_ifs with h1 h2 h3 h4 h5 h6 h7 h8
  · exact (z 1 384 3 rfl _ _ _).trans (key 1 3 448 rfl h1)
  · exact (z 1 256 2 rfl _ _ _).trans (key 1 2 384 rfl h2)
  · exact (z 1 128 1 rfl _ _ _).trans (key 1 1 320 rfl h3)
  · exact (z 1 0 0 rfl _ _ _).trans (key 1 0 256 rfl h4)
  · exact (z 0 384 3 rfl _ _ _).trans (key 0 3 192 rfl h5)
  · exact (z 0 256 2 rfl _ _ _).trans (key 0 2 128 rfl h6)
  · exact (z 0 128 1 rfl _ _ _).trans (key 0 1 64 rfl h7)
  · exact (z 0 0 0 rfl _ _ _).trans (key 0 0 0 rfl h8)
  · omega

def res (x0 : S2176x512.Idx → EReal) (x1 x2 : S2176x128.Idx → EReal) (x3 : S1x8.Idx → EReal) (i : S2176x512.Idx) : EReal :=
  (argsOf x0 x1 x2 x3).outAt (i 0) (i 1)

theorem arr8 : (dats m 0 c).arrAt 8 cfg0.N = res (X0 m c) (X1 m c) (X2 m c) (X3 m c) := by
  refine (dats m 0 c).arrAt_eq_of_cover 8 (res (X0 m c) (X1 m c) (X2 m c) (X3 m c)) (fun t _ => ?_) fun i => ?_
  · have := idx t
    rw [Value.flushed8]
    funext j
    rw [View.read_apply]
    show outsAt0 m c t j = res _ _ _ _ _
    obtain ⟨r, x, rfl⟩ : ∃ (r : Fin 128) (x : Fin 512), j = ix2 r x := ⟨j 0, j 1, funext fun a => match a with | ⟨0, _⟩ => rfl | ⟨1, _⟩ => rfl⟩
    rw [outsAt_apply]
    have h0 : row (blkOf t) r = (win0_8.blk t).view.emb (ix2 r x) 0 := Fin.ext (by
      show 128 * t.val + r.val = win0_8.index t 0 * 128 + 1 * r.val; omega)
    have h1 : x = (win0_8.blk t).view.emb (ix2 r x) 1 := Fin.ext (by
      show x.val = win0_8.index t 1 * 512 + 1 * x.val; omega)
    unfold res
    exact congrArg₂ (A m c).outAt h0 h1
  · have h0 : (i 0).val < 2176 := (i 0).isLt
    have h1 : (i 1).val < 512 := (i 1).isLt
    have hN : cfg0.N = 17 := N_0
    let t : Fin cfg0.N := ⟨(i 0).val / 128, by omega⟩
    have ht := idx t
    refine ⟨t, flush0_8 t, ?_⟩
    show i ∈ ((View.whole main_v0).slice (win0_8.rect t)).set
    rw [View.set_slice_whole, Rect.mem_set_unit]
    have e : t.val = (i 0).val / 128 := rfl
    intro a
    match a with
    | ⟨0, _⟩ => show win0_8.index t 0 * 128 ≤ (i 0).val ∧ (i 0).val < win0_8.index t 0 * 128 + 128; omega
    | ⟨1, _⟩ => show win0_8.index t 1 * 512 ≤ (i 1).val ∧ (i 1).val < win0_8.index t 1 * 512 + 512; omega

/-- The run: the attention's output, the arguments unchanged. -/
theorem run : θ_run defs (onTc (τ := τ) (main (F := Ideal))) ⟨m, fun _ => 0, ρ⟩ (fun r => ∀ c : Dev nD,
      r.2.mem ((c : Thread nD τ).loc main_v0) = res (X0 m c) (X1 m c) (X2 m c) (X3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (arr8 m c), (h c).2⟩) (Value.run_blocks m ρ)

end Cert.AttnFwdIdeal.Hand

end
-- ==== Proof.AttnFwdRef.lean ====
/- The attention's forward reference as the same sums, and the two programs' agreement. Its scores and probabilities are,
   operation for operation, those of the gradient's reference, so they are read through that one's lemmas; the values
   need not be finite, since no probability depends on them. -/
module

public import proofs.«01_k».proof.Proof.AttnFwdValue
public import proofs.«01_k».proof.Proof.AttnRefGrad
public import proofs.«01_k».proof.Proof.AttnPre
public import proofs.«01_k».proof.Proof.Gen.AttnFwdRefIdeal.Run
public import proofs.«01_k».proof.Proof.Gen.AttnFwdRefIdeal.Read
public import proofs.«01_k».proof.Proof.Gen.Pre_finite_scores
public import proofs.«01_k».proof.Defs
public import Idealize.ShloMosaic.Lib.Pointwise

@[expose] public section

set_option maxRecDepth 16384

noncomputable section

namespace Attn

open Idealize.ShloMosaic Idealize.ShloMosaic.StableHlo Cert.Pre_finite_scores

/-- The precondition: queries, keys and sinks are real. -/
theorem scores_of_pre {x0 : FVec Ideal S2176x512 .bf16} {x1 x2 : FVec Ideal S2176x128 .bf16} {x3 : FVec Ideal S1x8 .f32}
    [Cert.Pre_finite_scores.Facts] (h : fn (F := Ideal) x0 x1 x2 x3 = fun _ => 1#1) : (∀ i, R (x0 i)) ∧ (∀ i, R (x1 i)) ∧ ∀ i, R (x3 i) := by
  have h1 := congrFun h (fun a => a.elim0)
  simp only [fn, andi_apply, IntOp.andi_eq_one] at h1
  exact ⟨fun i => R_of_olt (Host.reduce_andi_all _ _ _ _ _ h1.1.1 i), fun i => R_of_olt (Host.reduce_andi_all _ _ _ _ _ h1.1.2 i),
    fun i => R_of_olt (Host.reduce_andi_all _ _ _ _ _ h1.2 i)⟩

end Attn

namespace Cert.AttnFwdRefIdeal.Hand

open Idealize.ShloMosaic Idealize.ShloMosaic.TcCoe Idealize.ShloMosaic.Tactic Idealize.SL.Sem Idealize.ShloMosaic.StableHlo
open Cert.AttnFwdRefIdeal Cert.AttnFwdRefIdeal.Gen Cert.AttnFwdRefIdeal.Read _root_.Attn

variable (x0 : Vec Ideal S2176x512 .bf16) (x1 x2 : Vec Ideal S2176x128 .bf16) (x3 : Vec Ideal S1x8 .f32)
variable (n : Fin 17) (r : Fin 128) (g : Fin 2) (j : Fin 4) (d : Fin 64) (c : Fin 256) (u : Fin 16)

local notation "A" => Cert.AttnFwdIdeal.Hand.argsOf x0 x1 x2 x3
local notation "hdn" => _root_.Attn.Args.hd

/-- The arguments with values of zero: their probabilities are the same. -/
def noV : Attn.Args := Cert.AttnRefIdeal.Hand.args x0 x1 (fun _ => (0 : EReal)) x3 (fun _ => (0 : EReal))

theorem band_same : val_main_v85 (F := Ideal) x0 x1 x3 = Cert.AttnRefIdeal.Read.val_main_v104 (F := Ideal) x0 x1 x3 := rfl
theorem meta_same : val_main_v86 (F := Ideal) x0 x1 x3 = Cert.AttnRefIdeal.Read.val_main_v105 (F := Ideal) x0 x1 x3 := rfl
theorem vals_same : val_main_v15 (F := Ideal) x2 = Cert.AttnRefIdeal.Read.val_main_v17 (F := Ideal) x2 := rfl
theorem metav_same : val_main_v19 (F := Ideal) x2 = Cert.AttnRefIdeal.Read.val_main_v21 (F := Ideal) x2 := rfl

theorem p_noV (t s : Fin 2176) (h : Fin 8) : (noV x0 x1 x3).p t s h = (A).p t s h := rfl

variable (hA : (noV x0 x1 x3).Real)
include hA

theorem v85_eq : val_main_v85 (F := Ideal) x0 x1 x3 (ix5 n g j r c) = if Mb n r c then (A).p (row n r) (bandTok n c) (hdn g j) else 0 :=
  (congrFun (band_same x0 x1 x3) _).trans (Cert.AttnRefIdeal.Hand.v104_eq x0 x1 (fun _ => (0 : EReal)) x3 (fun _ => (0 : EReal)) n r g j c hA)

theorem v86_eq : val_main_v86 (F := Ideal) x0 x1 x3 (ix5 n g j r u) = (A).p (row n r) (metaTok u) (hdn g j) :=
  (congrFun (meta_same x0 x1 x3) _).trans (Cert.AttnRefIdeal.Hand.v105_eq x0 x1 (fun _ => (0 : EReal)) x3 (fun _ => (0 : EReal)) n r g j u hA)

omit hA in
theorem v15_eq (h : 128 ≤ 128 * n.val + c.val) : val_main_v15 (F := Ideal) x2 (ix4 n c g d) = (A).v (bandTok n c) g d :=
  (congrFun (vals_same x2) _).trans (Cert.AttnRefIdeal.Hand.v17_eq x0 x1 x2 x3 x0 n g d c h)

omit hA in
theorem v19_eq : val_main_v19 (F := Ideal) x2 (ix3 u g d) = (A).v (metaTok u) g d :=
  (congrFun (metav_same x2) _).trans (Cert.AttnRefIdeal.Hand.v21_eq x0 x1 x2 x3 x0 g d u)

theorem v91_eq : val_main_v91 (F := Ideal) x0 x1 x2 x3 (ix5 n r g j d) = (A).out (row n r) (hdn g j) d := by
  pointwise [val_main_v91, val_main_v90, val_main_v89, val_main_v88, val_main_v87]
  unfold Attn.Args.out
  rw [← sum_cols n r (fun s => (A).p (row n r) s (hdn g j) * (A).v s (grp (hdn g j)) d) fun s hs => by rw [Attn.Args.p_of_not hs, zero_mul],
    Cert.AttnRefIdeal.Hand.grp_hd]
  refine congrArg₂ (· + ·) (Finset.sum_congr rfl fun c _ => ?_) (Finset.sum_congr rfl fun u _ => ?_)
  · rw [v85_eq x0 x1 x2 x3 n r g j c hA, mul_comm]
    by_cases h : Mb n r c
    · rw [if_pos h, if_pos h, v15_eq x0 x1 x2 x3 n g d c (by unfold Mb at h; omega)]
    · rw [if_neg h, if_neg h, zero_mul]
  · rw [v86_eq x0 x1 x2 x3 n r g j u hA, v19_eq x0 x1 x2 x3, mul_comm]

theorem res_eq : val_main_v93 (F := Ideal) x0 x1 x2 x3 = Cert.AttnFwdIdeal.Hand.res x0 x1 x2 x3 := by
  funext i
  obtain ⟨t, x, rfl⟩ : ∃ (t : Fin 2176) (x : Fin 512), i = ix2 t x := ⟨i 0, i 1, funext fun a => match a with | ⟨0, _⟩ => rfl | ⟨1, _⟩ => rfl⟩
  pointwise [val_main_v93, val_main_v92]
  rw [v91_eq x0 x1 x2 x3 _ _ _ _ _ hA]
  unfold Cert.AttnFwdIdeal.Hand.res Attn.Args.outAt
  refine congr (congrArg₂ (A).out (Fin.ext ?_) (Fin.ext ?_)) rfl
  · show 128 * (t.val / 128) + t.val % 128 = t.val
    omega
  · show 4 * (x.val / 256) + x.val / 64 % 4 = x.val / 64
    omega

omit hA in
/-- Finite queries, keys and sinks. -/
theorem noV_real (h : (∀ i, Attn.R (x0 i)) ∧ (∀ i, Attn.R (x1 i)) ∧ ∀ i, Attn.R (x3 i)) : (noV x0 x1 x3).Real :=
  ⟨fun _ _ _ => h.1 _, fun _ _ _ => h.2.1 _, fun _ _ _ => ⟨0, rfl⟩, fun _ => h.2.2 _, fun _ _ _ => ⟨0, rfl⟩⟩

omit hA in
theorem algebraic [Cert.Pre_finite_scores.Facts] : Cert.algebraic_AttnFwdIdeal_AttnFwdRefIdeal_pre_finite_scores := by
  intro m g m' g' hpre hag
  refine ⟨fun c => Cert.AttnFwdIdeal.Hand.res (Cert.AttnFwdIdeal.Hand.X0 m c) (Cert.AttnFwdIdeal.Hand.X1 m c) (Cert.AttnFwdIdeal.Hand.X2 m c)
      (Cert.AttnFwdIdeal.Hand.X3 m c), Cert.AttnFwdIdeal.Hand.run m g,
    (θ_run defs _ _).mono (fun r h c => ⟨(h c).1.trans ((val_main_v93_eq m' c).trans ?_), (h c).2⟩) (Cert.AttnFwdRefIdeal.Value.run (F := Ideal) m' g')⟩
  have hr := noV_real _ _ _ (Attn.scores_of_pre (hpre c))
  have e := res_eq (Cert.AttnFwdIdeal.Hand.X0 m c) (Cert.AttnFwdIdeal.Hand.X1 m c) (Cert.AttnFwdIdeal.Hand.X2 m c) (Cert.AttnFwdIdeal.Hand.X3 m c) hr
  refine Eq.trans ?_ e
  show val_main_v93 (F := Ideal) (m' ((c.tc : Thread nD τ).loc main_arg0) :) (m' ((c.tc : Thread nD τ).loc main_arg1) :) (m' ((c.tc : Thread nD τ).loc main_arg2) :)
    (m' ((c.tc : Thread nD τ).loc main_arg3) :) = _
  rw [(hag c).1, (hag c).2.1, (hag c).2.2.1, (hag c).2.2.2]

end Cert.AttnFwdRefIdeal.Hand

end
-- ==== Proof.MidRef.lean ====
/- The reference's gradients of the gated feed-forward layer's middle, read entry by entry: they are the kernel's when the value and the output's gradient are finite. -/
module

public import proofs.«01_k».proof.Proof.MidValue
public import proofs.«01_k».proof.Proof.AttnFwdRef

@[expose] public section

set_option maxRecDepth 16384

noncomputable section

namespace Mid

open Idealize.ShloMosaic Idealize.ShloMosaic.StableHlo Cert.Pre_finite_mid _root_.Attn

/-- The precondition: the output's gradient and the value are real. -/
theorem real_of_pre {x0 : FVec Ideal S2064x2816 .f32} {x1 : FVec Ideal S2064x5632 .f32} {x2 : FVec Ideal S3x2816 .f32} {x3 : FVec Ideal S2816 .f32}
    [Cert.Pre_finite_mid.Facts] (h : fn (F := Ideal) x0 x1 x2 x3 = fun _ => 1#1) : (∀ i, R (x0 i)) ∧ ∀ t y, R (FfMid.val x1 t y) := by
  have h1 := congrFun h (fun a => a.elim0)
  simp only [fn, andi_apply, IntOp.andi_eq_one] at h1
  refine ⟨fun i => R_of_olt (Host.reduce_andi_all _ _ _ _ _ h1.1 i), fun t y => ?_⟩
  have h2 := R_of_olt (Host.reduce_andi_all _ _ _ _ _ h1.2 (ix2 t y))
  refine (congrArg R (congrArg x1 (funext fun a => match a with | ⟨0, _⟩ => Fin.ext ?_ | ⟨1, _⟩ => Fin.ext ?_))).mp h2
  · exact Nat.zero_add _
  · rfl

/-- The swish's derivative, factored: at an infinite gate its sigmoid is zero or one. -/
theorem swish_grad {z v : EReal} (g : EReal) (hz : R z) (hv : R v) :
    z * v * Ideal.logistic g + g * (z * v) * (Ideal.logistic g * (1 - Ideal.logistic g)) = Cert.MidIdeal.Prod.dsw z v g := by
  unfold Cert.MidIdeal.Prod.dsw
  obtain ⟨d, hd⟩ := hz.mul hv
  rw [hd]
  have h1 : (1 : EReal) - 1 = 0 := EReal.sub_self (by decide) (by decide)
  induction g with
  | bot => rw [Ideal.logistic_bot, zero_mul, mul_zero, mul_zero, zero_mul, add_zero]
  | top => rw [Ideal.logistic_top, h1, mul_zero, mul_zero, mul_zero, add_zero, add_zero, mul_one, mul_one]
  | coe g =>
    rw [Ideal.logistic_coe]
    generalize (1 + Real.exp (-g))⁻¹ = s
    have e : d * s + g * d * (s * (1 - s)) = d * s * (1 + g * (1 - s)) := by ring
    exact_mod_cast congrArg (fun x : ℝ => (x : EReal)) e

end Mid

namespace Cert.MidRefIdeal.Hand

open Idealize.ShloMosaic Idealize.ShloMosaic.TcCoe Idealize.ShloMosaic.Tactic Idealize.SL.Sem Idealize.ShloMosaic.StableHlo
open Cert.MidRefIdeal Cert.MidRefIdeal.Gen Cert.MidRefIdeal.Read Cert.EbRefIdeal.Hand _root_.Attn

variable (x0 : Vec Ideal S2064x2816 .f32) (x1 : Vec Ideal S2064x5632 .f32) (x2 : Vec Ideal S3x2816 .f32) (x3 : Vec Ideal S2816 .f32)
variable (t : Fin 2064) (c : Fin 2816)

theorem v6_eq : val_main_v6 (F := Ideal) x1 (ix2 t c) = Eb.past (FfMid.raw x1 c) t 0 := by
  pointwise [val_main_v6, val_main_v3, val_main_v2, val_main_cst, val_main_v0]
  by_cases h : t.val < 2
  · rw [dif_pos (by omega), past_out t _ 0 (by show t.val + (30 + 0) < 32; omega)]
  · rw [dif_neg (by omega), past_in t _ 0 ⟨t.val - 2, by omega⟩ (by show t.val - 2 + 32 = t.val + (30 + 0); omega)]
    exact congrArg x1 (congrArg₂ ix2 (Fin.ext (by dsimp; try omega)) (Fin.ext (by dsimp; try omega)))

theorem v12_eq : val_main_v12 (F := Ideal) x1 (ix2 t c) = Eb.past (FfMid.raw x1 c) t 1 := by
  pointwise [val_main_v12, val_main_v3, val_main_v2, val_main_cst, val_main_v0]
  by_cases h : t.val < 1
  · rw [dif_pos (by omega), past_out t _ 1 (by show t.val + (30 + 1) < 32; omega)]
  · rw [dif_neg (by omega), past_in t _ 1 ⟨t.val - 1, by omega⟩ (by show t.val - 1 + 32 = t.val + (30 + 1); omega)]
    exact congrArg x1 (congrArg₂ ix2 (Fin.ext (by dsimp; omega)) (Fin.ext (by dsimp; try omega)))

theorem v17_eq : val_main_v17 (F := Ideal) x1 (ix2 t c) = Eb.past (FfMid.raw x1 c) t 2 := by
  pointwise [val_main_v17, val_main_v3, val_main_v2, val_main_cst, val_main_v0]
  rw [past_in t _ 2 t (by show t.val + 32 = t.val + (30 + 2); omega)]
  rfl

theorem v23_eq : val_main_v23 (F := Ideal) x1 x2 x3 (ix2 t c) = FfMid.gate x1 x2 x3 t c := by
  pointwise [val_main_v23, val_main_v22, val_main_v21, val_main_v20, val_main_v19, val_main_v18, val_main_v16, val_main_v15, val_main_v14,
    val_main_v13, val_main_v11, val_main_v10, val_main_v9, val_main_cst_1, val_main_v8, val_main_v7, val_main_v5]
  rw [v6_eq, v12_eq, v17_eq]
  rfl

theorem sig_eq : val_main_v24_2 (F := Ideal) x1 x2 x3 (ix2 t c) = Ideal.logistic (FfMid.gate x1 x2 x3 t c) := by
  pointwise [val_main_v24_2, val_main_call0_v4, val_main_call0_cst_0, val_main_call0_v3, val_main_call0_v2, val_main_call0_cst, val_main_call0_v1, val_main_call0_v0]
  rw [v23_eq]
  rfl

theorem resV_eq : val_main_v60 (F := Ideal) x0 x1 x2 x3 = Cert.MidIdeal.Prod.resV x0 x1 x2 x3 := by
  funext i
  obtain ⟨t, c, rfl⟩ : ∃ (t : Fin 2064) (c : Fin 2816), i = ix2 t c := ⟨i 0, i 1, funext fun a => match a with | ⟨0, _⟩ => rfl | ⟨1, _⟩ => rfl⟩
  pointwise [val_main_v60, val_main_v26, val_main_v24_0]
  rw [v23_eq, sig_eq, mul_comm, ← mul_assoc]
  rfl

section
variable (h0 : ∀ i, R (x0 i)) (h1 : ∀ t y, R (FfMid.val x1 t y))
include h0 h1

theorem conv_eq : val_main_v28 (F := Ideal) x0 x1 x2 x3 (ix2 t c) = Mid.conv x0 x1 x2 x3 c t := by
  pointwise [val_main_v28, val_main_call1_v2, val_main_call1_v1, val_main_call1_v0, val_main_v27, val_main_v1, val_main_v24_1, val_main_call0_v7, val_main_call0_v6, val_main_call0_cst_1]
  rw [v23_eq, sig_eq]
  exact Mid.swish_grad _ (h0 _) (h1 t c)

theorem resB_eq : val_main_v61 (F := Ideal) x0 x1 x2 x3 = Cert.MidIdeal.Prod.resB x0 x1 x2 x3 := by
  funext i
  obtain ⟨k, c, rfl⟩ : ∃ (k : Fin 1) (c : Fin 2816), i = ix2 k c := ⟨i 0, i 1, funext fun a => match a with | ⟨0, _⟩ => rfl | ⟨1, _⟩ => rfl⟩
  pointwise [val_main_v61, val_main_v31, val_main_v30, val_main_v29, val_main_cst_2, val_main_cst_3]
  simp only [conv_eq x0 x1 x2 x3 _ _ h0 h1]
  exact Fintype.sum_unique _

theorem resW_eq : val_main_v56 (F := Ideal) x0 x1 x2 x3 = Cert.MidIdeal.Prod.resW x0 x1 x2 x3 := by
  funext i
  obtain ⟨k, c, rfl⟩ : ∃ (k : Fin 3) (c : Fin 2816), i = ix2 k c := ⟨i 0, i 1, funext fun a => match a with | ⟨0, _⟩ => rfl | ⟨1, _⟩ => rfl⟩
  pointwise [val_main_v56, val_main_v55, val_main_v52, val_main_v51, val_main_v50, val_main_v47, val_main_v46, val_main_v43, val_main_v42, val_main_v41,
    val_main_v38, val_main_v36, val_main_v35, val_main_v34, val_main_cst_4, val_main_cst_6, val_main_cst_7, val_main_cst_9, val_main_cst_10, val_main_cst_12]
  simp only [conv_eq x0 x1 x2 x3 _ _ h0 h1, v6_eq, v12_eq, v17_eq]
  fin_cases k
  · rw [dif_neg (by decide), dif_neg (by decide), dif_pos (by decide), zero_add, zero_add]
    rfl
  · rw [dif_neg (by decide), dif_pos (by decide), dif_neg (by decide), zero_add, add_zero]
    rfl
  · rw [dif_pos (by decide), dif_neg (by decide), dif_neg (by decide), add_zero, add_zero]
    rfl

/-- The gradient of the gate: the reference adds the taps' parts the other way round. -/
theorem v58_eq : val_main_v58 (F := Ideal) x0 x1 x2 x3 (ix2 t c) = Mid.dgate x0 x1 x2 x3 t c := by
  pointwise [val_main_v58, val_main_v54, val_main_v53, val_main_v49, val_main_v48, val_main_v45, val_main_v44, val_main_v40, val_main_v39,
    val_main_v37, val_main_v33, val_main_v32, val_main_v5, val_main_v11, val_main_v16, val_main_cst_5, val_main_cst_8, val_main_cst_11]
  simp only [conv_eq x0 x1 x2 x3 _ _ h0 h1]
  refine Eq.trans ?_ (add_rev _ _ _)
  refine congrArg₂ (· + ·) (congrArg₂ (· + ·) (congrArg _ ?_) ?_) ?_
  · rw [next_in t _ 0 t rfl]
  · by_cases h : t.val + 1 < 2064
    · rw [dif_pos (by omega), next_in t _ 1 ⟨2 + t.val - 1, by omega⟩ (by show 2 + t.val - 1 = t.val + 1; omega)]
    · rw [dif_neg (by omega), next_out t _ 1 h, mul_zero]
  · by_cases h : t.val + 2 < 2064
    · rw [dif_pos (by omega), next_in t _ 2 ⟨2 + t.val, by omega⟩ (by show 2 + t.val = t.val + 2; omega)]
    · rw [dif_neg (by omega), next_out t _ 2 h, mul_zero]

theorem resG_eq : val_main_v59 (F := Ideal) x0 x1 x2 x3 = Cert.MidIdeal.Prod.resG x0 x1 x2 x3 := by
  funext i
  obtain ⟨t, c, rfl⟩ : ∃ (t : Fin 2064) (c : Fin 2816), i = ix2 t c := ⟨i 0, i 1, funext fun a => match a with | ⟨0, _⟩ => rfl | ⟨1, _⟩ => rfl⟩
  exact v58_eq x0 x1 x2 x3 t c h0 h1

end

theorem algebraic [Cert.Pre_finite_mid.Facts] : Cert.algebraic_MidIdeal_MidRefIdeal_pre_finite_mid := by
  intro m g m' g' hpre hag
  refine ⟨fun c => Cert.MidIdeal.Prod.resG (Cert.MidIdeal.Prod.argZ m c) (Cert.MidIdeal.Prod.argU m c) (Cert.MidIdeal.Prod.argW m c) (Cert.MidIdeal.Prod.argB m c),
    fun c => Cert.MidIdeal.Prod.resV (Cert.MidIdeal.Prod.argZ m c) (Cert.MidIdeal.Prod.argU m c) (Cert.MidIdeal.Prod.argW m c) (Cert.MidIdeal.Prod.argB m c),
    fun c => Cert.MidIdeal.Prod.resW (Cert.MidIdeal.Prod.argZ m c) (Cert.MidIdeal.Prod.argU m c) (Cert.MidIdeal.Prod.argW m c) (Cert.MidIdeal.Prod.argB m c),
    fun c => Cert.MidIdeal.Prod.resB (Cert.MidIdeal.Prod.argZ m c) (Cert.MidIdeal.Prod.argU m c) (Cert.MidIdeal.Prod.argW m c) (Cert.MidIdeal.Prod.argB m c),
    Cert.MidIdeal.Prod.run m g, (θ_run _ _ _).mono (fun r h c => ?_) (Cert.MidRefIdeal.Value.run (F := Ideal) m' g')⟩
  obtain ⟨hz, hu⟩ := Mid.real_of_pre (hpre c)
  have hz' : ∀ i, R ((m' ((c.tc : Thread nD τ).loc main_arg0) : Vec Ideal S2064x2816 .f32) i) := by rw [(hag c).1]; exact hz
  have hu' : ∀ t y, R (FfMid.val (m' ((c.tc : Thread nD τ).loc main_arg1) : Vec Ideal S2064x5632 .f32) t y) := by rw [(hag c).2.1]; exact hu
  obtain ⟨hG, hV, hW, hB, hk⟩ := h c
  refine ⟨hG.trans ((val_main_v59_eq m' c).trans ((resG_eq _ _ _ _ hz' hu').trans ?_)), hV.trans ((val_main_v60_eq m' c).trans ((resV_eq _ _ _ _).trans ?_)),
    hW.trans ((val_main_v56_eq m' c).trans ((resW_eq _ _ _ _ hz' hu').trans ?_)), hB.trans ((val_main_v61_eq m' c).trans ((resB_eq _ _ _ _ hz' hu').trans ?_)), hk⟩
  all_goals rw [(hag c).1, (hag c).2.1, (hag c).2.2.1, (hag c).2.2.2]

end Cert.MidRefIdeal.Hand

end
-- ==== Proof.EvNormOut.lean ====
/- What one grid point of the even layer's input projection and norm, taken backward in one call, stores row by row. -/
module

public import proofs.«01_k».proof.Proof.Gen.EvNormIdeal.Value
public import Idealize.ShloMosaic.Lib.Pointwise
public import proofs.«01_k».proof.Proof.RmsReal

@[expose] public section

set_option maxRecDepth 16384

noncomputable section

namespace EvNorm

open Idealize.ShloMosaic

/-- One row of the gradient of the norm's output: the projection's gradient row, back through the projection. -/
def dy (a : Fin 2560 → EReal) (w : Fin 2560 → Fin 1024 → EReal) (c : Fin 1024) : EReal := ∑ k, a k * w k c

end EvNorm

namespace Cert.EvNormIdeal.Prod

open Cert.EvNormIdeal Cert.EvNormIdeal.Gen Idealize.ShloMosaic Idealize.ShloMosaic.TcCoe Idealize.ShloMosaic.Tactic Idealize.SL.Sem

theorem hz : (![0, 0] : Fin 2 → Nat) = fun _ => 0 := funext fun a => by fin_cases a <;> rfl

section
variable (c : Dev nD) (i : grid0.Coords) (arg1 : Memref sig .tc .vmem S688x2560 .f32) (harg1 : arg1.IsWhole) (arg2 : Memref sig .tc .vmem S2560x1024 .f32) (harg2 : arg2.IsWhole)
  (arg3 : Memref sig .tc .vmem S688x1024 .f32) (harg3 : arg3.IsWhole) (arg4 : Memref sig .tc .vmem S1x1024 .f32) (harg4 : arg4.IsWhole) (arg5 : Memref sig .tc .vmem S688x1024 .f32) (harg5 : arg5.IsWhole)
  (arg6 : Memref sig .tc .vmem S688x1024 .f32) (harg6 : arg6.IsWhole) (arg7 : Memref sig .tc .vmem S1x1024 .f32) (harg7 : arg7.IsWhole)
  (x0 : Vec Ideal S688x2560 .f32) (x1 : Vec Ideal S2560x1024 .f32) (x2 : Vec Ideal S688x1024 .f32) (x3 : Vec Ideal S1x1024 .f32) (x4 : Vec Ideal S688x1024 .f32) (xo : Vec Ideal S1x1024 .f32)

/-- The rows of the input's gradient that a point stores. -/
def pt : FVec Ideal S688x1024 .f32 := k0_pay1 (k0_pay4 x2) (k0_pay5 x2) (k0_pay7 x0 x1 x3) x4 (k0_pay8 x0 x1 x2 x3) (k0_pay9 (F := Ideal))

theorem out_A_5 (hc) : out0_A_5 (F := Ideal) c i arg1 harg1 arg2 harg2 arg3 harg3 arg4 harg4 arg5 harg5 arg6 harg6 arg7 harg7 hc x0 x1 x2 x3 x4 = pt x0 x1 x2 x3 x4 := by
  unfold out0_A_5
  rw [View.read_writes_eq_canon _ _ _ (cover0_A_5 c i arg1 harg1 arg2 harg2 arg3 harg3 arg4 harg4 arg5 harg5 arg6 harg6 arg7 harg7 hc x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S688x2560) hz, View.ld_unit_zero (S := S2560x1024) hz, View.ld_unit_zero (S := S688x1024) hz,
    View.ld_unit_zero (S := S1x1024) hz]
  rfl

theorem out_B_5 (hc) : out0_B_5 (F := Ideal) c i arg1 harg1 arg2 harg2 arg3 harg3 arg4 harg4 arg5 harg5 arg6 harg6 arg7 harg7 hc x0 x1 x2 x3 x4 xo = pt x0 x1 x2 x3 x4 := by
  unfold out0_B_5
  rw [View.read_writes_eq_canon _ _ _ (cover0_B_5 c i arg1 harg1 arg2 harg2 arg3 harg3 arg4 harg4 arg5 harg5 arg6 harg6 arg7 harg7 hc x0 x1 x2 x3 x4 xo)]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S688x2560) hz, View.ld_unit_zero (S := S2560x1024) hz, View.ld_unit_zero (S := S688x1024) hz,
    View.ld_unit_zero (S := S1x1024) hz]
  rfl

theorem out_B_6 (hc) : out0_B_6 (F := Ideal) c i arg1 harg1 arg2 harg2 arg3 harg3 arg4 harg4 arg5 harg5 arg6 harg6 arg7 harg7 hc x0 x1 x2 x3 x4 xo = k0_pay6 x0 x1 x2 xo := by
  unfold out0_B_6
  rw [View.read_writes_eq_canon _ _ _ (cover0_B_6 c i arg1 harg1 arg2 harg2 arg3 harg3 arg4 harg4 arg5 harg5 arg6 harg6 arg7 harg7 hc x0 x1 x2 x3 x4 xo)]
  unfold kernelRun0_B
  dsimp only
  sl_unfold_words
  rw [View.canon_unit_zero hz]
  simp only [View.readAt_eq_ld, harg1.read_unread, harg2.read_unread, harg3.read_unread, harg4.read_unread, harg5.read_unread, harg7.read_unread,
    View.ld_unit_zero (S := S688x2560) hz, View.ld_unit_zero (S := S2560x1024) hz, View.ld_unit_zero (S := S688x1024) hz,
    View.ld_unit_zero (S := S1x1024) hz]

theorem out_A_6 (hc) : out0_A_6 (F := Ideal) c i arg1 harg1 arg2 harg2 arg3 harg3 arg4 harg4 arg5 harg5 arg6 harg6 arg7 harg7 hc x0 x1 x2 x3 x4 = k0_pay6 x0 x1 x2 (k0_pay2 (F := Ideal)) := by
  unfold out0_A_6
  rw [View.read_writes_eq_canon _ _ _ (cover0_A_6 c i arg1 harg1 arg2 harg2 arg3 harg3 arg4 harg4 arg5 harg5 arg6 harg6 arg7 harg7 hc x0 x1 x2 x3 x4)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread,
    View.ld_unit_zero (S := S688x2560) hz, View.ld_unit_zero (S := S2560x1024) hz, View.ld_unit_zero (S := S688x1024) hz,
    View.ld_unit_zero (S := S1x1024) hz]

variable (r : Fin 688) (y : Fin 1024)

/-- A block's row of the norm's output's gradient. -/
def dyB : Fin 1024 → EReal := EvNorm.dy (fun k => x0 (ix2 r k)) (fun k y => x1 (ix2 k y))
/-- A block's row. -/
def rowB (r : Fin 688) : Fin 1024 → EReal := fun y => x2 (ix2 r y)

theorem pay3_apply : k0_pay3 (F := Ideal) x0 x1 (ix2 r y) = dyB x0 x1 r y := by
  pointwise [k0_pay3]
  rfl

theorem pay4_apply : k0_pay4 (F := Ideal) x2 (ix2 r 0) = Rms.rs (rowB x2 r) := by
  pointwise [k0_pay4]
  rfl

theorem pay5_apply : k0_pay5 (F := Ideal) x2 (ix2 r y) = rowB x2 r y * Rms.rs (rowB x2 r) := by
  pointwise [k0_pay5]
  rw [pay4_apply]; rfl

theorem pay7_apply : k0_pay7 (F := Ideal) x0 x1 x3 (ix2 r y) = dyB x0 x1 r y * x3 (ix2 0 y) := by
  pointwise [k0_pay7]
  rw [pay3_apply]

theorem pay8_apply : k0_pay8 (F := Ideal) x0 x1 x2 x3 (ix2 r 0) = ∑ y, dyB x0 x1 r y * x3 (ix2 0 y) * (rowB x2 r y * Rms.rs (rowB x2 r)) := by
  pointwise [k0_pay8]
  simp only [pay7_apply, pay5_apply]

theorem pt_apply : pt x0 x1 x2 x3 x4 (ix2 r y) = Rms.dx (rowB x2 r) (fun y => x3 (ix2 0 y)) (fun y => x4 (ix2 r y)) (dyB x0 x1 r) y := by
  unfold pt
  pointwise [k0_pay1, k0_pay9]
  simp only [pay8_apply, pay7_apply, pay5_apply, pay4_apply]
  rfl

theorem pay6_apply : k0_pay6 (F := Ideal) x0 x1 x2 xo (ix2 0 y) = xo (ix2 0 y) + ∑ r, dyB x0 x1 r y * (rowB x2 r y * Rms.rs (rowB x2 r)) := by
  pointwise [k0_pay6]
  simp only [pay5_apply, pay3_apply]

theorem pay2_apply : k0_pay2 (F := Ideal) (ix2 0 y) = 0 := by
  pointwise [k0_pay2]

end

end Cert.EvNormIdeal.Prod

end
-- ==== Proof.EvNormValue.lean ====
/- What the even layer's input projection and norm, taken backward in one call, leave in its two result arrays: every grid point stores 688 rows of the input's gradient
   and adds its rows' part of the gain's gradient. -/
module

public import proofs.«01_k».proof.Proof.EvNormOut
public import proofs.«01_k».proof.Proof.RmsValue
public import proofs.«01_k».proof.Proof.Gen.EvNormIdeal.Value
public import Idealize.ShloMosaic.Lib.Pointwise
public import Idealize.ShloMosaic.Lib.Pipeline.ValueKit.Geometry

@[expose] public section

set_option maxRecDepth 16384

noncomputable section

namespace EvNorm

open Idealize.ShloMosaic
open Rms (dx rs)

/-- The call's arguments, by row. -/
structure Args where
  a : Fin 2064 → Fin 2560 → EReal
  w : Fin 2560 → Fin 1024 → EReal
  h : Fin 2064 → Fin 1024 → EReal
  g : Fin 1024 → EReal
  dh : Fin 2064 → Fin 1024 → EReal

namespace Args
variable (A : Args)

def y (t : Fin 2064) : Fin 1024 → EReal := dy (A.a t) A.w
def dxAt (t : Fin 2064) : Fin 1024 → EReal := dx (A.h t) A.g (A.dh t) (A.y t)
def part (t : Fin 2064) (c : Fin 1024) : EReal := A.y t c * (A.h t c * rs (A.h t))
def dgAt (c : Fin 1024) : EReal := ∑ t, A.part t c

/-- The arguments, read from their arrays. -/
def of (x0 : (⟨2, ![2064, 2560]⟩ : Shape).Idx → EReal) (x1 : (⟨2, ![2560, 1024]⟩ : Shape).Idx → EReal) (x2 : (⟨2, ![2064, 1024]⟩ : Shape).Idx → EReal)
    (x3 : (⟨2, ![1, 1024]⟩ : Shape).Idx → EReal) (x4 : (⟨2, ![2064, 1024]⟩ : Shape).Idx → EReal) : Args where
  a t k := x0 (ix2 t k)
  w k c := x1 (ix2 k c)
  h t c := x2 (ix2 t c)
  g c := x3 (ix2 0 c)
  dh t c := x4 (ix2 t c)

end Args

end EvNorm

namespace Cert.EvNormIdeal.Prod

open Cert.EvNormIdeal Cert.EvNormIdeal.Gen Idealize.ShloMosaic Idealize.ShloMosaic.TcCoe Idealize.SL.Sem
open Idealize.ShloMosaic.Pipeline (Dat)
open Rms (row)

variable (m : (ℓ : Loc nD τ sig) → Buf (Elt Ideal) ℓ) (ρ : Dev nD → PrngReg)

/-- The arguments of a device. -/
def args (c : Dev nD) : EvNorm.Args := EvNorm.Args.of (m ((c : Thread nD τ).loc main_arg0) :) (m ((c : Thread nD τ).loc main_arg1) :)
  (m ((c : Thread nD τ).loc main_arg2) :) (m ((c : Thread nD τ).loc main_arg3) :) (m ((c : Thread nD τ).loc main_arg4) :)

theorem hN : cfg0.N = 3 := N_0
def blkOf (t : Fin cfg0.N) : Fin 3 := ⟨t.val, lt_of_lt_of_eq t.isLt N_0⟩

/-- How the windows move. -/
theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0))

variable (c : Dev nD) (t : Fin cfg0.N) (r : Fin 688) (k : Fin 2560) (y : Fin 1024)

theorem iblk0 : (iblk m c 0 t : Vec Ideal S688x2560 .f32) (ix2 r k) = (args m c).a (row (blkOf t) r) k := by
  unfold iblk
  rw [View.read_apply]
  show V m c main_arg0 _ = m (c.tc.loc main_arg0) _
  unfold V
  congr 1
  funext a
  have := idx t
  apply Fin.ext
  match a with
  | ⟨0, _⟩ => show win0_0.index t 0 * 688 + 1 * r.val = 688 * t.val + r.val; omega
  | ⟨1, _⟩ => show win0_0.index t 1 * 2560 + 1 * k.val = k.val; omega

theorem iblk1 : (iblk m c 1 t : Vec Ideal S2560x1024 .f32) (ix2 k y) = (args m c).w k y := by
  unfold iblk
  rw [View.read_apply]
  show V m c main_arg1 _ = m (c.tc.loc main_arg1) _
  unfold V
  congr 1
  funext a
  have := idx t
  apply Fin.ext
  match a with
  | ⟨0, _⟩ => show win0_1.index t 0 * 2560 + 1 * k.val = k.val; omega
  | ⟨1, _⟩ => show win0_1.index t 1 * 1024 + 1 * y.val = y.val; omega

theorem iblk2 : (iblk m c 2 t : Vec Ideal S688x1024 .f32) (ix2 r y) = (args m c).h (row (blkOf t) r) y := by
  unfold iblk
  rw [View.read_apply]
  show V m c main_arg2 _ = m (c.tc.loc main_arg2) _
  unfold V
  congr 1
  funext a
  have := idx t
  apply Fin.ext
  match a with
  | ⟨0, _⟩ => show win0_2.index t 0 * 688 + 1 * r.val = 688 * t.val + r.val; omega
  | ⟨1, _⟩ => show win0_2.index t 1 * 1024 + 1 * y.val = y.val; omega

theorem iblk3 : (iblk m c 3 t : Vec Ideal S1x1024 .f32) (ix2 0 y) = (args m c).g y := by
  unfold iblk
  rw [View.read_apply]
  show V m c main_arg3 _ = m (c.tc.loc main_arg3) _
  unfold V
  congr 1
  funext a
  have := idx t
  apply Fin.ext
  match a with
  | ⟨0, _⟩ => show win0_3.index t 0 * 1 + 1 * 0 = 0; omega
  | ⟨1, _⟩ => show win0_3.index t 1 * 1024 + 1 * y.val = y.val; omega

theorem iblk4 : (iblk m c 4 t : Vec Ideal S688x1024 .f32) (ix2 r y) = (args m c).dh (row (blkOf t) r) y := by
  unfold iblk
  rw [View.read_apply]
  show V m c main_arg4 _ = m (c.tc.loc main_arg4) _
  unfold V
  congr 1
  funext a
  have := idx t
  apply Fin.ext
  match a with
  | ⟨0, _⟩ => show win0_4.index t 0 * 688 + 1 * r.val = 688 * t.val + r.val; omega
  | ⟨1, _⟩ => show win0_4.index t 1 * 1024 + 1 * y.val = y.val; omega

theorem dyB_eq : dyB (iblk m c 0 t) (iblk m c 1 t) r = (args m c).y (row (blkOf t) r) := by
  unfold dyB EvNorm.Args.y
  refine congr (congrArg EvNorm.dy ?_) ?_
  · funext k; exact iblk0 m c t r k
  · funext k y; exact iblk1 m c t k y

theorem rowB_eq : rowB (iblk m c 2 t) r = (args m c).h (row (blkOf t) r) := funext fun y => iblk2 m c t r y

/-- The rows that a point stores. -/
theorem pt_eq : pt (iblk m c 0 t) (iblk m c 1 t) (iblk m c 2 t) (iblk m c 3 t) (iblk m c 4 t) (ix2 r y)
    = (args m c).dxAt (row (blkOf t) r) y := by
  rw [pt_apply, dyB_eq, rowB_eq]
  unfold EvNorm.Args.dxAt
  refine congrFun (congrFun (congr (congrArg (Rms.dx _) ?_) ?_) _) y
  · funext y; exact iblk3 m c t y
  · funext y; exact iblk4 m c t r y

/-- What a point adds. -/
theorem pay6_eq (xo : Vec Ideal S1x1024 .f32) : k0_pay6 (iblk m c 0 t) (iblk m c 1 t) (iblk m c 2 t) xo (ix2 0 y)
    = xo (ix2 0 y) + ∑ r, (args m c).part (row (blkOf t) r) y := by
  rw [pay6_apply]
  simp only [dyB_eq, rowB_eq]
  rfl

/-- The two results. -/
def resX (A : EvNorm.Args) (i : S2064x1024.Idx) : EReal := A.dxAt (i 0) (i 1)
def resG (A : EvNorm.Args) (i : S1x1024.Idx) : EReal := A.dgAt (i 1)

theorem after5 : (outsAt0 m c t.val t.isLt).1 = pt (iblk m c 0 t) (iblk m c 1 t) (iblk m c 2 t) (iblk m c 3 t) (iblk m c 4 t) := by
  by_cases h0 : t.val % 3 = 0
  · simp only [outsAt0_A m c t h0, out_A_5]
  · simp only [outsAt0_B m c t h0, out_B_5]

theorem after6_A (h0 : t.val % 3 = 0) :
    (outsAt0 m c t.val t.isLt).2 = k0_pay6 (iblk m c 0 t) (iblk m c 1 t) (iblk m c 2 t) (k0_pay2 (F := Ideal)) := by
  simp only [outsAt0_A m c t h0, out_A_6]

theorem after6_B (h0 : ¬t.val % 3 = 0) : (outsAt0 m c t.val t.isLt).2
    = k0_pay6 (iblk m c 0 t) (iblk m c 1 t) (iblk m c 2 t) (outsAt0 m c (t.val - 1) (Nat.lt_of_le_of_lt (Nat.sub_le _ _) t.isLt)).2 := by
  simp only [outsAt0_B m c t h0, out_B_6]

def tk (n : Fin 3) : Fin cfg0.N := ⟨n.val, lt_of_lt_of_eq n.isLt N_0.symm⟩

theorem outs_congr (n n' : ℕ) (e : n = n') (h : n < cfg0.N) (h' : n' < cfg0.N) : outsAt0 m c n h = outsAt0 m c n' h' := by
  subst e; rfl

/-- The gain's gradient after the last point. -/
theorem last6 : (outsAt0 m c (tk 2).val (tk 2).isLt).2 (ix2 0 y) = (args m c).dgAt y := by
  have e0 : (outsAt0 m c (tk 0).val (tk 0).isLt).2 (ix2 0 y) = ∑ r, (args m c).part (row 0 r) y := by
    rw [after6_A m c (tk 0) rfl, pay6_eq, pay2_apply, zero_add]; rfl
  have e1 : (outsAt0 m c (tk 1).val (tk 1).isLt).2 (ix2 0 y) = ∑ r, (args m c).part (row 0 r) y + ∑ r, (args m c).part (row 1 r) y := by
    rw [after6_B m c (tk 1) (by decide), pay6_eq, outs_congr m c ((tk 1).val - 1) (tk 0).val rfl _ (tk 0).isLt, e0]
    rfl
  rw [after6_B m c (tk 2) (by decide), pay6_eq, outs_congr m c ((tk 2).val - 1) (tk 1).val rfl _ (tk 1).isLt, e1]
  unfold EvNorm.Args.dgAt
  rw [← Rms.sum_rows, Fin.sum_univ_three]
  rfl

theorem arr5 : (dats m 0 c).arrAt 5 cfg0.N = resX (args m c) := by
  refine (dats m 0 c).arrAt_eq_of_cover 5 (resX (args m c)) (fun t _ => ?_) fun i => ?_
  · have := idx t
    rw [Value.flushed5, after5]
    funext j
    rw [View.read_apply]
    show pt (iblk m c 0 t) (iblk m c 1 t) (iblk m c 2 t) (iblk m c 3 t) (iblk m c 4 t) j = resX _ _
    obtain ⟨r, x, rfl⟩ : ∃ (r : Fin 688) (x : Fin 1024), j = ix2 r x := ⟨j 0, j 1, funext fun a => match a with | ⟨0, _⟩ => rfl | ⟨1, _⟩ => rfl⟩
    rw [pt_eq]
    have h0 : row (blkOf t) r = (win0_5.blk t).view.emb (ix2 r x) 0 := Fin.ext (by
      show 688 * t.val + r.val = win0_5.index t 0 * 688 + 1 * r.val; omega)
    have h1 : x = (win0_5.blk t).view.emb (ix2 r x) 1 := Fin.ext (by
      show x.val = win0_5.index t 1 * 1024 + 1 * x.val; omega)
    unfold resX
    exact congrArg₂ (args m c).dxAt h0 h1
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_5 t, ?_⟩
    show i ∈ ((View.whole main_v0_0).slice (win0_5.rect t)).set
    rw [View.set_slice_whole, Rect.mem_set_unit]
    have e : t.val = (i 0).val / 688 := rfl
    intro a
    match a with
    | ⟨0, _⟩ => show win0_5.index t 0 * 688 ≤ (i 0).val ∧ (i 0).val < win0_5.index t 0 * 688 + 688; omega
    | ⟨1, _⟩ => show win0_5.index t 1 * 1024 ≤ (i 1).val ∧ (i 1).val < win0_5.index t 1 * 1024 + 1024; omega

theorem arr6 : (dats m 0 c).arrAt 6 cfg0.N = resG (args m c) := by
  refine (dats m 0 c).arrAt_eq_of_after_last 6 (tk 2) (by decide +kernel) (resG (args m c)) fun j => ?_
  rw [after0_6]
  have hj : j = ix2 0 (j 1) := funext fun a => match a with | ⟨0, _⟩ => Subsingleton.elim (α := Fin 1) _ _ | ⟨1, _⟩ => rfl
  refine (show _ = (outsAt0 m c (tk 2).val (tk 2).isLt).2 (ix2 0 (j 1)) from congrArg (outsAt0 m c (tk 2).val (tk 2).isLt).2 hj).trans ?_
  exact last6 m c (j 1)

/-- The run: the two gradients, the arguments unchanged. -/
theorem run : θ_run defs (onTc (τ := τ) (main (F := Ideal))) ⟨m, fun _ => 0, ρ⟩ (fun r => ∀ c : Dev nD,
      r.2.mem ((c : Thread nD τ).loc main_v0_0) = resX (args m c)
      ∧ r.2.mem ((c : Thread nD τ).loc main_v0_1) = resG (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (arr5 m c), (h c).2.1.trans (arr6 m c), (h c).2.2⟩) (Value.run_blocks m ρ)

end Cert.EvNormIdeal.Prod

end
-- ==== Proof.EvNormRef.lean ====
/- The reference of the even layer's input projection and norm, row by row. -/
module

public import proofs.«01_k».proof.Proof.EvNormValue
public import proofs.«01_k».proof.Proof.Gen.EvNormRefIdeal.Read
public import Idealize.ShloMosaic.Lib.Pointwise
public import proofs.«01_k».proof.Proof.RmsReal
public import proofs.«01_k».proof.Proof.Gen.EvNormRefIdeal.Run
public import proofs.«01_k».proof.Defs

@[expose] public section

set_option maxRecDepth 16384

noncomputable section

namespace Cert.EvNormRefIdeal.Hand

open Idealize.ShloMosaic Idealize.ShloMosaic.TcCoe Idealize.ShloMosaic.Tactic Idealize.SL.Sem Idealize.ShloMosaic.StableHlo
open Cert.EvNormRefIdeal Cert.EvNormRefIdeal.Gen Cert.EvNormRefIdeal.Read

variable (x0 : Vec Ideal S2064x2560 .f32) (x1 : Vec Ideal S2560x1024 .f32) (x2 : Vec Ideal S2064x1024 .f32) (x3 : Vec Ideal S1x1024 .f32) (x4 : Vec Ideal S2064x1024 .f32)
variable (t : Fin 2064) (c : Fin 1024)

def args : EvNorm.Args := EvNorm.Args.of x0 x1 x2 x3 x4

local notation "A" => args x0 x1 x2 x3 x4

theorem v6_eq : val_main_v6 (F := Ideal) x2 (ix2 t 0) = Rms.ms ((A).h t) := by
  pointwise [val_main_v6, val_main_v4, val_main_v2, val_main_v1, val_main_v0, val_main_v3, val_main_v5, val_main_cst, val_main_cst_0, val_main_cst_1]
  rfl

theorem v7_eq : val_main_v7 (F := Ideal) x2 (ix2 t 0) = Rms.rs ((A).h t) := by
  pointwise [val_main_v7]
  rw [v6_eq x0 x1 x2 x3 x4]; rfl

theorem v10_eq : val_main_v10 (F := Ideal) x2 (ix2 t 0) = Ideal.ofBits .f32 0xBF000000#32 * Ideal.div (Rms.rs ((A).h t)) (Rms.ms ((A).h t)) := by
  pointwise [val_main_v10, val_main_v9, val_main_v8, val_main_cst_2]
  rw [v6_eq x0 x1 x2 x3 x4, v7_eq x0 x1 x2 x3 x4]

theorem v17_eq : val_main_v17 (F := Ideal) x0 x1 (ix2 t c) = (A).y t c := by
  pointwise [val_main_v17, val_main_v15]
  rfl

theorem v20_eq : val_main_v20 (F := Ideal) x0 x1 x2 (ix2 0 c) = (A).dgAt c := by
  pointwise [val_main_v20, val_main_v19, val_main_v18, val_main_v12, val_main_v11, val_main_cst_3]
  simp only [v17_eq x0 x1 x2 x3 x4, v7_eq x0 x1 x2 x3 x4]
  exact Finset.sum_congr rfl fun x _ => mul_comm _ _

theorem v33_eq : val_main_v33 (F := Ideal) x0 x1 x2 x3 (ix2 t c)
    = Ideal.div ((∑ x, (A).h t x * ((A).y t x * (A).g x)) * (Ideal.ofBits .f32 0xBF000000#32 * Ideal.div (Rms.rs ((A).h t)) (Rms.ms ((A).h t)))) Rms.cols := by
  pointwise [val_main_v33, val_main_v32, val_main_v31, val_main_v29, val_main_v30, val_main_cst_6, val_main_cst_5, val_main_v25, val_main_v24, val_main_v23, val_main_v22, val_main_v21, val_main_cst_4]
  rw [Fin.sum_univ_one]
  simp only [v17_eq x0 x1 x2 x3 x4, v10_eq x0 x1 x2 x3 x4]
  rfl

theorem v37_eq : val_main_v37 (F := Ideal) x0 x1 x2 x3 x4 (ix2 t c) = (A).dxAt t c := by
  pointwise [val_main_v37, val_main_v36, val_main_v35, val_main_v34, val_main_v28, val_main_v27, val_main_v26, val_main_v22, val_main_v21]
  simp only [v17_eq x0 x1 x2 x3 x4, v7_eq x0 x1 x2 x3 x4, v33_eq x0 x1 x2 x3 x4]
  exact Rms.dx_eq ((A).h t) (A).g ((A).dh t) ((A).y t) c

theorem dx_eq : val_main_v37 (F := Ideal) x0 x1 x2 x3 x4 = Cert.EvNormIdeal.Prod.resX (A) := by
  funext i
  obtain ⟨t, x, rfl⟩ : ∃ (t : Fin 2064) (x : Fin 1024), i = ix2 t x := ⟨i 0, i 1, funext fun a => match a with | ⟨0, _⟩ => rfl | ⟨1, _⟩ => rfl⟩
  exact v37_eq x0 x1 x2 x3 x4 t x

theorem dg_eq : val_main_v20 (F := Ideal) x0 x1 x2 = Cert.EvNormIdeal.Prod.resG (A) := by
  funext i
  obtain ⟨x, rfl⟩ : ∃ (x : Fin 1024), i = ix2 0 x :=
    ⟨i 1, funext fun a => match a with | ⟨0, _⟩ => Fin.ext (by have : (i 0).val < 1 := (i 0).isLt; show (i 0).val = 0; omega) | ⟨1, _⟩ => rfl⟩
  exact v20_eq x0 x1 x2 x3 x4 x

theorem algebraic : Cert.algebraic_EvNormIdeal_EvNormRefIdeal := by
  intro m g m' g' _ hag
  refine ⟨fun c => Cert.EvNormIdeal.Prod.resX (Cert.EvNormIdeal.Prod.args m c), fun c => Cert.EvNormIdeal.Prod.resG (Cert.EvNormIdeal.Prod.args m c),
    Cert.EvNormIdeal.Prod.run m g, (θ_run _ _ _).mono (fun r h c => ?_) (Cert.EvNormRefIdeal.Value.run (F := Ideal) m' g')⟩
  have e : args (m' ((c.tc : Thread nD τ).loc main_arg0) :) (m' ((c.tc : Thread nD τ).loc main_arg1) :) (m' ((c.tc : Thread nD τ).loc main_arg2) :)
      (m' ((c.tc : Thread nD τ).loc main_arg3) :) (m' ((c.tc : Thread nD τ).loc main_arg4) :)
      = Cert.EvNormIdeal.Prod.args m c := by
    rw [(hag c).1, (hag c).2.1, (hag c).2.2.1, (hag c).2.2.2.1, (hag c).2.2.2.2]
    rfl
  simp only [← e]
  obtain ⟨h1, h2, h3⟩ := h c
  refine ⟨h1.trans ((val_main_v37_eq m' c).trans ?_), h2.trans ((val_main_v20_eq _ _ _).trans ?_), h3⟩
  · exact dx_eq _ _ _ _ _
  · exact dg_eq _ _ _ _ _

end Cert.EvNormRefIdeal.Hand

end
-- ==== Proof.EvGinValue.lean ====
/- The gradient of the even layer's input projection: what the blocked kernel leaves in its result array. Every grid point
   computes 640 rows of `dpᵀ · hn` over the whole token axis. -/
module

public import proofs.«01_k».proof.Proof.Gen.EvGinIdeal.Value
public import proofs.«01_k».proof.Proof.Gen.EvGinRefIdeal.Read
public import Idealize.ShloMosaic.Lib.Pointwise
public import proofs.«01_k».proof.Defs

@[expose] public section

set_option maxRecDepth 16384

noncomputable section

namespace Cert.EvGinIdeal.Prod

open Cert.EvGinIdeal Cert.EvGinIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the transpose of a (2064, 2560) array with a (2064, 1024) array. -/
def prod (x : S2064x2560.Idx → EReal) (w : S2064x1024.Idx → EReal) (i : S2560x1024.Idx) : EReal :=
  ∑ k : Fin 2064, x (ix2 k (i 0)) * w (ix2 k (i 1))

/-- What one grid point stores: the block product over the whole contraction. -/
theorem pay_apply (x : Vec Ideal S2064x640 .f32) (w : Vec Ideal S2064x1024 .bf16) (j : S640x1024.Idx) :
    k0_pay1 x w j = ∑ k : Fin 2064, x (ix2 k (j 0)) * w (ix2 k (j 1)) := by
  pointwise [k0_pay1]

theorem hz : (![0, 0] : Fin 2 → Nat) = fun _ => 0 := funext fun a => by fin_cases a <;> rfl

/-- How the three windows move: the left block's columns with the result's rows, the right block not at all. -/
theorem idx_facts : ∀ t : Fin cfg0.N,
    win0_0.index t 0 = 0 ∧ win0_0.index t 1 = win0_2.index t 0
      ∧ win0_1.index t 0 = 0 ∧ win0_1.index t 1 = win0_2.index t 1 :=
  (by decide +kernel : ∀ t : Fin grid0.N, win0_0.index t 0 = 0 ∧ win0_0.index t 1 = win0_2.index t 0
      ∧ win0_1.index t 0 = 0 ∧ win0_1.index t 1 = win0_2.index t 1)

/-- The block of the left array at a point, read off the argument. -/
theorem iblk0_apply (c : Dev nD) (t : Fin cfg0.N) (k : Fin 2064) (r : Fin 640) (i : S2064x2560.Idx)
    (h0 : (i 0).val = k.val) (h1 : (i 1).val = win0_2.index t 0 * 640 + r.val) :
    (iblk m c 0 t : Vec Ideal S2064x640 .f32) (ix2 k r) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2064 + 1 * k.val = (i 0).val; rw [(idx_facts t).1]; omega
  | ⟨1, _⟩ => show win0_0.index t 1 * 640 + 1 * r.val = (i 1).val; rw [(idx_facts t).2.1]; omega

/-- The block of the right array at a point, read off the argument. -/
theorem iblk1_apply (c : Dev nD) (t : Fin cfg0.N) (k : Fin 2064) (r : Fin 1024) (i : S2064x1024.Idx)
    (h0 : (i 0).val = k.val) (h1 : (i 1).val = win0_2.index t 1 * 1024 + r.val) :
    (iblk m c 1 t : Vec Ideal S2064x1024 .bf16) (ix2 k r) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2064 + 1 * k.val = (i 0).val; rw [(idx_facts t).2.2.1]; omega
  | ⟨1, _⟩ => show win0_1.index t 1 * 1024 + 1 * r.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t k (j 0) (ix2 k ((win0_2.blk t).view.emb j 0)) rfl ?_,
    iblk1_apply m c t k (j 1) (ix2 k ((win0_2.blk t).view.emb j 1)) rfl ?_]
  · show win0_2.index t 1 * 1024 + 1 * (j 1).val = _; omega
  · show win0_2.index t 0 * 640 + 1 * (j 0).val = _; omega

theorem points : ∀ a : Fin 4, ∀ b : Fin 1, ∃ t : Fin cfg0.N, win0_2.index t 0 = a.val ∧ win0_2.index t 1 = b.val :=
  (by decide +kernel : ∀ a : Fin 4, ∀ b : Fin 1, ∃ t : Fin grid0.N, win0_2.index t 0 = a.val ∧ win0_2.index t 1 = b.val)

/-- The blocks cover the result. -/
theorem cover (i : S2560x1024.Idx) :
    ∃ t : Fin cfg0.N, (cfg0.win 2).flush t = true ∧ i ∈ ((cfg0.win 2).blk t).view.set := by
  have h0 : (i 0).val < 2560 := (i 0).isLt
  have h1 : (i 1).val < 1024 := (i 1).isLt
  obtain ⟨t, e0, e1⟩ := points ⟨(i 0).val / 640, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 640 ≤ (i 0).val ∧ (i 0).val < win0_2.index t 0 * 640 + 640
              rw [e0]; dsimp only; omega
  | ⟨1, _⟩ => show win0_2.index t 1 * 1024 ≤ (i 1).val ∧ (i 1).val < win0_2.index t 1 * 1024 + 1024
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x2560.Idx → EReal) (w : S2064x1024.Idx → EReal) :
    Cert.EvGinRefIdeal.Read.val_main_v7 (F := Ideal) x w = prod x w := by
  funext i
  rw [Cert.EvGinRefIdeal.Read.val_main_v7_apply]
  show Cert.EvGinRefIdeal.Read.val_main_v6 (F := Ideal) x w i = _
  rw [Cert.EvGinRefIdeal.Read.val_main_v6_apply, Cert.EvGinRefIdeal.Read.val_main_v5_apply, Cert.EvGinRefIdeal.Read.val_main_v4_apply]
  refine Finset.sum_congr rfl fun k _ => congrArg₂ (· * ·) ?_ ?_
  · exact congrArg x (funext fun a => match a with | ⟨0, _⟩ => rfl | ⟨1, _⟩ => rfl)
  · rw [Cert.EvGinRefIdeal.Read.val_main_v1_apply]
    exact congrArg w (funext fun a => match a with | ⟨0, _⟩ => rfl | ⟨1, _⟩ => rfl)

theorem algebraic : Cert.algebraic_EvGinIdeal_EvGinRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.EvGinRefIdeal.Value.run (F := Ideal) m' ρ')⟩

end Cert.EvGinIdeal.Prod

end
-- ==== Proof.OdGinValue.lean ====
/- The gradient of the odd layer's input product's weight: two blocked products fill the two parts of one result array. The
   first leaves `dp_attᵀ · y` in rows 0..767, the second, given that array to write into, `dp_rwkvᵀ · y` in rows
   768..2559. -/
module

public import proofs.«01_k».proof.Proof.Gen.OdGinIdeal.Frame
public import proofs.«01_k».proof.Proof.Gen.OdGinRefIdeal.Run
public import proofs.«01_k».proof.Proof.Gen.OdGinRefIdeal.Read
public import Idealize.ShloMosaic.Lib.VecWindow
public import Idealize.ShloMosaic.Lib.WholeRead
public import Idealize.ShloMosaic.Lib.Pointwise
public import proofs.«01_k».proof.Defs

@[expose] public section

set_option maxRecDepth 16384

noncomputable section

namespace Cert.OdGinIdeal.Prod

open Cert.OdGinIdeal Cert.OdGinIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-! ## The run, with every buffer -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two calls: every buffer ends with what the second call's boundary says. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

/-! ## The values -/

variable (m : (ℓ : Loc nD τ sig) → Buf (Elt Ideal) ℓ) (ρ : Dev nD → PrngReg)
variable (V : (c : Dev nD) → (b : Ref sig .tc) → Buf (Elt Ideal) ((c : Thread nD τ).loc b))

/-- The two parts of the gradient, as functions on the whole result array: row `r` of the first is column `r` of its
    cotangent against the columns of the layer's input, row `768 + r` of the second column `r` of its own. -/
def upper (x : S2064x768.Idx → EReal) (y : S2064x1024.Idx → EReal) (i : S2560x1024.Idx) : EReal :=
  ∑ k : Fin 2064, x (ix2 k ⟨(i 0).val % 768, Nat.mod_lt _ (by decide)⟩) * y (ix2 k (i 1))
def lower (x : S2064x1792.Idx → EReal) (y : S2064x1024.Idx → EReal) (i : S2560x1024.Idx) : EReal :=
  ∑ k : Fin 2064, x (ix2 k ⟨((i 0).val + 1024) % 1792, Nat.mod_lt _ (by decide)⟩) * y (ix2 k (i 1))

/-- The whole gradient. -/
def grad (g : S2064x768.Idx → EReal) (v : S2064x1792.Idx → EReal) (y : S2064x1024.Idx → EReal) (i : S2560x1024.Idx) : EReal :=
  if (i 0).val < 768 then upper g y i else lower v y i

theorem pay0_apply (x : Vec Ideal S2064x384 .bf16) (w : Vec Ideal S2064x1024 .bf16) (j : S384x1024.Idx) :
    k0_pay1 x w j = ∑ k : Fin 2064, x (ix2 k (j 0)) * w (ix2 k (j 1)) := by
  pointwise [k0_pay1]

theorem pay1_apply (x : Vec Ideal S2064x256 .bf16) (w : Vec Ideal S2064x1024 .bf16) (j : S256x1024.Idx) :
    k1_pay1 x w j = ∑ k : Fin 2064, x (ix2 k (j 0)) * w (ix2 k (j 1)) := by
  pointwise [k1_pay1]

theorem hz : (![0, 0] : Fin 2 → Nat) = fun _ => 0 := funext fun a => by fin_cases a <;> rfl

/-- The first call's windows: the left block's columns move with the result's rows. -/
theorem idx0 : ∀ t : Fin cfg0.N, win0_0.index t 0 = 0 ∧ win0_0.index t 1 = win0_2.index t 0 ∧ win0_1.index t 0 = 0
      ∧ win0_1.index t 1 = win0_2.index t 1 ∧ win0_2.index t 0 < 2 :=
  (by decide +kernel : ∀ t : Fin grid0.N, win0_0.index t 0 = 0 ∧ win0_0.index t 1 = win0_2.index t 0 ∧ win0_1.index t 0 = 0
      ∧ win0_1.index t 1 = win0_2.index t 1 ∧ win0_2.index t 0 < 2)

/-- The second call's windows: the same, three blocks of rows further down. -/
theorem idx1 : ∀ t : Fin cfg1.N, win1_0.index t 0 = 0 ∧ win1_0.index t 1 + 3 = win1_2.index t 0 ∧ win1_1.index t 0 = 0
      ∧ win1_1.index t 1 = win1_2.index t 1 ∧ win1_2.index t 0 < 10 :=
  (by decide +kernel : ∀ t : Fin grid1.N, win1_0.index t 0 = 0 ∧ win1_0.index t 1 + 3 = win1_2.index t 0 ∧ win1_1.index t 0 = 0
      ∧ win1_1.index t 1 = win1_2.index t 1 ∧ win1_2.index t 0 < 10)

/-- A two-axis array read at indices with the same coordinates. -/
theorem read2 {S : Shape} (f : S.Idx → EReal) (i j : S.Idx) (h : ∀ a, (i a).val = (j a).val) : f i = f j :=
  congrArg f (funext fun a => Fin.ext (h a))

/-- The first call's two blocks lie whole inside the result, though 384 does not divide its rows. -/
theorem whole0 : ∀ (t : Fin cfg0.N), win0_2.xsize (grid0.coords t) 0 = 384 ∧ win0_2.xsize (grid0.coords t) 1 = 1024 :=
  (by decide +kernel : ∀ (t : Fin grid0.N), win0_2.xsize (grid0.coords t) 0 = 384 ∧ win0_2.xsize (grid0.coords t) 1 = 1024)

theorem flushed0 (c : Dev nD) (t : Fin cfg0.N) :
    (dat0 V c).flushed 2 t = (win0_2.blk t).view.read (Elt Ideal) (upper (V c main_arg0) (V c main_arg2)) := by
  obtain ⟨a0, a1, a2, a3, a4⟩ := idx0 t
  show (cfg0.win 2).cut (grid0.coords t) ((dat0 V c).after 2 t) = _
  rw [after0_2]
  unfold out0_2
  rw [View.canon_unit_zero hz, View.ld_unit_zero hz, View.ld_unit_zero hz]
  funext j
  rw [View.read_apply]
  show k0_pay1 (iblk0 V c 0 t) (iblk0 V c 1 t) (win0_2.xinj (grid0.coords t) j) = upper _ _ _
  have e0 : ((win0_2.rect t).emb j 0 : ℕ) = win0_2.index t 0 * 384 + (j 0).val := win0_2.rect_emb_val t j 0
  have e1 : ((win0_2.rect t).emb j 1 : ℕ) = win0_2.index t 1 * 1024 + (j 1).val := win0_2.rect_emb_val t j 1
  rw [pay0_apply]
  unfold upper
  have hj : (j 0).val < 384 := (win0_2.xinj (grid0.coords t) j 0).isLt
  refine Finset.sum_congr rfl fun k _ => congrArg₂ (· * ·) ?_ ?_
  · unfold iblk0
    rw [View.read_apply]
    refine read2 (S := S2064x768) (V c main_arg0) _ _ fun a => ?_
    match a with
    | ⟨0, _⟩ => show win0_0.index t 0 * 2064 + 1 * k.val = k.val; omega
    | ⟨1, _⟩ => show win0_0.index t 1 * 384 + 1 * (j 0).val = ((win0_2.rect t).emb j 0).val % 768; omega
  · unfold iblk0
    rw [View.read_apply]
    refine read2 (S := S2064x1024) (V c main_arg2) _ _ fun a => ?_
    match a with
    | ⟨0, _⟩ => show win0_1.index t 0 * 2064 + 1 * k.val = k.val; omega
    | ⟨1, _⟩ => show win0_1.index t 1 * 1024 + 1 * (j 1).val = ((win0_2.rect t).emb j 1).val; omega

/-- A whole buffer loaded whole. -/
theorem load_whole {S : Shape} {e : EltTy} (M : Memref sig .tc .vmem S e) (hM : M.IsWhole) (x : S.Idx → Elt Ideal e)
    {off : Fin S.rank → Nat} (h0 : off = fun _ => 0) (inb : ∀ a, off a + S.size a ≤ S.size a) :
    View.readAt (Elt Ideal) M.view (Rect.unit off S.size inb).toLoadRect (hM.unread x) = x := by
  subst h0
  funext y
  rw [hM.readAt_unread]
  exact congrArg x (funext fun a => Fin.ext (by show 0 + 1 * (y a).val = (y a).val; omega))

theorem flushed1 (c : Dev nD) (t : Fin cfg1.N) :
    (dat1 V c).flushed 2 t = (win1_2.blk t).view.read (Elt Ideal) (lower (V c main_arg1) (V c main_arg2)) := by
  obtain ⟨a0, a1, a2, a3, a4⟩ := idx1 t
  show (cfg1.win 2).cut (grid1.coords t) ((dat1 V c).after 2 t) = _
  rw [after1_2]
  unfold outsAt1 out1_A_2
  rw [show (kernelRun1_A c (grid1.coords t) (ms1_0 t) (hs1_0 t) (ms1_1 t) (hs1_1 t) (ms1_2 t) (hs1_2 t) (iblk1 V c 0 t) (iblk1 V c 1 t)).1
      = [⟨Rect.unit (s := S256x1024) ![0, 0] S256x1024.size inb_S256x1024_S256x1024_0_0, k1_pay1
          (View.readAt (Elt Ideal) (ms1_0 t).view (Rect.unit (s := S2064x256) ![0, 0] S2064x256.size inb_S2064x256_S2064x256_0_0).toLoadRect ((hs1_0 t).unread (iblk1 V c 0 t)))
          (View.readAt (Elt Ideal) (ms1_1 t).view (Rect.unit (s := S2064x1024) ![0, 0] S2064x1024.size inb_S2064x1024_S2064x1024_0_0).toLoadRect ((hs1_1 t).unread (iblk1 V c 1 t)))⟩]
    from by sl_kernel_rfl]
  rw [View.read_writes_full, load_whole _ _ _ hz, load_whole _ _ _ hz]
  funext j
  rw [View.read_apply]
  show k1_pay1 (F := Ideal) (iblk1 V c 0 t) (iblk1 V c 1 t) j = lower _ _ _
  rw [pay1_apply]
  unfold lower
  have hj : (j 0).val < 256 := (j 0).isLt
  refine Finset.sum_congr rfl fun k _ => congrArg₂ (· * ·) ?_ ?_
  · unfold iblk1
    rw [View.read_apply]
    refine read2 (S := S2064x1792) (V c main_arg1) _ _ fun a => ?_
    match a with
    | ⟨0, _⟩ => show win1_0.index t 0 * 2064 + 1 * k.val = k.val; omega
    | ⟨1, _⟩ => show win1_0.index t 1 * 256 + 1 * (j 0).val = (win1_2.index t 0 * 256 + 1 * (j 0).val + 1024) % 1792; omega
  · unfold iblk1
    rw [View.read_apply]
    refine read2 (S := S2064x1024) (V c main_arg2) _ _ fun a => ?_
    match a with
    | ⟨0, _⟩ => show win1_1.index t 0 * 2064 + 1 * k.val = k.val; omega
    | ⟨1, _⟩ => show win1_1.index t 1 * 1024 + 1 * (j 1).val = win1_2.index t 1 * 1024 + 1 * (j 1).val; omega

theorem points0 : ∀ a : Fin 2, ∃ t : Fin cfg0.N, win0_2.index t 0 = a.val ∧ win0_2.index t 1 = 0 :=
  (by decide +kernel : ∀ a : Fin 2, ∃ t : Fin grid0.N, win0_2.index t 0 = a.val ∧ win0_2.index t 1 = 0)

theorem points1 : ∀ a : Fin 7, ∃ t : Fin cfg1.N, win1_2.index t 0 = a.val + 3 ∧ win1_2.index t 1 = 0 :=
  (by decide +kernel : ∀ a : Fin 7, ∃ t : Fin grid1.N, win1_2.index t 0 = a.val + 3 ∧ win1_2.index t 1 = 0)

/-- The first call leaves its part in the rows below 768. -/
theorem first (c : Dev nD) (i : S2560x1024.Idx) (hi : (i 0).val < 768) :
    (dat0 V c).arrAt 2 cfg0.N i = upper (V c main_arg0) (V c main_arg2) i := by
  have h1 : (i 1).val < 1024 := (i 1).isLt
  obtain ⟨t, e0, e1⟩ := points0 ⟨(i 0).val / 384, by omega⟩
  refine (dat0 V c).arrAt_apply_of_mem 2 (upper (V c main_arg0) (V c main_arg2)) (fun t _ => flushed0 V c t) cfg0.N t i t.isLt
    (flush0_2 t) ?_
  show i ∈ ((View.whole main_v0).slice (win0_2.rect t)).set
  rw [View.set_slice_whole, Rect.mem_set_unit]
  obtain ⟨x0, x1⟩ := whole0 t
  intro a
  match a with
  | ⟨0, _⟩ => show win0_2.index t 0 * 384 ≤ (i 0).val ∧ (i 0).val < win0_2.index t 0 * 384 + win0_2.xsize (grid0.coords t) 0
              rw [x0, e0]; dsimp only; omega
  | ⟨1, _⟩ => show win0_2.index t 1 * 1024 ≤ (i 1).val ∧ (i 1).val < win0_2.index t 1 * 1024 + win0_2.xsize (grid0.coords t) 1
              rw [x1, e1]; omega

/-- The second call leaves its part in the rows from 768 on, and the array as it found it elsewhere. -/
theorem second (c : Dev nD) (i : S2560x1024.Idx) :
    (dat1 V c).arrAt 2 cfg1.N i = if (i 0).val < 768 then V c main_v1 i else lower (V c main_arg1) (V c main_arg2) i := by
  have h0 : (i 0).val < 2560 := (i 0).isLt
  have h1 : (i 1).val < 1024 := (i 1).isLt
  split_ifs with hi
  · refine ((dat1 V c).arrAt_apply_of_forall_not_mem 2 cfg1.N i fun t _ _ hm => ?_).trans (congrFun (A_eq1 V c 2) i)
    replace hm : i ∈ ((View.whole main_v1).slice (win1_2.rect t)).set := hm
    rw [View.set_slice_whole, Rect.mem_set_unit] at hm
    have h := (hm 0).1
    replace h : win1_2.index t 0 * 256 ≤ (i 0).val := h
    have := (idx1 t).2.1
    omega
  · obtain ⟨t, e0, e1⟩ := points1 ⟨(i 0).val / 256 - 3, by omega⟩
    refine (dat1 V c).arrAt_apply_of_mem 2 (lower (V c main_arg1) (V c main_arg2)) (fun t _ => flushed1 V c t) cfg1.N t i t.isLt
      (flush1_2 t) ?_
    show i ∈ ((View.whole main_v1).slice (win1_2.rect t)).set
    rw [View.set_slice_whole, Rect.mem_set_unit]
    intro a
    match a with
    | ⟨0, _⟩ => show win1_2.index t 0 * 256 ≤ (i 0).val ∧ (i 0).val < win1_2.index t 0 * 256 + 256
                rw [e0]; dsimp only; omega
    | ⟨1, _⟩ => show win1_2.index t 1 * 1024 ≤ (i 1).val ∧ (i 1).val < win1_2.index t 1 * 1024 + 1024
                rw [e1]; omega

/-- The gradient, of the launch contents of the three arguments. -/
abbrev result (c : Dev nD) : Buf (Elt Ideal) ((c : Thread nD τ).loc main_v1) :=
  grad (m ((c : Thread nD τ).loc main_arg0)) (m ((c : Thread nD τ).loc main_arg1)) (m ((c : Thread nD τ).loc main_arg2))

theorem final (c : Dev nD) : W3 m ρ c (Proc.devRef .tc main_v1) = result m c := by
  refine (W3_arr m ρ c 2).trans (funext fun i => ?_)
  refine (second (V2 m ρ) c i).trans ?_
  have e0 : V2 m ρ c main_arg1 = m ((c : Thread nD τ).loc main_arg1) := W2_args m ρ c main_arg1 (by decide)
  have e1 : V2 m ρ c main_arg2 = m ((c : Thread nD τ).loc main_arg2) := W2_args m ρ c main_arg2 (by decide)
  have e2 : V2 m ρ c main_v1 = (dat0 (V0 m ρ) c).arrAt 2 cfg0.N := by
    refine Eq.trans ?_ (W1_arr m ρ c 2)
    show StableHlo.after hostOps1 (W1 m ρ c) (Proc.devRef .tc main_v1) = _
    after_results
    rfl
  rw [e0, e1, e2]
  unfold result grad
  split_ifs with hi
  · exact first (V0 m ρ) c i hi
  · rfl

/-- The run: the result holds the gradient, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c _ (mem_uc main_v1 (by decide))).trans (final m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c)⟩) (run_held m ρ)

/-- The reference computes the same gradient. -/
theorem ref_eq (g : S2064x768.Idx → EReal) (v : S2064x1792.Idx → EReal) (y : S2064x1024.Idx → EReal) :
    Cert.OdGinRefIdeal.Read.val_main_v10 (F := Ideal) g v y = grad g v y := by
  funext i
  rw [Cert.OdGinRefIdeal.Read.val_main_v10_apply]
  show Cert.OdGinRefIdeal.Read.val_main_v9 (F := Ideal) g v y i = _
  rw [Cert.OdGinRefIdeal.Read.val_main_v9_apply, Cert.OdGinRefIdeal.Read.val_main_v8_apply, Cert.OdGinRefIdeal.Read.val_main_v7_apply]
  have cat : ∀ (k : Fin 2064) (r : Fin 2560), Cert.OdGinRefIdeal.Read.val_main_v2 (F := Ideal) g v (ix2 k r)
      = if r.val < 768 then g (ix2 k ⟨r.val % 768, Nat.mod_lt _ (by decide)⟩) else v (ix2 k ⟨(r.val + 1024) % 1792, Nat.mod_lt _ (by decide)⟩) := by
    intro k r
    have hr := r.isLt
    pointwise [Cert.OdGinRefIdeal.Read.val_main_v2, Cert.OdGinRefIdeal.Read.val_main_v0, Cert.OdGinRefIdeal.Read.val_main_v1]
    split_ifs with h
    · exact congrArg g (congrArg (ix2 k) (Fin.ext (by show r.val = r.val % 768; omega)))
    · exact congrArg v (congrArg (ix2 k) (Fin.ext (by show r.val - 768 = (r.val + 1024) % 1792; omega)))
    · rename_i h1; exact absurd rfl h1
  have e : ∀ k : Fin 2064, Cert.OdGinRefIdeal.Read.lidx_main_v7 (Cert.OdGinRefIdeal.Read.idx_main_v8 (Cert.OdGinRefIdeal.Read.idx_main_v9 i)) k
      = ix2 k (i 0) := fun k => funext fun a => match a with | ⟨0, _⟩ => rfl | ⟨1, _⟩ => rfl
  unfold grad upper lower
  split_ifs with hi <;> refine Finset.sum_congr rfl fun k _ => congrArg₂ (· * ·) ?_ ?_
  · exact (congrArg (Cert.OdGinRefIdeal.Read.val_main_v2 (F := Ideal) g v) (e k)).trans ((cat k (i 0)).trans (if_pos hi))
  · rw [Cert.OdGinRefIdeal.Read.val_main_v4_apply]
    exact congrArg y (funext fun a => match a with | ⟨0, _⟩ => rfl | ⟨1, _⟩ => rfl)
  · exact (congrArg (Cert.OdGinRefIdeal.Read.val_main_v2 (F := Ideal) g v) (e k)).trans ((cat k (i 0)).trans (if_neg hi))
  · rw [Cert.OdGinRefIdeal.Read.val_main_v4_apply]
    exact congrArg y (funext fun a => match a with | ⟨0, _⟩ => rfl | ⟨1, _⟩ => rfl)

theorem algebraic : Cert.algebraic_OdGinIdeal_OdGinRefIdeal := fun m ρ m' ρ' _ hag =>
  ⟨fun c => result m c, run m ρ, (θ_run _ _ _).mono (fun _ h c => ⟨(h c).1.trans (by
    rw [(hag c).1, (hag c).2.1, (hag c).2.2]; exact ref_eq _ _ _), (h c).2⟩) (Cert.OdGinRefIdeal.Value.run (F := Ideal) m' ρ')⟩

end Cert.OdGinIdeal.Prod

end
-- ==== Proof.OdAttValue.lean ====
/- The attention's half of the odd layer's input gradient: what the blocked kernel leaves in its result array. Every grid
   point computes 688 rows of `dp · w_att` over the whole contraction. -/
module

public import proofs.«01_k».proof.Proof.Gen.OdAttIdeal.Value
public import proofs.«01_k».proof.Proof.Gen.OdAttRefIdeal.Read
public import Idealize.ShloMosaic.Lib.Pointwise
public import proofs.«01_k».proof.Defs

@[expose] public section

set_option maxRecDepth 16384

noncomputable section

namespace Cert.OdAttIdeal.Prod

open Cert.OdAttIdeal Cert.OdAttIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a (2064, 768) array with a (768, 1024) array. -/
def prod (x : S2064x768.Idx → EReal) (w : S768x1024.Idx → EReal) (i : S2064x1024.Idx) : EReal :=
  ∑ k : Fin 768, x (ix2 (i 0) k) * w (ix2 k (i 1))

/-- What one grid point stores: the block product over the whole contraction. -/
theorem pay_apply (x : Vec Ideal S688x768 .bf16) (w : Vec Ideal S768x1024 .f32) (j : S688x1024.Idx) :
    k0_pay1 x w j = ∑ k : Fin 768, x (ix2 (j 0) k) * w (ix2 k (j 1)) := by
  pointwise [k0_pay1]

theorem hz : (![0, 0] : Fin 2 → Nat) = fun _ => 0 := funext fun a => by fin_cases a <;> rfl

/-- How the three windows move: the left block's rows with the result's rows, the right block not at all. -/
theorem idx_facts : ∀ t : Fin cfg0.N,
    win0_0.index t 0 = win0_2.index t 0 ∧ win0_0.index t 1 = 0
      ∧ win0_1.index t 0 = 0 ∧ win0_1.index t 1 = win0_2.index t 1 :=
  (by decide +kernel : ∀ t : Fin grid0.N, win0_0.index t 0 = win0_2.index t 0 ∧ win0_0.index t 1 = 0
      ∧ win0_1.index t 0 = 0 ∧ win0_1.index t 1 = win0_2.index t 1)

/-- The block of the left array at a point, read off the argument. -/
theorem iblk0_apply (c : Dev nD) (t : Fin cfg0.N) (r : Fin 688) (k : Fin 768) (i : S2064x768.Idx)
    (h0 : (i 0).val = win0_2.index t 0 * 688 + r.val) (h1 : (i 1).val = k.val) :
    (iblk m c 0 t : Vec Ideal S688x768 .bf16) (ix2 r k) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 688 + 1 * r.val = (i 0).val; rw [(idx_facts t).1]; omega
  | ⟨1, _⟩ => show win0_0.index t 1 * 768 + 1 * k.val = (i 1).val; rw [(idx_facts t).2.1]; omega

/-- The block of the right array at a point, read off the argument. -/
theorem iblk1_apply (c : Dev nD) (t : Fin cfg0.N) (k : Fin 768) (r : Fin 1024) (i : S768x1024.Idx)
    (h0 : (i 0).val = k.val) (h1 : (i 1).val = win0_2.index t 1 * 1024 + r.val) :
    (iblk m c 1 t : Vec Ideal S768x1024 .f32) (ix2 k r) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 768 + 1 * k.val = (i 0).val; rw [(idx_facts t).2.2.1]; omega
  | ⟨1, _⟩ => show win0_1.index t 1 * 1024 + 1 * r.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t (j 0) k (ix2 ((win0_2.blk t).view.emb j 0) k) ?_ rfl,
    iblk1_apply m c t k (j 1) (ix2 k ((win0_2.blk t).view.emb j 1)) rfl ?_]
  · show win0_2.index t 1 * 1024 + 1 * (j 1).val = _; omega
  · show win0_2.index t 0 * 688 + 1 * (j 0).val = _; omega

theorem points : ∀ a : Fin 3, ∀ b : Fin 1, ∃ t : Fin cfg0.N, win0_2.index t 0 = a.val ∧ win0_2.index t 1 = b.val :=
  (by decide +kernel : ∀ a : Fin 3, ∀ b : Fin 1, ∃ t : Fin grid0.N, win0_2.index t 0 = a.val ∧ win0_2.index t 1 = b.val)

/-- The blocks cover the result. -/
theorem cover (i : S2064x1024.Idx) :
    ∃ t : Fin cfg0.N, (cfg0.win 2).flush t = true ∧ i ∈ ((cfg0.win 2).blk t).view.set := by
  have h0 : (i 0).val < 2064 := (i 0).isLt
  have h1 : (i 1).val < 1024 := (i 1).isLt
  obtain ⟨t, e0, e1⟩ := points ⟨(i 0).val / 688, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 688 ≤ (i 0).val ∧ (i 0).val < win0_2.index t 0 * 688 + 688
              rw [e0]; dsimp only; omega
  | ⟨1, _⟩ => show win0_2.index t 1 * 1024 ≤ (i 1).val ∧ (i 1).val < win0_2.index t 1 * 1024 + 1024
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x768.Idx → EReal) (w : S768x1024.Idx → EReal) :
    Cert.OdAttRefIdeal.Read.val_main_v4 (F := Ideal) x w = prod x w := by
  funext i
  rw [Cert.OdAttRefIdeal.Read.val_main_v4_apply]
  refine Finset.sum_congr rfl fun k _ => congrArg₂ (· * ·) ?_ ?_
  · rw [Cert.OdAttRefIdeal.Read.val_main_v3_apply]
    exact congrArg x (funext fun a => match a with | ⟨0, _⟩ => rfl | ⟨1, _⟩ => rfl)
  · rw [Cert.OdAttRefIdeal.Read.val_main_v1_apply]
    exact congrArg w (funext fun a => match a with | ⟨0, _⟩ => rfl | ⟨1, _⟩ => rfl)

theorem algebraic : Cert.algebraic_OdAttIdeal_OdAttRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.OdAttRefIdeal.Value.run (F := Ideal) m' ρ')⟩

end Cert.OdAttIdeal.Prod

end
-- ==== Proof.OdNormOut.lean ====
/- What one grid point of the scan's half of the odd layer's input product and its norm, taken backward in one call, stores, row by row. -/
module

public import proofs.«01_k».proof.Proof.Gen.OdNormIdeal.Value
public import Idealize.ShloMosaic.Lib.Pointwise
public import proofs.«01_k».proof.Proof.RmsReal

@[expose] public section

set_option maxRecDepth 16384

noncomputable section

namespace OdNorm

open Idealize.ShloMosaic

/-- One row of the norm's output's gradient: the product's row and what the attention's half gave. -/
def dy (a : Fin 1792 → EReal) (w : Fin 1792 → Fin 1024 → EReal) (dp : Fin 1024 → EReal) (c : Fin 1024) : EReal := ∑ k, a k * w k c + dp c

end OdNorm

namespace Cert.OdNormIdeal.Prod

open Cert.OdNormIdeal Cert.OdNormIdeal.Gen Idealize.ShloMosaic Idealize.ShloMosaic.TcCoe Idealize.ShloMosaic.Tactic Idealize.SL.Sem

theorem hz : (![0, 0] : Fin 2 → Nat) = fun _ => 0 := funext fun a => by fin_cases a <;> rfl

section
variable (c : Dev nD) (i : grid0.Coords) (arg1 : Memref sig .tc .vmem S688x1792 .bf16) (harg1 : arg1.IsWhole) (arg2 : Memref sig .tc .vmem S1792x1024 .f32) (harg2 : arg2.IsWhole)
  (arg3 : Memref sig .tc .vmem S688x1024 .f32) (harg3 : arg3.IsWhole) (arg4 : Memref sig .tc .vmem S1x1024 .f32) (harg4 : arg4.IsWhole) (arg5 : Memref sig .tc .vmem S688x1024 .f32) (harg5 : arg5.IsWhole)
  (arg6 : Memref sig .tc .vmem S688x1024 .f32) (harg6 : arg6.IsWhole) (arg7 : Memref sig .tc .vmem S688x1024 .f32) (harg7 : arg7.IsWhole) (arg8 : Memref sig .tc .vmem S1x1024 .f32) (harg8 : arg8.IsWhole)
  (x0 : Vec Ideal S688x1792 .bf16) (x1 : Vec Ideal S1792x1024 .f32) (x2 : Vec Ideal S688x1024 .f32) (x3 : Vec Ideal S1x1024 .f32) (x4 x5 : Vec Ideal S688x1024 .f32) (xo : Vec Ideal S1x1024 .f32)

/-- The rows of the input's gradient that a point stores. -/
def pt : FVec Ideal S688x1024 .f32 := k0_pay1 (k0_pay4 x2) (k0_pay5 x2) (k0_pay7 x0 x1 x5 x3) x4 (k0_pay8 x0 x1 x5 x2 x3)

theorem out_A_6 (hc) : out0_A_6 (F := Ideal) c i arg1 harg1 arg2 harg2 arg3 harg3 arg4 harg4 arg5 harg5 arg6 harg6 arg7 harg7 arg8 harg8 hc x0 x1 x2 x3 x4 x5 = pt x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 hc x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S688x1792) hz, View.ld_unit_zero (S := S1792x1024) hz, View.ld_unit_zero (S := S688x1024) hz,
    View.ld_unit_zero (S := S1x1024) hz]
  rfl

theorem out_B_6 (hc) : out0_B_6 (F := Ideal) c i arg1 harg1 arg2 harg2 arg3 harg3 arg4 harg4 arg5 harg5 arg6 harg6 arg7 harg7 arg8 harg8 hc x0 x1 x2 x3 x4 x5 xo = pt x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 hc x0 x1 x2 x3 x4 x5 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S688x1792) hz, View.ld_unit_zero (S := S1792x1024) hz, View.ld_unit_zero (S := S688x1024) hz,
    View.ld_unit_zero (S := S1x1024) hz]
  rfl

theorem out_B_7 (hc) : out0_B_7 (F := Ideal) c i arg1 harg1 arg2 harg2 arg3 harg3 arg4 harg4 arg5 harg5 arg6 harg6 arg7 harg7 arg8 harg8 hc x0 x1 x2 x3 x4 x5 xo = k0_pay6 x0 x1 x5 x2 xo := by
  unfold out0_B_7
  rw [View.read_writes_eq_canon _ _ _ (cover0_B_7 c i arg1 harg1 arg2 harg2 arg3 harg3 arg4 harg4 arg5 harg5 arg6 harg6 arg7 harg7 arg8 harg8 hc x0 x1 x2 x3 x4 x5 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg8.read_unread, View.ld_unit_zero (S := S688x1792) hz, View.ld_unit_zero (S := S1792x1024) hz, View.ld_unit_zero (S := S688x1024) hz,
    View.ld_unit_zero (S := S1x1024) hz]

theorem out_A_7 (hc) : out0_A_7 (F := Ideal) c i arg1 harg1 arg2 harg2 arg3 harg3 arg4 harg4 arg5 harg5 arg6 harg6 arg7 harg7 arg8 harg8 hc x0 x1 x2 x3 x4 x5 = k0_pay6 x0 x1 x5 x2 (k0_pay2 (F := Ideal)) := by
  unfold out0_A_7
  rw [View.read_writes_eq_canon _ _ _ (cover0_A_7 c i arg1 harg1 arg2 harg2 arg3 harg3 arg4 harg4 arg5 harg5 arg6 harg6 arg7 harg7 arg8 harg8 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread,
    View.ld_unit_zero (S := S688x1792) hz, View.ld_unit_zero (S := S1792x1024) hz, View.ld_unit_zero (S := S688x1024) hz,
    View.ld_unit_zero (S := S1x1024) hz]

variable (r : Fin 688) (y : Fin 1024)

/-- A block's row of the norm's output's gradient. -/
def dyB : Fin 1024 → EReal := OdNorm.dy (fun k => x0 (ix2 r k)) (fun k y => x1 (ix2 k y)) (fun y => x5 (ix2 r y))
/-- A block's row. -/
def rowB (r : Fin 688) : Fin 1024 → EReal := fun y => x2 (ix2 r y)

theorem pay3_apply : k0_pay3 (F := Ideal) x0 x1 x5 (ix2 r y) = dyB x0 x1 x5 r y := by
  pointwise [k0_pay3]
  rfl

theorem pay4_apply : k0_pay4 (F := Ideal) x2 (ix2 r 0) = Rms.rs (rowB x2 r) := by
  pointwise [k0_pay4]
  rfl

theorem pay5_apply : k0_pay5 (F := Ideal) x2 (ix2 r y) = rowB x2 r y * Rms.rs (rowB x2 r) := by
  pointwise [k0_pay5]
  rw [pay4_apply]; rfl

theorem pay7_apply : k0_pay7 (F := Ideal) x0 x1 x5 x3 (ix2 r y) = dyB x0 x1 x5 r y * x3 (ix2 0 y) := by
  pointwise [k0_pay7]
  rw [pay3_apply]

theorem pay8_apply : k0_pay8 (F := Ideal) x0 x1 x5 x2 x3 (ix1 r) = ∑ y, dyB x0 x1 x5 r y * x3 (ix2 0 y) * (rowB x2 r y * Rms.rs (rowB x2 r)) := by
  pointwise [k0_pay8]
  simp only [pay7_apply, pay5_apply]

theorem pt_apply : pt x0 x1 x2 x3 x4 x5 (ix2 r y) = Rms.dx (rowB x2 r) (fun y => x3 (ix2 0 y)) (fun y => x4 (ix2 r y)) (dyB x0 x1 x5 r) y := by
  unfold pt
  pointwise [k0_pay1]
  simp only [pay8_apply, pay7_apply, pay5_apply, pay4_apply]
  rfl

theorem pay6_apply : k0_pay6 (F := Ideal) x0 x1 x5 x2 xo (ix2 0 y) = xo (ix2 0 y) + ∑ r, dyB x0 x1 x5 r y * (rowB x2 r y * Rms.rs (rowB x2 r)) := by
  pointwise [k0_pay6]
  simp only [pay5_apply, pay3_apply]

theorem pay2_apply : k0_pay2 (F := Ideal) (ix2 0 y) = 0 := by
  pointwise [k0_pay2]

end

end Cert.OdNormIdeal.Prod

end
-- ==== Proof.OdNormValue.lean ====
/- What the scan's half of the odd layer's input product and its norm, taken backward in one call, leave in their two result
   arrays: every grid point stores 688 rows of the input's gradient
   and adds its rows' part of the gain's gradient. -/
module

public import proofs.«01_k».proof.Proof.OdNormOut
public import proofs.«01_k».proof.Proof.RmsValue
public import proofs.«01_k».proof.Proof.Gen.OdNormIdeal.Value
public import Idealize.ShloMosaic.Lib.Pointwise
public import Idealize.ShloMosaic.Lib.Pipeline.ValueKit.Geometry

@[expose] public section

set_option maxRecDepth 16384

noncomputable section

namespace OdNorm

open Idealize.ShloMosaic
open Rms (dx rs)

/-- The call's arguments, by row. -/
structure Args where
  a : Fin 2064 → Fin 1792 → EReal
  w : Fin 1792 → Fin 1024 → EReal
  h : Fin 2064 → Fin 1024 → EReal
  g : Fin 1024 → EReal
  dh : Fin 2064 → Fin 1024 → EReal
  dp : Fin 2064 → Fin 1024 → EReal

namespace Args
variable (A : Args)

def y (t : Fin 2064) : Fin 1024 → EReal := dy (A.a t) A.w (A.dp t)
def dxAt (t : Fin 2064) : Fin 1024 → EReal := dx (A.h t) A.g (A.dh t) (A.y t)
def part (t : Fin 2064) (c : Fin 1024) : EReal := A.y t c * (A.h t c * rs (A.h t))
def dgAt (c : Fin 1024) : EReal := ∑ t, A.part t c

/-- The arguments, read from their arrays. -/
def of (x0 : (⟨2, ![2064, 1792]⟩ : Shape).Idx → EReal) (x1 : (⟨2, ![1792, 1024]⟩ : Shape).Idx → EReal) (x2 : (⟨2, ![2064, 1024]⟩ : Shape).Idx → EReal)
    (x3 : (⟨2, ![1, 1024]⟩ : Shape).Idx → EReal) (x4 x5 : (⟨2, ![2064, 1024]⟩ : Shape).Idx → EReal) : Args where
  a t k := x0 (ix2 t k)
  w k c := x1 (ix2 k c)
  h t c := x2 (ix2 t c)
  g c := x3 (ix2 0 c)
  dh t c := x4 (ix2 t c)
  dp t c := x5 (ix2 t c)

end Args

end OdNorm

namespace Cert.OdNormIdeal.Prod

open Cert.OdNormIdeal Cert.OdNormIdeal.Gen Idealize.ShloMosaic Idealize.ShloMosaic.TcCoe Idealize.SL.Sem
open Idealize.ShloMosaic.Pipeline (Dat)
open Rms (row)

variable (m : (ℓ : Loc nD τ sig) → Buf (Elt Ideal) ℓ) (ρ : Dev nD → PrngReg)

/-- The arguments of a device. -/
def args (c : Dev nD) : OdNorm.Args := OdNorm.Args.of (m ((c : Thread nD τ).loc main_arg0) :) (m ((c : Thread nD τ).loc main_arg1) :)
  (m ((c : Thread nD τ).loc main_arg2) :) (m ((c : Thread nD τ).loc main_arg3) :) (m ((c : Thread nD τ).loc main_arg4) :) (m ((c : Thread nD τ).loc main_arg5) :)

theorem hN : cfg0.N = 3 := N_0
def blkOf (t : Fin cfg0.N) : Fin 3 := ⟨t.val, lt_of_lt_of_eq t.isLt N_0⟩

/-- How the windows move. -/
theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = t.val ∧ win0_6.index t 1 = 0) :=
  (by decide +kernel : ∀ t : Fin grid0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0)
      ∧ (win0_6.index t 0 = t.val ∧ win0_6.index t 1 = 0))

variable (c : Dev nD) (t : Fin cfg0.N) (r : Fin 688) (k : Fin 1792) (y : Fin 1024)

theorem iblk0 : (iblk m c 0 t : Vec Ideal S688x1792 .bf16) (ix2 r k) = (args m c).a (row (blkOf t) r) k := by
  unfold iblk
  rw [View.read_apply]
  show V m c main_arg0 _ = m (c.tc.loc main_arg0) _
  unfold V
  congr 1
  funext a
  have := idx t
  apply Fin.ext
  match a with
  | ⟨0, _⟩ => show win0_0.index t 0 * 688 + 1 * r.val = 688 * t.val + r.val; omega
  | ⟨1, _⟩ => show win0_0.index t 1 * 1792 + 1 * k.val = k.val; omega

theorem iblk1 : (iblk m c 1 t : Vec Ideal S1792x1024 .f32) (ix2 k y) = (args m c).w k y := by
  unfold iblk
  rw [View.read_apply]
  show V m c main_arg1 _ = m (c.tc.loc main_arg1) _
  unfold V
  congr 1
  funext a
  have := idx t
  apply Fin.ext
  match a with
  | ⟨0, _⟩ => show win0_1.index t 0 * 1792 + 1 * k.val = k.val; omega
  | ⟨1, _⟩ => show win0_1.index t 1 * 1024 + 1 * y.val = y.val; omega

theorem iblk2 : (iblk m c 2 t : Vec Ideal S688x1024 .f32) (ix2 r y) = (args m c).h (row (blkOf t) r) y := by
  unfold iblk
  rw [View.read_apply]
  show V m c main_arg2 _ = m (c.tc.loc main_arg2) _
  unfold V
  congr 1
  funext a
  have := idx t
  apply Fin.ext
  match a with
  | ⟨0, _⟩ => show win0_2.index t 0 * 688 + 1 * r.val = 688 * t.val + r.val; omega
  | ⟨1, _⟩ => show win0_2.index t 1 * 1024 + 1 * y.val = y.val; omega

theorem iblk3 : (iblk m c 3 t : Vec Ideal S1x1024 .f32) (ix2 0 y) = (args m c).g y := by
  unfold iblk
  rw [View.read_apply]
  show V m c main_arg3 _ = m (c.tc.loc main_arg3) _
  unfold V
  congr 1
  funext a
  have := idx t
  apply Fin.ext
  match a with
  | ⟨0, _⟩ => show win0_3.index t 0 * 1 + 1 * 0 = 0; omega
  | ⟨1, _⟩ => show win0_3.index t 1 * 1024 + 1 * y.val = y.val; omega

theorem iblk4 : (iblk m c 4 t : Vec Ideal S688x1024 .f32) (ix2 r y) = (args m c).dh (row (blkOf t) r) y := by
  unfold iblk
  rw [View.read_apply]
  show V m c main_arg4 _ = m (c.tc.loc main_arg4) _
  unfold V
  congr 1
  funext a
  have := idx t
  apply Fin.ext
  match a with
  | ⟨0, _⟩ => show win0_4.index t 0 * 688 + 1 * r.val = 688 * t.val + r.val; omega
  | ⟨1, _⟩ => show win0_4.index t 1 * 1024 + 1 * y.val = y.val; omega

theorem iblk5 : (iblk m c 5 t : Vec Ideal S688x1024 .f32) (ix2 r y) = (args m c).dp (row (blkOf t) r) y := by
  unfold iblk
  rw [View.read_apply]
  show V m c main_arg5 _ = m (c.tc.loc main_arg5) _
  unfold V
  congr 1
  funext a
  have := idx t
  apply Fin.ext
  match a with
  | ⟨0, _⟩ => show win0_5.index t 0 * 688 + 1 * r.val = 688 * t.val + r.val; omega
  | ⟨1, _⟩ => show win0_5.index t 1 * 1024 + 1 * y.val = y.val; omega

theorem dyB_eq : dyB (iblk m c 0 t) (iblk m c 1 t) (iblk m c 5 t) r = (args m c).y (row (blkOf t) r) := by
  unfold dyB OdNorm.Args.y
  refine congr (congr (congrArg OdNorm.dy ?_) ?_) ?_
  · funext k; exact iblk0 m c t r k
  · funext k y; exact iblk1 m c t k y
  · funext y; exact iblk5 m c t r y

theorem rowB_eq : rowB (iblk m c 2 t) r = (args m c).h (row (blkOf t) r) := funext fun y => iblk2 m c t r y

/-- The rows that a point stores. -/
theorem pt_eq : pt (iblk m c 0 t) (iblk m c 1 t) (iblk m c 2 t) (iblk m c 3 t) (iblk m c 4 t) (iblk m c 5 t) (ix2 r y)
    = (args m c).dxAt (row (blkOf t) r) y := by
  rw [pt_apply, dyB_eq, rowB_eq]
  unfold OdNorm.Args.dxAt
  refine congrFun (congrFun (congr (congrArg (Rms.dx _) ?_) ?_) _) y
  · funext y; exact iblk3 m c t y
  · funext y; exact iblk4 m c t r y

/-- What a point adds. -/
theorem pay6_eq (xo : Vec Ideal S1x1024 .f32) : k0_pay6 (iblk m c 0 t) (iblk m c 1 t) (iblk m c 5 t) (iblk m c 2 t) xo (ix2 0 y)
    = xo (ix2 0 y) + ∑ r, (args m c).part (row (blkOf t) r) y := by
  rw [pay6_apply]
  simp only [dyB_eq, rowB_eq]
  rfl

/-- The two results. -/
def resX (A : OdNorm.Args) (i : S2064x1024.Idx) : EReal := A.dxAt (i 0) (i 1)
def resG (A : OdNorm.Args) (i : S1x1024.Idx) : EReal := A.dgAt (i 1)

theorem after6 : (outsAt0 m c t.val t.isLt).1 = pt (iblk m c 0 t) (iblk m c 1 t) (iblk m c 2 t) (iblk m c 3 t) (iblk m c 4 t) (iblk m c 5 t) := by
  by_cases h0 : t.val % 3 = 0
  · simp only [outsAt0_A m c t h0, out_A_6]
  · simp only [outsAt0_B m c t h0, out_B_6]

theorem after7_A (h0 : t.val % 3 = 0) :
    (outsAt0 m c t.val t.isLt).2 = k0_pay6 (iblk m c 0 t) (iblk m c 1 t) (iblk m c 5 t) (iblk m c 2 t) (k0_pay2 (F := Ideal)) := by
  simp only [outsAt0_A m c t h0, out_A_7]

theorem after7_B (h0 : ¬t.val % 3 = 0) : (outsAt0 m c t.val t.isLt).2
    = k0_pay6 (iblk m c 0 t) (iblk m c 1 t) (iblk m c 5 t) (iblk m c 2 t) (outsAt0 m c (t.val - 1) (Nat.lt_of_le_of_lt (Nat.sub_le _ _) t.isLt)).2 := by
  simp only [outsAt0_B m c t h0, out_B_7]

def tk (n : Fin 3) : Fin cfg0.N := ⟨n.val, lt_of_lt_of_eq n.isLt N_0.symm⟩

theorem outs_congr (n n' : ℕ) (e : n = n') (h : n < cfg0.N) (h' : n' < cfg0.N) : outsAt0 m c n h = outsAt0 m c n' h' := by
  subst e; rfl

/-- The gain's gradient after the last point. -/
theorem last7 : (outsAt0 m c (tk 2).val (tk 2).isLt).2 (ix2 0 y) = (args m c).dgAt y := by
  have e0 : (outsAt0 m c (tk 0).val (tk 0).isLt).2 (ix2 0 y) = ∑ r, (args m c).part (row 0 r) y := by
    rw [after7_A m c (tk 0) rfl, pay6_eq, pay2_apply, zero_add]; rfl
  have e1 : (outsAt0 m c (tk 1).val (tk 1).isLt).2 (ix2 0 y) = ∑ r, (args m c).part (row 0 r) y + ∑ r, (args m c).part (row 1 r) y := by
    rw [after7_B m c (tk 1) (by decide), pay6_eq, outs_congr m c ((tk 1).val - 1) (tk 0).val rfl _ (tk 0).isLt, e0]
    rfl
  rw [after7_B m c (tk 2) (by decide), pay6_eq, outs_congr m c ((tk 2).val - 1) (tk 1).val rfl _ (tk 1).isLt, e1]
  unfold OdNorm.Args.dgAt
  rw [← Rms.sum_rows, Fin.sum_univ_three]
  rfl

theorem arr6 : (dats m 0 c).arrAt 6 cfg0.N = resX (args m c) := by
  refine (dats m 0 c).arrAt_eq_of_cover 6 (resX (args m c)) (fun t _ => ?_) fun i => ?_
  · have := idx t
    rw [Value.flushed6, after6]
    funext j
    rw [View.read_apply]
    show pt (iblk m c 0 t) (iblk m c 1 t) (iblk m c 2 t) (iblk m c 3 t) (iblk m c 4 t) (iblk m c 5 t) j = resX _ _
    obtain ⟨r, x, rfl⟩ : ∃ (r : Fin 688) (x : Fin 1024), j = ix2 r x := ⟨j 0, j 1, funext fun a => match a with | ⟨0, _⟩ => rfl | ⟨1, _⟩ => rfl⟩
    rw [pt_eq]
    have h0 : row (blkOf t) r = (win0_6.blk t).view.emb (ix2 r x) 0 := Fin.ext (by
      show 688 * t.val + r.val = win0_6.index t 0 * 688 + 1 * r.val; omega)
    have h1 : x = (win0_6.blk t).view.emb (ix2 r x) 1 := Fin.ext (by
      show x.val = win0_6.index t 1 * 1024 + 1 * x.val; omega)
    unfold resX
    exact congrArg₂ (args m c).dxAt h0 h1
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_6 t, ?_⟩
    show i ∈ ((View.whole main_v0_0).slice (win0_6.rect t)).set
    rw [View.set_slice_whole, Rect.mem_set_unit]
    have e : t.val = (i 0).val / 688 := rfl
    intro a
    match a with
    | ⟨0, _⟩ => show win0_6.index t 0 * 688 ≤ (i 0).val ∧ (i 0).val < win0_6.index t 0 * 688 + 688; omega
    | ⟨1, _⟩ => show win0_6.index t 1 * 1024 ≤ (i 1).val ∧ (i 1).val < win0_6.index t 1 * 1024 + 1024; omega

theorem arr7 : (dats m 0 c).arrAt 7 cfg0.N = resG (args m c) := by
  refine (dats m 0 c).arrAt_eq_of_after_last 7 (tk 2) (by decide +kernel) (resG (args m c)) fun j => ?_
  rw [after0_7]
  have hj : j = ix2 0 (j 1) := funext fun a => match a with | ⟨0, _⟩ => Subsingleton.elim (α := Fin 1) _ _ | ⟨1, _⟩ => rfl
  refine (show _ = (outsAt0 m c (tk 2).val (tk 2).isLt).2 (ix2 0 (j 1)) from congrArg (outsAt0 m c (tk 2).val (tk 2).isLt).2 hj).trans ?_
  exact last7 m c (j 1)

/-- The run: the two gradients, the arguments unchanged. -/
theorem run : θ_run defs (onTc (τ := τ) (main (F := Ideal))) ⟨m, fun _ => 0, ρ⟩ (fun r => ∀ c : Dev nD,
      r.2.mem ((c : Thread nD τ).loc main_v0_0) = resX (args m c)
      ∧ r.2.mem ((c : Thread nD τ).loc main_v0_1) = resG (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c).1.trans (arr6 m c), (h c).2.1.trans (arr7 m c), (h c).2.2⟩) (Value.run_blocks m ρ)

end Cert.OdNormIdeal.Prod

end
-- ==== Proof.OdNormRef.lean ====
/- The reference of the scan's half of the odd layer's input product and its norm, row by row. -/
module

public import proofs.«01_k».proof.Proof.OdNormValue
public import proofs.«01_k».proof.Proof.Gen.OdNormRefIdeal.Read
public import Idealize.ShloMosaic.Lib.Pointwise
public import proofs.«01_k».proof.Proof.RmsReal
public import proofs.«01_k».proof.Proof.Gen.OdNormRefIdeal.Run
public import proofs.«01_k».proof.Defs

@[expose] public section

set_option maxRecDepth 16384

noncomputable section

namespace Cert.OdNormRefIdeal.Hand

open Idealize.ShloMosaic Idealize.ShloMosaic.TcCoe Idealize.ShloMosaic.Tactic Idealize.SL.Sem Idealize.ShloMosaic.StableHlo
open Cert.OdNormRefIdeal Cert.OdNormRefIdeal.Gen Cert.OdNormRefIdeal.Read

variable (x0 : Vec Ideal S2064x1792 .bf16) (x1 : Vec Ideal S1792x1024 .f32) (x2 : Vec Ideal S2064x1024 .f32) (x3 : Vec Ideal S1x1024 .f32) (x4 x5 : Vec Ideal S2064x1024 .f32)
variable (t : Fin 2064) (c : Fin 1024)

def args : OdNorm.Args := OdNorm.Args.of x0 x1 x2 x3 x4 x5

local notation "A" => args x0 x1 x2 x3 x4 x5

theorem v6_eq : val_main_v6 (F := Ideal) x2 (ix2 t 0) = Rms.ms ((A).h t) := by
  pointwise [val_main_v6, val_main_v4, val_main_v2, val_main_v1, val_main_v0, val_main_v3, val_main_v5, val_main_cst, val_main_cst_0, val_main_cst_1]
  rfl

theorem v7_eq : val_main_v7 (F := Ideal) x2 (ix2 t 0) = Rms.rs ((A).h t) := by
  pointwise [val_main_v7]
  rw [v6_eq x0 x1 x2 x3 x4 x5]; rfl

theorem v10_eq : val_main_v10 (F := Ideal) x2 (ix2 t 0) = Ideal.ofBits .f32 0xBF000000#32 * Ideal.div (Rms.rs ((A).h t)) (Rms.ms ((A).h t)) := by
  pointwise [val_main_v10, val_main_v9, val_main_v8, val_main_cst_2]
  rw [v6_eq x0 x1 x2 x3 x4 x5, v7_eq x0 x1 x2 x3 x4 x5]

theorem v19_eq : val_main_v19 (F := Ideal) x0 x1 x5 (ix2 t c) = (A).y t c := by
  pointwise [val_main_v19, val_main_v18, val_main_v17, val_main_v15]
  exact add_comm _ _

theorem v22_eq : val_main_v22 (F := Ideal) x0 x1 x2 x5 (ix2 0 c) = (A).dgAt c := by
  pointwise [val_main_v22, val_main_v21, val_main_v20, val_main_v12, val_main_v11, val_main_cst_3]
  simp only [v19_eq x0 x1 x2 x3 x4 x5, v7_eq x0 x1 x2 x3 x4 x5]
  exact Finset.sum_congr rfl fun x _ => mul_comm _ _

theorem v35_eq : val_main_v35 (F := Ideal) x0 x1 x2 x3 x5 (ix2 t c)
    = Ideal.div ((∑ x, (A).h t x * ((A).y t x * (A).g x)) * (Ideal.ofBits .f32 0xBF000000#32 * Ideal.div (Rms.rs ((A).h t)) (Rms.ms ((A).h t)))) Rms.cols := by
  pointwise [val_main_v35, val_main_v34, val_main_v33, val_main_v31, val_main_v32, val_main_cst_6, val_main_cst_5, val_main_v27, val_main_v26, val_main_v25, val_main_v24, val_main_v23, val_main_cst_4]
  rw [Fin.sum_univ_one]
  simp only [v19_eq x0 x1 x2 x3 x4 x5, v10_eq x0 x1 x2 x3 x4 x5]
  rfl

theorem v39_eq : val_main_v39 (F := Ideal) x0 x1 x2 x3 x4 x5 (ix2 t c) = (A).dxAt t c := by
  pointwise [val_main_v39, val_main_v38, val_main_v37, val_main_v36, val_main_v30, val_main_v29, val_main_v28, val_main_v24, val_main_v23]
  simp only [v19_eq x0 x1 x2 x3 x4 x5, v7_eq x0 x1 x2 x3 x4 x5, v35_eq x0 x1 x2 x3 x4 x5]
  exact Rms.dx_eq ((A).h t) (A).g ((A).dh t) ((A).y t) c

theorem dx_eq : val_main_v39 (F := Ideal) x0 x1 x2 x3 x4 x5 = Cert.OdNormIdeal.Prod.resX (A) := by
  funext i
  obtain ⟨t, x, rfl⟩ : ∃ (t : Fin 2064) (x : Fin 1024), i = ix2 t x := ⟨i 0, i 1, funext fun a => match a with | ⟨0, _⟩ => rfl | ⟨1, _⟩ => rfl⟩
  exact v39_eq x0 x1 x2 x3 x4 x5 t x

theorem dg_eq : val_main_v22 (F := Ideal) x0 x1 x2 x5 = Cert.OdNormIdeal.Prod.resG (A) := by
  funext i
  obtain ⟨x, rfl⟩ : ∃ (x : Fin 1024), i = ix2 0 x :=
    ⟨i 1, funext fun a => match a with | ⟨0, _⟩ => Fin.ext (by have : (i 0).val < 1 := (i 0).isLt; show (i 0).val = 0; omega) | ⟨1, _⟩ => rfl⟩
  exact v22_eq x0 x1 x2 x3 x4 x5 x

theorem algebraic : Cert.algebraic_OdNormIdeal_OdNormRefIdeal := by
  intro m g m' g' _ hag
  refine ⟨fun c => Cert.OdNormIdeal.Prod.resX (Cert.OdNormIdeal.Prod.args m c), fun c => Cert.OdNormIdeal.Prod.resG (Cert.OdNormIdeal.Prod.args m c),
    Cert.OdNormIdeal.Prod.run m g, (θ_run _ _ _).mono (fun r h c => ?_) (Cert.OdNormRefIdeal.Value.run (F := Ideal) m' g')⟩
  have e : args (m' ((c.tc : Thread nD τ).loc main_arg0) :) (m' ((c.tc : Thread nD τ).loc main_arg1) :) (m' ((c.tc : Thread nD τ).loc main_arg2) :)
      (m' ((c.tc : Thread nD τ).loc main_arg3) :) (m' ((c.tc : Thread nD τ).loc main_arg4) :) (m' ((c.tc : Thread nD τ).loc main_arg5) :)
      = Cert.OdNormIdeal.Prod.args m c := by
    rw [(hag c).1, (hag c).2.1, (hag c).2.2.1, (hag c).2.2.2.1, (hag c).2.2.2.2.1, (hag c).2.2.2.2.2]
    rfl
  simp only [← e]
  obtain ⟨h1, h2, h3⟩ := h c
  refine ⟨h1.trans ((val_main_v39_eq m' c).trans ?_), h2.trans ((val_main_v22_eq _ _ _ _).trans ?_), h3⟩
  · exact dx_eq _ _ _ _ _ _
  · exact dg_eq _ _ _ _ _ _

end Cert.OdNormRefIdeal.Hand

end
-- ==== Proof.FfUpValue.lean ====
/- The feed-forward layer's up product: what the blocked kernel leaves in its result array. Every grid point computes a
   688 × 1408 block of `y · w_upᵀ` over the whole contraction. -/
module

public import proofs.«01_k».proof.Proof.Gen.FfUpIdeal.Value
public import proofs.«01_k».proof.Proof.Gen.FfUpRefIdeal.Read
public import Idealize.ShloMosaic.Lib.Pointwise
public import proofs.«01_k».proof.Defs

@[expose] public section

set_option maxRecDepth 16384

noncomputable section

namespace Cert.FfUpIdeal.Prod

open Cert.FfUpIdeal Cert.FfUpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a (2064, 1024) array with the transpose of a (5632, 1024) array. -/
def prod (x : S2064x1024.Idx → EReal) (w : S5632x1024.Idx → EReal) (i : S2064x5632.Idx) : EReal :=
  ∑ k : Fin 1024, x (ix2 (i 0) k) * w (ix2 (i 1) k)

/-- What one grid point stores: the block product over the whole contraction. -/
theorem pay_apply (x : Vec Ideal S688x1024 .bf16) (w : Vec Ideal S1408x1024 .f32) (j : S688x1408.Idx) :
    k0_pay1 x w j = ∑ k : Fin 1024, x (ix2 (j 0) k) * w (ix2 (j 1) k) := by
  pointwise [k0_pay1]

theorem hz : (![0, 0] : Fin 2 → Nat) = fun _ => 0 := funext fun a => by fin_cases a <;> rfl

/-- How the three windows move: the left block with the result's rows, the right block with its columns. -/
theorem idx_facts : ∀ t : Fin cfg0.N,
    win0_0.index t 0 = win0_2.index t 0 ∧ win0_0.index t 1 = 0
      ∧ win0_1.index t 0 = win0_2.index t 1 ∧ win0_1.index t 1 = 0 :=
  (by decide +kernel : ∀ t : Fin grid0.N, win0_0.index t 0 = win0_2.index t 0 ∧ win0_0.index t 1 = 0
      ∧ win0_1.index t 0 = win0_2.index t 1 ∧ win0_1.index t 1 = 0)

/-- The block of the left array at a point, read off the argument. -/
theorem iblk0_apply (c : Dev nD) (t : Fin cfg0.N) (r : Fin 688) (k : Fin 1024) (i : S2064x1024.Idx)
    (h0 : (i 0).val = win0_2.index t 0 * 688 + r.val) (h1 : (i 1).val = k.val) :
    (iblk m c 0 t : Vec Ideal S688x1024 .bf16) (ix2 r k) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 688 + 1 * r.val = (i 0).val; rw [(idx_facts t).1]; omega
  | ⟨1, _⟩ => show win0_0.index t 1 * 1024 + 1 * k.val = (i 1).val; rw [(idx_facts t).2.1]; omega

/-- The block of the right array at a point, read off the argument. -/
theorem iblk1_apply (c : Dev nD) (t : Fin cfg0.N) (r : Fin 1408) (k : Fin 1024) (i : S5632x1024.Idx)
    (h0 : (i 0).val = win0_2.index t 1 * 1408 + r.val) (h1 : (i 1).val = k.val) :
    (iblk m c 1 t : Vec Ideal S1408x1024 .f32) (ix2 r k) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1408 + 1 * r.val = (i 0).val; rw [(idx_facts t).2.2.1]; omega
  | ⟨1, _⟩ => show win0_1.index t 1 * 1024 + 1 * k.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t (j 0) k (ix2 ((win0_2.blk t).view.emb j 0) k) ?_ rfl,
    iblk1_apply m c t (j 1) k (ix2 ((win0_2.blk t).view.emb j 1) k) ?_ rfl]
  · show win0_2.index t 1 * 1408 + 1 * (j 1).val = _; omega
  · show win0_2.index t 0 * 688 + 1 * (j 0).val = _; omega

theorem points : ∀ a : Fin 3, ∀ b : Fin 4, ∃ t : Fin cfg0.N, win0_2.index t 0 = a.val ∧ win0_2.index t 1 = b.val :=
  (by decide +kernel : ∀ a : Fin 3, ∀ b : Fin 4, ∃ t : Fin grid0.N, win0_2.index t 0 = a.val ∧ win0_2.index t 1 = b.val)

/-- The blocks cover the result. -/
theorem cover (i : S2064x5632.Idx) :
    ∃ t : Fin cfg0.N, (cfg0.win 2).flush t = true ∧ i ∈ ((cfg0.win 2).blk t).view.set := by
  have h0 : (i 0).val < 2064 := (i 0).isLt
  have h1 : (i 1).val < 5632 := (i 1).isLt
  obtain ⟨t, e0, e1⟩ := points ⟨(i 0).val / 688, by omega⟩ ⟨(i 1).val / 1408, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 688 ≤ (i 0).val ∧ (i 0).val < win0_2.index t 0 * 688 + 688
              rw [e0]; dsimp only; omega
  | ⟨1, _⟩ => show win0_2.index t 1 * 1408 ≤ (i 1).val ∧ (i 1).val < win0_2.index t 1 * 1408 + 1408
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x1024.Idx → EReal) (w : S5632x1024.Idx → EReal) :
    Cert.FfUpRefIdeal.Read.val_main_v2 (F := Ideal) x w = prod x w := by
  funext i
  rw [Cert.FfUpRefIdeal.Read.val_main_v2_apply]
  refine Finset.sum_congr rfl fun k _ => congrArg₂ (· * ·) ?_ ?_
  · rw [Cert.FfUpRefIdeal.Read.val_main_v0_apply]
    exact congrArg x (funext fun a => match a with | ⟨0, _⟩ => rfl | ⟨1, _⟩ => rfl)
  · rw [Cert.FfUpRefIdeal.Read.val_main_v1_apply]
    exact congrArg w (funext fun a => match a with | ⟨0, _⟩ => rfl | ⟨1, _⟩ => rfl)

theorem algebraic : Cert.algebraic_FfUpIdeal_FfUpRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.FfUpRefIdeal.Value.run (F := Ideal) m' ρ')⟩

end Cert.FfUpIdeal.Prod

end
-- ==== Proof.FfDownValue.lean ====
/- The feed-forward layer's down product with what follows it: every grid point stores 688 rows of the residual sum, and the
   same rows normalised for the next layer. -/
module

public import proofs.«01_k».proof.Proof.RmsValue
public import proofs.«01_k».proof.Proof.Gen.FfDownIdeal.Value
public import proofs.«01_k».proof.Proof.Gen.FfDownRefIdeal.Run
public import proofs.«01_k».proof.Proof.Gen.FfDownRefIdeal.Read
public import Idealize.ShloMosaic.Lib.Pointwise
public import Idealize.ShloMosaic.Lib.VecWindow
public import proofs.«01_k».proof.Defs

@[expose] public section

set_option maxRecDepth 16384

noncomputable section

namespace FfDown

/-- A row of the residual sum, and the row normalised. -/
def out (a : Fin 2816 → EReal) (w : Fin 2816 → Fin 1024 → EReal) (h : Fin 1024 → EReal) (c : Fin 1024) : EReal := ∑ k, a k * w k c + h c
def nrm (o g : Fin 1024 → EReal) (c : Fin 1024) : EReal := o c * Rms.rs o * g c

end FfDown

namespace Cert.FfDownIdeal.Prod

open Cert.FfDownIdeal Cert.FfDownIdeal.Gen Idealize.ShloMosaic Idealize.ShloMosaic.TcCoe Idealize.ShloMosaic.Tactic Idealize.SL.Sem
open Idealize.ShloMosaic.Pipeline (Dat)
open _root_.Rms (row)

variable (m : (ℓ : Loc nD τ sig) → Buf (Elt Ideal) ℓ) (ρ : Dev nD → PrngReg)

theorem hz : (![0, 0] : Fin 2 → Nat) = fun _ => 0 := funext fun a => by fin_cases a <;> rfl

/-- The two results, of the argument arrays. -/
def rowOut (x0 : S2064x2816.Idx → EReal) (x1 : S2816x1024.Idx → EReal) (x2 : S2064x1024.Idx → EReal) (t : Fin 2064) : Fin 1024 → EReal :=
  FfDown.out (fun k => x0 (ix2 t k)) (fun k c => x1 (ix2 k c)) (fun c => x2 (ix2 t c))
def resH (x0 : S2064x2816.Idx → EReal) (x1 : S2816x1024.Idx → EReal) (x2 : S2064x1024.Idx → EReal) (i : S2064x1024.Idx) : EReal :=
  rowOut x0 x1 x2 (i 0) (i 1)
def resN (x0 : S2064x2816.Idx → EReal) (x1 : S2816x1024.Idx → EReal) (x2 : S2064x1024.Idx → EReal) (x3 : S1x1024.Idx → EReal)
    (i : S2064x1024.Idx) : EReal := FfDown.nrm (rowOut x0 x1 x2 (i 0)) (fun c => x3 (ix2 0 c)) (i 1)

/-! ## What a point stores -/

section
variable (b0 : Vec Ideal S688x2816 .bf16) (b1 : Vec Ideal S2816x1024 .f32) (b2 : Vec Ideal S688x1024 .f32) (b3 : Vec Ideal S1x1024 .f32)
variable (r : Fin 688) (y : Fin 1024)

def rowB : Fin 1024 → EReal := FfDown.out (fun k => b0 (ix2 r k)) (fun k y => b1 (ix2 k y)) (fun y => b2 (ix2 r y))

theorem pay1_apply : k0_pay1 (F := Ideal) b0 b1 b2 (ix2 r y) = rowB b0 b1 b2 r y := by
  pointwise [k0_pay1]
  rfl

theorem pay2_apply : k0_pay2 (F := Ideal) b0 b1 b2 b3 (ix2 r y) = FfDown.nrm (rowB b0 b1 b2 r) (fun y => b3 (ix2 0 y)) y := by
  pointwise [k0_pay2]
  simp only [pay1_apply]
  rfl

end

/-! ## Where the blocks lie -/

def blkOf (t : Fin cfg0.N) : Fin 3 := ⟨t.val, lt_of_lt_of_eq t.isLt N_0⟩

theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0))

variable (c : Dev nD) (t : Fin cfg0.N) (r : Fin 688)

/-- The arguments of a device. -/
abbrev X0 : S2064x2816.Idx → EReal := (m ((c : Thread nD τ).loc main_arg0) :)
abbrev X1 : S2816x1024.Idx → EReal := (m ((c : Thread nD τ).loc main_arg1) :)
abbrev X2 : S2064x1024.Idx → EReal := (m ((c : Thread nD τ).loc main_arg2) :)
abbrev X3 : S1x1024.Idx → EReal := (m ((c : Thread nD τ).loc main_arg3) :)

theorem iblk0 (k : Fin 2816) : (iblk m c 0 t : Vec Ideal S688x2816 .bf16) (ix2 r k) = X0 m c (ix2 (row (blkOf t) r) k) := by
  unfold iblk
  rw [View.read_apply]
  show V m c main_arg0 _ = m (c.tc.loc main_arg0) _
  unfold V
  congr 1
  funext a
  have := idx t
  apply Fin.ext
  match a with
  | ⟨0, _⟩ => show win0_0.index t 0 * 688 + 1 * r.val = 688 * t.val + r.val; omega
  | ⟨1, _⟩ => show win0_0.index t 1 * 2816 + 1 * k.val = k.val; omega

theorem iblk1 (k : Fin 2816) (y : Fin 1024) : (iblk m c 1 t : Vec Ideal S2816x1024 .f32) (ix2 k y) = X1 m c (ix2 k y) := by
  unfold iblk
  rw [View.read_apply]
  show V m c main_arg1 _ = m (c.tc.loc main_arg1) _
  unfold V
  congr 1
  funext a
  have := idx t
  apply Fin.ext
  match a with
  | ⟨0, _⟩ => show win0_1.index t 0 * 2816 + 1 * k.val = k.val; omega
  | ⟨1, _⟩ => show win0_1.index t 1 * 1024 + 1 * y.val = y.val; omega

theorem iblk2 (y : Fin 1024) : (iblk m c 2 t : Vec Ideal S688x1024 .f32) (ix2 r y) = X2 m c (ix2 (row (blkOf t) r) y) := by
  unfold iblk
  rw [View.read_apply]
  show V m c main_arg2 _ = m (c.tc.loc main_arg2) _
  unfold V
  congr 1
  funext a
  have := idx t
  apply Fin.ext
  match a with
  | ⟨0, _⟩ => show win0_2.index t 0 * 688 + 1 * r.val = 688 * t.val + r.val; omega
  | ⟨1, _⟩ => show win0_2.index t 1 * 1024 + 1 * y.val = y.val; omega

theorem iblk3 (y : Fin 1024) : (iblk m c 3 t : Vec Ideal S1x1024 .f32) (ix2 0 y) = X3 m c (ix2 0 y) := by
  unfold iblk
  rw [View.read_apply]
  show V m c main_arg3 _ = m (c.tc.loc main_arg3) _
  unfold V
  congr 1
  funext a
  have := idx t
  apply Fin.ext
  match a with
  | ⟨0, _⟩ => show win0_3.index t 0 * 1 + 1 * 0 = 0; omega
  | ⟨1, _⟩ => show win0_3.index t 1 * 1024 + 1 * y.val = y.val; omega

theorem rowB_eq : rowB (iblk m c 0 t) (iblk m c 1 t) (iblk m c 2 t) r = rowOut (X0 m c) (X1 m c) (X2 m c) (row (blkOf t) r) := by
  unfold rowB rowOut
  refine congr (congr (congrArg FfDown.out ?_) ?_) ?_
  · funext k; exact iblk0 m c t r k
  · funext k y; exact iblk1 m c t k y
  · funext y; exact iblk2 m c t r y

/-! ## The two arrays after the run -/

theorem arr4 : (dats m 0 c).arrAt 4 cfg0.N = resH (X0 m c) (X1 m c) (X2 m c) := by
  refine (dats m 0 c).arrAt_eq_of_cover 4 (resH (X0 m c) (X1 m c) (X2 m c)) (fun t _ => ?_) fun i => ?_
  · have := idx t
    rw [Value.flushed4]
    unfold out0_4
    rw [View.canon_unit_zero hz, View.ld_unit_zero hz, View.ld_unit_zero hz, View.ld_unit_zero hz]
    funext j
    rw [View.read_apply]
    show k0_pay1 (iblk m c 0 t) (iblk m c 1 t) (iblk m c 2 t) j = resH _ _ _ _
    obtain ⟨r, y, rfl⟩ : ∃ (r : Fin 688) (y : Fin 1024), j = ix2 r y := ⟨j 0, j 1, funext fun a => match a with | ⟨0, _⟩ => rfl | ⟨1, _⟩ => rfl⟩
    rw [pay1_apply, rowB_eq]
    have h0 : row (blkOf t) r = (win0_4.blk t).view.emb (ix2 r y) 0 := Fin.ext (by
      show 688 * t.val + r.val = win0_4.index t 0 * 688 + 1 * r.val; omega)
    have h1 : y = (win0_4.blk t).view.emb (ix2 r y) 1 := Fin.ext (by
      show y.val = win0_4.index t 1 * 1024 + 1 * y.val; omega)
    unfold resH
    exact congrArg₂ (rowOut _ _ _) h0 h1
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_4 t, ?_⟩
    show i ∈ ((View.whole main_v0_0).slice (win0_4.rect t)).set
    rw [View.set_slice_whole, Rect.mem_set_unit]
    have e : t.val = (i 0).val / 688 := rfl
    intro a
    match a with
    | ⟨0, _⟩ => show win0_4.index t 0 * 688 ≤ (i 0).val ∧ (i 0).val < win0_4.index t 0 * 688 + 688; omega
    | ⟨1, _⟩ => show win0_4.index t 1 * 1024 ≤ (i 1).val ∧ (i 1).val < win0_4.index t 1 * 1024 + 1024; omega

theorem arr5 : (dats m 0 c).arrAt 5 cfg0.N = resN (X0 m c) (X1 m c) (X2 m c) (X3 m c) := by
  refine (dats m 0 c).arrAt_eq_of_cover 5 (resN (X0 m c) (X1 m c) (X2 m c) (X3 m c)) (fun t _ => ?_) fun i => ?_
  · have := idx t
    rw [Value.flushed5]
    unfold out0_5
    rw [View.canon_unit_zero hz, View.ld_unit_zero hz, View.ld_unit_zero hz, View.ld_unit_zero hz, View.ld_unit_zero hz]
    funext j
    rw [View.read_apply]
    show k0_pay2 (iblk m c 0 t) (iblk m c 1 t) (iblk m c 2 t) (iblk m c 3 t) j = resN _ _ _ _ _
    obtain ⟨r, y, rfl⟩ : ∃ (r : Fin 688) (y : Fin 1024), j = ix2 r y := ⟨j 0, j 1, funext fun a => match a with | ⟨0, _⟩ => rfl | ⟨1, _⟩ => rfl⟩
    rw [pay2_apply, rowB_eq]
    have h0 : row (blkOf t) r = (win0_5.blk t).view.emb (ix2 r y) 0 := Fin.ext (by
      show 688 * t.val + r.val = win0_5.index t 0 * 688 + 1 * r.val; omega)
    have h1 : y = (win0_5.blk t).view.emb (ix2 r y) 1 := Fin.ext (by
      show y.val = win0_5.index t 1 * 1024 + 1 * y.val; omega)
    unfold resN
    refine congr (congr (congrArg FfDown.nrm (congrArg (rowOut _ _ _) h0)) ?_) h1
    funext y; exact iblk3 m c t y
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_5 t, ?_⟩
    show i ∈ ((View.whole main_v0_1).slice (win0_5.rect t)).set
    rw [View.set_slice_whole, Rect.mem_set_unit]
    have e : t.val = (i 0).val / 688 := rfl
    intro a
    match a with
    | ⟨0, _⟩ => show win0_5.index t 0 * 688 ≤ (i 0).val ∧ (i 0).val < win0_5.index t 0 * 688 + 688; omega
    | ⟨1, _⟩ => show win0_5.index t 1 * 1024 ≤ (i 1).val ∧ (i 1).val < win0_5.index t 1 * 1024 + 1024; omega

/-- The run: the residual sum and its normalised rows, the arguments unchanged. -/
theorem run : θ_run defs (onTc (τ := τ) (main (F := Ideal))) ⟨m, fun _ => 0, ρ⟩ (fun r => ∀ c : Dev nD,
      r.2.mem ((c : Thread nD τ).loc main_v0_0) = resH (X0 m c) (X1 m c) (X2 m c)
      ∧ r.2.mem ((c : Thread nD τ).loc main_v0_1) = resN (X0 m c) (X1 m c) (X2 m c) (X3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (arr4 m c), (h c).2.1.trans (arr5 m c), (h c).2.2⟩) (Value.run_blocks m ρ)

end Cert.FfDownIdeal.Prod

namespace Cert.FfDownRefIdeal.Hand

open Idealize.ShloMosaic Idealize.ShloMosaic.TcCoe Idealize.ShloMosaic.Tactic Idealize.SL.Sem Idealize.ShloMosaic.StableHlo
open Cert.FfDownRefIdeal Cert.FfDownRefIdeal.Gen Cert.FfDownRefIdeal.Read
open Cert.FfDownIdeal.Prod (rowOut resH resN)

variable (x0 : Vec Ideal S2064x2816 .bf16) (x1 : Vec Ideal S2816x1024 .f32) (x2 : Vec Ideal S2064x1024 .f32) (x3 : Vec Ideal S1x1024 .f32)
variable (t : Fin 2064) (c : Fin 1024)

theorem v2_eq : val_main_v2 (F := Ideal) x0 x1 x2 (ix2 t c) = rowOut x0 x1 x2 t c := by
  pointwise [val_main_v2, val_main_v1, val_main_v0]
  exact add_comm _ _

theorem v10_eq : val_main_v10 (F := Ideal) x0 x1 x2 (ix2 t 0) = Rms.rs (rowOut x0 x1 x2 t) := by
  pointwise [val_main_v10, val_main_v9, val_main_v7, val_main_v5, val_main_v4, val_main_v3, val_main_v6, val_main_v8, val_main_cst, val_main_cst_0, val_main_cst_1]
  simp only [v2_eq]
  rfl

theorem v15_eq : val_main_v15 (F := Ideal) x0 x1 x2 x3 (ix2 t c) = FfDown.nrm (rowOut x0 x1 x2 t) (fun c => x3 (ix2 0 c)) c := by
  pointwise [val_main_v15, val_main_v14, val_main_v13, val_main_v12, val_main_v11]
  rw [v2_eq, v10_eq]
  rfl

theorem h_eq : val_main_v2 (F := Ideal) x0 x1 x2 = resH x0 x1 x2 := by
  funext i
  obtain ⟨t, y, rfl⟩ : ∃ (t : Fin 2064) (y : Fin 1024), i = ix2 t y := ⟨i 0, i 1, funext fun a => match a with | ⟨0, _⟩ => rfl | ⟨1, _⟩ => rfl⟩
  exact v2_eq x0 x1 x2 t y

theorem n_eq : val_main_v15 (F := Ideal) x0 x1 x2 x3 = resN x0 x1 x2 x3 := by
  funext i
  obtain ⟨t, y, rfl⟩ : ∃ (t : Fin 2064) (y : Fin 1024), i = ix2 t y := ⟨i 0, i 1, funext fun a => match a with | ⟨0, _⟩ => rfl | ⟨1, _⟩ => rfl⟩
  exact v15_eq x0 x1 x2 x3 t y

theorem algebraic : Cert.algebraic_FfDownIdeal_FfDownRefIdeal := by
  intro m g m' g' _ hag
  refine ⟨fun c => resH (Cert.FfDownIdeal.Prod.X0 m c) (Cert.FfDownIdeal.Prod.X1 m c) (Cert.FfDownIdeal.Prod.X2 m c),
    fun c => resN (Cert.FfDownIdeal.Prod.X0 m c) (Cert.FfDownIdeal.Prod.X1 m c) (Cert.FfDownIdeal.Prod.X2 m c) (Cert.FfDownIdeal.Prod.X3 m c),
    Cert.FfDownIdeal.Prod.run m g, (θ_run _ _ _).mono (fun r h c => ?_) (Cert.FfDownRefIdeal.Value.run (F := Ideal) m' g')⟩
  obtain ⟨h1, h2, h3⟩ := h c
  obtain ⟨e0, e1, e2, e3⟩ := hag c
  refine ⟨h1.trans ((val_main_v2_eq _ _ _).trans ?_), h2.trans ((val_main_v15_eq _ _ _ _).trans ?_), h3⟩
  · rw [h_eq, e0, e1, e2]
  · rw [n_eq, e0, e1, e2, e3]

end Cert.FfDownRefIdeal.Hand

end
-- ==== Proof.FwdProd.lean ====
/- A forward product of 2064 rows with the transpose of a weight, as a sum. -/
module

public import Idealize.ShloMosaic.Lib.Pointwise

@[expose] public section

noncomputable section

namespace FwdProd

open Idealize.ShloMosaic

/-- The product of a (2064, 1024) array with the transpose of an (n, 1024) array. -/
def nt {n : ℕ} (x : (⟨2, ![2064, 1024]⟩ : Shape).Idx → EReal) (w : (⟨2, ![n, 1024]⟩ : Shape).Idx → EReal) (i : (⟨2, ![2064, n]⟩ : Shape).Idx) : EReal :=
  ∑ k : Fin 1024, x (ix2 (i 0) k) * w (ix2 (i 1) k)

/-- An entry of a (688, b) block of the product: the block at row block `p` and column block `q`, from the operands' blocks there. -/
theorem nt_block {n b : ℕ} (x : (⟨2, ![2064, 1024]⟩ : Shape).Idx → EReal) (w : (⟨2, ![n, 1024]⟩ : Shape).Idx → EReal)
    (bx : (⟨2, ![688, 1024]⟩ : Shape).Idx → EReal) (bw : (⟨2, ![b, 1024]⟩ : Shape).Idx → EReal) (p q : ℕ)
    (hx : ∀ (r : Fin 688) (k : Fin 1024) (t : Fin 2064), t.val = p * 688 + r.val → bx (ix2 r k) = x (ix2 t k))
    (hw : ∀ (r : Fin b) (k : Fin 1024) (t : Fin n), t.val = q * b + r.val → bw (ix2 r k) = w (ix2 t k))
    (j : (⟨2, ![688, b]⟩ : Shape).Idx) (i : (⟨2, ![2064, n]⟩ : Shape).Idx) (h0 : (i 0).val = p * 688 + (j 0).val) (h1 : (i 1).val = q * b + (j 1).val) :
    ∑ k : Fin 1024, bx (ix2 (j 0) k) * bw (ix2 (j 1) k) = nt x w i :=
  Finset.sum_congr rfl fun k _ => congrArg₂ (· * ·) (hx (j 0) k (i 0) h0) (hw (j 1) k (i 1) h1)

end FwdProd

end
-- ==== Proof.EvInValue.lean ====
/- The even layer's input product: every grid point stores a 688 × 1280 block of it over the whole contraction. -/
module

public import proofs.«01_k».proof.Proof.FwdProd
public import proofs.«01_k».proof.Proof.Gen.EvInIdeal.Value
public import proofs.«01_k».proof.Proof.Gen.EvInRefIdeal.Run
public import proofs.«01_k».proof.Proof.Gen.EvInRefIdeal.Read
public import Idealize.ShloMosaic.Lib.Pointwise
public import proofs.«01_k».proof.Defs

@[expose] public section

set_option maxRecDepth 16384

noncomputable section

namespace Cert.EvInIdeal.Prod

open Cert.EvInIdeal Cert.EvInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : S2064x1024.Idx → EReal := (m ((c : Thread nD τ).loc main_arg0) :)
abbrev W : S2560x1024.Idx → EReal := (m ((c : Thread nD τ).loc main_arg1) :)

/-- The blocks of a point: rows of the left operand, rows of the weight, and the result's block of both. -/
theorem idx : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

theorem points : ∀ a : Fin 3, ∀ b : Fin 2, ∃ t : Fin cfg0.N, win0_2.index t 0 = a.val ∧ win0_2.index t 1 = b.val :=
  (by decide +kernel : ∀ a : Fin 3, ∀ b : Fin 2, ∃ t : Fin grid0.N, win0_2.index t 0 = a.val ∧ win0_2.index t 1 = b.val)

theorem pay (x : Vec Ideal S688x1024 .bf16) (w : Vec Ideal S1280x1024 .f32) (j : S688x1280.Idx) :
    k0_pay1 x w j = ∑ k : Fin 1024, x (ix2 (j 0) k) * w (ix2 (j 1) k) := by
  pointwise [k0_pay1]

theorem left (t : Fin cfg0.N) (r : Fin 688) (k : Fin 1024) (s : Fin 2064) (h : s.val = win0_2.index t 0 * 688 + r.val) :
    (iblk m c 0 t : Vec Ideal S688x1024 .bf16) (ix2 r k) = X m c (ix2 s k) := by
  have := idx t
  unfold iblk
  rw [View.read_apply]
  refine congrArg (X m c) (funext fun a => Fin.ext ?_)
  match a with
  | ⟨0, _⟩ => show win0_0.index t 0 * 688 + 1 * r.val = s.val; omega
  | ⟨1, _⟩ => show win0_0.index t 1 * 1024 + 1 * k.val = k.val; omega

theorem right (t : Fin cfg0.N) (r : Fin 1280) (k : Fin 1024) (s : Fin 2560) (h : s.val = win0_2.index t 1 * 1280 + r.val) :
    (iblk m c 1 t : Vec Ideal S1280x1024 .f32) (ix2 r k) = W m c (ix2 s k) := by
  have := idx t
  unfold iblk
  rw [View.read_apply]
  refine congrArg (W m c) (funext fun a => Fin.ext ?_)
  match a with
  | ⟨0, _⟩ => show win0_1.index t 0 * 1280 + 1 * r.val = s.val; omega
  | ⟨1, _⟩ => show win0_1.index t 1 * 1024 + 1 * k.val = k.val; omega

/-- The result array after the run. -/
theorem final : (dats m 0 c).arrAt 2 cfg0.N = FwdProd.nt (X m c) (W m c) := by
  have hz : (![0, 0] : Fin 2 → Nat) = fun _ => 0 := funext fun a => by fin_cases a <;> rfl
  refine (dats m 0 c).arrAt_eq_of_cover 2 (FwdProd.nt (X m c) (W m c)) (fun t _ => ?_) fun i => ?_
  · rw [Value.flushed2]
    unfold out0_2
    rw [View.canon_unit_zero hz, View.ld_unit_zero hz, View.ld_unit_zero hz]
    funext j
    rw [View.read_apply]
    show k0_pay1 (iblk m c 0 t) (iblk m c 1 t) j = _
    rw [pay]
    refine FwdProd.nt_block (X m c) (W m c) _ _ (win0_2.index t 0) (win0_2.index t 1) (left m c t) (right m c t) j ((win0_2.blk t).view.emb j) ?_ ?_
    · show win0_2.index t 0 * 688 + 1 * (j 0).val = _; omega
    · show win0_2.index t 1 * 1280 + 1 * (j 1).val = _; omega
  · have h0 : (i 0).val < 2064 := (i 0).isLt
    have h1 : (i 1).val < 2560 := (i 1).isLt
    obtain ⟨t, e0, e1⟩ := points ⟨(i 0).val / 688, by omega⟩ ⟨(i 1).val / 1280, by omega⟩
    refine ⟨t, flush0_2 t, ?_⟩
    show i ∈ ((View.whole main_v0).slice (win0_2.rect t)).set
    rw [View.set_slice_whole, Rect.mem_set_unit]
    dsimp only at e0 e1
    intro a
    match a with
    | ⟨0, _⟩ => show win0_2.index t 0 * 688 ≤ (i 0).val ∧ (i 0).val < win0_2.index t 0 * 688 + 688; omega
    | ⟨1, _⟩ => show win0_2.index t 1 * 1280 ≤ (i 1).val ∧ (i 1).val < win0_2.index t 1 * 1280 + 1280; omega

theorem ref_eq (x : S2064x1024.Idx → EReal) (w : S2560x1024.Idx → EReal) : Cert.EvInRefIdeal.Read.val_main_v2 (F := Ideal) x w = FwdProd.nt x w := by
  funext i
  obtain ⟨t, y, rfl⟩ : ∃ (t : Fin 2064) (y : Fin 2560), i = ix2 t y := ⟨i 0, i 1, funext fun a => match a with | ⟨0, _⟩ => rfl | ⟨1, _⟩ => rfl⟩
  pointwise [Cert.EvInRefIdeal.Read.val_main_v2, Cert.EvInRefIdeal.Read.val_main_v1, Cert.EvInRefIdeal.Read.val_main_v0]
  rfl

theorem algebraic : Cert.algebraic_EvInIdeal_EvInRefIdeal := fun m ρ m' ρ' _ hag =>
  ⟨fun c => FwdProd.nt (X m c) (W m c), (θ_run defs _ _).mono (fun _ h c => ⟨(h c).1.trans (final m c), (h c).2⟩) (Value.run_blocks m ρ),
    (θ_run _ _ _).mono (fun _ h c => ⟨(h c).1.trans (by rw [(hag c).1, (hag c).2]; exact ref_eq _ _), (h c).2⟩) (Cert.EvInRefIdeal.Value.run (F := Ideal) m' ρ')⟩

end Cert.EvInIdeal.Prod

end
-- ==== Proof.AttInValue.lean ====
/- The attention's part of the odd layer's input product: every grid point stores a 688 × 768 block of it over the whole contraction. -/
module

public import proofs.«01_k».proof.Proof.FwdProd
public import proofs.«01_k».proof.Proof.Gen.AttInIdeal.Value
public import proofs.«01_k».proof.Proof.Gen.AttInRefIdeal.Run
public import proofs.«01_k».proof.Proof.Gen.AttInRefIdeal.Read
public import Idealize.ShloMosaic.Lib.Pointwise
public import proofs.«01_k».proof.Defs

@[expose] public section

set_option maxRecDepth 16384

noncomputable section

namespace Cert.AttInIdeal.Prod

open Cert.AttInIdeal Cert.AttInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : S2064x1024.Idx → EReal := (m ((c : Thread nD τ).loc main_arg0) :)
abbrev W : S768x1024.Idx → EReal := (m ((c : Thread nD τ).loc main_arg1) :)

/-- The blocks of a point: rows of the left operand, rows of the weight, and the result's block of both. -/
theorem idx : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

theorem points : ∀ a : Fin 3, ∀ b : Fin 1, ∃ t : Fin cfg0.N, win0_2.index t 0 = a.val ∧ win0_2.index t 1 = b.val :=
  (by decide +kernel : ∀ a : Fin 3, ∀ b : Fin 1, ∃ t : Fin grid0.N, win0_2.index t 0 = a.val ∧ win0_2.index t 1 = b.val)

theorem pay (x : Vec Ideal S688x1024 .bf16) (w : Vec Ideal S768x1024 .f32) (j : S688x768.Idx) :
    k0_pay1 x w j = ∑ k : Fin 1024, x (ix2 (j 0) k) * w (ix2 (j 1) k) := by
  pointwise [k0_pay1]

theorem left (t : Fin cfg0.N) (r : Fin 688) (k : Fin 1024) (s : Fin 2064) (h : s.val = win0_2.index t 0 * 688 + r.val) :
    (iblk m c 0 t : Vec Ideal S688x1024 .bf16) (ix2 r k) = X m c (ix2 s k) := by
  have := idx t
  unfold iblk
  rw [View.read_apply]
  refine congrArg (X m c) (funext fun a => Fin.ext ?_)
  match a with
  | ⟨0, _⟩ => show win0_0.index t 0 * 688 + 1 * r.val = s.val; omega
  | ⟨1, _⟩ => show win0_0.index t 1 * 1024 + 1 * k.val = k.val; omega

theorem right (t : Fin cfg0.N) (r : Fin 768) (k : Fin 1024) (s : Fin 768) (h : s.val = win0_2.index t 1 * 768 + r.val) :
    (iblk m c 1 t : Vec Ideal S768x1024 .f32) (ix2 r k) = W m c (ix2 s k) := by
  have := idx t
  unfold iblk
  rw [View.read_apply]
  refine congrArg (W m c) (funext fun a => Fin.ext ?_)
  match a with
  | ⟨0, _⟩ => show win0_1.index t 0 * 768 + 1 * r.val = s.val; omega
  | ⟨1, _⟩ => show win0_1.index t 1 * 1024 + 1 * k.val = k.val; omega

/-- The result array after the run. -/
theorem final : (dats m 0 c).arrAt 2 cfg0.N = FwdProd.nt (X m c) (W m c) := by
  have hz : (![0, 0] : Fin 2 → Nat) = fun _ => 0 := funext fun a => by fin_cases a <;> rfl
  refine (dats m 0 c).arrAt_eq_of_cover 2 (FwdProd.nt (X m c) (W m c)) (fun t _ => ?_) fun i => ?_
  · rw [Value.flushed2]
    unfold out0_2
    rw [View.canon_unit_zero hz, View.ld_unit_zero hz, View.ld_unit_zero hz]
    funext j
    rw [View.read_apply]
    show k0_pay1 (iblk m c 0 t) (iblk m c 1 t) j = _
    rw [pay]
    refine FwdProd.nt_block (X m c) (W m c) _ _ (win0_2.index t 0) (win0_2.index t 1) (left m c t) (right m c t) j ((win0_2.blk t).view.emb j) ?_ ?_
    · show win0_2.index t 0 * 688 + 1 * (j 0).val = _; omega
    · show win0_2.index t 1 * 768 + 1 * (j 1).val = _; omega
  · have h0 : (i 0).val < 2064 := (i 0).isLt
    have h1 : (i 1).val < 768 := (i 1).isLt
    obtain ⟨t, e0, e1⟩ := points ⟨(i 0).val / 688, by omega⟩ ⟨(i 1).val / 768, by omega⟩
    refine ⟨t, flush0_2 t, ?_⟩
    show i ∈ ((View.whole main_v0).slice (win0_2.rect t)).set
    rw [View.set_slice_whole, Rect.mem_set_unit]
    dsimp only at e0 e1
    intro a
    match a with
    | ⟨0, _⟩ => show win0_2.index t 0 * 688 ≤ (i 0).val ∧ (i 0).val < win0_2.index t 0 * 688 + 688; omega
    | ⟨1, _⟩ => show win0_2.index t 1 * 768 ≤ (i 1).val ∧ (i 1).val < win0_2.index t 1 * 768 + 768; omega

theorem ref_eq (x : S2064x1024.Idx → EReal) (w : S768x1024.Idx → EReal) : Cert.AttInRefIdeal.Read.val_main_v2 (F := Ideal) x w = FwdProd.nt x w := by
  funext i
  obtain ⟨t, y, rfl⟩ : ∃ (t : Fin 2064) (y : Fin 768), i = ix2 t y := ⟨i 0, i 1, funext fun a => match a with | ⟨0, _⟩ => rfl | ⟨1, _⟩ => rfl⟩
  pointwise [Cert.AttInRefIdeal.Read.val_main_v2, Cert.AttInRefIdeal.Read.val_main_v1, Cert.AttInRefIdeal.Read.val_main_v0]
  rfl

theorem algebraic : Cert.algebraic_AttInIdeal_AttInRefIdeal := fun m ρ m' ρ' _ hag =>
  ⟨fun c => FwdProd.nt (X m c) (W m c), (θ_run defs _ _).mono (fun _ h c => ⟨(h c).1.trans (final m c), (h c).2⟩) (Value.run_blocks m ρ),
    (θ_run _ _ _).mono (fun _ h c => ⟨(h c).1.trans (by rw [(hag c).1, (hag c).2]; exact ref_eq _ _), (h c).2⟩) (Cert.AttInRefIdeal.Value.run (F := Ideal) m' ρ')⟩

end Cert.AttInIdeal.Prod

end
-- ==== Proof.RwkvInValue.lean ====
/- The recurrence's part of the odd layer's input product: every grid point stores a 688 × 896 block of it over the whole contraction. -/
module

public import proofs.«01_k».proof.Proof.FwdProd
public import proofs.«01_k».proof.Proof.Gen.RwkvInIdeal.Value
public import proofs.«01_k».proof.Proof.Gen.RwkvInRefIdeal.Run
public import proofs.«01_k».proof.Proof.Gen.RwkvInRefIdeal.Read
public import Idealize.ShloMosaic.Lib.Pointwise
public import proofs.«01_k».proof.Defs

@[expose] public section

set_option maxRecDepth 16384

noncomputable section

namespace Cert.RwkvInIdeal.Prod

open Cert.RwkvInIdeal Cert.RwkvInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : S2064x1024.Idx → EReal := (m ((c : Thread nD τ).loc main_arg0) :)
abbrev W : S1792x1024.Idx → EReal := (m ((c : Thread nD τ).loc main_arg1) :)

/-- The blocks of a point: rows of the left operand, rows of the weight, and the result's block of both. -/
theorem idx : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

theorem points : ∀ a : Fin 3, ∀ b : Fin 2, ∃ t : Fin cfg0.N, win0_2.index t 0 = a.val ∧ win0_2.index t 1 = b.val :=
  (by decide +kernel : ∀ a : Fin 3, ∀ b : Fin 2, ∃ t : Fin grid0.N, win0_2.index t 0 = a.val ∧ win0_2.index t 1 = b.val)

theorem pay (x : Vec Ideal S688x1024 .bf16) (w : Vec Ideal S896x1024 .f32) (j : S688x896.Idx) :
    k0_pay1 x w j = ∑ k : Fin 1024, x (ix2 (j 0) k) * w (ix2 (j 1) k) := by
  pointwise [k0_pay1]

theorem left (t : Fin cfg0.N) (r : Fin 688) (k : Fin 1024) (s : Fin 2064) (h : s.val = win0_2.index t 0 * 688 + r.val) :
    (iblk m c 0 t : Vec Ideal S688x1024 .bf16) (ix2 r k) = X m c (ix2 s k) := by
  have := idx t
  unfold iblk
  rw [View.read_apply]
  refine congrArg (X m c) (funext fun a => Fin.ext ?_)
  match a with
  | ⟨0, _⟩ => show win0_0.index t 0 * 688 + 1 * r.val = s.val; omega
  | ⟨1, _⟩ => show win0_0.index t 1 * 1024 + 1 * k.val = k.val; omega

theorem right (t : Fin cfg0.N) (r : Fin 896) (k : Fin 1024) (s : Fin 1792) (h : s.val = win0_2.index t 1 * 896 + r.val) :
    (iblk m c 1 t : Vec Ideal S896x1024 .f32) (ix2 r k) = W m c (ix2 s k) := by
  have := idx t
  unfold iblk
  rw [View.read_apply]
  refine congrArg (W m c) (funext fun a => Fin.ext ?_)
  match a with
  | ⟨0, _⟩ => show win0_1.index t 0 * 896 + 1 * r.val = s.val; omega
  | ⟨1, _⟩ => show win0_1.index t 1 * 1024 + 1 * k.val = k.val; omega

/-- The result array after the run. -/
theorem final : (dats m 0 c).arrAt 2 cfg0.N = FwdProd.nt (X m c) (W m c) := by
  have hz : (![0, 0] : Fin 2 → Nat) = fun _ => 0 := funext fun a => by fin_cases a <;> rfl
  refine (dats m 0 c).arrAt_eq_of_cover 2 (FwdProd.nt (X m c) (W m c)) (fun t _ => ?_) fun i => ?_
  · rw [Value.flushed2]
    unfold out0_2
    rw [View.canon_unit_zero hz, View.ld_unit_zero hz, View.ld_unit_zero hz]
    funext j
    rw [View.read_apply]
    show k0_pay1 (iblk m c 0 t) (iblk m c 1 t) j = _
    rw [pay]
    refine FwdProd.nt_block (X m c) (W m c) _ _ (win0_2.index t 0) (win0_2.index t 1) (left m c t) (right m c t) j ((win0_2.blk t).view.emb j) ?_ ?_
    · show win0_2.index t 0 * 688 + 1 * (j 0).val = _; omega
    · show win0_2.index t 1 * 896 + 1 * (j 1).val = _; omega
  · have h0 : (i 0).val < 2064 := (i 0).isLt
    have h1 : (i 1).val < 1792 := (i 1).isLt
    obtain ⟨t, e0, e1⟩ := points ⟨(i 0).val / 688, by omega⟩ ⟨(i 1).val / 896, by omega⟩
    refine ⟨t, flush0_2 t, ?_⟩
    show i ∈ ((View.whole main_v0).slice (win0_2.rect t)).set
    rw [View.set_slice_whole, Rect.mem_set_unit]
    dsimp only at e0 e1
    intro a
    match a with
    | ⟨0, _⟩ => show win0_2.index t 0 * 688 ≤ (i 0).val ∧ (i 0).val < win0_2.index t 0 * 688 + 688; omega
    | ⟨1, _⟩ => show win0_2.index t 1 * 896 ≤ (i 1).val ∧ (i 1).val < win0_2.index t 1 * 896 + 896; omega

theorem ref_eq (x : S2064x1024.Idx → EReal) (w : S1792x1024.Idx → EReal) : Cert.RwkvInRefIdeal.Read.val_main_v2 (F := Ideal) x w = FwdProd.nt x w := by
  funext i
  obtain ⟨t, y, rfl⟩ : ∃ (t : Fin 2064) (y : Fin 1792), i = ix2 t y := ⟨i 0, i 1, funext fun a => match a with | ⟨0, _⟩ => rfl | ⟨1, _⟩ => rfl⟩
  pointwise [Cert.RwkvInRefIdeal.Read.val_main_v2, Cert.RwkvInRefIdeal.Read.val_main_v1, Cert.RwkvInRefIdeal.Read.val_main_v0]
  rfl

theorem algebraic : Cert.algebraic_RwkvInIdeal_RwkvInRefIdeal := fun m ρ m' ρ' _ hag =>
  ⟨fun c => FwdProd.nt (X m c) (W m c), (θ_run defs _ _).mono (fun _ h c => ⟨(h c).1.trans (final m c), (h c).2⟩) (Value.run_blocks m ρ),
    (θ_run _ _ _).mono (fun _ h c => ⟨(h c).1.trans (by rw [(hag c).1, (hag c).2]; exact ref_eq _ _), (h c).2⟩) (Cert.RwkvInRefIdeal.Value.run (F := Ideal) m' ρ')⟩

end Cert.RwkvInIdeal.Prod

end
-- ==== Proof.FfLastValue.lean ====
/- The last feed-forward layer's down product with the residual sum: every grid point stores 688 rows of it. -/
module

public import proofs.«01_k».proof.Proof.FfDownValue
public import proofs.«01_k».proof.Proof.Gen.FfLastIdeal.Value
public import proofs.«01_k».proof.Proof.Gen.FfLastRefIdeal.Run
public import proofs.«01_k».proof.Proof.Gen.FfLastRefIdeal.Read
public import Idealize.ShloMosaic.Lib.Pointwise
public import proofs.«01_k».proof.Defs

@[expose] public section

set_option maxRecDepth 16384

noncomputable section

namespace Cert.FfLastIdeal.Prod

open Cert.FfLastIdeal Cert.FfLastIdeal.Gen Idealize.ShloMosaic Idealize.ShloMosaic.TcCoe Idealize.SL.Sem
open Idealize.ShloMosaic.Pipeline (Dat)
open Cert.FfDownIdeal.Prod (resH)

variable (m : (ℓ : Loc nD τ sig) → Buf (Elt Ideal) ℓ) (ρ : Dev nD → PrngReg) (c : Dev nD)

abbrev X : S2064x2816.Idx → EReal := (m ((c : Thread nD τ).loc main_arg0) :)
abbrev W : S2816x1024.Idx → EReal := (m ((c : Thread nD τ).loc main_arg1) :)
abbrev H : S2064x1024.Idx → EReal := (m ((c : Thread nD τ).loc main_arg2) :)

theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0))

theorem pay (x : Vec Ideal S688x2816 .bf16) (w : Vec Ideal S2816x1024 .f32) (h : Vec Ideal S688x1024 .f32) (r : Fin 688) (y : Fin 1024) :
    k0_pay1 x w h (ix2 r y) = ∑ k : Fin 2816, x (ix2 r k) * w (ix2 k y) + h (ix2 r y) := by
  pointwise [k0_pay1]

theorem left (t : Fin cfg0.N) (r : Fin 688) (k : Fin 2816) (s : Fin 2064) (h : s.val = t.val * 688 + r.val) :
    (iblk m c 0 t : Vec Ideal S688x2816 .bf16) (ix2 r k) = X m c (ix2 s k) := by
  have := idx t
  unfold iblk
  rw [View.read_apply]
  refine congrArg (X m c) (funext fun a => Fin.ext ?_)
  match a with
  | ⟨0, _⟩ => show win0_0.index t 0 * 688 + 1 * r.val = s.val; omega
  | ⟨1, _⟩ => show win0_0.index t 1 * 2816 + 1 * k.val = k.val; omega

theorem right (t : Fin cfg0.N) (k : Fin 2816) (y : Fin 1024) : (iblk m c 1 t : Vec Ideal S2816x1024 .f32) (ix2 k y) = W m c (ix2 k y) := by
  have := idx t
  unfold iblk
  rw [View.read_apply]
  refine congrArg (W m c) (funext fun a => Fin.ext ?_)
  match a with
  | ⟨0, _⟩ => show win0_1.index t 0 * 2816 + 1 * k.val = k.val; omega
  | ⟨1, _⟩ => show win0_1.index t 1 * 1024 + 1 * y.val = y.val; omega

theorem resid (t : Fin cfg0.N) (r : Fin 688) (y : Fin 1024) (s : Fin 2064) (h : s.val = t.val * 688 + r.val) :
    (iblk m c 2 t : Vec Ideal S688x1024 .f32) (ix2 r y) = H m c (ix2 s y) := by
  have := idx t
  unfold iblk
  rw [View.read_apply]
  refine congrArg (H m c) (funext fun a => Fin.ext ?_)
  match a with
  | ⟨0, _⟩ => show win0_2.index t 0 * 688 + 1 * r.val = s.val; omega
  | ⟨1, _⟩ => show win0_2.index t 1 * 1024 + 1 * y.val = y.val; omega

/-- The result array after the run. -/
theorem final : (dats m 0 c).arrAt 3 cfg0.N = resH (X m c) (W m c) (H m c) := by
  have hz : (![0, 0] : Fin 2 → Nat) = fun _ => 0 := funext fun a => by fin_cases a <;> rfl
  refine (dats m 0 c).arrAt_eq_of_cover 3 (resH (X m c) (W m c) (H m c)) (fun t _ => ?_) fun i => ?_
  · have := idx t
    have hN : t.val < 3 := lt_of_lt_of_eq t.isLt N_0
    rw [Value.flushed3]
    unfold out0_3
    rw [View.canon_unit_zero hz, View.ld_unit_zero hz, View.ld_unit_zero hz, View.ld_unit_zero hz]
    funext j
    rw [View.read_apply]
    show k0_pay1 (iblk m c 0 t) (iblk m c 1 t) (iblk m c 2 t) j = _
    obtain ⟨r, y, rfl⟩ : ∃ (r : Fin 688) (y : Fin 1024), j = ix2 r y := ⟨j 0, j 1, funext fun a => match a with | ⟨0, _⟩ => rfl | ⟨1, _⟩ => rfl⟩
    rw [pay]
    have e : (win0_3.blk t).view.emb (ix2 r y) = ix2 (⟨t.val * 688 + r.val, by omega⟩ : Fin 2064) y := funext fun a => Fin.ext (by
      match a with
      | ⟨0, _⟩ => show win0_3.index t 0 * 688 + 1 * r.val = t.val * 688 + r.val; omega
      | ⟨1, _⟩ => show win0_3.index t 1 * 1024 + 1 * y.val = y.val; omega)
    refine Eq.trans ?_ (congrArg (resH (X m c) (W m c) (H m c)) e.symm)
    exact congrArg₂ (· + ·) (Finset.sum_congr rfl fun k _ => congrArg₂ (· * ·) (left m c t r k _ rfl) (right m c t k y)) (resid m c t r y _ rfl)
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_3 t, ?_⟩
    show i ∈ ((View.whole main_v0).slice (win0_3.rect t)).set
    rw [View.set_slice_whole, Rect.mem_set_unit]
    have e : t.val = (i 0).val / 688 := rfl
    intro a
    match a with
    | ⟨0, _⟩ => show win0_3.index t 0 * 688 ≤ (i 0).val ∧ (i 0).val < win0_3.index t 0 * 688 + 688; omega
    | ⟨1, _⟩ => show win0_3.index t 1 * 1024 ≤ (i 1).val ∧ (i 1).val < win0_3.index t 1 * 1024 + 1024; omega

theorem algebraic : Cert.algebraic_FfLastIdeal_FfLastRefIdeal := by
  intro m g m' g' _ hag
  refine ⟨fun c => resH (X m c) (W m c) (H m c), (θ_run defs _ _).mono (fun _ h c => ⟨(h c).1.trans (final m c), (h c).2⟩) (Value.run_blocks m g),
    (θ_run _ _ _).mono (fun _ h c => ⟨(h c).1.trans ?_, (h c).2⟩) (Cert.FfLastRefIdeal.Value.run (F := Ideal) m' g')⟩
  rw [(hag c).1, (hag c).2.1, (hag c).2.2]
  exact Cert.FfDownRefIdeal.Hand.h_eq (X m c) (W m c) (H m c)

end Cert.FfLastIdeal.Prod

end
-- ==== Proof.EvOutValue.lean ====
/- The even layer's output product with what follows it: every grid point stores 688 rows of the residual sum, and the same
   rows normalised. -/
module

public import proofs.«01_k».proof.Proof.FfDownValue
public import proofs.«01_k».proof.Proof.Gen.EvOutIdeal.Value
public import proofs.«01_k».proof.Proof.Gen.EvOutRefIdeal.Run
public import proofs.«01_k».proof.Proof.Gen.EvOutRefIdeal.Read
public import Idealize.ShloMosaic.Lib.Pointwise
public import proofs.«01_k».proof.Defs

@[expose] public section

set_option maxRecDepth 16384

noncomputable section

namespace Cert.EvOutIdeal.Prod

open Cert.EvOutIdeal Cert.EvOutIdeal.Gen Idealize.ShloMosaic Idealize.ShloMosaic.TcCoe Idealize.SL.Sem
open Idealize.ShloMosaic.Pipeline (Dat)
open _root_.Rms (row)

/-- A row of the residual sum. -/
def out (y : S2064x1024.Idx → EReal) (w : S1024x1024.Idx → EReal) (h : S2064x1024.Idx → EReal) (t : Fin 2064) (c : Fin 1024) : EReal :=
  ∑ k : Fin 1024, y (ix2 t k) * w (ix2 k c) + h (ix2 t c)
def resH (y : S2064x1024.Idx → EReal) (w : S1024x1024.Idx → EReal) (h : S2064x1024.Idx → EReal) (i : S2064x1024.Idx) : EReal := out y w h (i 0) (i 1)
def resN (y : S2064x1024.Idx → EReal) (w : S1024x1024.Idx → EReal) (h : S2064x1024.Idx → EReal) (g : S1x1024.Idx → EReal) (i : S2064x1024.Idx) : EReal :=
  FfDown.nrm (out y w h (i 0)) (fun c => g (ix2 0 c)) (i 1)

variable (m : (ℓ : Loc nD τ sig) → Buf (Elt Ideal) ℓ) (ρ : Dev nD → PrngReg) (c : Dev nD) (t : Fin cfg0.N) (r : Fin 688)

abbrev Y : S2064x1024.Idx → EReal := (m ((c : Thread nD τ).loc main_arg0) :)
abbrev W : S1024x1024.Idx → EReal := (m ((c : Thread nD τ).loc main_arg1) :)
abbrev H : S2064x1024.Idx → EReal := (m ((c : Thread nD τ).loc main_arg2) :)
abbrev G : S1x1024.Idx → EReal := (m ((c : Thread nD τ).loc main_arg3) :)

def blkOf : Fin 3 := ⟨t.val, lt_of_lt_of_eq t.isLt N_0⟩

theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0))

theorem iblk0 (k : Fin 1024) : (iblk m c 0 t : Vec Ideal S688x1024 .bf16) (ix2 r k) = Y m c (ix2 (row (blkOf t) r) k) := by
  have := idx t
  unfold iblk
  rw [View.read_apply]
  refine congrArg (Y m c) (funext fun a => Fin.ext ?_)
  match a with
  | ⟨0, _⟩ => show win0_0.index t 0 * 688 + 1 * r.val = 688 * t.val + r.val; omega
  | ⟨1, _⟩ => show win0_0.index t 1 * 1024 + 1 * k.val = k.val; omega

theorem iblk1 (k y : Fin 1024) : (iblk m c 1 t : Vec Ideal S1024x1024 .f32) (ix2 k y) = W m c (ix2 k y) := by
  have := idx t
  unfold iblk
  rw [View.read_apply]
  refine congrArg (W m c) (funext fun a => Fin.ext ?_)
  match a with
  | ⟨0, _⟩ => show win0_1.index t 0 * 1024 + 1 * k.val = k.val; omega
  | ⟨1, _⟩ => show win0_1.index t 1 * 1024 + 1 * y.val = y.val; omega

theorem iblk2 (y : Fin 1024) : (iblk m c 2 t : Vec Ideal S688x1024 .f32) (ix2 r y) = H m c (ix2 (row (blkOf t) r) y) := by
  have := idx t
  unfold iblk
  rw [View.read_apply]
  refine congrArg (H m c) (funext fun a => Fin.ext ?_)
  match a with
  | ⟨0, _⟩ => show win0_2.index t 0 * 688 + 1 * r.val = 688 * t.val + r.val; omega
  | ⟨1, _⟩ => show win0_2.index t 1 * 1024 + 1 * y.val = y.val; omega

theorem iblk3 (y : Fin 1024) : (iblk m c 3 t : Vec Ideal S1x1024 .f32) (ix2 0 y) = G m c (ix2 0 y) := by
  have := idx t
  unfold iblk
  rw [View.read_apply]
  refine congrArg (G m c) (funext fun a => Fin.ext ?_)
  match a with
  | ⟨0, _⟩ => show win0_3.index t 0 * 1 + 1 * 0 = 0; omega
  | ⟨1, _⟩ => show win0_3.index t 1 * 1024 + 1 * y.val = y.val; omega

/-- A point's stored row, -/
theorem pay1 : (fun y => k0_pay1 (F := Ideal) (iblk m c 0 t) (iblk m c 1 t) (iblk m c 2 t) (ix2 r y)) = out (Y m c) (W m c) (H m c) (row (blkOf t) r) := by
  funext y
  pointwise [k0_pay1]
  exact congrArg₂ (· + ·) (Finset.sum_congr rfl fun k _ => congrArg₂ (· * ·) (iblk0 m c t r k) (iblk1 m c t k y)) (iblk2 m c t r y)

/-- and the row normalised. -/
theorem pay2 (y : Fin 1024) : k0_pay2 (F := Ideal) (iblk m c 0 t) (iblk m c 1 t) (iblk m c 2 t) (iblk m c 3 t) (ix2 r y)
    = FfDown.nrm (out (Y m c) (W m c) (H m c) (row (blkOf t) r)) (fun y => G m c (ix2 0 y)) y := by
  rw [← pay1 m c t r]
  refine Eq.trans ?_ (congrArg (fun g => FfDown.nrm _ g y) (funext fun y => iblk3 m c t y))
  pointwise [k0_pay2]
  rfl

/-- Where a block's entry lies in a result, for the two results' windows alike. -/
theorem emb (i : S2064x1024.Idx) (y : Fin 1024) (h0 : (i 0).val = t.val * 688 + 1 * r.val) (h1 : (i 1).val = 0 * 1024 + 1 * y.val) :
    i = ix2 (row (blkOf t) r) y := funext fun a => Fin.ext (by
  match a with
  | ⟨0, _⟩ => show (i 0).val = 688 * t.val + r.val; omega
  | ⟨1, _⟩ => show (i 1).val = y.val; omega)

theorem arr4 : (dats m 0 c).arrAt 4 cfg0.N = resH (Y m c) (W m c) (H m c) := by
  have hz : (![0, 0] : Fin 2 → Nat) = fun _ => 0 := funext fun a => by fin_cases a <;> rfl
  refine (dats m 0 c).arrAt_eq_of_cover 4 (resH (Y m c) (W m c) (H m c)) (fun t _ => ?_) fun i => ?_
  · obtain ⟨-, -, -, -, ⟨e0, e1⟩, -⟩ := idx t
    rw [Value.flushed4]
    unfold out0_4
    rw [View.canon_unit_zero hz, View.ld_unit_zero hz, View.ld_unit_zero hz, View.ld_unit_zero hz]
    funext j
    rw [View.read_apply]
    show k0_pay1 (iblk m c 0 t) (iblk m c 1 t) (iblk m c 2 t) j = _
    obtain ⟨r, y, rfl⟩ : ∃ (r : Fin 688) (y : Fin 1024), j = ix2 r y := ⟨j 0, j 1, funext fun a => match a with | ⟨0, _⟩ => rfl | ⟨1, _⟩ => rfl⟩
    rw [emb t r ((win0_4.blk t).view.emb (ix2 r y)) y (by rw [← e0]; rfl) (by rw [← e1]; rfl)]
    exact congrFun (pay1 m c t r) y
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_4 t, ?_⟩
    show i ∈ ((View.whole main_v0_0).slice (win0_4.rect t)).set
    rw [View.set_slice_whole, Rect.mem_set_unit]
    have e : t.val = (i 0).val / 688 := rfl
    intro a
    match a with
    | ⟨0, _⟩ => show win0_4.index t 0 * 688 ≤ (i 0).val ∧ (i 0).val < win0_4.index t 0 * 688 + 688; omega
    | ⟨1, _⟩ => show win0_4.index t 1 * 1024 ≤ (i 1).val ∧ (i 1).val < win0_4.index t 1 * 1024 + 1024; omega

theorem arr5 : (dats m 0 c).arrAt 5 cfg0.N = resN (Y m c) (W m c) (H m c) (G m c) := by
  have hz : (![0, 0] : Fin 2 → Nat) = fun _ => 0 := funext fun a => by fin_cases a <;> rfl
  refine (dats m 0 c).arrAt_eq_of_cover 5 (resN (Y m c) (W m c) (H m c) (G m c)) (fun t _ => ?_) fun i => ?_
  · obtain ⟨-, -, -, -, -, ⟨e0, e1⟩⟩ := idx t
    rw [Value.flushed5]
    unfold out0_5
    rw [View.canon_unit_zero hz, View.ld_unit_zero hz, View.ld_unit_zero hz, View.ld_unit_zero hz, View.ld_unit_zero hz]
    funext j
    rw [View.read_apply]
    show k0_pay2 (iblk m c 0 t) (iblk m c 1 t) (iblk m c 2 t) (iblk m c 3 t) j = _
    obtain ⟨r, y, rfl⟩ : ∃ (r : Fin 688) (y : Fin 1024), j = ix2 r y := ⟨j 0, j 1, funext fun a => match a with | ⟨0, _⟩ => rfl | ⟨1, _⟩ => rfl⟩
    rw [emb t r ((win0_5.blk t).view.emb (ix2 r y)) y (by rw [← e0]; rfl) (by rw [← e1]; rfl)]
    exact pay2 m c t r y
  · have h0 : (i 0).val < 2064 := (i 0).isLt
    have h1 : (i 1).val < 1024 := (i 1).isLt
    have hN : cfg0.N = 3 := N_0
    let t : Fin cfg0.N := ⟨(i 0).val / 688, by omega⟩
    have ht := idx t
    refine ⟨t, flush0_5 t, ?_⟩
    show i ∈ ((View.whole main_v0_1).slice (win0_5.rect t)).set
    rw [View.set_slice_whole, Rect.mem_set_unit]
    have e : t.val = (i 0).val / 688 := rfl
    intro a
    match a with
    | ⟨0, _⟩ => show win0_5.index t 0 * 688 ≤ (i 0).val ∧ (i 0).val < win0_5.index t 0 * 688 + 688; omega
    | ⟨1, _⟩ => show win0_5.index t 1 * 1024 ≤ (i 1).val ∧ (i 1).val < win0_5.index t 1 * 1024 + 1024; omega

end Cert.EvOutIdeal.Prod

namespace Cert.EvOutRefIdeal.Hand

open Idealize.ShloMosaic Idealize.ShloMosaic.TcCoe Idealize.SL.Sem Idealize.ShloMosaic.StableHlo
open Cert.EvOutRefIdeal Cert.EvOutRefIdeal.Gen Cert.EvOutRefIdeal.Read
open Cert.EvOutIdeal.Prod (out resH resN Y W H G)

variable (y : Vec Ideal S2064x1024 .bf16) (w : Vec Ideal S1024x1024 .f32) (h : Vec Ideal S2064x1024 .f32) (g : Vec Ideal S1x1024 .f32)

theorem v2_eq (t : Fin 2064) (c : Fin 1024) : val_main_v2 (F := Ideal) y w h (ix2 t c) = out y w h t c := by
  pointwise [val_main_v2, val_main_v1, val_main_v0]
  exact add_comm _ _

theorem v15_eq (t : Fin 2064) (c : Fin 1024) : val_main_v15 (F := Ideal) y w h g (ix2 t c) = FfDown.nrm (out y w h t) (fun c => g (ix2 0 c)) c := by
  pointwise [val_main_v15, val_main_v14, val_main_v13, val_main_v12, val_main_v11, val_main_v10, val_main_v9, val_main_v7, val_main_v5, val_main_v4, val_main_v3,
    val_main_v6, val_main_v8, val_main_cst, val_main_cst_0, val_main_cst_1]
  simp only [v2_eq]
  rfl

theorem algebraic : Cert.algebraic_EvOutIdeal_EvOutRefIdeal := by
  intro m ρ m' ρ' _ hag
  refine ⟨fun c => resH (Y m c) (W m c) (H m c), fun c => resN (Y m c) (W m c) (H m c) (G m c),
    (θ_run _ _ _).mono (fun _ h c => ⟨(h c).1.trans (Cert.EvOutIdeal.Prod.arr4 m c), (h c).2.1.trans (Cert.EvOutIdeal.Prod.arr5 m c), (h c).2.2⟩)
      (Cert.EvOutIdeal.Value.run_blocks m ρ), (θ_run _ _ _).mono (fun r h c => ?_) (Cert.EvOutRefIdeal.Value.run (F := Ideal) m' ρ')⟩
  obtain ⟨h1, h2, h3⟩ := h c
  obtain ⟨e0, e1, e2, e3⟩ := hag c
  have ix : ∀ i : S2064x1024.Idx, i = ix2 (i 0) (i 1) := fun i => funext fun a => match a with | ⟨0, _⟩ => rfl | ⟨1, _⟩ => rfl
  refine ⟨h1.trans ((val_main_v2_eq _ _ _).trans ?_), h2.trans ((val_main_v15_eq _ _ _ _).trans ?_), h3⟩
  · rw [e0, e1, e2]
    funext i
    rw [ix i]
    exact v2_eq _ _ _ _ _
  · rw [e0, e1, e2, e3]
    funext i
    rw [ix i]
    exact v15_eq _ _ _ _ _ _

end Cert.EvOutRefIdeal.Hand

end
-- ==== Proof.EvGoutValue.lean ====
/- The gradient of the even layer's output projection: what the blocked kernel leaves in its result array. Every grid point
   computes 512 rows of `yᵀ · dh` over the whole token axis. -/
module

public import proofs.«01_k».proof.Proof.Gen.EvGoutIdeal.Value
public import proofs.«01_k».proof.Proof.Gen.EvGoutRefIdeal.Read
public import Idealize.ShloMosaic.Lib.Pointwise
public import proofs.«01_k».proof.Defs

@[expose] public section

set_option maxRecDepth 16384

noncomputable section

namespace Cert.EvGoutIdeal.Prod

open Cert.EvGoutIdeal Cert.EvGoutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of the transpose of a (2064, 1024) array with a (2064, 1024) array. -/
def prod (x : S2064x1024.Idx → EReal) (w : S2064x1024.Idx → EReal) (i : S1024x1024.Idx) : EReal :=
  ∑ k : Fin 2064, x (ix2 k (i 0)) * w (ix2 k (i 1))

/-- What one grid point stores: the block product over the whole contraction. -/
theorem pay_apply (x : Vec Ideal S2064x512 .bf16) (w : Vec Ideal S2064x1024 .f32) (j : S512x1024.Idx) :
    k0_pay1 x w j = ∑ k : Fin 2064, x (ix2 k (j 0)) * w (ix2 k (j 1)) := by
  pointwise [k0_pay1]

theorem hz : (![0, 0] : Fin 2 → Nat) = fun _ => 0 := funext fun a => by fin_cases a <;> rfl

/-- How the three windows move: the left block's columns with the result's rows, the right block not at all. -/
theorem idx_facts : ∀ t : Fin cfg0.N,
    win0_0.index t 0 = 0 ∧ win0_0.index t 1 = win0_2.index t 0
      ∧ win0_1.index t 0 = 0 ∧ win0_1.index t 1 = win0_2.index t 1 :=
  (by decide +kernel : ∀ t : Fin grid0.N, win0_0.index t 0 = 0 ∧ win0_0.index t 1 = win0_2.index t 0
      ∧ win0_1.index t 0 = 0 ∧ win0_1.index t 1 = win0_2.index t 1)

/-- The block of the left array at a point, read off the argument. -/
theorem iblk0_apply (c : Dev nD) (t : Fin cfg0.N) (k : Fin 2064) (r : Fin 512) (i : S2064x1024.Idx)
    (h0 : (i 0).val = k.val) (h1 : (i 1).val = win0_2.index t 0 * 512 + r.val) :
    (iblk m c 0 t : Vec Ideal S2064x512 .bf16) (ix2 k r) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 2064 + 1 * k.val = (i 0).val; rw [(idx_facts t).1]; omega
  | ⟨1, _⟩ => show win0_0.index t 1 * 512 + 1 * r.val = (i 1).val; rw [(idx_facts t).2.1]; omega

/-- The block of the right array at a point, read off the argument. -/
theorem iblk1_apply (c : Dev nD) (t : Fin cfg0.N) (k : Fin 2064) (r : Fin 1024) (i : S2064x1024.Idx)
    (h0 : (i 0).val = k.val) (h1 : (i 1).val = win0_2.index t 1 * 1024 + r.val) :
    (iblk m c 1 t : Vec Ideal S2064x1024 .f32) (ix2 k r) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2064 + 1 * k.val = (i 0).val; rw [(idx_facts t).2.2.1]; omega
  | ⟨1, _⟩ => show win0_1.index t 1 * 1024 + 1 * r.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t k (j 0) (ix2 k ((win0_2.blk t).view.emb j 0)) rfl ?_,
    iblk1_apply m c t k (j 1) (ix2 k ((win0_2.blk t).view.emb j 1)) rfl ?_]
  · show win0_2.index t 1 * 1024 + 1 * (j 1).val = _; omega
  · show win0_2.index t 0 * 512 + 1 * (j 0).val = _; omega

theorem points : ∀ a : Fin 2, ∀ b : Fin 1, ∃ t : Fin cfg0.N, win0_2.index t 0 = a.val ∧ win0_2.index t 1 = b.val :=
  (by decide +kernel : ∀ a : Fin 2, ∀ b : Fin 1, ∃ t : Fin grid0.N, win0_2.index t 0 = a.val ∧ win0_2.index t 1 = b.val)

/-- The blocks cover the result. -/
theorem cover (i : S1024x1024.Idx) :
    ∃ t : Fin cfg0.N, (cfg0.win 2).flush t = true ∧ i ∈ ((cfg0.win 2).blk t).view.set := by
  have h0 : (i 0).val < 1024 := (i 0).isLt
  have h1 : (i 1).val < 1024 := (i 1).isLt
  obtain ⟨t, e0, e1⟩ := points ⟨(i 0).val / 512, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512
              rw [e0]; dsimp only; omega
  | ⟨1, _⟩ => show win0_2.index t 1 * 1024 ≤ (i 1).val ∧ (i 1).val < win0_2.index t 1 * 1024 + 1024
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x1024.Idx → EReal) (w : S2064x1024.Idx → EReal) :
    Cert.EvGoutRefIdeal.Read.val_main_v5 (F := Ideal) x w = prod x w := by
  funext i
  rw [Cert.EvGoutRefIdeal.Read.val_main_v5_apply]
  show Cert.EvGoutRefIdeal.Read.val_main_v4 (F := Ideal) x w i = _
  rw [Cert.EvGoutRefIdeal.Read.val_main_v4_apply, Cert.EvGoutRefIdeal.Read.val_main_v3_apply]
  refine Finset.sum_congr rfl fun k _ => (mul_comm _ _).trans (congrArg₂ (· * ·) ?_ ?_)
  · rw [Cert.EvGoutRefIdeal.Read.val_main_v1_apply]
    exact congrArg x (funext fun a => match a with | ⟨0, _⟩ => rfl | ⟨1, _⟩ => rfl)
  · exact congrArg w (funext fun a => match a with | ⟨0, _⟩ => rfl | ⟨1, _⟩ => rfl)

theorem algebraic : Cert.algebraic_EvGoutIdeal_EvGoutRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.EvGoutRefIdeal.Value.run (F := Ideal) m' ρ')⟩

end Cert.EvGoutIdeal.Prod

end
-- ==== Proof.EvDyValue.lean ====
/- The even mixer's output gradient, through its output projection: what the blocked kernel leaves in its result array.
   Every grid point computes 688 rows of `dh · w_outᵀ` over the whole contraction. -/
module

public import proofs.«01_k».proof.Proof.Gen.EvDyIdeal.Value
public import proofs.«01_k».proof.Proof.Gen.EvDyRefIdeal.Read
public import Idealize.ShloMosaic.Lib.Pointwise
public import proofs.«01_k».proof.Defs

@[expose] public section

set_option maxRecDepth 16384

noncomputable section

namespace Cert.EvDyIdeal.Prod

open Cert.EvDyIdeal Cert.EvDyIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product of a (2064, 1024) array with the transpose of a (1024, 1024) one. -/
def prod (x : S2064x1024.Idx → EReal) (w : S1024x1024.Idx → EReal) (i : S2064x1024.Idx) : EReal :=
  ∑ k : Fin 1024, x (ix2 (i 0) k) * w (ix2 (i 1) k)

/-- What one grid point stores: the block product over the whole contraction. -/
theorem pay_apply (x : Vec Ideal S688x1024 .f32) (w : Vec Ideal S1024x1024 .f32) (j : S688x1024.Idx) :
    k0_pay1 x w j = ∑ k : Fin 1024, x (ix2 (j 0) k) * w (ix2 (j 1) k) := by
  pointwise [k0_pay1]

theorem hz : (![0, 0] : Fin 2 → Nat) = fun _ => 0 := funext fun a => by fin_cases a <;> rfl

/-- How the three windows move: the left block with the result's rows, the right block with its columns. -/
theorem idx_facts : ∀ t : Fin cfg0.N,
    win0_0.index t 0 = win0_2.index t 0 ∧ win0_0.index t 1 = 0
      ∧ win0_1.index t 0 = win0_2.index t 1 ∧ win0_1.index t 1 = 0 :=
  (by decide +kernel : ∀ t : Fin grid0.N, win0_0.index t 0 = win0_2.index t 0 ∧ win0_0.index t 1 = 0
      ∧ win0_1.index t 0 = win0_2.index t 1 ∧ win0_1.index t 1 = 0)

/-- The block of the left array at a point, read off the argument. -/
theorem iblk0_apply (c : Dev nD) (t : Fin cfg0.N) (r : Fin 688) (k : Fin 1024) (i : S2064x1024.Idx)
    (h0 : (i 0).val = win0_2.index t 0 * 688 + r.val) (h1 : (i 1).val = k.val) :
    (iblk m c 0 t : Vec Ideal S688x1024 .f32) (ix2 r k) = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 688 + 1 * r.val = (i 0).val; rw [(idx_facts t).1]; omega
  | ⟨1, _⟩ => show win0_0.index t 1 * 1024 + 1 * k.val = (i 1).val; rw [(idx_facts t).2.1]; omega

/-- The block of the right array at a point, read off the argument. -/
theorem iblk1_apply (c : Dev nD) (t : Fin cfg0.N) (r : Fin 1024) (k : Fin 1024) (i : S1024x1024.Idx)
    (h0 : (i 0).val = win0_2.index t 1 * 1024 + r.val) (h1 : (i 1).val = k.val) :
    (iblk m c 1 t : Vec Ideal S1024x1024 .f32) (ix2 r k) = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; rw [(idx_facts t).2.2.1]; omega
  | ⟨1, _⟩ => show win0_1.index t 1 * 1024 + 1 * k.val = (i 1).val; rw [(idx_facts t).2.2.2]; omega

/-- The product of the two argument arrays: what the result array is shown to hold. -/
abbrev result (c : Dev nD) : Buf (Elt Ideal) ((c : Thread nD τ).loc main_v0) :=
  prod (m ((c : Thread nD τ).loc main_arg0)) (m ((c : Thread nD τ).loc main_arg1))

/-- Every point writes its block of the product. -/
theorem flushed_eq (c : Dev nD) (t : Fin cfg0.N) :
    (dats m 0 c).flushed 2 t = (win0_2.blk t).view.read (Elt Ideal) (result m c) := by
  rw [Value.flushed2]
  unfold out0_2
  rw [View.canon_unit_zero hz, View.ld_unit_zero hz, View.ld_unit_zero hz]
  funext j
  rw [View.read_apply]
  show k0_pay1 (iblk m c 0 t) (iblk m c 1 t) j = prod _ _ _
  rw [pay_apply]
  unfold prod
  refine Finset.sum_congr rfl fun k _ => ?_
  rw [iblk0_apply m c t (j 0) k (ix2 ((win0_2.blk t).view.emb j 0) k) ?_ rfl,
    iblk1_apply m c t (j 1) k (ix2 ((win0_2.blk t).view.emb j 1) k) ?_ rfl]
  · show win0_2.index t 1 * 1024 + 1 * (j 1).val = _; omega
  · show win0_2.index t 0 * 688 + 1 * (j 0).val = _; omega

theorem points : ∀ a : Fin 3, ∀ b : Fin 1, ∃ t : Fin cfg0.N, win0_2.index t 0 = a.val ∧ win0_2.index t 1 = b.val :=
  (by decide +kernel : ∀ a : Fin 3, ∀ b : Fin 1, ∃ t : Fin grid0.N, win0_2.index t 0 = a.val ∧ win0_2.index t 1 = b.val)

/-- The blocks cover the result. -/
theorem cover (i : S2064x1024.Idx) :
    ∃ t : Fin cfg0.N, (cfg0.win 2).flush t = true ∧ i ∈ ((cfg0.win 2).blk t).view.set := by
  have h0 : (i 0).val < 2064 := (i 0).isLt
  have h1 : (i 1).val < 1024 := (i 1).isLt
  obtain ⟨t, e0, e1⟩ := points ⟨(i 0).val / 688, by omega⟩ ⟨(i 1).val / 1024, by omega⟩
  refine ⟨t, flush0_2 t, ?_⟩
  show i ∈ ((View.whole main_v0).slice (win0_2.rect t)).set
  rw [View.set_slice_whole, Rect.mem_set_unit]
  intro a
  match a with
  | ⟨0, _⟩ => show win0_2.index t 0 * 688 ≤ (i 0).val ∧ (i 0).val < win0_2.index t 0 * 688 + 688
              rw [e0]; dsimp only; omega
  | ⟨1, _⟩ => show win0_2.index t 1 * 1024 ≤ (i 1).val ∧ (i 1).val < win0_2.index t 1 * 1024 + 1024
              rw [e1]; dsimp only; omega

theorem final (c : Dev nD) : (dats m 0 c).arrAt 2 cfg0.N = result m c :=
  (dats m 0 c).arrAt_eq_of_cover 2 (result m c) (fun t _ => flushed_eq m c t) cover

/-- The run: the result array holds the product, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference computes the same product. -/
theorem ref_eq (x : S2064x1024.Idx → EReal) (w : S1024x1024.Idx → EReal) :
    Host.dotGeneral (F := Ideal) (φ₁ := .f32) (φ₂ := .f32) Cert.EvDyRefIdeal.dot_S2064x1024_S1024x1024_S2064x1024_1_1_0_0_n_n none x w = prod x w := by
  funext i
  pointwise [prod]

theorem algebraic : Cert.algebraic_EvDyIdeal_EvDyRefIdeal := fun m ρ m' ρ' _ hag =>
  ⟨fun c => result m c, run m ρ, (θ_run _ _ _).mono (fun _ h c => ⟨(h c).1.trans (by
    rw [(hag c).1, (hag c).2]; exact ref_eq _ _), (h c).2⟩) (Cert.EvDyRefIdeal.Value.run (F := Ideal) m' ρ')⟩

end Cert.EvDyIdeal.Prod

end
-- ==== Proof.lean ====
/- The claim: for each program the frames of the kernel, of its ideal program and of the reference, the kernel's preservation
   by its ideal program, and the equality of the ideal program's results with the reference's over the extended reals. -/
module

public import proofs.«01_k».proof.Defs
public import proofs.«01_k».proof.Proof.Gen.EvInIdeal.Value
public import proofs.«01_k».proof.Proof.Gen.EvIn.Frame
public import proofs.«01_k».proof.Proof.Gen.EvInRefIdeal.Run
public import proofs.«01_k».proof.Proof.Gen.EvInRefIdeal.Read
public import proofs.«01_k».proof.Proof.Gen.AttInIdeal.Value
public import proofs.«01_k».proof.Proof.Gen.AttIn.Frame
public import proofs.«01_k».proof.Proof.Gen.AttInRefIdeal.Run
public import proofs.«01_k».proof.Proof.Gen.AttInRefIdeal.Read
public import proofs.«01_k».proof.Proof.Gen.RwkvInIdeal.Value
public import proofs.«01_k».proof.Proof.Gen.RwkvIn.Frame
public import proofs.«01_k».proof.Proof.Gen.RwkvInRefIdeal.Run
public import proofs.«01_k».proof.Proof.Gen.RwkvInRefIdeal.Read
public import proofs.«01_k».proof.Proof.Gen.FfLastIdeal.Value
public import proofs.«01_k».proof.Proof.Gen.FfLast.Frame
public import proofs.«01_k».proof.Proof.Gen.FfLastRefIdeal.Run
public import proofs.«01_k».proof.Proof.Gen.FfLastRefIdeal.Read
public import proofs.«01_k».proof.Proof.Gen.FfMidIdeal.Value
public import proofs.«01_k».proof.Proof.Gen.FfMid.Frame
public import proofs.«01_k».proof.Proof.Gen.FfMidRefIdeal.Run
public import proofs.«01_k».proof.Proof.Gen.FfMidRefIdeal.Read
public import proofs.«01_k».proof.Proof.Gen.FfMidRefIdeal
public import proofs.«01_k».proof.Proof.Gen.MidIdeal.Value
public import proofs.«01_k».proof.Proof.Gen.Mid.Frame
public import proofs.«01_k».proof.Proof.Gen.MidRefIdeal.Run
public import proofs.«01_k».proof.Proof.Gen.MidRefIdeal.Read
public import proofs.«01_k».proof.Proof.Gen.MidRefIdeal
public import proofs.«01_k».proof.Proof.Gen.Pre_finite_mid
public import proofs.«01_k».proof.Proof.Gen.EvOutIdeal.Value
public import proofs.«01_k».proof.Proof.Gen.EvOut.Frame
public import proofs.«01_k».proof.Proof.Gen.EvOutRefIdeal.Run
public import proofs.«01_k».proof.Proof.Gen.EvOutRefIdeal.Read
public import proofs.«01_k».proof.Proof.Gen.AttnFwdIdeal.Value
public import proofs.«01_k».proof.Proof.Gen.AttnFwd.Frame
public import proofs.«01_k».proof.Proof.Gen.AttnFwdRefIdeal.Run
public import proofs.«01_k».proof.Proof.Gen.AttnFwdRefIdeal.Read
public import proofs.«01_k».proof.Proof.Gen.GateRefIdeal.Read
public import proofs.«01_k».proof.Proof.Gen.GateRefIdeal.Run
public import proofs.«01_k».proof.Proof.Gen.GateIdeal.Value
public import proofs.«01_k».proof.Proof.Gen.Gate.Frame
public import proofs.«01_k».proof.Proof.Gen.UpRefIdeal.Read
public import proofs.«01_k».proof.Proof.Gen.UpRefIdeal.Run
public import proofs.«01_k».proof.Proof.Gen.UpIdeal.Frame
public import proofs.«01_k».proof.Proof.Gen.Up.Frame
public import proofs.«01_k».proof.Proof.Gen.DownRefIdeal.Read
public import proofs.«01_k».proof.Proof.Gen.DownRefIdeal.Run
public import proofs.«01_k».proof.Proof.Gen.DownIdeal.Value
public import proofs.«01_k».proof.Proof.Gen.Down.Frame
public import proofs.«01_k».proof.Proof.Gen.RmsIdeal.Value
public import proofs.«01_k».proof.Proof.Gen.RmsRefIdeal
public import proofs.«01_k».proof.Proof.Gen.RmsRefIdeal.Read
public import proofs.«01_k».proof.Proof.Gen.RmsRefIdeal.Run
public import proofs.«01_k».proof.Proof.Gen.Rms.Frame
public import proofs.«01_k».proof.Proof.Gen.EbIdeal.Value
public import proofs.«01_k».proof.Proof.Gen.Eb.Frame
public import proofs.«01_k».proof.Proof.Gen.EbRefIdeal.Run
public import proofs.«01_k».proof.Proof.Gen.EbRefIdeal.Read
public import proofs.«01_k».proof.Proof.Gen.EbRefIdeal
public import proofs.«01_k».proof.Proof.Gen.AttnIdeal.Frame
public import proofs.«01_k».proof.Proof.Gen.AttnIdeal.Points
public import proofs.«01_k».proof.Proof.Gen.AttnIdeal.Launch
public import proofs.«01_k».proof.Proof.Gen.AttnIdeal.Skeleton
public import proofs.«01_k».proof.Proof.Gen.AttnIdeal
public import proofs.«01_k».proof.Proof.Gen.Attn.Frame
public import proofs.«01_k».proof.Proof.Gen.Attn.Points
public import proofs.«01_k».proof.Proof.Gen.Attn.Launch
public import proofs.«01_k».proof.Proof.Gen.Attn.Skeleton
public import proofs.«01_k».proof.Proof.Gen.Attn
public import proofs.«01_k».proof.Proof.DzValue
public import proofs.«01_k».proof.Proof.DownValue
public import proofs.«01_k».proof.Proof.UpValue
public import proofs.«01_k».proof.Proof.GateValue
public import proofs.«01_k».proof.Proof.AttnBits
public import proofs.«01_k».proof.Proof.AttnAlg
public import proofs.«01_k».proof.Proof.RmsRef
public import proofs.«01_k».proof.Proof.EbRef
public import proofs.«01_k».proof.Proof.FfMidValue
public import proofs.«01_k».proof.Proof.MidRef
public import proofs.«01_k».proof.Proof.EvNormRef
public import proofs.«01_k».proof.Proof.EvGinValue
public import proofs.«01_k».proof.Proof.OdGinValue
public import proofs.«01_k».proof.Proof.OdAttValue
public import proofs.«01_k».proof.Proof.OdNormRef
public import proofs.«01_k».proof.Proof.FfUpValue
public import proofs.«01_k».proof.Proof.FfDownValue
public import proofs.«01_k».proof.Proof.AttnFwdRef
public import proofs.«01_k».proof.Proof.EvInValue
public import proofs.«01_k».proof.Proof.AttInValue
public import proofs.«01_k».proof.Proof.RwkvInValue
public import proofs.«01_k».proof.Proof.FfLastValue
public import proofs.«01_k».proof.Proof.EvOutValue
public import proofs.«01_k».proof.Proof.EvGoutValue
public import proofs.«01_k».proof.Proof.EvDyValue
public import proofs.«01_k».proof.Proof.Gen.OdGinIdeal.Frame
public import proofs.«01_k».proof.Proof.Gen.OdGin.Frame
public import proofs.«01_k».proof.Proof.Gen.OdGinRefIdeal.Run
public import proofs.«01_k».proof.Proof.Gen.OdGinRefIdeal.Read
public import proofs.«01_k».proof.Proof.Gen.OdAttIdeal.Value
public import proofs.«01_k».proof.Proof.Gen.OdAtt.Frame
public import proofs.«01_k».proof.Proof.Gen.OdAttRefIdeal.Run
public import proofs.«01_k».proof.Proof.Gen.OdAttRefIdeal.Read
public import proofs.«01_k».proof.Proof.Gen.OdNormIdeal.Value
public import proofs.«01_k».proof.Proof.Gen.OdNorm.Frame
public import proofs.«01_k».proof.Proof.Gen.OdNormRefIdeal.Run
public import proofs.«01_k».proof.Proof.Gen.OdNormRefIdeal.Read
public import proofs.«01_k».proof.Proof.Gen.FfUpIdeal.Value
public import proofs.«01_k».proof.Proof.Gen.FfUp.Frame
public import proofs.«01_k».proof.Proof.Gen.FfUpRefIdeal.Run
public import proofs.«01_k».proof.Proof.Gen.FfUpRefIdeal.Read
public import proofs.«01_k».proof.Proof.Gen.FfDownIdeal.Value
public import proofs.«01_k».proof.Proof.Gen.FfDown.Frame
public import proofs.«01_k».proof.Proof.Gen.FfDownRefIdeal.Run
public import proofs.«01_k».proof.Proof.Gen.FfDownRefIdeal.Read
public import proofs.«01_k».proof.Proof.Gen.EvDyIdeal.Value
public import proofs.«01_k».proof.Proof.Gen.EvDy.Frame
public import proofs.«01_k».proof.Proof.Gen.EvDyRefIdeal.Run
public import proofs.«01_k».proof.Proof.Gen.EvDyRefIdeal.Read
public import proofs.«01_k».proof.Proof.Gen.EvGoutIdeal.Value
public import proofs.«01_k».proof.Proof.Gen.EvGout.Frame
public import proofs.«01_k».proof.Proof.Gen.EvGoutRefIdeal.Run
public import proofs.«01_k».proof.Proof.Gen.EvGoutRefIdeal.Read
public import proofs.«01_k».proof.Proof.Gen.EvGinIdeal.Value
public import proofs.«01_k».proof.Proof.Gen.EvGin.Frame
public import proofs.«01_k».proof.Proof.Gen.EvGinRefIdeal.Run
public import proofs.«01_k».proof.Proof.Gen.EvGinRefIdeal.Read
public import proofs.«01_k».proof.Proof.Gen.EvNormIdeal.Value
public import proofs.«01_k».proof.Proof.Gen.EvNorm.Frame
public import proofs.«01_k».proof.Proof.Gen.EvNormRefIdeal.Run
public import proofs.«01_k».proof.Proof.Gen.EvNormRefIdeal.Read
public import proofs.«01_k».proof.Proof.Gen.AttnRefIdeal.Read
public import proofs.«01_k».proof.Proof.Gen.AttnRefIdeal.Run
public import proofs.«01_k».proof.Proof.Gen.AttnRefIdeal
public import proofs.«01_k».proof.Proof.Gen.Pre_finite_args
public import proofs.«01_k».proof.Proof.Gen.Pre_finite_scores
public import Idealize.ShloMosaic.Lib.Quiescent
public import proofs.«01_k».proof.Proof.Gen.DzRefIdeal.Read
public import proofs.«01_k».proof.Proof.Gen.DzRefIdeal.Run
public import proofs.«01_k».proof.Proof.Gen.DzIdeal.Value
public import proofs.«01_k».proof.Proof.Gen.Dz
public import proofs.«01_k».proof.Proof.Gen.Dz.Skeleton
public import proofs.«01_k».proof.Proof.Gen.Dz.Launch
public import proofs.«01_k».proof.Proof.Gen.Dz.Points
public import proofs.«01_k».proof.Proof.Gen.Dz.Frame
public import proofs.«01_k».proof.Proof.Gen.DzIdeal
public import proofs.«01_k».proof.Proof.Gen.DzIdeal.Skeleton
public import proofs.«01_k».proof.Proof.Gen.DzIdeal.Launch
public import proofs.«01_k».proof.Proof.Gen.DzIdeal.Points
public import proofs.«01_k».proof.Proof.Gen.DzIdeal.Frame
public import proofs.«01_k».proof.Proof.Gen.DzRefIdeal
public import Idealize.ShloMosaic.Adequacy
public import Idealize.ShloMosaic.Init

@[expose] public section

noncomputable section

namespace Cert.Proof

open Idealize.ShloMosaic Idealize.SL.Sem

theorem frame_Dz : Cert.quiescent_Dz := fun m ρ _ => Cert.Dz.Gen.frame m ρ
theorem frame_DzIdeal : Cert.quiescent_DzIdeal := fun m ρ _ => Cert.DzIdeal.Gen.frame m ρ
theorem frame_DzRef : Cert.quiescent_DzRefIdeal := fun m ρ _ =>
  (θ_run Cert.DzRefIdeal.defs _ _).mono (fun r h => ⟨fun c => (h c).2, sem_eq_zero_of_no_sems (by decide) r.2⟩)
    (Cert.DzRefIdeal.Value.run (F := Ideal) m ρ)

theorem frame_AttnIdeal_pre : Cert.quiescent_AttnIdeal_pre_finite_args := fun m ρ _ => Cert.AttnIdeal.Hand.frame_ideal m ρ trivial
theorem frame_AttnRef : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)
theorem frame_AttnRef_pre : Cert.quiescent_AttnRefIdeal_pre_finite_args := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

theorem frame_Rms : Cert.quiescent_Rms := fun m ρ _ => Cert.Rms.Gen.frame m ρ
theorem frame_RmsIdeal : Cert.quiescent_RmsIdeal := fun m ρ _ => Cert.RmsIdeal.Gen.frame m ρ
theorem frame_RmsRef : Cert.quiescent_RmsRefIdeal := fun m ρ _ =>
  (θ_run Cert.RmsRefIdeal.defs _ _).mono (fun r h => ⟨fun c => (h c).2.2, sem_eq_zero_of_no_sems (by decide) r.2⟩)
    (Cert.RmsRefIdeal.Value.run (F := Ideal) m ρ)

theorem frame_Down : Cert.quiescent_Down := fun m ρ _ => Cert.Down.Gen.frame m ρ
theorem frame_DownIdeal : Cert.quiescent_DownIdeal := fun m ρ _ => Cert.DownIdeal.Gen.frame m ρ
theorem frame_DownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_Up : Cert.quiescent_Up := fun m ρ _ => Cert.Up.Gen.frame m ρ
theorem frame_UpIdeal : Cert.quiescent_UpIdeal := fun m ρ _ => Cert.UpIdeal.Gen.frame m ρ
theorem frame_UpRef : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem frame_Gate : Cert.quiescent_Gate := fun m ρ _ => Cert.Gate.Gen.frame m ρ
theorem frame_GateIdeal : Cert.quiescent_GateIdeal := fun m ρ _ => Cert.GateIdeal.Gen.frame m ρ
theorem frame_GateRef : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

theorem frame_Eb : Cert.quiescent_Eb := fun m ρ _ => Cert.Eb.Gen.frame m ρ
theorem frame_EbIdeal : Cert.quiescent_EbIdeal := fun m ρ _ => Cert.EbIdeal.Gen.frame m ρ
theorem frame_EbRef : Cert.quiescent_EbRefIdeal := fun m ρ _ =>
  (θ_run Cert.EbRefIdeal.defs _ _).mono (fun r h => ⟨fun c => (h c).2.2.2.2, sem_eq_zero_of_no_sems (by decide) r.2⟩)
    (Cert.EbRefIdeal.Value.run (F := Ideal) m ρ)

theorem frame_EvDy : Cert.quiescent_EvDy := fun m ρ _ => Cert.EvDy.Gen.frame m ρ
theorem frame_EvDyIdeal : Cert.quiescent_EvDyIdeal := fun m ρ _ => Cert.EvDyIdeal.Gen.frame m ρ
theorem frame_EvDyRef : Cert.quiescent_EvDyRefIdeal := fun m ρ _ =>
  (θ_run Cert.EvDyRefIdeal.defs _ _).mono (fun r h => ⟨fun c => (h c).2, sem_eq_zero_of_no_sems (by decide) r.2⟩)
    (Cert.EvDyRefIdeal.Value.run (F := Ideal) m ρ)

theorem frame_EvGout : Cert.quiescent_EvGout := fun m ρ _ => Cert.EvGout.Gen.frame m ρ
theorem frame_EvGoutIdeal : Cert.quiescent_EvGoutIdeal := fun m ρ _ => Cert.EvGoutIdeal.Gen.frame m ρ
theorem frame_EvGoutRef : Cert.quiescent_EvGoutRefIdeal := fun m ρ _ =>
  (θ_run Cert.EvGoutRefIdeal.defs _ _).mono (fun r h => ⟨fun c => (h c).2, sem_eq_zero_of_no_sems (by decide) r.2⟩)
    (Cert.EvGoutRefIdeal.Value.run (F := Ideal) m ρ)

theorem frame_EvGin : Cert.quiescent_EvGin := fun m ρ _ => Cert.EvGin.Gen.frame m ρ
theorem frame_EvGinIdeal : Cert.quiescent_EvGinIdeal := fun m ρ _ => Cert.EvGinIdeal.Gen.frame m ρ
theorem frame_EvGinRef : Cert.quiescent_EvGinRefIdeal := fun m ρ _ =>
  (θ_run Cert.EvGinRefIdeal.defs _ _).mono (fun r h => ⟨fun c => (h c).2, sem_eq_zero_of_no_sems (by decide) r.2⟩)
    (Cert.EvGinRefIdeal.Value.run (F := Ideal) m ρ)

theorem frame_EvNorm : Cert.quiescent_EvNorm := fun m ρ _ => Cert.EvNorm.Gen.frame m ρ
theorem frame_EvNormIdeal : Cert.quiescent_EvNormIdeal := fun m ρ _ => Cert.EvNormIdeal.Gen.frame m ρ
theorem frame_EvNormRef : Cert.quiescent_EvNormRefIdeal := fun m ρ _ =>
  (θ_run Cert.EvNormRefIdeal.defs _ _).mono (fun r h => ⟨fun c => (h c).2.2, sem_eq_zero_of_no_sems (by decide) r.2⟩)
    (Cert.EvNormRefIdeal.Value.run (F := Ideal) m ρ)

theorem frame_OdGin : Cert.quiescent_OdGin := fun m ρ _ => Cert.OdGin.Gen.frame m ρ
theorem frame_OdGinIdeal : Cert.quiescent_OdGinIdeal := fun m ρ _ => Cert.OdGinIdeal.Gen.frame m ρ
theorem frame_OdGinRef : Cert.quiescent_OdGinRefIdeal := fun m ρ _ =>
  (θ_run Cert.OdGinRefIdeal.defs _ _).mono (fun r h => ⟨fun c => (h c).2, sem_eq_zero_of_no_sems (by decide) r.2⟩)
    (Cert.OdGinRefIdeal.Value.run (F := Ideal) m ρ)

theorem frame_OdAtt : Cert.quiescent_OdAtt := fun m ρ _ => Cert.OdAtt.Gen.frame m ρ
theorem frame_OdAttIdeal : Cert.quiescent_OdAttIdeal := fun m ρ _ => Cert.OdAttIdeal.Gen.frame m ρ
theorem frame_OdAttRef : Cert.quiescent_OdAttRefIdeal := fun m ρ _ =>
  (θ_run Cert.OdAttRefIdeal.defs _ _).mono (fun r h => ⟨fun c => (h c).2, sem_eq_zero_of_no_sems (by decide) r.2⟩)
    (Cert.OdAttRefIdeal.Value.run (F := Ideal) m ρ)

theorem frame_OdNorm : Cert.quiescent_OdNorm := fun m ρ _ => Cert.OdNorm.Gen.frame m ρ
theorem frame_OdNormIdeal : Cert.quiescent_OdNormIdeal := fun m ρ _ => Cert.OdNormIdeal.Gen.frame m ρ
theorem frame_OdNormRef : Cert.quiescent_OdNormRefIdeal := fun m ρ _ =>
  (θ_run Cert.OdNormRefIdeal.defs _ _).mono (fun r h => ⟨fun c => (h c).2.2, sem_eq_zero_of_no_sems (by decide) r.2⟩)
    (Cert.OdNormRefIdeal.Value.run (F := Ideal) m ρ)

theorem frame_FfUp : Cert.quiescent_FfUp := fun m ρ _ => Cert.FfUp.Gen.frame m ρ
theorem frame_FfUpIdeal : Cert.quiescent_FfUpIdeal := fun m ρ _ => Cert.FfUpIdeal.Gen.frame m ρ
theorem frame_FfUpRef : Cert.quiescent_FfUpRefIdeal := fun m ρ _ =>
  (θ_run Cert.FfUpRefIdeal.defs _ _).mono (fun r h => ⟨fun c => (h c).2, sem_eq_zero_of_no_sems (by decide) r.2⟩)
    (Cert.FfUpRefIdeal.Value.run (F := Ideal) m ρ)

theorem frame_FfDown : Cert.quiescent_FfDown := fun m ρ _ => Cert.FfDown.Gen.frame m ρ
theorem frame_FfDownIdeal : Cert.quiescent_FfDownIdeal := fun m ρ _ => Cert.FfDownIdeal.Gen.frame m ρ
theorem frame_FfDownRef : Cert.quiescent_FfDownRefIdeal := fun m ρ _ =>
  (θ_run Cert.FfDownRefIdeal.defs _ _).mono (fun r h => ⟨fun c => (h c).2.2, sem_eq_zero_of_no_sems (by decide) r.2⟩)
    (Cert.FfDownRefIdeal.Value.run (F := Ideal) m ρ)

theorem frame_AttnFwd : Cert.quiescent_AttnFwd := fun m ρ _ => Cert.AttnFwd.Gen.frame m ρ
theorem frame_AttnFwdIdeal : Cert.quiescent_AttnFwdIdeal := fun m ρ _ => Cert.AttnFwdIdeal.Gen.frame m ρ
theorem frame_AttnFwdIdeal_pre : Cert.quiescent_AttnFwdIdeal_pre_finite_scores := fun m ρ _ => Cert.AttnFwdIdeal.Gen.frame m ρ
theorem frame_AttnFwdRef : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)
theorem frame_AttnFwdRef_pre : Cert.quiescent_AttnFwdRefIdeal_pre_finite_scores := fun m ρ _ => frame_AttnFwdRef m ρ trivial

theorem frame_EvIn : Cert.quiescent_EvIn := fun m ρ _ => Cert.EvIn.Gen.frame m ρ
theorem frame_EvInIdeal : Cert.quiescent_EvInIdeal := fun m ρ _ => Cert.EvInIdeal.Gen.frame m ρ
theorem frame_EvInRef : Cert.quiescent_EvInRefIdeal := fun m ρ _ =>
  (θ_run Cert.EvInRefIdeal.defs _ _).mono (fun r h => ⟨fun c => (h c).2, sem_eq_zero_of_no_sems (by decide) r.2⟩)
    (Cert.EvInRefIdeal.Value.run (F := Ideal) m ρ)

theorem frame_AttIn : Cert.quiescent_AttIn := fun m ρ _ => Cert.AttIn.Gen.frame m ρ
theorem frame_AttInIdeal : Cert.quiescent_AttInIdeal := fun m ρ _ => Cert.AttInIdeal.Gen.frame m ρ
theorem frame_AttInRef : Cert.quiescent_AttInRefIdeal := fun m ρ _ =>
  (θ_run Cert.AttInRefIdeal.defs _ _).mono (fun r h => ⟨fun c => (h c).2, sem_eq_zero_of_no_sems (by decide) r.2⟩)
    (Cert.AttInRefIdeal.Value.run (F := Ideal) m ρ)

theorem frame_RwkvIn : Cert.quiescent_RwkvIn := fun m ρ _ => Cert.RwkvIn.Gen.frame m ρ
theorem frame_RwkvInIdeal : Cert.quiescent_RwkvInIdeal := fun m ρ _ => Cert.RwkvInIdeal.Gen.frame m ρ
theorem frame_RwkvInRef : Cert.quiescent_RwkvInRefIdeal := fun m ρ _ =>
  (θ_run Cert.RwkvInRefIdeal.defs _ _).mono (fun r h => ⟨fun c => (h c).2, sem_eq_zero_of_no_sems (by decide) r.2⟩)
    (Cert.RwkvInRefIdeal.Value.run (F := Ideal) m ρ)

theorem frame_FfLast : Cert.quiescent_FfLast := fun m ρ _ => Cert.FfLast.Gen.frame m ρ
theorem frame_FfLastIdeal : Cert.quiescent_FfLastIdeal := fun m ρ _ => Cert.FfLastIdeal.Gen.frame m ρ
theorem frame_FfLastRef : Cert.quiescent_FfLastRefIdeal := fun m ρ _ =>
  (θ_run Cert.FfLastRefIdeal.defs _ _).mono (fun r h => ⟨fun c => (h c).2, sem_eq_zero_of_no_sems (by decide) r.2⟩)
    (Cert.FfLastRefIdeal.Value.run (F := Ideal) m ρ)

theorem frame_EvOut : Cert.quiescent_EvOut := fun m ρ _ => Cert.EvOut.Gen.frame m ρ
theorem frame_EvOutIdeal : Cert.quiescent_EvOutIdeal := fun m ρ _ => Cert.EvOutIdeal.Gen.frame m ρ
theorem frame_EvOutRef : Cert.quiescent_EvOutRefIdeal := fun m ρ _ =>
  (θ_run Cert.EvOutRefIdeal.defs _ _).mono (fun r h => ⟨fun c => (h c).2.2, sem_eq_zero_of_no_sems (by decide) r.2⟩)
    (Cert.EvOutRefIdeal.Value.run (F := Ideal) m ρ)

theorem frame_FfMid : Cert.quiescent_FfMid := fun m ρ _ => Cert.FfMid.Gen.frame m ρ
theorem frame_FfMidIdeal : Cert.quiescent_FfMidIdeal := fun m ρ _ => Cert.FfMidIdeal.Gen.frame m ρ
theorem frame_FfMidRef : Cert.quiescent_FfMidRefIdeal := fun m ρ _ =>
  (θ_run Cert.FfMidRefIdeal.defs _ _).mono (fun r h => ⟨fun c => (h c).2, sem_eq_zero_of_no_sems (by decide) r.2⟩)
    (Cert.FfMidRefIdeal.Value.run (F := Ideal) m ρ)

theorem frame_Mid : Cert.quiescent_Mid := fun m ρ _ => Cert.Mid.Gen.frame m ρ
theorem frame_MidIdeal : Cert.quiescent_MidIdeal := fun m ρ _ => Cert.MidIdeal.Gen.frame m ρ
theorem frame_MidIdeal_pre : Cert.quiescent_MidIdeal_pre_finite_mid := fun m ρ _ => Cert.MidIdeal.Gen.frame m ρ
theorem frame_MidRef : Cert.quiescent_MidRefIdeal := fun m ρ _ =>
  (θ_run Cert.MidRefIdeal.defs _ _).mono (fun r h => ⟨fun c => (h c).2.2.2.2, sem_eq_zero_of_no_sems (by decide) r.2⟩)
    (Cert.MidRefIdeal.Value.run (F := Ideal) m ρ)
theorem frame_MidRef_pre : Cert.quiescent_MidRefIdeal_pre_finite_mid := fun m ρ _ => frame_MidRef m ρ trivial

theorem claim : Cert.Claim := ⟨Cert.Dz.Gen.facts, Cert.DzIdeal.Gen.facts, Cert.DzRefIdeal.Gen.facts,
  Cert.Attn.Gen.facts, Cert.AttnIdeal.Gen.facts, Cert.AttnRefIdeal.Gen.facts, Cert.Rms.Gen.facts, Cert.RmsIdeal.Gen.facts, Cert.RmsRefIdeal.Gen.facts,
  Cert.Down.Gen.facts, Cert.DownIdeal.Gen.facts, Cert.DownRefIdeal.Gen.facts,
  Cert.Up.Gen.facts, Cert.UpIdeal.Gen.facts, Cert.UpRefIdeal.Gen.facts,
  Cert.Gate.Gen.facts, Cert.GateIdeal.Gen.facts, Cert.GateRefIdeal.Gen.facts,
  Cert.Eb.Gen.facts, Cert.EbIdeal.Gen.facts, Cert.EbRefIdeal.Gen.facts,
  Cert.EvDy.Gen.facts, Cert.EvDyIdeal.Gen.facts, Cert.EvDyRefIdeal.Gen.facts,
  Cert.EvGout.Gen.facts, Cert.EvGoutIdeal.Gen.facts, Cert.EvGoutRefIdeal.Gen.facts,
  Cert.EvGin.Gen.facts, Cert.EvGinIdeal.Gen.facts, Cert.EvGinRefIdeal.Gen.facts,
  Cert.EvNorm.Gen.facts, Cert.EvNormIdeal.Gen.facts, Cert.EvNormRefIdeal.Gen.facts,
  Cert.OdGin.Gen.facts, Cert.OdGinIdeal.Gen.facts, Cert.OdGinRefIdeal.Gen.facts,
  Cert.OdAtt.Gen.facts, Cert.OdAttIdeal.Gen.facts, Cert.OdAttRefIdeal.Gen.facts,
  Cert.OdNorm.Gen.facts, Cert.OdNormIdeal.Gen.facts, Cert.OdNormRefIdeal.Gen.facts,
  Cert.FfUp.Gen.facts, Cert.FfUpIdeal.Gen.facts, Cert.FfUpRefIdeal.Gen.facts,
  Cert.FfDown.Gen.facts, Cert.FfDownIdeal.Gen.facts, Cert.FfDownRefIdeal.Gen.facts,
  Cert.AttnFwd.Gen.facts, Cert.AttnFwdIdeal.Gen.facts, Cert.AttnFwdRefIdeal.Gen.facts,
  Cert.EvIn.Gen.facts, Cert.EvInIdeal.Gen.facts, Cert.EvInRefIdeal.Gen.facts,
  Cert.AttIn.Gen.facts, Cert.AttInIdeal.Gen.facts, Cert.AttInRefIdeal.Gen.facts,
  Cert.RwkvIn.Gen.facts, Cert.RwkvInIdeal.Gen.facts, Cert.RwkvInRefIdeal.Gen.facts,
  Cert.FfLast.Gen.facts, Cert.FfLastIdeal.Gen.facts, Cert.FfLastRefIdeal.Gen.facts,
  Cert.EvOut.Gen.facts, Cert.EvOutIdeal.Gen.facts, Cert.EvOutRefIdeal.Gen.facts,
  Cert.FfMid.Gen.facts, Cert.FfMidIdeal.Gen.facts, Cert.FfMidRefIdeal.Gen.facts,
  Cert.Mid.Gen.facts, Cert.MidIdeal.Gen.facts, Cert.MidRefIdeal.Gen.facts,
  Cert.Pre_finite_args.Gen.facts, Cert.Pre_finite_scores.Gen.facts, Cert.Pre_finite_mid.Gen.facts,
  frame_Dz, frame_DzIdeal, frame_DzRef, Cert.AttnIdeal.Hand.frame_bits, Cert.AttnIdeal.Hand.frame_ideal,
  frame_AttnIdeal_pre, frame_AttnRef, frame_AttnRef_pre, frame_Rms, frame_RmsIdeal, frame_RmsRef, frame_Down, frame_DownIdeal, frame_DownRef, frame_Up, frame_UpIdeal, frame_UpRef,
  frame_Gate, frame_GateIdeal, frame_GateRef, frame_Eb, frame_EbIdeal, frame_EbRef,
  frame_EvDy, frame_EvDyIdeal, frame_EvDyRef,
  frame_EvGout, frame_EvGoutIdeal, frame_EvGoutRef,
  frame_EvGin, frame_EvGinIdeal, frame_EvGinRef,
  frame_EvNorm, frame_EvNormIdeal, frame_EvNormRef,
  frame_OdGin, frame_OdGinIdeal, frame_OdGinRef,
  frame_OdAtt, frame_OdAttIdeal, frame_OdAttRef,
  frame_OdNorm, frame_OdNormIdeal, frame_OdNormRef,
  frame_FfUp, frame_FfUpIdeal, frame_FfUpRef,
  frame_FfDown, frame_FfDownIdeal, frame_FfDownRef,
  frame_AttnFwd, frame_AttnFwdIdeal, frame_AttnFwdIdeal_pre, frame_AttnFwdRef, frame_AttnFwdRef_pre,
  frame_EvIn, frame_EvInIdeal, frame_EvInRef, frame_AttIn, frame_AttInIdeal, frame_AttInRef, frame_RwkvIn, frame_RwkvInIdeal, frame_RwkvInRef, frame_FfLast, frame_FfLastIdeal, frame_FfLastRef, frame_EvOut, frame_EvOutIdeal, frame_EvOutRef, frame_FfMid, frame_FfMidIdeal, frame_FfMidRef,
  frame_Mid, frame_MidIdeal, frame_MidIdeal_pre, frame_MidRef, frame_MidRef_pre,
  trivial, Cert.DzIdeal.Prod.algebraic, IdealRules.named_const.statement Cert.AttnIdeal.κ "mask" .f32 0xF149F2CA#32 ⊥ rfl, Cert.AttnRefIdeal.Hand.algebraic, trivial, Cert.RmsRefIdeal.Hand.algebraic,
  trivial, Cert.DownIdeal.Prod.algebraic, trivial, Cert.UpIdeal.Prod.algebraic, trivial, Cert.GateIdeal.Prod.algebraic,
  trivial, Cert.EbRefIdeal.Hand.algebraic,
  trivial, Cert.EvDyIdeal.Prod.algebraic, trivial, Cert.EvGoutIdeal.Prod.algebraic, trivial, Cert.EvGinIdeal.Prod.algebraic,
  trivial, Cert.EvNormRefIdeal.Hand.algebraic, trivial, Cert.OdGinIdeal.Prod.algebraic,
  trivial, Cert.OdAttIdeal.Prod.algebraic, trivial, Cert.OdNormRefIdeal.Hand.algebraic,
  trivial, Cert.FfUpIdeal.Prod.algebraic, trivial, Cert.FfDownRefIdeal.Hand.algebraic,
  IdealRules.named_const.statement Cert.AttnFwdIdeal.κ "mask" .f32 0xF149F2CA#32 ⊥ rfl, Cert.AttnFwdRefIdeal.Hand.algebraic,
  trivial, Cert.EvInIdeal.Prod.algebraic, trivial, Cert.AttInIdeal.Prod.algebraic, trivial, Cert.RwkvInIdeal.Prod.algebraic, trivial, Cert.FfLastIdeal.Prod.algebraic, trivial, Cert.EvOutRefIdeal.Hand.algebraic,
  trivial, Cert.FfMidRefIdeal.Hand.algebraic, trivial, Cert.MidRefIdeal.Hand.algebraic⟩

end Cert.Proof

end
